-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_DhB (m : (ℓ : Loc Cert.DhB.nD Cert.DhB.τ Cert.DhB.sig) → Buf (Elt Bits) ℓ) : Prop :=
  True

def Pre_DhBIdeal (m : (ℓ : Loc Cert.DhBIdeal.nD Cert.DhBIdeal.τ Cert.DhBIdeal.sig) → Buf (Elt Ideal) ℓ) : Prop :=
  True

def Pre_DhBRefIdeal (m : (ℓ : Loc Cert.DhBRefIdeal.nD Cert.DhBRefIdeal.τ Cert.DhBRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_DwB (m : (ℓ : Loc Cert.DwB.nD Cert.DwB.τ Cert.DwB.sig) → Buf (Elt Bits) ℓ) : Prop :=
  True

def Pre_DwBIdeal (m : (ℓ : Loc Cert.DwBIdeal.nD Cert.DwBIdeal.τ Cert.DwBIdeal.sig) → Buf (Elt Ideal) ℓ) : Prop :=
  True

def Pre_DwBRefIdeal (m : (ℓ : Loc Cert.DwBRefIdeal.nD Cert.DwBRefIdeal.τ Cert.DwBRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_inputs_finite [hPre_inputs_finite : Cert.Pre_inputs_finite.Facts] (m : (ℓ : Loc Cert.AttnIdeal.nD Cert.AttnIdeal.τ Cert.AttnIdeal.sig) → Buf (Elt Ideal) ℓ) : Prop :=
  ∀ c : Dev Cert.AttnIdeal.nD,
    (Cert.Pre_inputs_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_inputs_finite [hPre_inputs_finite : Cert.Pre_inputs_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_inputs_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_OutTok (m : (ℓ : Loc Cert.OutTok.nD Cert.OutTok.τ Cert.OutTok.sig) → Buf (Elt Bits) ℓ) : Prop :=
  True

def Pre_OutTokIdeal (m : (ℓ : Loc Cert.OutTokIdeal.nD Cert.OutTokIdeal.τ Cert.OutTokIdeal.sig) → Buf (Elt Ideal) ℓ) : Prop :=
  True

def Pre_OutTokRefIdeal (m : (ℓ : Loc Cert.OutTokRefIdeal.nD Cert.OutTokRefIdeal.τ Cert.OutTokRefIdeal.sig) → Buf (Elt Ideal) ℓ) : Prop :=
  True

def Pre_GateTok (m : (ℓ : Loc Cert.GateTok.nD Cert.GateTok.τ Cert.GateTok.sig) → Buf (Elt Bits) ℓ) : Prop :=
  True

def Pre_GateTokIdeal (m : (ℓ : Loc Cert.GateTokIdeal.nD Cert.GateTokIdeal.τ Cert.GateTokIdeal.sig) → Buf (Elt Ideal) ℓ) : Prop :=
  True

def Pre_GateTokRefIdeal (m : (ℓ : Loc Cert.GateTokRefIdeal.nD Cert.GateTokRefIdeal.τ Cert.GateTokRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_InXbc (m : (ℓ : Loc Cert.InXbc.nD Cert.InXbc.τ Cert.InXbc.sig) → Buf (Elt Bits) ℓ) : Prop :=
  True

def Pre_InXbcIdeal (m : (ℓ : Loc Cert.InXbcIdeal.nD Cert.InXbcIdeal.τ Cert.InXbcIdeal.sig) → Buf (Elt Ideal) ℓ) : Prop :=
  True

def Pre_InXbcRefIdeal (m : (ℓ : Loc Cert.InXbcRefIdeal.nD Cert.InXbcRefIdeal.τ Cert.InXbcRefIdeal.sig) → Buf (Elt Ideal) ℓ) : Prop :=
  True

def Pre_DhXbc (m : (ℓ : Loc Cert.DhXbc.nD Cert.DhXbc.τ Cert.DhXbc.sig) → Buf (Elt Bits) ℓ) : Prop :=
  True

def Pre_DhXbcIdeal (m : (ℓ : Loc Cert.DhXbcIdeal.nD Cert.DhXbcIdeal.τ Cert.DhXbcIdeal.sig) → Buf (Elt Ideal) ℓ) : Prop :=
  True

def Pre_DhXbcRefIdeal (m : (ℓ : Loc Cert.DhXbcRefIdeal.nD Cert.DhXbcRefIdeal.τ Cert.DhXbcRefIdeal.sig) → Buf (Elt Ideal) ℓ) : Prop :=
  True

def Pre_DwXbc (m : (ℓ : Loc Cert.DwXbc.nD Cert.DwXbc.τ Cert.DwXbc.sig) → Buf (Elt Bits) ℓ) : Prop :=
  True

def Pre_DwXbcIdeal (m : (ℓ : Loc Cert.DwXbcIdeal.nD Cert.DwXbcIdeal.τ Cert.DwXbcIdeal.sig) → Buf (Elt Ideal) ℓ) : Prop :=
  True

def Pre_DwXbcRefIdeal (m : (ℓ : Loc Cert.DwXbcRefIdeal.nD Cert.DwXbcRefIdeal.τ Cert.DwXbcRefIdeal.sig) → Buf (Elt Ideal) ℓ) : Prop :=
  True

def Pre_DhFirst (m : (ℓ : Loc Cert.DhFirst.nD Cert.DhFirst.τ Cert.DhFirst.sig) → Buf (Elt Bits) ℓ) : Prop :=
  True

def Pre_DhFirstIdeal (m : (ℓ : Loc Cert.DhFirstIdeal.nD Cert.DhFirstIdeal.τ Cert.DhFirstIdeal.sig) → Buf (Elt Ideal) ℓ) : Prop :=
  True

def Pre_DhFirstRefIdeal (m : (ℓ : Loc Cert.DhFirstRefIdeal.nD Cert.DhFirstRefIdeal.τ Cert.DhFirstRefIdeal.sig) → Buf (Elt Ideal) ℓ) : Prop :=
  True

def Pre_InMem (m : (ℓ : Loc Cert.InMem.nD Cert.InMem.τ Cert.InMem.sig) → Buf (Elt Bits) ℓ) : Prop :=
  True

def Pre_InMemIdeal (m : (ℓ : Loc Cert.InMemIdeal.nD Cert.InMemIdeal.τ Cert.InMemIdeal.sig) → Buf (Elt Ideal) ℓ) : Prop :=
  True

def Pre_InMemRefIdeal (m : (ℓ : Loc Cert.InMemRefIdeal.nD Cert.InMemRefIdeal.τ Cert.InMemRefIdeal.sig) → Buf (Elt Ideal) ℓ) : Prop :=
  True

def Pre_InMemB (m : (ℓ : Loc Cert.InMemB.nD Cert.InMemB.τ Cert.InMemB.sig) → Buf (Elt Bits) ℓ) : Prop :=
  True

def Pre_InMemBIdeal (m : (ℓ : Loc Cert.InMemBIdeal.nD Cert.InMemBIdeal.τ Cert.InMemBIdeal.sig) → Buf (Elt Ideal) ℓ) : Prop :=
  True

def Pre_InMemBRefIdeal (m : (ℓ : Loc Cert.InMemBRefIdeal.nD Cert.InMemBRefIdeal.τ Cert.InMemBRefIdeal.sig) → Buf (Elt Ideal) ℓ) : Prop :=
  True

def Pre_DhMem (m : (ℓ : Loc Cert.DhMem.nD Cert.DhMem.τ Cert.DhMem.sig) → Buf (Elt Bits) ℓ) : Prop :=
  True

def Pre_DhMemIdeal (m : (ℓ : Loc Cert.DhMemIdeal.nD Cert.DhMemIdeal.τ Cert.DhMemIdeal.sig) → Buf (Elt Ideal) ℓ) : Prop :=
  True

def Pre_DhMemRefIdeal (m : (ℓ : Loc Cert.DhMemRefIdeal.nD Cert.DhMemRefIdeal.τ Cert.DhMemRefIdeal.sig) → Buf (Elt Ideal) ℓ) : Prop :=
  True

def Pre_DwMem (m : (ℓ : Loc Cert.DwMem.nD Cert.DwMem.τ Cert.DwMem.sig) → Buf (Elt Bits) ℓ) : Prop :=
  True

def Pre_DwMemIdeal (m : (ℓ : Loc Cert.DwMemIdeal.nD Cert.DwMemIdeal.τ Cert.DwMemIdeal.sig) → Buf (Elt Ideal) ℓ) : Prop :=
  True

def Pre_DwMemRefIdeal (m : (ℓ : Loc Cert.DwMemRefIdeal.nD Cert.DwMemRefIdeal.τ Cert.DwMemRefIdeal.sig) → Buf (Elt Ideal) ℓ) : Prop :=
  True

def Pre_OutMem (m : (ℓ : Loc Cert.OutMem.nD Cert.OutMem.τ Cert.OutMem.sig) → Buf (Elt Bits) ℓ) : Prop :=
  True

def Pre_OutMemIdeal (m : (ℓ : Loc Cert.OutMemIdeal.nD Cert.OutMemIdeal.τ Cert.OutMemIdeal.sig) → Buf (Elt Ideal) ℓ) : Prop :=
  True

def Pre_OutMemRefIdeal (m : (ℓ : Loc Cert.OutMemRefIdeal.nD Cert.OutMemRefIdeal.τ Cert.OutMemRefIdeal.sig) → Buf (Elt Ideal) ℓ) : Prop :=
  True

def Pre_GateMem (m : (ℓ : Loc Cert.GateMem.nD Cert.GateMem.τ Cert.GateMem.sig) → Buf (Elt Bits) ℓ) : Prop :=
  True

def Pre_GateMemIdeal (m : (ℓ : Loc Cert.GateMemIdeal.nD Cert.GateMemIdeal.τ Cert.GateMemIdeal.sig) → Buf (Elt Ideal) ℓ) : Prop :=
  True

def Pre_GateMemRefIdeal (m : (ℓ : Loc Cert.GateMemRefIdeal.nD Cert.GateMemRefIdeal.τ Cert.GateMemRefIdeal.sig) → Buf (Elt Ideal) ℓ) : Prop :=
  True

def Pre_DwOutMem (m : (ℓ : Loc Cert.DwOutMem.nD Cert.DwOutMem.τ Cert.DwOutMem.sig) → Buf (Elt Bits) ℓ) : Prop :=
  True

def Pre_DwOutMemIdeal (m : (ℓ : Loc Cert.DwOutMemIdeal.nD Cert.DwOutMemIdeal.τ Cert.DwOutMemIdeal.sig) → Buf (Elt Ideal) ℓ) : Prop :=
  True

def Pre_DwOutMemRefIdeal (m : (ℓ : Loc Cert.DwOutMemRefIdeal.nD Cert.DwOutMemRefIdeal.τ Cert.DwOutMemRefIdeal.sig) → Buf (Elt Ideal) ℓ) : Prop :=
  True

def Pre_GateTokB (m : (ℓ : Loc Cert.GateTokB.nD Cert.GateTokB.τ Cert.GateTokB.sig) → Buf (Elt Bits) ℓ) : Prop :=
  True

def Pre_GateTokBIdeal (m : (ℓ : Loc Cert.GateTokBIdeal.nD Cert.GateTokBIdeal.τ Cert.GateTokBIdeal.sig) → Buf (Elt Ideal) ℓ) : Prop :=
  True

def Pre_GateTokBIdeal_gate_finite [hPre_gate_finite : Cert.Pre_gate_finite.Facts] (m : (ℓ : Loc Cert.GateTokBIdeal.nD Cert.GateTokBIdeal.τ Cert.GateTokBIdeal.sig) → Buf (Elt Ideal) ℓ) : Prop :=
  ∀ c : Dev Cert.GateTokBIdeal.nD,
    (Cert.Pre_gate_finite.fn (F := Ideal) (m ((c.tc : Thread Cert.GateTokBIdeal.nD Cert.GateTokBIdeal.τ).loc Cert.GateTokBIdeal.main_arg0)) (m ((c.tc : Thread Cert.GateTokBIdeal.nD Cert.GateTokBIdeal.τ).loc Cert.GateTokBIdeal.main_arg1)) (m ((c.tc : Thread Cert.GateTokBIdeal.nD Cert.GateTokBIdeal.τ).loc Cert.GateTokBIdeal.main_arg2))) = (fun _ => 1#1)

def Pre_GateTokBRefIdeal (m : (ℓ : Loc Cert.GateTokBRefIdeal.nD Cert.GateTokBRefIdeal.τ Cert.GateTokBRefIdeal.sig) → Buf (Elt Ideal) ℓ) : Prop :=
  True

def Pre_GateTokBRefIdeal_gate_finite [hPre_gate_finite : Cert.Pre_gate_finite.Facts] (m : (ℓ : Loc Cert.GateTokBRefIdeal.nD Cert.GateTokBRefIdeal.τ Cert.GateTokBRefIdeal.sig) → Buf (Elt Ideal) ℓ) : Prop :=
  ∀ c : Dev Cert.GateTokBRefIdeal.nD,
    (Cert.Pre_gate_finite.fn (F := Ideal) (m ((c.tc : Thread Cert.GateTokBRefIdeal.nD Cert.GateTokBRefIdeal.τ).loc Cert.GateTokBRefIdeal.main_arg0)) (m ((c.tc : Thread Cert.GateTokBRefIdeal.nD Cert.GateTokBRefIdeal.τ).loc Cert.GateTokBRefIdeal.main_arg1)) (m ((c.tc : Thread Cert.GateTokBRefIdeal.nD Cert.GateTokBRefIdeal.τ).loc Cert.GateTokBRefIdeal.main_arg2))) = (fun _ => 1#1)

def Pre_GateMemB (m : (ℓ : Loc Cert.GateMemB.nD Cert.GateMemB.τ Cert.GateMemB.sig) → Buf (Elt Bits) ℓ) : Prop :=
  True

def Pre_GateMemBIdeal (m : (ℓ : Loc Cert.GateMemBIdeal.nD Cert.GateMemBIdeal.τ Cert.GateMemBIdeal.sig) → Buf (Elt Ideal) ℓ) : Prop :=
  True

def Pre_GateMemBIdeal_gate_mem_finite [hPre_gate_mem_finite : Cert.Pre_gate_mem_finite.Facts] (m : (ℓ : Loc Cert.GateMemBIdeal.nD Cert.GateMemBIdeal.τ Cert.GateMemBIdeal.sig) → Buf (Elt Ideal) ℓ) : Prop :=
  ∀ c : Dev Cert.GateMemBIdeal.nD,
    (Cert.Pre_gate_mem_finite.fn (F := Ideal) (m ((c.tc : Thread Cert.GateMemBIdeal.nD Cert.GateMemBIdeal.τ).loc Cert.GateMemBIdeal.main_arg0)) (m ((c.tc : Thread Cert.GateMemBIdeal.nD Cert.GateMemBIdeal.τ).loc Cert.GateMemBIdeal.main_arg1)) (m ((c.tc : Thread Cert.GateMemBIdeal.nD Cert.GateMemBIdeal.τ).loc Cert.GateMemBIdeal.main_arg2))) = (fun _ => 1#1)

def Pre_GateMemBRefIdeal (m : (ℓ : Loc Cert.GateMemBRefIdeal.nD Cert.GateMemBRefIdeal.τ Cert.GateMemBRefIdeal.sig) → Buf (Elt Ideal) ℓ) : Prop :=
  True

def Pre_GateMemBRefIdeal_gate_mem_finite [hPre_gate_mem_finite : Cert.Pre_gate_mem_finite.Facts] (m : (ℓ : Loc Cert.GateMemBRefIdeal.nD Cert.GateMemBRefIdeal.τ Cert.GateMemBRefIdeal.sig) → Buf (Elt Ideal) ℓ) : Prop :=
  ∀ c : Dev Cert.GateMemBRefIdeal.nD,
    (Cert.Pre_gate_mem_finite.fn (F := Ideal) (m ((c.tc : Thread Cert.GateMemBRefIdeal.nD Cert.GateMemBRefIdeal.τ).loc Cert.GateMemBRefIdeal.main_arg0)) (m ((c.tc : Thread Cert.GateMemBRefIdeal.nD Cert.GateMemBRefIdeal.τ).loc Cert.GateMemBRefIdeal.main_arg1)) (m ((c.tc : Thread Cert.GateMemBRefIdeal.nD Cert.GateMemBRefIdeal.τ).loc Cert.GateMemBRefIdeal.main_arg2))) = (fun _ => 1#1)

def Pre_ConvB (m : (ℓ : Loc Cert.ConvB.nD Cert.ConvB.τ Cert.ConvB.sig) → Buf (Elt Bits) ℓ) : Prop :=
  True

def Pre_ConvBIdeal (m : (ℓ : Loc Cert.ConvBIdeal.nD Cert.ConvBIdeal.τ Cert.ConvBIdeal.sig) → Buf (Elt Ideal) ℓ) : Prop :=
  True

def Pre_ConvBRefIdeal (m : (ℓ : Loc Cert.ConvBRefIdeal.nD Cert.ConvBRefIdeal.τ Cert.ConvBRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ConvPre (m : (ℓ : Loc Cert.ConvPre.nD Cert.ConvPre.τ Cert.ConvPre.sig) → Buf (Elt Bits) ℓ) : Prop :=
  True

def Pre_ConvPreIdeal (m : (ℓ : Loc Cert.ConvPreIdeal.nD Cert.ConvPreIdeal.τ Cert.ConvPreIdeal.sig) → Buf (Elt Ideal) ℓ) : Prop :=
  True

def Pre_ConvPreIdeal_act_finite [hPre_act_finite : Cert.Pre_act_finite.Facts] (m : (ℓ : Loc Cert.ConvPreIdeal.nD Cert.ConvPreIdeal.τ Cert.ConvPreIdeal.sig) → Buf (Elt Ideal) ℓ) : Prop :=
  ∀ c : Dev Cert.ConvPreIdeal.nD,
    (Cert.Pre_act_finite.fn (F := Ideal) (m ((c.tc : Thread Cert.ConvPreIdeal.nD Cert.ConvPreIdeal.τ).loc Cert.ConvPreIdeal.main_arg0)) (m ((c.tc : Thread Cert.ConvPreIdeal.nD Cert.ConvPreIdeal.τ).loc Cert.ConvPreIdeal.main_arg1)) (m ((c.tc : Thread Cert.ConvPreIdeal.nD Cert.ConvPreIdeal.τ).loc Cert.ConvPreIdeal.main_arg2)) (m ((c.tc : Thread Cert.ConvPreIdeal.nD Cert.ConvPreIdeal.τ).loc Cert.ConvPreIdeal.main_arg3))) = (fun _ => 1#1)

def Pre_ConvPreRefIdeal (m : (ℓ : Loc Cert.ConvPreRefIdeal.nD Cert.ConvPreRefIdeal.τ Cert.ConvPreRefIdeal.sig) → Buf (Elt Ideal) ℓ) : Prop :=
  True

def Pre_ConvPreRefIdeal_act_finite [hPre_act_finite : Cert.Pre_act_finite.Facts] (m : (ℓ : Loc Cert.ConvPreRefIdeal.nD Cert.ConvPreRefIdeal.τ Cert.ConvPreRefIdeal.sig) → Buf (Elt Ideal) ℓ) : Prop :=
  ∀ c : Dev Cert.ConvPreRefIdeal.nD,
    (Cert.Pre_act_finite.fn (F := Ideal) (m ((c.tc : Thread Cert.ConvPreRefIdeal.nD Cert.ConvPreRefIdeal.τ).loc Cert.ConvPreRefIdeal.main_arg0)) (m ((c.tc : Thread Cert.ConvPreRefIdeal.nD Cert.ConvPreRefIdeal.τ).loc Cert.ConvPreRefIdeal.main_arg1)) (m ((c.tc : Thread Cert.ConvPreRefIdeal.nD Cert.ConvPreRefIdeal.τ).loc Cert.ConvPreRefIdeal.main_arg2)) (m ((c.tc : Thread Cert.ConvPreRefIdeal.nD Cert.ConvPreRefIdeal.τ).loc Cert.ConvPreRefIdeal.main_arg3))) = (fun _ => 1#1)

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_GateTokF (m : (ℓ : Loc Cert.GateTokF.nD Cert.GateTokF.τ Cert.GateTokF.sig) → Buf (Elt Bits) ℓ) : Prop :=
  True

def Pre_GateTokFIdeal (m : (ℓ : Loc Cert.GateTokFIdeal.nD Cert.GateTokFIdeal.τ Cert.GateTokFIdeal.sig) → Buf (Elt Ideal) ℓ) : Prop :=
  True

def Pre_GateTokFRefIdeal (m : (ℓ : Loc Cert.GateTokFRefIdeal.nD Cert.GateTokFRefIdeal.τ Cert.GateTokFRefIdeal.sig) → Buf (Elt Ideal) ℓ) : Prop :=
  True

def Pre_GateMemF (m : (ℓ : Loc Cert.GateMemF.nD Cert.GateMemF.τ Cert.GateMemF.sig) → Buf (Elt Bits) ℓ) : Prop :=
  True

def Pre_GateMemFIdeal (m : (ℓ : Loc Cert.GateMemFIdeal.nD Cert.GateMemFIdeal.τ Cert.GateMemFIdeal.sig) → Buf (Elt Ideal) ℓ) : Prop :=
  True

def Pre_GateMemFRefIdeal (m : (ℓ : Loc Cert.GateMemFRefIdeal.nD Cert.GateMemFRefIdeal.τ Cert.GateMemFRefIdeal.sig) → Buf (Elt Ideal) ℓ) : Prop :=
  True

def Pre_NormF (m : (ℓ : Loc Cert.NormF.nD Cert.NormF.τ Cert.NormF.sig) → Buf (Elt Bits) ℓ) : Prop :=
  True

def Pre_NormFIdeal (m : (ℓ : Loc Cert.NormFIdeal.nD Cert.NormFIdeal.τ Cert.NormFIdeal.sig) → Buf (Elt Ideal) ℓ) : Prop :=
  True

def Pre_NormFRefIdeal (m : (ℓ : Loc Cert.NormFRefIdeal.nD Cert.NormFRefIdeal.τ Cert.NormFRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2))
      ∧ r.2.sem = fun _ => 0)

def quiescent_DhB [hDhB : Cert.DhB.Facts] : Prop :=
  ∀ (m : (ℓ : Loc Cert.DhB.nD Cert.DhB.τ Cert.DhB.sig) → Buf (Elt Bits) ℓ) (g : Dev Cert.DhB.nD → PrngReg), Pre_DhB m →
    θ_run (Cert.DhB.defs (F := Bits)) (onTc (τ := Cert.DhB.τ) (Cert.DhB.main (F := Bits))) ⟨m, fun _ => 0, g⟩ (fun r => (∀ c : Dev Cert.DhB.nD,
      r.2.mem ((c.tc : Thread Cert.DhB.nD Cert.DhB.τ).loc Cert.DhB.main_arg0) = m ((c.tc : Thread Cert.DhB.nD Cert.DhB.τ).loc Cert.DhB.main_arg0)
      ∧ r.2.mem ((c.tc : Thread Cert.DhB.nD Cert.DhB.τ).loc Cert.DhB.main_arg1) = m ((c.tc : Thread Cert.DhB.nD Cert.DhB.τ).loc Cert.DhB.main_arg1)
      ∧ r.2.mem ((c.tc : Thread Cert.DhB.nD Cert.DhB.τ).loc Cert.DhB.main_arg2) = m ((c.tc : Thread Cert.DhB.nD Cert.DhB.τ).loc Cert.DhB.main_arg2))
      ∧ r.2.sem = fun _ => 0)

def quiescent_DhBIdeal [hDhBIdeal : Cert.DhBIdeal.Facts] : Prop :=
  ∀ (m : (ℓ : Loc Cert.DhBIdeal.nD Cert.DhBIdeal.τ Cert.DhBIdeal.sig) → Buf (Elt Ideal) ℓ) (g : Dev Cert.DhBIdeal.nD → PrngReg), Pre_DhBIdeal m →
    θ_run (Cert.DhBIdeal.defs (F := Ideal)) (onTc (τ := Cert.DhBIdeal.τ) (Cert.DhBIdeal.main (F := Ideal))) ⟨m, fun _ => 0, g⟩ (fun r => (∀ c : Dev Cert.DhBIdeal.nD,
      r.2.mem ((c.tc : Thread Cert.DhBIdeal.nD Cert.DhBIdeal.τ).loc Cert.DhBIdeal.main_arg0) = m ((c.tc : Thread Cert.DhBIdeal.nD Cert.DhBIdeal.τ).loc Cert.DhBIdeal.main_arg0)
      ∧ r.2.mem ((c.tc : Thread Cert.DhBIdeal.nD Cert.DhBIdeal.τ).loc Cert.DhBIdeal.main_arg1) = m ((c.tc : Thread Cert.DhBIdeal.nD Cert.DhBIdeal.τ).loc Cert.DhBIdeal.main_arg1)
      ∧ r.2.mem ((c.tc : Thread Cert.DhBIdeal.nD Cert.DhBIdeal.τ).loc Cert.DhBIdeal.main_arg2) = m ((c.tc : Thread Cert.DhBIdeal.nD Cert.DhBIdeal.τ).loc Cert.DhBIdeal.main_arg2))
      ∧ r.2.sem = fun _ => 0)

def quiescent_DhBRefIdeal [hDhBRefIdeal : Cert.DhBRefIdeal.Facts] : Prop :=
  ∀ (m : (ℓ : Loc Cert.DhBRefIdeal.nD Cert.DhBRefIdeal.τ Cert.DhBRefIdeal.sig) → Buf (Elt Ideal) ℓ) (g : Dev Cert.DhBRefIdeal.nD → PrngReg), Pre_DhBRefIdeal m →
    θ_run (Cert.DhBRefIdeal.defs (F := Ideal)) (onTc (τ := Cert.DhBRefIdeal.τ) (Cert.DhBRefIdeal.main (F := Ideal))) ⟨m, fun _ => 0, g⟩ (fun r => (∀ c : Dev Cert.DhBRefIdeal.nD,
      r.2.mem ((c.tc : Thread Cert.DhBRefIdeal.nD Cert.DhBRefIdeal.τ).loc Cert.DhBRefIdeal.main_arg0) = m ((c.tc : Thread Cert.DhBRefIdeal.nD Cert.DhBRefIdeal.τ).loc Cert.DhBRefIdeal.main_arg0)
      ∧ r.2.mem ((c.tc : Thread Cert.DhBRefIdeal.nD Cert.DhBRefIdeal.τ).loc Cert.DhBRefIdeal.main_arg1) = m ((c.tc : Thread Cert.DhBRefIdeal.nD Cert.DhBRefIdeal.τ).loc Cert.DhBRefIdeal.main_arg1)
      ∧ r.2.mem ((c.tc : Thread Cert.DhBRefIdeal.nD Cert.DhBRefIdeal.τ).loc Cert.DhBRefIdeal.main_arg2) = m ((c.tc : Thread Cert.DhBRefIdeal.nD Cert.DhBRefIdeal.τ).loc Cert.DhBRefIdeal.main_arg2))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_DwB [hDwB : Cert.DwB.Facts] : Prop :=
  ∀ (m : (ℓ : Loc Cert.DwB.nD Cert.DwB.τ Cert.DwB.sig) → Buf (Elt Bits) ℓ) (g : Dev Cert.DwB.nD → PrngReg), Pre_DwB m →
    θ_run (Cert.DwB.defs (F := Bits)) (onTc (τ := Cert.DwB.τ) (Cert.DwB.main (F := Bits))) ⟨m, fun _ => 0, g⟩ (fun r => (∀ c : Dev Cert.DwB.nD,
      r.2.mem ((c.tc : Thread Cert.DwB.nD Cert.DwB.τ).loc Cert.DwB.main_arg0) = m ((c.tc : Thread Cert.DwB.nD Cert.DwB.τ).loc Cert.DwB.main_arg0)
      ∧ r.2.mem ((c.tc : Thread Cert.DwB.nD Cert.DwB.τ).loc Cert.DwB.main_arg1) = m ((c.tc : Thread Cert.DwB.nD Cert.DwB.τ).loc Cert.DwB.main_arg1))
      ∧ r.2.sem = fun _ => 0)

def quiescent_DwBIdeal [hDwBIdeal : Cert.DwBIdeal.Facts] : Prop :=
  ∀ (m : (ℓ : Loc Cert.DwBIdeal.nD Cert.DwBIdeal.τ Cert.DwBIdeal.sig) → Buf (Elt Ideal) ℓ) (g : Dev Cert.DwBIdeal.nD → PrngReg), Pre_DwBIdeal m →
    θ_run (Cert.DwBIdeal.defs (F := Ideal)) (onTc (τ := Cert.DwBIdeal.τ) (Cert.DwBIdeal.main (F := Ideal))) ⟨m, fun _ => 0, g⟩ (fun r => (∀ c : Dev Cert.DwBIdeal.nD,
      r.2.mem ((c.tc : Thread Cert.DwBIdeal.nD Cert.DwBIdeal.τ).loc Cert.DwBIdeal.main_arg0) = m ((c.tc : Thread Cert.DwBIdeal.nD Cert.DwBIdeal.τ).loc Cert.DwBIdeal.main_arg0)
      ∧ r.2.mem ((c.tc : Thread Cert.DwBIdeal.nD Cert.DwBIdeal.τ).loc Cert.DwBIdeal.main_arg1) = m ((c.tc : Thread Cert.DwBIdeal.nD Cert.DwBIdeal.τ).loc Cert.DwBIdeal.main_arg1))
      ∧ r.2.sem = fun _ => 0)

def quiescent_DwBRefIdeal [hDwBRefIdeal : Cert.DwBRefIdeal.Facts] : Prop :=
  ∀ (m : (ℓ : Loc Cert.DwBRefIdeal.nD Cert.DwBRefIdeal.τ Cert.DwBRefIdeal.sig) → Buf (Elt Ideal) ℓ) (g : Dev Cert.DwBRefIdeal.nD → PrngReg), Pre_DwBRefIdeal m →
    θ_run (Cert.DwBRefIdeal.defs (F := Ideal)) (onTc (τ := Cert.DwBRefIdeal.τ) (Cert.DwBRefIdeal.main (F := Ideal))) ⟨m, fun _ => 0, g⟩ (fun r => (∀ c : Dev Cert.DwBRefIdeal.nD,
      r.2.mem ((c.tc : Thread Cert.DwBRefIdeal.nD Cert.DwBRefIdeal.τ).loc Cert.DwBRefIdeal.main_arg0) = m ((c.tc : Thread Cert.DwBRefIdeal.nD Cert.DwBRefIdeal.τ).loc Cert.DwBRefIdeal.main_arg0)
      ∧ r.2.mem ((c.tc : Thread Cert.DwBRefIdeal.nD Cert.DwBRefIdeal.τ).loc Cert.DwBRefIdeal.main_arg1) = m ((c.tc : Thread Cert.DwBRefIdeal.nD Cert.DwBRefIdeal.τ).loc Cert.DwBRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_inputs_finite [hAttnIdeal : Cert.AttnIdeal.Facts] [hPre_inputs_finite : Cert.Pre_inputs_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_inputs_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_inputs_finite [hAttnRefIdeal : Cert.AttnRefIdeal.Facts] [hPre_inputs_finite : Cert.Pre_inputs_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_inputs_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_OutTok [hOutTok : Cert.OutTok.Facts] : Prop :=
  ∀ (m : (ℓ : Loc Cert.OutTok.nD Cert.OutTok.τ Cert.OutTok.sig) → Buf (Elt Bits) ℓ) (g : Dev Cert.OutTok.nD → PrngReg), Pre_OutTok m →
    θ_run (Cert.OutTok.defs (F := Bits)) (onTc (τ := Cert.OutTok.τ) (Cert.OutTok.main (F := Bits))) ⟨m, fun _ => 0, g⟩ (fun r => (∀ c : Dev Cert.OutTok.nD,
      r.2.mem ((c.tc : Thread Cert.OutTok.nD Cert.OutTok.τ).loc Cert.OutTok.main_arg0) = m ((c.tc : Thread Cert.OutTok.nD Cert.OutTok.τ).loc Cert.OutTok.main_arg0)
      ∧ r.2.mem ((c.tc : Thread Cert.OutTok.nD Cert.OutTok.τ).loc Cert.OutTok.main_arg1) = m ((c.tc : Thread Cert.OutTok.nD Cert.OutTok.τ).loc Cert.OutTok.main_arg1)
      ∧ r.2.mem ((c.tc : Thread Cert.OutTok.nD Cert.OutTok.τ).loc Cert.OutTok.main_arg2) = m ((c.tc : Thread Cert.OutTok.nD Cert.OutTok.τ).loc Cert.OutTok.main_arg2))
      ∧ r.2.sem = fun _ => 0)

def quiescent_OutTokIdeal [hOutTokIdeal : Cert.OutTokIdeal.Facts] : Prop :=
  ∀ (m : (ℓ : Loc Cert.OutTokIdeal.nD Cert.OutTokIdeal.τ Cert.OutTokIdeal.sig) → Buf (Elt Ideal) ℓ) (g : Dev Cert.OutTokIdeal.nD → PrngReg), Pre_OutTokIdeal m →
    θ_run (Cert.OutTokIdeal.defs (F := Ideal)) (onTc (τ := Cert.OutTokIdeal.τ) (Cert.OutTokIdeal.main (F := Ideal))) ⟨m, fun _ => 0, g⟩ (fun r => (∀ c : Dev Cert.OutTokIdeal.nD,
      r.2.mem ((c.tc : Thread Cert.OutTokIdeal.nD Cert.OutTokIdeal.τ).loc Cert.OutTokIdeal.main_arg0) = m ((c.tc : Thread Cert.OutTokIdeal.nD Cert.OutTokIdeal.τ).loc Cert.OutTokIdeal.main_arg0)
      ∧ r.2.mem ((c.tc : Thread Cert.OutTokIdeal.nD Cert.OutTokIdeal.τ).loc Cert.OutTokIdeal.main_arg1) = m ((c.tc : Thread Cert.OutTokIdeal.nD Cert.OutTokIdeal.τ).loc Cert.OutTokIdeal.main_arg1)
      ∧ r.2.mem ((c.tc : Thread Cert.OutTokIdeal.nD Cert.OutTokIdeal.τ).loc Cert.OutTokIdeal.main_arg2) = m ((c.tc : Thread Cert.OutTokIdeal.nD Cert.OutTokIdeal.τ).loc Cert.OutTokIdeal.main_arg2))
      ∧ r.2.sem = fun _ => 0)

def quiescent_OutTokRefIdeal [hOutTokRefIdeal : Cert.OutTokRefIdeal.Facts] : Prop :=
  ∀ (m : (ℓ : Loc Cert.OutTokRefIdeal.nD Cert.OutTokRefIdeal.τ Cert.OutTokRefIdeal.sig) → Buf (Elt Ideal) ℓ) (g : Dev Cert.OutTokRefIdeal.nD → PrngReg), Pre_OutTokRefIdeal m →
    θ_run (Cert.OutTokRefIdeal.defs (F := Ideal)) (onTc (τ := Cert.OutTokRefIdeal.τ) (Cert.OutTokRefIdeal.main (F := Ideal))) ⟨m, fun _ => 0, g⟩ (fun r => (∀ c : Dev Cert.OutTokRefIdeal.nD,
      r.2.mem ((c.tc : Thread Cert.OutTokRefIdeal.nD Cert.OutTokRefIdeal.τ).loc Cert.OutTokRefIdeal.main_arg0) = m ((c.tc : Thread Cert.OutTokRefIdeal.nD Cert.OutTokRefIdeal.τ).loc Cert.OutTokRefIdeal.main_arg0)
      ∧ r.2.mem ((c.tc : Thread Cert.OutTokRefIdeal.nD Cert.OutTokRefIdeal.τ).loc Cert.OutTokRefIdeal.main_arg1) = m ((c.tc : Thread Cert.OutTokRefIdeal.nD Cert.OutTokRefIdeal.τ).loc Cert.OutTokRefIdeal.main_arg1)
      ∧ r.2.mem ((c.tc : Thread Cert.OutTokRefIdeal.nD Cert.OutTokRefIdeal.τ).loc Cert.OutTokRefIdeal.main_arg2) = m ((c.tc : Thread Cert.OutTokRefIdeal.nD Cert.OutTokRefIdeal.τ).loc Cert.OutTokRefIdeal.main_arg2))
      ∧ r.2.sem = fun _ => 0)

def quiescent_GateTok [hGateTok : Cert.GateTok.Facts] : Prop :=
  ∀ (m : (ℓ : Loc Cert.GateTok.nD Cert.GateTok.τ Cert.GateTok.sig) → Buf (Elt Bits) ℓ) (g : Dev Cert.GateTok.nD → PrngReg), Pre_GateTok m →
    θ_run (Cert.GateTok.defs (F := Bits)) (onTc (τ := Cert.GateTok.τ) (Cert.GateTok.main (F := Bits))) ⟨m, fun _ => 0, g⟩ (fun r => (∀ c : Dev Cert.GateTok.nD,
      r.2.mem ((c.tc : Thread Cert.GateTok.nD Cert.GateTok.τ).loc Cert.GateTok.main_arg0) = m ((c.tc : Thread Cert.GateTok.nD Cert.GateTok.τ).loc Cert.GateTok.main_arg0)
      ∧ r.2.mem ((c.tc : Thread Cert.GateTok.nD Cert.GateTok.τ).loc Cert.GateTok.main_arg1) = m ((c.tc : Thread Cert.GateTok.nD Cert.GateTok.τ).loc Cert.GateTok.main_arg1))
      ∧ r.2.sem = fun _ => 0)

def quiescent_GateTokIdeal [hGateTokIdeal : Cert.GateTokIdeal.Facts] : Prop :=
  ∀ (m : (ℓ : Loc Cert.GateTokIdeal.nD Cert.GateTokIdeal.τ Cert.GateTokIdeal.sig) → Buf (Elt Ideal) ℓ) (g : Dev Cert.GateTokIdeal.nD → PrngReg), Pre_GateTokIdeal m →
    θ_run (Cert.GateTokIdeal.defs (F := Ideal)) (onTc (τ := Cert.GateTokIdeal.τ) (Cert.GateTokIdeal.main (F := Ideal))) ⟨m, fun _ => 0, g⟩ (fun r => (∀ c : Dev Cert.GateTokIdeal.nD,
      r.2.mem ((c.tc : Thread Cert.GateTokIdeal.nD Cert.GateTokIdeal.τ).loc Cert.GateTokIdeal.main_arg0) = m ((c.tc : Thread Cert.GateTokIdeal.nD Cert.GateTokIdeal.τ).loc Cert.GateTokIdeal.main_arg0)
      ∧ r.2.mem ((c.tc : Thread Cert.GateTokIdeal.nD Cert.GateTokIdeal.τ).loc Cert.GateTokIdeal.main_arg1) = m ((c.tc : Thread Cert.GateTokIdeal.nD Cert.GateTokIdeal.τ).loc Cert.GateTokIdeal.main_arg1))
      ∧ r.2.sem = fun _ => 0)

def quiescent_GateTokRefIdeal [hGateTokRefIdeal : Cert.GateTokRefIdeal.Facts] : Prop :=
  ∀ (m : (ℓ : Loc Cert.GateTokRefIdeal.nD Cert.GateTokRefIdeal.τ Cert.GateTokRefIdeal.sig) → Buf (Elt Ideal) ℓ) (g : Dev Cert.GateTokRefIdeal.nD → PrngReg), Pre_GateTokRefIdeal m →
    θ_run (Cert.GateTokRefIdeal.defs (F := Ideal)) (onTc (τ := Cert.GateTokRefIdeal.τ) (Cert.GateTokRefIdeal.main (F := Ideal))) ⟨m, fun _ => 0, g⟩ (fun r => (∀ c : Dev Cert.GateTokRefIdeal.nD,
      r.2.mem ((c.tc : Thread Cert.GateTokRefIdeal.nD Cert.GateTokRefIdeal.τ).loc Cert.GateTokRefIdeal.main_arg0) = m ((c.tc : Thread Cert.GateTokRefIdeal.nD Cert.GateTokRefIdeal.τ).loc Cert.GateTokRefIdeal.main_arg0)
      ∧ r.2.mem ((c.tc : Thread Cert.GateTokRefIdeal.nD Cert.GateTokRefIdeal.τ).loc Cert.GateTokRefIdeal.main_arg1) = m ((c.tc : Thread Cert.GateTokRefIdeal.nD Cert.GateTokRefIdeal.τ).loc Cert.GateTokRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_InXbc [hInXbc : Cert.InXbc.Facts] : Prop :=
  ∀ (m : (ℓ : Loc Cert.InXbc.nD Cert.InXbc.τ Cert.InXbc.sig) → Buf (Elt Bits) ℓ) (g : Dev Cert.InXbc.nD → PrngReg), Pre_InXbc m →
    θ_run (Cert.InXbc.defs (F := Bits)) (onTc (τ := Cert.InXbc.τ) (Cert.InXbc.main (F := Bits))) ⟨m, fun _ => 0, g⟩ (fun r => (∀ c : Dev Cert.InXbc.nD,
      r.2.mem ((c.tc : Thread Cert.InXbc.nD Cert.InXbc.τ).loc Cert.InXbc.main_arg0) = m ((c.tc : Thread Cert.InXbc.nD Cert.InXbc.τ).loc Cert.InXbc.main_arg0)
      ∧ r.2.mem ((c.tc : Thread Cert.InXbc.nD Cert.InXbc.τ).loc Cert.InXbc.main_arg1) = m ((c.tc : Thread Cert.InXbc.nD Cert.InXbc.τ).loc Cert.InXbc.main_arg1))
      ∧ r.2.sem = fun _ => 0)

def quiescent_InXbcIdeal [hInXbcIdeal : Cert.InXbcIdeal.Facts] : Prop :=
  ∀ (m : (ℓ : Loc Cert.InXbcIdeal.nD Cert.InXbcIdeal.τ Cert.InXbcIdeal.sig) → Buf (Elt Ideal) ℓ) (g : Dev Cert.InXbcIdeal.nD → PrngReg), Pre_InXbcIdeal m →
    θ_run (Cert.InXbcIdeal.defs (F := Ideal)) (onTc (τ := Cert.InXbcIdeal.τ) (Cert.InXbcIdeal.main (F := Ideal))) ⟨m, fun _ => 0, g⟩ (fun r => (∀ c : Dev Cert.InXbcIdeal.nD,
      r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
      ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ r.2.sem = fun _ => 0)

def quiescent_InXbcRefIdeal [hInXbcRefIdeal : Cert.InXbcRefIdeal.Facts] : Prop :=
  ∀ (m : (ℓ : Loc Cert.InXbcRefIdeal.nD Cert.InXbcRefIdeal.τ Cert.InXbcRefIdeal.sig) → Buf (Elt Ideal) ℓ) (g : Dev Cert.InXbcRefIdeal.nD → PrngReg), Pre_InXbcRefIdeal m →
    θ_run (Cert.InXbcRefIdeal.defs (F := Ideal)) (onTc (τ := Cert.InXbcRefIdeal.τ) (Cert.InXbcRefIdeal.main (F := Ideal))) ⟨m, fun _ => 0, g⟩ (fun r => (∀ c : Dev Cert.InXbcRefIdeal.nD,
      r.2.mem ((c.tc : Thread Cert.InXbcRefIdeal.nD Cert.InXbcRefIdeal.τ).loc Cert.InXbcRefIdeal.main_arg0) = m ((c.tc : Thread Cert.InXbcRefIdeal.nD Cert.InXbcRefIdeal.τ).loc Cert.InXbcRefIdeal.main_arg0)
      ∧ r.2.mem ((c.tc : Thread Cert.InXbcRefIdeal.nD Cert.InXbcRefIdeal.τ).loc Cert.InXbcRefIdeal.main_arg1) = m ((c.tc : Thread Cert.InXbcRefIdeal.nD Cert.InXbcRefIdeal.τ).loc Cert.InXbcRefIdeal.main_arg1))
      ∧ r.2.sem = fun _ => 0)

def quiescent_DhXbc [hDhXbc : Cert.DhXbc.Facts] : Prop :=
  ∀ (m : (ℓ : Loc Cert.DhXbc.nD Cert.DhXbc.τ Cert.DhXbc.sig) → Buf (Elt Bits) ℓ) (g : Dev Cert.DhXbc.nD → PrngReg), Pre_DhXbc m →
    θ_run (Cert.DhXbc.defs (F := Bits)) (onTc (τ := Cert.DhXbc.τ) (Cert.DhXbc.main (F := Bits))) ⟨m, fun _ => 0, g⟩ (fun r => (∀ c : Dev Cert.DhXbc.nD,
      r.2.mem ((c.tc : Thread Cert.DhXbc.nD Cert.DhXbc.τ).loc Cert.DhXbc.main_arg0) = m ((c.tc : Thread Cert.DhXbc.nD Cert.DhXbc.τ).loc Cert.DhXbc.main_arg0)
      ∧ r.2.mem ((c.tc : Thread Cert.DhXbc.nD Cert.DhXbc.τ).loc Cert.DhXbc.main_arg1) = m ((c.tc : Thread Cert.DhXbc.nD Cert.DhXbc.τ).loc Cert.DhXbc.main_arg1))
      ∧ r.2.sem = fun _ => 0)

def quiescent_DhXbcIdeal [hDhXbcIdeal : Cert.DhXbcIdeal.Facts] : Prop :=
  ∀ (m : (ℓ : Loc Cert.DhXbcIdeal.nD Cert.DhXbcIdeal.τ Cert.DhXbcIdeal.sig) → Buf (Elt Ideal) ℓ) (g : Dev Cert.DhXbcIdeal.nD → PrngReg), Pre_DhXbcIdeal m →
    θ_run (Cert.DhXbcIdeal.defs (F := Ideal)) (onTc (τ := Cert.DhXbcIdeal.τ) (Cert.DhXbcIdeal.main (F := Ideal))) ⟨m, fun _ => 0, g⟩ (fun r => (∀ c : Dev Cert.DhXbcIdeal.nD,
      r.2.mem ((c.tc : Thread Cert.DhXbcIdeal.nD Cert.DhXbcIdeal.τ).loc Cert.DhXbcIdeal.main_arg0) = m ((c.tc : Thread Cert.DhXbcIdeal.nD Cert.DhXbcIdeal.τ).loc Cert.DhXbcIdeal.main_arg0)
      ∧ r.2.mem ((c.tc : Thread Cert.DhXbcIdeal.nD Cert.DhXbcIdeal.τ).loc Cert.DhXbcIdeal.main_arg1) = m ((c.tc : Thread Cert.DhXbcIdeal.nD Cert.DhXbcIdeal.τ).loc Cert.DhXbcIdeal.main_arg1))
      ∧ r.2.sem = fun _ => 0)

def quiescent_DhXbcRefIdeal [hDhXbcRefIdeal : Cert.DhXbcRefIdeal.Facts] : Prop :=
  ∀ (m : (ℓ : Loc Cert.DhXbcRefIdeal.nD Cert.DhXbcRefIdeal.τ Cert.DhXbcRefIdeal.sig) → Buf (Elt Ideal) ℓ) (g : Dev Cert.DhXbcRefIdeal.nD → PrngReg), Pre_DhXbcRefIdeal m →
    θ_run (Cert.DhXbcRefIdeal.defs (F := Ideal)) (onTc (τ := Cert.DhXbcRefIdeal.τ) (Cert.DhXbcRefIdeal.main (F := Ideal))) ⟨m, fun _ => 0, g⟩ (fun r => (∀ c : Dev Cert.DhXbcRefIdeal.nD,
      r.2.mem ((c.tc : Thread Cert.DhXbcRefIdeal.nD Cert.DhXbcRefIdeal.τ).loc Cert.DhXbcRefIdeal.main_arg0) = m ((c.tc : Thread Cert.DhXbcRefIdeal.nD Cert.DhXbcRefIdeal.τ).loc Cert.DhXbcRefIdeal.main_arg0)
      ∧ r.2.mem ((c.tc : Thread Cert.DhXbcRefIdeal.nD Cert.DhXbcRefIdeal.τ).loc Cert.DhXbcRefIdeal.main_arg1) = m ((c.tc : Thread Cert.DhXbcRefIdeal.nD Cert.DhXbcRefIdeal.τ).loc Cert.DhXbcRefIdeal.main_arg1))
      ∧ r.2.sem = fun _ => 0)

def quiescent_DwXbc [hDwXbc : Cert.DwXbc.Facts] : Prop :=
  ∀ (m : (ℓ : Loc Cert.DwXbc.nD Cert.DwXbc.τ Cert.DwXbc.sig) → Buf (Elt Bits) ℓ) (g : Dev Cert.DwXbc.nD → PrngReg), Pre_DwXbc m →
    θ_run (Cert.DwXbc.defs (F := Bits)) (onTc (τ := Cert.DwXbc.τ) (Cert.DwXbc.main (F := Bits))) ⟨m, fun _ => 0, g⟩ (fun r => (∀ c : Dev Cert.DwXbc.nD,
      r.2.mem ((c.tc : Thread Cert.DwXbc.nD Cert.DwXbc.τ).loc Cert.DwXbc.main_arg0) = m ((c.tc : Thread Cert.DwXbc.nD Cert.DwXbc.τ).loc Cert.DwXbc.main_arg0)
      ∧ r.2.mem ((c.tc : Thread Cert.DwXbc.nD Cert.DwXbc.τ).loc Cert.DwXbc.main_arg1) = m ((c.tc : Thread Cert.DwXbc.nD Cert.DwXbc.τ).loc Cert.DwXbc.main_arg1))
      ∧ r.2.sem = fun _ => 0)

def quiescent_DwXbcIdeal [hDwXbcIdeal : Cert.DwXbcIdeal.Facts] : Prop :=
  ∀ (m : (ℓ : Loc Cert.DwXbcIdeal.nD Cert.DwXbcIdeal.τ Cert.DwXbcIdeal.sig) → Buf (Elt Ideal) ℓ) (g : Dev Cert.DwXbcIdeal.nD → PrngReg), Pre_DwXbcIdeal m →
    θ_run (Cert.DwXbcIdeal.defs (F := Ideal)) (onTc (τ := Cert.DwXbcIdeal.τ) (Cert.DwXbcIdeal.main (F := Ideal))) ⟨m, fun _ => 0, g⟩ (fun r => (∀ c : Dev Cert.DwXbcIdeal.nD,
      r.2.mem ((c.tc : Thread Cert.DwXbcIdeal.nD Cert.DwXbcIdeal.τ).loc Cert.DwXbcIdeal.main_arg0) = m ((c.tc : Thread Cert.DwXbcIdeal.nD Cert.DwXbcIdeal.τ).loc Cert.DwXbcIdeal.main_arg0)
      ∧ r.2.mem ((c.tc : Thread Cert.DwXbcIdeal.nD Cert.DwXbcIdeal.τ).loc Cert.DwXbcIdeal.main_arg1) = m ((c.tc : Thread Cert.DwXbcIdeal.nD Cert.DwXbcIdeal.τ).loc Cert.DwXbcIdeal.main_arg1))
      ∧ r.2.sem = fun _ => 0)

def quiescent_DwXbcRefIdeal [hDwXbcRefIdeal : Cert.DwXbcRefIdeal.Facts] : Prop :=
  ∀ (m : (ℓ : Loc Cert.DwXbcRefIdeal.nD Cert.DwXbcRefIdeal.τ Cert.DwXbcRefIdeal.sig) → Buf (Elt Ideal) ℓ) (g : Dev Cert.DwXbcRefIdeal.nD → PrngReg), Pre_DwXbcRefIdeal m →
    θ_run (Cert.DwXbcRefIdeal.defs (F := Ideal)) (onTc (τ := Cert.DwXbcRefIdeal.τ) (Cert.DwXbcRefIdeal.main (F := Ideal))) ⟨m, fun _ => 0, g⟩ (fun r => (∀ c : Dev Cert.DwXbcRefIdeal.nD,
      r.2.mem ((c.tc : Thread Cert.DwXbcRefIdeal.nD Cert.DwXbcRefIdeal.τ).loc Cert.DwXbcRefIdeal.main_arg0) = m ((c.tc : Thread Cert.DwXbcRefIdeal.nD Cert.DwXbcRefIdeal.τ).loc Cert.DwXbcRefIdeal.main_arg0)
      ∧ r.2.mem ((c.tc : Thread Cert.DwXbcRefIdeal.nD Cert.DwXbcRefIdeal.τ).loc Cert.DwXbcRefIdeal.main_arg1) = m ((c.tc : Thread Cert.DwXbcRefIdeal.nD Cert.DwXbcRefIdeal.τ).loc Cert.DwXbcRefIdeal.main_arg1))
      ∧ r.2.sem = fun _ => 0)

def quiescent_DhFirst [hDhFirst : Cert.DhFirst.Facts] : Prop :=
  ∀ (m : (ℓ : Loc Cert.DhFirst.nD Cert.DhFirst.τ Cert.DhFirst.sig) → Buf (Elt Bits) ℓ) (g : Dev Cert.DhFirst.nD → PrngReg), Pre_DhFirst m →
    θ_run (Cert.DhFirst.defs (F := Bits)) (onTc (τ := Cert.DhFirst.τ) (Cert.DhFirst.main (F := Bits))) ⟨m, fun _ => 0, g⟩ (fun r => (∀ c : Dev Cert.DhFirst.nD,
      r.2.mem ((c.tc : Thread Cert.DhFirst.nD Cert.DhFirst.τ).loc Cert.DhFirst.main_arg0) = m ((c.tc : Thread Cert.DhFirst.nD Cert.DhFirst.τ).loc Cert.DhFirst.main_arg0)
      ∧ r.2.mem ((c.tc : Thread Cert.DhFirst.nD Cert.DhFirst.τ).loc Cert.DhFirst.main_arg1) = m ((c.tc : Thread Cert.DhFirst.nD Cert.DhFirst.τ).loc Cert.DhFirst.main_arg1))
      ∧ r.2.sem = fun _ => 0)

def quiescent_DhFirstIdeal [hDhFirstIdeal : Cert.DhFirstIdeal.Facts] : Prop :=
  ∀ (m : (ℓ : Loc Cert.DhFirstIdeal.nD Cert.DhFirstIdeal.τ Cert.DhFirstIdeal.sig) → Buf (Elt Ideal) ℓ) (g : Dev Cert.DhFirstIdeal.nD → PrngReg), Pre_DhFirstIdeal m →
    θ_run (Cert.DhFirstIdeal.defs (F := Ideal)) (onTc (τ := Cert.DhFirstIdeal.τ) (Cert.DhFirstIdeal.main (F := Ideal))) ⟨m, fun _ => 0, g⟩ (fun r => (∀ c : Dev Cert.DhFirstIdeal.nD,
      r.2.mem ((c.tc : Thread Cert.DhFirstIdeal.nD Cert.DhFirstIdeal.τ).loc Cert.DhFirstIdeal.main_arg0) = m ((c.tc : Thread Cert.DhFirstIdeal.nD Cert.DhFirstIdeal.τ).loc Cert.DhFirstIdeal.main_arg0)
      ∧ r.2.mem ((c.tc : Thread Cert.DhFirstIdeal.nD Cert.DhFirstIdeal.τ).loc Cert.DhFirstIdeal.main_arg1) = m ((c.tc : Thread Cert.DhFirstIdeal.nD Cert.DhFirstIdeal.τ).loc Cert.DhFirstIdeal.main_arg1))
      ∧ r.2.sem = fun _ => 0)

def quiescent_DhFirstRefIdeal [hDhFirstRefIdeal : Cert.DhFirstRefIdeal.Facts] : Prop :=
  ∀ (m : (ℓ : Loc Cert.DhFirstRefIdeal.nD Cert.DhFirstRefIdeal.τ Cert.DhFirstRefIdeal.sig) → Buf (Elt Ideal) ℓ) (g : Dev Cert.DhFirstRefIdeal.nD → PrngReg), Pre_DhFirstRefIdeal m →
    θ_run (Cert.DhFirstRefIdeal.defs (F := Ideal)) (onTc (τ := Cert.DhFirstRefIdeal.τ) (Cert.DhFirstRefIdeal.main (F := Ideal))) ⟨m, fun _ => 0, g⟩ (fun r => (∀ c : Dev Cert.DhFirstRefIdeal.nD,
      r.2.mem ((c.tc : Thread Cert.DhFirstRefIdeal.nD Cert.DhFirstRefIdeal.τ).loc Cert.DhFirstRefIdeal.main_arg0) = m ((c.tc : Thread Cert.DhFirstRefIdeal.nD Cert.DhFirstRefIdeal.τ).loc Cert.DhFirstRefIdeal.main_arg0)
      ∧ r.2.mem ((c.tc : Thread Cert.DhFirstRefIdeal.nD Cert.DhFirstRefIdeal.τ).loc Cert.DhFirstRefIdeal.main_arg1) = m ((c.tc : Thread Cert.DhFirstRefIdeal.nD Cert.DhFirstRefIdeal.τ).loc Cert.DhFirstRefIdeal.main_arg1))
      ∧ r.2.sem = fun _ => 0)

def quiescent_InMem [hInMem : Cert.InMem.Facts] : Prop :=
  ∀ (m : (ℓ : Loc Cert.InMem.nD Cert.InMem.τ Cert.InMem.sig) → Buf (Elt Bits) ℓ) (g : Dev Cert.InMem.nD → PrngReg), Pre_InMem m →
    θ_run (Cert.InMem.defs (F := Bits)) (onTc (τ := Cert.InMem.τ) (Cert.InMem.main (F := Bits))) ⟨m, fun _ => 0, g⟩ (fun r => (∀ c : Dev Cert.InMem.nD,
      r.2.mem ((c.tc : Thread Cert.InMem.nD Cert.InMem.τ).loc Cert.InMem.main_arg0) = m ((c.tc : Thread Cert.InMem.nD Cert.InMem.τ).loc Cert.InMem.main_arg0)
      ∧ r.2.mem ((c.tc : Thread Cert.InMem.nD Cert.InMem.τ).loc Cert.InMem.main_arg1) = m ((c.tc : Thread Cert.InMem.nD Cert.InMem.τ).loc Cert.InMem.main_arg1))
      ∧ r.2.sem = fun _ => 0)

def quiescent_InMemIdeal [hInMemIdeal : Cert.InMemIdeal.Facts] : Prop :=
  ∀ (m : (ℓ : Loc Cert.InMemIdeal.nD Cert.InMemIdeal.τ Cert.InMemIdeal.sig) → Buf (Elt Ideal) ℓ) (g : Dev Cert.InMemIdeal.nD → PrngReg), Pre_InMemIdeal m →
    θ_run (Cert.InMemIdeal.defs (F := Ideal)) (onTc (τ := Cert.InMemIdeal.τ) (Cert.InMemIdeal.main (F := Ideal))) ⟨m, fun _ => 0, g⟩ (fun r => (∀ c : Dev Cert.InMemIdeal.nD,
      r.2.mem ((c.tc : Thread Cert.InMemIdeal.nD Cert.InMemIdeal.τ).loc Cert.InMemIdeal.main_arg0) = m ((c.tc : Thread Cert.InMemIdeal.nD Cert.InMemIdeal.τ).loc Cert.InMemIdeal.main_arg0)
      ∧ r.2.mem ((c.tc : Thread Cert.InMemIdeal.nD Cert.InMemIdeal.τ).loc Cert.InMemIdeal.main_arg1) = m ((c.tc : Thread Cert.InMemIdeal.nD Cert.InMemIdeal.τ).loc Cert.InMemIdeal.main_arg1))
      ∧ r.2.sem = fun _ => 0)

def quiescent_InMemRefIdeal [hInMemRefIdeal : Cert.InMemRefIdeal.Facts] : Prop :=
  ∀ (m : (ℓ : Loc Cert.InMemRefIdeal.nD Cert.InMemRefIdeal.τ Cert.InMemRefIdeal.sig) → Buf (Elt Ideal) ℓ) (g : Dev Cert.InMemRefIdeal.nD → PrngReg), Pre_InMemRefIdeal m →
    θ_run (Cert.InMemRefIdeal.defs (F := Ideal)) (onTc (τ := Cert.InMemRefIdeal.τ) (Cert.InMemRefIdeal.main (F := Ideal))) ⟨m, fun _ => 0, g⟩ (fun r => (∀ c : Dev Cert.InMemRefIdeal.nD,
      r.2.mem ((c.tc : Thread Cert.InMemRefIdeal.nD Cert.InMemRefIdeal.τ).loc Cert.InMemRefIdeal.main_arg0) = m ((c.tc : Thread Cert.InMemRefIdeal.nD Cert.InMemRefIdeal.τ).loc Cert.InMemRefIdeal.main_arg0)
      ∧ r.2.mem ((c.tc : Thread Cert.InMemRefIdeal.nD Cert.InMemRefIdeal.τ).loc Cert.InMemRefIdeal.main_arg1) = m ((c.tc : Thread Cert.InMemRefIdeal.nD Cert.InMemRefIdeal.τ).loc Cert.InMemRefIdeal.main_arg1))
      ∧ r.2.sem = fun _ => 0)

def quiescent_InMemB [hInMemB : Cert.InMemB.Facts] : Prop :=
  ∀ (m : (ℓ : Loc Cert.InMemB.nD Cert.InMemB.τ Cert.InMemB.sig) → Buf (Elt Bits) ℓ) (g : Dev Cert.InMemB.nD → PrngReg), Pre_InMemB m →
    θ_run (Cert.InMemB.defs (F := Bits)) (onTc (τ := Cert.InMemB.τ) (Cert.InMemB.main (F := Bits))) ⟨m, fun _ => 0, g⟩ (fun r => (∀ c : Dev Cert.InMemB.nD,
      r.2.mem ((c.tc : Thread Cert.InMemB.nD Cert.InMemB.τ).loc Cert.InMemB.main_arg0) = m ((c.tc : Thread Cert.InMemB.nD Cert.InMemB.τ).loc Cert.InMemB.main_arg0)
      ∧ r.2.mem ((c.tc : Thread Cert.InMemB.nD Cert.InMemB.τ).loc Cert.InMemB.main_arg1) = m ((c.tc : Thread Cert.InMemB.nD Cert.InMemB.τ).loc Cert.InMemB.main_arg1))
      ∧ r.2.sem = fun _ => 0)

def quiescent_InMemBIdeal [hInMemBIdeal : Cert.InMemBIdeal.Facts] : Prop :=
  ∀ (m : (ℓ : Loc Cert.InMemBIdeal.nD Cert.InMemBIdeal.τ Cert.InMemBIdeal.sig) → Buf (Elt Ideal) ℓ) (g : Dev Cert.InMemBIdeal.nD → PrngReg), Pre_InMemBIdeal m →
    θ_run (Cert.InMemBIdeal.defs (F := Ideal)) (onTc (τ := Cert.InMemBIdeal.τ) (Cert.InMemBIdeal.main (F := Ideal))) ⟨m, fun _ => 0, g⟩ (fun r => (∀ c : Dev Cert.InMemBIdeal.nD,
      r.2.mem ((c.tc : Thread Cert.InMemBIdeal.nD Cert.InMemBIdeal.τ).loc Cert.InMemBIdeal.main_arg0) = m ((c.tc : Thread Cert.InMemBIdeal.nD Cert.InMemBIdeal.τ).loc Cert.InMemBIdeal.main_arg0)
      ∧ r.2.mem ((c.tc : Thread Cert.InMemBIdeal.nD Cert.InMemBIdeal.τ).loc Cert.InMemBIdeal.main_arg1) = m ((c.tc : Thread Cert.InMemBIdeal.nD Cert.InMemBIdeal.τ).loc Cert.InMemBIdeal.main_arg1))
      ∧ r.2.sem = fun _ => 0)

def quiescent_InMemBRefIdeal [hInMemBRefIdeal : Cert.InMemBRefIdeal.Facts] : Prop :=
  ∀ (m : (ℓ : Loc Cert.InMemBRefIdeal.nD Cert.InMemBRefIdeal.τ Cert.InMemBRefIdeal.sig) → Buf (Elt Ideal) ℓ) (g : Dev Cert.InMemBRefIdeal.nD → PrngReg), Pre_InMemBRefIdeal m →
    θ_run (Cert.InMemBRefIdeal.defs (F := Ideal)) (onTc (τ := Cert.InMemBRefIdeal.τ) (Cert.InMemBRefIdeal.main (F := Ideal))) ⟨m, fun _ => 0, g⟩ (fun r => (∀ c : Dev Cert.InMemBRefIdeal.nD,
      r.2.mem ((c.tc : Thread Cert.InMemBRefIdeal.nD Cert.InMemBRefIdeal.τ).loc Cert.InMemBRefIdeal.main_arg0) = m ((c.tc : Thread Cert.InMemBRefIdeal.nD Cert.InMemBRefIdeal.τ).loc Cert.InMemBRefIdeal.main_arg0)
      ∧ r.2.mem ((c.tc : Thread Cert.InMemBRefIdeal.nD Cert.InMemBRefIdeal.τ).loc Cert.InMemBRefIdeal.main_arg1) = m ((c.tc : Thread Cert.InMemBRefIdeal.nD Cert.InMemBRefIdeal.τ).loc Cert.InMemBRefIdeal.main_arg1))
      ∧ r.2.sem = fun _ => 0)

def quiescent_DhMem [hDhMem : Cert.DhMem.Facts] : Prop :=
  ∀ (m : (ℓ : Loc Cert.DhMem.nD Cert.DhMem.τ Cert.DhMem.sig) → Buf (Elt Bits) ℓ) (g : Dev Cert.DhMem.nD → PrngReg), Pre_DhMem m →
    θ_run (Cert.DhMem.defs (F := Bits)) (onTc (τ := Cert.DhMem.τ) (Cert.DhMem.main (F := Bits))) ⟨m, fun _ => 0, g⟩ (fun r => (∀ c : Dev Cert.DhMem.nD,
      r.2.mem ((c.tc : Thread Cert.DhMem.nD Cert.DhMem.τ).loc Cert.DhMem.main_arg0) = m ((c.tc : Thread Cert.DhMem.nD Cert.DhMem.τ).loc Cert.DhMem.main_arg0)
      ∧ r.2.mem ((c.tc : Thread Cert.DhMem.nD Cert.DhMem.τ).loc Cert.DhMem.main_arg1) = m ((c.tc : Thread Cert.DhMem.nD Cert.DhMem.τ).loc Cert.DhMem.main_arg1)
      ∧ r.2.mem ((c.tc : Thread Cert.DhMem.nD Cert.DhMem.τ).loc Cert.DhMem.main_arg2) = m ((c.tc : Thread Cert.DhMem.nD Cert.DhMem.τ).loc Cert.DhMem.main_arg2))
      ∧ r.2.sem = fun _ => 0)

def quiescent_DhMemIdeal [hDhMemIdeal : Cert.DhMemIdeal.Facts] : Prop :=
  ∀ (m : (ℓ : Loc Cert.DhMemIdeal.nD Cert.DhMemIdeal.τ Cert.DhMemIdeal.sig) → Buf (Elt Ideal) ℓ) (g : Dev Cert.DhMemIdeal.nD → PrngReg), Pre_DhMemIdeal m →
    θ_run (Cert.DhMemIdeal.defs (F := Ideal)) (onTc (τ := Cert.DhMemIdeal.τ) (Cert.DhMemIdeal.main (F := Ideal))) ⟨m, fun _ => 0, g⟩ (fun r => (∀ c : Dev Cert.DhMemIdeal.nD,
      r.2.mem ((c.tc : Thread Cert.DhMemIdeal.nD Cert.DhMemIdeal.τ).loc Cert.DhMemIdeal.main_arg0) = m ((c.tc : Thread Cert.DhMemIdeal.nD Cert.DhMemIdeal.τ).loc Cert.DhMemIdeal.main_arg0)
      ∧ r.2.mem ((c.tc : Thread Cert.DhMemIdeal.nD Cert.DhMemIdeal.τ).loc Cert.DhMemIdeal.main_arg1) = m ((c.tc : Thread Cert.DhMemIdeal.nD Cert.DhMemIdeal.τ).loc Cert.DhMemIdeal.main_arg1)
      ∧ r.2.mem ((c.tc : Thread Cert.DhMemIdeal.nD Cert.DhMemIdeal.τ).loc Cert.DhMemIdeal.main_arg2) = m ((c.tc : Thread Cert.DhMemIdeal.nD Cert.DhMemIdeal.τ).loc Cert.DhMemIdeal.main_arg2))
      ∧ r.2.sem = fun _ => 0)

def quiescent_DhMemRefIdeal [hDhMemRefIdeal : Cert.DhMemRefIdeal.Facts] : Prop :=
  ∀ (m : (ℓ : Loc Cert.DhMemRefIdeal.nD Cert.DhMemRefIdeal.τ Cert.DhMemRefIdeal.sig) → Buf (Elt Ideal) ℓ) (g : Dev Cert.DhMemRefIdeal.nD → PrngReg), Pre_DhMemRefIdeal m →
    θ_run (Cert.DhMemRefIdeal.defs (F := Ideal)) (onTc (τ := Cert.DhMemRefIdeal.τ) (Cert.DhMemRefIdeal.main (F := Ideal))) ⟨m, fun _ => 0, g⟩ (fun r => (∀ c : Dev Cert.DhMemRefIdeal.nD,
      r.2.mem ((c.tc : Thread Cert.DhMemRefIdeal.nD Cert.DhMemRefIdeal.τ).loc Cert.DhMemRefIdeal.main_arg0) = m ((c.tc : Thread Cert.DhMemRefIdeal.nD Cert.DhMemRefIdeal.τ).loc Cert.DhMemRefIdeal.main_arg0)
      ∧ r.2.mem ((c.tc : Thread Cert.DhMemRefIdeal.nD Cert.DhMemRefIdeal.τ).loc Cert.DhMemRefIdeal.main_arg1) = m ((c.tc : Thread Cert.DhMemRefIdeal.nD Cert.DhMemRefIdeal.τ).loc Cert.DhMemRefIdeal.main_arg1)
      ∧ r.2.mem ((c.tc : Thread Cert.DhMemRefIdeal.nD Cert.DhMemRefIdeal.τ).loc Cert.DhMemRefIdeal.main_arg2) = m ((c.tc : Thread Cert.DhMemRefIdeal.nD Cert.DhMemRefIdeal.τ).loc Cert.DhMemRefIdeal.main_arg2))
      ∧ r.2.sem = fun _ => 0)

def quiescent_DwMem [hDwMem : Cert.DwMem.Facts] : Prop :=
  ∀ (m : (ℓ : Loc Cert.DwMem.nD Cert.DwMem.τ Cert.DwMem.sig) → Buf (Elt Bits) ℓ) (g : Dev Cert.DwMem.nD → PrngReg), Pre_DwMem m →
    θ_run (Cert.DwMem.defs (F := Bits)) (onTc (τ := Cert.DwMem.τ) (Cert.DwMem.main (F := Bits))) ⟨m, fun _ => 0, g⟩ (fun r => (∀ c : Dev Cert.DwMem.nD,
      r.2.mem ((c.tc : Thread Cert.DwMem.nD Cert.DwMem.τ).loc Cert.DwMem.main_arg0) = m ((c.tc : Thread Cert.DwMem.nD Cert.DwMem.τ).loc Cert.DwMem.main_arg0)
      ∧ r.2.mem ((c.tc : Thread Cert.DwMem.nD Cert.DwMem.τ).loc Cert.DwMem.main_arg1) = m ((c.tc : Thread Cert.DwMem.nD Cert.DwMem.τ).loc Cert.DwMem.main_arg1))
      ∧ r.2.sem = fun _ => 0)

def quiescent_DwMemIdeal [hDwMemIdeal : Cert.DwMemIdeal.Facts] : Prop :=
  ∀ (m : (ℓ : Loc Cert.DwMemIdeal.nD Cert.DwMemIdeal.τ Cert.DwMemIdeal.sig) → Buf (Elt Ideal) ℓ) (g : Dev Cert.DwMemIdeal.nD → PrngReg), Pre_DwMemIdeal m →
    θ_run (Cert.DwMemIdeal.defs (F := Ideal)) (onTc (τ := Cert.DwMemIdeal.τ) (Cert.DwMemIdeal.main (F := Ideal))) ⟨m, fun _ => 0, g⟩ (fun r => (∀ c : Dev Cert.DwMemIdeal.nD,
      r.2.mem ((c.tc : Thread Cert.DwMemIdeal.nD Cert.DwMemIdeal.τ).loc Cert.DwMemIdeal.main_arg0) = m ((c.tc : Thread Cert.DwMemIdeal.nD Cert.DwMemIdeal.τ).loc Cert.DwMemIdeal.main_arg0)
      ∧ r.2.mem ((c.tc : Thread Cert.DwMemIdeal.nD Cert.DwMemIdeal.τ).loc Cert.DwMemIdeal.main_arg1) = m ((c.tc : Thread Cert.DwMemIdeal.nD Cert.DwMemIdeal.τ).loc Cert.DwMemIdeal.main_arg1))
      ∧ r.2.sem = fun _ => 0)

def quiescent_DwMemRefIdeal [hDwMemRefIdeal : Cert.DwMemRefIdeal.Facts] : Prop :=
  ∀ (m : (ℓ : Loc Cert.DwMemRefIdeal.nD Cert.DwMemRefIdeal.τ Cert.DwMemRefIdeal.sig) → Buf (Elt Ideal) ℓ) (g : Dev Cert.DwMemRefIdeal.nD → PrngReg), Pre_DwMemRefIdeal m →
    θ_run (Cert.DwMemRefIdeal.defs (F := Ideal)) (onTc (τ := Cert.DwMemRefIdeal.τ) (Cert.DwMemRefIdeal.main (F := Ideal))) ⟨m, fun _ => 0, g⟩ (fun r => (∀ c : Dev Cert.DwMemRefIdeal.nD,
      r.2.mem ((c.tc : Thread Cert.DwMemRefIdeal.nD Cert.DwMemRefIdeal.τ).loc Cert.DwMemRefIdeal.main_arg0) = m ((c.tc : Thread Cert.DwMemRefIdeal.nD Cert.DwMemRefIdeal.τ).loc Cert.DwMemRefIdeal.main_arg0)
      ∧ r.2.mem ((c.tc : Thread Cert.DwMemRefIdeal.nD Cert.DwMemRefIdeal.τ).loc Cert.DwMemRefIdeal.main_arg1) = m ((c.tc : Thread Cert.DwMemRefIdeal.nD Cert.DwMemRefIdeal.τ).loc Cert.DwMemRefIdeal.main_arg1))
      ∧ r.2.sem = fun _ => 0)

def quiescent_OutMem [hOutMem : Cert.OutMem.Facts] : Prop :=
  ∀ (m : (ℓ : Loc Cert.OutMem.nD Cert.OutMem.τ Cert.OutMem.sig) → Buf (Elt Bits) ℓ) (g : Dev Cert.OutMem.nD → PrngReg), Pre_OutMem m →
    θ_run (Cert.OutMem.defs (F := Bits)) (onTc (τ := Cert.OutMem.τ) (Cert.OutMem.main (F := Bits))) ⟨m, fun _ => 0, g⟩ (fun r => (∀ c : Dev Cert.OutMem.nD,
      r.2.mem ((c.tc : Thread Cert.OutMem.nD Cert.OutMem.τ).loc Cert.OutMem.main_arg0) = m ((c.tc : Thread Cert.OutMem.nD Cert.OutMem.τ).loc Cert.OutMem.main_arg0)
      ∧ r.2.mem ((c.tc : Thread Cert.OutMem.nD Cert.OutMem.τ).loc Cert.OutMem.main_arg1) = m ((c.tc : Thread Cert.OutMem.nD Cert.OutMem.τ).loc Cert.OutMem.main_arg1)
      ∧ r.2.mem ((c.tc : Thread Cert.OutMem.nD Cert.OutMem.τ).loc Cert.OutMem.main_arg2) = m ((c.tc : Thread Cert.OutMem.nD Cert.OutMem.τ).loc Cert.OutMem.main_arg2))
      ∧ r.2.sem = fun _ => 0)

def quiescent_OutMemIdeal [hOutMemIdeal : Cert.OutMemIdeal.Facts] : Prop :=
  ∀ (m : (ℓ : Loc Cert.OutMemIdeal.nD Cert.OutMemIdeal.τ Cert.OutMemIdeal.sig) → Buf (Elt Ideal) ℓ) (g : Dev Cert.OutMemIdeal.nD → PrngReg), Pre_OutMemIdeal m →
    θ_run (Cert.OutMemIdeal.defs (F := Ideal)) (onTc (τ := Cert.OutMemIdeal.τ) (Cert.OutMemIdeal.main (F := Ideal))) ⟨m, fun _ => 0, g⟩ (fun r => (∀ c : Dev Cert.OutMemIdeal.nD,
      r.2.mem ((c.tc : Thread Cert.OutMemIdeal.nD Cert.OutMemIdeal.τ).loc Cert.OutMemIdeal.main_arg0) = m ((c.tc : Thread Cert.OutMemIdeal.nD Cert.OutMemIdeal.τ).loc Cert.OutMemIdeal.main_arg0)
      ∧ r.2.mem ((c.tc : Thread Cert.OutMemIdeal.nD Cert.OutMemIdeal.τ).loc Cert.OutMemIdeal.main_arg1) = m ((c.tc : Thread Cert.OutMemIdeal.nD Cert.OutMemIdeal.τ).loc Cert.OutMemIdeal.main_arg1)
      ∧ r.2.mem ((c.tc : Thread Cert.OutMemIdeal.nD Cert.OutMemIdeal.τ).loc Cert.OutMemIdeal.main_arg2) = m ((c.tc : Thread Cert.OutMemIdeal.nD Cert.OutMemIdeal.τ).loc Cert.OutMemIdeal.main_arg2))
      ∧ r.2.sem = fun _ => 0)

def quiescent_OutMemRefIdeal [hOutMemRefIdeal : Cert.OutMemRefIdeal.Facts] : Prop :=
  ∀ (m : (ℓ : Loc Cert.OutMemRefIdeal.nD Cert.OutMemRefIdeal.τ Cert.OutMemRefIdeal.sig) → Buf (Elt Ideal) ℓ) (g : Dev Cert.OutMemRefIdeal.nD → PrngReg), Pre_OutMemRefIdeal m →
    θ_run (Cert.OutMemRefIdeal.defs (F := Ideal)) (onTc (τ := Cert.OutMemRefIdeal.τ) (Cert.OutMemRefIdeal.main (F := Ideal))) ⟨m, fun _ => 0, g⟩ (fun r => (∀ c : Dev Cert.OutMemRefIdeal.nD,
      r.2.mem ((c.tc : Thread Cert.OutMemRefIdeal.nD Cert.OutMemRefIdeal.τ).loc Cert.OutMemRefIdeal.main_arg0) = m ((c.tc : Thread Cert.OutMemRefIdeal.nD Cert.OutMemRefIdeal.τ).loc Cert.OutMemRefIdeal.main_arg0)
      ∧ r.2.mem ((c.tc : Thread Cert.OutMemRefIdeal.nD Cert.OutMemRefIdeal.τ).loc Cert.OutMemRefIdeal.main_arg1) = m ((c.tc : Thread Cert.OutMemRefIdeal.nD Cert.OutMemRefIdeal.τ).loc Cert.OutMemRefIdeal.main_arg1)
      ∧ r.2.mem ((c.tc : Thread Cert.OutMemRefIdeal.nD Cert.OutMemRefIdeal.τ).loc Cert.OutMemRefIdeal.main_arg2) = m ((c.tc : Thread Cert.OutMemRefIdeal.nD Cert.OutMemRefIdeal.τ).loc Cert.OutMemRefIdeal.main_arg2))
      ∧ r.2.sem = fun _ => 0)

def quiescent_GateMem [hGateMem : Cert.GateMem.Facts] : Prop :=
  ∀ (m : (ℓ : Loc Cert.GateMem.nD Cert.GateMem.τ Cert.GateMem.sig) → Buf (Elt Bits) ℓ) (g : Dev Cert.GateMem.nD → PrngReg), Pre_GateMem m →
    θ_run (Cert.GateMem.defs (F := Bits)) (onTc (τ := Cert.GateMem.τ) (Cert.GateMem.main (F := Bits))) ⟨m, fun _ => 0, g⟩ (fun r => (∀ c : Dev Cert.GateMem.nD,
      r.2.mem ((c.tc : Thread Cert.GateMem.nD Cert.GateMem.τ).loc Cert.GateMem.main_arg0) = m ((c.tc : Thread Cert.GateMem.nD Cert.GateMem.τ).loc Cert.GateMem.main_arg0)
      ∧ r.2.mem ((c.tc : Thread Cert.GateMem.nD Cert.GateMem.τ).loc Cert.GateMem.main_arg1) = m ((c.tc : Thread Cert.GateMem.nD Cert.GateMem.τ).loc Cert.GateMem.main_arg1))
      ∧ r.2.sem = fun _ => 0)

def quiescent_GateMemIdeal [hGateMemIdeal : Cert.GateMemIdeal.Facts] : Prop :=
  ∀ (m : (ℓ : Loc Cert.GateMemIdeal.nD Cert.GateMemIdeal.τ Cert.GateMemIdeal.sig) → Buf (Elt Ideal) ℓ) (g : Dev Cert.GateMemIdeal.nD → PrngReg), Pre_GateMemIdeal m →
    θ_run (Cert.GateMemIdeal.defs (F := Ideal)) (onTc (τ := Cert.GateMemIdeal.τ) (Cert.GateMemIdeal.main (F := Ideal))) ⟨m, fun _ => 0, g⟩ (fun r => (∀ c : Dev Cert.GateMemIdeal.nD,
      r.2.mem ((c.tc : Thread Cert.GateMemIdeal.nD Cert.GateMemIdeal.τ).loc Cert.GateMemIdeal.main_arg0) = m ((c.tc : Thread Cert.GateMemIdeal.nD Cert.GateMemIdeal.τ).loc Cert.GateMemIdeal.main_arg0)
      ∧ r.2.mem ((c.tc : Thread Cert.GateMemIdeal.nD Cert.GateMemIdeal.τ).loc Cert.GateMemIdeal.main_arg1) = m ((c.tc : Thread Cert.GateMemIdeal.nD Cert.GateMemIdeal.τ).loc Cert.GateMemIdeal.main_arg1))
      ∧ r.2.sem = fun _ => 0)

def quiescent_GateMemRefIdeal [hGateMemRefIdeal : Cert.GateMemRefIdeal.Facts] : Prop :=
  ∀ (m : (ℓ : Loc Cert.GateMemRefIdeal.nD Cert.GateMemRefIdeal.τ Cert.GateMemRefIdeal.sig) → Buf (Elt Ideal) ℓ) (g : Dev Cert.GateMemRefIdeal.nD → PrngReg), Pre_GateMemRefIdeal m →
    θ_run (Cert.GateMemRefIdeal.defs (F := Ideal)) (onTc (τ := Cert.GateMemRefIdeal.τ) (Cert.GateMemRefIdeal.main (F := Ideal))) ⟨m, fun _ => 0, g⟩ (fun r => (∀ c : Dev Cert.GateMemRefIdeal.nD,
      r.2.mem ((c.tc : Thread Cert.GateMemRefIdeal.nD Cert.GateMemRefIdeal.τ).loc Cert.GateMemRefIdeal.main_arg0) = m ((c.tc : Thread Cert.GateMemRefIdeal.nD Cert.GateMemRefIdeal.τ).loc Cert.GateMemRefIdeal.main_arg0)
      ∧ r.2.mem ((c.tc : Thread Cert.GateMemRefIdeal.nD Cert.GateMemRefIdeal.τ).loc Cert.GateMemRefIdeal.main_arg1) = m ((c.tc : Thread Cert.GateMemRefIdeal.nD Cert.GateMemRefIdeal.τ).loc Cert.GateMemRefIdeal.main_arg1))
      ∧ r.2.sem = fun _ => 0)

def quiescent_DwOutMem [hDwOutMem : Cert.DwOutMem.Facts] : Prop :=
  ∀ (m : (ℓ : Loc Cert.DwOutMem.nD Cert.DwOutMem.τ Cert.DwOutMem.sig) → Buf (Elt Bits) ℓ) (g : Dev Cert.DwOutMem.nD → PrngReg), Pre_DwOutMem m →
    θ_run (Cert.DwOutMem.defs (F := Bits)) (onTc (τ := Cert.DwOutMem.τ) (Cert.DwOutMem.main (F := Bits))) ⟨m, fun _ => 0, g⟩ (fun r => (∀ c : Dev Cert.DwOutMem.nD,
      r.2.mem ((c.tc : Thread Cert.DwOutMem.nD Cert.DwOutMem.τ).loc Cert.DwOutMem.main_arg0) = m ((c.tc : Thread Cert.DwOutMem.nD Cert.DwOutMem.τ).loc Cert.DwOutMem.main_arg0)
      ∧ r.2.mem ((c.tc : Thread Cert.DwOutMem.nD Cert.DwOutMem.τ).loc Cert.DwOutMem.main_arg1) = m ((c.tc : Thread Cert.DwOutMem.nD Cert.DwOutMem.τ).loc Cert.DwOutMem.main_arg1))
      ∧ r.2.sem = fun _ => 0)

def quiescent_DwOutMemIdeal [hDwOutMemIdeal : Cert.DwOutMemIdeal.Facts] : Prop :=
  ∀ (m : (ℓ : Loc Cert.DwOutMemIdeal.nD Cert.DwOutMemIdeal.τ Cert.DwOutMemIdeal.sig) → Buf (Elt Ideal) ℓ) (g : Dev Cert.DwOutMemIdeal.nD → PrngReg), Pre_DwOutMemIdeal m →
    θ_run (Cert.DwOutMemIdeal.defs (F := Ideal)) (onTc (τ := Cert.DwOutMemIdeal.τ) (Cert.DwOutMemIdeal.main (F := Ideal))) ⟨m, fun _ => 0, g⟩ (fun r => (∀ c : Dev Cert.DwOutMemIdeal.nD,
      r.2.mem ((c.tc : Thread Cert.DwOutMemIdeal.nD Cert.DwOutMemIdeal.τ).loc Cert.DwOutMemIdeal.main_arg0) = m ((c.tc : Thread Cert.DwOutMemIdeal.nD Cert.DwOutMemIdeal.τ).loc Cert.DwOutMemIdeal.main_arg0)
      ∧ r.2.mem ((c.tc : Thread Cert.DwOutMemIdeal.nD Cert.DwOutMemIdeal.τ).loc Cert.DwOutMemIdeal.main_arg1) = m ((c.tc : Thread Cert.DwOutMemIdeal.nD Cert.DwOutMemIdeal.τ).loc Cert.DwOutMemIdeal.main_arg1))
      ∧ r.2.sem = fun _ => 0)

def quiescent_DwOutMemRefIdeal [hDwOutMemRefIdeal : Cert.DwOutMemRefIdeal.Facts] : Prop :=
  ∀ (m : (ℓ : Loc Cert.DwOutMemRefIdeal.nD Cert.DwOutMemRefIdeal.τ Cert.DwOutMemRefIdeal.sig) → Buf (Elt Ideal) ℓ) (g : Dev Cert.DwOutMemRefIdeal.nD → PrngReg), Pre_DwOutMemRefIdeal m →
    θ_run (Cert.DwOutMemRefIdeal.defs (F := Ideal)) (onTc (τ := Cert.DwOutMemRefIdeal.τ) (Cert.DwOutMemRefIdeal.main (F := Ideal))) ⟨m, fun _ => 0, g⟩ (fun r => (∀ c : Dev Cert.DwOutMemRefIdeal.nD,
      r.2.mem ((c.tc : Thread Cert.DwOutMemRefIdeal.nD Cert.DwOutMemRefIdeal.τ).loc Cert.DwOutMemRefIdeal.main_arg0) = m ((c.tc : Thread Cert.DwOutMemRefIdeal.nD Cert.DwOutMemRefIdeal.τ).loc Cert.DwOutMemRefIdeal.main_arg0)
      ∧ r.2.mem ((c.tc : Thread Cert.DwOutMemRefIdeal.nD Cert.DwOutMemRefIdeal.τ).loc Cert.DwOutMemRefIdeal.main_arg1) = m ((c.tc : Thread Cert.DwOutMemRefIdeal.nD Cert.DwOutMemRefIdeal.τ).loc Cert.DwOutMemRefIdeal.main_arg1))
      ∧ r.2.sem = fun _ => 0)

def quiescent_GateTokB [hGateTokB : Cert.GateTokB.Facts] : Prop :=
  ∀ (m : (ℓ : Loc Cert.GateTokB.nD Cert.GateTokB.τ Cert.GateTokB.sig) → Buf (Elt Bits) ℓ) (g : Dev Cert.GateTokB.nD → PrngReg), Pre_GateTokB m →
    θ_run (Cert.GateTokB.defs (F := Bits)) (onTc (τ := Cert.GateTokB.τ) (Cert.GateTokB.main (F := Bits))) ⟨m, fun _ => 0, g⟩ (fun r => (∀ c : Dev Cert.GateTokB.nD,
      r.2.mem ((c.tc : Thread Cert.GateTokB.nD Cert.GateTokB.τ).loc Cert.GateTokB.main_arg0) = m ((c.tc : Thread Cert.GateTokB.nD Cert.GateTokB.τ).loc Cert.GateTokB.main_arg0)
      ∧ r.2.mem ((c.tc : Thread Cert.GateTokB.nD Cert.GateTokB.τ).loc Cert.GateTokB.main_arg1) = m ((c.tc : Thread Cert.GateTokB.nD Cert.GateTokB.τ).loc Cert.GateTokB.main_arg1)
      ∧ r.2.mem ((c.tc : Thread Cert.GateTokB.nD Cert.GateTokB.τ).loc Cert.GateTokB.main_arg2) = m ((c.tc : Thread Cert.GateTokB.nD Cert.GateTokB.τ).loc Cert.GateTokB.main_arg2))
      ∧ r.2.sem = fun _ => 0)

def quiescent_GateTokBIdeal [hGateTokBIdeal : Cert.GateTokBIdeal.Facts] : Prop :=
  ∀ (m : (ℓ : Loc Cert.GateTokBIdeal.nD Cert.GateTokBIdeal.τ Cert.GateTokBIdeal.sig) → Buf (Elt Ideal) ℓ) (g : Dev Cert.GateTokBIdeal.nD → PrngReg), Pre_GateTokBIdeal m →
    θ_run (Cert.GateTokBIdeal.defs (F := Ideal)) (onTc (τ := Cert.GateTokBIdeal.τ) (Cert.GateTokBIdeal.main (F := Ideal))) ⟨m, fun _ => 0, g⟩ (fun r => (∀ c : Dev Cert.GateTokBIdeal.nD,
      r.2.mem ((c.tc : Thread Cert.GateTokBIdeal.nD Cert.GateTokBIdeal.τ).loc Cert.GateTokBIdeal.main_arg0) = m ((c.tc : Thread Cert.GateTokBIdeal.nD Cert.GateTokBIdeal.τ).loc Cert.GateTokBIdeal.main_arg0)
      ∧ r.2.mem ((c.tc : Thread Cert.GateTokBIdeal.nD Cert.GateTokBIdeal.τ).loc Cert.GateTokBIdeal.main_arg1) = m ((c.tc : Thread Cert.GateTokBIdeal.nD Cert.GateTokBIdeal.τ).loc Cert.GateTokBIdeal.main_arg1)
      ∧ r.2.mem ((c.tc : Thread Cert.GateTokBIdeal.nD Cert.GateTokBIdeal.τ).loc Cert.GateTokBIdeal.main_arg2) = m ((c.tc : Thread Cert.GateTokBIdeal.nD Cert.GateTokBIdeal.τ).loc Cert.GateTokBIdeal.main_arg2))
      ∧ r.2.sem = fun _ => 0)

def quiescent_GateTokBIdeal_pre_gate_finite [hGateTokBIdeal : Cert.GateTokBIdeal.Facts] [hPre_gate_finite : Cert.Pre_gate_finite.Facts] : Prop :=
  ∀ (m : (ℓ : Loc Cert.GateTokBIdeal.nD Cert.GateTokBIdeal.τ Cert.GateTokBIdeal.sig) → Buf (Elt Ideal) ℓ) (g : Dev Cert.GateTokBIdeal.nD → PrngReg), Pre_GateTokBIdeal_gate_finite m →
    θ_run (Cert.GateTokBIdeal.defs (F := Ideal)) (onTc (τ := Cert.GateTokBIdeal.τ) (Cert.GateTokBIdeal.main (F := Ideal))) ⟨m, fun _ => 0, g⟩ (fun r => (∀ c : Dev Cert.GateTokBIdeal.nD,
      r.2.mem ((c.tc : Thread Cert.GateTokBIdeal.nD Cert.GateTokBIdeal.τ).loc Cert.GateTokBIdeal.main_arg0) = m ((c.tc : Thread Cert.GateTokBIdeal.nD Cert.GateTokBIdeal.τ).loc Cert.GateTokBIdeal.main_arg0)
      ∧ r.2.mem ((c.tc : Thread Cert.GateTokBIdeal.nD Cert.GateTokBIdeal.τ).loc Cert.GateTokBIdeal.main_arg1) = m ((c.tc : Thread Cert.GateTokBIdeal.nD Cert.GateTokBIdeal.τ).loc Cert.GateTokBIdeal.main_arg1)
      ∧ r.2.mem ((c.tc : Thread Cert.GateTokBIdeal.nD Cert.GateTokBIdeal.τ).loc Cert.GateTokBIdeal.main_arg2) = m ((c.tc : Thread Cert.GateTokBIdeal.nD Cert.GateTokBIdeal.τ).loc Cert.GateTokBIdeal.main_arg2))
      ∧ r.2.sem = fun _ => 0)

def quiescent_GateTokBRefIdeal [hGateTokBRefIdeal : Cert.GateTokBRefIdeal.Facts] : Prop :=
  ∀ (m : (ℓ : Loc Cert.GateTokBRefIdeal.nD Cert.GateTokBRefIdeal.τ Cert.GateTokBRefIdeal.sig) → Buf (Elt Ideal) ℓ) (g : Dev Cert.GateTokBRefIdeal.nD → PrngReg), Pre_GateTokBRefIdeal m →
    θ_run (Cert.GateTokBRefIdeal.defs (F := Ideal)) (onTc (τ := Cert.GateTokBRefIdeal.τ) (Cert.GateTokBRefIdeal.main (F := Ideal))) ⟨m, fun _ => 0, g⟩ (fun r => (∀ c : Dev Cert.GateTokBRefIdeal.nD,
      r.2.mem ((c.tc : Thread Cert.GateTokBRefIdeal.nD Cert.GateTokBRefIdeal.τ).loc Cert.GateTokBRefIdeal.main_arg0) = m ((c.tc : Thread Cert.GateTokBRefIdeal.nD Cert.GateTokBRefIdeal.τ).loc Cert.GateTokBRefIdeal.main_arg0)
      ∧ r.2.mem ((c.tc : Thread Cert.GateTokBRefIdeal.nD Cert.GateTokBRefIdeal.τ).loc Cert.GateTokBRefIdeal.main_arg1) = m ((c.tc : Thread Cert.GateTokBRefIdeal.nD Cert.GateTokBRefIdeal.τ).loc Cert.GateTokBRefIdeal.main_arg1)
      ∧ r.2.mem ((c.tc : Thread Cert.GateTokBRefIdeal.nD Cert.GateTokBRefIdeal.τ).loc Cert.GateTokBRefIdeal.main_arg2) = m ((c.tc : Thread Cert.GateTokBRefIdeal.nD Cert.GateTokBRefIdeal.τ).loc Cert.GateTokBRefIdeal.main_arg2))
      ∧ r.2.sem = fun _ => 0)

def quiescent_GateTokBRefIdeal_pre_gate_finite [hGateTokBRefIdeal : Cert.GateTokBRefIdeal.Facts] [hPre_gate_finite : Cert.Pre_gate_finite.Facts] : Prop :=
  ∀ (m : (ℓ : Loc Cert.GateTokBRefIdeal.nD Cert.GateTokBRefIdeal.τ Cert.GateTokBRefIdeal.sig) → Buf (Elt Ideal) ℓ) (g : Dev Cert.GateTokBRefIdeal.nD → PrngReg), Pre_GateTokBRefIdeal_gate_finite m →
    θ_run (Cert.GateTokBRefIdeal.defs (F := Ideal)) (onTc (τ := Cert.GateTokBRefIdeal.τ) (Cert.GateTokBRefIdeal.main (F := Ideal))) ⟨m, fun _ => 0, g⟩ (fun r => (∀ c : Dev Cert.GateTokBRefIdeal.nD,
      r.2.mem ((c.tc : Thread Cert.GateTokBRefIdeal.nD Cert.GateTokBRefIdeal.τ).loc Cert.GateTokBRefIdeal.main_arg0) = m ((c.tc : Thread Cert.GateTokBRefIdeal.nD Cert.GateTokBRefIdeal.τ).loc Cert.GateTokBRefIdeal.main_arg0)
      ∧ r.2.mem ((c.tc : Thread Cert.GateTokBRefIdeal.nD Cert.GateTokBRefIdeal.τ).loc Cert.GateTokBRefIdeal.main_arg1) = m ((c.tc : Thread Cert.GateTokBRefIdeal.nD Cert.GateTokBRefIdeal.τ).loc Cert.GateTokBRefIdeal.main_arg1)
      ∧ r.2.mem ((c.tc : Thread Cert.GateTokBRefIdeal.nD Cert.GateTokBRefIdeal.τ).loc Cert.GateTokBRefIdeal.main_arg2) = m ((c.tc : Thread Cert.GateTokBRefIdeal.nD Cert.GateTokBRefIdeal.τ).loc Cert.GateTokBRefIdeal.main_arg2))
      ∧ r.2.sem = fun _ => 0)

def quiescent_GateMemB [hGateMemB : Cert.GateMemB.Facts] : Prop :=
  ∀ (m : (ℓ : Loc Cert.GateMemB.nD Cert.GateMemB.τ Cert.GateMemB.sig) → Buf (Elt Bits) ℓ) (g : Dev Cert.GateMemB.nD → PrngReg), Pre_GateMemB m →
    θ_run (Cert.GateMemB.defs (F := Bits)) (onTc (τ := Cert.GateMemB.τ) (Cert.GateMemB.main (F := Bits))) ⟨m, fun _ => 0, g⟩ (fun r => (∀ c : Dev Cert.GateMemB.nD,
      r.2.mem ((c.tc : Thread Cert.GateMemB.nD Cert.GateMemB.τ).loc Cert.GateMemB.main_arg0) = m ((c.tc : Thread Cert.GateMemB.nD Cert.GateMemB.τ).loc Cert.GateMemB.main_arg0)
      ∧ r.2.mem ((c.tc : Thread Cert.GateMemB.nD Cert.GateMemB.τ).loc Cert.GateMemB.main_arg1) = m ((c.tc : Thread Cert.GateMemB.nD Cert.GateMemB.τ).loc Cert.GateMemB.main_arg1)
      ∧ r.2.mem ((c.tc : Thread Cert.GateMemB.nD Cert.GateMemB.τ).loc Cert.GateMemB.main_arg2) = m ((c.tc : Thread Cert.GateMemB.nD Cert.GateMemB.τ).loc Cert.GateMemB.main_arg2))
      ∧ r.2.sem = fun _ => 0)

def quiescent_GateMemBIdeal [hGateMemBIdeal : Cert.GateMemBIdeal.Facts] : Prop :=
  ∀ (m : (ℓ : Loc Cert.GateMemBIdeal.nD Cert.GateMemBIdeal.τ Cert.GateMemBIdeal.sig) → Buf (Elt Ideal) ℓ) (g : Dev Cert.GateMemBIdeal.nD → PrngReg), Pre_GateMemBIdeal m →
    θ_run (Cert.GateMemBIdeal.defs (F := Ideal)) (onTc (τ := Cert.GateMemBIdeal.τ) (Cert.GateMemBIdeal.main (F := Ideal))) ⟨m, fun _ => 0, g⟩ (fun r => (∀ c : Dev Cert.GateMemBIdeal.nD,
      r.2.mem ((c.tc : Thread Cert.GateMemBIdeal.nD Cert.GateMemBIdeal.τ).loc Cert.GateMemBIdeal.main_arg0) = m ((c.tc : Thread Cert.GateMemBIdeal.nD Cert.GateMemBIdeal.τ).loc Cert.GateMemBIdeal.main_arg0)
      ∧ r.2.mem ((c.tc : Thread Cert.GateMemBIdeal.nD Cert.GateMemBIdeal.τ).loc Cert.GateMemBIdeal.main_arg1) = m ((c.tc : Thread Cert.GateMemBIdeal.nD Cert.GateMemBIdeal.τ).loc Cert.GateMemBIdeal.main_arg1)
      ∧ r.2.mem ((c.tc : Thread Cert.GateMemBIdeal.nD Cert.GateMemBIdeal.τ).loc Cert.GateMemBIdeal.main_arg2) = m ((c.tc : Thread Cert.GateMemBIdeal.nD Cert.GateMemBIdeal.τ).loc Cert.GateMemBIdeal.main_arg2))
      ∧ r.2.sem = fun _ => 0)

def quiescent_GateMemBIdeal_pre_gate_mem_finite [hGateMemBIdeal : Cert.GateMemBIdeal.Facts] [hPre_gate_mem_finite : Cert.Pre_gate_mem_finite.Facts] : Prop :=
  ∀ (m : (ℓ : Loc Cert.GateMemBIdeal.nD Cert.GateMemBIdeal.τ Cert.GateMemBIdeal.sig) → Buf (Elt Ideal) ℓ) (g : Dev Cert.GateMemBIdeal.nD → PrngReg), Pre_GateMemBIdeal_gate_mem_finite m →
    θ_run (Cert.GateMemBIdeal.defs (F := Ideal)) (onTc (τ := Cert.GateMemBIdeal.τ) (Cert.GateMemBIdeal.main (F := Ideal))) ⟨m, fun _ => 0, g⟩ (fun r => (∀ c : Dev Cert.GateMemBIdeal.nD,
      r.2.mem ((c.tc : Thread Cert.GateMemBIdeal.nD Cert.GateMemBIdeal.τ).loc Cert.GateMemBIdeal.main_arg0) = m ((c.tc : Thread Cert.GateMemBIdeal.nD Cert.GateMemBIdeal.τ).loc Cert.GateMemBIdeal.main_arg0)
      ∧ r.2.mem ((c.tc : Thread Cert.GateMemBIdeal.nD Cert.GateMemBIdeal.τ).loc Cert.GateMemBIdeal.main_arg1) = m ((c.tc : Thread Cert.GateMemBIdeal.nD Cert.GateMemBIdeal.τ).loc Cert.GateMemBIdeal.main_arg1)
      ∧ r.2.mem ((c.tc : Thread Cert.GateMemBIdeal.nD Cert.GateMemBIdeal.τ).loc Cert.GateMemBIdeal.main_arg2) = m ((c.tc : Thread Cert.GateMemBIdeal.nD Cert.GateMemBIdeal.τ).loc Cert.GateMemBIdeal.main_arg2))
      ∧ r.2.sem = fun _ => 0)

def quiescent_GateMemBRefIdeal [hGateMemBRefIdeal : Cert.GateMemBRefIdeal.Facts] : Prop :=
  ∀ (m : (ℓ : Loc Cert.GateMemBRefIdeal.nD Cert.GateMemBRefIdeal.τ Cert.GateMemBRefIdeal.sig) → Buf (Elt Ideal) ℓ) (g : Dev Cert.GateMemBRefIdeal.nD → PrngReg), Pre_GateMemBRefIdeal m →
    θ_run (Cert.GateMemBRefIdeal.defs (F := Ideal)) (onTc (τ := Cert.GateMemBRefIdeal.τ) (Cert.GateMemBRefIdeal.main (F := Ideal))) ⟨m, fun _ => 0, g⟩ (fun r => (∀ c : Dev Cert.GateMemBRefIdeal.nD,
      r.2.mem ((c.tc : Thread Cert.GateMemBRefIdeal.nD Cert.GateMemBRefIdeal.τ).loc Cert.GateMemBRefIdeal.main_arg0) = m ((c.tc : Thread Cert.GateMemBRefIdeal.nD Cert.GateMemBRefIdeal.τ).loc Cert.GateMemBRefIdeal.main_arg0)
      ∧ r.2.mem ((c.tc : Thread Cert.GateMemBRefIdeal.nD Cert.GateMemBRefIdeal.τ).loc Cert.GateMemBRefIdeal.main_arg1) = m ((c.tc : Thread Cert.GateMemBRefIdeal.nD Cert.GateMemBRefIdeal.τ).loc Cert.GateMemBRefIdeal.main_arg1)
      ∧ r.2.mem ((c.tc : Thread Cert.GateMemBRefIdeal.nD Cert.GateMemBRefIdeal.τ).loc Cert.GateMemBRefIdeal.main_arg2) = m ((c.tc : Thread Cert.GateMemBRefIdeal.nD Cert.GateMemBRefIdeal.τ).loc Cert.GateMemBRefIdeal.main_arg2))
      ∧ r.2.sem = fun _ => 0)

def quiescent_GateMemBRefIdeal_pre_gate_mem_finite [hGateMemBRefIdeal : Cert.GateMemBRefIdeal.Facts] [hPre_gate_mem_finite : Cert.Pre_gate_mem_finite.Facts] : Prop :=
  ∀ (m : (ℓ : Loc Cert.GateMemBRefIdeal.nD Cert.GateMemBRefIdeal.τ Cert.GateMemBRefIdeal.sig) → Buf (Elt Ideal) ℓ) (g : Dev Cert.GateMemBRefIdeal.nD → PrngReg), Pre_GateMemBRefIdeal_gate_mem_finite m →
    θ_run (Cert.GateMemBRefIdeal.defs (F := Ideal)) (onTc (τ := Cert.GateMemBRefIdeal.τ) (Cert.GateMemBRefIdeal.main (F := Ideal))) ⟨m, fun _ => 0, g⟩ (fun r => (∀ c : Dev Cert.GateMemBRefIdeal.nD,
      r.2.mem ((c.tc : Thread Cert.GateMemBRefIdeal.nD Cert.GateMemBRefIdeal.τ).loc Cert.GateMemBRefIdeal.main_arg0) = m ((c.tc : Thread Cert.GateMemBRefIdeal.nD Cert.GateMemBRefIdeal.τ).loc Cert.GateMemBRefIdeal.main_arg0)
      ∧ r.2.mem ((c.tc : Thread Cert.GateMemBRefIdeal.nD Cert.GateMemBRefIdeal.τ).loc Cert.GateMemBRefIdeal.main_arg1) = m ((c.tc : Thread Cert.GateMemBRefIdeal.nD Cert.GateMemBRefIdeal.τ).loc Cert.GateMemBRefIdeal.main_arg1)
      ∧ r.2.mem ((c.tc : Thread Cert.GateMemBRefIdeal.nD Cert.GateMemBRefIdeal.τ).loc Cert.GateMemBRefIdeal.main_arg2) = m ((c.tc : Thread Cert.GateMemBRefIdeal.nD Cert.GateMemBRefIdeal.τ).loc Cert.GateMemBRefIdeal.main_arg2))
      ∧ r.2.sem = fun _ => 0)

def quiescent_ConvB [hConvB : Cert.ConvB.Facts] : Prop :=
  ∀ (m : (ℓ : Loc Cert.ConvB.nD Cert.ConvB.τ Cert.ConvB.sig) → Buf (Elt Bits) ℓ) (g : Dev Cert.ConvB.nD → PrngReg), Pre_ConvB m →
    θ_run (Cert.ConvB.defs (F := Bits)) (onTc (τ := Cert.ConvB.τ) (Cert.ConvB.main (F := Bits))) ⟨m, fun _ => 0, g⟩ (fun r => (∀ c : Dev Cert.ConvB.nD,
      r.2.mem ((c.tc : Thread Cert.ConvB.nD Cert.ConvB.τ).loc Cert.ConvB.main_arg0) = m ((c.tc : Thread Cert.ConvB.nD Cert.ConvB.τ).loc Cert.ConvB.main_arg0)
      ∧ r.2.mem ((c.tc : Thread Cert.ConvB.nD Cert.ConvB.τ).loc Cert.ConvB.main_arg1) = m ((c.tc : Thread Cert.ConvB.nD Cert.ConvB.τ).loc Cert.ConvB.main_arg1))
      ∧ r.2.sem = fun _ => 0)

def quiescent_ConvBIdeal [hConvBIdeal : Cert.ConvBIdeal.Facts] : Prop :=
  ∀ (m : (ℓ : Loc Cert.ConvBIdeal.nD Cert.ConvBIdeal.τ Cert.ConvBIdeal.sig) → Buf (Elt Ideal) ℓ) (g : Dev Cert.ConvBIdeal.nD → PrngReg), Pre_ConvBIdeal m →
    θ_run (Cert.ConvBIdeal.defs (F := Ideal)) (onTc (τ := Cert.ConvBIdeal.τ) (Cert.ConvBIdeal.main (F := Ideal))) ⟨m, fun _ => 0, g⟩ (fun r => (∀ c : Dev Cert.ConvBIdeal.nD,
      r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
      ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1))
      ∧ r.2.sem = fun _ => 0)

def quiescent_ConvBRefIdeal [hConvBRefIdeal : Cert.ConvBRefIdeal.Facts] : Prop :=
  ∀ (m : (ℓ : Loc Cert.ConvBRefIdeal.nD Cert.ConvBRefIdeal.τ Cert.ConvBRefIdeal.sig) → Buf (Elt Ideal) ℓ) (g : Dev Cert.ConvBRefIdeal.nD → PrngReg), Pre_ConvBRefIdeal m →
    θ_run (Cert.ConvBRefIdeal.defs (F := Ideal)) (onTc (τ := Cert.ConvBRefIdeal.τ) (Cert.ConvBRefIdeal.main (F := Ideal))) ⟨m, fun _ => 0, g⟩ (fun r => (∀ c : Dev Cert.ConvBRefIdeal.nD,
      r.2.mem ((c.tc : Thread Cert.ConvBRefIdeal.nD Cert.ConvBRefIdeal.τ).loc Cert.ConvBRefIdeal.main_arg0) = m ((c.tc : Thread Cert.ConvBRefIdeal.nD Cert.ConvBRefIdeal.τ).loc Cert.ConvBRefIdeal.main_arg0)
      ∧ r.2.mem ((c.tc : Thread Cert.ConvBRefIdeal.nD Cert.ConvBRefIdeal.τ).loc Cert.ConvBRefIdeal.main_arg1) = m ((c.tc : Thread Cert.ConvBRefIdeal.nD Cert.ConvBRefIdeal.τ).loc Cert.ConvBRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_ConvPre [hConvPre : Cert.ConvPre.Facts] : Prop :=
  ∀ (m : (ℓ : Loc Cert.ConvPre.nD Cert.ConvPre.τ Cert.ConvPre.sig) → Buf (Elt Bits) ℓ) (g : Dev Cert.ConvPre.nD → PrngReg), Pre_ConvPre m →
    θ_run (Cert.ConvPre.defs (F := Bits)) (onTc (τ := Cert.ConvPre.τ) (Cert.ConvPre.main (F := Bits))) ⟨m, fun _ => 0, g⟩ (fun r => (∀ c : Dev Cert.ConvPre.nD,
      r.2.mem ((c.tc : Thread Cert.ConvPre.nD Cert.ConvPre.τ).loc Cert.ConvPre.main_arg0) = m ((c.tc : Thread Cert.ConvPre.nD Cert.ConvPre.τ).loc Cert.ConvPre.main_arg0)
      ∧ r.2.mem ((c.tc : Thread Cert.ConvPre.nD Cert.ConvPre.τ).loc Cert.ConvPre.main_arg1) = m ((c.tc : Thread Cert.ConvPre.nD Cert.ConvPre.τ).loc Cert.ConvPre.main_arg1)
      ∧ r.2.mem ((c.tc : Thread Cert.ConvPre.nD Cert.ConvPre.τ).loc Cert.ConvPre.main_arg2) = m ((c.tc : Thread Cert.ConvPre.nD Cert.ConvPre.τ).loc Cert.ConvPre.main_arg2)
      ∧ r.2.mem ((c.tc : Thread Cert.ConvPre.nD Cert.ConvPre.τ).loc Cert.ConvPre.main_arg3) = m ((c.tc : Thread Cert.ConvPre.nD Cert.ConvPre.τ).loc Cert.ConvPre.main_arg3))
      ∧ r.2.sem = fun _ => 0)

def quiescent_ConvPreIdeal [hConvPreIdeal : Cert.ConvPreIdeal.Facts] : Prop :=
  ∀ (m : (ℓ : Loc Cert.ConvPreIdeal.nD Cert.ConvPreIdeal.τ Cert.ConvPreIdeal.sig) → Buf (Elt Ideal) ℓ) (g : Dev Cert.ConvPreIdeal.nD → PrngReg), Pre_ConvPreIdeal m →
    θ_run (Cert.ConvPreIdeal.defs (F := Ideal)) (onTc (τ := Cert.ConvPreIdeal.τ) (Cert.ConvPreIdeal.main (F := Ideal))) ⟨m, fun _ => 0, g⟩ (fun r => (∀ c : Dev Cert.ConvPreIdeal.nD,
      r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
      ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
      ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2)
      ∧ r.2.mem ((c.tc : Thread Cert.ConvPreIdeal.nD Cert.ConvPreIdeal.τ).loc Cert.ConvPreIdeal.main_arg3) = m ((c.tc : Thread Cert.ConvPreIdeal.nD Cert.ConvPreIdeal.τ).loc Cert.ConvPreIdeal.main_arg3))
      ∧ r.2.sem = fun _ => 0)

def quiescent_ConvPreIdeal_pre_act_finite [hConvPreIdeal : Cert.ConvPreIdeal.Facts] [hPre_act_finite : Cert.Pre_act_finite.Facts] : Prop :=
  ∀ (m : (ℓ : Loc Cert.ConvPreIdeal.nD Cert.ConvPreIdeal.τ Cert.ConvPreIdeal.sig) → Buf (Elt Ideal) ℓ) (g : Dev Cert.ConvPreIdeal.nD → PrngReg), Pre_ConvPreIdeal_act_finite m →
    θ_run (Cert.ConvPreIdeal.defs (F := Ideal)) (onTc (τ := Cert.ConvPreIdeal.τ) (Cert.ConvPreIdeal.main (F := Ideal))) ⟨m, fun _ => 0, g⟩ (fun r => (∀ c : Dev Cert.ConvPreIdeal.nD,
      r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
      ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
      ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2)
      ∧ r.2.mem ((c.tc : Thread Cert.ConvPreIdeal.nD Cert.ConvPreIdeal.τ).loc Cert.ConvPreIdeal.main_arg3) = m ((c.tc : Thread Cert.ConvPreIdeal.nD Cert.ConvPreIdeal.τ).loc Cert.ConvPreIdeal.main_arg3))
      ∧ r.2.sem = fun _ => 0)

def quiescent_ConvPreRefIdeal [hConvPreRefIdeal : Cert.ConvPreRefIdeal.Facts] : Prop :=
  ∀ (m : (ℓ : Loc Cert.ConvPreRefIdeal.nD Cert.ConvPreRefIdeal.τ Cert.ConvPreRefIdeal.sig) → Buf (Elt Ideal) ℓ) (g : Dev Cert.ConvPreRefIdeal.nD → PrngReg), Pre_ConvPreRefIdeal m →
    θ_run (Cert.ConvPreRefIdeal.defs (F := Ideal)) (onTc (τ := Cert.ConvPreRefIdeal.τ) (Cert.ConvPreRefIdeal.main (F := Ideal))) ⟨m, fun _ => 0, g⟩ (fun r => (∀ c : Dev Cert.ConvPreRefIdeal.nD,
      r.2.mem ((c.tc : Thread Cert.ConvPreRefIdeal.nD Cert.ConvPreRefIdeal.τ).loc Cert.ConvPreRefIdeal.main_arg0) = m ((c.tc : Thread Cert.ConvPreRefIdeal.nD Cert.ConvPreRefIdeal.τ).loc Cert.ConvPreRefIdeal.main_arg0)
      ∧ r.2.mem ((c.tc : Thread Cert.ConvPreRefIdeal.nD Cert.ConvPreRefIdeal.τ).loc Cert.ConvPreRefIdeal.main_arg1) = m ((c.tc : Thread Cert.ConvPreRefIdeal.nD Cert.ConvPreRefIdeal.τ).loc Cert.ConvPreRefIdeal.main_arg1)
      ∧ r.2.mem ((c.tc : Thread Cert.ConvPreRefIdeal.nD Cert.ConvPreRefIdeal.τ).loc Cert.ConvPreRefIdeal.main_arg2) = m ((c.tc : Thread Cert.ConvPreRefIdeal.nD Cert.ConvPreRefIdeal.τ).loc Cert.ConvPreRefIdeal.main_arg2)
      ∧ r.2.mem ((c.tc : Thread Cert.ConvPreRefIdeal.nD Cert.ConvPreRefIdeal.τ).loc Cert.ConvPreRefIdeal.main_arg3) = m ((c.tc : Thread Cert.ConvPreRefIdeal.nD Cert.ConvPreRefIdeal.τ).loc Cert.ConvPreRefIdeal.main_arg3))
      ∧ r.2.sem = fun _ => 0)

def quiescent_ConvPreRefIdeal_pre_act_finite [hConvPreRefIdeal : Cert.ConvPreRefIdeal.Facts] [hPre_act_finite : Cert.Pre_act_finite.Facts] : Prop :=
  ∀ (m : (ℓ : Loc Cert.ConvPreRefIdeal.nD Cert.ConvPreRefIdeal.τ Cert.ConvPreRefIdeal.sig) → Buf (Elt Ideal) ℓ) (g : Dev Cert.ConvPreRefIdeal.nD → PrngReg), Pre_ConvPreRefIdeal_act_finite m →
    θ_run (Cert.ConvPreRefIdeal.defs (F := Ideal)) (onTc (τ := Cert.ConvPreRefIdeal.τ) (Cert.ConvPreRefIdeal.main (F := Ideal))) ⟨m, fun _ => 0, g⟩ (fun r => (∀ c : Dev Cert.ConvPreRefIdeal.nD,
      r.2.mem ((c.tc : Thread Cert.ConvPreRefIdeal.nD Cert.ConvPreRefIdeal.τ).loc Cert.ConvPreRefIdeal.main_arg0) = m ((c.tc : Thread Cert.ConvPreRefIdeal.nD Cert.ConvPreRefIdeal.τ).loc Cert.ConvPreRefIdeal.main_arg0)
      ∧ r.2.mem ((c.tc : Thread Cert.ConvPreRefIdeal.nD Cert.ConvPreRefIdeal.τ).loc Cert.ConvPreRefIdeal.main_arg1) = m ((c.tc : Thread Cert.ConvPreRefIdeal.nD Cert.ConvPreRefIdeal.τ).loc Cert.ConvPreRefIdeal.main_arg1)
      ∧ r.2.mem ((c.tc : Thread Cert.ConvPreRefIdeal.nD Cert.ConvPreRefIdeal.τ).loc Cert.ConvPreRefIdeal.main_arg2) = m ((c.tc : Thread Cert.ConvPreRefIdeal.nD Cert.ConvPreRefIdeal.τ).loc Cert.ConvPreRefIdeal.main_arg2)
      ∧ r.2.mem ((c.tc : Thread Cert.ConvPreRefIdeal.nD Cert.ConvPreRefIdeal.τ).loc Cert.ConvPreRefIdeal.main_arg3) = m ((c.tc : Thread Cert.ConvPreRefIdeal.nD Cert.ConvPreRefIdeal.τ).loc Cert.ConvPreRefIdeal.main_arg3))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1)
      ∧ r.2.mem ((c.tc : Thread Cert.ConvFRefIdeal.nD Cert.ConvFRefIdeal.τ).loc Cert.ConvFRefIdeal.main_arg2) = m ((c.tc : Thread Cert.ConvFRefIdeal.nD Cert.ConvFRefIdeal.τ).loc Cert.ConvFRefIdeal.main_arg2))
      ∧ r.2.sem = fun _ => 0)

def quiescent_GateTokF [hGateTokF : Cert.GateTokF.Facts] : Prop :=
  ∀ (m : (ℓ : Loc Cert.GateTokF.nD Cert.GateTokF.τ Cert.GateTokF.sig) → Buf (Elt Bits) ℓ) (g : Dev Cert.GateTokF.nD → PrngReg), Pre_GateTokF m →
    θ_run (Cert.GateTokF.defs (F := Bits)) (onTc (τ := Cert.GateTokF.τ) (Cert.GateTokF.main (F := Bits))) ⟨m, fun _ => 0, g⟩ (fun r => (∀ c : Dev Cert.GateTokF.nD,
      r.2.mem ((c.tc : Thread Cert.GateTokF.nD Cert.GateTokF.τ).loc Cert.GateTokF.main_arg0) = m ((c.tc : Thread Cert.GateTokF.nD Cert.GateTokF.τ).loc Cert.GateTokF.main_arg0)
      ∧ r.2.mem ((c.tc : Thread Cert.GateTokF.nD Cert.GateTokF.τ).loc Cert.GateTokF.main_arg1) = m ((c.tc : Thread Cert.GateTokF.nD Cert.GateTokF.τ).loc Cert.GateTokF.main_arg1))
      ∧ r.2.sem = fun _ => 0)

def quiescent_GateTokFIdeal [hGateTokFIdeal : Cert.GateTokFIdeal.Facts] : Prop :=
  ∀ (m : (ℓ : Loc Cert.GateTokFIdeal.nD Cert.GateTokFIdeal.τ Cert.GateTokFIdeal.sig) → Buf (Elt Ideal) ℓ) (g : Dev Cert.GateTokFIdeal.nD → PrngReg), Pre_GateTokFIdeal m →
    θ_run (Cert.GateTokFIdeal.defs (F := Ideal)) (onTc (τ := Cert.GateTokFIdeal.τ) (Cert.GateTokFIdeal.main (F := Ideal))) ⟨m, fun _ => 0, g⟩ (fun r => (∀ c : Dev Cert.GateTokFIdeal.nD,
      r.2.mem ((c.tc : Thread Cert.GateTokFIdeal.nD Cert.GateTokFIdeal.τ).loc Cert.GateTokFIdeal.main_arg0) = m ((c.tc : Thread Cert.GateTokFIdeal.nD Cert.GateTokFIdeal.τ).loc Cert.GateTokFIdeal.main_arg0)
      ∧ r.2.mem ((c.tc : Thread Cert.GateTokFIdeal.nD Cert.GateTokFIdeal.τ).loc Cert.GateTokFIdeal.main_arg1) = m ((c.tc : Thread Cert.GateTokFIdeal.nD Cert.GateTokFIdeal.τ).loc Cert.GateTokFIdeal.main_arg1))
      ∧ r.2.sem = fun _ => 0)

def quiescent_GateTokFRefIdeal [hGateTokFRefIdeal : Cert.GateTokFRefIdeal.Facts] : Prop :=
  ∀ (m : (ℓ : Loc Cert.GateTokFRefIdeal.nD Cert.GateTokFRefIdeal.τ Cert.GateTokFRefIdeal.sig) → Buf (Elt Ideal) ℓ) (g : Dev Cert.GateTokFRefIdeal.nD → PrngReg), Pre_GateTokFRefIdeal m →
    θ_run (Cert.GateTokFRefIdeal.defs (F := Ideal)) (onTc (τ := Cert.GateTokFRefIdeal.τ) (Cert.GateTokFRefIdeal.main (F := Ideal))) ⟨m, fun _ => 0, g⟩ (fun r => (∀ c : Dev Cert.GateTokFRefIdeal.nD,
      r.2.mem ((c.tc : Thread Cert.GateTokFRefIdeal.nD Cert.GateTokFRefIdeal.τ).loc Cert.GateTokFRefIdeal.main_arg0) = m ((c.tc : Thread Cert.GateTokFRefIdeal.nD Cert.GateTokFRefIdeal.τ).loc Cert.GateTokFRefIdeal.main_arg0)
      ∧ r.2.mem ((c.tc : Thread Cert.GateTokFRefIdeal.nD Cert.GateTokFRefIdeal.τ).loc Cert.GateTokFRefIdeal.main_arg1) = m ((c.tc : Thread Cert.GateTokFRefIdeal.nD Cert.GateTokFRefIdeal.τ).loc Cert.GateTokFRefIdeal.main_arg1))
      ∧ r.2.sem = fun _ => 0)

def quiescent_GateMemF [hGateMemF : Cert.GateMemF.Facts] : Prop :=
  ∀ (m : (ℓ : Loc Cert.GateMemF.nD Cert.GateMemF.τ Cert.GateMemF.sig) → Buf (Elt Bits) ℓ) (g : Dev Cert.GateMemF.nD → PrngReg), Pre_GateMemF m →
    θ_run (Cert.GateMemF.defs (F := Bits)) (onTc (τ := Cert.GateMemF.τ) (Cert.GateMemF.main (F := Bits))) ⟨m, fun _ => 0, g⟩ (fun r => (∀ c : Dev Cert.GateMemF.nD,
      r.2.mem ((c.tc : Thread Cert.GateMemF.nD Cert.GateMemF.τ).loc Cert.GateMemF.main_arg0) = m ((c.tc : Thread Cert.GateMemF.nD Cert.GateMemF.τ).loc Cert.GateMemF.main_arg0)
      ∧ r.2.mem ((c.tc : Thread Cert.GateMemF.nD Cert.GateMemF.τ).loc Cert.GateMemF.main_arg1) = m ((c.tc : Thread Cert.GateMemF.nD Cert.GateMemF.τ).loc Cert.GateMemF.main_arg1))
      ∧ r.2.sem = fun _ => 0)

def quiescent_GateMemFIdeal [hGateMemFIdeal : Cert.GateMemFIdeal.Facts] : Prop :=
  ∀ (m : (ℓ : Loc Cert.GateMemFIdeal.nD Cert.GateMemFIdeal.τ Cert.GateMemFIdeal.sig) → Buf (Elt Ideal) ℓ) (g : Dev Cert.GateMemFIdeal.nD → PrngReg), Pre_GateMemFIdeal m →
    θ_run (Cert.GateMemFIdeal.defs (F := Ideal)) (onTc (τ := Cert.GateMemFIdeal.τ) (Cert.GateMemFIdeal.main (F := Ideal))) ⟨m, fun _ => 0, g⟩ (fun r => (∀ c : Dev Cert.GateMemFIdeal.nD,
      r.2.mem ((c.tc : Thread Cert.GateMemFIdeal.nD Cert.GateMemFIdeal.τ).loc Cert.GateMemFIdeal.main_arg0) = m ((c.tc : Thread Cert.GateMemFIdeal.nD Cert.GateMemFIdeal.τ).loc Cert.GateMemFIdeal.main_arg0)
      ∧ r.2.mem ((c.tc : Thread Cert.GateMemFIdeal.nD Cert.GateMemFIdeal.τ).loc Cert.GateMemFIdeal.main_arg1) = m ((c.tc : Thread Cert.GateMemFIdeal.nD Cert.GateMemFIdeal.τ).loc Cert.GateMemFIdeal.main_arg1))
      ∧ r.2.sem = fun _ => 0)

def quiescent_GateMemFRefIdeal [hGateMemFRefIdeal : Cert.GateMemFRefIdeal.Facts] : Prop :=
  ∀ (m : (ℓ : Loc Cert.GateMemFRefIdeal.nD Cert.GateMemFRefIdeal.τ Cert.GateMemFRefIdeal.sig) → Buf (Elt Ideal) ℓ) (g : Dev Cert.GateMemFRefIdeal.nD → PrngReg), Pre_GateMemFRefIdeal m →
    θ_run (Cert.GateMemFRefIdeal.defs (F := Ideal)) (onTc (τ := Cert.GateMemFRefIdeal.τ) (Cert.GateMemFRefIdeal.main (F := Ideal))) ⟨m, fun _ => 0, g⟩ (fun r => (∀ c : Dev Cert.GateMemFRefIdeal.nD,
      r.2.mem ((c.tc : Thread Cert.GateMemFRefIdeal.nD Cert.GateMemFRefIdeal.τ).loc Cert.GateMemFRefIdeal.main_arg0) = m ((c.tc : Thread Cert.GateMemFRefIdeal.nD Cert.GateMemFRefIdeal.τ).loc Cert.GateMemFRefIdeal.main_arg0)
      ∧ r.2.mem ((c.tc : Thread Cert.GateMemFRefIdeal.nD Cert.GateMemFRefIdeal.τ).loc Cert.GateMemFRefIdeal.main_arg1) = m ((c.tc : Thread Cert.GateMemFRefIdeal.nD Cert.GateMemFRefIdeal.τ).loc Cert.GateMemFRefIdeal.main_arg1))
      ∧ r.2.sem = fun _ => 0)

def quiescent_NormF [hNormF : Cert.NormF.Facts] : Prop :=
  ∀ (m : (ℓ : Loc Cert.NormF.nD Cert.NormF.τ Cert.NormF.sig) → Buf (Elt Bits) ℓ) (g : Dev Cert.NormF.nD → PrngReg), Pre_NormF m →
    θ_run (Cert.NormF.defs (F := Bits)) (onTc (τ := Cert.NormF.τ) (Cert.NormF.main (F := Bits))) ⟨m, fun _ => 0, g⟩ (fun r => (∀ c : Dev Cert.NormF.nD,
      r.2.mem ((c.tc : Thread Cert.NormF.nD Cert.NormF.τ).loc Cert.NormF.main_arg0) = m ((c.tc : Thread Cert.NormF.nD Cert.NormF.τ).loc Cert.NormF.main_arg0)
      ∧ r.2.mem ((c.tc : Thread Cert.NormF.nD Cert.NormF.τ).loc Cert.NormF.main_arg1) = m ((c.tc : Thread Cert.NormF.nD Cert.NormF.τ).loc Cert.NormF.main_arg1))
      ∧ r.2.sem = fun _ => 0)

def quiescent_NormFIdeal [hNormFIdeal : Cert.NormFIdeal.Facts] : Prop :=
  ∀ (m : (ℓ : Loc Cert.NormFIdeal.nD Cert.NormFIdeal.τ Cert.NormFIdeal.sig) → Buf (Elt Ideal) ℓ) (g : Dev Cert.NormFIdeal.nD → PrngReg), Pre_NormFIdeal m →
    θ_run (Cert.NormFIdeal.defs (F := Ideal)) (onTc (τ := Cert.NormFIdeal.τ) (Cert.NormFIdeal.main (F := Ideal))) ⟨m, fun _ => 0, g⟩ (fun r => (∀ c : Dev Cert.NormFIdeal.nD,
      r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
      ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ r.2.sem = fun _ => 0)

def quiescent_NormFRefIdeal [hNormFRefIdeal : Cert.NormFRefIdeal.Facts] : Prop :=
  ∀ (m : (ℓ : Loc Cert.NormFRefIdeal.nD Cert.NormFRefIdeal.τ Cert.NormFRefIdeal.sig) → Buf (Elt Ideal) ℓ) (g : Dev Cert.NormFRefIdeal.nD → PrngReg), Pre_NormFRefIdeal m →
    θ_run (Cert.NormFRefIdeal.defs (F := Ideal)) (onTc (τ := Cert.NormFRefIdeal.τ) (Cert.NormFRefIdeal.main (F := Ideal))) ⟨m, fun _ => 0, g⟩ (fun r => (∀ c : Dev Cert.NormFRefIdeal.nD,
      r.2.mem ((c.tc : Thread Cert.NormFRefIdeal.nD Cert.NormFRefIdeal.τ).loc Cert.NormFRefIdeal.main_arg0) = m ((c.tc : Thread Cert.NormFRefIdeal.nD Cert.NormFRefIdeal.τ).loc Cert.NormFRefIdeal.main_arg0)
      ∧ r.2.mem ((c.tc : Thread Cert.NormFRefIdeal.nD Cert.NormFRefIdeal.τ).loc Cert.NormFRefIdeal.main_arg1) = m ((c.tc : Thread Cert.NormFRefIdeal.nD Cert.NormFRefIdeal.τ).loc Cert.NormFRefIdeal.main_arg1))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v3) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v4) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2))

def preserves_DhB_DhBIdeal : Prop :=
  True

def algebraic_DhBIdeal_DhBRefIdeal [hDhBIdeal : Cert.DhBIdeal.Facts] [hDhBRefIdeal : Cert.DhBRefIdeal.Facts] : Prop :=
  ∀ (m : (ℓ : Loc Cert.DhBIdeal.nD Cert.DhBIdeal.τ Cert.DhBIdeal.sig) → Buf (Elt Ideal) ℓ) (g : Dev Cert.DhBIdeal.nD → PrngReg)
    (m' : (ℓ : Loc Cert.DhBRefIdeal.nD Cert.DhBRefIdeal.τ Cert.DhBRefIdeal.sig) → Buf (Elt Ideal) ℓ) (g' : Dev Cert.DhBRefIdeal.nD → PrngReg), Pre_DhBIdeal m →
    (∀ c : Dev Cert.DhBIdeal.nD,
      m' ((c.tc : Thread Cert.DhBRefIdeal.nD Cert.DhBRefIdeal.τ).loc Cert.DhBRefIdeal.main_arg0) = m ((c.tc : Thread Cert.DhBIdeal.nD Cert.DhBIdeal.τ).loc Cert.DhBIdeal.main_arg0)
      ∧ m' ((c.tc : Thread Cert.DhBRefIdeal.nD Cert.DhBRefIdeal.τ).loc Cert.DhBRefIdeal.main_arg1) = m ((c.tc : Thread Cert.DhBIdeal.nD Cert.DhBIdeal.τ).loc Cert.DhBIdeal.main_arg1)
      ∧ m' ((c.tc : Thread Cert.DhBRefIdeal.nD Cert.DhBRefIdeal.τ).loc Cert.DhBRefIdeal.main_arg2) = m ((c.tc : Thread Cert.DhBIdeal.nD Cert.DhBIdeal.τ).loc Cert.DhBIdeal.main_arg2)) →
    ∃ (v0 : (c : Dev Cert.DhBIdeal.nD) → Buf (Elt Ideal) ((c.tc : Thread Cert.DhBIdeal.nD Cert.DhBIdeal.τ).loc Cert.DhBIdeal.main_v0)),
      θ_run (Cert.DhBIdeal.defs (F := Ideal)) (onTc (τ := Cert.DhBIdeal.τ) (Cert.DhBIdeal.main (F := Ideal))) ⟨m, fun _ => 0, g⟩ (fun r => ∀ c : Dev Cert.DhBIdeal.nD,
          r.2.mem ((c.tc : Thread Cert.DhBIdeal.nD Cert.DhBIdeal.τ).loc Cert.DhBIdeal.main_v0) = v0 c
          ∧ r.2.mem ((c.tc : Thread Cert.DhBIdeal.nD Cert.DhBIdeal.τ).loc Cert.DhBIdeal.main_arg0) = m ((c.tc : Thread Cert.DhBIdeal.nD Cert.DhBIdeal.τ).loc Cert.DhBIdeal.main_arg0)
          ∧ r.2.mem ((c.tc : Thread Cert.DhBIdeal.nD Cert.DhBIdeal.τ).loc Cert.DhBIdeal.main_arg1) = m ((c.tc : Thread Cert.DhBIdeal.nD Cert.DhBIdeal.τ).loc Cert.DhBIdeal.main_arg1)
          ∧ r.2.mem ((c.tc : Thread Cert.DhBIdeal.nD Cert.DhBIdeal.τ).loc Cert.DhBIdeal.main_arg2) = m ((c.tc : Thread Cert.DhBIdeal.nD Cert.DhBIdeal.τ).loc Cert.DhBIdeal.main_arg2))
      ∧ θ_run (Cert.DhBRefIdeal.defs (F := Ideal)) (onTc (τ := Cert.DhBRefIdeal.τ) (Cert.DhBRefIdeal.main (F := Ideal))) ⟨m', fun _ => 0, g'⟩ (fun r => ∀ c : Dev Cert.DhBRefIdeal.nD,
          r.2.mem ((c.tc : Thread Cert.DhBRefIdeal.nD Cert.DhBRefIdeal.τ).loc Cert.DhBRefIdeal.main_v5) = v0 c
          ∧ r.2.mem ((c.tc : Thread Cert.DhBRefIdeal.nD Cert.DhBRefIdeal.τ).loc Cert.DhBRefIdeal.main_arg0) = m' ((c.tc : Thread Cert.DhBRefIdeal.nD Cert.DhBRefIdeal.τ).loc Cert.DhBRefIdeal.main_arg0)
          ∧ r.2.mem ((c.tc : Thread Cert.DhBRefIdeal.nD Cert.DhBRefIdeal.τ).loc Cert.DhBRefIdeal.main_arg1) = m' ((c.tc : Thread Cert.DhBRefIdeal.nD Cert.DhBRefIdeal.τ).loc Cert.DhBRefIdeal.main_arg1)
          ∧ r.2.mem ((c.tc : Thread Cert.DhBRefIdeal.nD Cert.DhBRefIdeal.τ).loc Cert.DhBRefIdeal.main_arg2) = m' ((c.tc : Thread Cert.DhBRefIdeal.nD Cert.DhBRefIdeal.τ).loc Cert.DhBRefIdeal.main_arg2))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v5) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_DwB_DwBIdeal : Prop :=
  True

def algebraic_DwBIdeal_DwBRefIdeal [hDwBIdeal : Cert.DwBIdeal.Facts] [hDwBRefIdeal : Cert.DwBRefIdeal.Facts] : Prop :=
  ∀ (m : (ℓ : Loc Cert.DwBIdeal.nD Cert.DwBIdeal.τ Cert.DwBIdeal.sig) → Buf (Elt Ideal) ℓ) (g : Dev Cert.DwBIdeal.nD → PrngReg)
    (m' : (ℓ : Loc Cert.DwBRefIdeal.nD Cert.DwBRefIdeal.τ Cert.DwBRefIdeal.sig) → Buf (Elt Ideal) ℓ) (g' : Dev Cert.DwBRefIdeal.nD → PrngReg), Pre_DwBIdeal m →
    (∀ c : Dev Cert.DwBIdeal.nD,
      m' ((c.tc : Thread Cert.DwBRefIdeal.nD Cert.DwBRefIdeal.τ).loc Cert.DwBRefIdeal.main_arg0) = m ((c.tc : Thread Cert.DwBIdeal.nD Cert.DwBIdeal.τ).loc Cert.DwBIdeal.main_arg0)
      ∧ m' ((c.tc : Thread Cert.DwBRefIdeal.nD Cert.DwBRefIdeal.τ).loc Cert.DwBRefIdeal.main_arg1) = m ((c.tc : Thread Cert.DwBIdeal.nD Cert.DwBIdeal.τ).loc Cert.DwBIdeal.main_arg1)) →
    ∃ (v0 : (c : Dev Cert.DwBIdeal.nD) → Buf (Elt Ideal) ((c.tc : Thread Cert.DwBIdeal.nD Cert.DwBIdeal.τ).loc Cert.DwBIdeal.main_v0)),
      θ_run (Cert.DwBIdeal.defs (F := Ideal)) (onTc (τ := Cert.DwBIdeal.τ) (Cert.DwBIdeal.main (F := Ideal))) ⟨m, fun _ => 0, g⟩ (fun r => ∀ c : Dev Cert.DwBIdeal.nD,
          r.2.mem ((c.tc : Thread Cert.DwBIdeal.nD Cert.DwBIdeal.τ).loc Cert.DwBIdeal.main_v0) = v0 c
          ∧ r.2.mem ((c.tc : Thread Cert.DwBIdeal.nD Cert.DwBIdeal.τ).loc Cert.DwBIdeal.main_arg0) = m ((c.tc : Thread Cert.DwBIdeal.nD Cert.DwBIdeal.τ).loc Cert.DwBIdeal.main_arg0)
          ∧ r.2.mem ((c.tc : Thread Cert.DwBIdeal.nD Cert.DwBIdeal.τ).loc Cert.DwBIdeal.main_arg1) = m ((c.tc : Thread Cert.DwBIdeal.nD Cert.DwBIdeal.τ).loc Cert.DwBIdeal.main_arg1))
      ∧ θ_run (Cert.DwBRefIdeal.defs (F := Ideal)) (onTc (τ := Cert.DwBRefIdeal.τ) (Cert.DwBRefIdeal.main (F := Ideal))) ⟨m', fun _ => 0, g'⟩ (fun r => ∀ c : Dev Cert.DwBRefIdeal.nD,
          r.2.mem ((c.tc : Thread Cert.DwBRefIdeal.nD Cert.DwBRefIdeal.τ).loc Cert.DwBRefIdeal.main_v6) = v0 c
          ∧ r.2.mem ((c.tc : Thread Cert.DwBRefIdeal.nD Cert.DwBRefIdeal.τ).loc Cert.DwBRefIdeal.main_arg0) = m' ((c.tc : Thread Cert.DwBRefIdeal.nD Cert.DwBRefIdeal.τ).loc Cert.DwBRefIdeal.main_arg0)
          ∧ r.2.mem ((c.tc : Thread Cert.DwBRefIdeal.nD Cert.DwBRefIdeal.τ).loc Cert.DwBRefIdeal.main_arg1) = m' ((c.tc : Thread Cert.DwBRefIdeal.nD Cert.DwBRefIdeal.τ).loc Cert.DwBRefIdeal.main_arg1))

def preserves_Attn_AttnIdeal : Prop :=
  IdealRules.named_const.Statement Cert.AttnIdeal.κ "mask" .f32 0xF149F2CA#32 ⊥

def algebraic_AttnIdeal_AttnRefIdeal_pre_inputs_finite [hAttnIdeal : Cert.AttnIdeal.Facts] [hAttnRefIdeal : Cert.AttnRefIdeal.Facts] [hPre_inputs_finite : Cert.Pre_inputs_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_inputs_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v100_0)) (v1 : (c : Dev Cert.AttnIdeal.nD) → Buf (Elt Ideal) ((c.tc : Thread Cert.AttnIdeal.nD Cert.AttnIdeal.τ).loc Cert.AttnIdeal.main_v100_1)) (v2 : (c : Dev Cert.AttnIdeal.nD) → Buf (Elt Ideal) ((c.tc : Thread Cert.AttnIdeal.nD Cert.AttnIdeal.τ).loc Cert.AttnIdeal.main_v100_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v100_0) = v0 c
          ∧ r.2.mem ((c.tc : Thread Cert.AttnIdeal.nD Cert.AttnIdeal.τ).loc Cert.AttnIdeal.main_v100_1) = v1 c
          ∧ r.2.mem ((c.tc : Thread Cert.AttnIdeal.nD Cert.AttnIdeal.τ).loc Cert.AttnIdeal.main_v100_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v186) = v0 c
          ∧ r.2.mem ((c.tc : Thread Cert.AttnRefIdeal.nD Cert.AttnRefIdeal.τ).loc Cert.AttnRefIdeal.main_v184) = v1 c
          ∧ r.2.mem ((c.tc : Thread Cert.AttnRefIdeal.nD Cert.AttnRefIdeal.τ).loc Cert.AttnRefIdeal.main_v182) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_OutTok_OutTokIdeal : Prop :=
  True

def algebraic_OutTokIdeal_OutTokRefIdeal [hOutTokIdeal : Cert.OutTokIdeal.Facts] [hOutTokRefIdeal : Cert.OutTokRefIdeal.Facts] : Prop :=
  ∀ (m : (ℓ : Loc Cert.OutTokIdeal.nD Cert.OutTokIdeal.τ Cert.OutTokIdeal.sig) → Buf (Elt Ideal) ℓ) (g : Dev Cert.OutTokIdeal.nD → PrngReg)
    (m' : (ℓ : Loc Cert.OutTokRefIdeal.nD Cert.OutTokRefIdeal.τ Cert.OutTokRefIdeal.sig) → Buf (Elt Ideal) ℓ) (g' : Dev Cert.OutTokRefIdeal.nD → PrngReg), Pre_OutTokIdeal m →
    (∀ c : Dev Cert.OutTokIdeal.nD,
      m' ((c.tc : Thread Cert.OutTokRefIdeal.nD Cert.OutTokRefIdeal.τ).loc Cert.OutTokRefIdeal.main_arg0) = m ((c.tc : Thread Cert.OutTokIdeal.nD Cert.OutTokIdeal.τ).loc Cert.OutTokIdeal.main_arg0)
      ∧ m' ((c.tc : Thread Cert.OutTokRefIdeal.nD Cert.OutTokRefIdeal.τ).loc Cert.OutTokRefIdeal.main_arg1) = m ((c.tc : Thread Cert.OutTokIdeal.nD Cert.OutTokIdeal.τ).loc Cert.OutTokIdeal.main_arg1)
      ∧ m' ((c.tc : Thread Cert.OutTokRefIdeal.nD Cert.OutTokRefIdeal.τ).loc Cert.OutTokRefIdeal.main_arg2) = m ((c.tc : Thread Cert.OutTokIdeal.nD Cert.OutTokIdeal.τ).loc Cert.OutTokIdeal.main_arg2)) →
    ∃ (v0 : (c : Dev Cert.OutTokIdeal.nD) → Buf (Elt Ideal) ((c.tc : Thread Cert.OutTokIdeal.nD Cert.OutTokIdeal.τ).loc Cert.OutTokIdeal.main_v0)),
      θ_run (Cert.OutTokIdeal.defs (F := Ideal)) (onTc (τ := Cert.OutTokIdeal.τ) (Cert.OutTokIdeal.main (F := Ideal))) ⟨m, fun _ => 0, g⟩ (fun r => ∀ c : Dev Cert.OutTokIdeal.nD,
          r.2.mem ((c.tc : Thread Cert.OutTokIdeal.nD Cert.OutTokIdeal.τ).loc Cert.OutTokIdeal.main_v0) = v0 c
          ∧ r.2.mem ((c.tc : Thread Cert.OutTokIdeal.nD Cert.OutTokIdeal.τ).loc Cert.OutTokIdeal.main_arg0) = m ((c.tc : Thread Cert.OutTokIdeal.nD Cert.OutTokIdeal.τ).loc Cert.OutTokIdeal.main_arg0)
          ∧ r.2.mem ((c.tc : Thread Cert.OutTokIdeal.nD Cert.OutTokIdeal.τ).loc Cert.OutTokIdeal.main_arg1) = m ((c.tc : Thread Cert.OutTokIdeal.nD Cert.OutTokIdeal.τ).loc Cert.OutTokIdeal.main_arg1)
          ∧ r.2.mem ((c.tc : Thread Cert.OutTokIdeal.nD Cert.OutTokIdeal.τ).loc Cert.OutTokIdeal.main_arg2) = m ((c.tc : Thread Cert.OutTokIdeal.nD Cert.OutTokIdeal.τ).loc Cert.OutTokIdeal.main_arg2))
      ∧ θ_run (Cert.OutTokRefIdeal.defs (F := Ideal)) (onTc (τ := Cert.OutTokRefIdeal.τ) (Cert.OutTokRefIdeal.main (F := Ideal))) ⟨m', fun _ => 0, g'⟩ (fun r => ∀ c : Dev Cert.OutTokRefIdeal.nD,
          r.2.mem ((c.tc : Thread Cert.OutTokRefIdeal.nD Cert.OutTokRefIdeal.τ).loc Cert.OutTokRefIdeal.main_v3) = v0 c
          ∧ r.2.mem ((c.tc : Thread Cert.OutTokRefIdeal.nD Cert.OutTokRefIdeal.τ).loc Cert.OutTokRefIdeal.main_arg0) = m' ((c.tc : Thread Cert.OutTokRefIdeal.nD Cert.OutTokRefIdeal.τ).loc Cert.OutTokRefIdeal.main_arg0)
          ∧ r.2.mem ((c.tc : Thread Cert.OutTokRefIdeal.nD Cert.OutTokRefIdeal.τ).loc Cert.OutTokRefIdeal.main_arg1) = m' ((c.tc : Thread Cert.OutTokRefIdeal.nD Cert.OutTokRefIdeal.τ).loc Cert.OutTokRefIdeal.main_arg1)
          ∧ r.2.mem ((c.tc : Thread Cert.OutTokRefIdeal.nD Cert.OutTokRefIdeal.τ).loc Cert.OutTokRefIdeal.main_arg2) = m' ((c.tc : Thread Cert.OutTokRefIdeal.nD Cert.OutTokRefIdeal.τ).loc Cert.OutTokRefIdeal.main_arg2))

def preserves_GateTok_GateTokIdeal : Prop :=
  True

def algebraic_GateTokIdeal_GateTokRefIdeal [hGateTokIdeal : Cert.GateTokIdeal.Facts] [hGateTokRefIdeal : Cert.GateTokRefIdeal.Facts] : Prop :=
  ∀ (m : (ℓ : Loc Cert.GateTokIdeal.nD Cert.GateTokIdeal.τ Cert.GateTokIdeal.sig) → Buf (Elt Ideal) ℓ) (g : Dev Cert.GateTokIdeal.nD → PrngReg)
    (m' : (ℓ : Loc Cert.GateTokRefIdeal.nD Cert.GateTokRefIdeal.τ Cert.GateTokRefIdeal.sig) → Buf (Elt Ideal) ℓ) (g' : Dev Cert.GateTokRefIdeal.nD → PrngReg), Pre_GateTokIdeal m →
    (∀ c : Dev Cert.GateTokIdeal.nD,
      m' ((c.tc : Thread Cert.GateTokRefIdeal.nD Cert.GateTokRefIdeal.τ).loc Cert.GateTokRefIdeal.main_arg0) = m ((c.tc : Thread Cert.GateTokIdeal.nD Cert.GateTokIdeal.τ).loc Cert.GateTokIdeal.main_arg0)
      ∧ m' ((c.tc : Thread Cert.GateTokRefIdeal.nD Cert.GateTokRefIdeal.τ).loc Cert.GateTokRefIdeal.main_arg1) = m ((c.tc : Thread Cert.GateTokIdeal.nD Cert.GateTokIdeal.τ).loc Cert.GateTokIdeal.main_arg1)) →
    ∃ (v0 : (c : Dev Cert.GateTokIdeal.nD) → Buf (Elt Ideal) ((c.tc : Thread Cert.GateTokIdeal.nD Cert.GateTokIdeal.τ).loc Cert.GateTokIdeal.main_v0)),
      θ_run (Cert.GateTokIdeal.defs (F := Ideal)) (onTc (τ := Cert.GateTokIdeal.τ) (Cert.GateTokIdeal.main (F := Ideal))) ⟨m, fun _ => 0, g⟩ (fun r => ∀ c : Dev Cert.GateTokIdeal.nD,
          r.2.mem ((c.tc : Thread Cert.GateTokIdeal.nD Cert.GateTokIdeal.τ).loc Cert.GateTokIdeal.main_v0) = v0 c
          ∧ r.2.mem ((c.tc : Thread Cert.GateTokIdeal.nD Cert.GateTokIdeal.τ).loc Cert.GateTokIdeal.main_arg0) = m ((c.tc : Thread Cert.GateTokIdeal.nD Cert.GateTokIdeal.τ).loc Cert.GateTokIdeal.main_arg0)
          ∧ r.2.mem ((c.tc : Thread Cert.GateTokIdeal.nD Cert.GateTokIdeal.τ).loc Cert.GateTokIdeal.main_arg1) = m ((c.tc : Thread Cert.GateTokIdeal.nD Cert.GateTokIdeal.τ).loc Cert.GateTokIdeal.main_arg1))
      ∧ θ_run (Cert.GateTokRefIdeal.defs (F := Ideal)) (onTc (τ := Cert.GateTokRefIdeal.τ) (Cert.GateTokRefIdeal.main (F := Ideal))) ⟨m', fun _ => 0, g'⟩ (fun r => ∀ c : Dev Cert.GateTokRefIdeal.nD,
          r.2.mem ((c.tc : Thread Cert.GateTokRefIdeal.nD Cert.GateTokRefIdeal.τ).loc Cert.GateTokRefIdeal.main_v4) = v0 c
          ∧ r.2.mem ((c.tc : Thread Cert.GateTokRefIdeal.nD Cert.GateTokRefIdeal.τ).loc Cert.GateTokRefIdeal.main_arg0) = m' ((c.tc : Thread Cert.GateTokRefIdeal.nD Cert.GateTokRefIdeal.τ).loc Cert.GateTokRefIdeal.main_arg0)
          ∧ r.2.mem ((c.tc : Thread Cert.GateTokRefIdeal.nD Cert.GateTokRefIdeal.τ).loc Cert.GateTokRefIdeal.main_arg1) = m' ((c.tc : Thread Cert.GateTokRefIdeal.nD Cert.GateTokRefIdeal.τ).loc Cert.GateTokRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_InXbc_InXbcIdeal : Prop :=
  True

def algebraic_InXbcIdeal_InXbcRefIdeal [hInXbcIdeal : Cert.InXbcIdeal.Facts] [hInXbcRefIdeal : Cert.InXbcRefIdeal.Facts] : Prop :=
  ∀ (m : (ℓ : Loc Cert.InXbcIdeal.nD Cert.InXbcIdeal.τ Cert.InXbcIdeal.sig) → Buf (Elt Ideal) ℓ) (g : Dev Cert.InXbcIdeal.nD → PrngReg)
    (m' : (ℓ : Loc Cert.InXbcRefIdeal.nD Cert.InXbcRefIdeal.τ Cert.InXbcRefIdeal.sig) → Buf (Elt Ideal) ℓ) (g' : Dev Cert.InXbcRefIdeal.nD → PrngReg), Pre_InXbcIdeal m →
    (∀ c : Dev Cert.InXbcIdeal.nD,
      m' ((c.tc : Thread Cert.InXbcRefIdeal.nD Cert.InXbcRefIdeal.τ).loc Cert.InXbcRefIdeal.main_arg0) = m ((c.tc : Thread Cert.InXbcIdeal.nD Cert.InXbcIdeal.τ).loc Cert.InXbcIdeal.main_arg0)
      ∧ m' ((c.tc : Thread Cert.InXbcRefIdeal.nD Cert.InXbcRefIdeal.τ).loc Cert.InXbcRefIdeal.main_arg1) = m ((c.tc : Thread Cert.InXbcIdeal.nD Cert.InXbcIdeal.τ).loc Cert.InXbcIdeal.main_arg1)) →
    ∃ (v0 : (c : Dev Cert.InXbcIdeal.nD) → Buf (Elt Ideal) ((c.tc : Thread Cert.InXbcIdeal.nD Cert.InXbcIdeal.τ).loc Cert.InXbcIdeal.main_v0)),
      θ_run (Cert.InXbcIdeal.defs (F := Ideal)) (onTc (τ := Cert.InXbcIdeal.τ) (Cert.InXbcIdeal.main (F := Ideal))) ⟨m, fun _ => 0, g⟩ (fun r => ∀ c : Dev Cert.InXbcIdeal.nD,
          r.2.mem ((c.tc : Thread Cert.InXbcIdeal.nD Cert.InXbcIdeal.τ).loc Cert.InXbcIdeal.main_v0) = v0 c
          ∧ r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
          ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ θ_run (Cert.InXbcRefIdeal.defs (F := Ideal)) (onTc (τ := Cert.InXbcRefIdeal.τ) (Cert.InXbcRefIdeal.main (F := Ideal))) ⟨m', fun _ => 0, g'⟩ (fun r => ∀ c : Dev Cert.InXbcRefIdeal.nD,
          r.2.mem ((c.tc : Thread Cert.InXbcRefIdeal.nD Cert.InXbcRefIdeal.τ).loc Cert.InXbcRefIdeal.main_v2) = v0 c
          ∧ r.2.mem ((c.tc : Thread Cert.InXbcRefIdeal.nD Cert.InXbcRefIdeal.τ).loc Cert.InXbcRefIdeal.main_arg0) = m' ((c.tc : Thread Cert.InXbcRefIdeal.nD Cert.InXbcRefIdeal.τ).loc Cert.InXbcRefIdeal.main_arg0)
          ∧ r.2.mem ((c.tc : Thread Cert.InXbcRefIdeal.nD Cert.InXbcRefIdeal.τ).loc Cert.InXbcRefIdeal.main_arg1) = m' ((c.tc : Thread Cert.InXbcRefIdeal.nD Cert.InXbcRefIdeal.τ).loc Cert.InXbcRefIdeal.main_arg1))

def preserves_DhXbc_DhXbcIdeal : Prop :=
  True

def algebraic_DhXbcIdeal_DhXbcRefIdeal [hDhXbcIdeal : Cert.DhXbcIdeal.Facts] [hDhXbcRefIdeal : Cert.DhXbcRefIdeal.Facts] : Prop :=
  ∀ (m : (ℓ : Loc Cert.DhXbcIdeal.nD Cert.DhXbcIdeal.τ Cert.DhXbcIdeal.sig) → Buf (Elt Ideal) ℓ) (g : Dev Cert.DhXbcIdeal.nD → PrngReg)
    (m' : (ℓ : Loc Cert.DhXbcRefIdeal.nD Cert.DhXbcRefIdeal.τ Cert.DhXbcRefIdeal.sig) → Buf (Elt Ideal) ℓ) (g' : Dev Cert.DhXbcRefIdeal.nD → PrngReg), Pre_DhXbcIdeal m →
    (∀ c : Dev Cert.DhXbcIdeal.nD,
      m' ((c.tc : Thread Cert.DhXbcRefIdeal.nD Cert.DhXbcRefIdeal.τ).loc Cert.DhXbcRefIdeal.main_arg0) = m ((c.tc : Thread Cert.DhXbcIdeal.nD Cert.DhXbcIdeal.τ).loc Cert.DhXbcIdeal.main_arg0)
      ∧ m' ((c.tc : Thread Cert.DhXbcRefIdeal.nD Cert.DhXbcRefIdeal.τ).loc Cert.DhXbcRefIdeal.main_arg1) = m ((c.tc : Thread Cert.DhXbcIdeal.nD Cert.DhXbcIdeal.τ).loc Cert.DhXbcIdeal.main_arg1)) →
    ∃ (v0 : (c : Dev Cert.DhXbcIdeal.nD) → Buf (Elt Ideal) ((c.tc : Thread Cert.DhXbcIdeal.nD Cert.DhXbcIdeal.τ).loc Cert.DhXbcIdeal.main_v0)),
      θ_run (Cert.DhXbcIdeal.defs (F := Ideal)) (onTc (τ := Cert.DhXbcIdeal.τ) (Cert.DhXbcIdeal.main (F := Ideal))) ⟨m, fun _ => 0, g⟩ (fun r => ∀ c : Dev Cert.DhXbcIdeal.nD,
          r.2.mem ((c.tc : Thread Cert.DhXbcIdeal.nD Cert.DhXbcIdeal.τ).loc Cert.DhXbcIdeal.main_v0) = v0 c
          ∧ r.2.mem ((c.tc : Thread Cert.DhXbcIdeal.nD Cert.DhXbcIdeal.τ).loc Cert.DhXbcIdeal.main_arg0) = m ((c.tc : Thread Cert.DhXbcIdeal.nD Cert.DhXbcIdeal.τ).loc Cert.DhXbcIdeal.main_arg0)
          ∧ r.2.mem ((c.tc : Thread Cert.DhXbcIdeal.nD Cert.DhXbcIdeal.τ).loc Cert.DhXbcIdeal.main_arg1) = m ((c.tc : Thread Cert.DhXbcIdeal.nD Cert.DhXbcIdeal.τ).loc Cert.DhXbcIdeal.main_arg1))
      ∧ θ_run (Cert.DhXbcRefIdeal.defs (F := Ideal)) (onTc (τ := Cert.DhXbcRefIdeal.τ) (Cert.DhXbcRefIdeal.main (F := Ideal))) ⟨m', fun _ => 0, g'⟩ (fun r => ∀ c : Dev Cert.DhXbcRefIdeal.nD,
          r.2.mem ((c.tc : Thread Cert.DhXbcRefIdeal.nD Cert.DhXbcRefIdeal.τ).loc Cert.DhXbcRefIdeal.main_v4) = v0 c
          ∧ r.2.mem ((c.tc : Thread Cert.DhXbcRefIdeal.nD Cert.DhXbcRefIdeal.τ).loc Cert.DhXbcRefIdeal.main_arg0) = m' ((c.tc : Thread Cert.DhXbcRefIdeal.nD Cert.DhXbcRefIdeal.τ).loc Cert.DhXbcRefIdeal.main_arg0)
          ∧ r.2.mem ((c.tc : Thread Cert.DhXbcRefIdeal.nD Cert.DhXbcRefIdeal.τ).loc Cert.DhXbcRefIdeal.main_arg1) = m' ((c.tc : Thread Cert.DhXbcRefIdeal.nD Cert.DhXbcRefIdeal.τ).loc Cert.DhXbcRefIdeal.main_arg1))

def preserves_DwXbc_DwXbcIdeal : Prop :=
  True

def algebraic_DwXbcIdeal_DwXbcRefIdeal [hDwXbcIdeal : Cert.DwXbcIdeal.Facts] [hDwXbcRefIdeal : Cert.DwXbcRefIdeal.Facts] : Prop :=
  ∀ (m : (ℓ : Loc Cert.DwXbcIdeal.nD Cert.DwXbcIdeal.τ Cert.DwXbcIdeal.sig) → Buf (Elt Ideal) ℓ) (g : Dev Cert.DwXbcIdeal.nD → PrngReg)
    (m' : (ℓ : Loc Cert.DwXbcRefIdeal.nD Cert.DwXbcRefIdeal.τ Cert.DwXbcRefIdeal.sig) → Buf (Elt Ideal) ℓ) (g' : Dev Cert.DwXbcRefIdeal.nD → PrngReg), Pre_DwXbcIdeal m →
    (∀ c : Dev Cert.DwXbcIdeal.nD,
      m' ((c.tc : Thread Cert.DwXbcRefIdeal.nD Cert.DwXbcRefIdeal.τ).loc Cert.DwXbcRefIdeal.main_arg0) = m ((c.tc : Thread Cert.DwXbcIdeal.nD Cert.DwXbcIdeal.τ).loc Cert.DwXbcIdeal.main_arg0)
      ∧ m' ((c.tc : Thread Cert.DwXbcRefIdeal.nD Cert.DwXbcRefIdeal.τ).loc Cert.DwXbcRefIdeal.main_arg1) = m ((c.tc : Thread Cert.DwXbcIdeal.nD Cert.DwXbcIdeal.τ).loc Cert.DwXbcIdeal.main_arg1)) →
    ∃ (v0 : (c : Dev Cert.DwXbcIdeal.nD) → Buf (Elt Ideal) ((c.tc : Thread Cert.DwXbcIdeal.nD Cert.DwXbcIdeal.τ).loc Cert.DwXbcIdeal.main_v0)),
      θ_run (Cert.DwXbcIdeal.defs (F := Ideal)) (onTc (τ := Cert.DwXbcIdeal.τ) (Cert.DwXbcIdeal.main (F := Ideal))) ⟨m, fun _ => 0, g⟩ (fun r => ∀ c : Dev Cert.DwXbcIdeal.nD,
          r.2.mem ((c.tc : Thread Cert.DwXbcIdeal.nD Cert.DwXbcIdeal.τ).loc Cert.DwXbcIdeal.main_v0) = v0 c
          ∧ r.2.mem ((c.tc : Thread Cert.DwXbcIdeal.nD Cert.DwXbcIdeal.τ).loc Cert.DwXbcIdeal.main_arg0) = m ((c.tc : Thread Cert.DwXbcIdeal.nD Cert.DwXbcIdeal.τ).loc Cert.DwXbcIdeal.main_arg0)
          ∧ r.2.mem ((c.tc : Thread Cert.DwXbcIdeal.nD Cert.DwXbcIdeal.τ).loc Cert.DwXbcIdeal.main_arg1) = m ((c.tc : Thread Cert.DwXbcIdeal.nD Cert.DwXbcIdeal.τ).loc Cert.DwXbcIdeal.main_arg1))
      ∧ θ_run (Cert.DwXbcRefIdeal.defs (F := Ideal)) (onTc (τ := Cert.DwXbcRefIdeal.τ) (Cert.DwXbcRefIdeal.main (F := Ideal))) ⟨m', fun _ => 0, g'⟩ (fun r => ∀ c : Dev Cert.DwXbcRefIdeal.nD,
          r.2.mem ((c.tc : Thread Cert.DwXbcRefIdeal.nD Cert.DwXbcRefIdeal.τ).loc Cert.DwXbcRefIdeal.main_v6) = v0 c
          ∧ r.2.mem ((c.tc : Thread Cert.DwXbcRefIdeal.nD Cert.DwXbcRefIdeal.τ).loc Cert.DwXbcRefIdeal.main_arg0) = m' ((c.tc : Thread Cert.DwXbcRefIdeal.nD Cert.DwXbcRefIdeal.τ).loc Cert.DwXbcRefIdeal.main_arg0)
          ∧ r.2.mem ((c.tc : Thread Cert.DwXbcRefIdeal.nD Cert.DwXbcRefIdeal.τ).loc Cert.DwXbcRefIdeal.main_arg1) = m' ((c.tc : Thread Cert.DwXbcRefIdeal.nD Cert.DwXbcRefIdeal.τ).loc Cert.DwXbcRefIdeal.main_arg1))

def preserves_DhFirst_DhFirstIdeal : Prop :=
  True

def algebraic_DhFirstIdeal_DhFirstRefIdeal [hDhFirstIdeal : Cert.DhFirstIdeal.Facts] [hDhFirstRefIdeal : Cert.DhFirstRefIdeal.Facts] : Prop :=
  ∀ (m : (ℓ : Loc Cert.DhFirstIdeal.nD Cert.DhFirstIdeal.τ Cert.DhFirstIdeal.sig) → Buf (Elt Ideal) ℓ) (g : Dev Cert.DhFirstIdeal.nD → PrngReg)
    (m' : (ℓ : Loc Cert.DhFirstRefIdeal.nD Cert.DhFirstRefIdeal.τ Cert.DhFirstRefIdeal.sig) → Buf (Elt Ideal) ℓ) (g' : Dev Cert.DhFirstRefIdeal.nD → PrngReg), Pre_DhFirstIdeal m →
    (∀ c : Dev Cert.DhFirstIdeal.nD,
      m' ((c.tc : Thread Cert.DhFirstRefIdeal.nD Cert.DhFirstRefIdeal.τ).loc Cert.DhFirstRefIdeal.main_arg0) = m ((c.tc : Thread Cert.DhFirstIdeal.nD Cert.DhFirstIdeal.τ).loc Cert.DhFirstIdeal.main_arg0)
      ∧ m' ((c.tc : Thread Cert.DhFirstRefIdeal.nD Cert.DhFirstRefIdeal.τ).loc Cert.DhFirstRefIdeal.main_arg1) = m ((c.tc : Thread Cert.DhFirstIdeal.nD Cert.DhFirstIdeal.τ).loc Cert.DhFirstIdeal.main_arg1)) →
    ∃ (v0 : (c : Dev Cert.DhFirstIdeal.nD) → Buf (Elt Ideal) ((c.tc : Thread Cert.DhFirstIdeal.nD Cert.DhFirstIdeal.τ).loc Cert.DhFirstIdeal.main_v0)),
      θ_run (Cert.DhFirstIdeal.defs (F := Ideal)) (onTc (τ := Cert.DhFirstIdeal.τ) (Cert.DhFirstIdeal.main (F := Ideal))) ⟨m, fun _ => 0, g⟩ (fun r => ∀ c : Dev Cert.DhFirstIdeal.nD,
          r.2.mem ((c.tc : Thread Cert.DhFirstIdeal.nD Cert.DhFirstIdeal.τ).loc Cert.DhFirstIdeal.main_v0) = v0 c
          ∧ r.2.mem ((c.tc : Thread Cert.DhFirstIdeal.nD Cert.DhFirstIdeal.τ).loc Cert.DhFirstIdeal.main_arg0) = m ((c.tc : Thread Cert.DhFirstIdeal.nD Cert.DhFirstIdeal.τ).loc Cert.DhFirstIdeal.main_arg0)
          ∧ r.2.mem ((c.tc : Thread Cert.DhFirstIdeal.nD Cert.DhFirstIdeal.τ).loc Cert.DhFirstIdeal.main_arg1) = m ((c.tc : Thread Cert.DhFirstIdeal.nD Cert.DhFirstIdeal.τ).loc Cert.DhFirstIdeal.main_arg1))
      ∧ θ_run (Cert.DhFirstRefIdeal.defs (F := Ideal)) (onTc (τ := Cert.DhFirstRefIdeal.τ) (Cert.DhFirstRefIdeal.main (F := Ideal))) ⟨m', fun _ => 0, g'⟩ (fun r => ∀ c : Dev Cert.DhFirstRefIdeal.nD,
          r.2.mem ((c.tc : Thread Cert.DhFirstRefIdeal.nD Cert.DhFirstRefIdeal.τ).loc Cert.DhFirstRefIdeal.main_v4) = v0 c
          ∧ r.2.mem ((c.tc : Thread Cert.DhFirstRefIdeal.nD Cert.DhFirstRefIdeal.τ).loc Cert.DhFirstRefIdeal.main_arg0) = m' ((c.tc : Thread Cert.DhFirstRefIdeal.nD Cert.DhFirstRefIdeal.τ).loc Cert.DhFirstRefIdeal.main_arg0)
          ∧ r.2.mem ((c.tc : Thread Cert.DhFirstRefIdeal.nD Cert.DhFirstRefIdeal.τ).loc Cert.DhFirstRefIdeal.main_arg1) = m' ((c.tc : Thread Cert.DhFirstRefIdeal.nD Cert.DhFirstRefIdeal.τ).loc Cert.DhFirstRefIdeal.main_arg1))

def preserves_InMem_InMemIdeal : Prop :=
  True

def algebraic_InMemIdeal_InMemRefIdeal [hInMemIdeal : Cert.InMemIdeal.Facts] [hInMemRefIdeal : Cert.InMemRefIdeal.Facts] : Prop :=
  ∀ (m : (ℓ : Loc Cert.InMemIdeal.nD Cert.InMemIdeal.τ Cert.InMemIdeal.sig) → Buf (Elt Ideal) ℓ) (g : Dev Cert.InMemIdeal.nD → PrngReg)
    (m' : (ℓ : Loc Cert.InMemRefIdeal.nD Cert.InMemRefIdeal.τ Cert.InMemRefIdeal.sig) → Buf (Elt Ideal) ℓ) (g' : Dev Cert.InMemRefIdeal.nD → PrngReg), Pre_InMemIdeal m →
    (∀ c : Dev Cert.InMemIdeal.nD,
      m' ((c.tc : Thread Cert.InMemRefIdeal.nD Cert.InMemRefIdeal.τ).loc Cert.InMemRefIdeal.main_arg0) = m ((c.tc : Thread Cert.InMemIdeal.nD Cert.InMemIdeal.τ).loc Cert.InMemIdeal.main_arg0)
      ∧ m' ((c.tc : Thread Cert.InMemRefIdeal.nD Cert.InMemRefIdeal.τ).loc Cert.InMemRefIdeal.main_arg1) = m ((c.tc : Thread Cert.InMemIdeal.nD Cert.InMemIdeal.τ).loc Cert.InMemIdeal.main_arg1)) →
    ∃ (v0 : (c : Dev Cert.InMemIdeal.nD) → Buf (Elt Ideal) ((c.tc : Thread Cert.InMemIdeal.nD Cert.InMemIdeal.τ).loc Cert.InMemIdeal.main_v0)),
      θ_run (Cert.InMemIdeal.defs (F := Ideal)) (onTc (τ := Cert.InMemIdeal.τ) (Cert.InMemIdeal.main (F := Ideal))) ⟨m, fun _ => 0, g⟩ (fun r => ∀ c : Dev Cert.InMemIdeal.nD,
          r.2.mem ((c.tc : Thread Cert.InMemIdeal.nD Cert.InMemIdeal.τ).loc Cert.InMemIdeal.main_v0) = v0 c
          ∧ r.2.mem ((c.tc : Thread Cert.InMemIdeal.nD Cert.InMemIdeal.τ).loc Cert.InMemIdeal.main_arg0) = m ((c.tc : Thread Cert.InMemIdeal.nD Cert.InMemIdeal.τ).loc Cert.InMemIdeal.main_arg0)
          ∧ r.2.mem ((c.tc : Thread Cert.InMemIdeal.nD Cert.InMemIdeal.τ).loc Cert.InMemIdeal.main_arg1) = m ((c.tc : Thread Cert.InMemIdeal.nD Cert.InMemIdeal.τ).loc Cert.InMemIdeal.main_arg1))
      ∧ θ_run (Cert.InMemRefIdeal.defs (F := Ideal)) (onTc (τ := Cert.InMemRefIdeal.τ) (Cert.InMemRefIdeal.main (F := Ideal))) ⟨m', fun _ => 0, g'⟩ (fun r => ∀ c : Dev Cert.InMemRefIdeal.nD,
          r.2.mem ((c.tc : Thread Cert.InMemRefIdeal.nD Cert.InMemRefIdeal.τ).loc Cert.InMemRefIdeal.main_v2) = v0 c
          ∧ r.2.mem ((c.tc : Thread Cert.InMemRefIdeal.nD Cert.InMemRefIdeal.τ).loc Cert.InMemRefIdeal.main_arg0) = m' ((c.tc : Thread Cert.InMemRefIdeal.nD Cert.InMemRefIdeal.τ).loc Cert.InMemRefIdeal.main_arg0)
          ∧ r.2.mem ((c.tc : Thread Cert.InMemRefIdeal.nD Cert.InMemRefIdeal.τ).loc Cert.InMemRefIdeal.main_arg1) = m' ((c.tc : Thread Cert.InMemRefIdeal.nD Cert.InMemRefIdeal.τ).loc Cert.InMemRefIdeal.main_arg1))

def preserves_InMemB_InMemBIdeal : Prop :=
  True

def algebraic_InMemBIdeal_InMemBRefIdeal [hInMemBIdeal : Cert.InMemBIdeal.Facts] [hInMemBRefIdeal : Cert.InMemBRefIdeal.Facts] : Prop :=
  ∀ (m : (ℓ : Loc Cert.InMemBIdeal.nD Cert.InMemBIdeal.τ Cert.InMemBIdeal.sig) → Buf (Elt Ideal) ℓ) (g : Dev Cert.InMemBIdeal.nD → PrngReg)
    (m' : (ℓ : Loc Cert.InMemBRefIdeal.nD Cert.InMemBRefIdeal.τ Cert.InMemBRefIdeal.sig) → Buf (Elt Ideal) ℓ) (g' : Dev Cert.InMemBRefIdeal.nD → PrngReg), Pre_InMemBIdeal m →
    (∀ c : Dev Cert.InMemBIdeal.nD,
      m' ((c.tc : Thread Cert.InMemBRefIdeal.nD Cert.InMemBRefIdeal.τ).loc Cert.InMemBRefIdeal.main_arg0) = m ((c.tc : Thread Cert.InMemBIdeal.nD Cert.InMemBIdeal.τ).loc Cert.InMemBIdeal.main_arg0)
      ∧ m' ((c.tc : Thread Cert.InMemBRefIdeal.nD Cert.InMemBRefIdeal.τ).loc Cert.InMemBRefIdeal.main_arg1) = m ((c.tc : Thread Cert.InMemBIdeal.nD Cert.InMemBIdeal.τ).loc Cert.InMemBIdeal.main_arg1)) →
    ∃ (v0 : (c : Dev Cert.InMemBIdeal.nD) → Buf (Elt Ideal) ((c.tc : Thread Cert.InMemBIdeal.nD Cert.InMemBIdeal.τ).loc Cert.InMemBIdeal.main_v0)),
      θ_run (Cert.InMemBIdeal.defs (F := Ideal)) (onTc (τ := Cert.InMemBIdeal.τ) (Cert.InMemBIdeal.main (F := Ideal))) ⟨m, fun _ => 0, g⟩ (fun r => ∀ c : Dev Cert.InMemBIdeal.nD,
          r.2.mem ((c.tc : Thread Cert.InMemBIdeal.nD Cert.InMemBIdeal.τ).loc Cert.InMemBIdeal.main_v0) = v0 c
          ∧ r.2.mem ((c.tc : Thread Cert.InMemBIdeal.nD Cert.InMemBIdeal.τ).loc Cert.InMemBIdeal.main_arg0) = m ((c.tc : Thread Cert.InMemBIdeal.nD Cert.InMemBIdeal.τ).loc Cert.InMemBIdeal.main_arg0)
          ∧ r.2.mem ((c.tc : Thread Cert.InMemBIdeal.nD Cert.InMemBIdeal.τ).loc Cert.InMemBIdeal.main_arg1) = m ((c.tc : Thread Cert.InMemBIdeal.nD Cert.InMemBIdeal.τ).loc Cert.InMemBIdeal.main_arg1))
      ∧ θ_run (Cert.InMemBRefIdeal.defs (F := Ideal)) (onTc (τ := Cert.InMemBRefIdeal.τ) (Cert.InMemBRefIdeal.main (F := Ideal))) ⟨m', fun _ => 0, g'⟩ (fun r => ∀ c : Dev Cert.InMemBRefIdeal.nD,
          r.2.mem ((c.tc : Thread Cert.InMemBRefIdeal.nD Cert.InMemBRefIdeal.τ).loc Cert.InMemBRefIdeal.main_v3) = v0 c
          ∧ r.2.mem ((c.tc : Thread Cert.InMemBRefIdeal.nD Cert.InMemBRefIdeal.τ).loc Cert.InMemBRefIdeal.main_arg0) = m' ((c.tc : Thread Cert.InMemBRefIdeal.nD Cert.InMemBRefIdeal.τ).loc Cert.InMemBRefIdeal.main_arg0)
          ∧ r.2.mem ((c.tc : Thread Cert.InMemBRefIdeal.nD Cert.InMemBRefIdeal.τ).loc Cert.InMemBRefIdeal.main_arg1) = m' ((c.tc : Thread Cert.InMemBRefIdeal.nD Cert.InMemBRefIdeal.τ).loc Cert.InMemBRefIdeal.main_arg1))

def preserves_DhMem_DhMemIdeal : Prop :=
  True

def algebraic_DhMemIdeal_DhMemRefIdeal [hDhMemIdeal : Cert.DhMemIdeal.Facts] [hDhMemRefIdeal : Cert.DhMemRefIdeal.Facts] : Prop :=
  ∀ (m : (ℓ : Loc Cert.DhMemIdeal.nD Cert.DhMemIdeal.τ Cert.DhMemIdeal.sig) → Buf (Elt Ideal) ℓ) (g : Dev Cert.DhMemIdeal.nD → PrngReg)
    (m' : (ℓ : Loc Cert.DhMemRefIdeal.nD Cert.DhMemRefIdeal.τ Cert.DhMemRefIdeal.sig) → Buf (Elt Ideal) ℓ) (g' : Dev Cert.DhMemRefIdeal.nD → PrngReg), Pre_DhMemIdeal m →
    (∀ c : Dev Cert.DhMemIdeal.nD,
      m' ((c.tc : Thread Cert.DhMemRefIdeal.nD Cert.DhMemRefIdeal.τ).loc Cert.DhMemRefIdeal.main_arg0) = m ((c.tc : Thread Cert.DhMemIdeal.nD Cert.DhMemIdeal.τ).loc Cert.DhMemIdeal.main_arg0)
      ∧ m' ((c.tc : Thread Cert.DhMemRefIdeal.nD Cert.DhMemRefIdeal.τ).loc Cert.DhMemRefIdeal.main_arg1) = m ((c.tc : Thread Cert.DhMemIdeal.nD Cert.DhMemIdeal.τ).loc Cert.DhMemIdeal.main_arg1)
      ∧ m' ((c.tc : Thread Cert.DhMemRefIdeal.nD Cert.DhMemRefIdeal.τ).loc Cert.DhMemRefIdeal.main_arg2) = m ((c.tc : Thread Cert.DhMemIdeal.nD Cert.DhMemIdeal.τ).loc Cert.DhMemIdeal.main_arg2)) →
    ∃ (v0 : (c : Dev Cert.DhMemIdeal.nD) → Buf (Elt Ideal) ((c.tc : Thread Cert.DhMemIdeal.nD Cert.DhMemIdeal.τ).loc Cert.DhMemIdeal.main_v0)),
      θ_run (Cert.DhMemIdeal.defs (F := Ideal)) (onTc (τ := Cert.DhMemIdeal.τ) (Cert.DhMemIdeal.main (F := Ideal))) ⟨m, fun _ => 0, g⟩ (fun r => ∀ c : Dev Cert.DhMemIdeal.nD,
          r.2.mem ((c.tc : Thread Cert.DhMemIdeal.nD Cert.DhMemIdeal.τ).loc Cert.DhMemIdeal.main_v0) = v0 c
          ∧ r.2.mem ((c.tc : Thread Cert.DhMemIdeal.nD Cert.DhMemIdeal.τ).loc Cert.DhMemIdeal.main_arg0) = m ((c.tc : Thread Cert.DhMemIdeal.nD Cert.DhMemIdeal.τ).loc Cert.DhMemIdeal.main_arg0)
          ∧ r.2.mem ((c.tc : Thread Cert.DhMemIdeal.nD Cert.DhMemIdeal.τ).loc Cert.DhMemIdeal.main_arg1) = m ((c.tc : Thread Cert.DhMemIdeal.nD Cert.DhMemIdeal.τ).loc Cert.DhMemIdeal.main_arg1)
          ∧ r.2.mem ((c.tc : Thread Cert.DhMemIdeal.nD Cert.DhMemIdeal.τ).loc Cert.DhMemIdeal.main_arg2) = m ((c.tc : Thread Cert.DhMemIdeal.nD Cert.DhMemIdeal.τ).loc Cert.DhMemIdeal.main_arg2))
      ∧ θ_run (Cert.DhMemRefIdeal.defs (F := Ideal)) (onTc (τ := Cert.DhMemRefIdeal.τ) (Cert.DhMemRefIdeal.main (F := Ideal))) ⟨m', fun _ => 0, g'⟩ (fun r => ∀ c : Dev Cert.DhMemRefIdeal.nD,
          r.2.mem ((c.tc : Thread Cert.DhMemRefIdeal.nD Cert.DhMemRefIdeal.τ).loc Cert.DhMemRefIdeal.main_v5) = v0 c
          ∧ r.2.mem ((c.tc : Thread Cert.DhMemRefIdeal.nD Cert.DhMemRefIdeal.τ).loc Cert.DhMemRefIdeal.main_arg0) = m' ((c.tc : Thread Cert.DhMemRefIdeal.nD Cert.DhMemRefIdeal.τ).loc Cert.DhMemRefIdeal.main_arg0)
          ∧ r.2.mem ((c.tc : Thread Cert.DhMemRefIdeal.nD Cert.DhMemRefIdeal.τ).loc Cert.DhMemRefIdeal.main_arg1) = m' ((c.tc : Thread Cert.DhMemRefIdeal.nD Cert.DhMemRefIdeal.τ).loc Cert.DhMemRefIdeal.main_arg1)
          ∧ r.2.mem ((c.tc : Thread Cert.DhMemRefIdeal.nD Cert.DhMemRefIdeal.τ).loc Cert.DhMemRefIdeal.main_arg2) = m' ((c.tc : Thread Cert.DhMemRefIdeal.nD Cert.DhMemRefIdeal.τ).loc Cert.DhMemRefIdeal.main_arg2))

def preserves_DwMem_DwMemIdeal : Prop :=
  True

def algebraic_DwMemIdeal_DwMemRefIdeal [hDwMemIdeal : Cert.DwMemIdeal.Facts] [hDwMemRefIdeal : Cert.DwMemRefIdeal.Facts] : Prop :=
  ∀ (m : (ℓ : Loc Cert.DwMemIdeal.nD Cert.DwMemIdeal.τ Cert.DwMemIdeal.sig) → Buf (Elt Ideal) ℓ) (g : Dev Cert.DwMemIdeal.nD → PrngReg)
    (m' : (ℓ : Loc Cert.DwMemRefIdeal.nD Cert.DwMemRefIdeal.τ Cert.DwMemRefIdeal.sig) → Buf (Elt Ideal) ℓ) (g' : Dev Cert.DwMemRefIdeal.nD → PrngReg), Pre_DwMemIdeal m →
    (∀ c : Dev Cert.DwMemIdeal.nD,
      m' ((c.tc : Thread Cert.DwMemRefIdeal.nD Cert.DwMemRefIdeal.τ).loc Cert.DwMemRefIdeal.main_arg0) = m ((c.tc : Thread Cert.DwMemIdeal.nD Cert.DwMemIdeal.τ).loc Cert.DwMemIdeal.main_arg0)
      ∧ m' ((c.tc : Thread Cert.DwMemRefIdeal.nD Cert.DwMemRefIdeal.τ).loc Cert.DwMemRefIdeal.main_arg1) = m ((c.tc : Thread Cert.DwMemIdeal.nD Cert.DwMemIdeal.τ).loc Cert.DwMemIdeal.main_arg1)) →
    ∃ (v0 : (c : Dev Cert.DwMemIdeal.nD) → Buf (Elt Ideal) ((c.tc : Thread Cert.DwMemIdeal.nD Cert.DwMemIdeal.τ).loc Cert.DwMemIdeal.main_v0)),
      θ_run (Cert.DwMemIdeal.defs (F := Ideal)) (onTc (τ := Cert.DwMemIdeal.τ) (Cert.DwMemIdeal.main (F := Ideal))) ⟨m, fun _ => 0, g⟩ (fun r => ∀ c : Dev Cert.DwMemIdeal.nD,
          r.2.mem ((c.tc : Thread Cert.DwMemIdeal.nD Cert.DwMemIdeal.τ).loc Cert.DwMemIdeal.main_v0) = v0 c
          ∧ r.2.mem ((c.tc : Thread Cert.DwMemIdeal.nD Cert.DwMemIdeal.τ).loc Cert.DwMemIdeal.main_arg0) = m ((c.tc : Thread Cert.DwMemIdeal.nD Cert.DwMemIdeal.τ).loc Cert.DwMemIdeal.main_arg0)
          ∧ r.2.mem ((c.tc : Thread Cert.DwMemIdeal.nD Cert.DwMemIdeal.τ).loc Cert.DwMemIdeal.main_arg1) = m ((c.tc : Thread Cert.DwMemIdeal.nD Cert.DwMemIdeal.τ).loc Cert.DwMemIdeal.main_arg1))
      ∧ θ_run (Cert.DwMemRefIdeal.defs (F := Ideal)) (onTc (τ := Cert.DwMemRefIdeal.τ) (Cert.DwMemRefIdeal.main (F := Ideal))) ⟨m', fun _ => 0, g'⟩ (fun r => ∀ c : Dev Cert.DwMemRefIdeal.nD,
          r.2.mem ((c.tc : Thread Cert.DwMemRefIdeal.nD Cert.DwMemRefIdeal.τ).loc Cert.DwMemRefIdeal.main_v6) = v0 c
          ∧ r.2.mem ((c.tc : Thread Cert.DwMemRefIdeal.nD Cert.DwMemRefIdeal.τ).loc Cert.DwMemRefIdeal.main_arg0) = m' ((c.tc : Thread Cert.DwMemRefIdeal.nD Cert.DwMemRefIdeal.τ).loc Cert.DwMemRefIdeal.main_arg0)
          ∧ r.2.mem ((c.tc : Thread Cert.DwMemRefIdeal.nD Cert.DwMemRefIdeal.τ).loc Cert.DwMemRefIdeal.main_arg1) = m' ((c.tc : Thread Cert.DwMemRefIdeal.nD Cert.DwMemRefIdeal.τ).loc Cert.DwMemRefIdeal.main_arg1))

def preserves_OutMem_OutMemIdeal : Prop :=
  True

def algebraic_OutMemIdeal_OutMemRefIdeal [hOutMemIdeal : Cert.OutMemIdeal.Facts] [hOutMemRefIdeal : Cert.OutMemRefIdeal.Facts] : Prop :=
  ∀ (m : (ℓ : Loc Cert.OutMemIdeal.nD Cert.OutMemIdeal.τ Cert.OutMemIdeal.sig) → Buf (Elt Ideal) ℓ) (g : Dev Cert.OutMemIdeal.nD → PrngReg)
    (m' : (ℓ : Loc Cert.OutMemRefIdeal.nD Cert.OutMemRefIdeal.τ Cert.OutMemRefIdeal.sig) → Buf (Elt Ideal) ℓ) (g' : Dev Cert.OutMemRefIdeal.nD → PrngReg), Pre_OutMemIdeal m →
    (∀ c : Dev Cert.OutMemIdeal.nD,
      m' ((c.tc : Thread Cert.OutMemRefIdeal.nD Cert.OutMemRefIdeal.τ).loc Cert.OutMemRefIdeal.main_arg0) = m ((c.tc : Thread Cert.OutMemIdeal.nD Cert.OutMemIdeal.τ).loc Cert.OutMemIdeal.main_arg0)
      ∧ m' ((c.tc : Thread Cert.OutMemRefIdeal.nD Cert.OutMemRefIdeal.τ).loc Cert.OutMemRefIdeal.main_arg1) = m ((c.tc : Thread Cert.OutMemIdeal.nD Cert.OutMemIdeal.τ).loc Cert.OutMemIdeal.main_arg1)
      ∧ m' ((c.tc : Thread Cert.OutMemRefIdeal.nD Cert.OutMemRefIdeal.τ).loc Cert.OutMemRefIdeal.main_arg2) = m ((c.tc : Thread Cert.OutMemIdeal.nD Cert.OutMemIdeal.τ).loc Cert.OutMemIdeal.main_arg2)) →
    ∃ (v0 : (c : Dev Cert.OutMemIdeal.nD) → Buf (Elt Ideal) ((c.tc : Thread Cert.OutMemIdeal.nD Cert.OutMemIdeal.τ).loc Cert.OutMemIdeal.main_v0)),
      θ_run (Cert.OutMemIdeal.defs (F := Ideal)) (onTc (τ := Cert.OutMemIdeal.τ) (Cert.OutMemIdeal.main (F := Ideal))) ⟨m, fun _ => 0, g⟩ (fun r => ∀ c : Dev Cert.OutMemIdeal.nD,
          r.2.mem ((c.tc : Thread Cert.OutMemIdeal.nD Cert.OutMemIdeal.τ).loc Cert.OutMemIdeal.main_v0) = v0 c
          ∧ r.2.mem ((c.tc : Thread Cert.OutMemIdeal.nD Cert.OutMemIdeal.τ).loc Cert.OutMemIdeal.main_arg0) = m ((c.tc : Thread Cert.OutMemIdeal.nD Cert.OutMemIdeal.τ).loc Cert.OutMemIdeal.main_arg0)
          ∧ r.2.mem ((c.tc : Thread Cert.OutMemIdeal.nD Cert.OutMemIdeal.τ).loc Cert.OutMemIdeal.main_arg1) = m ((c.tc : Thread Cert.OutMemIdeal.nD Cert.OutMemIdeal.τ).loc Cert.OutMemIdeal.main_arg1)
          ∧ r.2.mem ((c.tc : Thread Cert.OutMemIdeal.nD Cert.OutMemIdeal.τ).loc Cert.OutMemIdeal.main_arg2) = m ((c.tc : Thread Cert.OutMemIdeal.nD Cert.OutMemIdeal.τ).loc Cert.OutMemIdeal.main_arg2))
      ∧ θ_run (Cert.OutMemRefIdeal.defs (F := Ideal)) (onTc (τ := Cert.OutMemRefIdeal.τ) (Cert.OutMemRefIdeal.main (F := Ideal))) ⟨m', fun _ => 0, g'⟩ (fun r => ∀ c : Dev Cert.OutMemRefIdeal.nD,
          r.2.mem ((c.tc : Thread Cert.OutMemRefIdeal.nD Cert.OutMemRefIdeal.τ).loc Cert.OutMemRefIdeal.main_v3) = v0 c
          ∧ r.2.mem ((c.tc : Thread Cert.OutMemRefIdeal.nD Cert.OutMemRefIdeal.τ).loc Cert.OutMemRefIdeal.main_arg0) = m' ((c.tc : Thread Cert.OutMemRefIdeal.nD Cert.OutMemRefIdeal.τ).loc Cert.OutMemRefIdeal.main_arg0)
          ∧ r.2.mem ((c.tc : Thread Cert.OutMemRefIdeal.nD Cert.OutMemRefIdeal.τ).loc Cert.OutMemRefIdeal.main_arg1) = m' ((c.tc : Thread Cert.OutMemRefIdeal.nD Cert.OutMemRefIdeal.τ).loc Cert.OutMemRefIdeal.main_arg1)
          ∧ r.2.mem ((c.tc : Thread Cert.OutMemRefIdeal.nD Cert.OutMemRefIdeal.τ).loc Cert.OutMemRefIdeal.main_arg2) = m' ((c.tc : Thread Cert.OutMemRefIdeal.nD Cert.OutMemRefIdeal.τ).loc Cert.OutMemRefIdeal.main_arg2))

def preserves_GateMem_GateMemIdeal : Prop :=
  True

def algebraic_GateMemIdeal_GateMemRefIdeal [hGateMemIdeal : Cert.GateMemIdeal.Facts] [hGateMemRefIdeal : Cert.GateMemRefIdeal.Facts] : Prop :=
  ∀ (m : (ℓ : Loc Cert.GateMemIdeal.nD Cert.GateMemIdeal.τ Cert.GateMemIdeal.sig) → Buf (Elt Ideal) ℓ) (g : Dev Cert.GateMemIdeal.nD → PrngReg)
    (m' : (ℓ : Loc Cert.GateMemRefIdeal.nD Cert.GateMemRefIdeal.τ Cert.GateMemRefIdeal.sig) → Buf (Elt Ideal) ℓ) (g' : Dev Cert.GateMemRefIdeal.nD → PrngReg), Pre_GateMemIdeal m →
    (∀ c : Dev Cert.GateMemIdeal.nD,
      m' ((c.tc : Thread Cert.GateMemRefIdeal.nD Cert.GateMemRefIdeal.τ).loc Cert.GateMemRefIdeal.main_arg0) = m ((c.tc : Thread Cert.GateMemIdeal.nD Cert.GateMemIdeal.τ).loc Cert.GateMemIdeal.main_arg0)
      ∧ m' ((c.tc : Thread Cert.GateMemRefIdeal.nD Cert.GateMemRefIdeal.τ).loc Cert.GateMemRefIdeal.main_arg1) = m ((c.tc : Thread Cert.GateMemIdeal.nD Cert.GateMemIdeal.τ).loc Cert.GateMemIdeal.main_arg1)) →
    ∃ (v0 : (c : Dev Cert.GateMemIdeal.nD) → Buf (Elt Ideal) ((c.tc : Thread Cert.GateMemIdeal.nD Cert.GateMemIdeal.τ).loc Cert.GateMemIdeal.main_v0)),
      θ_run (Cert.GateMemIdeal.defs (F := Ideal)) (onTc (τ := Cert.GateMemIdeal.τ) (Cert.GateMemIdeal.main (F := Ideal))) ⟨m, fun _ => 0, g⟩ (fun r => ∀ c : Dev Cert.GateMemIdeal.nD,
          r.2.mem ((c.tc : Thread Cert.GateMemIdeal.nD Cert.GateMemIdeal.τ).loc Cert.GateMemIdeal.main_v0) = v0 c
          ∧ r.2.mem ((c.tc : Thread Cert.GateMemIdeal.nD Cert.GateMemIdeal.τ).loc Cert.GateMemIdeal.main_arg0) = m ((c.tc : Thread Cert.GateMemIdeal.nD Cert.GateMemIdeal.τ).loc Cert.GateMemIdeal.main_arg0)
          ∧ r.2.mem ((c.tc : Thread Cert.GateMemIdeal.nD Cert.GateMemIdeal.τ).loc Cert.GateMemIdeal.main_arg1) = m ((c.tc : Thread Cert.GateMemIdeal.nD Cert.GateMemIdeal.τ).loc Cert.GateMemIdeal.main_arg1))
      ∧ θ_run (Cert.GateMemRefIdeal.defs (F := Ideal)) (onTc (τ := Cert.GateMemRefIdeal.τ) (Cert.GateMemRefIdeal.main (F := Ideal))) ⟨m', fun _ => 0, g'⟩ (fun r => ∀ c : Dev Cert.GateMemRefIdeal.nD,
          r.2.mem ((c.tc : Thread Cert.GateMemRefIdeal.nD Cert.GateMemRefIdeal.τ).loc Cert.GateMemRefIdeal.main_v4) = v0 c
          ∧ r.2.mem ((c.tc : Thread Cert.GateMemRefIdeal.nD Cert.GateMemRefIdeal.τ).loc Cert.GateMemRefIdeal.main_arg0) = m' ((c.tc : Thread Cert.GateMemRefIdeal.nD Cert.GateMemRefIdeal.τ).loc Cert.GateMemRefIdeal.main_arg0)
          ∧ r.2.mem ((c.tc : Thread Cert.GateMemRefIdeal.nD Cert.GateMemRefIdeal.τ).loc Cert.GateMemRefIdeal.main_arg1) = m' ((c.tc : Thread Cert.GateMemRefIdeal.nD Cert.GateMemRefIdeal.τ).loc Cert.GateMemRefIdeal.main_arg1))

def preserves_DwOutMem_DwOutMemIdeal : Prop :=
  True

def algebraic_DwOutMemIdeal_DwOutMemRefIdeal [hDwOutMemIdeal : Cert.DwOutMemIdeal.Facts] [hDwOutMemRefIdeal : Cert.DwOutMemRefIdeal.Facts] : Prop :=
  ∀ (m : (ℓ : Loc Cert.DwOutMemIdeal.nD Cert.DwOutMemIdeal.τ Cert.DwOutMemIdeal.sig) → Buf (Elt Ideal) ℓ) (g : Dev Cert.DwOutMemIdeal.nD → PrngReg)
    (m' : (ℓ : Loc Cert.DwOutMemRefIdeal.nD Cert.DwOutMemRefIdeal.τ Cert.DwOutMemRefIdeal.sig) → Buf (Elt Ideal) ℓ) (g' : Dev Cert.DwOutMemRefIdeal.nD → PrngReg), Pre_DwOutMemIdeal m →
    (∀ c : Dev Cert.DwOutMemIdeal.nD,
      m' ((c.tc : Thread Cert.DwOutMemRefIdeal.nD Cert.DwOutMemRefIdeal.τ).loc Cert.DwOutMemRefIdeal.main_arg0) = m ((c.tc : Thread Cert.DwOutMemIdeal.nD Cert.DwOutMemIdeal.τ).loc Cert.DwOutMemIdeal.main_arg0)
      ∧ m' ((c.tc : Thread Cert.DwOutMemRefIdeal.nD Cert.DwOutMemRefIdeal.τ).loc Cert.DwOutMemRefIdeal.main_arg1) = m ((c.tc : Thread Cert.DwOutMemIdeal.nD Cert.DwOutMemIdeal.τ).loc Cert.DwOutMemIdeal.main_arg1)) →
    ∃ (v0 : (c : Dev Cert.DwOutMemIdeal.nD) → Buf (Elt Ideal) ((c.tc : Thread Cert.DwOutMemIdeal.nD Cert.DwOutMemIdeal.τ).loc Cert.DwOutMemIdeal.main_v0)),
      θ_run (Cert.DwOutMemIdeal.defs (F := Ideal)) (onTc (τ := Cert.DwOutMemIdeal.τ) (Cert.DwOutMemIdeal.main (F := Ideal))) ⟨m, fun _ => 0, g⟩ (fun r => ∀ c : Dev Cert.DwOutMemIdeal.nD,
          r.2.mem ((c.tc : Thread Cert.DwOutMemIdeal.nD Cert.DwOutMemIdeal.τ).loc Cert.DwOutMemIdeal.main_v0) = v0 c
          ∧ r.2.mem ((c.tc : Thread Cert.DwOutMemIdeal.nD Cert.DwOutMemIdeal.τ).loc Cert.DwOutMemIdeal.main_arg0) = m ((c.tc : Thread Cert.DwOutMemIdeal.nD Cert.DwOutMemIdeal.τ).loc Cert.DwOutMemIdeal.main_arg0)
          ∧ r.2.mem ((c.tc : Thread Cert.DwOutMemIdeal.nD Cert.DwOutMemIdeal.τ).loc Cert.DwOutMemIdeal.main_arg1) = m ((c.tc : Thread Cert.DwOutMemIdeal.nD Cert.DwOutMemIdeal.τ).loc Cert.DwOutMemIdeal.main_arg1))
      ∧ θ_run (Cert.DwOutMemRefIdeal.defs (F := Ideal)) (onTc (τ := Cert.DwOutMemRefIdeal.τ) (Cert.DwOutMemRefIdeal.main (F := Ideal))) ⟨m', fun _ => 0, g'⟩ (fun r => ∀ c : Dev Cert.DwOutMemRefIdeal.nD,
          r.2.mem ((c.tc : Thread Cert.DwOutMemRefIdeal.nD Cert.DwOutMemRefIdeal.τ).loc Cert.DwOutMemRefIdeal.main_v6) = v0 c
          ∧ r.2.mem ((c.tc : Thread Cert.DwOutMemRefIdeal.nD Cert.DwOutMemRefIdeal.τ).loc Cert.DwOutMemRefIdeal.main_arg0) = m' ((c.tc : Thread Cert.DwOutMemRefIdeal.nD Cert.DwOutMemRefIdeal.τ).loc Cert.DwOutMemRefIdeal.main_arg0)
          ∧ r.2.mem ((c.tc : Thread Cert.DwOutMemRefIdeal.nD Cert.DwOutMemRefIdeal.τ).loc Cert.DwOutMemRefIdeal.main_arg1) = m' ((c.tc : Thread Cert.DwOutMemRefIdeal.nD Cert.DwOutMemRefIdeal.τ).loc Cert.DwOutMemRefIdeal.main_arg1))

def preserves_GateTokB_GateTokBIdeal : Prop :=
  True

def algebraic_GateTokBIdeal_GateTokBRefIdeal_pre_gate_finite [hGateTokBIdeal : Cert.GateTokBIdeal.Facts] [hGateTokBRefIdeal : Cert.GateTokBRefIdeal.Facts] [hPre_gate_finite : Cert.Pre_gate_finite.Facts] : Prop :=
  ∀ (m : (ℓ : Loc Cert.GateTokBIdeal.nD Cert.GateTokBIdeal.τ Cert.GateTokBIdeal.sig) → Buf (Elt Ideal) ℓ) (g : Dev Cert.GateTokBIdeal.nD → PrngReg)
    (m' : (ℓ : Loc Cert.GateTokBRefIdeal.nD Cert.GateTokBRefIdeal.τ Cert.GateTokBRefIdeal.sig) → Buf (Elt Ideal) ℓ) (g' : Dev Cert.GateTokBRefIdeal.nD → PrngReg), Pre_GateTokBIdeal_gate_finite m →
    (∀ c : Dev Cert.GateTokBIdeal.nD,
      m' ((c.tc : Thread Cert.GateTokBRefIdeal.nD Cert.GateTokBRefIdeal.τ).loc Cert.GateTokBRefIdeal.main_arg0) = m ((c.tc : Thread Cert.GateTokBIdeal.nD Cert.GateTokBIdeal.τ).loc Cert.GateTokBIdeal.main_arg0)
      ∧ m' ((c.tc : Thread Cert.GateTokBRefIdeal.nD Cert.GateTokBRefIdeal.τ).loc Cert.GateTokBRefIdeal.main_arg1) = m ((c.tc : Thread Cert.GateTokBIdeal.nD Cert.GateTokBIdeal.τ).loc Cert.GateTokBIdeal.main_arg1)
      ∧ m' ((c.tc : Thread Cert.GateTokBRefIdeal.nD Cert.GateTokBRefIdeal.τ).loc Cert.GateTokBRefIdeal.main_arg2) = m ((c.tc : Thread Cert.GateTokBIdeal.nD Cert.GateTokBIdeal.τ).loc Cert.GateTokBIdeal.main_arg2)) →
    ∃ (v0 : (c : Dev Cert.GateTokBIdeal.nD) → Buf (Elt Ideal) ((c.tc : Thread Cert.GateTokBIdeal.nD Cert.GateTokBIdeal.τ).loc Cert.GateTokBIdeal.main_v0_0)) (v1 : (c : Dev Cert.GateTokBIdeal.nD) → Buf (Elt Ideal) ((c.tc : Thread Cert.GateTokBIdeal.nD Cert.GateTokBIdeal.τ).loc Cert.GateTokBIdeal.main_v0_1)),
      θ_run (Cert.GateTokBIdeal.defs (F := Ideal)) (onTc (τ := Cert.GateTokBIdeal.τ) (Cert.GateTokBIdeal.main (F := Ideal))) ⟨m, fun _ => 0, g⟩ (fun r => ∀ c : Dev Cert.GateTokBIdeal.nD,
          r.2.mem ((c.tc : Thread Cert.GateTokBIdeal.nD Cert.GateTokBIdeal.τ).loc Cert.GateTokBIdeal.main_v0_0) = v0 c
          ∧ r.2.mem ((c.tc : Thread Cert.GateTokBIdeal.nD Cert.GateTokBIdeal.τ).loc Cert.GateTokBIdeal.main_v0_1) = v1 c
          ∧ r.2.mem ((c.tc : Thread Cert.GateTokBIdeal.nD Cert.GateTokBIdeal.τ).loc Cert.GateTokBIdeal.main_arg0) = m ((c.tc : Thread Cert.GateTokBIdeal.nD Cert.GateTokBIdeal.τ).loc Cert.GateTokBIdeal.main_arg0)
          ∧ r.2.mem ((c.tc : Thread Cert.GateTokBIdeal.nD Cert.GateTokBIdeal.τ).loc Cert.GateTokBIdeal.main_arg1) = m ((c.tc : Thread Cert.GateTokBIdeal.nD Cert.GateTokBIdeal.τ).loc Cert.GateTokBIdeal.main_arg1)
          ∧ r.2.mem ((c.tc : Thread Cert.GateTokBIdeal.nD Cert.GateTokBIdeal.τ).loc Cert.GateTokBIdeal.main_arg2) = m ((c.tc : Thread Cert.GateTokBIdeal.nD Cert.GateTokBIdeal.τ).loc Cert.GateTokBIdeal.main_arg2))
      ∧ θ_run (Cert.GateTokBRefIdeal.defs (F := Ideal)) (onTc (τ := Cert.GateTokBRefIdeal.τ) (Cert.GateTokBRefIdeal.main (F := Ideal))) ⟨m', fun _ => 0, g'⟩ (fun r => ∀ c : Dev Cert.GateTokBRefIdeal.nD,
          r.2.mem ((c.tc : Thread Cert.GateTokBRefIdeal.nD Cert.GateTokBRefIdeal.τ).loc Cert.GateTokBRefIdeal.main_v3) = v0 c
          ∧ r.2.mem ((c.tc : Thread Cert.GateTokBRefIdeal.nD Cert.GateTokBRefIdeal.τ).loc Cert.GateTokBRefIdeal.main_v5) = v1 c
          ∧ r.2.mem ((c.tc : Thread Cert.GateTokBRefIdeal.nD Cert.GateTokBRefIdeal.τ).loc Cert.GateTokBRefIdeal.main_arg0) = m' ((c.tc : Thread Cert.GateTokBRefIdeal.nD Cert.GateTokBRefIdeal.τ).loc Cert.GateTokBRefIdeal.main_arg0)
          ∧ r.2.mem ((c.tc : Thread Cert.GateTokBRefIdeal.nD Cert.GateTokBRefIdeal.τ).loc Cert.GateTokBRefIdeal.main_arg1) = m' ((c.tc : Thread Cert.GateTokBRefIdeal.nD Cert.GateTokBRefIdeal.τ).loc Cert.GateTokBRefIdeal.main_arg1)
          ∧ r.2.mem ((c.tc : Thread Cert.GateTokBRefIdeal.nD Cert.GateTokBRefIdeal.τ).loc Cert.GateTokBRefIdeal.main_arg2) = m' ((c.tc : Thread Cert.GateTokBRefIdeal.nD Cert.GateTokBRefIdeal.τ).loc Cert.GateTokBRefIdeal.main_arg2))

def preserves_GateMemB_GateMemBIdeal : Prop :=
  True

def algebraic_GateMemBIdeal_GateMemBRefIdeal_pre_gate_mem_finite [hGateMemBIdeal : Cert.GateMemBIdeal.Facts] [hGateMemBRefIdeal : Cert.GateMemBRefIdeal.Facts] [hPre_gate_mem_finite : Cert.Pre_gate_mem_finite.Facts] : Prop :=
  ∀ (m : (ℓ : Loc Cert.GateMemBIdeal.nD Cert.GateMemBIdeal.τ Cert.GateMemBIdeal.sig) → Buf (Elt Ideal) ℓ) (g : Dev Cert.GateMemBIdeal.nD → PrngReg)
    (m' : (ℓ : Loc Cert.GateMemBRefIdeal.nD Cert.GateMemBRefIdeal.τ Cert.GateMemBRefIdeal.sig) → Buf (Elt Ideal) ℓ) (g' : Dev Cert.GateMemBRefIdeal.nD → PrngReg), Pre_GateMemBIdeal_gate_mem_finite m →
    (∀ c : Dev Cert.GateMemBIdeal.nD,
      m' ((c.tc : Thread Cert.GateMemBRefIdeal.nD Cert.GateMemBRefIdeal.τ).loc Cert.GateMemBRefIdeal.main_arg0) = m ((c.tc : Thread Cert.GateMemBIdeal.nD Cert.GateMemBIdeal.τ).loc Cert.GateMemBIdeal.main_arg0)
      ∧ m' ((c.tc : Thread Cert.GateMemBRefIdeal.nD Cert.GateMemBRefIdeal.τ).loc Cert.GateMemBRefIdeal.main_arg1) = m ((c.tc : Thread Cert.GateMemBIdeal.nD Cert.GateMemBIdeal.τ).loc Cert.GateMemBIdeal.main_arg1)
      ∧ m' ((c.tc : Thread Cert.GateMemBRefIdeal.nD Cert.GateMemBRefIdeal.τ).loc Cert.GateMemBRefIdeal.main_arg2) = m ((c.tc : Thread Cert.GateMemBIdeal.nD Cert.GateMemBIdeal.τ).loc Cert.GateMemBIdeal.main_arg2)) →
    ∃ (v0 : (c : Dev Cert.GateMemBIdeal.nD) → Buf (Elt Ideal) ((c.tc : Thread Cert.GateMemBIdeal.nD Cert.GateMemBIdeal.τ).loc Cert.GateMemBIdeal.main_v0_0)) (v1 : (c : Dev Cert.GateMemBIdeal.nD) → Buf (Elt Ideal) ((c.tc : Thread Cert.GateMemBIdeal.nD Cert.GateMemBIdeal.τ).loc Cert.GateMemBIdeal.main_v0_1)),
      θ_run (Cert.GateMemBIdeal.defs (F := Ideal)) (onTc (τ := Cert.GateMemBIdeal.τ) (Cert.GateMemBIdeal.main (F := Ideal))) ⟨m, fun _ => 0, g⟩ (fun r => ∀ c : Dev Cert.GateMemBIdeal.nD,
          r.2.mem ((c.tc : Thread Cert.GateMemBIdeal.nD Cert.GateMemBIdeal.τ).loc Cert.GateMemBIdeal.main_v0_0) = v0 c
          ∧ r.2.mem ((c.tc : Thread Cert.GateMemBIdeal.nD Cert.GateMemBIdeal.τ).loc Cert.GateMemBIdeal.main_v0_1) = v1 c
          ∧ r.2.mem ((c.tc : Thread Cert.GateMemBIdeal.nD Cert.GateMemBIdeal.τ).loc Cert.GateMemBIdeal.main_arg0) = m ((c.tc : Thread Cert.GateMemBIdeal.nD Cert.GateMemBIdeal.τ).loc Cert.GateMemBIdeal.main_arg0)
          ∧ r.2.mem ((c.tc : Thread Cert.GateMemBIdeal.nD Cert.GateMemBIdeal.τ).loc Cert.GateMemBIdeal.main_arg1) = m ((c.tc : Thread Cert.GateMemBIdeal.nD Cert.GateMemBIdeal.τ).loc Cert.GateMemBIdeal.main_arg1)
          ∧ r.2.mem ((c.tc : Thread Cert.GateMemBIdeal.nD Cert.GateMemBIdeal.τ).loc Cert.GateMemBIdeal.main_arg2) = m ((c.tc : Thread Cert.GateMemBIdeal.nD Cert.GateMemBIdeal.τ).loc Cert.GateMemBIdeal.main_arg2))
      ∧ θ_run (Cert.GateMemBRefIdeal.defs (F := Ideal)) (onTc (τ := Cert.GateMemBRefIdeal.τ) (Cert.GateMemBRefIdeal.main (F := Ideal))) ⟨m', fun _ => 0, g'⟩ (fun r => ∀ c : Dev Cert.GateMemBRefIdeal.nD,
          r.2.mem ((c.tc : Thread Cert.GateMemBRefIdeal.nD Cert.GateMemBRefIdeal.τ).loc Cert.GateMemBRefIdeal.main_v3) = v0 c
          ∧ r.2.mem ((c.tc : Thread Cert.GateMemBRefIdeal.nD Cert.GateMemBRefIdeal.τ).loc Cert.GateMemBRefIdeal.main_v5) = v1 c
          ∧ r.2.mem ((c.tc : Thread Cert.GateMemBRefIdeal.nD Cert.GateMemBRefIdeal.τ).loc Cert.GateMemBRefIdeal.main_arg0) = m' ((c.tc : Thread Cert.GateMemBRefIdeal.nD Cert.GateMemBRefIdeal.τ).loc Cert.GateMemBRefIdeal.main_arg0)
          ∧ r.2.mem ((c.tc : Thread Cert.GateMemBRefIdeal.nD Cert.GateMemBRefIdeal.τ).loc Cert.GateMemBRefIdeal.main_arg1) = m' ((c.tc : Thread Cert.GateMemBRefIdeal.nD Cert.GateMemBRefIdeal.τ).loc Cert.GateMemBRefIdeal.main_arg1)
          ∧ r.2.mem ((c.tc : Thread Cert.GateMemBRefIdeal.nD Cert.GateMemBRefIdeal.τ).loc Cert.GateMemBRefIdeal.main_arg2) = m' ((c.tc : Thread Cert.GateMemBRefIdeal.nD Cert.GateMemBRefIdeal.τ).loc Cert.GateMemBRefIdeal.main_arg2))

def preserves_ConvB_ConvBIdeal : Prop :=
  True

def algebraic_ConvBIdeal_ConvBRefIdeal [hConvBIdeal : Cert.ConvBIdeal.Facts] [hConvBRefIdeal : Cert.ConvBRefIdeal.Facts] : Prop :=
  ∀ (m : (ℓ : Loc Cert.ConvBIdeal.nD Cert.ConvBIdeal.τ Cert.ConvBIdeal.sig) → Buf (Elt Ideal) ℓ) (g : Dev Cert.ConvBIdeal.nD → PrngReg)
    (m' : (ℓ : Loc Cert.ConvBRefIdeal.nD Cert.ConvBRefIdeal.τ Cert.ConvBRefIdeal.sig) → Buf (Elt Ideal) ℓ) (g' : Dev Cert.ConvBRefIdeal.nD → PrngReg), Pre_ConvBIdeal m →
    (∀ c : Dev Cert.ConvBIdeal.nD,
      m' ((c.tc : Thread Cert.ConvBRefIdeal.nD Cert.ConvBRefIdeal.τ).loc Cert.ConvBRefIdeal.main_arg0) = m ((c.tc : Thread Cert.ConvBIdeal.nD Cert.ConvBIdeal.τ).loc Cert.ConvBIdeal.main_arg0)
      ∧ m' ((c.tc : Thread Cert.ConvBRefIdeal.nD Cert.ConvBRefIdeal.τ).loc Cert.ConvBRefIdeal.main_arg1) = m ((c.tc : Thread Cert.ConvBIdeal.nD Cert.ConvBIdeal.τ).loc Cert.ConvBIdeal.main_arg1)) →
    ∃ (v0 : (c : Dev Cert.ConvBIdeal.nD) → Buf (Elt Ideal) ((c.tc : Thread Cert.ConvBIdeal.nD Cert.ConvBIdeal.τ).loc Cert.ConvBIdeal.main_v0)),
      θ_run (Cert.ConvBIdeal.defs (F := Ideal)) (onTc (τ := Cert.ConvBIdeal.τ) (Cert.ConvBIdeal.main (F := Ideal))) ⟨m, fun _ => 0, g⟩ (fun r => ∀ c : Dev Cert.ConvBIdeal.nD,
          r.2.mem ((c.tc : Thread Cert.ConvBIdeal.nD Cert.ConvBIdeal.τ).loc Cert.ConvBIdeal.main_v0) = v0 c
          ∧ r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
          ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1))
      ∧ θ_run (Cert.ConvBRefIdeal.defs (F := Ideal)) (onTc (τ := Cert.ConvBRefIdeal.τ) (Cert.ConvBRefIdeal.main (F := Ideal))) ⟨m', fun _ => 0, g'⟩ (fun r => ∀ c : Dev Cert.ConvBRefIdeal.nD,
          r.2.mem ((c.tc : Thread Cert.ConvBRefIdeal.nD Cert.ConvBRefIdeal.τ).loc Cert.ConvBRefIdeal.main_v52) = v0 c
          ∧ r.2.mem ((c.tc : Thread Cert.ConvBRefIdeal.nD Cert.ConvBRefIdeal.τ).loc Cert.ConvBRefIdeal.main_arg0) = m' ((c.tc : Thread Cert.ConvBRefIdeal.nD Cert.ConvBRefIdeal.τ).loc Cert.ConvBRefIdeal.main_arg0)
          ∧ r.2.mem ((c.tc : Thread Cert.ConvBRefIdeal.nD Cert.ConvBRefIdeal.τ).loc Cert.ConvBRefIdeal.main_arg1) = m' ((c.tc : Thread Cert.ConvBRefIdeal.nD Cert.ConvBRefIdeal.τ).loc Cert.ConvBRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_v36) = v1 c
          ∧ r.2.mem ((c.tc : Thread Cert.NormRefIdeal.nD Cert.NormRefIdeal.τ).loc Cert.NormRefIdeal.main_v18) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_ConvPre_ConvPreIdeal : Prop :=
  True

def algebraic_ConvPreIdeal_ConvPreRefIdeal_pre_act_finite [hConvPreIdeal : Cert.ConvPreIdeal.Facts] [hConvPreRefIdeal : Cert.ConvPreRefIdeal.Facts] [hPre_act_finite : Cert.Pre_act_finite.Facts] : Prop :=
  ∀ (m : (ℓ : Loc Cert.ConvPreIdeal.nD Cert.ConvPreIdeal.τ Cert.ConvPreIdeal.sig) → Buf (Elt Ideal) ℓ) (g : Dev Cert.ConvPreIdeal.nD → PrngReg)
    (m' : (ℓ : Loc Cert.ConvPreRefIdeal.nD Cert.ConvPreRefIdeal.τ Cert.ConvPreRefIdeal.sig) → Buf (Elt Ideal) ℓ) (g' : Dev Cert.ConvPreRefIdeal.nD → PrngReg), Pre_ConvPreIdeal_act_finite m →
    (∀ c : Dev Cert.ConvPreIdeal.nD,
      m' ((c.tc : Thread Cert.ConvPreRefIdeal.nD Cert.ConvPreRefIdeal.τ).loc Cert.ConvPreRefIdeal.main_arg0) = m ((c.tc : Thread Cert.ConvPreIdeal.nD Cert.ConvPreIdeal.τ).loc Cert.ConvPreIdeal.main_arg0)
      ∧ m' ((c.tc : Thread Cert.ConvPreRefIdeal.nD Cert.ConvPreRefIdeal.τ).loc Cert.ConvPreRefIdeal.main_arg1) = m ((c.tc : Thread Cert.ConvPreIdeal.nD Cert.ConvPreIdeal.τ).loc Cert.ConvPreIdeal.main_arg1)
      ∧ m' ((c.tc : Thread Cert.ConvPreRefIdeal.nD Cert.ConvPreRefIdeal.τ).loc Cert.ConvPreRefIdeal.main_arg2) = m ((c.tc : Thread Cert.ConvPreIdeal.nD Cert.ConvPreIdeal.τ).loc Cert.ConvPreIdeal.main_arg2)
      ∧ m' ((c.tc : Thread Cert.ConvPreRefIdeal.nD Cert.ConvPreRefIdeal.τ).loc Cert.ConvPreRefIdeal.main_arg3) = m ((c.tc : Thread Cert.ConvPreIdeal.nD Cert.ConvPreIdeal.τ).loc Cert.ConvPreIdeal.main_arg3)) →
    ∃ (v0 : (c : Dev Cert.ConvPreIdeal.nD) → Buf (Elt Ideal) ((c.tc : Thread Cert.ConvPreIdeal.nD Cert.ConvPreIdeal.τ).loc Cert.ConvPreIdeal.main_v1_0)) (v1 : (c : Dev Cert.ConvPreIdeal.nD) → Buf (Elt Ideal) ((c.tc : Thread Cert.ConvPreIdeal.nD Cert.ConvPreIdeal.τ).loc Cert.ConvPreIdeal.main_v1_1)) (v2 : (c : Dev Cert.ConvPreIdeal.nD) → Buf (Elt Ideal) ((c.tc : Thread Cert.ConvPreIdeal.nD Cert.ConvPreIdeal.τ).loc Cert.ConvPreIdeal.main_v1_2)),
      θ_run (Cert.ConvPreIdeal.defs (F := Ideal)) (onTc (τ := Cert.ConvPreIdeal.τ) (Cert.ConvPreIdeal.main (F := Ideal))) ⟨m, fun _ => 0, g⟩ (fun r => ∀ c : Dev Cert.ConvPreIdeal.nD,
          r.2.mem ((c.tc : Thread Cert.ConvPreIdeal.nD Cert.ConvPreIdeal.τ).loc Cert.ConvPreIdeal.main_v1_0) = v0 c
          ∧ r.2.mem ((c.tc : Thread Cert.ConvPreIdeal.nD Cert.ConvPreIdeal.τ).loc Cert.ConvPreIdeal.main_v1_1) = v1 c
          ∧ r.2.mem ((c.tc : Thread Cert.ConvPreIdeal.nD Cert.ConvPreIdeal.τ).loc Cert.ConvPreIdeal.main_v1_2) = v2 c
          ∧ r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
          ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
          ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2)
          ∧ r.2.mem ((c.tc : Thread Cert.ConvPreIdeal.nD Cert.ConvPreIdeal.τ).loc Cert.ConvPreIdeal.main_arg3) = m ((c.tc : Thread Cert.ConvPreIdeal.nD Cert.ConvPreIdeal.τ).loc Cert.ConvPreIdeal.main_arg3))
      ∧ θ_run (Cert.ConvPreRefIdeal.defs (F := Ideal)) (onTc (τ := Cert.ConvPreRefIdeal.τ) (Cert.ConvPreRefIdeal.main (F := Ideal))) ⟨m', fun _ => 0, g'⟩ (fun r => ∀ c : Dev Cert.ConvPreRefIdeal.nD,
          r.2.mem ((c.tc : Thread Cert.ConvPreRefIdeal.nD Cert.ConvPreRefIdeal.τ).loc Cert.ConvPreRefIdeal.main_v35) = v0 c
          ∧ r.2.mem ((c.tc : Thread Cert.ConvPreRefIdeal.nD Cert.ConvPreRefIdeal.τ).loc Cert.ConvPreRefIdeal.main_v98) = v1 c
          ∧ r.2.mem ((c.tc : Thread Cert.ConvPreRefIdeal.nD Cert.ConvPreRefIdeal.τ).loc Cert.ConvPreRefIdeal.main_v71) = v2 c
          ∧ r.2.mem ((c.tc : Thread Cert.ConvPreRefIdeal.nD Cert.ConvPreRefIdeal.τ).loc Cert.ConvPreRefIdeal.main_arg0) = m' ((c.tc : Thread Cert.ConvPreRefIdeal.nD Cert.ConvPreRefIdeal.τ).loc Cert.ConvPreRefIdeal.main_arg0)
          ∧ r.2.mem ((c.tc : Thread Cert.ConvPreRefIdeal.nD Cert.ConvPreRefIdeal.τ).loc Cert.ConvPreRefIdeal.main_arg1) = m' ((c.tc : Thread Cert.ConvPreRefIdeal.nD Cert.ConvPreRefIdeal.τ).loc Cert.ConvPreRefIdeal.main_arg1)
          ∧ r.2.mem ((c.tc : Thread Cert.ConvPreRefIdeal.nD Cert.ConvPreRefIdeal.τ).loc Cert.ConvPreRefIdeal.main_arg2) = m' ((c.tc : Thread Cert.ConvPreRefIdeal.nD Cert.ConvPreRefIdeal.τ).loc Cert.ConvPreRefIdeal.main_arg2)
          ∧ r.2.mem ((c.tc : Thread Cert.ConvPreRefIdeal.nD Cert.ConvPreRefIdeal.τ).loc Cert.ConvPreRefIdeal.main_arg3) = m' ((c.tc : Thread Cert.ConvPreRefIdeal.nD Cert.ConvPreRefIdeal.τ).loc Cert.ConvPreRefIdeal.main_arg3))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)
      ∧ m' ((c.tc : Thread Cert.ConvFRefIdeal.nD Cert.ConvFRefIdeal.τ).loc Cert.ConvFRefIdeal.main_arg2) = m ((c.tc : Thread Cert.ConvFIdeal.nD Cert.ConvFIdeal.τ).loc Cert.ConvFIdeal.main_arg2)) →
    ∃ (v0 : (c : Dev Cert.ConvFIdeal.nD) → Buf (Elt Ideal) ((c.tc : Thread Cert.ConvFIdeal.nD Cert.ConvFIdeal.τ).loc Cert.ConvFIdeal.main_v1)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v1) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v34) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1)
          ∧ r.2.mem ((c.tc : Thread Cert.ConvFRefIdeal.nD Cert.ConvFRefIdeal.τ).loc Cert.ConvFRefIdeal.main_arg2) = m' ((c.tc : Thread Cert.ConvFRefIdeal.nD Cert.ConvFRefIdeal.τ).loc Cert.ConvFRefIdeal.main_arg2))

def preserves_GateTokF_GateTokFIdeal : Prop :=
  True

def algebraic_GateTokFIdeal_GateTokFRefIdeal [hGateTokFIdeal : Cert.GateTokFIdeal.Facts] [hGateTokFRefIdeal : Cert.GateTokFRefIdeal.Facts] : Prop :=
  ∀ (m : (ℓ : Loc Cert.GateTokFIdeal.nD Cert.GateTokFIdeal.τ Cert.GateTokFIdeal.sig) → Buf (Elt Ideal) ℓ) (g : Dev Cert.GateTokFIdeal.nD → PrngReg)
    (m' : (ℓ : Loc Cert.GateTokFRefIdeal.nD Cert.GateTokFRefIdeal.τ Cert.GateTokFRefIdeal.sig) → Buf (Elt Ideal) ℓ) (g' : Dev Cert.GateTokFRefIdeal.nD → PrngReg), Pre_GateTokFIdeal m →
    (∀ c : Dev Cert.GateTokFIdeal.nD,
      m' ((c.tc : Thread Cert.GateTokFRefIdeal.nD Cert.GateTokFRefIdeal.τ).loc Cert.GateTokFRefIdeal.main_arg0) = m ((c.tc : Thread Cert.GateTokFIdeal.nD Cert.GateTokFIdeal.τ).loc Cert.GateTokFIdeal.main_arg0)
      ∧ m' ((c.tc : Thread Cert.GateTokFRefIdeal.nD Cert.GateTokFRefIdeal.τ).loc Cert.GateTokFRefIdeal.main_arg1) = m ((c.tc : Thread Cert.GateTokFIdeal.nD Cert.GateTokFIdeal.τ).loc Cert.GateTokFIdeal.main_arg1)) →
    ∃ (v0 : (c : Dev Cert.GateTokFIdeal.nD) → Buf (Elt Ideal) ((c.tc : Thread Cert.GateTokFIdeal.nD Cert.GateTokFIdeal.τ).loc Cert.GateTokFIdeal.main_v0)),
      θ_run (Cert.GateTokFIdeal.defs (F := Ideal)) (onTc (τ := Cert.GateTokFIdeal.τ) (Cert.GateTokFIdeal.main (F := Ideal))) ⟨m, fun _ => 0, g⟩ (fun r => ∀ c : Dev Cert.GateTokFIdeal.nD,
          r.2.mem ((c.tc : Thread Cert.GateTokFIdeal.nD Cert.GateTokFIdeal.τ).loc Cert.GateTokFIdeal.main_v0) = v0 c
          ∧ r.2.mem ((c.tc : Thread Cert.GateTokFIdeal.nD Cert.GateTokFIdeal.τ).loc Cert.GateTokFIdeal.main_arg0) = m ((c.tc : Thread Cert.GateTokFIdeal.nD Cert.GateTokFIdeal.τ).loc Cert.GateTokFIdeal.main_arg0)
          ∧ r.2.mem ((c.tc : Thread Cert.GateTokFIdeal.nD Cert.GateTokFIdeal.τ).loc Cert.GateTokFIdeal.main_arg1) = m ((c.tc : Thread Cert.GateTokFIdeal.nD Cert.GateTokFIdeal.τ).loc Cert.GateTokFIdeal.main_arg1))
      ∧ θ_run (Cert.GateTokFRefIdeal.defs (F := Ideal)) (onTc (τ := Cert.GateTokFRefIdeal.τ) (Cert.GateTokFRefIdeal.main (F := Ideal))) ⟨m', fun _ => 0, g'⟩ (fun r => ∀ c : Dev Cert.GateTokFRefIdeal.nD,
          r.2.mem ((c.tc : Thread Cert.GateTokFRefIdeal.nD Cert.GateTokFRefIdeal.τ).loc Cert.GateTokFRefIdeal.main_v2) = v0 c
          ∧ r.2.mem ((c.tc : Thread Cert.GateTokFRefIdeal.nD Cert.GateTokFRefIdeal.τ).loc Cert.GateTokFRefIdeal.main_arg0) = m' ((c.tc : Thread Cert.GateTokFRefIdeal.nD Cert.GateTokFRefIdeal.τ).loc Cert.GateTokFRefIdeal.main_arg0)
          ∧ r.2.mem ((c.tc : Thread Cert.GateTokFRefIdeal.nD Cert.GateTokFRefIdeal.τ).loc Cert.GateTokFRefIdeal.main_arg1) = m' ((c.tc : Thread Cert.GateTokFRefIdeal.nD Cert.GateTokFRefIdeal.τ).loc Cert.GateTokFRefIdeal.main_arg1))

def preserves_GateMemF_GateMemFIdeal : Prop :=
  True

def algebraic_GateMemFIdeal_GateMemFRefIdeal [hGateMemFIdeal : Cert.GateMemFIdeal.Facts] [hGateMemFRefIdeal : Cert.GateMemFRefIdeal.Facts] : Prop :=
  ∀ (m : (ℓ : Loc Cert.GateMemFIdeal.nD Cert.GateMemFIdeal.τ Cert.GateMemFIdeal.sig) → Buf (Elt Ideal) ℓ) (g : Dev Cert.GateMemFIdeal.nD → PrngReg)
    (m' : (ℓ : Loc Cert.GateMemFRefIdeal.nD Cert.GateMemFRefIdeal.τ Cert.GateMemFRefIdeal.sig) → Buf (Elt Ideal) ℓ) (g' : Dev Cert.GateMemFRefIdeal.nD → PrngReg), Pre_GateMemFIdeal m →
    (∀ c : Dev Cert.GateMemFIdeal.nD,
      m' ((c.tc : Thread Cert.GateMemFRefIdeal.nD Cert.GateMemFRefIdeal.τ).loc Cert.GateMemFRefIdeal.main_arg0) = m ((c.tc : Thread Cert.GateMemFIdeal.nD Cert.GateMemFIdeal.τ).loc Cert.GateMemFIdeal.main_arg0)
      ∧ m' ((c.tc : Thread Cert.GateMemFRefIdeal.nD Cert.GateMemFRefIdeal.τ).loc Cert.GateMemFRefIdeal.main_arg1) = m ((c.tc : Thread Cert.GateMemFIdeal.nD Cert.GateMemFIdeal.τ).loc Cert.GateMemFIdeal.main_arg1)) →
    ∃ (v0 : (c : Dev Cert.GateMemFIdeal.nD) → Buf (Elt Ideal) ((c.tc : Thread Cert.GateMemFIdeal.nD Cert.GateMemFIdeal.τ).loc Cert.GateMemFIdeal.main_v0)),
      θ_run (Cert.GateMemFIdeal.defs (F := Ideal)) (onTc (τ := Cert.GateMemFIdeal.τ) (Cert.GateMemFIdeal.main (F := Ideal))) ⟨m, fun _ => 0, g⟩ (fun r => ∀ c : Dev Cert.GateMemFIdeal.nD,
          r.2.mem ((c.tc : Thread Cert.GateMemFIdeal.nD Cert.GateMemFIdeal.τ).loc Cert.GateMemFIdeal.main_v0) = v0 c
          ∧ r.2.mem ((c.tc : Thread Cert.GateMemFIdeal.nD Cert.GateMemFIdeal.τ).loc Cert.GateMemFIdeal.main_arg0) = m ((c.tc : Thread Cert.GateMemFIdeal.nD Cert.GateMemFIdeal.τ).loc Cert.GateMemFIdeal.main_arg0)
          ∧ r.2.mem ((c.tc : Thread Cert.GateMemFIdeal.nD Cert.GateMemFIdeal.τ).loc Cert.GateMemFIdeal.main_arg1) = m ((c.tc : Thread Cert.GateMemFIdeal.nD Cert.GateMemFIdeal.τ).loc Cert.GateMemFIdeal.main_arg1))
      ∧ θ_run (Cert.GateMemFRefIdeal.defs (F := Ideal)) (onTc (τ := Cert.GateMemFRefIdeal.τ) (Cert.GateMemFRefIdeal.main (F := Ideal))) ⟨m', fun _ => 0, g'⟩ (fun r => ∀ c : Dev Cert.GateMemFRefIdeal.nD,
          r.2.mem ((c.tc : Thread Cert.GateMemFRefIdeal.nD Cert.GateMemFRefIdeal.τ).loc Cert.GateMemFRefIdeal.main_v2) = v0 c
          ∧ r.2.mem ((c.tc : Thread Cert.GateMemFRefIdeal.nD Cert.GateMemFRefIdeal.τ).loc Cert.GateMemFRefIdeal.main_arg0) = m' ((c.tc : Thread Cert.GateMemFRefIdeal.nD Cert.GateMemFRefIdeal.τ).loc Cert.GateMemFRefIdeal.main_arg0)
          ∧ r.2.mem ((c.tc : Thread Cert.GateMemFRefIdeal.nD Cert.GateMemFRefIdeal.τ).loc Cert.GateMemFRefIdeal.main_arg1) = m' ((c.tc : Thread Cert.GateMemFRefIdeal.nD Cert.GateMemFRefIdeal.τ).loc Cert.GateMemFRefIdeal.main_arg1))

def preserves_NormF_NormFIdeal : Prop :=
  True

def algebraic_NormFIdeal_NormFRefIdeal [hNormFIdeal : Cert.NormFIdeal.Facts] [hNormFRefIdeal : Cert.NormFRefIdeal.Facts] : Prop :=
  ∀ (m : (ℓ : Loc Cert.NormFIdeal.nD Cert.NormFIdeal.τ Cert.NormFIdeal.sig) → Buf (Elt Ideal) ℓ) (g : Dev Cert.NormFIdeal.nD → PrngReg)
    (m' : (ℓ : Loc Cert.NormFRefIdeal.nD Cert.NormFRefIdeal.τ Cert.NormFRefIdeal.sig) → Buf (Elt Ideal) ℓ) (g' : Dev Cert.NormFRefIdeal.nD → PrngReg), Pre_NormFIdeal m →
    (∀ c : Dev Cert.NormFIdeal.nD,
      m' ((c.tc : Thread Cert.NormFRefIdeal.nD Cert.NormFRefIdeal.τ).loc Cert.NormFRefIdeal.main_arg0) = m ((c.tc : Thread Cert.NormFIdeal.nD Cert.NormFIdeal.τ).loc Cert.NormFIdeal.main_arg0)
      ∧ m' ((c.tc : Thread Cert.NormFRefIdeal.nD Cert.NormFRefIdeal.τ).loc Cert.NormFRefIdeal.main_arg1) = m ((c.tc : Thread Cert.NormFIdeal.nD Cert.NormFIdeal.τ).loc Cert.NormFIdeal.main_arg1)) →
    ∃ (v0 : (c : Dev Cert.NormFIdeal.nD) → Buf (Elt Ideal) ((c.tc : Thread Cert.NormFIdeal.nD Cert.NormFIdeal.τ).loc Cert.NormFIdeal.main_v1)),
      θ_run (Cert.NormFIdeal.defs (F := Ideal)) (onTc (τ := Cert.NormFIdeal.τ) (Cert.NormFIdeal.main (F := Ideal))) ⟨m, fun _ => 0, g⟩ (fun r => ∀ c : Dev Cert.NormFIdeal.nD,
          r.2.mem ((c.tc : Thread Cert.NormFIdeal.nD Cert.NormFIdeal.τ).loc Cert.NormFIdeal.main_v1) = v0 c
          ∧ r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
          ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ θ_run (Cert.NormFRefIdeal.defs (F := Ideal)) (onTc (τ := Cert.NormFRefIdeal.τ) (Cert.NormFRefIdeal.main (F := Ideal))) ⟨m', fun _ => 0, g'⟩ (fun r => ∀ c : Dev Cert.NormFRefIdeal.nD,
          r.2.mem ((c.tc : Thread Cert.NormFRefIdeal.nD Cert.NormFRefIdeal.τ).loc Cert.NormFRefIdeal.main_v13) = v0 c
          ∧ r.2.mem ((c.tc : Thread Cert.NormFRefIdeal.nD Cert.NormFRefIdeal.τ).loc Cert.NormFRefIdeal.main_arg0) = m' ((c.tc : Thread Cert.NormFRefIdeal.nD Cert.NormFRefIdeal.τ).loc Cert.NormFRefIdeal.main_arg0)
          ∧ r.2.mem ((c.tc : Thread Cert.NormFRefIdeal.nD Cert.NormFRefIdeal.τ).loc Cert.NormFRefIdeal.main_arg1) = m' ((c.tc : Thread Cert.NormFRefIdeal.nD Cert.NormFRefIdeal.τ).loc Cert.NormFRefIdeal.main_arg1))

def Claim : Prop :=
  ∃ (hKernel : Cert.Kernel.Facts) (hKernelIdeal : Cert.KernelIdeal.Facts) (hReferenceIdeal : Cert.ReferenceIdeal.Facts) (hIn : Cert.In.Facts) (hInIdeal : Cert.InIdeal.Facts) (hInRefIdeal : Cert.InRefIdeal.Facts) (hInB : Cert.InB.Facts) (hInBIdeal : Cert.InBIdeal.Facts) (hInBRefIdeal : Cert.InBRefIdeal.Facts) (hDh : Cert.Dh.Facts) (hDhIdeal : Cert.DhIdeal.Facts) (hDhRefIdeal : Cert.DhRefIdeal.Facts) (hDhB : Cert.DhB.Facts) (hDhBIdeal : Cert.DhBIdeal.Facts) (hDhBRefIdeal : Cert.DhBRefIdeal.Facts) (hDw : Cert.Dw.Facts) (hDwIdeal : Cert.DwIdeal.Facts) (hDwRefIdeal : Cert.DwRefIdeal.Facts) (hDwB : Cert.DwB.Facts) (hDwBIdeal : Cert.DwBIdeal.Facts) (hDwBRefIdeal : Cert.DwBRefIdeal.Facts) (hAttn : Cert.Attn.Facts) (hAttnIdeal : Cert.AttnIdeal.Facts) (hAttnRefIdeal : Cert.AttnRefIdeal.Facts) (hOutTok : Cert.OutTok.Facts) (hOutTokIdeal : Cert.OutTokIdeal.Facts) (hOutTokRefIdeal : Cert.OutTokRefIdeal.Facts) (hGateTok : Cert.GateTok.Facts) (hGateTokIdeal : Cert.GateTokIdeal.Facts) (hGateTokRefIdeal : Cert.GateTokRefIdeal.Facts) (hDwOut : Cert.DwOut.Facts) (hDwOutIdeal : Cert.DwOutIdeal.Facts) (hDwOutRefIdeal : Cert.DwOutRefIdeal.Facts) (hInXbc : Cert.InXbc.Facts) (hInXbcIdeal : Cert.InXbcIdeal.Facts) (hInXbcRefIdeal : Cert.InXbcRefIdeal.Facts) (hDhXbc : Cert.DhXbc.Facts) (hDhXbcIdeal : Cert.DhXbcIdeal.Facts) (hDhXbcRefIdeal : Cert.DhXbcRefIdeal.Facts) (hDwXbc : Cert.DwXbc.Facts) (hDwXbcIdeal : Cert.DwXbcIdeal.Facts) (hDwXbcRefIdeal : Cert.DwXbcRefIdeal.Facts) (hDhFirst : Cert.DhFirst.Facts) (hDhFirstIdeal : Cert.DhFirstIdeal.Facts) (hDhFirstRefIdeal : Cert.DhFirstRefIdeal.Facts) (hInMem : Cert.InMem.Facts) (hInMemIdeal : Cert.InMemIdeal.Facts) (hInMemRefIdeal : Cert.InMemRefIdeal.Facts) (hInMemB : Cert.InMemB.Facts) (hInMemBIdeal : Cert.InMemBIdeal.Facts) (hInMemBRefIdeal : Cert.InMemBRefIdeal.Facts) (hDhMem : Cert.DhMem.Facts) (hDhMemIdeal : Cert.DhMemIdeal.Facts) (hDhMemRefIdeal : Cert.DhMemRefIdeal.Facts) (hDwMem : Cert.DwMem.Facts) (hDwMemIdeal : Cert.DwMemIdeal.Facts) (hDwMemRefIdeal : Cert.DwMemRefIdeal.Facts) (hOutMem : Cert.OutMem.Facts) (hOutMemIdeal : Cert.OutMemIdeal.Facts) (hOutMemRefIdeal : Cert.OutMemRefIdeal.Facts) (hGateMem : Cert.GateMem.Facts) (hGateMemIdeal : Cert.GateMemIdeal.Facts) (hGateMemRefIdeal : Cert.GateMemRefIdeal.Facts) (hDwOutMem : Cert.DwOutMem.Facts) (hDwOutMemIdeal : Cert.DwOutMemIdeal.Facts) (hDwOutMemRefIdeal : Cert.DwOutMemRefIdeal.Facts) (hGateTokB : Cert.GateTokB.Facts) (hGateTokBIdeal : Cert.GateTokBIdeal.Facts) (hGateTokBRefIdeal : Cert.GateTokBRefIdeal.Facts) (hGateMemB : Cert.GateMemB.Facts) (hGateMemBIdeal : Cert.GateMemBIdeal.Facts) (hGateMemBRefIdeal : Cert.GateMemBRefIdeal.Facts) (hConvB : Cert.ConvB.Facts) (hConvBIdeal : Cert.ConvBIdeal.Facts) (hConvBRefIdeal : Cert.ConvBRefIdeal.Facts) (hNorm : Cert.Norm.Facts) (hNormIdeal : Cert.NormIdeal.Facts) (hNormRefIdeal : Cert.NormRefIdeal.Facts) (hConvPre : Cert.ConvPre.Facts) (hConvPreIdeal : Cert.ConvPreIdeal.Facts) (hConvPreRefIdeal : Cert.ConvPreRefIdeal.Facts) (hConvF : Cert.ConvF.Facts) (hConvFIdeal : Cert.ConvFIdeal.Facts) (hConvFRefIdeal : Cert.ConvFRefIdeal.Facts) (hGateTokF : Cert.GateTokF.Facts) (hGateTokFIdeal : Cert.GateTokFIdeal.Facts) (hGateTokFRefIdeal : Cert.GateTokFRefIdeal.Facts) (hGateMemF : Cert.GateMemF.Facts) (hGateMemFIdeal : Cert.GateMemFIdeal.Facts) (hGateMemFRefIdeal : Cert.GateMemFRefIdeal.Facts) (hNormF : Cert.NormF.Facts) (hNormFIdeal : Cert.NormFIdeal.Facts) (hNormFRefIdeal : Cert.NormFRefIdeal.Facts) (hPre_scores_finite : Cert.Pre_scores_finite.Facts) (hPre_inputs_finite : Cert.Pre_inputs_finite.Facts) (hPre_gate_finite : Cert.Pre_gate_finite.Facts) (hPre_gate_mem_finite : Cert.Pre_gate_mem_finite.Facts) (hPre_act_finite : Cert.Pre_act_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_In (hIn := hIn)
    ∧ quiescent_InIdeal (hInIdeal := hInIdeal)
    ∧ quiescent_InRefIdeal (hInRefIdeal := hInRefIdeal)
    ∧ quiescent_InB (hInB := hInB)
    ∧ quiescent_InBIdeal (hInBIdeal := hInBIdeal)
    ∧ quiescent_InBRefIdeal (hInBRefIdeal := hInBRefIdeal)
    ∧ quiescent_Dh (hDh := hDh)
    ∧ quiescent_DhIdeal (hDhIdeal := hDhIdeal)
    ∧ quiescent_DhRefIdeal (hDhRefIdeal := hDhRefIdeal)
    ∧ quiescent_DhB (hDhB := hDhB)
    ∧ quiescent_DhBIdeal (hDhBIdeal := hDhBIdeal)
    ∧ quiescent_DhBRefIdeal (hDhBRefIdeal := hDhBRefIdeal)
    ∧ quiescent_Dw (hDw := hDw)
    ∧ quiescent_DwIdeal (hDwIdeal := hDwIdeal)
    ∧ quiescent_DwRefIdeal (hDwRefIdeal := hDwRefIdeal)
    ∧ quiescent_DwB (hDwB := hDwB)
    ∧ quiescent_DwBIdeal (hDwBIdeal := hDwBIdeal)
    ∧ quiescent_DwBRefIdeal (hDwBRefIdeal := hDwBRefIdeal)
    ∧ quiescent_Attn (hAttn := hAttn)
    ∧ quiescent_AttnIdeal (hAttnIdeal := hAttnIdeal)
    ∧ quiescent_AttnIdeal_pre_inputs_finite (hAttnIdeal := hAttnIdeal) (hPre_inputs_finite := hPre_inputs_finite)
    ∧ quiescent_AttnRefIdeal (hAttnRefIdeal := hAttnRefIdeal)
    ∧ quiescent_AttnRefIdeal_pre_inputs_finite (hAttnRefIdeal := hAttnRefIdeal) (hPre_inputs_finite := hPre_inputs_finite)
    ∧ quiescent_OutTok (hOutTok := hOutTok)
    ∧ quiescent_OutTokIdeal (hOutTokIdeal := hOutTokIdeal)
    ∧ quiescent_OutTokRefIdeal (hOutTokRefIdeal := hOutTokRefIdeal)
    ∧ quiescent_GateTok (hGateTok := hGateTok)
    ∧ quiescent_GateTokIdeal (hGateTokIdeal := hGateTokIdeal)
    ∧ quiescent_GateTokRefIdeal (hGateTokRefIdeal := hGateTokRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_InXbc (hInXbc := hInXbc)
    ∧ quiescent_InXbcIdeal (hInXbcIdeal := hInXbcIdeal)
    ∧ quiescent_InXbcRefIdeal (hInXbcRefIdeal := hInXbcRefIdeal)
    ∧ quiescent_DhXbc (hDhXbc := hDhXbc)
    ∧ quiescent_DhXbcIdeal (hDhXbcIdeal := hDhXbcIdeal)
    ∧ quiescent_DhXbcRefIdeal (hDhXbcRefIdeal := hDhXbcRefIdeal)
    ∧ quiescent_DwXbc (hDwXbc := hDwXbc)
    ∧ quiescent_DwXbcIdeal (hDwXbcIdeal := hDwXbcIdeal)
    ∧ quiescent_DwXbcRefIdeal (hDwXbcRefIdeal := hDwXbcRefIdeal)
    ∧ quiescent_DhFirst (hDhFirst := hDhFirst)
    ∧ quiescent_DhFirstIdeal (hDhFirstIdeal := hDhFirstIdeal)
    ∧ quiescent_DhFirstRefIdeal (hDhFirstRefIdeal := hDhFirstRefIdeal)
    ∧ quiescent_InMem (hInMem := hInMem)
    ∧ quiescent_InMemIdeal (hInMemIdeal := hInMemIdeal)
    ∧ quiescent_InMemRefIdeal (hInMemRefIdeal := hInMemRefIdeal)
    ∧ quiescent_InMemB (hInMemB := hInMemB)
    ∧ quiescent_InMemBIdeal (hInMemBIdeal := hInMemBIdeal)
    ∧ quiescent_InMemBRefIdeal (hInMemBRefIdeal := hInMemBRefIdeal)
    ∧ quiescent_DhMem (hDhMem := hDhMem)
    ∧ quiescent_DhMemIdeal (hDhMemIdeal := hDhMemIdeal)
    ∧ quiescent_DhMemRefIdeal (hDhMemRefIdeal := hDhMemRefIdeal)
    ∧ quiescent_DwMem (hDwMem := hDwMem)
    ∧ quiescent_DwMemIdeal (hDwMemIdeal := hDwMemIdeal)
    ∧ quiescent_DwMemRefIdeal (hDwMemRefIdeal := hDwMemRefIdeal)
    ∧ quiescent_OutMem (hOutMem := hOutMem)
    ∧ quiescent_OutMemIdeal (hOutMemIdeal := hOutMemIdeal)
    ∧ quiescent_OutMemRefIdeal (hOutMemRefIdeal := hOutMemRefIdeal)
    ∧ quiescent_GateMem (hGateMem := hGateMem)
    ∧ quiescent_GateMemIdeal (hGateMemIdeal := hGateMemIdeal)
    ∧ quiescent_GateMemRefIdeal (hGateMemRefIdeal := hGateMemRefIdeal)
    ∧ quiescent_DwOutMem (hDwOutMem := hDwOutMem)
    ∧ quiescent_DwOutMemIdeal (hDwOutMemIdeal := hDwOutMemIdeal)
    ∧ quiescent_DwOutMemRefIdeal (hDwOutMemRefIdeal := hDwOutMemRefIdeal)
    ∧ quiescent_GateTokB (hGateTokB := hGateTokB)
    ∧ quiescent_GateTokBIdeal (hGateTokBIdeal := hGateTokBIdeal)
    ∧ quiescent_GateTokBIdeal_pre_gate_finite (hGateTokBIdeal := hGateTokBIdeal) (hPre_gate_finite := hPre_gate_finite)
    ∧ quiescent_GateTokBRefIdeal (hGateTokBRefIdeal := hGateTokBRefIdeal)
    ∧ quiescent_GateTokBRefIdeal_pre_gate_finite (hGateTokBRefIdeal := hGateTokBRefIdeal) (hPre_gate_finite := hPre_gate_finite)
    ∧ quiescent_GateMemB (hGateMemB := hGateMemB)
    ∧ quiescent_GateMemBIdeal (hGateMemBIdeal := hGateMemBIdeal)
    ∧ quiescent_GateMemBIdeal_pre_gate_mem_finite (hGateMemBIdeal := hGateMemBIdeal) (hPre_gate_mem_finite := hPre_gate_mem_finite)
    ∧ quiescent_GateMemBRefIdeal (hGateMemBRefIdeal := hGateMemBRefIdeal)
    ∧ quiescent_GateMemBRefIdeal_pre_gate_mem_finite (hGateMemBRefIdeal := hGateMemBRefIdeal) (hPre_gate_mem_finite := hPre_gate_mem_finite)
    ∧ quiescent_ConvB (hConvB := hConvB)
    ∧ quiescent_ConvBIdeal (hConvBIdeal := hConvBIdeal)
    ∧ quiescent_ConvBRefIdeal (hConvBRefIdeal := hConvBRefIdeal)
    ∧ quiescent_Norm (hNorm := hNorm)
    ∧ quiescent_NormIdeal (hNormIdeal := hNormIdeal)
    ∧ quiescent_NormRefIdeal (hNormRefIdeal := hNormRefIdeal)
    ∧ quiescent_ConvPre (hConvPre := hConvPre)
    ∧ quiescent_ConvPreIdeal (hConvPreIdeal := hConvPreIdeal)
    ∧ quiescent_ConvPreIdeal_pre_act_finite (hConvPreIdeal := hConvPreIdeal) (hPre_act_finite := hPre_act_finite)
    ∧ quiescent_ConvPreRefIdeal (hConvPreRefIdeal := hConvPreRefIdeal)
    ∧ quiescent_ConvPreRefIdeal_pre_act_finite (hConvPreRefIdeal := hConvPreRefIdeal) (hPre_act_finite := hPre_act_finite)
    ∧ quiescent_ConvF (hConvF := hConvF)
    ∧ quiescent_ConvFIdeal (hConvFIdeal := hConvFIdeal)
    ∧ quiescent_ConvFRefIdeal (hConvFRefIdeal := hConvFRefIdeal)
    ∧ quiescent_GateTokF (hGateTokF := hGateTokF)
    ∧ quiescent_GateTokFIdeal (hGateTokFIdeal := hGateTokFIdeal)
    ∧ quiescent_GateTokFRefIdeal (hGateTokFRefIdeal := hGateTokFRefIdeal)
    ∧ quiescent_GateMemF (hGateMemF := hGateMemF)
    ∧ quiescent_GateMemFIdeal (hGateMemFIdeal := hGateMemFIdeal)
    ∧ quiescent_GateMemFRefIdeal (hGateMemFRefIdeal := hGateMemFRefIdeal)
    ∧ quiescent_NormF (hNormF := hNormF)
    ∧ quiescent_NormFIdeal (hNormFIdeal := hNormFIdeal)
    ∧ quiescent_NormFRefIdeal (hNormFRefIdeal := hNormFRefIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_In_InIdeal
    ∧ algebraic_InIdeal_InRefIdeal (hInIdeal := hInIdeal) (hInRefIdeal := hInRefIdeal)
    ∧ preserves_InB_InBIdeal
    ∧ algebraic_InBIdeal_InBRefIdeal (hInBIdeal := hInBIdeal) (hInBRefIdeal := hInBRefIdeal)
    ∧ preserves_Dh_DhIdeal
    ∧ algebraic_DhIdeal_DhRefIdeal (hDhIdeal := hDhIdeal) (hDhRefIdeal := hDhRefIdeal)
    ∧ preserves_DhB_DhBIdeal
    ∧ algebraic_DhBIdeal_DhBRefIdeal (hDhBIdeal := hDhBIdeal) (hDhBRefIdeal := hDhBRefIdeal)
    ∧ preserves_Dw_DwIdeal
    ∧ algebraic_DwIdeal_DwRefIdeal (hDwIdeal := hDwIdeal) (hDwRefIdeal := hDwRefIdeal)
    ∧ preserves_DwB_DwBIdeal
    ∧ algebraic_DwBIdeal_DwBRefIdeal (hDwBIdeal := hDwBIdeal) (hDwBRefIdeal := hDwBRefIdeal)
    ∧ preserves_Attn_AttnIdeal
    ∧ algebraic_AttnIdeal_AttnRefIdeal_pre_inputs_finite (hAttnIdeal := hAttnIdeal) (hAttnRefIdeal := hAttnRefIdeal) (hPre_inputs_finite := hPre_inputs_finite)
    ∧ preserves_OutTok_OutTokIdeal
    ∧ algebraic_OutTokIdeal_OutTokRefIdeal (hOutTokIdeal := hOutTokIdeal) (hOutTokRefIdeal := hOutTokRefIdeal)
    ∧ preserves_GateTok_GateTokIdeal
    ∧ algebraic_GateTokIdeal_GateTokRefIdeal (hGateTokIdeal := hGateTokIdeal) (hGateTokRefIdeal := hGateTokRefIdeal)
    ∧ preserves_DwOut_DwOutIdeal
    ∧ algebraic_DwOutIdeal_DwOutRefIdeal (hDwOutIdeal := hDwOutIdeal) (hDwOutRefIdeal := hDwOutRefIdeal)
    ∧ preserves_InXbc_InXbcIdeal
    ∧ algebraic_InXbcIdeal_InXbcRefIdeal (hInXbcIdeal := hInXbcIdeal) (hInXbcRefIdeal := hInXbcRefIdeal)
    ∧ preserves_DhXbc_DhXbcIdeal
    ∧ algebraic_DhXbcIdeal_DhXbcRefIdeal (hDhXbcIdeal := hDhXbcIdeal) (hDhXbcRefIdeal := hDhXbcRefIdeal)
    ∧ preserves_DwXbc_DwXbcIdeal
    ∧ algebraic_DwXbcIdeal_DwXbcRefIdeal (hDwXbcIdeal := hDwXbcIdeal) (hDwXbcRefIdeal := hDwXbcRefIdeal)
    ∧ preserves_DhFirst_DhFirstIdeal
    ∧ algebraic_DhFirstIdeal_DhFirstRefIdeal (hDhFirstIdeal := hDhFirstIdeal) (hDhFirstRefIdeal := hDhFirstRefIdeal)
    ∧ preserves_InMem_InMemIdeal
    ∧ algebraic_InMemIdeal_InMemRefIdeal (hInMemIdeal := hInMemIdeal) (hInMemRefIdeal := hInMemRefIdeal)
    ∧ preserves_InMemB_InMemBIdeal
    ∧ algebraic_InMemBIdeal_InMemBRefIdeal (hInMemBIdeal := hInMemBIdeal) (hInMemBRefIdeal := hInMemBRefIdeal)
    ∧ preserves_DhMem_DhMemIdeal
    ∧ algebraic_DhMemIdeal_DhMemRefIdeal (hDhMemIdeal := hDhMemIdeal) (hDhMemRefIdeal := hDhMemRefIdeal)
    ∧ preserves_DwMem_DwMemIdeal
    ∧ algebraic_DwMemIdeal_DwMemRefIdeal (hDwMemIdeal := hDwMemIdeal) (hDwMemRefIdeal := hDwMemRefIdeal)
    ∧ preserves_OutMem_OutMemIdeal
    ∧ algebraic_OutMemIdeal_OutMemRefIdeal (hOutMemIdeal := hOutMemIdeal) (hOutMemRefIdeal := hOutMemRefIdeal)
    ∧ preserves_GateMem_GateMemIdeal
    ∧ algebraic_GateMemIdeal_GateMemRefIdeal (hGateMemIdeal := hGateMemIdeal) (hGateMemRefIdeal := hGateMemRefIdeal)
    ∧ preserves_DwOutMem_DwOutMemIdeal
    ∧ algebraic_DwOutMemIdeal_DwOutMemRefIdeal (hDwOutMemIdeal := hDwOutMemIdeal) (hDwOutMemRefIdeal := hDwOutMemRefIdeal)
    ∧ preserves_GateTokB_GateTokBIdeal
    ∧ algebraic_GateTokBIdeal_GateTokBRefIdeal_pre_gate_finite (hGateTokBIdeal := hGateTokBIdeal) (hGateTokBRefIdeal := hGateTokBRefIdeal) (hPre_gate_finite := hPre_gate_finite)
    ∧ preserves_GateMemB_GateMemBIdeal
    ∧ algebraic_GateMemBIdeal_GateMemBRefIdeal_pre_gate_mem_finite (hGateMemBIdeal := hGateMemBIdeal) (hGateMemBRefIdeal := hGateMemBRefIdeal) (hPre_gate_mem_finite := hPre_gate_mem_finite)
    ∧ preserves_ConvB_ConvBIdeal
    ∧ algebraic_ConvBIdeal_ConvBRefIdeal (hConvBIdeal := hConvBIdeal) (hConvBRefIdeal := hConvBRefIdeal)
    ∧ preserves_Norm_NormIdeal
    ∧ algebraic_NormIdeal_NormRefIdeal (hNormIdeal := hNormIdeal) (hNormRefIdeal := hNormRefIdeal)
    ∧ preserves_ConvPre_ConvPreIdeal
    ∧ algebraic_ConvPreIdeal_ConvPreRefIdeal_pre_act_finite (hConvPreIdeal := hConvPreIdeal) (hConvPreRefIdeal := hConvPreRefIdeal) (hPre_act_finite := hPre_act_finite)
    ∧ preserves_ConvF_ConvFIdeal
    ∧ algebraic_ConvFIdeal_ConvFRefIdeal (hConvFIdeal := hConvFIdeal) (hConvFRefIdeal := hConvFRefIdeal)
    ∧ preserves_GateTokF_GateTokFIdeal
    ∧ algebraic_GateTokFIdeal_GateTokFRefIdeal (hGateTokFIdeal := hGateTokFIdeal) (hGateTokFRefIdeal := hGateTokFRefIdeal)
    ∧ preserves_GateMemF_GateMemFIdeal
    ∧ algebraic_GateMemFIdeal_GateMemFRefIdeal (hGateMemFIdeal := hGateMemFIdeal) (hGateMemFRefIdeal := hGateMemFRefIdeal)
    ∧ preserves_NormF_NormFIdeal
    ∧ algebraic_NormFIdeal_NormFRefIdeal (hNormFIdeal := hNormFIdeal) (hNormFRefIdeal := hNormFRefIdeal)
-- ==== Pre_act_finite.lean ====
abbrev S8192x5120 : Shape := ⟨2, ![8192, 5120]⟩
abbrev S4x5120 : Shape := ⟨2, ![4, 5120]⟩
abbrev S5120 : Shape := ⟨1, ![5120]⟩
abbrev S_ : Shape := ⟨0, ![]⟩

class Facts : Prop where
  bcast_S_S8192x5120 : S_.BroadcastsInDim S8192x5120 (![] : Fin 0 → Fin S8192x5120.rank)
  reducesTo_S8192x5120_S_d0_1 : S8192x5120.ReducesTo [0, 1] S_
  h_S_ : 0 < S_.numel

variable [Facts]

def fn {F : FTy → Type} [FloatOps F] (main_arg0 : FVec F S8192x5120 .f32) (main_arg1 : FVec F S4x5120 .f32) (main_arg2 : FVec F S5120 .f32) (main_arg3 : FVec F S8192x5120 .f32) : IVec S_ 1 :=
  let main_v0 : FVec F S8192x5120 .f32 := Host.absf main_arg3
  let main_cst : FVec F S_ .f32 := constant S_ .f32 0x7F800000#32
  let main_v1 : FVec F S8192x5120 .f32 := broadcastInDim S8192x5120 ![] bcast_S_S8192x5120 main_cst
  let main_v2 : IVec S8192x5120 1 := cmpf .olt main_v0 main_v1
  let main_c : IVec S_ 1 := constantI S_ 1 1#1
  let main_v3 : IVec S_ 1 := (fun x v => Host.reduce IntOp.andi x v reducesTo_S8192x5120_S_d0_1 h_S_) main_v2 main_c
  main_v3
-- ==== Pre_gate_finite.lean ====
abbrev S8192x3072 : Shape := ⟨2, ![8192, 3072]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel

variable [Facts]

def fn {F : FTy → Type} [FloatOps F] (main_arg0 : FVec F S8192x3072 .f32) (main_arg1 : FVec F S8192x3072 .f32) (main_arg2 : FVec F S8192x3072 .f32) : IVec S_ 1 :=
  let main_v0 : FVec F S8192x3072 .f32 := mulf main_arg0 main_arg2
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  main_v4
-- ==== Pre_gate_mem_finite.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : FVec F S8192x1024 .f32) : IVec S_ 1 :=
  let main_v0 : FVec F S8192x1024 .f32 := mulf main_arg0 main_arg2
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  main_v4
-- ==== Pre_inputs_finite.lean ====
abbrev S8192x3072 : Shape := ⟨2, ![8192, 3072]⟩
abbrev S8192x24x128 : Shape := ⟨3, ![8192, 24, 128]⟩
abbrev S8192x24 : Shape := ⟨2, ![8192, 24]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x24x128 : S_.BroadcastsInDim S8192x24x128 (![] : Fin 0 → Fin S8192x24x128.rank)
  reducesTo_S8192x24x128_S_d0_1_2 : S8192x24x128.ReducesTo [0, 1, 2] S_
  bcast_S_S8192x24 : S_.BroadcastsInDim S8192x24 (![] : Fin 0 → Fin S8192x24.rank)
  reducesTo_S8192x24_S_d0_1 : S8192x24.ReducesTo [0, 1] S_

variable [Facts]

def fn_part2 {F : FTy → Type} [FloatOps F] (main_arg7 : FVec F S8192x3072 .f32) (main_v31 : IVec S_ 1) (main_v34 : IVec S8192x24 1) : IVec S_ 1 :=
  let main_c_11 : IVec S_ 1 := constantI S_ 1 1#1
  let main_v35 : IVec S_ 1 := (fun x v => Host.reduce IntOp.andi x v reducesTo_S8192x24_S_d0_1 h_S_) main_v34 main_c_11
  let main_v36 : IVec S_ 1 := andi main_v31 main_v35
  let main_v37 : FVec F S8192x3072 .f32 := Host.absf main_arg7
  let main_cst_12 : FVec F S_ .f32 := constant S_ .f32 0x7F800000#32
  let main_v38 : FVec F S8192x3072 .f32 := broadcastInDim S8192x3072 ![] bcast_S_S8192x3072 main_cst_12
  let main_v39 : IVec S8192x3072 1 := cmpf .olt main_v37 main_v38
  let main_c_13 : IVec S_ 1 := constantI S_ 1 1#1
  let main_v40 : IVec S_ 1 := (fun x v => Host.reduce IntOp.andi x v reducesTo_S8192x3072_S_d0_1 h_S_) main_v39 main_c_13
  let main_v41 : IVec S_ 1 := andi main_v36 main_v40
  main_v41

def fn_part1 {F : FTy → Type} [FloatOps F] (main_arg4 : FVec F S8192x24 .f32) (main_arg5 : FVec F S8192x24x128 .f32) (main_arg6 : FVec F S8192x24 .f32) (main_arg7 : FVec F S8192x3072 .f32) (main_v16 : IVec S_ 1) (main_v17 : FVec F S8192x24x128 .f32) : IVec S_ 1 :=
  let main_cst_4 : FVec F S_ .f32 := constant S_ .f32 0x7F800000#32
  let main_v18 : FVec F S8192x24x128 .f32 := broadcastInDim S8192x24x128 ![] bcast_S_S8192x24x128 main_cst_4
  let main_v19 : IVec S8192x24x128 1 := cmpf .olt main_v17 main_v18
  let main_c_5 : IVec S_ 1 := constantI S_ 1 1#1
  let main_v20 : IVec S_ 1 := (fun x v => Host.reduce IntOp.andi x v reducesTo_S8192x24x128_S_d0_1_2 h_S_) main_v19 main_c_5
  let main_v21 : IVec S_ 1 := andi main_v16 main_v20
  let main_v22 : FVec F S8192x24 .f32 := Host.absf main_arg4
  let main_cst_6 : FVec F S_ .f32 := constant S_ .f32 0x7F800000#32
  let main_v23 : FVec F S8192x24 .f32 := broadcastInDim S8192x24 ![] bcast_S_S8192x24 main_cst_6
  let main_v24 : IVec S8192x24 1 := cmpf .olt main_v22 main_v23
  let main_c_7 : IVec S_ 1 := constantI S_ 1 1#1
  let main_v25 : IVec S_ 1 := (fun x v => Host.reduce IntOp.andi x v reducesTo_S8192x24_S_d0_1 h_S_) main_v24 main_c_7
  let main_v26 : IVec S_ 1 := andi main_v21 main_v25
  let main_v27 : FVec F S8192x24x128 .f32 := Host.absf main_arg5
  let main_cst_8 : FVec F S_ .f32 := constant S_ .f32 0x7F800000#32
  let main_v28 : FVec F S8192x24x128 .f32 := broadcastInDim S8192x24x128 ![] bcast_S_S8192x24x128 main_cst_8
  let main_v29 : IVec S8192x24x128 1 := cmpf .olt main_v27 main_v28
  let main_c_9 : IVec S_ 1 := constantI S_ 1 1#1
  let main_v30 : IVec S_ 1 := (fun x v => Host.reduce IntOp.andi x v reducesTo_S8192x24x128_S_d0_1_2 h_S_) main_v29 main_c_9
  let main_v31 : IVec S_ 1 := andi main_v26 main_v30
  let main_v32 : FVec F S8192x24 .f32 := Host.absf main_arg6
  let main_cst_10 : FVec F S_ .f32 := constant S_ .f32 0x7F800000#32
  let main_v33 : FVec F S8192x24 .f32 := broadcastInDim S8192x24 ![] bcast_S_S8192x24 main_cst_10
  let main_v34 : IVec S8192x24 1 := cmpf .olt main_v32 main_v33
  fn_part2 (F := F) main_arg7 main_v31 main_v34

def fn {F : FTy → Type} [FloatOps F] (main_arg0 : FVec F S8192x3072 .bf16) (main_arg1 : FVec F S8192x3072 .bf16) (main_arg2 : FVec F S8192x3072 .bf16) (main_arg3 : FVec F S8192x24x128 .f32) (main_arg4 : FVec F S8192x24 .f32) (main_arg5 : FVec F S8192x24x128 .f32) (main_arg6 : FVec F S8192x24 .f32) (main_arg7 : FVec F S8192x3072 .f32) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S8192x3072 .f32 := (extf .f32 · bitsLt_bf16_f32) main_arg1
  let main_v6 : FVec F S8192x3072 .f32 := Host.absf main_v5
  let main_cst_0 : FVec F S_ .f32 := constant S_ .f32 0x7F800000#32
  let main_v7 : FVec F S8192x3072 .f32 := broadcastInDim S8192x3072 ![] bcast_S_S8192x3072 main_cst_0
  let main_v8 : IVec S8192x3072 1 := cmpf .olt main_v6 main_v7
  let main_c_1 : IVec S_ 1 := constantI S_ 1 1#1
  let main_v9 : IVec S_ 1 := (fun x v => Host.reduce IntOp.andi x v reducesTo_S8192x3072_S_d0_1 h_S_) main_v8 main_c_1
  let main_v10 : IVec S_ 1 := andi main_v4 main_v9
  let main_v11 : FVec F S8192x3072 .f32 := (extf .f32 · bitsLt_bf16_f32) main_arg2
  let main_v12 : FVec F S8192x3072 .f32 := Host.absf main_v11
  let main_cst_2 : FVec F S_ .f32 := constant S_ .f32 0x7F800000#32
  let main_v13 : FVec F S8192x3072 .f32 := broadcastInDim S8192x3072 ![] bcast_S_S8192x3072 main_cst_2
  let main_v14 : IVec S8192x3072 1 := cmpf .olt main_v12 main_v13
  let main_c_3 : IVec S_ 1 := constantI S_ 1 1#1
  let main_v15 : IVec S_ 1 := (fun x v => Host.reduce IntOp.andi x v reducesTo_S8192x3072_S_d0_1 h_S_) main_v14 main_c_3
  let main_v16 : IVec S_ 1 := andi main_v10 main_v15
  let main_v17 : FVec F S8192x24x128 .f32 := Host.absf main_arg3
  fn_part1 (F := F) main_arg4 main_arg5 main_arg6 main_arg7 main_v16 main_v17
-- ==== Pre_scores_finite.lean ====
abbrev S8192x1024 : Shape := ⟨2, ![8192, 1024]⟩
abbrev S256x2048 : Shape := ⟨2, ![256, 2048]⟩
abbrev S256x1024 : Shape := ⟨2, ![256, 1024]⟩
abbrev S_ : Shape := ⟨0, ![]⟩

class Facts : Prop where
  slices_S256x2048_S256x1024_0_0 : S256x2048.Slices ![0, 0] S256x1024
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x1024 .bf16) (main_arg1 : FVec F S256x2048 .f32) (main_arg2 : FVec F S8192x1024 .f32) : IVec S_ 1 :=
  let main_v0 : FVec F S256x1024 .f32 := (extractStridedSlice S256x1024 ![0, 0] · slices_S256x2048_S256x1024_0_0) main_arg1
  let main_v1 : FVec F S8192x1024 .f32 := (extf .f32 · bitsLt_bf16_f32) main_arg0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S256x1024 .f32 := Host.absf main_v0
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c_1 : IVec S_ 1 := constantI S_ 1 1#1
  let main_v9 : IVec S_ 1 := (fun x v => Host.reduce IntOp.andi x v reducesTo_S256x1024_S_d0_1 h_S_) main_v8 main_c_1
  let main_v10 : IVec S_ 1 := andi main_v5 main_v9
  main_v10
-- ==== Kernel.lean ====
abbrev S8192x1024 : Shape := ⟨2, ![8192, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S256x512 : Shape := ⟨2, ![256, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S256x2048, .f32⟩
  | .hbm, ⟨2, _⟩ => ⟨S8192x1024, .f32⟩
  | .hbm, ⟨3, _⟩ => ⟨S8192x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x1024 : Shape := ⟨2, ![8192, 1024]⟩
abbrev S256x2048 : Shape := ⟨2, ![256, 2048]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .f32⟩
  | .hbm, ⟨2, _⟩ => ⟨S8192x1024, .f32⟩
  | .hbm, ⟨3, _⟩ => ⟨S256x1024, .f32⟩
  | .hbm, ⟨4, _⟩ => ⟨S256x1024, .f32⟩
  | .hbm, ⟨5, _⟩ => ⟨S8192x1024, .f32⟩
  | .hbm, ⟨6, _⟩ => ⟨S8192x4x256, .f32⟩
  | .hbm, ⟨7, _⟩ => ⟨S256x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x256x8192, .f32⟩
  | .hbm, ⟨52, _⟩ => ⟨S8192x4x256, .f32⟩
  | .hbm, ⟨53, _⟩ => ⟨S8192x1024, .f32⟩
  | .hbm, ⟨54, _⟩ => ⟨S8192x4x256, .f32⟩
  | .hbm, ⟨55, _⟩ => ⟨S4x256x8192, .f32⟩
  | .hbm, ⟨56, _⟩ => ⟨S4x8192x256, .f32⟩
  | .hbm, ⟨57, _⟩ => ⟨S4x256x256, .f32⟩
  | .hbm, ⟨58, _⟩ => ⟨S256x4x256, .f32⟩
  | .hbm, ⟨59, _⟩ => ⟨S4x8192x256, .f32⟩
  | .hbm, ⟨60, _⟩ => ⟨S4x8192x256, .f32⟩
  | .hbm, ⟨61, _⟩ => ⟨S4x8192x256, .f32⟩
  | .hbm, ⟨62, _⟩ => ⟨S_, .f32⟩
  | .hbm, ⟨63, _⟩ => ⟨S4x8192, .f32⟩
  | .hbm, ⟨64, _⟩ => ⟨S4x8192x1, .f32⟩
  | .hbm, ⟨65, _⟩ => ⟨S4x8192x1, .f32⟩
  | .hbm, ⟨66, _⟩ => ⟨S4x8192x256, .f32⟩
  | .hbm, ⟨67, _⟩ => ⟨S4x8192x256, .f32⟩
  | .hbm, ⟨68, _⟩ => ⟨S_, .f32⟩
  | .hbm, ⟨69, _⟩ => ⟨S4x8192, .f32⟩
  | .hbm, ⟨70, _⟩ => ⟨S4x8192x256, .f32⟩
  | .hbm, ⟨71, _⟩ => ⟨S4x8192x256, .f32⟩
  | .hbm, ⟨72, _⟩ => ⟨S4x8192x256, .f32⟩
  | .hbm, ⟨73, _⟩ => ⟨S_, .f32⟩
  | .hbm, ⟨74, _⟩ => ⟨S4x8192x256, .f32⟩
  | .hbm, ⟨75, _⟩ => ⟨S4x8192x256, .f32⟩
  | .hbm, ⟨76, _⟩ => ⟨S4x256x256, .f32⟩
  | .hbm, ⟨77, _⟩ => ⟨S256x4x256, .f32⟩
  | .hbm, ⟨78, _⟩ => ⟨S4x8192x256, .f32⟩
  | .hbm, ⟨79, _⟩ => ⟨S8192x4x256, .f32⟩
  | .hbm, ⟨80, _⟩ => ⟨S256x1024, .f32⟩
  | .hbm, ⟨81, _⟩ => ⟨S256x1024, .f32⟩
  | .hbm, ⟨82, _⟩ => ⟨S8192x1024, .f32⟩
  | .hbm, ⟨83, _⟩ => ⟨S8192x1024, .bf16⟩
  | .hbm, ⟨84, _⟩ => ⟨S256x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== In.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InIdeal.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x2048 : Shape := ⟨2, ![8192, 2048]⟩
abbrev S2048x3072 : Shape := ⟨2, ![2048, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x2048, .f32⟩
  | .hbm, ⟨3, _⟩ => ⟨S2048x3072, .f32⟩
  | .hbm, ⟨4, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InB.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBIdeal.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBRefIdeal.lean ====
abbrev S8192x2048 : Shape := ⟨2, ![8192, 2048]⟩
abbrev S2048x3072 : Shape := ⟨2, ![2048, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x2048, .f32⟩
  | .hbm, ⟨3, _⟩ => ⟨S2048x3072, .f32⟩
  | .hbm, ⟨4, _⟩ => ⟨S8192x3072, .f32⟩
  | .hbm, ⟨5, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dh.lean ====
abbrev S8192x3072 : Shape := ⟨2, ![8192, 3072]⟩
abbrev S2048x3072 : Shape := ⟨2, ![2048, 3072]⟩
abbrev S8192x2048 : Shape := ⟨2, ![8192, 2048]⟩
abbrev S512x3072 : Shape := ⟨2, ![512, 3072]⟩
abbrev S1024x3072 : Shape := ⟨2, ![1024, 3072]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S2048x3072, .bf16⟩
  | .hbm, ⟨2, _⟩ => ⟨S8192x2048, .f32⟩
  | .hbm, ⟨3, _⟩ => ⟨S8192x2048, .f32⟩
  | .local _ .vmem, ⟨0, _⟩ => ⟨S512x3072, .f32⟩
  | .local _ .vmem, ⟨1, _⟩ => ⟨S512x3072, .f32⟩
  | .local _ .vmem, ⟨2, _⟩ => ⟨S1024x3072, .bf16⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhIdeal.lean ====
abbrev S8192x3072 : Shape := ⟨2, ![8192, 3072]⟩
abbrev S2048x3072 : Shape := ⟨2, ![2048, 3072]⟩
abbrev S8192x2048 : Shape := ⟨2, ![8192, 2048]⟩
abbrev S512x3072 : Shape := ⟨2, ![512, 3072]⟩
abbrev S1024x3072 : Shape := ⟨2, ![1024, 3072]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S2048x3072, .bf16⟩
  | .hbm, ⟨2, _⟩ => ⟨S8192x2048, .f32⟩
  | .hbm, ⟨3, _⟩ => ⟨S8192x2048, .f32⟩
  | .local _ .vmem, ⟨0, _⟩ => ⟨S512x3072, .f32⟩
  | .local _ .vmem, ⟨1, _⟩ => ⟨S512x3072, .f32⟩
  | .local _ .vmem, ⟨2, _⟩ => ⟨S1024x3072, .bf16⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhRefIdeal.lean ====
abbrev S8192x3072 : Shape := ⟨2, ![8192, 3072]⟩
abbrev S2048x3072 : Shape := ⟨2, ![2048, 3072]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S2048x3072, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x3072, .f32⟩
  | .hbm, ⟨6, _⟩ => ⟨S8192x3072, .f32⟩
  | .hbm, ⟨7, _⟩ => ⟨S8192x2048, .f32⟩
  | .hbm, ⟨8, _⟩ => ⟨S8192x2048, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DhB.lean ====
abbrev S8192x3072 : Shape := ⟨2, ![8192, 3072]⟩
abbrev S2048x3072 : Shape := ⟨2, ![2048, 3072]⟩
abbrev S8192x2048 : Shape := ⟨2, ![8192, 2048]⟩
abbrev S512x3072 : Shape := ⟨2, ![512, 3072]⟩
abbrev S1024x3072 : Shape := ⟨2, ![1024, 3072]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x3072, .bf16⟩
  | .hbm, ⟨1, _⟩ => ⟨S2048x3072, .bf16⟩
  | .hbm, ⟨2, _⟩ => ⟨S8192x2048, .f32⟩
  | .hbm, ⟨3, _⟩ => ⟨S8192x2048, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhBIdeal.lean ====
abbrev S8192x3072 : Shape := ⟨2, ![8192, 3072]⟩
abbrev S2048x3072 : Shape := ⟨2, ![2048, 3072]⟩
abbrev S8192x2048 : Shape := ⟨2, ![8192, 2048]⟩
abbrev S512x3072 : Shape := ⟨2, ![512, 3072]⟩
abbrev S1024x3072 : Shape := ⟨2, ![1024, 3072]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x3072, .bf16⟩
  | .hbm, ⟨1, _⟩ => ⟨S2048x3072, .bf16⟩
  | .hbm, ⟨2, _⟩ => ⟨S8192x2048, .f32⟩
  | .hbm, ⟨3, _⟩ => ⟨S8192x2048, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhBRefIdeal.lean ====
abbrev S8192x3072 : Shape := ⟨2, ![8192, 3072]⟩
abbrev S2048x3072 : Shape := ⟨2, ![2048, 3072]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S2048x3072, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x3072, .f32⟩
  | .hbm, ⟨6, _⟩ => ⟨S8192x3072, .f32⟩
  | .hbm, ⟨7, _⟩ => ⟨S8192x3072, .f32⟩
  | .hbm, ⟨8, _⟩ => ⟨S8192x2048, .f32⟩
  | .hbm, ⟨9, _⟩ => ⟨S8192x2048, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Dw.lean ====
abbrev S8192x2048 : Shape := ⟨2, ![8192, 2048]⟩
abbrev S8192x3072 : Shape := ⟨2, ![8192, 3072]⟩
abbrev S2048x3072 : Shape := ⟨2, ![2048, 3072]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .f32⟩
  | .hbm, ⟨2, _⟩ => ⟨S2048x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwIdeal.lean ====
abbrev S8192x2048 : Shape := ⟨2, ![8192, 2048]⟩
abbrev S8192x3072 : Shape := ⟨2, ![8192, 3072]⟩
abbrev S2048x3072 : Shape := ⟨2, ![2048, 3072]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .f32⟩
  | .hbm, ⟨2, _⟩ => ⟨S2048x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S8192x2048 : Shape := ⟨2, ![8192, 2048]⟩
abbrev S8192x3072 : Shape := ⟨2, ![8192, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .f32⟩
  | .hbm, ⟨2, _⟩ => ⟨S_, .f32⟩
  | .hbm, ⟨3, _⟩ => ⟨S2048x3072, .f32⟩
  | .hbm, ⟨4, _⟩ => ⟨S8192x2048, .f32⟩
  | .hbm, ⟨5, _⟩ => ⟨S8192x3072, .f32⟩
  | .hbm, ⟨6, _⟩ => ⟨S3072x2048, .f32⟩
  | .hbm, ⟨7, _⟩ => ⟨S2048x3072, .f32⟩
  | .hbm, ⟨8, _⟩ => ⟨S2048x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwB.lean ====
abbrev S8192x2048 : Shape := ⟨2, ![8192, 2048]⟩
abbrev S8192x3072 : Shape := ⟨2, ![8192, 3072]⟩
abbrev S2048x3072 : Shape := ⟨2, ![2048, 3072]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S2048x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBIdeal.lean ====
abbrev S8192x2048 : Shape := ⟨2, ![8192, 2048]⟩
abbrev S8192x3072 : Shape := ⟨2, ![8192, 3072]⟩
abbrev S2048x3072 : Shape := ⟨2, ![2048, 3072]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S2048x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBRefIdeal.lean ====
abbrev S8192x2048 : Shape := ⟨2, ![8192, 2048]⟩
abbrev S8192x3072 : Shape := ⟨2, ![8192, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S_, .f32⟩
  | .hbm, ⟨3, _⟩ => ⟨S2048x3072, .f32⟩
  | .hbm, ⟨4, _⟩ => ⟨S8192x2048, .f32⟩
  | .hbm, ⟨5, _⟩ => ⟨S8192x3072, .f32⟩
  | .hbm, ⟨6, _⟩ => ⟨S8192x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Attn.lean ====
abbrev S8192x3072 : Shape := ⟨2, ![8192, 3072]⟩
abbrev S8192x24x128 : Shape := ⟨3, ![8192, 24, 128]⟩
abbrev S8192x24 : Shape := ⟨2, ![8192, 24]⟩
abbrev S72 : Shape := ⟨1, ![72]⟩
abbrev S_ : Shape := ⟨0, ![]⟩
abbrev S3x24 : Shape := ⟨2, ![3, 24]⟩
abbrev S1x24 : Shape := ⟨2, ![1, 24]⟩
abbrev S24 : Shape := ⟨1, ![24]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S24x1x1 : Shape := ⟨3, ![24, 1, 1]⟩
abbrev S1x8192x8192 : Shape := ⟨3, ![1, 8192, 8192]⟩
abbrev S24x8192x8192 : Shape := ⟨3, ![24, 8192, 8192]⟩
abbrev S24x8192 : Shape := ⟨2, ![24, 8192]⟩
abbrev S24x8192x1 : Shape := ⟨3, ![24, 8192, 1]⟩
abbrev S24x128x8192 : Shape := ⟨3, ![24, 128, 8192]⟩
abbrev S8192x24x1 : Shape := ⟨3, ![8192, 24, 1]⟩
abbrev S1x8192x24 : Shape := ⟨3, ![1, 8192, 24]⟩
abbrev S3x8192x24 : Shape := ⟨3, ![3, 8192, 24]⟩
abbrev S3x8192x24x1 : Shape := ⟨4, ![3, 8192, 24, 1]⟩
abbrev S1x8192x24x128 : Shape := ⟨4, ![1, 8192, 24, 128]⟩
abbrev S3x8192x24x128 : Shape := ⟨4, ![3, 8192, 24, 128]⟩
abbrev S128x1536 : Shape := ⟨2, ![128, 1536]⟩
abbrev S128x256 : Shape := ⟨2, ![128, 256]⟩
abbrev S128x128 : Shape := ⟨2, ![128, 128]⟩
abbrev S1x1 : Shape := ⟨2, ![1, 1]⟩
abbrev S128 : Shape := ⟨1, ![128]⟩
abbrev S128x1 : Shape := ⟨2, ![128, 1]⟩
abbrev S256x128 : Shape := ⟨2, ![256, 128]⟩

abbrev nBuf : Space → Nat
  | .hbm => 131
  | .vmem => 30
  | .smem => 0
  | _ => 0

abbrev hbmTy0_0 (i : Nat) : BufTy := match i % 128 with
  | 0 => ⟨S8192x3072, .bf16⟩
  | 1 => ⟨S8192x3072, .bf16⟩
  | 2 => ⟨S8192x3072, .bf16⟩
  | 3 => ⟨S8192x24x128, .f32⟩
  | 4 => ⟨S8192x24, .f32⟩
  | 5 => ⟨S8192x24x128, .f32⟩
  | 6 => ⟨S8192x24, .f32⟩
  | 7 => ⟨S8192x3072, .f32⟩
  | 8 => ⟨S72, .f32⟩
  | 9 => ⟨S_, .f32⟩
  | 10 => ⟨S72, .f32⟩
  | 11 => ⟨S72, .f32⟩
  | 12 => ⟨S_, .f32⟩
  | 13 => ⟨S72, .f32⟩
  | 14 => ⟨S72, .f32⟩
  | 15 => ⟨S_, .f32⟩
  | 16 => ⟨S72, .f32⟩
  | 17 => ⟨S72, .f32⟩
  | 18 => ⟨S_, .f32⟩
  | 19 => ⟨S72, .f32⟩
  | 20 => ⟨S72, .f32⟩
  | 21 => ⟨S72, .f32⟩
  | 22 => ⟨S3x24, .f32⟩
  | 23 => ⟨S1x24, .f32⟩
  | 24 => ⟨S24, .f32⟩
  | 25 => ⟨S8192x3072, .f32⟩
  | 26 => ⟨S8192x24x128, .f32⟩
  | 27 => ⟨S8192x3072, .f32⟩
  | 28 => ⟨S8192x24x128, .f32⟩
  | 29 => ⟨S8192x3072, .f32⟩
  | 30 => ⟨S8192x24x128, .f32⟩
  | 31 => ⟨S8192, .i32⟩
  | 32 => ⟨S8192x1, .i32⟩
  | 33 => ⟨S8192, .i32⟩
  | 34 => ⟨S1x8192, .i32⟩
  | 35 => ⟨S8192x8192, .i32⟩
  | 36 => ⟨S8192x8192, .i32⟩
  | 37 => ⟨S8192x8192, .i32⟩
  | 38 => ⟨S_, .i32⟩
  | 39 => ⟨S8192x8192, .i32⟩
  | 40 => ⟨S8192x8192, .i1⟩
  | 41 => ⟨S_, .i32⟩
  | 42 => ⟨S8192x8192, .i32⟩
  | 43 => ⟨S8192x8192, .i1⟩
  | 44 => ⟨S8192x8192, .i1⟩
  | 45 => ⟨S24x1x1, .f32⟩
  | 46 => ⟨S24x1x1, .f32⟩
  | 47 => ⟨S8192x8192, .f32⟩
  | 48 => ⟨S1x8192x8192, .f32⟩
  | 49 => ⟨S24x8192x8192, .f32⟩
  | 50 => ⟨S24x8192x8192, .f32⟩
  | 51 => ⟨S24x8192x8192, .f32⟩
  | 52 => ⟨S24x8192x8192, .f32⟩
  | 53 => ⟨S_, .f32⟩
  | 54 => ⟨S24x8192x8192, .f32⟩
  | 55 => ⟨S24x8192x8192, .f32⟩
  | 56 => ⟨S24x8192x8192, .f32⟩
  | 57 => ⟨S_, .f32⟩
  | 58 => ⟨S_, .f32⟩
  | 59 => ⟨S24x8192x8192, .i1⟩
  | 60 => ⟨S24x8192x8192, .f32⟩
  | 61 => ⟨S24x8192x8192, .f32⟩
  | 62 => ⟨S_, .f32⟩
  | 63 => ⟨S24x8192, .f32⟩
  | 64 => ⟨S24x8192x1, .f32⟩
  | 65 => ⟨S24x8192x8192, .f32⟩
  | 66 => ⟨S24x8192x8192, .f32⟩
  | 67 => ⟨S24x8192x8192, .f32⟩
  | 68 => ⟨S_, .f32⟩
  | 69 => ⟨S24x8192, .f32⟩
  | 70 => ⟨S8192x24, .f32⟩
  | 71 => ⟨S24x128x8192, .f32⟩
  | 72 => ⟨S8192x24x128, .f32⟩
  | 73 => ⟨S8192x24x1, .f32⟩
  | 74 => ⟨S8192x24x128, .f32⟩
  | 75 => ⟨S8192x24x128, .f32⟩
  | 76 => ⟨S24x8192, .f32⟩
  | 77 => ⟨S8192x24, .f32⟩
  | 78 => ⟨S8192x24, .f32⟩
  | 79 => ⟨S8192x24, .f32⟩
  | 80 => ⟨S1x8192x24, .f32⟩
  | 81 => ⟨S1x8192x24, .f32⟩
  | 82 => ⟨S1x8192x24, .f32⟩
  | 83 => ⟨S3x8192x24, .f32⟩
  | 84 => ⟨S_, .f32⟩
  | 85 => ⟨S8192x24, .f32⟩
  | 86 => ⟨S_, .f32⟩
  | 87 => ⟨S8192x24, .f32⟩
  | 88 => ⟨S8192x24, .f32⟩
  | 89 => ⟨S1x8192x24, .f32⟩
  | 90 => ⟨S3x8192x24, .f32⟩
  | 91 => ⟨S3x8192x24, .f32⟩
  | 92 => ⟨S3x8192x24, .f32⟩
  | 93 => ⟨S_, .f32⟩
  | 94 => ⟨S8192x24, .f32⟩
  | 95 => ⟨S1x8192x24, .f32⟩
  | 96 => ⟨S3x8192x24, .f32⟩
  | 97 => ⟨S3x8192x24, .f32⟩
  | 98 => ⟨S3x8192x24x1, .f32⟩
  | 99 => ⟨S1x8192x24x128, .f32⟩
  | 100 => ⟨S1x8192x24x128, .f32⟩
  | 101 => ⟨S1x8192x24x128, .f32⟩
  | 102 => ⟨S3x8192x24x128, .f32⟩
  | 103 => ⟨S3x8192x24x128, .f32⟩
  | 104 => ⟨S3x8192x24x128, .f32⟩
  | 105 => ⟨S_, .f32⟩
  | 106 => ⟨S8192x24x128, .f32⟩
  | 107 => ⟨S8192x3072, .f32⟩
  | 108 => ⟨S1x8192x24, .f32⟩
  | 109 => ⟨S1x8192x24, .f32⟩
  | 110 => ⟨S1x8192x24, .f32⟩
  | 111 => ⟨S3x8192x24, .f32⟩
  | 112 => ⟨S_, .f32⟩
  | 113 => ⟨S8192x24, .f32⟩
  | 114 => ⟨S_, .f32⟩
  | 115 => ⟨S8192x24, .f32⟩
  | 116 => ⟨S8192x24, .f32⟩
  | 117 => ⟨S1x8192x24, .f32⟩
  | 118 => ⟨S3x8192x24, .f32⟩
  | 119 => ⟨S3x8192x24, .f32⟩
  | 120 => ⟨S3x8192x24, .f32⟩
  | 121 => ⟨S_, .f32⟩
  | 122 => ⟨S8192x24, .f32⟩
  | 123 => ⟨S8192x24, .f32⟩
  | 124 => ⟨S8192x24, .f32⟩
  | 125 => ⟨S8192x24x1, .f32⟩
  | 126 => ⟨S8192x24x128, .f32⟩
  | 127 => ⟨S8192x3072, .f32⟩
  | _ => ⟨S8192x3072, .bf16⟩

abbrev hbmTy0_1 (i : Nat) : BufTy := match i % 128 with
  | 0 => ⟨S8192x3072, .bf16⟩
  | 1 => ⟨S8192x3072, .bf16⟩
  | 2 => ⟨S8192x3072, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | .local _ .vmem, ⟨0, _⟩ => ⟨S128x1536, .bf16⟩
  | .local _ .vmem, ⟨1, _⟩ => ⟨S128x1536, .bf16⟩
  | .local _ .vmem, ⟨2, _⟩ => ⟨S128x1536, .bf16⟩
  | .local _ .vmem, ⟨3, _⟩ => ⟨S128x1536, .bf16⟩
  | .local _ .vmem, ⟨4, _⟩ => ⟨S128x1536, .bf16⟩
  | .local _ .vmem, ⟨5, _⟩ => ⟨S128x1536, .bf16⟩
  | .local _ .vmem, ⟨6, _⟩ => ⟨S128x1536, .bf16⟩
  | .local _ .vmem, ⟨7, _⟩ => ⟨S128x1536, .bf16⟩
  | .local _ .vmem, ⟨8, _⟩ => ⟨S128x1536, .bf16⟩
  | .local _ .vmem, ⟨9, _⟩ => ⟨S128x1536, .bf16⟩
  | .local _ .vmem, ⟨10, _⟩ => ⟨S128x1536, .bf16⟩
  | .local _ .vmem, ⟨11, _⟩ => ⟨S128x1536, .bf16⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | .local _ .vmem, ⟨16, _⟩ => ⟨S128x1536, .f32⟩
  | .local _ .vmem, ⟨17, _⟩ => ⟨S128x1536, .f32⟩
  | .local _ .vmem, ⟨18, _⟩ => ⟨S128x1536, .f32⟩
  | .local _ .vmem, ⟨19, _⟩ => ⟨S128x1536, .f32⟩
  | .local _ .vmem, ⟨20, _⟩ => ⟨S128x1536, .f32⟩
  | .local _ .vmem, ⟨21, _⟩ => ⟨S128x1536, .f32⟩
  | .local _ .vmem, ⟨22, _⟩ => ⟨S128x1536, .f32⟩
  | .local _ .vmem, ⟨23, _⟩ => ⟨S128x1536, .f32⟩
  | .local _ .vmem, ⟨24, _⟩ => ⟨S128x1536, .bf16⟩
  | .local _ .vmem, ⟨25, _⟩ => ⟨S128x1536, .bf16⟩
  | .local _ .vmem, ⟨26, _⟩ => ⟨S128x1536, .bf16⟩
  | .local _ .vmem, ⟨27, _⟩ => ⟨S128x1536, .bf16⟩
  | .local _ .vmem, ⟨28, _⟩ => ⟨S128x1536, .bf16⟩
  | .local _ .vmem, ⟨29, _⟩ => ⟨S128x1536, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_cst_9 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_10 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_11 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_14 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100_0 : Ref sig .tc := ⟨.hbm, 128, rfl⟩
abbrev main_v100_1 : Ref sig .tc := ⟨.hbm, 129, rfl⟩
abbrev main_v100_2 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![1, 2, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c63_i32 : BitVec 32 := 63#32
  let v1 : BitVec 32 := Scalar.minsi v0 c63_i32
  let c2_i32 : BitVec 32 := 2#32
  let v2 : BitVec 32 := Scalar.muli arg0 c2_i32
  let v3 : BitVec 32 := Scalar.addi v2 arg1
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let v2 : BitVec 32 := Scalar.muli arg0 c2_i32
  let v3 : BitVec 32 := Scalar.addi v2 arg1
  let c0_i32_0 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let v2 : BitVec 32 := Scalar.muli arg0 c2_i32
  let v3 : BitVec 32 := Scalar.addi v2 arg1
  let c0_i32_0 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c63_i32 : BitVec 32 := 63#32
  let v1 : BitVec 32 := Scalar.minsi v0 c63_i32
  let c2_i32 : BitVec 32 := 2#32
  let v2 : BitVec 32 := Scalar.muli arg0 c2_i32
  let v3 : BitVec 32 := Scalar.addi v2 arg1
  let c0_i32 : BitVec 32 := 0#32
  ![v1.toNat, v3.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c63_i32 : BitVec 32 := 63#32
  let v1 : BitVec 32 := Scalar.minsi v0 c63_i32
  let c2_i32 : BitVec 32 := 2#32
  let v2 : BitVec 32 := Scalar.muli arg0 c2_i32
  let v3 : BitVec 32 := Scalar.addi v2 arg1
  let c0_i32 : BitVec 32 := 0#32
  ![v1.toNat, v3.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c63_i32 : BitVec 32 := 63#32
  let v1 : BitVec 32 := Scalar.minsi v0 c63_i32
  let c2_i32 : BitVec 32 := 2#32
  let v2 : BitVec 32 := Scalar.muli arg0 c2_i32
  let v3 : BitVec 32 := Scalar.addi v2 arg1
  let c0_i32 : BitVec 32 := 0#32
  ![v1.toNat, v3.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S128x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S128x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S128x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S128x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S128x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S128x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S8192x3072 : Shape := ⟨2, ![8192, 3072]⟩
abbrev S8192x24x128 : Shape := ⟨3, ![8192, 24, 128]⟩
abbrev S8192x24 : Shape := ⟨2, ![8192, 24]⟩
abbrev S72 : Shape := ⟨1, ![72]⟩
abbrev S_ : Shape := ⟨0, ![]⟩
abbrev S3x24 : Shape := ⟨2, ![3, 24]⟩
abbrev S1x24 : Shape := ⟨2, ![1, 24]⟩
abbrev S24 : Shape := ⟨1, ![24]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S24x1x1 : Shape := ⟨3, ![24, 1, 1]⟩
abbrev S1x8192x8192 : Shape := ⟨3, ![1, 8192, 8192]⟩
abbrev S24x8192x8192 : Shape := ⟨3, ![24, 8192, 8192]⟩
abbrev S24x8192 : Shape := ⟨2, ![24, 8192]⟩
abbrev S24x8192x1 : Shape := ⟨3, ![24, 8192, 1]⟩
abbrev S24x128x8192 : Shape := ⟨3, ![24, 128, 8192]⟩
abbrev S8192x24x1 : Shape := ⟨3, ![8192, 24, 1]⟩
abbrev S1x8192x24 : Shape := ⟨3, ![1, 8192, 24]⟩
abbrev S3x8192x24 : Shape := ⟨3, ![3, 8192, 24]⟩
abbrev S3x8192x24x1 : Shape := ⟨4, ![3, 8192, 24, 1]⟩
abbrev S1x8192x24x128 : Shape := ⟨4, ![1, 8192, 24, 128]⟩
abbrev S3x8192x24x128 : Shape := ⟨4, ![3, 8192, 24, 128]⟩
abbrev S24x8192x128 : Shape := ⟨3, ![24, 8192, 128]⟩

abbrev nBuf : Space → Nat
  | .hbm => 238
  | .vmem => 0
  | .smem => 0
  | _ => 0

abbrev hbmTy0_0 (i : Nat) : BufTy := match i % 128 with
  | 0 => ⟨S8192x3072, .bf16⟩
  | 1 => ⟨S8192x3072, .bf16⟩
  | 2 => ⟨S8192x3072, .bf16⟩
  | 3 => ⟨S8192x24x128, .f32⟩
  | 4 => ⟨S8192x24, .f32⟩
  | 5 => ⟨S8192x24x128, .f32⟩
  | 6 => ⟨S8192x24, .f32⟩
  | 7 => ⟨S8192x3072, .f32⟩
  | 8 => ⟨S72, .f32⟩
  | 9 => ⟨S_, .f32⟩
  | 10 => ⟨S72, .f32⟩
  | 11 => ⟨S72, .f32⟩
  | 12 => ⟨S_, .f32⟩
  | 13 => ⟨S72, .f32⟩
  | 14 => ⟨S72, .f32⟩
  | 15 => ⟨S_, .f32⟩
  | 16 => ⟨S72, .f32⟩
  | 17 => ⟨S72, .f32⟩
  | 18 => ⟨S_, .f32⟩
  | 19 => ⟨S72, .f32⟩
  | 20 => ⟨S72, .f32⟩
  | 21 => ⟨S72, .f32⟩
  | 22 => ⟨S3x24, .f32⟩
  | 23 => ⟨S1x24, .f32⟩
  | 24 => ⟨S24, .f32⟩
  | 25 => ⟨S8192x3072, .f32⟩
  | 26 => ⟨S8192x24x128, .f32⟩
  | 27 => ⟨S8192x3072, .f32⟩
  | 28 => ⟨S8192x24x128, .f32⟩
  | 29 => ⟨S8192x3072, .f32⟩
  | 30 => ⟨S8192x24x128, .f32⟩
  | 31 => ⟨S8192, .i32⟩
  | 32 => ⟨S8192x1, .i32⟩
  | 33 => ⟨S8192, .i32⟩
  | 34 => ⟨S1x8192, .i32⟩
  | 35 => ⟨S8192x8192, .i32⟩
  | 36 => ⟨S8192x8192, .i32⟩
  | 37 => ⟨S8192x8192, .i32⟩
  | 38 => ⟨S_, .i32⟩
  | 39 => ⟨S8192x8192, .i32⟩
  | 40 => ⟨S8192x8192, .i1⟩
  | 41 => ⟨S_, .i32⟩
  | 42 => ⟨S8192x8192, .i32⟩
  | 43 => ⟨S8192x8192, .i1⟩
  | 44 => ⟨S8192x8192, .i1⟩
  | 45 => ⟨S24x1x1, .f32⟩
  | 46 => ⟨S24x1x1, .f32⟩
  | 47 => ⟨S8192x8192, .f32⟩
  | 48 => ⟨S1x8192x8192, .f32⟩
  | 49 => ⟨S24x8192x8192, .f32⟩
  | 50 => ⟨S24x8192x8192, .f32⟩
  | 51 => ⟨S24x8192x8192, .f32⟩
  | 52 => ⟨S24x8192x8192, .f32⟩
  | 53 => ⟨S_, .f32⟩
  | 54 => ⟨S24x8192x8192, .f32⟩
  | 55 => ⟨S24x8192x8192, .f32⟩
  | 56 => ⟨S24x8192x8192, .f32⟩
  | 57 => ⟨S_, .f32⟩
  | 58 => ⟨S_, .f32⟩
  | 59 => ⟨S24x8192x8192, .i1⟩
  | 60 => ⟨S24x8192x8192, .f32⟩
  | 61 => ⟨S24x8192x8192, .f32⟩
  | 62 => ⟨S_, .f32⟩
  | 63 => ⟨S24x8192x8192, .f32⟩
  | 64 => ⟨S_, .f32⟩
  | 65 => ⟨S24x8192, .f32⟩
  | 66 => ⟨S24x8192x1, .f32⟩
  | 67 => ⟨S24x8192x8192, .f32⟩
  | 68 => ⟨S24x8192x8192, .i1⟩
  | 69 => ⟨S24x8192x8192, .f32⟩
  | 70 => ⟨S_, .f32⟩
  | 71 => ⟨S24x8192, .f32⟩
  | 72 => ⟨S24x8192x1, .f32⟩
  | 73 => ⟨S24x8192x8192, .f32⟩
  | 74 => ⟨S24x8192x8192, .f32⟩
  | 75 => ⟨S24x8192x8192, .f32⟩
  | 76 => ⟨S_, .f32⟩
  | 77 => ⟨S24x8192, .f32⟩
  | 78 => ⟨S8192x24, .f32⟩
  | 79 => ⟨S24x128x8192, .f32⟩
  | 80 => ⟨S8192x24x128, .f32⟩
  | 81 => ⟨S8192x24x1, .f32⟩
  | 82 => ⟨S8192x24x128, .f32⟩
  | 83 => ⟨S8192x24x128, .f32⟩
  | 84 => ⟨S8192x24x1, .f32⟩
  | 85 => ⟨S_, .f32⟩
  | 86 => ⟨S8192x24x1, .f32⟩
  | 87 => ⟨S8192x24x1, .f32⟩
  | 88 => ⟨S24x8192, .f32⟩
  | 89 => ⟨S8192x24, .f32⟩
  | 90 => ⟨S8192x24, .f32⟩
  | 91 => ⟨S8192x24, .f32⟩
  | 92 => ⟨S1x8192x24, .f32⟩
  | 93 => ⟨S1x8192x24, .f32⟩
  | 94 => ⟨S1x8192x24, .f32⟩
  | 95 => ⟨S3x8192x24, .f32⟩
  | 96 => ⟨S_, .f32⟩
  | 97 => ⟨S8192x24, .f32⟩
  | 98 => ⟨S_, .f32⟩
  | 99 => ⟨S8192x24, .f32⟩
  | 100 => ⟨S_, .f32⟩
  | 101 => ⟨S8192x24, .f32⟩
  | 102 => ⟨S1x8192x24, .f32⟩
  | 103 => ⟨S3x8192x24, .f32⟩
  | 104 => ⟨S3x8192x24, .i1⟩
  | 105 => ⟨S3x8192x24, .f32⟩
  | 106 => ⟨S_, .f32⟩
  | 107 => ⟨S8192x24, .f32⟩
  | 108 => ⟨S_, .f32⟩
  | 109 => ⟨S8192x24, .f32⟩
  | 110 => ⟨S8192x24, .f32⟩
  | 111 => ⟨S_, .f32⟩
  | 112 => ⟨S8192x24, .f32⟩
  | 113 => ⟨S8192x24, .i1⟩
  | 114 => ⟨S_, .f32⟩
  | 115 => ⟨S8192x24, .f32⟩
  | 116 => ⟨S8192x24, .i1⟩
  | 117 => ⟨S_, .f32⟩
  | 118 => ⟨S8192x24, .f32⟩
  | 119 => ⟨S_, .f32⟩
  | 120 => ⟨S8192x24, .f32⟩
  | 121 => ⟨S_, .f32⟩
  | 122 => ⟨S8192x24, .f32⟩
  | 123 => ⟨S8192x24, .f32⟩
  | 124 => ⟨S8192x24, .f32⟩
  | 125 => ⟨S1x8192x24, .f32⟩
  | 126 => ⟨S3x8192x24, .f32⟩
  | 127 => ⟨S3x8192x24, .f32⟩
  | _ => ⟨S8192x3072, .bf16⟩

abbrev hbmTy0_1 (i : Nat) : BufTy := match i % 128 with
  | 0 => ⟨S3x8192x24, .f32⟩
  | 1 => ⟨S_, .f32⟩
  | 2 => ⟨S8192x24, .f32⟩
  | 3 => ⟨S1x8192x24, .f32⟩
  | 4 => ⟨S3x8192x24, .f32⟩
  | 5 => ⟨S3x8192x24, .f32⟩
  | 6 => ⟨S1x8192x24, .f32⟩
  | 7 => ⟨S_, .f32⟩
  | 8 => ⟨S1x8192x24, .f32⟩
  | 9 => ⟨S1x8192x24, .f32⟩
  | 10 => ⟨S3x8192x24x1, .f32⟩
  | 11 => ⟨S1x8192x24x128, .f32⟩
  | 12 => ⟨S1x8192x24x128, .f32⟩
  | 13 => ⟨S1x8192x24x128, .f32⟩
  | 14 => ⟨S3x8192x24x128, .f32⟩
  | 15 => ⟨S_, .f32⟩
  | 16 => ⟨S8192x24x128, .f32⟩
  | 17 => ⟨S_, .f32⟩
  | 18 => ⟨S8192x24x128, .f32⟩
  | 19 => ⟨S3x8192x24x128, .f32⟩
  | 20 => ⟨S3x8192x24x128, .f32⟩
  | 21 => ⟨S_, .f32⟩
  | 22 => ⟨S8192x24x128, .f32⟩
  | 23 => ⟨S8192x3072, .f32⟩
  | 24 => ⟨S8192x24x128, .f32⟩
  | 25 => ⟨S3x8192x24x128, .f32⟩
  | 26 => ⟨S3x8192x24x128, .f32⟩
  | 27 => ⟨S3x8192x24x128, .f32⟩
  | 28 => ⟨S3x8192x24x128, .f32⟩
  | 29 => ⟨S_, .f32⟩
  | 30 => ⟨S3x8192x24, .f32⟩
  | 31 => ⟨S3x8192x24x1, .f32⟩
  | 32 => ⟨S1x8192x24x128, .f32⟩
  | 33 => ⟨S8192x24x128, .f32⟩
  | 34 => ⟨S1x8192x24x128, .f32⟩
  | 35 => ⟨S8192x24x128, .f32⟩
  | 36 => ⟨S1x8192x24x128, .f32⟩
  | 37 => ⟨S8192x24x128, .f32⟩
  | 38 => ⟨S_, .f32⟩
  | 39 => ⟨S3x8192x24, .f32⟩
  | 40 => ⟨S3x8192x24, .f32⟩
  | 41 => ⟨S3x8192x24, .f32⟩
  | 42 => ⟨S3x8192x24, .f32⟩
  | 43 => ⟨S_, .f32⟩
  | 44 => ⟨S8192x24, .f32⟩
  | 45 => ⟨S1x8192x24, .f32⟩
  | 46 => ⟨S1x8192x24, .f32⟩
  | 47 => ⟨S3x8192x24, .f32⟩
  | 48 => ⟨S3x8192x24, .f32⟩
  | 49 => ⟨S_, .f32⟩
  | 50 => ⟨S8192x24, .f32⟩
  | 51 => ⟨S3x8192x24, .f32⟩
  | 52 => ⟨S3x8192x24, .f32⟩
  | 53 => ⟨S3x8192x24, .f32⟩
  | 54 => ⟨S1x8192x24, .f32⟩
  | 55 => ⟨S8192x24, .f32⟩
  | 56 => ⟨S1x8192x24, .f32⟩
  | 57 => ⟨S8192x24, .f32⟩
  | 58 => ⟨S1x8192x24, .f32⟩
  | 59 => ⟨S8192x24, .f32⟩
  | 60 => ⟨S8192x24, .f32⟩
  | 61 => ⟨S24x8192, .f32⟩
  | 62 => ⟨S24x8192x1, .f32⟩
  | 63 => ⟨S8192x24x128, .f32⟩
  | 64 => ⟨S8192x24x128, .f32⟩
  | 65 => ⟨S8192x24x128, .f32⟩
  | 66 => ⟨S_, .f32⟩
  | 67 => ⟨S8192x24, .f32⟩
  | 68 => ⟨S8192x24x1, .f32⟩
  | 69 => ⟨S8192x24x1, .f32⟩
  | 70 => ⟨S8192x24x128, .f32⟩
  | 71 => ⟨S8192x24x128, .f32⟩
  | 72 => ⟨S_, .f32⟩
  | 73 => ⟨S8192x24, .f32⟩
  | 74 => ⟨S8192x24, .f32⟩
  | 75 => ⟨S24x128x8192, .f32⟩
  | 76 => ⟨S24x8192x8192, .f32⟩
  | 77 => ⟨S24x128x8192, .f32⟩
  | 78 => ⟨S8192x24x128, .f32⟩
  | 79 => ⟨S24x8192, .f32⟩
  | 80 => ⟨S24x8192x8192, .f32⟩
  | 81 => ⟨S24x8192x8192, .f32⟩
  | 82 => ⟨S24x8192x8192, .f32⟩
  | 83 => ⟨S24x8192x8192, .f32⟩
  | 84 => ⟨S_, .f32⟩
  | 85 => ⟨S24x8192, .f32⟩
  | 86 => ⟨S24x8192x1, .f32⟩
  | 87 => ⟨S24x8192x1, .f32⟩
  | 88 => ⟨S_, .f32⟩
  | 89 => ⟨S24x8192, .f32⟩
  | 90 => ⟨S24x8192, .f32⟩
  | 91 => ⟨S24x8192x8192, .f32⟩
  | 92 => ⟨S24x8192x8192, .f32⟩
  | 93 => ⟨S24x8192x8192, .f32⟩
  | 94 => ⟨S_, .f32⟩
  | 95 => ⟨S24x8192x8192, .f32⟩
  | 96 => ⟨S24x8192x8192, .f32⟩
  | 97 => ⟨S_, .f32⟩
  | 98 => ⟨S24x8192x8192, .f32⟩
  | 99 => ⟨S24x8192x8192, .f32⟩
  | 100 => ⟨S24x8192x128, .f32⟩
  | 101 => ⟨S8192x24x128, .f32⟩
  | 102 => ⟨S24x8192x128, .f32⟩
  | 103 => ⟨S8192x24x128, .f32⟩
  | 104 => ⟨S8192x3072, .f32⟩
  | 105 => ⟨S8192x3072, .bf16⟩
  | 106 => ⟨S8192x3072, .f32⟩
  | 107 => ⟨S8192x3072, .bf16⟩
  | 108 => ⟨S8192x3072, .f32⟩
  | 109 => ⟨S8192x3072, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_call0_v0 : Ref sig .tc := ⟨.hbm, 58, rfl⟩
abbrev main_v42_1 : Ref sig .tc := ⟨.hbm, 59, rfl⟩
abbrev main_call0_v2 : Ref sig .tc := ⟨.hbm, 60, rfl⟩
abbrev main_v42_0 : Ref sig .tc := ⟨.hbm, 61, rfl⟩
abbrev main_call0_cst : Ref sig .tc := ⟨.hbm, 62, rfl⟩
abbrev main_v42_2 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_10 : Ref sig .tc := ⟨.hbm, 96, rfl⟩
abbrev main_v71 : Ref sig .tc := ⟨.hbm, 97, rfl⟩
abbrev main_cst_11 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_cst_18 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_22 : Ref sig .tc := ⟨.hbm, 143, rfl⟩
abbrev main_v106 : Ref sig .tc := ⟨.hbm, 144, rfl⟩
abbrev main_cst_23 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_24 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_25 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_26 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_27 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_28 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_29 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_cst_30 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_cst_31 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_32 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_call1_cst : Ref sig .tc := ⟨.hbm, 222, rfl⟩
abbrev main_call1_v0 : Ref sig .tc := ⟨.hbm, 223, rfl⟩
abbrev main_v174 : Ref sig .tc := ⟨.hbm, 224, rfl⟩
abbrev main_cst_33 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩

abbrev nD : Nat := 1
abbrev τ : Topo := Topo.v7x

variable {F : FTy → Type} [FloatOps F]
-- ==== OutTok.lean ====
abbrev S8192x3072 : Shape := ⟨2, ![8192, 3072]⟩
abbrev S3072x2048 : Shape := ⟨2, ![3072, 2048]⟩
abbrev S8192x2048 : Shape := ⟨2, ![8192, 2048]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x3072, .bf16⟩
  | .hbm, ⟨1, _⟩ => ⟨S3072x2048, .bf16⟩
  | .hbm, ⟨2, _⟩ => ⟨S8192x2048, .f32⟩
  | .hbm, ⟨3, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutTokIdeal.lean ====
abbrev S8192x3072 : Shape := ⟨2, ![8192, 3072]⟩
abbrev S3072x2048 : Shape := ⟨2, ![3072, 2048]⟩
abbrev S8192x2048 : Shape := ⟨2, ![8192, 2048]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x3072, .bf16⟩
  | .hbm, ⟨1, _⟩ => ⟨S3072x2048, .bf16⟩
  | .hbm, ⟨2, _⟩ => ⟨S8192x2048, .f32⟩
  | .hbm, ⟨3, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutTokRefIdeal.lean ====
abbrev S8192x3072 : Shape := ⟨2, ![8192, 3072]⟩
abbrev S3072x2048 : Shape := ⟨2, ![3072, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x2048, .bf16⟩
  | .hbm, ⟨2, _⟩ => ⟨S8192x2048, .f32⟩
  | .hbm, ⟨3, _⟩ => ⟨S8192x3072, .f32⟩
  | .hbm, ⟨4, _⟩ => ⟨S3072x2048, .f32⟩
  | .hbm, ⟨5, _⟩ => ⟨S8192x2048, .f32⟩
  | .hbm, ⟨6, _⟩ => ⟨S8192x2048, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateTok.lean ====
abbrev S8192x2048 : Shape := ⟨2, ![8192, 2048]⟩
abbrev S3072x2048 : Shape := ⟨2, ![3072, 2048]⟩
abbrev S8192x3072 : Shape := ⟨2, ![8192, 3072]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S3072x2048, .bf16⟩
  | .hbm, ⟨2, _⟩ => ⟨S8192x3072, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateTokIdeal.lean ====
abbrev S8192x2048 : Shape := ⟨2, ![8192, 2048]⟩
abbrev S3072x2048 : Shape := ⟨2, ![3072, 2048]⟩
abbrev S8192x3072 : Shape := ⟨2, ![8192, 3072]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S3072x2048, .bf16⟩
  | .hbm, ⟨2, _⟩ => ⟨S8192x3072, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateTokRefIdeal.lean ====
abbrev S8192x2048 : Shape := ⟨2, ![8192, 2048]⟩
abbrev S3072x2048 : Shape := ⟨2, ![3072, 2048]⟩
abbrev S_ : Shape := ⟨0, ![]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S3072x2048, .bf16⟩
  | .hbm, ⟨2, _⟩ => ⟨S_, .f32⟩
  | .hbm, ⟨3, _⟩ => ⟨S8192x3072, .f32⟩
  | .hbm, ⟨4, _⟩ => ⟨S3072x2048, .f32⟩
  | .hbm, ⟨5, _⟩ => ⟨S8192x2048, .f32⟩
  | .hbm, ⟨6, _⟩ => ⟨S8192x2048, .f32⟩
  | .hbm, ⟨7, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S8192x3072 : Shape := ⟨2, ![8192, 3072]⟩
abbrev S8192x2048 : Shape := ⟨2, ![8192, 2048]⟩
abbrev S3072x2048 : Shape := ⟨2, ![3072, 2048]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x2048, .bf16⟩
  | .hbm, ⟨2, _⟩ => ⟨S3072x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutIdeal.lean ====
abbrev S8192x3072 : Shape := ⟨2, ![8192, 3072]⟩
abbrev S8192x2048 : Shape := ⟨2, ![8192, 2048]⟩
abbrev S3072x2048 : Shape := ⟨2, ![3072, 2048]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x2048, .bf16⟩
  | .hbm, ⟨2, _⟩ => ⟨S3072x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x3072 : Shape := ⟨2, ![8192, 3072]⟩
abbrev S8192x2048 : Shape := ⟨2, ![8192, 2048]⟩
abbrev S_ : Shape := ⟨0, ![]⟩
abbrev S3072x2048 : Shape := ⟨2, ![3072, 2048]⟩
abbrev S2048x3072 : Shape := ⟨2, ![2048, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x2048, .bf16⟩
  | .hbm, ⟨2, _⟩ => ⟨S_, .f32⟩
  | .hbm, ⟨3, _⟩ => ⟨S3072x2048, .f32⟩
  | .hbm, ⟨4, _⟩ => ⟨S8192x3072, .f32⟩
  | .hbm, ⟨5, _⟩ => ⟨S8192x2048, .f32⟩
  | .hbm, ⟨6, _⟩ => ⟨S8192x2048, .f32⟩
  | .hbm, ⟨7, _⟩ => ⟨S2048x3072, .f32⟩
  | .hbm, ⟨8, _⟩ => ⟨S3072x2048, .f32⟩
  | .hbm, ⟨9, _⟩ => ⟨S3072x2048, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InXbc.lean ====
abbrev S8192x2048 : Shape := ⟨2, ![8192, 2048]⟩
abbrev S2048x5120 : Shape := ⟨2, ![2048, 5120]⟩
abbrev S8192x5120 : Shape := ⟨2, ![8192, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S8192x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXbcIdeal.lean ====
abbrev S8192x2048 : Shape := ⟨2, ![8192, 2048]⟩
abbrev S2048x5120 : Shape := ⟨2, ![2048, 5120]⟩
abbrev S8192x5120 : Shape := ⟨2, ![8192, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S8192x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXbcRefIdeal.lean ====
abbrev S8192x2048 : Shape := ⟨2, ![8192, 2048]⟩
abbrev S2048x5120 : Shape := ⟨2, ![2048, 5120]⟩
abbrev S8192x5120 : Shape := ⟨2, ![8192, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S8192x2048, .f32⟩
  | .hbm, ⟨3, _⟩ => ⟨S2048x5120, .f32⟩
  | .hbm, ⟨4, _⟩ => ⟨S8192x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DhXbc.lean ====
abbrev S8192x5120 : Shape := ⟨2, ![8192, 5120]⟩
abbrev S2048x5120 : Shape := ⟨2, ![2048, 5120]⟩
abbrev S8192x2048 : Shape := ⟨2, ![8192, 2048]⟩
abbrev S512x2560 : Shape := ⟨2, ![512, 2560]⟩
abbrev S1024x2560 : Shape := ⟨2, ![1024, 2560]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5120, .bf16⟩
  | .hbm, ⟨1, _⟩ => ⟨S2048x5120, .bf16⟩
  | .hbm, ⟨2, _⟩ => ⟨S8192x2048, .f32⟩
  | .local _ .vmem, ⟨0, _⟩ => ⟨S512x2560, .bf16⟩
  | .local _ .vmem, ⟨1, _⟩ => ⟨S512x2560, .bf16⟩
  | .local _ .vmem, ⟨2, _⟩ => ⟨S1024x2560, .bf16⟩
  | .local _ .vmem, ⟨3, _⟩ => ⟨S1024x2560, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhXbcIdeal.lean ====
abbrev S8192x5120 : Shape := ⟨2, ![8192, 5120]⟩
abbrev S2048x5120 : Shape := ⟨2, ![2048, 5120]⟩
abbrev S8192x2048 : Shape := ⟨2, ![8192, 2048]⟩
abbrev S512x2560 : Shape := ⟨2, ![512, 2560]⟩
abbrev S1024x2560 : Shape := ⟨2, ![1024, 2560]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5120, .bf16⟩
  | .hbm, ⟨1, _⟩ => ⟨S2048x5120, .bf16⟩
  | .hbm, ⟨2, _⟩ => ⟨S8192x2048, .f32⟩
  | .local _ .vmem, ⟨0, _⟩ => ⟨S512x2560, .bf16⟩
  | .local _ .vmem, ⟨1, _⟩ => ⟨S512x2560, .bf16⟩
  | .local _ .vmem, ⟨2, _⟩ => ⟨S1024x2560, .bf16⟩
  | .local _ .vmem, ⟨3, _⟩ => ⟨S1024x2560, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhXbcRefIdeal.lean ====
abbrev S8192x5120 : Shape := ⟨2, ![8192, 5120]⟩
abbrev S2048x5120 : Shape := ⟨2, ![2048, 5120]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S2048x5120, .bf16⟩
  | .hbm, ⟨2, _⟩ => ⟨S_, .f32⟩
  | .hbm, ⟨3, _⟩ => ⟨S8192x2048, .f32⟩
  | .hbm, ⟨4, _⟩ => ⟨S2048x5120, .f32⟩
  | .hbm, ⟨5, _⟩ => ⟨S8192x5120, .f32⟩
  | .hbm, ⟨6, _⟩ => ⟨S8192x5120, .f32⟩
  | .hbm, ⟨7, _⟩ => ⟨S8192x2048, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwXbc.lean ====
abbrev S8192x2048 : Shape := ⟨2, ![8192, 2048]⟩
abbrev S8192x5120 : Shape := ⟨2, ![8192, 5120]⟩
abbrev S2048x5120 : Shape := ⟨2, ![2048, 5120]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S2048x5120, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwXbcIdeal.lean ====
abbrev S8192x2048 : Shape := ⟨2, ![8192, 2048]⟩
abbrev S8192x5120 : Shape := ⟨2, ![8192, 5120]⟩
abbrev S2048x5120 : Shape := ⟨2, ![2048, 5120]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S2048x5120, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwXbcRefIdeal.lean ====
abbrev S8192x2048 : Shape := ⟨2, ![8192, 2048]⟩
abbrev S8192x5120 : Shape := ⟨2, ![8192, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S_, .f32⟩
  | .hbm, ⟨3, _⟩ => ⟨S2048x5120, .f32⟩
  | .hbm, ⟨4, _⟩ => ⟨S8192x2048, .f32⟩
  | .hbm, ⟨5, _⟩ => ⟨S8192x5120, .f32⟩
  | .hbm, ⟨6, _⟩ => ⟨S8192x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DhFirst.lean ====
abbrev S8192x3072 : Shape := ⟨2, ![8192, 3072]⟩
abbrev S2048x3072 : Shape := ⟨2, ![2048, 3072]⟩
abbrev S8192x2048 : Shape := ⟨2, ![8192, 2048]⟩
abbrev S512x3072 : Shape := ⟨2, ![512, 3072]⟩
abbrev S1024x3072 : Shape := ⟨2, ![1024, 3072]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S2048x3072, .bf16⟩
  | .hbm, ⟨2, _⟩ => ⟨S8192x2048, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhFirstIdeal.lean ====
abbrev S8192x3072 : Shape := ⟨2, ![8192, 3072]⟩
abbrev S2048x3072 : Shape := ⟨2, ![2048, 3072]⟩
abbrev S8192x2048 : Shape := ⟨2, ![8192, 2048]⟩
abbrev S512x3072 : Shape := ⟨2, ![512, 3072]⟩
abbrev S1024x3072 : Shape := ⟨2, ![1024, 3072]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S2048x3072, .bf16⟩
  | .hbm, ⟨2, _⟩ => ⟨S8192x2048, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhFirstRefIdeal.lean ====
abbrev S8192x3072 : Shape := ⟨2, ![8192, 3072]⟩
abbrev S2048x3072 : Shape := ⟨2, ![2048, 3072]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S2048x3072, .bf16⟩
  | .hbm, ⟨2, _⟩ => ⟨S_, .f32⟩
  | .hbm, ⟨3, _⟩ => ⟨S8192x2048, .f32⟩
  | .hbm, ⟨4, _⟩ => ⟨S2048x3072, .f32⟩
  | .hbm, ⟨5, _⟩ => ⟨S8192x3072, .f32⟩
  | .hbm, ⟨6, _⟩ => ⟨S8192x3072, .f32⟩
  | .hbm, ⟨7, _⟩ => ⟨S8192x2048, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InMem.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InMemRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InMemB.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InMemBRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DhMem.lean ====
abbrev S8192x1024 : Shape := ⟨2, ![8192, 1024]⟩
abbrev S2048x1024 : Shape := ⟨2, ![2048, 1024]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .hbm, ⟨3, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhMemRefIdeal.lean ====
abbrev S8192x1024 : Shape := ⟨2, ![8192, 1024]⟩
abbrev S2048x1024 : Shape := ⟨2, ![2048, 1024]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x1024, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DwMem.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwMemIdeal.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwMemRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutMem.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutMemRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateMem.lean ====
abbrev S8192x2048 : Shape := ⟨2, ![8192, 2048]⟩
abbrev S1024x2048 : Shape := ⟨2, ![1024, 2048]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateMemRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOutMem.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutMemRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateTokB.lean ====
abbrev S8192x3072 : Shape := ⟨2, ![8192, 3072]⟩
abbrev S128x1536 : Shape := ⟨2, ![128, 1536]⟩

abbrev nBuf : Space → Nat
  | .hbm => 5
  | .vmem => 10
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S8192x3072, .bf16⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .bf16⟩
  | .local _ .vmem, ⟨9, _⟩ => ⟨S128x1536, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateTokBIdeal.lean ====
abbrev S8192x3072 : Shape := ⟨2, ![8192, 3072]⟩
abbrev S128x1536 : Shape := ⟨2, ![128, 1536]⟩

abbrev nBuf : Space → Nat
  | .hbm => 5
  | .vmem => 10
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S8192x3072, .bf16⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .bf16⟩
  | .local _ .vmem, ⟨9, _⟩ => ⟨S128x1536, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateTokBRefIdeal.lean ====
abbrev S8192x3072 : Shape := ⟨2, ![8192, 3072]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S8192x3072, .f32⟩
  | .hbm, ⟨5, _⟩ => ⟨S_, .f32⟩
  | .hbm, ⟨6, _⟩ => ⟨S8192x3072, .f32⟩
  | .hbm, ⟨7, _⟩ => ⟨S8192x3072, .f32⟩
  | .hbm, ⟨8, _⟩ => ⟨S_, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== GateMemB.lean ====
abbrev S8192x1024 : Shape := ⟨2, ![8192, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateMemBRefIdeal.lean ====
abbrev S8192x1024 : Shape := ⟨2, ![8192, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== ConvB.lean ====
abbrev S8192x5120 : Shape := ⟨2, ![8192, 5120]⟩
abbrev S4x5120 : Shape := ⟨2, ![4, 5120]⟩
abbrev S256x1024 : Shape := ⟨2, ![256, 1024]⟩
abbrev S8x1024 : Shape := ⟨2, ![8, 1024]⟩
abbrev S4x1024 : Shape := ⟨2, ![4, 1024]⟩
abbrev S1x1024 : Shape := ⟨2, ![1, 1024]⟩

abbrev nBuf : Space → Nat
  | .hbm => 3
  | .vmem => 8
  | .smem => 0
  | _ => 0

abbrev bufTy : (tb : Table) → Fin (tcTables nBuf tb) → BufTy
  | .hbm, ⟨0, _⟩ => ⟨S8192x5120, .f32⟩
  | .hbm, ⟨1, _⟩ => ⟨S4x5120, .f32⟩
  | .hbm, ⟨2, _⟩ => ⟨S8192x5120, .bf16⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S4x1024, .f32⟩
  | .local _ .vmem, ⟨6, _⟩ => ⟨S256x1024, .bf16⟩
  | .local _ .vmem, ⟨7, _⟩ => ⟨S256x1024, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvBRefIdeal.lean ====
abbrev S8192x5120 : Shape := ⟨2, ![8192, 5120]⟩
abbrev S4x5120 : Shape := ⟨2, ![4, 5120]⟩
abbrev S_ : Shape := ⟨0, ![]⟩
abbrev S3x5120 : Shape := ⟨2, ![3, 5120]⟩
abbrev S8195x5120 : Shape := ⟨2, ![8195, 5120]⟩
abbrev S1x5120 : Shape := ⟨2, ![1, 5120]⟩
abbrev S5120 : Shape := ⟨1, ![5120]⟩

abbrev nBuf : Space → Nat
  | .hbm => 63
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S4x5120, .f32⟩
  | .hbm, ⟨2, _⟩ => ⟨S_, .f32⟩
  | .hbm, ⟨3, _⟩ => ⟨S8192x5120, .f32⟩
  | .hbm, ⟨4, _⟩ => ⟨S_, .f32⟩
  | .hbm, ⟨5, _⟩ => ⟨S3x5120, .f32⟩
  | .hbm, ⟨6, _⟩ => ⟨S8195x5120, .f32⟩
  | .hbm, ⟨7, _⟩ => ⟨S_, .f32⟩
  | .hbm, ⟨8, _⟩ => ⟨S3x5120, .f32⟩
  | .hbm, ⟨9, _⟩ => ⟨S1x5120, .f32⟩
  | .hbm, ⟨10, _⟩ => ⟨S5120, .f32⟩
  | .hbm, ⟨11, _⟩ => ⟨S8192x5120, .f32⟩
  | .hbm, ⟨12, _⟩ => ⟨S1x5120, .f32⟩
  | .hbm, ⟨13, _⟩ => ⟨S8192x5120, .f32⟩
  | .hbm, ⟨14, _⟩ => ⟨S8192x5120, .f32⟩
  | .hbm, ⟨15, _⟩ => ⟨S_, .f32⟩
  | .hbm, ⟨16, _⟩ => ⟨S8192x5120, .f32⟩
  | .hbm, ⟨17, _⟩ => ⟨S8192x5120, .f32⟩
  | .hbm, ⟨18, _⟩ => ⟨S1x5120, .f32⟩
  | .hbm, ⟨19, _⟩ => ⟨S5120, .f32⟩
  | .hbm, ⟨20, _⟩ => ⟨S8192x5120, .f32⟩
  | .hbm, ⟨21, _⟩ => ⟨S1x5120, .f32⟩
  | .hbm, ⟨22, _⟩ => ⟨S8192x5120, .f32⟩
  | .hbm, ⟨23, _⟩ => ⟨S8192x5120, .f32⟩
  | .hbm, ⟨24, _⟩ => ⟨S8192x5120, .f32⟩
  | .hbm, ⟨25, _⟩ => ⟨S1x5120, .f32⟩
  | .hbm, ⟨26, _⟩ => ⟨S5120, .f32⟩
  | .hbm, ⟨27, _⟩ => ⟨S8192x5120, .f32⟩
  | .hbm, ⟨28, _⟩ => ⟨S1x5120, .f32⟩
  | .hbm, ⟨29, _⟩ => ⟨S8192x5120, .f32⟩
  | .hbm, ⟨30, _⟩ => ⟨S8192x5120, .f32⟩
  | .hbm, ⟨31, _⟩ => ⟨S8192x5120, .f32⟩
  | .hbm, ⟨32, _⟩ => ⟨S1x5120, .f32⟩
  | .hbm, ⟨33, _⟩ => ⟨S5120, .f32⟩
  | .hbm, ⟨34, _⟩ => ⟨S8192x5120, .f32⟩
  | .hbm, ⟨35, _⟩ => ⟨S1x5120, .f32⟩
  | .hbm, ⟨36, _⟩ => ⟨S8192x5120, .f32⟩
  | .hbm, ⟨37, _⟩ => ⟨S8192x5120, .f32⟩
  | .hbm, ⟨38, _⟩ => ⟨S8192x5120, .f32⟩
  | .hbm, ⟨39, _⟩ => ⟨S8192x5120, .f32⟩
  | .hbm, ⟨40, _⟩ => ⟨S8192x5120, .f32⟩
  | .hbm, ⟨41, _⟩ => ⟨S8192x5120, .f32⟩
  | .hbm, ⟨42, _⟩ => ⟨S8192x5120, .f32⟩
  | .hbm, ⟨43, _⟩ => ⟨S_, .f32⟩
  | .hbm, ⟨44, _⟩ => ⟨S8195x5120, .f32⟩
  | .hbm, ⟨45, _⟩ => ⟨S8192x5120, .f32⟩
  | .hbm, ⟨46, _⟩ => ⟨S8192x5120, .f32⟩
  | .hbm, ⟨47, _⟩ => ⟨S_, .f32⟩
  | .hbm, ⟨48, _⟩ => ⟨S8195x5120, .f32⟩
  | .hbm, ⟨49, _⟩ => ⟨S8195x5120, .f32⟩
  | .hbm, ⟨50, _⟩ => ⟨S8192x5120, .f32⟩
  | .hbm, ⟨51, _⟩ => ⟨S8192x5120, .f32⟩
  | .hbm, ⟨52, _⟩ => ⟨S_, .f32⟩
  | .hbm, ⟨53, _⟩ => ⟨S8195x5120, .f32⟩
  | .hbm, ⟨54, _⟩ => ⟨S8195x5120, .f32⟩
  | .hbm, ⟨55, _⟩ => ⟨S8192x5120, .f32⟩
  | .hbm, ⟨56, _⟩ => ⟨S8192x5120, .f32⟩
  | .hbm, ⟨57, _⟩ => ⟨S_, .f32⟩
  | .hbm, ⟨58, _⟩ => ⟨S8195x5120, .f32⟩
  | .hbm, ⟨59, _⟩ => ⟨S8195x5120, .f32⟩
  | .hbm, ⟨60, _⟩ => ⟨S3x5120, .f32⟩
  | .hbm, ⟨61, _⟩ => ⟨S8192x5120, .f32⟩
  | .hbm, ⟨62, _⟩ => ⟨S8192x5120, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S8192x2048 : Shape := ⟨2, ![8192, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== ConvPre.lean ====
abbrev S8192x5120 : Shape := ⟨2, ![8192, 5120]⟩
abbrev S4x5120 : Shape := ⟨2, ![4, 5120]⟩
abbrev S5120 : Shape := ⟨1, ![5120]⟩
abbrev S1x5120 : Shape := ⟨2, ![1, 5120]⟩
abbrev S256x1024 : Shape := ⟨2, ![256, 1024]⟩
abbrev S8x1024 : Shape := ⟨2, ![8, 1024]⟩
abbrev S4x1024 : Shape := ⟨2, ![4, 1024]⟩
abbrev S1x1024 : Shape := ⟨2, ![1, 1024]⟩
abbrev S1024 : Shape := ⟨1, ![1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x5120, .f32⟩
  | .hbm, ⟨1, _⟩ => ⟨S4x5120, .f32⟩
  | .hbm, ⟨2, _⟩ => ⟨S5120, .f32⟩
  | .hbm, ⟨3, _⟩ => ⟨S8192x5120, .f32⟩
  | .hbm, ⟨4, _⟩ => ⟨S1x5120, .f32⟩
  | .hbm, ⟨5, _⟩ => ⟨S8192x5120, .f32⟩
  | .hbm, ⟨6, _⟩ => ⟨S4x5120, .f32⟩
  | .hbm, ⟨7, _⟩ => ⟨S1x5120, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S4x1024, .f32⟩
  | .local _ .vmem, ⟨13, _⟩ => ⟨S4x1024, .f32⟩
  | .local _ .vmem, ⟨14, _⟩ => ⟨S1x1024, .f32⟩
  | .local _ .vmem, ⟨15, _⟩ => ⟨S1x1024, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![5, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvPreRefIdeal.lean ====
abbrev S8192x5120 : Shape := ⟨2, ![8192, 5120]⟩
abbrev S4x5120 : Shape := ⟨2, ![4, 5120]⟩
abbrev S5120 : Shape := ⟨1, ![5120]⟩
abbrev S_ : Shape := ⟨0, ![]⟩
abbrev S3x5120 : Shape := ⟨2, ![3, 5120]⟩
abbrev S8195x5120 : Shape := ⟨2, ![8195, 5120]⟩
abbrev S1x5120 : Shape := ⟨2, ![1, 5120]⟩

abbrev nBuf : Space → Nat
  | .hbm => 135
  | .vmem => 0
  | .smem => 0
  | _ => 0

abbrev hbmTy0_0 (i : Nat) : BufTy := match i % 128 with
  | 0 => ⟨S8192x5120, .f32⟩
  | 1 => ⟨S4x5120, .f32⟩
  | 2 => ⟨S5120, .f32⟩
  | 3 => ⟨S8192x5120, .f32⟩
  | 4 => ⟨S_, .f32⟩
  | 5 => ⟨S3x5120, .f32⟩
  | 6 => ⟨S8195x5120, .f32⟩
  | 7 => ⟨S1x5120, .f32⟩
  | 8 => ⟨S5120, .f32⟩
  | 9 => ⟨S8192x5120, .f32⟩
  | 10 => ⟨S1x5120, .f32⟩
  | 11 => ⟨S8192x5120, .f32⟩
  | 12 => ⟨S8192x5120, .f32⟩
  | 13 => ⟨S_, .f32⟩
  | 14 => ⟨S8192x5120, .f32⟩
  | 15 => ⟨S8192x5120, .f32⟩
  | 16 => ⟨S1x5120, .f32⟩
  | 17 => ⟨S5120, .f32⟩
  | 18 => ⟨S8192x5120, .f32⟩
  | 19 => ⟨S1x5120, .f32⟩
  | 20 => ⟨S8192x5120, .f32⟩
  | 21 => ⟨S8192x5120, .f32⟩
  | 22 => ⟨S8192x5120, .f32⟩
  | 23 => ⟨S1x5120, .f32⟩
  | 24 => ⟨S5120, .f32⟩
  | 25 => ⟨S8192x5120, .f32⟩
  | 26 => ⟨S1x5120, .f32⟩
  | 27 => ⟨S8192x5120, .f32⟩
  | 28 => ⟨S8192x5120, .f32⟩
  | 29 => ⟨S8192x5120, .f32⟩
  | 30 => ⟨S1x5120, .f32⟩
  | 31 => ⟨S5120, .f32⟩
  | 32 => ⟨S8192x5120, .f32⟩
  | 33 => ⟨S1x5120, .f32⟩
  | 34 => ⟨S8192x5120, .f32⟩
  | 35 => ⟨S8192x5120, .f32⟩
  | 36 => ⟨S8192x5120, .f32⟩
  | 37 => ⟨S1x5120, .f32⟩
  | 38 => ⟨S8192x5120, .f32⟩
  | 39 => ⟨S8192x5120, .f32⟩
  | 40 => ⟨S8192x5120, .f32⟩
  | 41 => ⟨S8192x5120, .f32⟩
  | 42 => ⟨S_, .f32⟩
  | 43 => ⟨S8192x5120, .f32⟩
  | 44 => ⟨S8192x5120, .f32⟩
  | 45 => ⟨S_, .f32⟩
  | 46 => ⟨S8192x5120, .f32⟩
  | 47 => ⟨S8192x5120, .f32⟩
  | 48 => ⟨S_, .f32⟩
  | 49 => ⟨S8192x5120, .f32⟩
  | 50 => ⟨S8192x5120, .f32⟩
  | 51 => ⟨S8192x5120, .f32⟩
  | 52 => ⟨S8192x5120, .f32⟩
  | 53 => ⟨S8192x5120, .f32⟩
  | 54 => ⟨S8192x5120, .f32⟩
  | 55 => ⟨S8192x5120, .f32⟩
  | 56 => ⟨S8192x5120, .f32⟩
  | 57 => ⟨S1x5120, .f32⟩
  | 58 => ⟨S_, .f32⟩
  | 59 => ⟨S3x5120, .f32⟩
  | 60 => ⟨S8195x5120, .f32⟩
  | 61 => ⟨S1x5120, .f32⟩
  | 62 => ⟨S5120, .f32⟩
  | 63 => ⟨S8192x5120, .f32⟩
  | 64 => ⟨S1x5120, .f32⟩
  | 65 => ⟨S8192x5120, .f32⟩
  | 66 => ⟨S8192x5120, .f32⟩
  | 67 => ⟨S_, .f32⟩
  | 68 => ⟨S8192x5120, .f32⟩
  | 69 => ⟨S8192x5120, .f32⟩
  | 70 => ⟨S1x5120, .f32⟩
  | 71 => ⟨S5120, .f32⟩
  | 72 => ⟨S8192x5120, .f32⟩
  | 73 => ⟨S1x5120, .f32⟩
  | 74 => ⟨S8192x5120, .f32⟩
  | 75 => ⟨S8192x5120, .f32⟩
  | 76 => ⟨S8192x5120, .f32⟩
  | 77 => ⟨S1x5120, .f32⟩
  | 78 => ⟨S5120, .f32⟩
  | 79 => ⟨S8192x5120, .f32⟩
  | 80 => ⟨S1x5120, .f32⟩
  | 81 => ⟨S8192x5120, .f32⟩
  | 82 => ⟨S8192x5120, .f32⟩
  | 83 => ⟨S8192x5120, .f32⟩
  | 84 => ⟨S1x5120, .f32⟩
  | 85 => ⟨S5120, .f32⟩
  | 86 => ⟨S8192x5120, .f32⟩
  | 87 => ⟨S1x5120, .f32⟩
  | 88 => ⟨S8192x5120, .f32⟩
  | 89 => ⟨S8192x5120, .f32⟩
  | 90 => ⟨S8192x5120, .f32⟩
  | 91 => ⟨S8192x5120, .f32⟩
  | 92 => ⟨S8192x5120, .f32⟩
  | 93 => ⟨S_, .f32⟩
  | 94 => ⟨S5120, .f32⟩
  | 95 => ⟨S1x5120, .f32⟩
  | 96 => ⟨S8192x5120, .f32⟩
  | 97 => ⟨S_, .f32⟩
  | 98 => ⟨S5120, .f32⟩
  | 99 => ⟨S1x5120, .f32⟩
  | 100 => ⟨S_, .f32⟩
  | 101 => ⟨S5120, .f32⟩
  | 102 => ⟨S1x5120, .f32⟩
  | 103 => ⟨S_, .f32⟩
  | 104 => ⟨S4x5120, .f32⟩
  | 105 => ⟨S8192x5120, .f32⟩
  | 106 => ⟨S_, .f32⟩
  | 107 => ⟨S5120, .f32⟩
  | 108 => ⟨S1x5120, .f32⟩
  | 109 => ⟨S_, .f32⟩
  | 110 => ⟨S5120, .f32⟩
  | 111 => ⟨S1x5120, .f32⟩
  | 112 => ⟨S_, .f32⟩
  | 113 => ⟨S4x5120, .f32⟩
  | 114 => ⟨S4x5120, .f32⟩
  | 115 => ⟨S8192x5120, .f32⟩
  | 116 => ⟨S_, .f32⟩
  | 117 => ⟨S5120, .f32⟩
  | 118 => ⟨S1x5120, .f32⟩
  | 119 => ⟨S_, .f32⟩
  | 120 => ⟨S5120, .f32⟩
  | 121 => ⟨S1x5120, .f32⟩
  | 122 => ⟨S_, .f32⟩
  | 123 => ⟨S4x5120, .f32⟩
  | 124 => ⟨S4x5120, .f32⟩
  | 125 => ⟨S8192x5120, .f32⟩
  | 126 => ⟨S_, .f32⟩
  | 127 => ⟨S5120, .f32⟩
  | _ => ⟨S8192x5120, .f32⟩

abbrev hbmTy0_1 (i : Nat) : BufTy := match i % 128 with
  | 0 => ⟨S1x5120, .f32⟩
  | 1 => ⟨S_, .f32⟩
  | 2 => ⟨S5120, .f32⟩
  | 3 => ⟨S1x5120, .f32⟩
  | 4 => ⟨S_, .f32⟩
  | 5 => ⟨S4x5120, .f32⟩
  | 6 => ⟨S4x5120, .f32⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v34_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v34_1 : Ref sig .tc := ⟨.hbm, 51, rfl⟩
abbrev main_v34_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_v36 : Ref sig .tc := ⟨.hbm, 57, rfl⟩
abbrev main_cst_1 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_2 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_3 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_4 : Ref sig .tc := ⟨.hbm, 97, rfl⟩
abbrev main_v73 : Ref sig .tc := ⟨.hbm, 98, rfl⟩
abbrev main_v74 : Ref sig .tc := ⟨.hbm, 99, rfl⟩
abbrev main_cst_5 : Ref sig .tc := ⟨.hbm, 100, rfl⟩
abbrev main_v75 : Ref sig .tc := ⟨.hbm, 101, rfl⟩
abbrev main_v76 : Ref sig .tc := ⟨.hbm, 102, rfl⟩
abbrev main_cst_6 : Ref sig .tc := ⟨.hbm, 103, rfl⟩
abbrev main_v77 : Ref sig .tc := ⟨.hbm, 104, rfl⟩
abbrev main_v78 : Ref sig .tc := ⟨.hbm, 105, rfl⟩
abbrev main_cst_7 : Ref sig .tc := ⟨.hbm, 106, rfl⟩
abbrev main_v79 : Ref sig .tc := ⟨.hbm, 107, rfl⟩
abbrev main_v80 : Ref sig .tc := ⟨.hbm, 108, rfl⟩
abbrev main_cst_8 : Ref sig .tc := ⟨.hbm, 109, rfl⟩
abbrev main_v81 : Ref sig .tc := ⟨.hbm, 110, rfl⟩
abbrev main_v82 : Ref sig .tc := ⟨.hbm, 111, rfl⟩
abbrev main_cst_9 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_10 : Ref sig .tc := ⟨.hbm, 116, rfl⟩
abbrev main_v86 : Ref sig .tc := ⟨.hbm, 117, rfl⟩
abbrev main_v87 : Ref sig .tc := ⟨.hbm, 118, rfl⟩
abbrev main_cst_11 : Ref sig .tc := ⟨.hbm, 119, rfl⟩
abbrev main_v88 : Ref sig .tc := ⟨.hbm, 120, rfl⟩
abbrev main_v89 : Ref sig .tc := ⟨.hbm, 121, rfl⟩
abbrev main_cst_12 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_13 : Ref sig .tc := ⟨.hbm, 126, rfl⟩
abbrev main_v93 : Ref sig .tc := ⟨.hbm, 127, rfl⟩
abbrev main_v94 : Ref sig .tc := ⟨.hbm, 128, rfl⟩
abbrev main_cst_14 : Ref sig .tc := ⟨.hbm, 129, rfl⟩
abbrev main_v95 : Ref sig .tc := ⟨.hbm, 130, rfl⟩
abbrev main_v96 : Ref sig .tc := ⟨.hbm, 131, rfl⟩
abbrev main_cst_15 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]
-- ==== ConvF.lean ====
abbrev S8192x5120 : Shape := ⟨2, ![8192, 5120]⟩
abbrev S4x5120 : Shape := ⟨2, ![4, 5120]⟩
abbrev S5120 : Shape := ⟨1, ![5120]⟩
abbrev S1x5120 : Shape := ⟨2, ![1, 5120]⟩
abbrev S256x1024 : Shape := ⟨2, ![256, 1024]⟩
abbrev S8x1024 : Shape := ⟨2, ![8, 1024]⟩
abbrev S4x1024 : Shape := ⟨2, ![4, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x5120, .f32⟩
  | .hbm, ⟨1, _⟩ => ⟨S4x5120, .f32⟩
  | .hbm, ⟨2, _⟩ => ⟨S5120, .f32⟩
  | .hbm, ⟨3, _⟩ => ⟨S1x5120, .f32⟩
  | .hbm, ⟨4, _⟩ => ⟨S8192x5120, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvFRefIdeal.lean ====
abbrev S8192x5120 : Shape := ⟨2, ![8192, 5120]⟩
abbrev S4x5120 : Shape := ⟨2, ![4, 5120]⟩
abbrev S5120 : Shape := ⟨1, ![5120]⟩
abbrev S_ : Shape := ⟨0, ![]⟩
abbrev S3x5120 : Shape := ⟨2, ![3, 5120]⟩
abbrev S8195x5120 : Shape := ⟨2, ![8195, 5120]⟩
abbrev S1x5120 : Shape := ⟨2, ![1, 5120]⟩

abbrev nBuf : Space → Nat
  | .hbm => 48
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S4x5120, .f32⟩
  | .hbm, ⟨2, _⟩ => ⟨S5120, .f32⟩
  | .hbm, ⟨3, _⟩ => ⟨S_, .f32⟩
  | .hbm, ⟨4, _⟩ => ⟨S3x5120, .f32⟩
  | .hbm, ⟨5, _⟩ => ⟨S8195x5120, .f32⟩
  | .hbm, ⟨6, _⟩ => ⟨S1x5120, .f32⟩
  | .hbm, ⟨7, _⟩ => ⟨S5120, .f32⟩
  | .hbm, ⟨8, _⟩ => ⟨S8192x5120, .f32⟩
  | .hbm, ⟨9, _⟩ => ⟨S1x5120, .f32⟩
  | .hbm, ⟨10, _⟩ => ⟨S8192x5120, .f32⟩
  | .hbm, ⟨11, _⟩ => ⟨S8192x5120, .f32⟩
  | .hbm, ⟨12, _⟩ => ⟨S_, .f32⟩
  | .hbm, ⟨13, _⟩ => ⟨S8192x5120, .f32⟩
  | .hbm, ⟨14, _⟩ => ⟨S8192x5120, .f32⟩
  | .hbm, ⟨15, _⟩ => ⟨S1x5120, .f32⟩
  | .hbm, ⟨16, _⟩ => ⟨S5120, .f32⟩
  | .hbm, ⟨17, _⟩ => ⟨S8192x5120, .f32⟩
  | .hbm, ⟨18, _⟩ => ⟨S1x5120, .f32⟩
  | .hbm, ⟨19, _⟩ => ⟨S8192x5120, .f32⟩
  | .hbm, ⟨20, _⟩ => ⟨S8192x5120, .f32⟩
  | .hbm, ⟨21, _⟩ => ⟨S8192x5120, .f32⟩
  | .hbm, ⟨22, _⟩ => ⟨S1x5120, .f32⟩
  | .hbm, ⟨23, _⟩ => ⟨S5120, .f32⟩
  | .hbm, ⟨24, _⟩ => ⟨S8192x5120, .f32⟩
  | .hbm, ⟨25, _⟩ => ⟨S1x5120, .f32⟩
  | .hbm, ⟨26, _⟩ => ⟨S8192x5120, .f32⟩
  | .hbm, ⟨27, _⟩ => ⟨S8192x5120, .f32⟩
  | .hbm, ⟨28, _⟩ => ⟨S8192x5120, .f32⟩
  | .hbm, ⟨29, _⟩ => ⟨S1x5120, .f32⟩
  | .hbm, ⟨30, _⟩ => ⟨S5120, .f32⟩
  | .hbm, ⟨31, _⟩ => ⟨S8192x5120, .f32⟩
  | .hbm, ⟨32, _⟩ => ⟨S1x5120, .f32⟩
  | .hbm, ⟨33, _⟩ => ⟨S8192x5120, .f32⟩
  | .hbm, ⟨34, _⟩ => ⟨S8192x5120, .f32⟩
  | .hbm, ⟨35, _⟩ => ⟨S8192x5120, .f32⟩
  | .hbm, ⟨36, _⟩ => ⟨S1x5120, .f32⟩
  | .hbm, ⟨37, _⟩ => ⟨S8192x5120, .f32⟩
  | .hbm, ⟨38, _⟩ => ⟨S8192x5120, .f32⟩
  | .hbm, ⟨39, _⟩ => ⟨S8192x5120, .f32⟩
  | .hbm, ⟨40, _⟩ => ⟨S8192x5120, .f32⟩
  | .hbm, ⟨41, _⟩ => ⟨S_, .f32⟩
  | .hbm, ⟨42, _⟩ => ⟨S8192x5120, .f32⟩
  | .hbm, ⟨43, _⟩ => ⟨S8192x5120, .f32⟩
  | .hbm, ⟨44, _⟩ => ⟨S_, .f32⟩
  | .hbm, ⟨45, _⟩ => ⟨S8192x5120, .f32⟩
  | .hbm, ⟨46, _⟩ => ⟨S8192x5120, .f32⟩
  | .hbm, ⟨47, _⟩ => ⟨S8192x5120, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== GateTokF.lean ====
abbrev S8192x3072 : Shape := ⟨2, ![8192, 3072]⟩
abbrev S128x1536 : Shape := ⟨2, ![128, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .bf16⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .bf16⟩
  | .local _ .vmem, ⟨5, _⟩ => ⟨S128x1536, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateTokFIdeal.lean ====
abbrev S8192x3072 : Shape := ⟨2, ![8192, 3072]⟩
abbrev S128x1536 : Shape := ⟨2, ![128, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .bf16⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .bf16⟩
  | .local _ .vmem, ⟨5, _⟩ => ⟨S128x1536, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateTokFRefIdeal.lean ====
abbrev S8192x3072 : Shape := ⟨2, ![8192, 3072]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S_, .f32⟩
  | .hbm, ⟨5, _⟩ => ⟨S8192x3072, .f32⟩
  | .hbm, ⟨6, _⟩ => ⟨S8192x3072, .f32⟩
  | .hbm, ⟨7, _⟩ => ⟨S_, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S8192x3072, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== GateMemF.lean ====
abbrev S8192x1024 : Shape := ⟨2, ![8192, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateMemFRefIdeal.lean ====
abbrev S8192x1024 : Shape := ⟨2, ![8192, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== NormF.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.MemRow.lean ====
/-
  ONE ROW OF A SOFTMAX ATTENTION and its gradient, over the extended reals.

  A row has `n` scores `s j`; its weights are `exp (s j - max s) / Σ exp (s i - max s)` (`wt`). Given the cotangents
  `dp j` of the weights, the cotangent of score `j` is written in two ways: `dsK`, a flash kernel's
  `wt j · (dp j − Σ dp i · wt i)`, and `dsR`, what differentiating the quotient gives,
  `(dp j / den + −(Σ dp i · (1 / den²) · ex i)) · ex j`. They are equal whenever the scores are real numbers
  (`dsK_eq_dsR`): the exponentials are then positive reals and their sum a positive real, and multiplication by a
  nonnegative real distributes over sums of extended reals — so `dp` may hold infinities.
-/
module

public import Idealize.ShloMosaic.PureOps.Ideal
public import Idealize.ShloMosaic.PureOps.Ideal.Laws
public import Mathlib.Data.EReal.Inv

@[expose] public section

noncomputable section

namespace Cert.Row

open Idealize.ShloMosaic
open scoped BigOperators

/-- An extended real that is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, by rw [EReal.coe_mul]⟩
theorem IsReal.add {x y : EReal} : IsReal x → IsReal y → IsReal (x + y) := by
  rintro ⟨a, rfl⟩ ⟨b, rfl⟩; exact ⟨a + b, by rw [EReal.coe_add]⟩
theorem IsReal.sub {x y : EReal} : IsReal x → IsReal y → IsReal (x - y) := by
  rintro ⟨a, rfl⟩ ⟨b, rfl⟩; exact ⟨a - b, by rw [EReal.coe_sub]⟩
theorem IsReal.zero : IsReal 0 := ⟨0, by simp⟩
theorem IsReal.sum {ι : Type} (S : Finset ι) (f : ι → EReal) (h : ∀ i, IsReal (f i)) : IsReal (∑ i ∈ S, f i) := by
  classical
  induction S using Finset.induction_on with
  | empty => simpa using IsReal.zero
  | insert a S ha ih => rw [Finset.sum_insert ha]; exact (h a).add ih

/-- A nonnegative real factor goes into a sum of any extended reals. -/
theorem mul_sum {ι : Type} (S : Finset ι) (a : ℝ) (ha : 0 ≤ a) (f : ι → EReal) :
    (a : EReal) * ∑ i ∈ S, f i = ∑ i ∈ S, (a : EReal) * f i := by
  classical
  induction S using Finset.induction_on with
  | empty => simp
  | insert b S hb ih =>
      rw [Finset.sum_insert hb, Finset.sum_insert hb,
        EReal.left_distrib_of_nonneg_of_ne_top (by exact_mod_cast ha) (EReal.coe_ne_top a), ih]

/-- A sum of nonnegative reals is their real sum. -/
theorem coe_sum {ι : Type} (S : Finset ι) (f : ι → ℝ) : ∑ i ∈ S, (f i : EReal) = ((∑ i ∈ S, f i : ℝ) : EReal) := by
  classical
  induction S using Finset.induction_on with
  | empty => simp
  | insert b S hb ih => rw [Finset.sum_insert hb, Finset.sum_insert hb, ih, EReal.coe_add]

/-! ## The weights -/

/-- The greatest score (`⊥` of no scores). -/
def rmax {n : ℕ} (s : Fin n → EReal) : EReal := (Finset.univ : Finset (Fin n)).fold max ⊥ s
/-- The exponential of a score less the greatest. -/
def ex {n : ℕ} (s : Fin n → EReal) (j : Fin n) : EReal := Ideal.exp (s j - rmax s)
/-- The sum of the exponentials. -/
def den {n : ℕ} (s : Fin n → EReal) : EReal := ∑ j, ex s j
/-- The softmax weight. -/
def wt {n : ℕ} (s : Fin n → EReal) (j : Fin n) : EReal := Ideal.div (ex s j) (den s)
/-- The scores' cotangent as a flash kernel computes it, times the scale `c`. -/
def dsK {n : ℕ} (c : EReal) (s dp : Fin n → EReal) (j : Fin n) : EReal :=
  wt s j * (dp j - ∑ i, dp i * wt s i) * c
/-- The scores' cotangent as differentiating the quotient gives it, times the scale `c`. -/
def dsR {n : ℕ} (c : EReal) (s dp : Fin n → EReal) (j : Fin n) : EReal :=
  (Ideal.div (dp j) (den s) + -(∑ i, dp i * Ideal.div 1 (den s * den s) * ex s i)) * ex s j * c

theorem fold_max_real {n : ℕ} (S : Finset (Fin n)) (s : Fin n → EReal) (hs : ∀ j, IsReal (s j)) :
    S.fold max ⊥ s = ⊥ ∧ S = ∅ ∨ IsReal (S.fold max ⊥ s) := by
  classical
  induction S using Finset.induction_on with
  | empty => exact .inl ⟨by simp, rfl⟩
  | insert a S ha ih =>
      refine .inr ?_
      rw [Finset.fold_insert ha]
      rcases ih with ⟨h, _⟩ | h
      · rw [h, max_eq_left bot_le]; exact hs a
      · rcases max_choice (s a) (S.fold max ⊥ s) with h' | h' <;> rw [h']
        · exact hs a
        · exact h

theorem rmax_real {n : ℕ} (hn : 0 < n) (s : Fin n → EReal) (hs : ∀ j, IsReal (s j)) : IsReal (rmax s) := by
  rcases fold_max_real Finset.univ s hs with ⟨_, h⟩ | h
  · exact absurd h (Finset.univ_nonempty_iff.mpr ⟨⟨0, hn⟩⟩).ne_empty
  · exact h

/-- The exponentials of real scores are positive reals, and so is their sum. -/
theorem ex_den {n : ℕ} (hn : 0 < n) (s : Fin n → EReal) (hs : ∀ j, IsReal (s j)) :
    ∃ (e : Fin n → ℝ) (d : ℝ), 0 < d ∧ (∀ j, 0 < e j) ∧ (∀ j, ex s j = (e j : EReal)) ∧ den s = (d : EReal) ∧ d = ∑ j, e j := by
  obtain ⟨m, hm⟩ := rmax_real hn s hs
  choose r hr using hs
  have he : ∀ j, ex s j = ((Real.exp (r j - m) : ℝ) : EReal) := fun j => by
    unfold ex; rw [hm, hr j, ← EReal.coe_sub]; rfl
  refine ⟨fun j => Real.exp (r j - m), ∑ j, Real.exp (r j - m), ?_, fun j => Real.exp_pos _, he, ?_, rfl⟩
  · exact Finset.sum_pos (fun j _ => Real.exp_pos _) (Finset.univ_nonempty_iff.mpr ⟨⟨0, hn⟩⟩)
  · unfold den; rw [← coe_sum]; exact Finset.sum_congr rfl fun j _ => he j

/-- The two ways of writing the scores' cotangent agree where the scores are real, whatever the weights' cotangents. -/
theorem dsK_eq_dsR {n : ℕ} (hn : 0 < n) (c : EReal) (s dp : Fin n → EReal) (hs : ∀ j, IsReal (s j)) (j : Fin n) :
    dsK c s dp j = dsR c s dp j := by
  obtain ⟨e, d, hd, he, hex, hden, _⟩ := ex_den hn s hs
  have hw : ∀ i, wt s i = ((e i * (1 / d) : ℝ) : EReal) := fun i => by
    unfold wt; rw [hex, hden, Ideal.div_coe hd.ne', EReal.coe_mul]
  unfold dsK dsR
  congr 1
  have h1 : ∑ i, dp i * Ideal.div 1 (den s * den s) * ex s i = ((1 / d : ℝ) : EReal) * ∑ i, dp i * wt s i := by
    rw [mul_sum _ _ (by positivity)]
    refine Finset.sum_congr rfl fun i _ => ?_
    rw [hw, hex, hden, ← EReal.coe_mul, Ideal.div_coe (mul_pos hd hd).ne', one_mul, mul_assoc, ← EReal.coe_mul,
      mul_left_comm, ← EReal.coe_mul]
    congr 2
    field_simp
  rw [h1, hden, Ideal.div_coe hd.ne', hex, mul_comm (dp j), sub_eq_add_neg, hw]
  generalize (∑ i, dp i * wt s i) = X
  have h2 : -(((1 / d : ℝ) : EReal) * X) = ((1 / d : ℝ) : EReal) * -X := by rw [mul_neg]
  rw [h2, ← EReal.left_distrib_of_nonneg_of_ne_top (by exact_mod_cast (by positivity : (0 : ℝ) ≤ 1 / d)) (EReal.coe_ne_top _),
    EReal.coe_mul, mul_comm, ← mul_assoc, mul_comm (_ * _) (e j : EReal), mul_comm _ ((1 / d : ℝ) : EReal)]
  ac_rfl

end Cert.Row

end
-- ==== Proof.Dots.lean ====
/-
  PRODUCTS OF TWO MATRICES, READ AT AN INDEX. The three dimension-number records a kernel's products use — row by
  column (`nn`), row by row (`nt`: the second operand transposed), column by column (`tn`: the first transposed) — at
  any extents: the sum over the record's contraction index is the sum over `Fin K`.
-/
module

public import Idealize.ShloMosaic.PureOps.Ideal
public import Idealize.ShloMosaic.PureOps.Ideal.Laws
public import Idealize.ShloMosaic.Lib.ValueIdx
public import Idealize.ShloMosaic.Lib.Pipeline.Value
public import proofs.«01_k».proof.Proof.MemRow

@[expose] public section

noncomputable section

namespace Cert.Dots

open Idealize.ShloMosaic Idealize.ShloMosaic.ValueIdx
open scoped BigOperators

variable {M K N : ℕ}

/-- Rows by columns. -/
abbrev nn (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf
/-- Rows by rows. -/
abbrev nt (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf
/-- Columns by columns. -/
abbrev tn (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

theorem sum_nn (wf) (l : (⟨2, ![M, K]⟩ : Shape).Idx → EReal) (r : (⟨2, ![K, N]⟩ : Shape).Idx → EReal) (i : Fin M) (j : Fin N) :
    ∑ k : (nn wf).contr.Idx, l ((nn wf).lhsIdx (ix2 i j) k) * r ((nn wf).rhsIdx (ix2 i j) k)
      = ∑ k : Fin K, l (ix2 i k) * r (ix2 k j) := by
  rw [← Equiv.sum_comp (contrEquiv1 (nn wf) K rfl rfl).symm]
  refine Finset.sum_congr rfl fun k _ => ?_
  have hk := contrEquiv1_symm_val (nn wf) K rfl rfl k
  have el : (nn wf).lhsIdx (ix2 i j) ((contrEquiv1 (nn wf) K rfl rfl).symm k) = ix2 i k := funext fun a => Fin.ext (by
    match a with
    | ⟨0, _⟩ => rfl
    | ⟨1, _⟩ => exact ((nn wf).lhsIdx_val_of_single rfl _ _).trans hk)
  have er : (nn wf).rhsIdx (ix2 i j) ((contrEquiv1 (nn wf) K rfl rfl).symm k) = ix2 k j := funext fun a => Fin.ext (by
    match a with
    | ⟨0, _⟩ => exact ((nn wf).rhsIdx_val_of_single rfl _ _).trans hk
    | ⟨1, _⟩ => rfl)
  rw [el, er]

theorem sum_nt (wf) (l : (⟨2, ![M, K]⟩ : Shape).Idx → EReal) (r : (⟨2, ![N, K]⟩ : Shape).Idx → EReal) (i : Fin M) (j : Fin N) :
    ∑ k : (nt wf).contr.Idx, l ((nt wf).lhsIdx (ix2 i j) k) * r ((nt wf).rhsIdx (ix2 i j) k)
      = ∑ k : Fin K, l (ix2 i k) * r (ix2 j k) := by
  rw [← Equiv.sum_comp (contrEquiv1 (nt wf) K rfl rfl).symm]
  refine Finset.sum_congr rfl fun k _ => ?_
  have hk := contrEquiv1_symm_val (nt wf) K rfl rfl k
  have el : (nt wf).lhsIdx (ix2 i j) ((contrEquiv1 (nt wf) K rfl rfl).symm k) = ix2 i k := funext fun a => Fin.ext (by
    match a with
    | ⟨0, _⟩ => rfl
    | ⟨1, _⟩ => exact ((nt wf).lhsIdx_val_of_single rfl _ _).trans hk)
  have er : (nt wf).rhsIdx (ix2 i j) ((contrEquiv1 (nt wf) K rfl rfl).symm k) = ix2 j k := funext fun a => Fin.ext (by
    match a with
    | ⟨0, _⟩ => rfl
    | ⟨1, _⟩ => exact ((nt wf).rhsIdx_val_of_single rfl _ _).trans hk)
  rw [el, er]

theorem sum_tn (wf) (l : (⟨2, ![K, M]⟩ : Shape).Idx → EReal) (r : (⟨2, ![K, N]⟩ : Shape).Idx → EReal) (i : Fin M) (j : Fin N) :
    ∑ k : (tn wf).contr.Idx, l ((tn wf).lhsIdx (ix2 i j) k) * r ((tn wf).rhsIdx (ix2 i j) k)
      = ∑ k : Fin K, l (ix2 k i) * r (ix2 k j) := by
  rw [← Equiv.sum_comp (contrEquiv1 (tn wf) K rfl rfl).symm]
  refine Finset.sum_congr rfl fun k _ => ?_
  have hk := contrEquiv1_symm_val (tn wf) K rfl rfl k
  have el : (tn wf).lhsIdx (ix2 i j) ((contrEquiv1 (tn wf) K rfl rfl).symm k) = ix2 k i := funext fun a => Fin.ext (by
    match a with
    | ⟨0, _⟩ => exact ((tn wf).lhsIdx_val_of_single rfl _ _).trans hk
    | ⟨1, _⟩ => rfl)
  have er : (tn wf).rhsIdx (ix2 i j) ((contrEquiv1 (tn wf) K rfl rfl).symm k) = ix2 k j := funext fun a => Fin.ext (by
    match a with
    | ⟨0, _⟩ => exact ((tn wf).rhsIdx_val_of_single rfl _ _).trans hk
    | ⟨1, _⟩ => rfl)
  rw [el, er]

/-- A kernel's product into a zero accumulator: rows by columns. -/
theorem mm_nn {φ₁ φ₂ : FTy} (wf) (l : FVec Ideal ⟨2, ![M, K]⟩ φ₁) (r : FVec Ideal ⟨2, ![K, N]⟩ φ₂) (i : Fin M) (j : Fin N) :
    FloatOps.matmul (nn wf) none l r (constant ⟨2, ![M, N]⟩ .f32 0x00000000#32) (ix2 i j)
      = ∑ k : Fin K, l (ix2 i k) * r (ix2 k j) := by
  rw [Ideal.matmul_constant_zero_apply]; exact sum_nn wf l r i j
/-- Rows by rows. -/
theorem mm_nt {φ₁ φ₂ : FTy} (wf) (l : FVec Ideal ⟨2, ![M, K]⟩ φ₁) (r : FVec Ideal ⟨2, ![N, K]⟩ φ₂) (i : Fin M) (j : Fin N) :
    FloatOps.matmul (nt wf) none l r (constant ⟨2, ![M, N]⟩ .f32 0x00000000#32) (ix2 i j)
      = ∑ k : Fin K, l (ix2 i k) * r (ix2 j k) := by
  rw [Ideal.matmul_constant_zero_apply]; exact sum_nt wf l r i j
/-- Columns by columns. -/
theorem mm_tn {φ₁ φ₂ : FTy} (wf) (l : FVec Ideal ⟨2, ![K, M]⟩ φ₁) (r : FVec Ideal ⟨2, ![K, N]⟩ φ₂) (i : Fin M) (j : Fin N) :
    FloatOps.matmul (tn wf) none l r (constant ⟨2, ![M, N]⟩ .f32 0x00000000#32) (ix2 i j)
      = ∑ k : Fin K, l (ix2 k i) * r (ix2 k j) := by
  rw [Ideal.matmul_constant_zero_apply]; exact sum_tn wf l r i j

/-! ## A row's sum and greatest element, a row's value spread over the row -/

/-- The sum along a row. -/
theorem row_sum (v : FVec Ideal ⟨2, ![M, N]⟩ .f32) (h : (⟨2, ![M, N]⟩ : Shape).Reduces [1] ⟨1, ![M]⟩) (hφ) (hacc) (i : Fin M) :
    multiReduction .add [1] ⟨1, ![M]⟩ v 0x00000000#32 h hφ hacc (ix1 i) = ∑ j : Fin N, v (ix2 i j) := by
  rw [Ideal.multiReduction_add_single]
  refine Finset.sum_congr rfl fun j _ => congrArg v (funext fun a => Fin.ext ?_)
  match a with
  | ⟨0, _⟩ => rfl
  | ⟨1, _⟩ => rfl

/-- The greatest element of a row. -/
theorem row_max (v : FVec Ideal ⟨2, ![M, N]⟩ .f32) (h : (⟨2, ![M, N]⟩ : Shape).Reduces [1] ⟨1, ![M]⟩) (hφ) (hacc) (i : Fin M) :
    multiReduction .maximumf [1] ⟨1, ![M]⟩ v 0xFF800000#32 h hφ hacc (ix1 i)
      = (Finset.univ : Finset (Fin N)).fold max (Ideal.ofBits .f32 0xFF800000#32) (fun j => v (ix2 i j)) := by
  rw [Ideal.multiReduction_maximumf_single]
  show Finset.univ.fold max _ _ = _
  congr 1
  funext j
  exact congrArg v (funext fun a => Fin.ext (by
    match a with
    | ⟨0, _⟩ => rfl
    | ⟨1, _⟩ => rfl))

/-- A column of one value per row, spread along the rows. -/
theorem row_spread {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (i : Fin M) (j : Fin N) :
    broadcastTo ⟨2, ![M, N]⟩ (shapeCast ⟨2, ![M, 1]⟩ v hc) hb (ix2 i j) = v (ix1 i) := by
  rw [broadcastTo_apply _ hb (ix2 i j) (ix2 i 0) (fun a => by
      match a with
      | ⟨0, _⟩ =>
          show i.val = if M = 1 then 0 else i.val
          split
          · have := i.isLt; omega
          · rfl
      | ⟨1, _⟩ => rfl),
    shapeCast_apply _ hc (ix2 i 0) (ix1 i) (by
      rw [Shape.rowMajor_val_two, Shape.rowMajor_val_one]
      show i.val = i.val * 1 + 0
      omega)]

/-- The word of minus infinity. -/
theorem ofBits_ninf : Ideal.ofBits .f32 0xFF800000#32 = ⊥ := by simp [Ideal.ofBits, Ideal.ieee]
/-- A softmax along the rows, as a kernel writes it. -/
theorem softmax_at (x : FVec Ideal ⟨2, ![M, N]⟩ .f32) (h h' : (⟨2, ![M, N]⟩ : Shape).Reduces [1] ⟨1, ![M]⟩) (hφ hacc hφ' hacc')
    (hc hc' : (⟨1, ![M]⟩ : Shape).ShapeCasts ⟨2, ![M, 1]⟩) (hb hb' : (⟨2, ![M, 1]⟩ : Shape).Broadcasts ⟨2, ![M, N]⟩) (i : Fin M) (j : Fin N) :
    divf (exp (subf x (broadcastTo ⟨2, ![M, N]⟩ (shapeCast ⟨2, ![M, 1]⟩ (multiReduction .maximumf [1] ⟨1, ![M]⟩ x 0xFF800000#32 h hφ hacc) hc) hb)))
        (broadcastTo ⟨2, ![M, N]⟩ (shapeCast ⟨2, ![M, 1]⟩ (multiReduction .add [1] ⟨1, ![M]⟩
          (exp (subf x (broadcastTo ⟨2, ![M, N]⟩ (shapeCast ⟨2, ![M, 1]⟩ (multiReduction .maximumf [1] ⟨1, ![M]⟩ x 0xFF800000#32 h hφ hacc) hc) hb)))
          0x00000000#32 h' hφ' hacc') hc') hb') (ix2 i j)
      = Row.wt (fun j => x (ix2 i j)) j := by
  have hex : ∀ j, exp (subf x (broadcastTo ⟨2, ![M, N]⟩ (shapeCast ⟨2, ![M, 1]⟩ (multiReduction .maximumf [1] ⟨1, ![M]⟩ x 0xFF800000#32 h hφ hacc) hc) hb)) (ix2 i j)
      = Row.ex (fun j => x (ix2 i j)) j := fun j => by
    show Ideal.exp _ = _
    rw [subf_apply, row_spread, row_max, ofBits_ninf]
    rfl
  rw [divf_apply, row_spread, row_sum, hex]
  simp only [hex]
  rfl

/-- The softmax's gradient along the rows, as a flash kernel writes it. -/
theorem softmaxGrad_at (p dp : FVec Ideal ⟨2, ![M, N]⟩ .f32) (c : Ideal .f32) (h : (⟨2, ![M, N]⟩ : Shape).Reduces [1] ⟨1, ![M]⟩) (hφ hacc)
    (hc : (⟨1, ![M]⟩ : Shape).ShapeCasts ⟨2, ![M, 1]⟩) (hb : (⟨2, ![M, 1]⟩ : Shape).Broadcasts ⟨2, ![M, N]⟩) (s : Fin N → EReal)
    (i : Fin M) (hp : ∀ j, p (ix2 i j) = Row.wt s j) (j : Fin N) :
    mulf (mulf p (subf dp (broadcastTo ⟨2, ![M, N]⟩ (shapeCast ⟨2, ![M, 1]⟩ (multiReduction .add [1] ⟨1, ![M]⟩ (mulf dp p) 0x00000000#32 h hφ hacc) hc) hb)))
        (broadcast ⟨2, ![M, N]⟩ c) (ix2 i j)
      = Row.dsK c s (fun j => dp (ix2 i j)) j := by
  rw [mulf_apply, mulf_apply, subf_apply, row_spread, row_sum, hp]
  simp only [mulf_apply, hp]
  rfl

end Cert.Dots

end
-- ==== Proof.MemPay.lean ====
/-
  ONE HEAD OF THE MEMORY ATTENTION'S GRADIENT, over one block of 512 rows: each payload the kernel's body computes, read
  at an index. The generated text names the first head's payloads `k0_pay4` to `k0_pay9` and cuts the other heads' differently;
  unfolded they are the same terms.
-/
module

public import proofs.«01_k».proof.Proof.Gen.KernelIdeal.Value
public import proofs.«01_k».proof.Proof.MemRow
public import proofs.«01_k».proof.Proof.Dots

@[expose] public section

set_option maxRecDepth 16384

noncomputable section

namespace Cert.Mem

open Cert.KernelIdeal Cert.KernelIdeal.Gen Idealize.ShloMosaic Idealize.ShloMosaic.TcCoe Idealize.SL.Sem
open Idealize.ShloMosaic.ValueIdx Cert.Row Cert.Dots
open scoped BigOperators

/-- The score scale, one sixteenth, as its word. -/
def cs : EReal := Ideal.ofBits .f32 0x3D800000#32

/-- One row's scores against the 256 memory slots. -/
def sc (v3 : Vec Ideal S512x256 .bf16) (v4 : Vec Ideal S256x256 .f32) (r : Fin 512) : Fin 256 → EReal :=
  fun m => (∑ e : Fin 256, v3 (ix2 r e) * v4 (ix2 m e)) * cs
/-- One row's weights' cotangents. -/
def dpw (v5 : Vec Ideal S256x256 .f32) (v6 : Vec Ideal S512x256 .f32) (r : Fin 512) : Fin 256 → EReal :=
  fun m => ∑ e : Fin 256, v6 (ix2 r e) * v5 (ix2 m e)

theorem score_at (v3 : FVec Ideal S512x256 .bf16) (v4 : FVec Ideal S256x256 .bf16) (r : Fin 512) (m : Fin 256) :
    matmul dot_S512x256_S256x256_S512x256_1_1_0_0_n_n none v3 v4 (constant S512x256 .f32 0x00000000#32) (ix2 r m)
      = ∑ e : Fin 256, v3 (ix2 r e) * v4 (ix2 m e) := mm_nt _ v3 v4 r m

theorem dqdot_at (v3 : FVec Ideal S512x256 .bf16) (v4 : FVec Ideal S256x256 .bf16) (r : Fin 512) (m : Fin 256) :
    matmul dot_S512x256_S256x256_S512x256_1_0_0_1_n_n none v3 v4 (constant S512x256 .f32 0x00000000#32) (ix2 r m)
      = ∑ e : Fin 256, v3 (ix2 r e) * v4 (ix2 e m) := mm_nn _ v3 v4 r m

theorem kvdot_at (v3 : FVec Ideal S256x512 .bf16) (v4 : FVec Ideal S512x256 .bf16) (r : Fin 256) (m : Fin 256) :
    matmul dot_S256x512_S512x256_S256x256_1_0_0_1_n_n none v3 v4 (constant S256x256 .f32 0x00000000#32) (ix2 r m)
      = ∑ e : Fin 512, v3 (ix2 r e) * v4 (ix2 e m) := mm_nn _ v3 v4 r m

theorem tr_at (v : FVec Ideal S512x256 .f32) (i : Fin 256) (j : Fin 512) :
    transpose S256x512 [1, 0] v transposes_S512x256_p1_0_S256x512 (ix2 i j) = v (ix2 j i) :=
  transpose_apply _ _ _ _ (ix2 j i) (fun a => by match a with | ⟨0, _⟩ => rfl | ⟨1, _⟩ => rfl)

/-- The softmax weights. -/
theorem pay5_at (v3 : Vec Ideal S512x256 .bf16) (v4 : Vec Ideal S256x256 .f32) (r : Fin 512) (m : Fin 256) :
    k0_pay5 v3 v4 (ix2 r m) = wt (sc v3 v4 r) m := by
  refine (softmax_at _ _ _ _ _ _ _ _ _ _ _ r m).trans (congrArg (fun s => wt s m) (funext fun j => ?_))
  exact congrArg (· * cs) (score_at v3 _ r j)

/-- The scores' cotangents. -/
theorem pay6_at (v3 : Vec Ideal S512x256 .bf16) (v4 v5 : Vec Ideal S256x256 .f32) (v6 : Vec Ideal S512x256 .f32) (r : Fin 512) (m : Fin 256) :
    k0_pay6 v3 v4 v5 v6 (ix2 r m) = dsK cs (sc v3 v4 r) (dpw v5 v6 r) m := by
  refine (softmaxGrad_at (k0_pay5 v3 v4) _ _ _ _ _ _ _ (sc v3 v4 r) r (fun j => pay5_at v3 v4 r j) m).trans
    (congrArg (fun d => dsK cs (sc v3 v4 r) d m) (funext fun j => ?_))
  exact score_at _ _ r j

/-- The rows' cotangents. -/
theorem pay7_at (v3 : Vec Ideal S512x256 .bf16) (v4 v5 : Vec Ideal S256x256 .f32) (v6 : Vec Ideal S512x256 .f32) (r : Fin 512) (k : Fin 256) :
    k0_pay7 v3 v4 v5 v6 (ix2 r k) = ∑ m : Fin 256, dsK cs (sc v3 v4 r) (dpw v5 v6 r) m * v4 (ix2 m k) := by
  unfold k0_pay7
  show truncf _ _ _ _ = _
  rw [truncf_apply, dqdot_at]
  refine Finset.sum_congr rfl fun m _ => ?_
  rw [truncf_apply, pay6_at]; rfl

/-- The keys' cotangents, added to what was there. -/
theorem pay8_at (v3 : Vec Ideal S512x256 .bf16) (v4 v5 : Vec Ideal S256x256 .f32) (v6 : Vec Ideal S512x256 .f32) (a : Vec Ideal S256x256 .f32) (m k : Fin 256) :
    k0_pay8 v3 (k0_pay6 v3 v4 v5 v6) a (ix2 m k) = a (ix2 m k) + ∑ r : Fin 512, dsK cs (sc v3 v4 r) (dpw v5 v6 r) m * v3 (ix2 r k) := by
  unfold k0_pay8
  show addf _ _ _ = _
  rw [addf_apply, shapeCast_self, kvdot_at]
  congr 1
  refine Finset.sum_congr rfl fun r _ => ?_
  rw [truncf_apply, tr_at, pay6_at]

/-- The values' cotangents, added to what was there. -/
theorem pay9_at (v3 : Vec Ideal S512x256 .bf16) (v4 : Vec Ideal S256x256 .f32) (v6 : Vec Ideal S512x256 .f32) (a : Vec Ideal S256x256 .f32) (m k : Fin 256) :
    k0_pay9 (k0_pay4 v6) (k0_pay5 v3 v4) a (ix2 m k) = a (ix2 m k) + ∑ r : Fin 512, wt (sc v3 v4 r) m * v6 (ix2 r k) := by
  unfold k0_pay9
  show addf _ _ _ = _
  rw [addf_apply, shapeCast_self, kvdot_at]
  congr 1
  refine Finset.sum_congr rfl fun r _ => ?_
  rw [truncf_apply, tr_at, pay5_at]; rfl

end Cert.Mem

end
-- ==== Proof.MemBlock.lean ====
/-
  WHAT ONE GRID POINT OF THE MEMORY ATTENTION'S GRADIENT LEAVES, as functions of its blocks read at natural-number
  indices (`at2`): the rows' cotangents `dqN`, and the memory's cotangents, what was there before plus the sum over the
  block's rows of `tN`.
-/
module

public import proofs.«01_k».proof.Proof.MemPay
public import Idealize.ShloMosaic.Lib.Pipeline.ReadBack

@[expose] public section

set_option maxRecDepth 16384

noncomputable section

namespace Cert.Mem

open Cert.KernelIdeal Cert.KernelIdeal.Gen Idealize.ShloMosaic Idealize.ShloMosaic.TcCoe Idealize.SL.Sem
open Idealize.ShloMosaic.ValueIdx Cert.Row Cert.Dots
open Idealize.ShloMosaic.Pipeline (Dat)
open scoped BigOperators

/-- A matrix read at natural-number indices, zero outside it. -/
def at2 {a b : ℕ} (x : (⟨2, ![a, b]⟩ : Shape).Idx → EReal) (i j : ℕ) : EReal :=
  if h : i < a ∧ j < b then x (ix2 ⟨i, h.1⟩ ⟨j, h.2⟩) else 0

theorem at2_eq {a b : ℕ} (x : (⟨2, ![a, b]⟩ : Shape).Idx → EReal) (y : (⟨2, ![a, b]⟩ : Shape).Idx) (i j : ℕ)
    (hi : (y 0).val = i) (hj : (y 1).val = j) : x y = at2 x i j := by
  subst hi; subst hj
  unfold at2
  rw [dif_pos ⟨(y 0).isLt, (y 1).isLt⟩]
  exact congrArg x (eq_ix2 y)

/-! ## The functions -/

/-- Row `r`'s scores in head `h`. -/
def scN (Q KV : ℕ → ℕ → EReal) (r h : ℕ) : Fin 256 → EReal :=
  fun m => (∑ e : Fin 256, Q r (256 * h + e.val) * KV m.val (256 * h + e.val)) * cs
/-- The cotangents of row `r`'s weights in head `h`. -/
def dpN (KV DY : ℕ → ℕ → EReal) (r h : ℕ) : Fin 256 → EReal :=
  fun m => ∑ e : Fin 256, DY r (256 * h + e.val) * KV m.val (1024 + 256 * h + e.val)
/-- The cotangents of row `r`'s scores in head `h`. -/
def dsN (Q KV DY : ℕ → ℕ → EReal) (r h : ℕ) : Fin 256 → EReal := dsK cs (scN Q KV r h) (dpN KV DY r h)
/-- The cotangent of the row's element. -/
def dqN (Q KV DY : ℕ → ℕ → EReal) (r col : ℕ) : EReal :=
  ∑ m : Fin 256, dsN Q KV DY r (col / 256) m * KV m.val col
/-- Row `r`'s part in the cotangent of the memory's element: a key's in the first 1024 columns, a value's after. -/
def tN (Q KV DY : ℕ → ℕ → EReal) (r : ℕ) (m : Fin 256) (col : ℕ) : EReal :=
  if col < 1024 then dsN Q KV DY r (col / 256) m * Q r col
  else wt (scN Q KV r ((col - 1024) / 256)) m * DY r (col - 1024)

/-- The rows' cotangents over a block, and the memory's: over what was there. -/
def Gq (x0 : Vec Ideal S512x1024 .bf16) (x1 : Vec Ideal S256x2048 .f32) (x2 : Vec Ideal S512x1024 .f32) : S512x1024.Idx → Elt Ideal .bf16 :=
  fun y => dqN (at2 x0) (at2 x1) (at2 x2) (y 0).val (y 1).val
@[inherit_doc Gq]
def Gkv (x0 : Vec Ideal S512x1024 .bf16) (x1 : Vec Ideal S256x2048 .f32) (x2 : Vec Ideal S512x1024 .f32) (xa : Vec Ideal S256x2048 .f32) :
    S256x2048.Idx → Elt Ideal .f32 :=
  fun y => xa y + ∑ r : Fin 512, tN (at2 x0) (at2 x1) (at2 x2) r.val (y 0) (y 1).val

/-! ## One head's stores -/

/-- A load of a block at a column offset, at an index. -/
theorem ld_at {a b a' b' o : ℕ} (x : (⟨2, ![a, b]⟩ : Shape).Idx → EReal) (inb) (i : Fin a') (j : Fin b') (k : ℕ) (hk : o + j.val = k) :
    x ((Rect.unit (s := ⟨2, ![a, b]⟩) ![0, o] ![a', b'] inb).idx (ix2 i j)) = at2 x i.val k :=
  at2_eq x ((Rect.unit (s := ⟨2, ![a, b]⟩) ![0, o] ![a', b'] inb).idx (ix2 i j)) i.val k (by show 0 + 1 * i.val = i.val; omega) (by show o + 1 * j.val = k; omega)

section Heads

variable (x0 : Vec Ideal S512x1024 .bf16) (x1 : Vec Ideal S256x2048 .f32) (x2 : Vec Ideal S512x1024 .f32) (xa : Vec Ideal S256x2048 .f32)
variable (h o o' : ℕ) (ho : 256 * h = o) (ho' : 1024 + 256 * h = o') (inq : ∀ a, (![0, o] : Fin 2 → ℕ) a + (![512, 256] : Fin 2 → ℕ) a ≤ S512x1024.size a)
  (ink : ∀ a, (![0, o] : Fin 2 → ℕ) a + (![256, 256] : Fin 2 → ℕ) a ≤ S256x2048.size a) (inv : ∀ a, (![0, o'] : Fin 2 → ℕ) a + (![256, 256] : Fin 2 → ℕ) a ≤ S256x2048.size a)

include ho ho'

theorem sc_ld (r : Fin 512) : sc (View.ld x0 (Rect.unit ![0, o] ![512, 256] inq)) (View.ld x1 (Rect.unit ![0, o] ![256, 256] ink)) r
    = scN (at2 x0) (at2 x1) r.val h := by
  funext m
  refine congrArg (· * cs) (Finset.sum_congr rfl fun e _ => ?_)
  exact congrArg₂ (· * ·) (ld_at x0 inq r e (256 * h + e.val) (by omega)) (ld_at x1 ink m e (256 * h + e.val) (by omega))

theorem dp_ld (r : Fin 512) : dpw (View.ld x1 (Rect.unit ![0, o'] ![256, 256] inv)) (View.ld x2 (Rect.unit ![0, o] ![512, 256] inq)) r
    = dpN (at2 x1) (at2 x2) r.val h := by
  funext m
  refine Finset.sum_congr rfl fun e _ => ?_
  exact congrArg₂ (· * ·) (ld_at x2 inq r e (256 * h + e.val) (by omega)) (ld_at x1 inv m e (1024 + 256 * h + e.val) (by omega))

theorem piece_q (x : (Rect.unit (s := S512x1024) ![0, o] ![512, 256] inq).shape.Idx) :
    k0_pay7 (View.ld x0 (Rect.unit ![0, o] ![512, 256] inq)) (View.ld x1 (Rect.unit ![0, o] ![256, 256] ink))
        (View.ld x1 (Rect.unit ![0, o'] ![256, 256] inv)) (View.ld x2 (Rect.unit ![0, o] ![512, 256] inq)) x
      = Gq x0 x1 x2 ((Rect.unit (s := S512x1024) ![0, o] ![512, 256] inq).emb x) := by
  obtain ⟨r, k, rfl⟩ : ∃ (r : Fin 512) (k : Fin 256), x = ix2 r k := ⟨x 0, x 1, eq_ix2 x⟩
  have e0 : ((Rect.unit (s := S512x1024) ![0, o] ![512, 256] inq).emb (ix2 r k) 0).val = r.val := by show 0 + 1 * r.val = r.val; omega
  have e1 : ((Rect.unit (s := S512x1024) ![0, o] ![512, 256] inq).emb (ix2 r k) 1).val = o + k.val := by show o + 1 * k.val = _; omega
  have hh : (o + k.val) / 256 = h := by have := k.isLt; omega
  show _ = dqN (at2 x0) (at2 x1) (at2 x2) _ _
  refine (pay7_at _ _ _ _ r k).trans ?_
  rw [e0, e1, sc_ld x0 x1 h o o' ho ho' inq ink, dp_ld x1 x2 h o o' ho ho' inq inv]
  unfold dqN
  rw [hh]
  refine Finset.sum_congr rfl fun m _ => ?_
  exact congrArg _ (ld_at x1 ink m k _ rfl)

theorem piece_k (hh4 : h < 4) (x : (Rect.unit (s := S256x2048) ![0, o] ![256, 256] ink).shape.Idx) :
    k0_pay8 (View.ld x0 (Rect.unit ![0, o] ![512, 256] inq)) (k0_pay6 (View.ld x0 (Rect.unit ![0, o] ![512, 256] inq)) (View.ld x1 (Rect.unit ![0, o] ![256, 256] ink))
        (View.ld x1 (Rect.unit ![0, o'] ![256, 256] inv)) (View.ld x2 (Rect.unit ![0, o] ![512, 256] inq))) (View.ld xa (Rect.unit ![0, o] ![256, 256] ink)) x
      = Gkv x0 x1 x2 xa ((Rect.unit (s := S256x2048) ![0, o] ![256, 256] ink).emb x) := by
  obtain ⟨r, k, rfl⟩ : ∃ (r : Fin 256) (k : Fin 256), x = ix2 r k := ⟨x 0, x 1, eq_ix2 x⟩
  have e0 : (Rect.unit (s := S256x2048) ![0, o] ![256, 256] ink).emb (ix2 r k) 0 = r := Fin.ext (by show 0 + 1 * r.val = r.val; omega)
  have e1 : ((Rect.unit (s := S256x2048) ![0, o] ![256, 256] ink).emb (ix2 r k) 1).val = o + k.val := by show o + 1 * k.val = _; omega
  have hh : (o + k.val) / 256 = h := by have := k.isLt; omega
  have hlt : o + k.val < 1024 := by have := k.isLt; omega
  show _ = xa _ + ∑ r' : Fin 512, tN (at2 x0) (at2 x1) (at2 x2) r'.val _ _
  refine (pay8_at _ _ _ _ _ r k).trans ?_
  rw [e0, e1]
  refine congrArg (xa _ + ·) (Finset.sum_congr rfl fun s _ => ?_)
  rw [sc_ld x0 x1 h o o' ho ho' inq ink, dp_ld x1 x2 h o o' ho ho' inq inv]
  unfold tN
  rw [if_pos hlt, hh]
  exact congrArg _ (ld_at x0 inq s k _ rfl)

theorem piece_v (hh4 : h < 4) (x : (Rect.unit (s := S256x2048) ![0, o'] ![256, 256] inv).shape.Idx) :
    k0_pay9 (k0_pay4 (View.ld x2 (Rect.unit ![0, o] ![512, 256] inq))) (k0_pay5 (View.ld x0 (Rect.unit ![0, o] ![512, 256] inq)) (View.ld x1 (Rect.unit ![0, o] ![256, 256] ink)))
        (View.ld xa (Rect.unit ![0, o'] ![256, 256] inv)) x
      = Gkv x0 x1 x2 xa ((Rect.unit (s := S256x2048) ![0, o'] ![256, 256] inv).emb x) := by
  obtain ⟨r, k, rfl⟩ : ∃ (r : Fin 256) (k : Fin 256), x = ix2 r k := ⟨x 0, x 1, eq_ix2 x⟩
  have e0 : (Rect.unit (s := S256x2048) ![0, o'] ![256, 256] inv).emb (ix2 r k) 0 = r := Fin.ext (by show 0 + 1 * r.val = r.val; omega)
  have e1 : ((Rect.unit (s := S256x2048) ![0, o'] ![256, 256] inv).emb (ix2 r k) 1).val = o' + k.val := by show o' + 1 * k.val = _; omega
  have hs : o' + k.val - 1024 = o + k.val := by omega
  have hh : (o + k.val) / 256 = h := by have := k.isLt; omega
  have hlt : ¬ o' + k.val < 1024 := by omega
  show _ = xa _ + ∑ r' : Fin 512, tN (at2 x0) (at2 x1) (at2 x2) r'.val _ _
  refine (pay9_at _ _ _ _ r k).trans ?_
  rw [e0, e1]
  refine congrArg (xa _ + ·) (Finset.sum_congr rfl fun s _ => ?_)
  rw [sc_ld x0 x1 h o o' ho ho' inq ink]
  unfold tN
  rw [if_neg hlt, hs, hh]
  exact congrArg _ (ld_at x2 inq s k _ rfl)

end Heads

/-! ## The two cases' contents -/

section Cases

variable (c : Dev nD) (i : grid0.Coords) (arg1 : Memref sig .tc .vmem S512x1024 .bf16) (harg1 : arg1.IsWhole) (arg2 : Memref sig .tc .vmem S256x2048 .f32) (harg2 : arg2.IsWhole)
  (arg3 : Memref sig .tc .vmem S512x1024 .f32) (harg3 : arg3.IsWhole) (arg4 : Memref sig .tc .vmem S512x1024 .bf16) (harg4 : arg4.IsWhole) (arg5 : Memref sig .tc .vmem S256x2048 .f32) (harg5 : arg5.IsWhole)
  (x0 : Vec Ideal S512x1024 .bf16) (x1 : Vec Ideal S256x2048 .f32) (x2 : Vec Ideal S512x1024 .f32) (xa : Vec Ideal S256x2048 .f32)

theorem out_q_A (hc0 : cond0_0 i) (y : S512x1024.Idx) :
    out0_A_3 c i arg1 harg1 arg2 harg2 arg3 harg3 arg4 harg4 arg5 harg5 hc0 x0 x1 x2 y = dqN (at2 x0) (at2 x1) (at2 x2) (y 0).val (y 1).val := by
  have hcov := cover0_A_3 c i arg1 harg1 arg2 harg2 arg3 harg3 arg4 harg4 arg5 harg5 hc0 x0 x1 x2
  unfold out0_A_3
  rw [View.read_writes_eq_canon _ _ _ hcov]
  refine View.canon_apply_of_pieces (Gq x0 x1 x2) _ (View.PiecesOf.mem (G := Gq x0 x1 x2) ?_) y (hcov y)
  unfold kernelRun0_A
  dsimp only
  sl_unfold_words
  simp only [View.readAt_eq_ld, harg1.read_unread, harg2.read_unread, harg3.read_unread]
  exact ⟨fun x => piece_q x0 x1 x2 3 768 1792 rfl rfl _ _ _ x, fun x => piece_q x0 x1 x2 2 512 1536 rfl rfl _ _ _ x,
    fun x => piece_q x0 x1 x2 1 256 1280 rfl rfl _ _ _ x, fun x => piece_q x0 x1 x2 0 0 1024 rfl rfl _ _ _ x, trivial⟩

theorem out_q_B (hc0 : ¬cond0_0 i) (y : S512x1024.Idx) :
    out0_B_3 c i arg1 harg1 arg2 harg2 arg3 harg3 arg4 harg4 arg5 harg5 hc0 x0 x1 x2 xa y = dqN (at2 x0) (at2 x1) (at2 x2) (y 0).val (y 1).val := by
  have hcov := cover0_B_3 c i arg1 harg1 arg2 harg2 arg3 harg3 arg4 harg4 arg5 harg5 hc0 x0 x1 x2 xa
  unfold out0_B_3
  rw [View.read_writes_eq_canon _ _ _ hcov]
  refine View.canon_apply_of_pieces (Gq x0 x1 x2) _ (View.PiecesOf.mem (G := Gq x0 x1 x2) ?_) y (hcov y)
  unfold kernelRun0_B
  dsimp only
  sl_unfold_words
  simp only [View.readAt_eq_ld, harg1.read_unread, harg2.read_unread, harg3.read_unread]
  exact ⟨fun x => piece_q x0 x1 x2 3 768 1792 rfl rfl _ _ _ x, fun x => piece_q x0 x1 x2 2 512 1536 rfl rfl _ _ _ x,
    fun x => piece_q x0 x1 x2 1 256 1280 rfl rfl _ _ _ x, fun x => piece_q x0 x1 x2 0 0 1024 rfl rfl _ _ _ x, trivial⟩

/-- The eight stores of one point, in the order the run lists them (the last first). -/
def Lkv : List (View.Piece (Elt Ideal) S256x2048 .f32) :=
      [⟨Rect.unit ![0, 1792] ![256, 256] inb_S256x2048_S256x256_0_1792, k0_pay9 (k0_pay4 (View.ld x2 (Rect.unit ![0, 768] ![512, 256] inb_S512x1024_S512x256_0_768))) (k0_pay5 (View.ld x0 (Rect.unit ![0, 768] ![512, 256] inb_S512x1024_S512x256_0_768)) (View.ld x1 (Rect.unit ![0, 768] ![256, 256] inb_S256x2048_S256x256_0_768))) (View.ld xa (Rect.unit ![0, 1792] ![256, 256] inb_S256x2048_S256x256_0_1792))⟩,
       ⟨Rect.unit ![0, 768] ![256, 256] inb_S256x2048_S256x256_0_768, k0_pay8 (View.ld x0 (Rect.unit ![0, 768] ![512, 256] inb_S512x1024_S512x256_0_768)) (k0_pay6 (View.ld x0 (Rect.unit ![0, 768] ![512, 256] inb_S512x1024_S512x256_0_768)) (View.ld x1 (Rect.unit ![0, 768] ![256, 256] inb_S256x2048_S256x256_0_768)) (View.ld x1 (Rect.unit ![0, 1792] ![256, 256] inb_S256x2048_S256x256_0_1792)) (View.ld x2 (Rect.unit ![0, 768] ![512, 256] inb_S512x1024_S512x256_0_768))) (View.ld xa (Rect.unit ![0, 768] ![256, 256] inb_S256x2048_S256x256_0_768))⟩,
       ⟨Rect.unit ![0, 1536] ![256, 256] inb_S256x2048_S256x256_0_1536, k0_pay9 (k0_pay4 (View.ld x2 (Rect.unit ![0, 512] ![512, 256] inb_S512x1024_S512x256_0_512))) (k0_pay5 (View.ld x0 (Rect.unit ![0, 512] ![512, 256] inb_S512x1024_S512x256_0_512)) (View.ld x1 (Rect.unit ![0, 512] ![256, 256] inb_S256x2048_S256x256_0_512))) (View.ld xa (Rect.unit ![0, 1536] ![256, 256] inb_S256x2048_S256x256_0_1536))⟩,
       ⟨Rect.unit ![0, 512] ![256, 256] inb_S256x2048_S256x256_0_512, k0_pay8 (View.ld x0 (Rect.unit ![0, 512] ![512, 256] inb_S512x1024_S512x256_0_512)) (k0_pay6 (View.ld x0 (Rect.unit ![0, 512] ![512, 256] inb_S512x1024_S512x256_0_512)) (View.ld x1 (Rect.unit ![0, 512] ![256, 256] inb_S256x2048_S256x256_0_512)) (View.ld x1 (Rect.unit ![0, 1536] ![256, 256] inb_S256x2048_S256x256_0_1536)) (View.ld x2 (Rect.unit ![0, 512] ![512, 256] inb_S512x1024_S512x256_0_512))) (View.ld xa (Rect.unit ![0, 512] ![256, 256] inb_S256x2048_S256x256_0_512))⟩,
       ⟨Rect.unit ![0, 1280] ![256, 256] inb_S256x2048_S256x256_0_1280, k0_pay9 (k0_pay4 (View.ld x2 (Rect.unit ![0, 256] ![512, 256] inb_S512x1024_S512x256_0_256))) (k0_pay5 (View.ld x0 (Rect.unit ![0, 256] ![512, 256] inb_S512x1024_S512x256_0_256)) (View.ld x1 (Rect.unit ![0, 256] ![256, 256] inb_S256x2048_S256x256_0_256))) (View.ld xa (Rect.unit ![0, 1280] ![256, 256] inb_S256x2048_S256x256_0_1280))⟩,
       ⟨Rect.unit ![0, 256] ![256, 256] inb_S256x2048_S256x256_0_256, k0_pay8 (View.ld x0 (Rect.unit ![0, 256] ![512, 256] inb_S512x1024_S512x256_0_256)) (k0_pay6 (View.ld x0 (Rect.unit ![0, 256] ![512, 256] inb_S512x1024_S512x256_0_256)) (View.ld x1 (Rect.unit ![0, 256] ![256, 256] inb_S256x2048_S256x256_0_256)) (View.ld x1 (Rect.unit ![0, 1280] ![256, 256] inb_S256x2048_S256x256_0_1280)) (View.ld x2 (Rect.unit ![0, 256] ![512, 256] inb_S512x1024_S512x256_0_256))) (View.ld xa (Rect.unit ![0, 256] ![256, 256] inb_S256x2048_S256x256_0_256))⟩,
       ⟨Rect.unit ![0, 1024] ![256, 256] inb_S256x2048_S256x256_0_1024, k0_pay9 (k0_pay4 (View.ld x2 (Rect.unit ![0, 0] ![512, 256] inb_S512x1024_S512x256_0_0))) (k0_pay5 (View.ld x0 (Rect.unit ![0, 0] ![512, 256] inb_S512x1024_S512x256_0_0)) (View.ld x1 (Rect.unit ![0, 0] ![256, 256] inb_S256x2048_S256x256_0_0))) (View.ld xa (Rect.unit ![0, 1024] ![256, 256] inb_S256x2048_S256x256_0_1024))⟩,
       ⟨Rect.unit ![0, 0] ![256, 256] inb_S256x2048_S256x256_0_0, k0_pay8 (View.ld x0 (Rect.unit ![0, 0] ![512, 256] inb_S512x1024_S512x256_0_0)) (k0_pay6 (View.ld x0 (Rect.unit ![0, 0] ![512, 256] inb_S512x1024_S512x256_0_0)) (View.ld x1 (Rect.unit ![0, 0] ![256, 256] inb_S256x2048_S256x256_0_0)) (View.ld x1 (Rect.unit ![0, 1024] ![256, 256] inb_S256x2048_S256x256_0_1024)) (View.ld x2 (Rect.unit ![0, 0] ![512, 256] inb_S512x1024_S512x256_0_0))) (View.ld xa (Rect.unit ![0, 0] ![256, 256] inb_S256x2048_S256x256_0_0))⟩]

theorem pieces_kv : View.PiecesOf (Gkv x0 x1 x2 xa) (Lkv x0 x1 x2 xa) :=
  ⟨fun x => piece_v x0 x1 x2 xa 3 768 1792 rfl rfl _ _ _ (by decide) x, fun x => piece_k x0 x1 x2 xa 3 768 1792 rfl rfl _ _ _ (by decide) x,
   fun x => piece_v x0 x1 x2 xa 2 512 1536 rfl rfl _ _ _ (by decide) x, fun x => piece_k x0 x1 x2 xa 2 512 1536 rfl rfl _ _ _ (by decide) x,
   fun x => piece_v x0 x1 x2 xa 1 256 1280 rfl rfl _ _ _ (by decide) x, fun x => piece_k x0 x1 x2 xa 1 256 1280 rfl rfl _ _ _ (by decide) x,
   fun x => piece_v x0 x1 x2 xa 0 0 1024 rfl rfl _ _ _ (by decide) x, fun x => piece_k x0 x1 x2 xa 0 0 1024 rfl rfl _ _ _ (by decide) x, trivial⟩

theorem cover_kv (y : S256x2048.Idx) : ∃ p ∈ Lkv x0 x1 x2 xa, y ∈ p.1.set :=
  View.cover_of_tiledL (Lkv x0 x1 x2 xa) S256x256.size (by sl_kernel_rfl) y

theorem out_kv_B (hc0 : ¬cond0_0 i) (y : S256x2048.Idx) :
    out0_B_4 c i arg1 harg1 arg2 harg2 arg3 harg3 arg4 harg4 arg5 harg5 hc0 x0 x1 x2 xa y
      = xa y + ∑ r : Fin 512, tN (at2 x0) (at2 x1) (at2 x2) r.val (y 0) (y 1).val := by
  have hcov := cover0_B_4 c i arg1 harg1 arg2 harg2 arg3 harg3 arg4 harg4 arg5 harg5 hc0 x0 x1 x2 xa
  unfold out0_B_4
  rw [View.read_writes_eq_canon _ _ _ hcov]
  refine View.canon_apply_of_pieces (Gkv x0 x1 x2 xa) _ (View.PiecesOf.mem (G := Gkv x0 x1 x2 xa) ?_) y (hcov y)
  unfold kernelRun0_B
  dsimp only
  sl_unfold_words
  simp only [View.readAt_eq_ld, harg1.read_unread, harg2.read_unread, harg3.read_unread, harg5.read_unread]
  exact pieces_kv x0 x1 x2 xa

theorem out_kv_A (hc0 : cond0_0 i) (y : S256x2048.Idx) :
    out0_A_4 c i arg1 harg1 arg2 harg2 arg3 harg3 arg4 harg4 arg5 harg5 hc0 x0 x1 x2 y
      = ∑ r : Fin 512, tN (at2 x0) (at2 x1) (at2 x2) r.val (y 0) (y 1).val := by
  have hcov := cover0_A_4 c i arg1 harg1 arg2 harg2 arg3 harg3 arg4 harg4 arg5 harg5 hc0 x0 x1 x2
  have h0 : (k0_pay3 (F := Ideal)) y = 0 := Ideal.ofBits_zero_f32
  rw [← zero_add (∑ r : Fin 512, _), ← h0]
  unfold out0_A_4
  rw [View.read_writes_eq_canon _ _ _ hcov]
  unfold kernelRun0_A
  dsimp only
  sl_unfold_words
  simp (disch := decide) only [View.readAt_eq_ld, harg1.read_unread, harg2.read_unread, harg3.read_unread, ↓View.readCov_skip, ↓View.readCov_fill]
  exact View.canon_append_of_piecesOf (Gkv x0 x1 x2 (k0_pay3 (F := Ideal))) _ (Lkv x0 x1 x2 (k0_pay3 (F := Ideal))) (pieces_kv x0 x1 x2 _) y (cover_kv x0 x1 x2 _ y)

end Cases

end Cert.Mem

end
-- ==== Proof.MemArr.lean ====
/-
  THE KERNEL'S TWO RESULT ARRAYS as functions of its arguments: element (r, col) of the rows' cotangents is `dqN`, and
  element (m, col) of the memory's cotangents is the sum of `tN` over all 8192 rows — the sixteen points' sums, added
  in the point order (`outs_kv`, by induction on the point).
-/
module

public import proofs.«01_k».proof.Proof.MemBlock

@[expose] public section

set_option maxRecDepth 16384

noncomputable section

namespace Cert.Mem

open Cert.KernelIdeal Cert.KernelIdeal.Gen Idealize.ShloMosaic Idealize.ShloMosaic.TcCoe Idealize.SL.Sem
open Idealize.ShloMosaic.ValueIdx Cert.Row Cert.Dots
open Idealize.ShloMosaic.Pipeline (Dat)
open scoped BigOperators

variable (m : (ℓ : Loc nD τ sig) → Buf (Elt Ideal) ℓ) (c : Dev nD)

/-- The three arguments, at natural-number indices. -/
abbrev aQ : ℕ → ℕ → EReal := at2 (a := 8192) (b := 1024) (m ((c : Thread nD τ).loc main_arg0))
@[inherit_doc aQ]
abbrev aKV : ℕ → ℕ → EReal := at2 (a := 256) (b := 2048) (m ((c : Thread nD τ).loc main_arg1))
@[inherit_doc aQ]
abbrev aDY : ℕ → ℕ → EReal := at2 (a := 8192) (b := 1024) (m ((c : Thread nD τ).loc main_arg2))

/-! ## The functions read one row of the first and third argument -/

theorem dsN_congr {Q Q' KV DY DY' : ℕ → ℕ → EReal} {r r' : ℕ} (hq : Q r = Q' r') (hd : DY r = DY' r') (h : ℕ) :
    dsN Q KV DY r h = dsN Q' KV DY' r' h := by
  unfold dsN scN dpN; rw [hq, hd]
theorem dqN_congr {Q Q' KV DY DY' : ℕ → ℕ → EReal} {r r' : ℕ} (hq : Q r = Q' r') (hd : DY r = DY' r') (col : ℕ) :
    dqN Q KV DY r col = dqN Q' KV DY' r' col := by
  unfold dqN; rw [dsN_congr hq hd]
theorem tN_congr {Q Q' KV DY DY' : ℕ → ℕ → EReal} {r r' : ℕ} (hq : Q r = Q' r') (hd : DY r = DY' r') (k : Fin 256) (col : ℕ) :
    tN Q KV DY r k col = tN Q' KV DY' r' k col := by
  unfold tN; rw [dsN_congr hq hd, hq, hd]; unfold scN; rw [hq]

/-! ## A block is rows of its argument -/

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = t.val ∧ win0_3.index t 1 = 0 := by decide +kernel
theorem index_4 : ∀ t : Fin cfg0.N, win0_4.index t 0 = 0 ∧ win0_4.index t 1 = 0 := by decide +kernel

theorem at2_rows {a b n o : ℕ} (x : (⟨2, ![a, b]⟩ : Shape).Idx → EReal) (X : (⟨2, ![n, b]⟩ : Shape).Idx → EReal) (ho : o + a ≤ n)
    (hx : ∀ (i : Fin a) (j : Fin b), x (ix2 i j) = at2 X (o + i.val) j.val) (i : ℕ) (hi : i < a) : at2 x i = at2 X (o + i) := by
  funext j
  by_cases hj : j < b
  · rw [← hx ⟨i, hi⟩ ⟨j, hj⟩]; unfold at2; rw [dif_pos ⟨hi, hj⟩]
  · unfold at2; rw [dif_neg (fun h => hj h.2), dif_neg (fun h => hj h.2)]

theorem blk_0 (t : Fin cfg0.N) (i : ℕ) (hi : i < 512) : at2 (a := 512) (b := 1024) (iblk m c 0 t) i = aQ m c (512 * t.val + i) := by
  have hN : cfg0.N = 16 := N_0
  refine at2_rows _ _ (by have := t.isLt; omega) (fun r k => ?_) i hi
  exact at2_eq (a := 8192) (b := 1024) (m ((c : Thread nD τ).loc main_arg0)) ((win0_0.rect t).emb (ix2 r k)) _ _
    (by rw [win0_0.rect_emb_val t _ 0, (index_0 t).1]; show t.val * 512 + r.val = _; omega)
    (by rw [win0_0.rect_emb_val t _ 1, (index_0 t).2]; show 0 * 1024 + k.val = _; omega)

theorem blk_1 (t : Fin cfg0.N) : at2 (a := 256) (b := 2048) (iblk m c 1 t) = aKV m c := by
  funext i j
  by_cases h : i < 256 ∧ j < 2048
  · unfold at2; rw [dif_pos h]
    exact at2_eq (a := 256) (b := 2048) (m ((c : Thread nD τ).loc main_arg1)) ((win0_1.rect t).emb (ix2 ⟨i, h.1⟩ ⟨j, h.2⟩)) i j
      (by rw [win0_1.rect_emb_val t _ 0, (index_1 t).1]; show 0 * 256 + i = _; omega)
      (by rw [win0_1.rect_emb_val t _ 1, (index_1 t).2]; show 0 * 2048 + j = _; omega)
  · unfold aKV at2; rw [dif_neg h, dif_neg h]

theorem blk_2 (t : Fin cfg0.N) (i : ℕ) (hi : i < 512) : at2 (a := 512) (b := 1024) (iblk m c 2 t) i = aDY m c (512 * t.val + i) := by
  have hN : cfg0.N = 16 := N_0
  refine at2_rows _ _ (by have := t.isLt; omega) (fun r k => ?_) i hi
  exact at2_eq (a := 8192) (b := 1024) (m ((c : Thread nD τ).loc main_arg2)) ((win0_2.rect t).emb (ix2 r k)) _ _
    (by rw [win0_2.rect_emb_val t _ 0, (index_2 t).1]; show t.val * 512 + r.val = _; omega)
    (by rw [win0_2.rect_emb_val t _ 1, (index_2 t).2]; show 0 * 1024 + k.val = _; omega)

/-! ## The points' contents -/

theorem outs_q (t : Fin cfg0.N) (y : S512x1024.Idx) :
    (outsAt0 m c t.val t.isLt).1 y = dqN (aQ m c) (aKV m c) (aDY m c) (512 * t.val + (y 0).val) (y 1).val := by
  have key : dqN (at2 (a := 512) (b := 1024) (iblk m c 0 t)) (at2 (a := 256) (b := 2048) (iblk m c 1 t)) (at2 (a := 512) (b := 1024) (iblk m c 2 t)) (y 0).val (y 1).val
      = dqN (aQ m c) (aKV m c) (aDY m c) (512 * t.val + (y 0).val) (y 1).val := by
    rw [blk_1]; exact dqN_congr (blk_0 m c t _ (y 0).isLt) (blk_2 m c t _ (y 0).isLt) _
  by_cases h0 : t.val % 16 = 0
  · rw [outsAt0_A m c t h0]; dsimp only; rw [out_q_A]; exact key
  · rw [outsAt0_B m c t h0]; dsimp only; rw [out_q_B]; exact key

/-- One point's part in the memory's cotangents. -/
theorem part_kv (t : Fin cfg0.N) (y : S256x2048.Idx) :
    ∑ r : Fin 512, tN (at2 (a := 512) (b := 1024) (iblk m c 0 t)) (at2 (a := 256) (b := 2048) (iblk m c 1 t)) (at2 (a := 512) (b := 1024) (iblk m c 2 t)) r.val (y 0) (y 1).val
      = ∑ r ∈ Finset.range 512, tN (aQ m c) (aKV m c) (aDY m c) (512 * t.val + r) (y 0) (y 1).val := by
  rw [← Fin.sum_univ_eq_sum_range (fun r => tN (aQ m c) (aKV m c) (aDY m c) (512 * t.val + r) (y 0) (y 1).val) 512]
  refine Finset.sum_congr rfl fun r _ => ?_
  rw [blk_1]; exact tN_congr (blk_0 m c t _ r.isLt) (blk_2 m c t _ r.isLt) _ _

theorem outs_kv : ∀ (n : ℕ) (hn : n < cfg0.N) (y : S256x2048.Idx),
    (outsAt0 m c n hn).2 y = ∑ r ∈ Finset.range (512 * (n + 1)), tN (aQ m c) (aKV m c) (aDY m c) r (y 0) (y 1).val
  | 0, hn, y => by
    have e := outsAt0_A m c ⟨0, hn⟩ rfl
    dsimp only at e
    rw [e]
    dsimp only
    rw [out_kv_A]
    refine (part_kv m c ⟨0, hn⟩ y).trans ?_
    simp only [Nat.mul_zero, Nat.zero_add, Nat.mul_one]
  | n + 1, hn, y => by
    have hN : cfg0.N = 16 := N_0
    have h0 : ¬(⟨n + 1, hn⟩ : Fin cfg0.N).val % 16 = 0 := by dsimp only; omega
    have e := outsAt0_B m c ⟨n + 1, hn⟩ h0
    dsimp only at e
    rw [e]
    dsimp only
    rw [out_kv_B, part_kv m c ⟨n + 1, hn⟩ y]
    simp only [Nat.add_sub_cancel]
    rw [outs_kv n _ y, show 512 * (n + 1 + 1) = 512 * (n + 1) + 512 from by ring, Finset.sum_range_add]

/-! ## The arrays -/

/-- The first result. -/
def resQ : S8192x1024.Idx → EReal :=
  fun i => dqN (aQ m c) (aKV m c) (aDY m c) (i 0).val (i 1).val
/-- The second result. -/
def resKV : S256x2048.Idx → EReal :=
  fun i => ∑ r ∈ Finset.range 8192, tN (aQ m c) (aKV m c) (aDY m c) r (i 0) (i 1).val

theorem cut_0 : ∀ t : Fin cfg0.N, win0_3.xsize (grid0.coords t) 0 = 512 ∧ win0_3.xsize (grid0.coords t) 1 = 1024 := by decide +kernel
theorem cut_4 : ∀ t : Fin cfg0.N, win0_4.xsize (grid0.coords t) 0 = 256 ∧ win0_4.xsize (grid0.coords t) 1 = 2048 := by decide +kernel

theorem arr_cover_q (i : S8192x1024.Idx) : ∃ t : Fin cfg0.N, (cfg0.win 3).flush t = true ∧ i ∈ ((cfg0.win 3).blk t).view.set := by
  have hN : cfg0.N = 16 := N_0
  have h0 : (i 0 : Nat) < 8192 := (i 0).isLt
  have h1 : (i 1 : Nat) < 1024 := (i 1).isLt
  have ht : (i 0 : Nat) / 512 < cfg0.N := by omega
  refine ⟨⟨(i 0 : Nat) / 512, ht⟩, flush0_3 _, ?_⟩
  refine (Finset.ext_iff.mp (View.set_slice_whole main_v0_0 (win0_3.rect ⟨(i 0 : Nat) / 512, ht⟩)) i).mpr ?_
  rw [Rect.mem_set_unit]
  intro a
  match a with
  | ⟨0, _⟩ =>
      show win0_3.index _ 0 * 512 ≤ (i 0 : Nat) ∧ (i 0 : Nat) < win0_3.index _ 0 * 512 + win0_3.xsize _ 0
      rw [(index_3 _).1, (cut_0 _).1]; dsimp only; omega
  | ⟨1, _⟩ =>
      show win0_3.index _ 1 * 1024 ≤ (i 1 : Nat) ∧ (i 1 : Nat) < win0_3.index _ 1 * 1024 + win0_3.xsize _ 1
      rw [(index_3 _).2, (cut_0 _).2]; omega

theorem final_q : (dats m 0 c).arrAt 3 cfg0.N = resQ m c := by
  have hN : cfg0.N = 16 := N_0
  refine (dats m 0 c).arrAt_eq_of_cover 3 (resQ m c) (fun t _ => ?_) fun i => arr_cover_q i
  · rw [Value.flushed3]
    funext y
    refine (outs_q m c t y).trans ?_
    have e0 : ((win0_3.rect t).emb y 0 : Nat) = 512 * t.val + (y 0).val := by
      rw [win0_3.rect_emb_val t y 0, (index_3 t).1]; show t.val * 512 + _ = _; omega
    have e1 : ((win0_3.rect t).emb y 1 : Nat) = (y 1).val := by
      rw [win0_3.rect_emb_val t y 1, (index_3 t).2]; show 0 * 1024 + _ = _; omega
    show _ = dqN (aQ m c) (aKV m c) (aDY m c) ((win0_3.rect t).emb y 0).val ((win0_3.rect t).emb y 1).val
    rw [e0, e1]

theorem arr_cover_kv (i : S256x2048.Idx) : ∃ t : Fin cfg0.N, (cfg0.win 4).flush t = true ∧ i ∈ ((cfg0.win 4).blk t).view.set := by
  have hN : cfg0.N = 16 := N_0
  have h0 : (i 0 : Nat) < 256 := (i 0).isLt
  have h1 : (i 1 : Nat) < 2048 := (i 1).isLt
  have ht : 15 < cfg0.N := by omega
  refine ⟨⟨15, ht⟩, (flush0_4 _).mpr rfl, ?_⟩
  refine (Finset.ext_iff.mp (View.set_slice_whole main_v0_1 (win0_4.rect ⟨15, ht⟩)) i).mpr ?_
  rw [Rect.mem_set_unit]
  intro a
  match a with
  | ⟨0, _⟩ =>
      show win0_4.index _ 0 * 256 ≤ (i 0 : Nat) ∧ (i 0 : Nat) < win0_4.index _ 0 * 256 + win0_4.xsize _ 0
      rw [(index_4 _).1, (cut_4 _).1]; omega
  | ⟨1, _⟩ =>
      show win0_4.index _ 1 * 2048 ≤ (i 1 : Nat) ∧ (i 1 : Nat) < win0_4.index _ 1 * 2048 + win0_4.xsize _ 1
      rw [(index_4 _).2, (cut_4 _).2]; omega

theorem final_kv : (dats m 0 c).arrAt 4 cfg0.N = resKV m c := by
  have hN : cfg0.N = 16 := N_0
  refine (dats m 0 c).arrAt_eq_of_cover 4 (resKV m c) (fun t hf => ?_) fun i => arr_cover_kv i
  · have h15 : t.val = 15 := by have := (flush0_4 t).mp hf; have := t.isLt; omega
    rw [Value.flushed4]
    funext y
    refine (outs_kv m c t.val t.isLt y).trans ?_
    have e0 : (win0_4.rect t).emb y 0 = y 0 := Fin.ext (by
      rw [win0_4.rect_emb_val t y 0, (index_4 t).1]; show 0 * 256 + _ = _; omega)
    have e1 : ((win0_4.rect t).emb y 1 : Nat) = (y 1).val := by
      rw [win0_4.rect_emb_val t y 1, (index_4 t).2]; show 0 * 2048 + _ = _; omega
    show _ = ∑ r ∈ Finset.range 8192, tN (aQ m c) (aKV m c) (aDY m c) r ((win0_4.rect t).emb y 0) ((win0_4.rect t).emb y 1).val
    rw [e0, e1, h15]

end Cert.Mem

end
-- ==== Proof.MemRef.lean ====
/-
  THE REFERENCE'S TWO RESULTS as functions of its arguments, in the words of the kernel's side (`scN`, `dpN`, `wt`): the
  derivative of the softmax's quotient (`dsR`) in place of the flash form, the same sums around it.
-/
module

public import proofs.«01_k».proof.Proof.MemBlock
public import Idealize.ShloMosaic.Lib.IdealHost
public import proofs.«01_k».proof.Proof.Gen.ReferenceIdeal.Read

@[expose] public section

set_option maxRecDepth 16384

noncomputable section

namespace Cert.MemRef

open Idealize.ShloMosaic Idealize.ShloMosaic.ValueIdx Idealize.SL.Sem
open Cert.ReferenceIdeal Cert.ReferenceIdeal.Read Cert.Row
open Cert.Mem (at2 at2_eq cs scN dpN)
open scoped BigOperators

variable (x0 : (⟨S8192x1024, .bf16⟩ : BufTy).Contents (Elt Ideal)) (x1 : (⟨S256x2048, .f32⟩ : BufTy).Contents (Elt Ideal))
  (x2 : (⟨S8192x1024, .f32⟩ : BufTy).Contents (Elt Ideal))

/-! ## The operands, read by head -/

theorem q_at (i : S8192x4x256.Idx) (r c : ℕ) (hr : (i 0).val = r) (hc : 256 * (i 1).val + (i 2).val = c) :
    val_main_v3 (F := Ideal) x0 i = at2 x0 r c := by
  have h1 : (i 1).val < 4 := (i 1).isLt
  have h2 : (i 2).val < 256 := (i 2).isLt
  rw [val_main_v3_apply]
  refine at2_eq x0 (idx_main_v3 i) r c ?_ ?_
  · show (((i 0).val * 4 + (i 1).val) * 256 + (i 2).val) / 1024 = r; omega
  · show (((i 0).val * 4 + (i 1).val) * 256 + (i 2).val) % 1024 = c; omega

theorem k_at (i : S256x4x256.Idx) (r c : ℕ) (hr : (i 0).val = r) (hc : 256 * (i 1).val + (i 2).val = c) :
    val_main_v4 (F := Ideal) x1 i = at2 x1 r c := by
  have h1 : (i 1).val < 4 := (i 1).isLt
  have h2 : (i 2).val < 256 := (i 2).isLt
  rw [val_main_v4_apply, val_main_v0_apply]
  refine at2_eq x1 (idx_main_v0 (idx_main_v4 i)) r c ?_ ?_
  · show (((i 0).val * 4 + (i 1).val) * 256 + (i 2).val) / 1024 = r; omega
  · show (((i 0).val * 4 + (i 1).val) * 256 + (i 2).val) % 1024 = c; omega

theorem v_at (i : S256x4x256.Idx) (r c : ℕ) (hr : (i 0).val = r) (hc : 1024 + 256 * (i 1).val + (i 2).val = c) :
    val_main_v5 (F := Ideal) x1 i = at2 x1 r c := by
  have h1 : (i 1).val < 4 := (i 1).isLt
  have h2 : (i 2).val < 256 := (i 2).isLt
  rw [val_main_v5_apply, val_main_v1_apply]
  refine at2_eq x1 (idx_main_v1 (idx_main_v5 i)) r c ?_ ?_
  · show (((i 0).val * 4 + (i 1).val) * 256 + (i 2).val) / 1024 = r; omega
  · show 1024 + (((i 0).val * 4 + (i 1).val) * 256 + (i 2).val) % 1024 = c; omega

theorem ct_at (i : S4x256x8192.Idx) (r c : ℕ) (hr : (i 2).val = r) (hc : 256 * (i 0).val + (i 1).val = c) :
    val_main_v41 (F := Ideal) x2 i = at2 x2 r c := by
  have h1 : (i 0).val < 4 := (i 0).isLt
  have h2 : (i 1).val < 256 := (i 1).isLt
  rw [val_main_v41_apply, val_main_v40_apply]
  refine at2_eq x2 (idx_main_v40 (idx_main_v41 i)) r c ?_ ?_
  · show (((i 2).val * 4 + (i 0).val) * 256 + (i 1).val) / 1024 = r; omega
  · show (((i 2).val * 4 + (i 0).val) * 256 + (i 1).val) % 1024 = c; omega

/-! ## The softmax -/

/-- The scores of row `t` in head `h`. -/
abbrev sR (h t : ℕ) : Fin 256 → EReal := scN (at2 x0) (at2 x1) t h

theorem s_at (i : S4x8192x256.Idx) : val_main_v8 (F := Ideal) x0 x1 i = sR x0 x1 (i 0).val (i 1).val (i 2) := by
  rw [val_main_v8_apply, val_main_v6_apply, val_main_v7_apply]
  refine congrArg (· * cs) (Finset.sum_congr rfl fun e _ => ?_)
  exact congrArg₂ (· * ·) (q_at x0 (lidx_main_v6 i e) (i 1).val (256 * (i 0).val + e.val) rfl rfl) (k_at x1 (ridx_main_v6 i e) (i 2).val (256 * (i 0).val + e.val) rfl rfl)

theorem red9 : S4x8192x256.Reduces [2] S4x8192 := by decide

theorem max_at (j : S4x8192.Idx) : val_main_v9 (F := Ideal) x0 x1 j = rmax (sR x0 x1 (j 0).val (j 1).val) := by
  refine (Host.reduce_eq_fold_single (α := EReal) max (val_main_v8 (F := Ideal) x0 x1) (val_main_cst_0 (F := Ideal)) Gen.facts.reducesTo_S4x8192x256_S4x8192_d2 red9 Gen.facts.h_S_ j).trans ?_
  have hi : val_main_cst_0 (F := Ideal) (Shape.Idx.first Gen.facts.h_S_) = (⊥ : EReal) := (val_main_cst_0_apply _).trans Dots.ofBits_ninf
  rw [hi]
  refine Finset.fold_congr fun k _ => ?_
  exact s_at x0 x1 (red9.lift j k)

theorem top_at (j : S4x8192.Idx) : val_main_v16 (F := Ideal) x0 x1 j = rmax (sR x0 x1 (j 0).val (j 1).val) := by
  rw [val_main_v16_apply, max_at, val_main_v15_apply, val_main_cst_2_apply]
  show max (Ideal.ofBits .f32 0xFF800000#32) _ = _
  rw [Dots.ofBits_ninf]
  exact max_eq_right bot_le

theorem ex_at (i : S4x8192x256.Idx) : val_main_v29 (F := Ideal) x0 x1 i = ex (sR x0 x1 (i 0).val (i 1).val) (i 2) := by
  rw [val_main_v29_apply, val_main_v28_apply, s_at, val_main_v27_apply, val_main_v26_apply, top_at]
  rfl

theorem zero_word : (FloatOps.ofBits .f32 0x00000000#32 : Ideal .f32) = (0 : EReal) := by simp [Ideal.ofBits, Ideal.ieee]
theorem one_word : (FloatOps.ofBits .f32 0x3F800000#32 : Ideal .f32) = (1 : EReal) := Ideal.ofBits_one_f32

theorem den_at (j : S4x8192.Idx) : val_main_v30 (F := Ideal) x0 x1 j = den (sR x0 x1 (j 0).val (j 1).val) := by
  rw [val_main_v30_apply, val_main_cst_8_apply, zero_word, zero_add]
  exact Finset.sum_congr rfl fun k _ => ex_at x0 x1 (idx_main_v30 j k)

theorem wt_at (i : S4x8192x256.Idx) : val_main_v33 (F := Ideal) x0 x1 i = wt (sR x0 x1 (i 0).val (i 1).val) (i 2) := by
  rw [val_main_v33_apply, ex_at, val_main_v32_apply, val_main_v31_apply, den_at]
  rfl

theorem dp_at (i : S4x8192x256.Idx) : val_main_v42 (F := Ideal) x1 x2 i = dpN (at2 x1) (at2 x2) (i 1).val (i 0).val (i 2) := by
  rw [val_main_v42_apply]
  refine Finset.sum_congr rfl fun e _ => ?_
  exact congrArg₂ (· * ·) (ct_at x2 (lidx_main_v42 i e) (i 1).val (256 * (i 0).val + e.val) rfl rfl) (v_at x1 (ridx_main_v42 i e) (i 2).val (1024 + 256 * (i 0).val + e.val) rfl rfl)

/-- The scores' cotangent. -/
abbrev dR (h t : ℕ) : Fin 256 → EReal := dsR cs (sR x0 x1 h t) (dpN (at2 x1) (at2 x2) t h)

theorem rsq_at (i : S4x8192x1.Idx) : val_main_v36 (F := Ideal) x0 x1 i
    = Ideal.div 1 (den (sR x0 x1 (i 0).val (i 1).val) * den (sR x0 x1 (i 0).val (i 1).val)) := by
  rw [val_main_v36_apply, val_main_v35_apply, val_main_cst_9_apply, one_word, val_main_v34_apply, val_main_v31_apply, den_at]
  rfl

theorem corr_at (j : S4x8192.Idx) : val_main_v48 (F := Ideal) x0 x1 x2 j
    = ∑ k : Fin 256, dpN (at2 x1) (at2 x2) (j 1).val (j 0).val k * Ideal.div 1 (den (sR x0 x1 (j 0).val (j 1).val) * den (sR x0 x1 (j 0).val (j 1).val)) * ex (sR x0 x1 (j 0).val (j 1).val) k := by
  rw [val_main_v48_apply, val_main_cst_10_apply, zero_word, zero_add]
  refine Finset.sum_congr rfl fun k _ => ?_
  rw [val_main_v47_apply, val_main_v46_apply, val_main_v45_apply, rsq_at, dp_at, ex_at]
  rfl

theorem neg_at (i : S4x8192x1.Idx) : val_main_v50 (F := Ideal) x0 x1 x2 i
    = -(∑ k : Fin 256, dpN (at2 x1) (at2 x2) (i 1).val (i 0).val k * Ideal.div 1 (den (sR x0 x1 (i 0).val (i 1).val) * den (sR x0 x1 (i 0).val (i 1).val)) * ex (sR x0 x1 (i 0).val (i 1).val) k) := by
  have h1 : (i 1).val < 8192 := (i 1).isLt
  have h2 : (i 2).val < 1 := (i 2).isLt
  have e0 : (idx_main_v49 i 0).val = (i 0).val := by show (((i 0).val * 8192 + (i 1).val) * 1 + (i 2).val) / 8192 = (i 0).val; omega
  have e1 : (idx_main_v49 i 1).val = (i 1).val := by show (((i 0).val * 8192 + (i 1).val) * 1 + (i 2).val) % 8192 = (i 1).val; omega
  rw [val_main_v50_apply, val_main_v49_apply, corr_at, e0, e1]
  rfl

theorem ds_at (i : S4x8192x256.Idx) : val_main_v58 (F := Ideal) x0 x1 x2 i = dR x0 x1 x2 (i 0).val (i 1).val (i 2) := by
  rw [val_main_v58_apply, val_main_v56_apply, val_main_v55_apply, val_main_v52_apply, val_main_v54_apply, val_main_v53_apply,
    val_main_v57_apply, val_main_cst_11_apply, zero_word, zero_add, val_main_v51_apply, val_main_v31_apply, den_at, dp_at, ex_at,
    Fin.sum_univ_one, neg_at]
  rfl

/-! ## The results -/

theorem dq_at (i : S8192x1024.Idx) : val_main_v66 (F := Ideal) x0 x1 x2 i
    = ∑ m : Fin 256, dR x0 x1 x2 ((i 1).val / 256) (i 0).val m * at2 x1 m.val (i 1).val := by
  have h0 : (i 0).val < 8192 := (i 0).isLt
  have h1 : (i 1).val < 1024 := (i 1).isLt
  have e0 : (idx_main_v65 i 0).val = (i 0).val := by show ((i 0).val * 1024 + (i 1).val) / 1024 = (i 0).val; omega
  have e1 : (idx_main_v65 i 1).val = (i 1).val / 256 := by show ((i 0).val * 1024 + (i 1).val) / 256 % 4 = (i 1).val / 256; omega
  have e2 : (idx_main_v65 i 2).val = (i 1).val % 256 := by show ((i 0).val * 1024 + (i 1).val) % 256 = (i 1).val % 256; omega
  rw [val_main_v66_apply, val_main_v65_apply, val_main_v62_apply]
  refine (val_main_v61_apply x0 x1 x2 (idx_main_v62 (idx_main_v65 i))).trans (Finset.sum_congr rfl fun m _ => ?_)
  refine congrArg₂ (· * ·) ((ds_at x0 x1 x2 _).trans ?_) (k_at x1 _ m.val (i 1).val rfl ?_)
  · show dR x0 x1 x2 (idx_main_v65 i 1).val (idx_main_v65 i 0).val m = _
    rw [e0, e1]
  · show 256 * (idx_main_v65 i 1).val + (idx_main_v65 i 2).val = (i 1).val
    rw [e1, e2]; omega

theorem dk_at (i : S256x1024.Idx) : val_main_v64 (F := Ideal) x0 x1 x2 i
    = ∑ t : Fin 8192, dR x0 x1 x2 ((i 1).val / 256) t.val (i 0) * at2 x0 t.val (i 1).val := by
  have h0 : (i 0).val < 256 := (i 0).isLt
  have h1 : (i 1).val < 1024 := (i 1).isLt
  have e0 : idx_main_v64 i 0 = i 0 := Fin.ext (by show ((i 0).val * 1024 + (i 1).val) / 1024 = (i 0).val; omega)
  have e1 : (idx_main_v64 i 1).val = (i 1).val / 256 := by show ((i 0).val * 1024 + (i 1).val) / 256 % 4 = (i 1).val / 256; omega
  have e2 : (idx_main_v64 i 2).val = (i 1).val % 256 := by show ((i 0).val * 1024 + (i 1).val) % 256 = (i 1).val % 256; omega
  rw [val_main_v64_apply, val_main_v60_apply]
  refine (val_main_v59_apply x0 x1 x2 (idx_main_v60 (idx_main_v64 i))).trans (Finset.sum_congr rfl fun t _ => ?_)
  refine congrArg₂ (· * ·) ((ds_at x0 x1 x2 _).trans ?_) (q_at x0 _ t.val (i 1).val rfl ?_)
  · show dR x0 x1 x2 (idx_main_v64 i 1).val t.val (idx_main_v64 i 0) = _
    rw [e0, e1]
  · show 256 * (idx_main_v64 i 1).val + (idx_main_v64 i 2).val = (i 1).val
    rw [e1, e2]; omega

theorem dv_at (i : S256x1024.Idx) : val_main_v63 (F := Ideal) x0 x1 x2 i
    = ∑ t : Fin 8192, wt (sR x0 x1 ((i 1).val / 256) t.val) (i 0) * at2 x2 t.val (i 1).val := by
  have h0 : (i 0).val < 256 := (i 0).isLt
  have h1 : (i 1).val < 1024 := (i 1).isLt
  have e0 : idx_main_v63 i 0 = i 0 := Fin.ext (by show ((i 0).val * 1024 + (i 1).val) / 1024 = (i 0).val; omega)
  have e1 : (idx_main_v63 i 1).val = (i 1).val / 256 := by show ((i 0).val * 1024 + (i 1).val) / 256 % 4 = (i 1).val / 256; omega
  have e2 : (idx_main_v63 i 2).val = (i 1).val % 256 := by show ((i 0).val * 1024 + (i 1).val) % 256 = (i 1).val % 256; omega
  rw [val_main_v63_apply, val_main_v44_apply]
  refine (val_main_v43_apply x0 x1 x2 (idx_main_v44 (idx_main_v63 i))).trans (Finset.sum_congr rfl fun t _ => ?_)
  rw [mul_comm]
  refine congrArg₂ (· * ·) ((wt_at x0 x1 _).trans ?_) (ct_at x2 _ t.val (i 1).val rfl ?_)
  · show wt (sR x0 x1 (idx_main_v63 i 1).val t.val) (idx_main_v63 i 0) = _
    rw [e0, e1]
  · show 256 * (idx_main_v63 i 1).val + (idx_main_v63 i 2).val = (i 1).val
    rw [e1, e2]; omega

end Cert.MemRef

end
-- ==== Proof.MemEq.lean ====
/-
  THE TWO SIDES' RESULTS ARE EQUAL where the rows and the memory's keys are finite: every score is then a real number, and the
  derivative of the quotient is the flash form (`dsK_eq_dsR`). The reading of the precondition is here too.
-/
module

public import proofs.«01_k».proof.Proof.MemArr
public import proofs.«01_k».proof.Proof.MemRef
public import proofs.«01_k».proof.Proof.Gen.Pre_scores_finite
public import Idealize.ShloMosaic.Lib.ReduceAll

@[expose] public section

set_option maxRecDepth 16384

noncomputable section

namespace Cert.MemEq

open Idealize.ShloMosaic Idealize.ShloMosaic.ValueIdx Idealize.SL.Sem Cert.Row
open Cert.Mem (at2 at2_eq cs scN dpN dsN dqN tN)
open scoped BigOperators

/-! ## The precondition, read -/

theorem real_of_abs {x : EReal} (h : Ideal.cmp .olt (max x (-x)) (Ideal.ofBits .f32 0x7F800000#32) = 1#1) : IsReal x := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

variable (x0 : FVec Ideal ⟨2, ![8192, 1024]⟩ .bf16) (x1 : FVec Ideal ⟨2, ![256, 2048]⟩ .f32) (x2 : FVec Ideal ⟨2, ![8192, 1024]⟩ .f32)

instance : Subsingleton Cert.Pre_scores_finite.S_.Idx := ⟨fun a b => funext fun i => i.elim0⟩

theorem and_one {a b : BitVec 1} (h : a &&& b = 1#1) : a = 1#1 ∧ b = 1#1 := by
  revert a b; decide

theorem pre_read (h : Cert.Pre_scores_finite.fn (F := Ideal) x0 x1 x2 = fun _ => 1#1) :
    (∀ i, IsReal (x0 i)) ∧ (∀ (m : Fin 256) (k : ℕ), k < 1024 → IsReal (at2 x1 m.val k)) := by
  have hj := congrFun h (Shape.Idx.first Cert.Pre_scores_finite.Gen.h_S_)
  obtain ⟨ha, hb⟩ := and_one hj
  refine ⟨fun i => real_of_abs (Host.reduce_andi_all _ _ _ _ _ ha i), fun m k hk => ?_⟩
  have hk' := real_of_abs (Host.reduce_andi_all _ _ _ _ _ hb (ix2 m ⟨k, hk⟩))
  refine (at2_eq x1 _ m.val k ?_ ?_) ▸ hk'
  · show 0 + m.val = m.val; omega
  · show 0 + k = k; omega

/-! ## The results -/

theorem cs_real : IsReal cs := by
  unfold cs
  refine ⟨1 / 16, ?_⟩
  simp [Ideal.ofBits, Ideal.ieee, -EReal.coe_mul]
  norm_num

theorem sc_real (hq : ∀ i, IsReal (x0 i)) (hk : ∀ (m : Fin 256) (k : ℕ), k < 1024 → IsReal (at2 x1 m.val k)) (t h : ℕ) (ht : t < 8192) (hh : h < 4) (j : Fin 256) :
    IsReal (scN (at2 x0) (at2 x1) t h j) := by
  refine IsReal.mul (IsReal.sum _ _ fun e => IsReal.mul ?_ (hk j _ (by omega))) cs_real
  exact at2_eq x0 (ix2 ⟨t, ht⟩ ⟨256 * h + e.val, by omega⟩) t (256 * h + e.val) rfl rfl ▸ hq _

theorem ds_eq (hq : ∀ i, IsReal (x0 i)) (hk : ∀ (m : Fin 256) (k : ℕ), k < 1024 → IsReal (at2 x1 m.val k)) (t h : ℕ) (ht : t < 8192) (hh : h < 4) :
    MemRef.dR x0 x1 x2 h t = dsN (at2 x0) (at2 x1) (at2 x2) t h :=
  funext fun j => (dsK_eq_dsR (by decide) cs _ _ (sc_real x0 x1 hq hk t h ht hh) j).symm

/-- The rows' cotangent. -/
theorem dq_eq (hq : ∀ i, IsReal (x0 i)) (hk : ∀ (m : Fin 256) (k : ℕ), k < 1024 → IsReal (at2 x1 m.val k)) :
    ReferenceIdeal.Read.val_main_v66 (F := Ideal) x0 x1 x2 = fun i => dqN (at2 x0) (at2 x1) (at2 x2) (i 0).val (i 1).val := by
  funext i
  have h0 : (i 0).val < 8192 := (i 0).isLt
  have h1 : (i 1).val < 1024 := (i 1).isLt
  rw [MemRef.dq_at]
  unfold dqN
  rw [ds_eq x0 x1 x2 hq hk (i 0).val ((i 1).val / 256) h0 (by omega)]

/-- The memory's cotangent. -/
theorem dkv_eq (hq : ∀ i, IsReal (x0 i)) (hk : ∀ (m : Fin 256) (k : ℕ), k < 1024 → IsReal (at2 x1 m.val k)) :
    ReferenceIdeal.Read.val_main_v67 (F := Ideal) x0 x1 x2
      = fun i => ∑ r ∈ Finset.range 8192, tN (at2 x0) (at2 x1) (at2 x2) r (i 0) (i 1).val := by
  funext i
  have h0 : (i 0).val < 256 := (i 0).isLt
  have h1 : (i 1).val < 2048 := (i 1).isLt
  rw [Finset.sum_range]
  unfold tN
  by_cases hc : (i 1).val < 1024
  · refine (concatenate_pair_apply_left (s₁ := ⟨2, ![256, 1024]⟩) (s₂ := ⟨2, ![256, 1024]⟩) 1 (ReferenceIdeal.Read.val_main_v64 (F := Ideal) x0 x1 x2) (ReferenceIdeal.Read.val_main_v63 (F := Ideal) x0 x1 x2) _ i rfl (ix2 (i 0) ⟨(i 1).val, hc⟩) fun b => by fin_cases b <;> rfl).trans ?_
    rw [MemRef.dk_at]
    refine Finset.sum_congr rfl fun t _ => ?_
    rw [if_pos hc, ← ds_eq x0 x1 x2 hq hk t.val ((i 1).val / 256) t.isLt (by omega)]
  · refine (concatenate_pair_apply_right (s₁ := ⟨2, ![256, 1024]⟩) (s₂ := ⟨2, ![256, 1024]⟩) 1 (ReferenceIdeal.Read.val_main_v64 (F := Ideal) x0 x1 x2) (ReferenceIdeal.Read.val_main_v63 (F := Ideal) x0 x1 x2) _ i rfl rfl (ix2 (i 0) ⟨(i 1).val - 1024, by omega⟩)
      (fun b hb => by fin_cases b; · rfl
                      · exact absurd rfl hb) (by show (i 1).val - 1024 + 1024 = (i 1).val; omega)).trans ?_
    rw [MemRef.dv_at]
    exact Finset.sum_congr rfl fun t _ => by rw [if_neg hc]

end Cert.MemEq

end
-- ==== Proof.AttnRow.lean ====
/-
  ONE ROW OF AN ATTENTION MIXED WITH TWO OTHERS by a softmax of their log-sums, and its gradient, over the reals.

  The row's own attention has unnormalised weights `p u` (zero off its window) and values `v u e`; its output is
  `(Σ v u e · p u) / Σ p`. Three outputs `og g e` are mixed with weights `z g / Σ z`. Differentiating that from the
  outside in gives the cotangent of the exponent of `p u` as a sum of seven terms; it is
  `p u · (z 0 / Σ z) / (Σ p) · (Σ dy e · v u e − Σ dy e · y e)`, the form a flash kernel computes, and the
  cotangent that reaches the row's maximum is zero.
-/
module

public import proofs.«01_k».proof.Proof.MemRow
public import Mathlib.Analysis.SpecialFunctions.Log.Basic
public import Mathlib.Tactic.FieldSimp
public import Mathlib.Tactic.Ring

@[expose] public section

noncomputable section

namespace Cert.Mix

open Idealize.ShloMosaic Cert.Row
open scoped BigOperators

/-! ## The maximum of a masked row -/

/-- The greatest of the kept scores, where at least one is kept, is one of them. -/
theorem fold_max_mask {n : ℕ} (ok : Fin n → Prop) [DecidablePred ok] (s : Fin n → ℝ) (u0 : Fin n) (h0 : ok u0) :
    ∃ u, ok u ∧ (Finset.univ : Finset (Fin n)).fold max ⊥ (fun u => if ok u then (s u : EReal) else ⊥) = (s u : EReal) := by
  classical
  have key : ∀ S : Finset (Fin n), S.fold max ⊥ (fun u => if ok u then (s u : EReal) else ⊥) = ⊥ ∧ (∀ u ∈ S, ¬ ok u)
      ∨ ∃ u, ok u ∧ S.fold max ⊥ (fun u => if ok u then (s u : EReal) else ⊥) = (s u : EReal) := by
    intro S
    induction S using Finset.induction_on with
    | empty => exact .inl ⟨by simp, by simp⟩
    | insert a S ha ih =>
        rw [Finset.fold_insert ha]
        by_cases hk : ok a
        · refine .inr ?_
          rw [if_pos hk]
          rcases ih with ⟨h, _⟩ | ⟨u, hu, h⟩
          · exact ⟨a, hk, by rw [h, max_eq_left bot_le]⟩
          · rw [h]
            rcases max_choice (s a : EReal) (s u) with h' | h'
            · exact ⟨a, hk, h'⟩
            · exact ⟨u, hu, h'⟩
        · rw [if_neg hk, max_eq_right bot_le]
          rcases ih with ⟨h, hn⟩ | h
          · refine .inl ⟨h, fun u hu => ?_⟩
            rcases Finset.mem_insert.mp hu with rfl | hu
            · exact hk
            · exact hn u hu
          · exact .inr h
  rcases key Finset.univ with ⟨_, h⟩ | h
  · exact absurd h0 (h u0 (Finset.mem_univ _))
  · exact h

/-! ## The gradient of one row -/

variable {n E : ℕ} (p : Fin n → ℝ) (v : Fin n → Fin E → ℝ) (dy : Fin E → ℝ) (og : Fin 3 → Fin E → ℝ) (z : Fin 3 → ℝ)
  (S Z : ℝ)

/-- The mixed output. -/
def yR (e : Fin E) : ℝ := ∑ g, z g * (1 / Z) * og g e
/-- The cotangent of a mixing weight. -/
def dwR (g : Fin 3) : ℝ := ∑ e, dy e * og g e
/-- The cotangent of the row's own log-sum, the quotient differentiated. -/
def dlR : ℝ := (dwR dy og 0 * (1 / Z) + -(∑ g, dwR dy og g * (1 / (Z * Z)) * z g)) * z 0
/-- The cotangent of the row's own output. -/
def doR (e : Fin E) : ℝ := z 0 * (1 / Z) * dy e
/-- The row's numerator. -/
def nuR (e : Fin E) : ℝ := ∑ u, v u e * p u
/-- The cotangent of the row's sum of weights. -/
def ddR : ℝ := dlR dy og z Z * (1 / S) + -(∑ e, doR dy z Z e * (1 / (S * S)) * nuR p v e)
/-- The cotangent of an exponent. -/
def gR (u : Fin n) : ℝ := (∑ e, doR dy z Z e * (1 / S) * v u e + ddR p v dy og z S Z) * p u

variable {p v dy og z S Z}

theorem sum_dw (hZ : Z ≠ 0) : ∑ g, dwR dy og g * (1 / (Z * Z)) * z g = (1 / Z) * ∑ e, dy e * yR og z Z e := by
  unfold dwR yR
  simp only [Finset.sum_mul, Finset.mul_sum]
  rw [Finset.sum_comm]
  refine Finset.sum_congr rfl fun e _ => Finset.sum_congr rfl fun g _ => ?_
  field_simp

theorem dlR_eq (hZ : Z ≠ 0) : dlR dy og z Z = z 0 * (1 / Z) * (dwR dy og 0 - ∑ e, dy e * yR og z Z e) := by
  unfold dlR; rw [sum_dw hZ]; ring

theorem dw0_eq (h0 : ∀ e, og 0 e = nuR p v e * (1 / S)) : dwR dy og 0 = (1 / S) * ∑ e, dy e * nuR p v e := by
  unfold dwR; rw [Finset.mul_sum]
  exact Finset.sum_congr rfl fun e _ => by rw [h0]; ring

theorem ddR_eq (hS : S ≠ 0) (hZ : Z ≠ 0) (h0 : ∀ e, og 0 e = nuR p v e * (1 / S)) :
    ddR p v dy og z S Z = -(z 0 * (1 / Z) * (1 / S) * ∑ e, dy e * yR og z Z e) := by
  unfold ddR
  have h1 : ∑ e, doR dy z Z e * (1 / (S * S)) * nuR p v e = z 0 * (1 / Z) * (1 / S) * ((1 / S) * ∑ e, dy e * nuR p v e) := by
    rw [Finset.mul_sum, Finset.mul_sum]
    refine Finset.sum_congr rfl fun e _ => ?_
    unfold doR; field_simp
  rw [h1, dlR_eq hZ, dw0_eq h0]; ring

/-- The cotangent of an exponent is the flash form. -/
theorem gR_eq (hS : S ≠ 0) (hZ : Z ≠ 0) (h0 : ∀ e, og 0 e = nuR p v e * (1 / S)) (u : Fin n) :
    gR p v dy og z S Z u = p u * (z 0 * (1 / Z) * (1 / S)) * (∑ e, dy e * v u e - ∑ e, dy e * yR og z Z e) := by
  unfold gR
  have h1 : ∑ e, doR dy z Z e * (1 / S) * v u e = z 0 * (1 / Z) * (1 / S) * ∑ e, dy e * v u e := by
    rw [Finset.mul_sum]; exact Finset.sum_congr rfl fun e _ => by unfold doR; ring
  rw [h1, ddR_eq hS hZ h0]; ring

/-- Nothing reaches the maximum. -/
theorem dmax_eq (hS : S ≠ 0) (hZ : Z ≠ 0) (hs : ∑ u, p u = S) (h0 : ∀ e, og 0 e = nuR p v e * (1 / S)) :
    dlR dy og z Z + ∑ u, -gR p v dy og z S Z u = 0 := by
  have h1 : ∑ u, -gR p v dy og z S Z u
      = -(z 0 * (1 / Z) * (1 / S) * (∑ e, dy e * nuR p v e - S * ∑ e, dy e * yR og z Z e)) := by
    have h2 : ∑ e, dy e * nuR p v e = ∑ u, p u * ∑ e, dy e * v u e := by
      unfold nuR; simp only [Finset.mul_sum]; rw [Finset.sum_comm]
      exact Finset.sum_congr rfl fun u _ => Finset.sum_congr rfl fun e _ => by ring
    have h3 : S * ∑ e, dy e * yR og z Z e = ∑ u, p u * ∑ e, dy e * yR og z Z e := by rw [← hs, Finset.sum_mul]
    rw [h2, h3, ← Finset.sum_sub_distrib, Finset.mul_sum, ← Finset.sum_neg_distrib]
    refine Finset.sum_congr rfl fun u _ => ?_
    rw [gR_eq hS hZ h0]; ring
  rw [h1, dlR_eq hZ, dw0_eq h0]; field_simp; ring

/-- The weight a flash kernel recomputes from the mixed log-sum. -/
theorem exp_lse {s m M : ℝ} (hS : 0 < S) (hZ : 0 < Z) (h0 : z 0 = Real.exp (m + Real.log S - M)) :
    Real.exp (s - m) * (z 0 * (1 / Z) * (1 / S)) = Real.exp (s - (M + Real.log Z)) := by
  have h1 : s - (M + Real.log Z) = (s - m) + (m + Real.log S - M) - Real.log Z - Real.log S := by ring
  rw [h1, Real.exp_sub _ (Real.log S), Real.exp_sub _ (Real.log Z), Real.exp_add, Real.exp_log hZ, Real.exp_log hS, h0]
  field_simp

end Cert.Mix

end
-- ==== Proof.AttnPay.lean ====
/-
  ONE HEAD OF THE DILATED ATTENTION'S GRADIENT, over one block of 128 rows: what the kernel's body computes, read at an
  index. The generated text names the first head's payloads and cuts the other heads' differently; unfolded they are the
  same terms.
-/
module

public import proofs.«01_k».proof.Proof.Gen.AttnIdeal.Value
public import proofs.«01_k».proof.Proof.MemRow
public import proofs.«01_k».proof.Proof.Dots
public import Idealize.ShloMosaic.Lib.Pipeline.ReadBack
public import Idealize.ShloMosaic.Lib.WordArith
public import Idealize.ShloMosaic.Lib.WordCmp

@[expose] public section

set_option maxRecDepth 16384

noncomputable section

namespace Cert.Dil

open Cert.AttnIdeal Cert.AttnIdeal.Gen Idealize.ShloMosaic Idealize.ShloMosaic.TcCoe Idealize.SL.Sem
open Idealize.ShloMosaic.ValueIdx Cert.Row Cert.Dots
open scoped BigOperators

/-- A block of 128 rows and 128 columns. -/
abbrev Tl (φ : FTy) : Type := FVec Ideal S128x128 φ

/-- The slope of head `j` of the twelve, one by one. -/
def slp (i : grid0.Coords) (j : BitVec 32) : FVec Ideal S1x1 .f32 :=
  k0_pay25 (Scalar.addi (Scalar.addi 0#32 (Scalar.muli (BitVec.ofNat 32 (i 1).val) 12#32)) j) (k0_pay24 (F := Ideal))

/-- The block's probabilities, 128 queries against 256 keys. -/
def uP (i : grid0.Coords) (j : BitVec 32) (q0 kp k0 : Tl .bf16) (l0 : Tl .f32) : FVec Ideal S128x256 .f32 :=
  k0_pay93 (k0_pay5 i) (k0_pay8 (F := Ideal)) (slp i j) (k0_pay28 l0) (k0_pay53 q0 kp k0)
/-- The block's scores' cotangents. -/
def uDs (i : grid0.Coords) (j : BitVec 32) (q0 kp k0 vp v0 : Tl .bf16) (d0 y0 l0 : Tl .f32) : FVec Ideal S128x256 .f32 :=
  k0_pay94 (k0_pay5 i) (k0_pay8 (F := Ideal)) (slp i j) (k0_pay28 l0) (k0_pay53 q0 kp k0) (k0_pay54 vp v0 d0) (k0_pay92 d0 (k0_pay26 y0))
/-- The next block's queries' probabilities against this block's keys. -/
def uPn (i : grid0.Coords) (j : BitVec 32) (q1 k0 : Tl .bf16) (l1 : Tl .f32) : FVec Ideal S128x128 .f32 :=
  k0_pay95 (k0_pay7 i) (k0_pay9 (F := Ideal)) (slp i j) (k0_pay29 l1) (k0_pay55 q1 k0)

/-- The three stores of one head. -/
def uDq (i : grid0.Coords) (j : BitVec 32) (q0 kp k0 vp v0 : Tl .bf16) (d0 y0 l0 : Tl .f32) : Tl .bf16 :=
  k0_pay139 (k0_pay50 kp k0) (k0_pay96 (k0_pay5 i) (k0_pay8 (F := Ideal)) (slp i j) (k0_pay28 l0) (k0_pay53 q0 kp k0) (k0_pay54 vp v0 d0)
    (k0_pay92 d0 (k0_pay26 y0)))
@[inherit_doc uDq]
def uDk (i : grid0.Coords) (j : BitVec 32) (q0 q1 kp k0 vp v0 : Tl .bf16) (d0 d1 y0 y1 l0 l1 : Tl .f32) : Tl .bf16 :=
  k0_pay140 q0 q1 (k0_pay97 (k0_pay5 i) (k0_pay7 i) (k0_pay8 (F := Ideal)) (k0_pay9 (F := Ideal)) (slp i j) d1 (k0_pay27 y1) (k0_pay28 l0) (k0_pay29 l1)
    (k0_pay53 q0 kp k0) (k0_pay54 vp v0 d0) (k0_pay55 q1 k0) (k0_pay56 v0 d1) (k0_pay92 d0 (k0_pay26 y0)))
@[inherit_doc uDq]
def uDv (i : grid0.Coords) (j : BitVec 32) (q0 q1 kp k0 : Tl .bf16) (d0 d1 l0 l1 : Tl .f32) : Tl .bf16 :=
  k0_pay141 (k0_pay138 (k0_pay51 d0) (k0_pay52 d1) (k0_pay98 (k0_pay5 i) (k0_pay7 i) (k0_pay8 (F := Ideal)) (k0_pay9 (F := Ideal)) (slp i j) (k0_pay28 l0) (k0_pay29 l1)
    (k0_pay53 q0 kp k0) (k0_pay55 q1 k0)))

/-! ## The functions, over arrays read at natural numbers -/

/-- The score scale's word. -/
def ks : EReal := Ideal.ofBits .f32 0x3DB504F3#32
/-- Head `h`'s slope. -/
def slope (h : ℕ) : EReal :=
  Ideal.exp (Ideal.ofBits .f32 0xBD9DBAC0#32 * ((((h + 1 : ℕ) : ℤ) : ℝ) : EReal)) * Ideal.ofBits .f32 0x3F800000#32
/-- Query `t`'s score of key `u` in head `h`, whatever the distance. -/
def SC (Q K : ℕ → ℕ → EReal) (h t u : ℕ) : EReal :=
  (∑ e : Fin 128, Q t (128 * h + e.val) * K u (128 * h + e.val)) * ks - slope h * ((((t : ℤ) - (u : ℤ) : ℤ) : ℝ) : EReal)
/-- The greatest of a row's head's 128 columns. -/
def LM (L : ℕ → ℕ → EReal) (h t : ℕ) : EReal :=
  (Finset.univ : Finset (Fin 128)).fold max (Ideal.ofBits .f32 0xFF800000#32) (fun e => L t (128 * h + e.val))
/-- The probability of key `u` for query `t` from the row's log-sum. -/
def PP (Q K L : ℕ → ℕ → EReal) (h t u : ℕ) : EReal :=
  Ideal.exp ((if u ≤ t ∧ t ≤ u + 128 then SC Q K h t u else ⊥) - LM L h t)
/-- A row's product with a row, within a head. -/
def DP (D V : ℕ → ℕ → EReal) (h t u : ℕ) : EReal := ∑ e : Fin 128, D t (128 * h + e.val) * V u (128 * h + e.val)
/-- The score's cotangent. -/
def DS (Q K V D Y L : ℕ → ℕ → EReal) (h t u : ℕ) : EReal := PP Q K L h t u * (DP D V h t u - DP D Y h t t)

theorem PP_zero (Q K L : ℕ → ℕ → EReal) (h t u : ℕ) (hn : ¬(u ≤ t ∧ t ≤ u + 128)) : PP Q K L h t u = 0 := by
  unfold PP; rw [if_neg hn, EReal.bot_sub]; exact Ideal.exp_bot
theorem DS_zero (Q K V D Y L : ℕ → ℕ → EReal) (h t u : ℕ) (hn : ¬(u ≤ t ∧ t ≤ u + 128)) : DS Q K V D Y L h t u = 0 := by
  unfold DS; rw [PP_zero _ _ _ _ _ _ hn, zero_mul]

/-! ## Words -/

theorem mask_word : (Named.named κ "mask" (φ := .f32) 0xF149F2CA#32 : Ideal .f32) = (⊥ : EReal) := rfl

theorem rel_int (r u : ℕ) (hr : r < 256) (hu : u < 256) : (IntOp.subi (IntOp.addi (BitVec.ofNat 32 r) 128#32) (BitVec.ofNat 32 u)).toInt = 128 + (r : ℤ) - u := by
  have h1 : (BitVec.ofNat 32 r).toInt = r := WordArith.toInt_ofNat_small r (by omega)
  have h2 : (BitVec.ofNat 32 u).toInt = u := WordArith.toInt_ofNat_small u (by omega)
  have h3 : (128#32 : BitVec 32).toInt = 128 := by decide
  have h4 : (IntOp.addi (BitVec.ofNat 32 r) 128#32).toInt = r + 128 := by
    have := WordArith.toInt_add_of_bounds (BitVec.ofNat 32 r) 128#32 (by omega) (by omega)
    show (BitVec.ofNat 32 r + 128#32).toInt = _
    omega
  have := WordArith.toInt_sub_of_bounds (IntOp.addi (BitVec.ofNat 32 r) 128#32) (BitVec.ofNat 32 u) (by omega) (by omega)
  show (IntOp.addi (BitVec.ofNat 32 r) 128#32 - BitVec.ofNat 32 u).toInt = _
  omega

theorem pay4_at (r : Fin 128) (u : Fin 256) : (k0_pay4 (ix2 r u)).toInt = 128 + (r.val : ℤ) - u.val := by
  have e : k0_pay4 (ix2 r u) = IntOp.subi (IntOp.addi (BitVec.ofNat 32 (0 * 128 + r.val)) 128#32) (BitVec.ofNat 32 (0 * 256 + u.val)) := rfl
  rw [e]; simp only [Nat.zero_mul, Nat.zero_add]
  exact rel_int _ _ (by have := r.isLt; omega) u.isLt
theorem pay6_at (r : Fin 128) (u : Fin 128) : (k0_pay6 (ix2 r u)).toInt = 128 + (r.val : ℤ) - u.val := by
  have e : k0_pay6 (ix2 r u) = IntOp.subi (IntOp.addi (BitVec.ofNat 32 (0 * 128 + r.val)) 128#32) (BitVec.ofNat 32 (0 * 128 + u.val)) := rfl
  rw [e]; simp only [Nat.zero_mul, Nat.zero_add]
  exact rel_int _ _ (by have := r.isLt; omega) (by have := u.isLt; omega)

theorem sgt_zero (b : ℕ) (hb : b < 64) : Scalar.select (Scalar.cmpi .sgt (BitVec.ofNat 32 b) 0#32) 128#32 0#32 = if 0 < b then 128#32 else 0#32 := by
  interval_cases b <;> rfl
theorem slt_last (b : ℕ) (hb : b < 64) : Scalar.select (Scalar.cmpi .slt (BitVec.ofNat 32 b) 63#32) 0#32 512#32 = if b < 63 then 0#32 else 512#32 := by
  interval_cases b <;> rfl

/-- Which keys a query of the block sees. -/
theorem mask_at (i : grid0.Coords) (r : Fin 128) (u : Fin 256) :
    k0_pay5 i (ix2 r u) = 1 ↔ (r.val ≤ u.val ∧ u.val ≤ 128 + r.val ∧ (0 < (i 2).val ∨ 128 ≤ u.val)) := by
  have hb : (i 2).val < 64 := (i 2).isLt
  have hu := u.isLt
  have e : k0_pay5 i (ix2 r u) = IntOp.andi (IntOp.andi (IntOp.cmpi .sge (k0_pay4 (ix2 r u)) 0#32) (IntOp.cmpi .sle (k0_pay4 (ix2 r u)) 128#32))
      (IntOp.cmpi .sge (IntOp.addi (BitVec.ofNat 32 (0 * 256 + u.val)) (Scalar.select (Scalar.cmpi .sgt (BitVec.ofNat 32 (i 2).val) 0#32) 128#32 0#32)) 128#32) := rfl
  have h3 : (128#32 : BitVec 32).toInt = 128 := by decide
  have h0 : (0#32 : BitVec 32).toInt = 0 := by decide
  have h2 : (BitVec.ofNat 32 u.val).toInt = u.val := WordArith.toInt_ofNat_small _ (by omega)
  have h5 : (IntOp.addi (BitVec.ofNat 32 u.val) (if 0 < (i 2).val then 128#32 else 0#32)).toInt = u.val + (if 0 < (i 2).val then 128 else 0) := by
    show (BitVec.ofNat 32 u.val + _).toInt = _
    split
    · have := WordArith.toInt_add_of_bounds (BitVec.ofNat 32 u.val) 128#32 (by omega) (by omega)
      omega
    · have := WordArith.toInt_add_of_bounds (BitVec.ofNat 32 u.val) 0#32 (by omega) (by omega)
      omega
  rw [e, Nat.zero_mul, Nat.zero_add, sgt_zero _ hb, WordCmp.cmpi_sge_eq, WordCmp.cmpi_sle_eq, WordCmp.cmpi_sge_eq, WordArith.andi_ofBool, WordArith.andi_ofBool,
    WordArith.ofBool_eq_numeral_one_iff, pay4_at, h5, h3, h0]
  simp only [Bool.and_eq_true, decide_eq_true_eq]
  split <;> omega

/-- Which of the next block's queries see a key of the block. -/
theorem maskn_at (i : grid0.Coords) (r u : Fin 128) :
    k0_pay7 i (ix2 r u) = 1 ↔ (r.val ≤ u.val ∧ (i 2).val < 63) := by
  have hb : (i 2).val < 64 := (i 2).isLt
  have hu := u.isLt
  have hr := r.isLt
  have e : k0_pay7 i (ix2 r u) = IntOp.cmpi .sle (IntOp.addi (k0_pay6 (ix2 r u)) (Scalar.select (Scalar.cmpi .slt (BitVec.ofNat 32 (i 2).val) 63#32) 0#32 512#32)) 128#32 := rfl
  have h3 : (128#32 : BitVec 32).toInt = 128 := by decide
  have h0 : (0#32 : BitVec 32).toInt = 0 := by decide
  have h6 : (512#32 : BitVec 32).toInt = 512 := by decide
  have hp := pay6_at r u
  have h5 : (IntOp.addi (k0_pay6 (ix2 r u)) (if (i 2).val < 63 then 0#32 else 512#32)).toInt = 128 + (r.val : ℤ) - u.val + (if (i 2).val < 63 then 0 else 512) := by
    show (k0_pay6 (ix2 r u) + _).toInt = _
    split
    · have := WordArith.toInt_add_of_bounds (k0_pay6 (ix2 r u)) 0#32 (by omega) (by omega)
      omega
    · have := WordArith.toInt_add_of_bounds (k0_pay6 (ix2 r u)) 512#32 (by omega) (by omega)
      omega
  rw [e, slt_last _ hb, WordCmp.cmpi_sle_eq, WordArith.ofBool_eq_numeral_one_iff, h5, h3, decide_eq_true_eq]
  split <;> omega

theorem slp_at (i : grid0.Coords) (j h : ℕ) (hj : j < 12) (hh : 12 * (i 1).val + j = h) (y : S1x1.Idx) : slp i (BitVec.ofNat 32 j) y = slope h := by
  have hb : (i 1).val < 2 := (i 1).isLt
  have hw : (Scalar.addi (Scalar.addi (Scalar.addi 0#32 (Scalar.muli (BitVec.ofNat 32 (i 1).val) 12#32)) (BitVec.ofNat 32 j)) 1#32).toInt = ((h + 1 : ℕ) : ℤ) := by
    subst hh
    generalize (i 1).val = p at hb
    interval_cases p <;> interval_cases j <;> rfl
  show Ideal.exp (Ideal.ofBits .f32 0xBD9DBAC0#32 * (((Scalar.addi (Scalar.addi (Scalar.addi 0#32 (Scalar.muli (BitVec.ofNat 32 (i 1).val) 12#32)) (BitVec.ofNat 32 j)) 1#32).toInt : ℝ) : EReal)) * Ideal.ofBits .f32 0x3F800000#32 = _
  rw [hw]; rfl

/-! ## Vectors -/

theorem cat_at {α : Type} (a b : S128x128.Idx → α) (hc) (u : Fin 256) (e : Fin 128) :
    concatenate S256x128 0 [⟨S128x128, a⟩, ⟨S128x128, b⟩] hc (ix2 u e)
      = if h : u.val < 128 then a (ix2 ⟨u.val, h⟩ e) else b (ix2 ⟨u.val - 128, by have := u.isLt; omega⟩ e) := by
  split
  · next h =>
    exact concatenate_pair_apply_left (t := S256x128) (s₁ := S128x128) (s₂ := S128x128) 0 a b hc (ix2 u e) rfl (ix2 ⟨u.val, h⟩ e)
      (fun a => by match a with | ⟨0, _⟩ => rfl | ⟨1, _⟩ => rfl)
  · next h =>
    exact concatenate_pair_apply_right (t := S256x128) (s₁ := S128x128) (s₂ := S128x128) 0 a b hc (ix2 u e) rfl rfl (ix2 ⟨u.val - 128, by have := u.isLt; omega⟩ e)
      (fun a ha => by match a with | ⟨0, _⟩ => exact absurd rfl ha | ⟨1, _⟩ => rfl)
      (by show u.val - 128 + 128 = u.val; omega)

theorem pay28_at (l : Tl .f32) (hb) (r : Fin 128) (u : Fin 256) : broadcastTo S128x256 (k0_pay28 l) hb (ix2 r u)
    = (Finset.univ : Finset (Fin 128)).fold max (Ideal.ofBits .f32 0xFF800000#32) (fun e => l (ix2 r e)) := by
  refine (row_spread _ _ hb r u).trans ?_
  rw [shapeCast_self]
  exact row_max _ _ _ _ r
theorem pay29_at (l : Tl .f32) (hb) (r : Fin 128) (u : Fin 128) : broadcastTo S128x128 (k0_pay29 l) hb (ix2 r u)
    = (Finset.univ : Finset (Fin 128)).fold max (Ideal.ofBits .f32 0xFF800000#32) (fun e => l (ix2 r e)) := by
  refine (row_spread _ _ hb r u).trans ?_
  rw [shapeCast_self]
  exact row_max _ _ _ _ r

theorem one_spread {N : ℕ} (v : FVec Ideal S1x1 .f32) (hb : S1x1.Broadcasts ⟨2, ![128, N]⟩) (r : Fin 128) (u : Fin N) :
    broadcastTo ⟨2, ![128, N]⟩ v hb (ix2 r u) = v (ix2 0 0) :=
  broadcastTo_apply _ hb (ix2 r u) (ix2 0 0) (fun a => by match a with | ⟨0, _⟩ => rfl | ⟨1, _⟩ => rfl)

theorem tr_at (v : FVec Ideal S256x128 .f32) (i : Fin 128) (j : Fin 256) :
    transpose S128x256 [1, 0] v transposes_S256x128_p1_0_S128x256 (ix2 i j) = v (ix2 j i) :=
  transpose_apply _ _ _ _ (ix2 j i) (fun a => by match a with | ⟨0, _⟩ => rfl | ⟨1, _⟩ => rfl)

theorem right_at (v : FVec Ideal S128x256 .f32) (h) (i j : Fin 128) :
    extractStridedSlice S128x128 ![0, 128] v h (ix2 i j) = v (ix2 i ⟨128 + j.val, by have := j.isLt; omega⟩) :=
  extractStridedSlice_apply _ v h (ix2 i j) _ (fun a => by match a with | ⟨0, _⟩ => exact (Nat.zero_add _).symm | ⟨1, _⟩ => rfl)

/-! ## Sums over a window -/

theorem win_keys (b : ℕ) (hb : b < 64) (g : Fin 256 → EReal) (f : ℕ → EReal)
    (hg : ∀ u : Fin 256, g u = if 0 < b ∨ 128 ≤ u.val then f (128 * b + u.val - 128) else 0)
    (hf : ∀ u, u + 128 < 128 * b ∨ 128 * b + 128 ≤ u → f u = 0) : ∑ u, g u = ∑ u : Fin 8192, f u.val := by
  have ok : ∀ u : Fin 256, g u ≠ 0 → 0 < b ∨ 128 ≤ u.val := fun u hu => by
    by_contra hn; exact hu (by rw [hg, if_neg hn])
  refine Finset.sum_bij_ne_zero (fun u _ hu => ⟨128 * b + u.val - 128, by have := u.isLt; omega⟩) (fun _ _ _ => Finset.mem_univ _) ?_ ?_ ?_
  · intro u₁ _ h₁ u₂ _ h₂ e
    have := congrArg Fin.val e
    have o₁ := ok _ h₁; have o₂ := ok _ h₂
    dsimp only at this
    exact Fin.ext (by omega)
  · intro t _ ht
    have hr : ¬(t.val + 128 < 128 * b ∨ 128 * b + 128 ≤ t.val) := fun hn => ht (hf _ hn)
    have e : 128 * b + (t.val + 128 - 128 * b) - 128 = t.val := by omega
    refine ⟨⟨t.val + 128 - 128 * b, by omega⟩, Finset.mem_univ _, ?_, Fin.ext e⟩
    rw [hg, if_pos (by dsimp only; omega)]
    dsimp only
    rw [e]; exact ht
  · intro u _ hu
    rw [hg, if_pos (ok u hu)]

theorem win_rows (b : ℕ) (hb : b < 64) (g : Fin 256 → EReal) (f : ℕ → EReal)
    (hg : ∀ u : Fin 256, g u = if 128 * b + u.val < 8192 then f (128 * b + u.val) else 0)
    (hf : ∀ u, u < 128 * b ∨ 128 * b + 256 ≤ u → f u = 0) : ∑ u, g u = ∑ u : Fin 8192, f u.val := by
  have ok : ∀ u : Fin 256, g u ≠ 0 → 128 * b + u.val < 8192 := fun u hu => by
    by_contra hn; exact hu (by rw [hg, if_neg hn])
  refine Finset.sum_bij_ne_zero (fun u _ hu => ⟨128 * b + u.val, ok u hu⟩) (fun _ _ _ => Finset.mem_univ _) ?_ ?_ ?_
  · intro u₁ _ h₁ u₂ _ h₂ e
    have := congrArg Fin.val e
    dsimp only at this
    exact Fin.ext (by omega)
  · intro t _ ht
    have hr : ¬(t.val < 128 * b ∨ 128 * b + 256 ≤ t.val) := fun hn => ht (hf _ hn)
    have e : 128 * b + (t.val - 128 * b) = t.val := by omega
    refine ⟨⟨t.val - 128 * b, by omega⟩, Finset.mem_univ _, ?_, Fin.ext e⟩
    rw [hg, if_pos (by dsimp only; have := t.isLt; omega)]
    dsimp only
    rw [e]; exact ht
  · intro u _ hu
    rw [hg, if_pos (ok u hu)]

/-! ## One head at an index -/

section Head

variable (i : grid0.Coords) (j : ℕ) (q0 q1 kp k0 vp v0 : Tl .bf16) (d0 d1 y0 y1 l0 l1 : Tl .f32)
  (Q K V D Y L : ℕ → ℕ → EReal) (b h : ℕ)
  (hb : (i 2).val = b) (hj : j < 12) (hh : 12 * (i 1).val + j = h)
  (hq0 : ∀ r e : Fin 128, q0 (ix2 r e) = Q (128 * b + r.val) (128 * h + e.val))
  (hk0 : ∀ r e : Fin 128, k0 (ix2 r e) = K (128 * b + r.val) (128 * h + e.val))
  (hv0 : ∀ r e : Fin 128, v0 (ix2 r e) = V (128 * b + r.val) (128 * h + e.val))
  (hd0 : ∀ r e : Fin 128, d0 (ix2 r e) = D (128 * b + r.val) (128 * h + e.val))
  (hy0 : ∀ r e : Fin 128, y0 (ix2 r e) = Y (128 * b + r.val) (128 * h + e.val))
  (hl0 : ∀ r e : Fin 128, l0 (ix2 r e) = L (128 * b + r.val) (128 * h + e.val))
  (hkp : 0 < b → ∀ r e : Fin 128, kp (ix2 r e) = K (128 * b + r.val - 128) (128 * h + e.val))
  (hvp : 0 < b → ∀ r e : Fin 128, vp (ix2 r e) = V (128 * b + r.val - 128) (128 * h + e.val))
  (hq1 : b < 63 → ∀ r e : Fin 128, q1 (ix2 r e) = Q (128 * b + r.val + 128) (128 * h + e.val))
  (hd1 : b < 63 → ∀ r e : Fin 128, d1 (ix2 r e) = D (128 * b + r.val + 128) (128 * h + e.val))
  (hy1 : b < 63 → ∀ r e : Fin 128, y1 (ix2 r e) = Y (128 * b + r.val + 128) (128 * h + e.val))
  (hl1 : b < 63 → ∀ r e : Fin 128, l1 (ix2 r e) = L (128 * b + r.val + 128) (128 * h + e.val))

/-- Two blocks of keys, one under the other. -/
theorem keys_at (kp k0 : Tl .bf16) (K : ℕ → ℕ → EReal) (b h : ℕ) (hc)
    (hk0 : ∀ r e : Fin 128, k0 (ix2 r e) = K (128 * b + r.val) (128 * h + e.val))
    (hkp : 0 < b → ∀ r e : Fin 128, kp (ix2 r e) = K (128 * b + r.val - 128) (128 * h + e.val))
    (u : Fin 256) (hu : 0 < b ∨ 128 ≤ u.val) (e : Fin 128) :
    (concatenate S256x128 0 [⟨S128x128, kp⟩, ⟨S128x128, k0⟩] hc : FVec Ideal S256x128 .bf16) (ix2 u e) = K (128 * b + u.val - 128) (128 * h + e.val) := by
  rw [cat_at]
  split
  · next hlt => exact hkp (by omega) _ _
  · next hlt =>
    rw [hk0]
    congr 1
    dsimp only; omega

/-- Two blocks of queries, one under the other. -/
theorem rows_at (q0 q1 : Tl .bf16) (Q : ℕ → ℕ → EReal) (b h : ℕ) (hc)
    (hq0 : ∀ r e : Fin 128, q0 (ix2 r e) = Q (128 * b + r.val) (128 * h + e.val))
    (hq1 : b < 63 → ∀ r e : Fin 128, q1 (ix2 r e) = Q (128 * b + r.val + 128) (128 * h + e.val))
    (u : Fin 256) (hu : 128 * b + u.val < 8192) (e : Fin 128) :
    (concatenate S256x128 0 [⟨S128x128, q0⟩, ⟨S128x128, q1⟩] hc : FVec Ideal S256x128 .bf16) (ix2 u e) = Q (128 * b + u.val) (128 * h + e.val) := by
  rw [cat_at]
  split
  · next hlt => exact hq0 _ _
  · next hlt =>
    rw [hq1 (by omega)]
    congr 1
    dsimp only; omega

include hb hj hh hq0 hk0 hl0 hkp in
theorem uP_at (r : Fin 128) (u : Fin 256) :
    uP i (BitVec.ofNat 32 j) q0 kp k0 l0 (ix2 r u) = if 0 < b ∨ 128 ≤ u.val then PP Q K L h (128 * b + r.val) (128 * b + u.val - 128) else 0 := by
  have hl : (Finset.univ : Finset (Fin 128)).fold max (Ideal.ofBits .f32 0xFF800000#32) (fun e => l0 (ix2 r e)) = LM L h (128 * b + r.val) :=
    congrArg (Finset.univ.fold max _) (funext fun e => hl0 r e)
  have hm := mask_at i r u
  have hs := slp_at i j h hj hh (ix2 0 0)
  show Ideal.exp (Scalar.select (k0_pay5 i (ix2 r u)) (k0_pay53 (F := Ideal) q0 kp k0 (ix2 r u) * ks
    - broadcastTo S128x256 (slp i (BitVec.ofNat 32 j)) broadcasts_S1x1_S128x256 (ix2 r u) * ((((k0_pay4 (ix2 r u)).toInt : ℤ) : ℝ) : EReal))
      (⊥ : EReal) - broadcastTo S128x256 (k0_pay28 (F := Ideal) l0) broadcasts_S128x1_S128x256 (ix2 r u)) = _
  rw [pay28_at, hl, one_spread, hs, pay4_at]
  unfold Scalar.select
  by_cases hv : k0_pay5 i (ix2 r u) = 1
  · rw [if_pos hv]
    obtain ⟨h1, h2, h3⟩ := hm.mp hv
    rw [hb] at h3
    rw [if_pos h3]
    unfold PP
    rw [if_pos (by omega)]
    unfold SC
    have e1 : k0_pay53 (F := Ideal) q0 kp k0 (ix2 r u) = ∑ e : Fin 128, Q (128 * b + r.val) (128 * h + e.val) * K (128 * b + u.val - 128) (128 * h + e.val) := by
      refine (mm_nt (φ₁ := .bf16) (φ₂ := .bf16) _ q0 (k0_pay50 kp k0) r u).trans (Finset.sum_congr rfl fun e _ => ?_)
      exact congrArg₂ (fun a b : EReal => a * b) (hq0 r e) (keys_at kp k0 K b h concatenates_S128x128_S128x128_S256x128_d0 hk0 hkp u h3 e)
    have e2 : (128 + (r.val : ℤ) - u.val : ℤ) = ((128 * b + r.val : ℕ) : ℤ) - ((128 * b + u.val - 128 : ℕ) : ℤ) := by omega
    rw [e1, e2]
  · rw [if_neg hv, EReal.bot_sub]
    have hn := mt hm.mpr hv
    rw [hb] at hn
    split
    · next h3 => exact Ideal.exp_bot.trans (PP_zero _ _ _ _ _ _ (by omega)).symm
    · exact Ideal.exp_bot

include hb hj hh hq0 hk0 hl0 hkp hv0 hvp hd0 hy0 in
theorem uDs_at (r : Fin 128) (u : Fin 256) :
    uDs i (BitVec.ofNat 32 j) q0 kp k0 vp v0 d0 y0 l0 (ix2 r u) = if 0 < b ∨ 128 ≤ u.val then DS Q K V D Y L h (128 * b + r.val) (128 * b + u.val - 128) else 0 := by
  show uP i (BitVec.ofNat 32 j) q0 kp k0 l0 (ix2 r u) * (k0_pay54 (F := Ideal) vp v0 d0 (ix2 r u)
    - broadcastTo S128x256 (shapeCast S128x1 (k0_pay92 (F := Ideal) d0 (k0_pay26 (F := Ideal) y0)) shapeCasts_S128_S128x1) broadcasts_S128x1_S128x256 (ix2 r u)) = _
  rw [uP_at i j q0 kp k0 l0 Q K L b h hb hj hh hq0 hk0 hl0 hkp r u]
  by_cases h3 : 0 < b ∨ 128 ≤ u.val
  · rw [if_pos h3, if_pos h3, row_spread]
    unfold DS
    congr 1
    congr 1
    · refine (mm_nt (φ₁ := .bf16) (φ₂ := .bf16) _ (k0_pay51 d0) _ r u).trans (Finset.sum_congr rfl fun e _ => ?_)
      exact congrArg₂ (fun a b : EReal => a * b) (hd0 r e) (keys_at vp v0 V b h concatenates_S128x128_S128x128_S256x128_d0 hv0 hvp u h3 e)
    · refine (row_sum _ _ (.inl rfl) rfl r).trans (Finset.sum_congr rfl fun e _ => ?_)
      exact congrArg₂ (fun a b : EReal => a * b) (hd0 r e) ((congrFun (shapeCast_self y0 _) _).trans (hy0 r e))
  · rw [if_neg h3, if_neg h3, zero_mul]

include hb hj hh hk0 hq1 hl1 in
theorem uPn_at (r u : Fin 128) :
    uPn i (BitVec.ofNat 32 j) q1 k0 l1 (ix2 r u) = if b < 63 then PP Q K L h (128 * b + r.val + 128) (128 * b + u.val) else 0 := by
  have hm := maskn_at i r u
  have hs := slp_at i j h hj hh (ix2 0 0)
  show Ideal.exp (Scalar.select (k0_pay7 i (ix2 r u)) (k0_pay55 (F := Ideal) q1 k0 (ix2 r u) * ks
    - broadcastTo S128x128 (slp i (BitVec.ofNat 32 j)) broadcasts_S1x1_S128x128 (ix2 r u) * ((((k0_pay6 (ix2 r u)).toInt : ℤ) : ℝ) : EReal))
      (⊥ : EReal) - broadcastTo S128x128 (k0_pay29 (F := Ideal) l1) broadcasts_S128x1_S128x128 (ix2 r u)) = _
  rw [pay29_at, one_spread, hs, pay6_at]
  unfold Scalar.select
  by_cases hv : k0_pay7 i (ix2 r u) = 1
  · rw [if_pos hv]
    obtain ⟨h1, h3⟩ := hm.mp hv
    rw [hb] at h3
    have hl : (Finset.univ : Finset (Fin 128)).fold max (Ideal.ofBits .f32 0xFF800000#32) (fun e => l1 (ix2 r e)) = LM L h (128 * b + r.val + 128) :=
      congrArg (Finset.univ.fold max _) (funext fun e => hl1 h3 r e)
    rw [if_pos h3, hl]
    unfold PP
    have hr := r.isLt
    have hu := u.isLt
    rw [if_pos (by omega)]
    unfold SC
    have e1 : k0_pay55 (F := Ideal) q1 k0 (ix2 r u) = ∑ e : Fin 128, Q (128 * b + r.val + 128) (128 * h + e.val) * K (128 * b + u.val) (128 * h + e.val) := by
      refine (mm_nt (φ₁ := .bf16) (φ₂ := .bf16) _ q1 k0 r u).trans (Finset.sum_congr rfl fun e _ => ?_)
      exact congrArg₂ (fun a b : EReal => a * b) (hq1 h3 r e) (hk0 u e)
    have e2 : (128 + (r.val : ℤ) - u.val : ℤ) = ((128 * b + r.val + 128 : ℕ) : ℤ) - ((128 * b + u.val : ℕ) : ℤ) := by omega
    rw [e1, e2]
  · rw [if_neg hv, EReal.bot_sub]
    have hn := mt hm.mpr hv
    rw [hb] at hn
    split
    · next h3 => exact Ideal.exp_bot.trans (PP_zero _ _ _ _ _ _ (by omega)).symm
    · exact Ideal.exp_bot

include hb hj hh hk0 hv0 hq1 hl1 hd1 hy1 in
theorem uDsn_at (r u : Fin 128) :
    (uPn i (BitVec.ofNat 32 j) q1 k0 l1 (ix2 r u) * (k0_pay56 (F := Ideal) v0 d1 (ix2 r u)
      - broadcastTo S128x128 (shapeCast S128x1 (k0_pay92 (F := Ideal) d1 (k0_pay27 (F := Ideal) y1)) shapeCasts_S128_S128x1) broadcasts_S128x1_S128x128 (ix2 r u)) : EReal)
      = if b < 63 then DS Q K V D Y L h (128 * b + r.val + 128) (128 * b + u.val) else 0 := by
  rw [uPn_at i j q1 k0 l1 Q K L b h hb hj hh hk0 hq1 hl1 r u]
  by_cases h3 : b < 63
  · rw [if_pos h3, if_pos h3, row_spread]
    unfold DS
    congr 1
    congr 1
    · refine (mm_nt (φ₁ := .bf16) (φ₂ := .bf16) _ (k0_pay52 d1) v0 r u).trans (Finset.sum_congr rfl fun e _ => ?_)
      exact congrArg₂ (fun a b : EReal => a * b) (hd1 h3 r e) (hv0 u e)
    · refine (row_sum _ _ (.inl rfl) rfl r).trans (Finset.sum_congr rfl fun e _ => ?_)
      exact congrArg₂ (fun a b : EReal => a * b) (hd1 h3 r e) ((congrFun (shapeCast_self y1 _) _).trans (hy1 h3 r e))
  · rw [if_neg h3, if_neg h3, zero_mul]

/-! ## The three stores -/

include hb hj hh hq0 hk0 hl0 hkp hv0 hvp hd0 hy0 in
theorem uDq_at (r e : Fin 128) :
    uDq i (BitVec.ofNat 32 j) q0 kp k0 vp v0 d0 y0 l0 (ix2 r e)
      = ks * ∑ u : Fin 8192, DS Q K V D Y L h (128 * b + r.val) u.val * K u.val (128 * h + e.val) := by
  have hb64 : b < 64 := hb ▸ (i 2).isLt
  show ks * matmul dot_S128x256_S256x128_S128x128_1_0_0_1_n_n none (truncf .bf16 (uDs i (BitVec.ofNat 32 j) q0 kp k0 vp v0 d0 y0 l0) bitsLt_bf16_f32) (k0_pay50 kp k0)
    (constant S128x128 .f32 0x00000000#32) (ix2 r e) = _
  refine congrArg (ks * ·) ((mm_nn (φ₁ := .bf16) (φ₂ := .bf16) _ _ (k0_pay50 kp k0) r e).trans ?_)
  have hr := r.isLt
  refine win_keys b hb64 _ (fun u => DS Q K V D Y L h (128 * b + r.val) u * K u (128 * h + e.val)) (fun u => ?_) (fun u hu => ?_)
  · rw [truncf_apply, uDs_at i j q0 kp k0 vp v0 d0 y0 l0 Q K V D Y L b h hb hj hh hq0 hk0 hv0 hd0 hy0 hl0 hkp hvp r u]
    by_cases h3 : 0 < b ∨ 128 ≤ u.val
    · rw [if_pos h3, if_pos h3]
      exact congrArg (DS Q K V D Y L h (128 * b + r.val) (128 * b + u.val - 128) * ·) (keys_at kp k0 K b h concatenates_S128x128_S128x128_S256x128_d0 hk0 hkp u h3 e)
    · rw [if_neg h3, if_neg h3]; exact zero_mul _
  · rw [DS_zero _ _ _ _ _ _ _ _ _ (by omega), zero_mul]

include hb hj hh hq0 hk0 hl0 hkp hv0 hvp hd0 hy0 hq1 hl1 hd1 hy1 in
theorem uDk_at (r e : Fin 128) :
    uDk i (BitVec.ofNat 32 j) q0 q1 kp k0 vp v0 d0 d1 y0 y1 l0 l1 (ix2 r e)
      = ks * ∑ t : Fin 8192, DS Q K V D Y L h t.val (128 * b + r.val) * Q t.val (128 * h + e.val) := by
  have hb64 : b < 64 := hb ▸ (i 2).isLt
  show ks * matmul dot_S128x256_S256x128_S128x128_1_0_0_1_n_n none (truncf .bf16 (transpose S128x256 [1, 0] (concatenate S256x128 0
      [⟨S128x128, extractStridedSlice S128x128 ![0, 128] (uDs i (BitVec.ofNat 32 j) q0 kp k0 vp v0 d0 y0 l0) slices_S128x256_o0_128_S128x128⟩,
       ⟨S128x128, mulf (uPn i (BitVec.ofNat 32 j) q1 k0 l1) (subf (k0_pay56 v0 d1) (broadcastTo S128x128 (shapeCast S128x1 (k0_pay92 (F := Ideal) d1 (k0_pay27 (F := Ideal) y1)) shapeCasts_S128_S128x1) broadcasts_S128x1_S128x128))⟩]
      concatenates_S128x128_S128x128_S256x128_d0) transposes_S256x128_p1_0_S128x256) bitsLt_bf16_f32)
    (concatenate S256x128 0 [⟨S128x128, q0⟩, ⟨S128x128, q1⟩] concatenates_S128x128_S128x128_S256x128_d0)
    (constant S128x128 .f32 0x00000000#32) (ix2 r e) = _
  refine congrArg (ks * ·) ((mm_nn (φ₁ := .bf16) (φ₂ := .bf16) _ _ _ r e).trans ?_)
  have hr := r.isLt
  refine win_rows b hb64 _ (fun t => DS Q K V D Y L h t (128 * b + r.val) * Q t (128 * h + e.val)) (fun t => ?_) (fun t ht => ?_)
  · rw [truncf_apply, tr_at, cat_at]
    have ht := t.isLt
    by_cases hlt : t.val < 128
    · rw [dif_pos hlt, right_at, uDs_at i j q0 kp k0 vp v0 d0 y0 l0 Q K V D Y L b h hb hj hh hq0 hk0 hv0 hd0 hy0 hl0 hkp hvp, if_pos (by right; dsimp only; omega),
        if_pos (by omega)]
      have e1 : 128 * b + (128 + r.val) - 128 = 128 * b + r.val := by omega
      dsimp only
      rw [e1]
      exact congrArg (DS Q K V D Y L h (128 * b + t.val) (128 * b + r.val) * ·) (rows_at q0 q1 Q b h concatenates_S128x128_S128x128_S256x128_d0 hq0 hq1 t (by omega) e)
    · rw [dif_neg hlt]
      refine (congrArg (fun a : EReal => a * _) (uDsn_at i j q1 k0 v0 d1 y1 l1 Q K V D Y L b h hb hj hh hk0 hv0 hq1 hd1 hy1 hl1 ⟨t.val - 128, by omega⟩ r)).trans ?_
      by_cases h3 : b < 63
      · rw [if_pos h3, if_pos (by omega)]
        have e1 : 128 * b + (t.val - 128) + 128 = 128 * b + t.val := by omega
        dsimp only
        rw [e1]
        exact congrArg (DS Q K V D Y L h (128 * b + t.val) (128 * b + r.val) * ·) (rows_at q0 q1 Q b h concatenates_S128x128_S128x128_S256x128_d0 hq0 hq1 t (by omega) e)
      · rw [if_neg h3, if_neg (by omega)]; exact zero_mul _
  · rw [DS_zero _ _ _ _ _ _ _ _ _ (by omega), zero_mul]

include hb hj hh hq0 hk0 hl0 hkp hd0 hq1 hl1 hd1 in
theorem uDv_at (r e : Fin 128) :
    uDv i (BitVec.ofNat 32 j) q0 q1 kp k0 d0 d1 l0 l1 (ix2 r e)
      = ∑ t : Fin 8192, PP Q K L h t.val (128 * b + r.val) * D t.val (128 * h + e.val) := by
  have hb64 : b < 64 := hb ▸ (i 2).isLt
  show matmul dot_S128x256_S256x128_S128x128_1_0_0_1_n_n none (truncf .bf16 (transpose S128x256 [1, 0] (concatenate S256x128 0
      [⟨S128x128, extractStridedSlice S128x128 ![0, 128] (uP i (BitVec.ofNat 32 j) q0 kp k0 l0) slices_S128x256_o0_128_S128x128⟩,
       ⟨S128x128, uPn i (BitVec.ofNat 32 j) q1 k0 l1⟩]
      concatenates_S128x128_S128x128_S256x128_d0) transposes_S256x128_p1_0_S128x256) bitsLt_bf16_f32)
    (concatenate S256x128 0 [⟨S128x128, k0_pay51 d0⟩, ⟨S128x128, k0_pay52 d1⟩] concatenates_S128x128_S128x128_S256x128_d0)
    (constant S128x128 .f32 0x00000000#32) (ix2 r e) = _
  refine (mm_nn (φ₁ := .bf16) (φ₂ := .bf16) _ _ _ r e).trans ?_
  have hr := r.isLt
  refine win_rows b hb64 _ (fun t => PP Q K L h t (128 * b + r.val) * D t (128 * h + e.val)) (fun t => ?_) (fun t ht => ?_)
  · rw [truncf_apply, tr_at, cat_at]
    have ht := t.isLt
    by_cases hlt : t.val < 128
    · rw [dif_pos hlt, right_at, uP_at i j q0 kp k0 l0 Q K L b h hb hj hh hq0 hk0 hl0 hkp, if_pos (by right; dsimp only; omega), if_pos (by omega)]
      have e1 : 128 * b + (128 + r.val) - 128 = 128 * b + r.val := by omega
      dsimp only
      rw [e1]
      exact congrArg (PP Q K L h (128 * b + t.val) (128 * b + r.val) * ·) (rows_at (k0_pay51 d0) (k0_pay52 d1) D b h concatenates_S128x128_S128x128_S256x128_d0 hd0 hd1 t (by omega) e)
    · rw [dif_neg hlt]
      refine (congrArg (fun a : EReal => a * _) (uPn_at i j q1 k0 l1 Q K L b h hb hj hh hk0 hq1 hl1 ⟨t.val - 128, by omega⟩ r)).trans ?_
      by_cases h3 : b < 63
      · rw [if_pos h3, if_pos (by omega)]
        have e1 : 128 * b + (t.val - 128) + 128 = 128 * b + t.val := by omega
        dsimp only
        rw [e1]
        exact congrArg (PP Q K L h (128 * b + t.val) (128 * b + r.val) * ·) (rows_at (k0_pay51 d0) (k0_pay52 d1) D b h concatenates_S128x128_S128x128_S256x128_d0 hd0 hd1 t (by omega) e)
      · rw [if_neg h3, if_neg (by omega)]; exact zero_mul _
  · rw [PP_zero _ _ _ _ _ _ (by omega), zero_mul]

end Head

end Cert.Dil

end
-- ==== Proof.At2.lean ====
/-
  A MATRIX AT NATURAL-NUMBER INDICES, zero outside it: the form in which a block and the array it is cut from are compared.
-/
module

public import proofs.«01_k».proof.Proof.Dots

@[expose] public section

noncomputable section

namespace Cert.Row

open Idealize.ShloMosaic Idealize.ShloMosaic.ValueIdx

/-- A matrix read at natural-number indices, zero outside it. -/
def at2 {a b : ℕ} (x : (⟨2, ![a, b]⟩ : Shape).Idx → EReal) (i j : ℕ) : EReal :=
  if h : i < a ∧ j < b then x (ix2 ⟨i, h.1⟩ ⟨j, h.2⟩) else 0

theorem at2_eq {a b : ℕ} (x : (⟨2, ![a, b]⟩ : Shape).Idx → EReal) (y : (⟨2, ![a, b]⟩ : Shape).Idx) (i j : ℕ)
    (hi : (y 0).val = i) (hj : (y 1).val = j) : x y = at2 x i j := by
  subst hi; subst hj
  unfold at2
  rw [dif_pos ⟨(y 0).isLt, (y 1).isLt⟩]
  exact congrArg x (eq_ix2 y)

end Cert.Row

end
-- ==== Proof.AttnRef.lean ====
/-
  THE REFERENCE OF THE DILATED ATTENTION'S GRADIENT where every input is a real number, forward: scores, weights, the
  row's own output and log-sum, the mixing with the two other groups. Every value is a real number, written out.
-/
module

public import proofs.«01_k».proof.Proof.AttnRow
public import proofs.«01_k».proof.Proof.AttnPay
public import proofs.«01_k».proof.Proof.At2
public import Idealize.ShloMosaic.Lib.IdealHost
public import Idealize.ShloMosaic.Lib.Pointwise.SelectCore
public import proofs.«01_k».proof.Proof.Gen.AttnRefIdeal.Read

@[expose] public section

set_option maxRecDepth 16384

noncomputable section

namespace Cert.Mix

open Idealize.ShloMosaic Idealize.ShloMosaic.ValueIdx Idealize.SL.Sem
open Cert.AttnRefIdeal Cert.AttnRefIdeal.Read Cert.Row
open Cert.Dil (ks)
open scoped BigOperators

/-! ## The inputs as real numbers -/

/-- The eight inputs, read at natural numbers. -/
structure Dat where
  q : ℕ → ℕ → ℝ
  k : ℕ → ℕ → ℝ
  v : ℕ → ℕ → ℝ
  o1 : ℕ → ℕ → ℕ → ℝ
  l1 : ℕ → ℕ → ℝ
  o2 : ℕ → ℕ → ℕ → ℝ
  l2 : ℕ → ℕ → ℝ
  dy : ℕ → ℕ → ℝ

variable (x0 x1 x2 : (⟨S8192x3072, .bf16⟩ : BufTy).Contents (Elt Ideal)) (x3 : (⟨S8192x24x128, .f32⟩ : BufTy).Contents (Elt Ideal))
  (x4 : (⟨S8192x24, .f32⟩ : BufTy).Contents (Elt Ideal)) (x5 : (⟨S8192x24x128, .f32⟩ : BufTy).Contents (Elt Ideal))
  (x6 : (⟨S8192x24, .f32⟩ : BufTy).Contents (Elt Ideal)) (x7 : (⟨S8192x3072, .f32⟩ : BufTy).Contents (Elt Ideal)) (D : Dat)

/-- The arrays hold these numbers. -/
structure Dat.Is : Prop where
  q : ∀ i : S8192x3072.Idx, x0 i = ((D.q (i 0).val (i 1).val : ℝ) : EReal)
  k : ∀ i : S8192x3072.Idx, x1 i = ((D.k (i 0).val (i 1).val : ℝ) : EReal)
  v : ∀ i : S8192x3072.Idx, x2 i = ((D.v (i 0).val (i 1).val : ℝ) : EReal)
  o1 : ∀ i : S8192x24x128.Idx, x3 i = ((D.o1 (i 0).val (i 1).val (i 2).val : ℝ) : EReal)
  l1 : ∀ i : S8192x24.Idx, x4 i = ((D.l1 (i 0).val (i 1).val : ℝ) : EReal)
  o2 : ∀ i : S8192x24x128.Idx, x5 i = ((D.o2 (i 0).val (i 1).val (i 2).val : ℝ) : EReal)
  l2 : ∀ i : S8192x24.Idx, x6 i = ((D.l2 (i 0).val (i 1).val : ℝ) : EReal)
  dy : ∀ i : S8192x3072.Idx, x7 i = ((D.dy (i 0).val (i 1).val : ℝ) : EReal)

/-! ## The functions of them -/

/-- The score scale. -/
def ksR : ℝ := 11863283 / 134217728
/-- A head's slope. -/
def slR (h : ℕ) : ℝ := Real.exp (-(10336960 / 134217728) * ((h + 1 : ℕ) : ℝ))
/-- The keys a query sees. -/
def ok (t u : ℕ) : Prop := u ≤ t ∧ t ≤ u + 128
instance (t u : ℕ) : Decidable (ok t u) := inferInstanceAs (Decidable (_ ∧ _))

namespace Dat
/-- The score. -/
def sg (h t u : ℕ) : ℝ :=
  (∑ e : Fin 128, D.q t (128 * h + e.val) * D.k u (128 * h + e.val)) * ksR - slR h * (((t : ℤ) - (u : ℤ) : ℤ) : ℝ)
/-- The row's greatest kept score. -/
def mu (h t : ℕ) : ℝ :=
  ((Finset.univ : Finset (Fin 8192)).fold max (⊥ : EReal) (fun u => if ok t u.val then (D.sg h t u.val : EReal) else ⊥)).toReal
/-- The unnormalised weight. -/
def pi (h t u : ℕ) : ℝ := if ok t u then Real.exp (D.sg h t u - D.mu h t) else 0
/-- The row of weights, of values, of output cotangents. -/
def P (h t : ℕ) : Fin 8192 → ℝ := fun u => D.pi h t u.val
@[inherit_doc P] def Vr (h : ℕ) : Fin 8192 → Fin 128 → ℝ := fun u e => D.v u.val (128 * h + e.val)
@[inherit_doc P] def Yc (h t : ℕ) : Fin 128 → ℝ := fun e => D.dy t (128 * h + e.val)
/-- The sum of the weights. -/
def de (h t : ℕ) : ℝ := ∑ u, D.P h t u
/-- The three log-sums. -/
def lg (h t : ℕ) : Fin 3 → ℝ := ![D.mu h t + Real.log (D.de h t), D.l1 t h, D.l2 t h]
/-- The three outputs. -/
def og (h t : ℕ) : Fin 3 → Fin 128 → ℝ :=
  ![fun e => nuR (D.P h t) (D.Vr h) e * (1 / D.de h t), fun e => D.o1 t h e.val, fun e => D.o2 t h e.val]
/-- The greatest log-sum. -/
def top (h t : ℕ) : ℝ := ((Finset.univ : Finset (Fin 3)).fold max (⊥ : EReal) (fun g => (D.lg h t g : EReal))).toReal
/-- The mixing weights, unnormalised, and their sum. -/
def z (h t : ℕ) (g : Fin 3) : ℝ := Real.exp (D.lg h t g - D.top h t)
@[inherit_doc z] def Z (h t : ℕ) : ℝ := ∑ g, D.z h t g
end Dat

/-! ## Facts of them -/

theorem ks_coe : ks = ((ksR : ℝ) : EReal) := by
  unfold ks ksR
  simp [Ideal.ofBits, Ideal.ieee, -EReal.coe_mul]
  norm_num
theorem ks_nonneg : 0 ≤ ksR := by unfold ksR; norm_num
theorem slope_coe (h : ℕ) : Cert.Dil.slope h = ((slR h : ℝ) : EReal) := by
  unfold Cert.Dil.slope slR
  have hw : Ideal.ofBits .f32 0xBD9DBAC0#32 = ((-(10336960 / 134217728) : ℝ) : EReal) := by
    simp [Ideal.ofBits, Ideal.ieee, -EReal.coe_mul, -EReal.coe_neg]
    norm_num
  rw [hw, Ideal.ofBits_one_f32, mul_one, ← EReal.coe_mul, Ideal.exp_coe]
  norm_cast

theorem mu_spec (h t : ℕ) (ht : t < 8192) : ∃ u : Fin 8192, ok t u.val ∧ D.mu h t = D.sg h t u.val ∧
    (Finset.univ : Finset (Fin 8192)).fold max (⊥ : EReal) (fun u => if ok t u.val then (D.sg h t u.val : EReal) else ⊥) = (D.mu h t : EReal) := by
  obtain ⟨u, hu, e⟩ := fold_max_mask (n := 8192) (fun u => ok t u.val) (fun u => D.sg h t u.val) ⟨t, ht⟩ ⟨le_refl _, Nat.le_add_right _ _⟩
  have hm : D.mu h t = D.sg h t u.val := by unfold Dat.mu; rw [e]; rfl
  exact ⟨u, hu, hm, by rw [e, hm]⟩
theorem pi_nonneg (h t u : ℕ) : 0 ≤ D.pi h t u := by unfold Dat.pi; split; exacts [(Real.exp_pos _).le, le_refl _]
theorem de_pos (h t : ℕ) (ht : t < 8192) : 0 < D.de h t := by
  refine Finset.sum_pos' (fun u _ => pi_nonneg D h t u.val) ⟨⟨t, ht⟩, Finset.mem_univ _, ?_⟩
  show 0 < D.pi h t t
  unfold Dat.pi; rw [if_pos ⟨le_refl _, Nat.le_add_right _ _⟩]; exact Real.exp_pos _
theorem Z_pos (h t : ℕ) : 0 < D.Z h t := Finset.sum_pos (fun _ _ => Real.exp_pos _) ⟨0, Finset.mem_univ _⟩
theorem top_spec (h t : ℕ) : ∃ g : Fin 3, D.top h t = D.lg h t g ∧
    (Finset.univ : Finset (Fin 3)).fold max (⊥ : EReal) (fun g => (D.lg h t g : EReal)) = (D.top h t : EReal) := by
  obtain ⟨g, _, e⟩ := fold_max_mask (n := 3) (fun _ => True) (fun g => D.lg h t g) 0 trivial
  simp only [if_true] at e
  have hm : D.top h t = D.lg h t g := by unfold Dat.top; rw [e]; rfl
  exact ⟨g, hm, by rw [e, hm]⟩

theorem zero_word : (FloatOps.ofBits .f32 0x00000000#32 : Ideal .f32) = (0 : EReal) := by simp [Ideal.ofBits, Ideal.ieee]
theorem one_word : (FloatOps.ofBits .f32 0x3F800000#32 : Ideal .f32) = (1 : EReal) := Ideal.ofBits_one_f32
theorem ninf_word : (FloatOps.ofBits .f32 0xFF800000#32 : Ideal .f32) = (⊥ : EReal) := Dots.ofBits_ninf

/-! ## Stacks of three -/

/-- One of three. -/
def pick {α : Type} (a b c : α) : Fin 3 → α
  | 0 => a
  | 1 => b
  | 2 => c

theorem cat_lg (a b c : S1x8192x24.Idx → EReal) (i : S3x8192x24.Idx) :
    concatenate S3x8192x24 0 [⟨S1x8192x24, a⟩, ⟨S1x8192x24, b⟩, ⟨S1x8192x24, c⟩] Gen.facts.concatenates_S1x8192x24_S1x8192x24_S1x8192x24_S3x8192x24_d0 i
      = pick a b c (i 0) (ValueIdx.ix3 0 (i 1) (i 2)) :=
  concatenate_ofFn_unit_apply (t := S3x8192x24) (s₁ := S1x8192x24) 0 (N := 3) (pick a b c)
    Gen.facts.concatenates_S1x8192x24_S1x8192x24_S1x8192x24_S3x8192x24_d0 rfl rfl i (i 0) rfl
    (ValueIdx.ix3 0 (i 1) (i 2)) (fun b hb => by match b with | ⟨0, _⟩ => exact absurd rfl hb | ⟨1, _⟩ => rfl | ⟨2, _⟩ => rfl)

theorem cat_og (a b c : S1x8192x24x128.Idx → EReal) (i : S3x8192x24x128.Idx) :
    concatenate S3x8192x24x128 0 [⟨S1x8192x24x128, a⟩, ⟨S1x8192x24x128, b⟩, ⟨S1x8192x24x128, c⟩] Gen.facts.concatenates_S1x8192x24x128_S1x8192x24x128_S1x8192x24x128_S3x8192x24x128_d0 i
      = pick a b c (i 0) (ValueIdx.ix4 0 (i 1) (i 2) (i 3)) :=
  concatenate_ofFn_unit_apply (t := S3x8192x24x128) (s₁ := S1x8192x24x128) 0 (N := 3) (pick a b c)
    Gen.facts.concatenates_S1x8192x24x128_S1x8192x24x128_S1x8192x24x128_S3x8192x24x128_d0 rfl rfl i (i 0) rfl
    (ValueIdx.ix4 0 (i 1) (i 2) (i 3)) (fun b hb => by match b with | ⟨0, _⟩ => exact absurd rfl hb | ⟨1, _⟩ => rfl | ⟨2, _⟩ => rfl | ⟨3, _⟩ => rfl)

/-! ## The slopes -/

theorem slope_at (j : S24.Idx) : val_main_v12 (F := Ideal) j = ((slR (j 0).val : ℝ) : EReal) := by
  have h1 : (j 0).val < 24 := (j 0).isLt
  rw [val_main_v12_apply, val_main_v11_apply, val_main_v10_apply, val_main_v9_apply, val_main_v8_apply, val_main_v7_apply, val_main_cst_2_apply,
    val_main_v6_apply, val_main_v5_apply, val_main_cst_1_apply, val_main_v4_apply, val_main_v3_apply, val_main_cst_0_apply, val_main_v2_apply,
    val_main_v1_apply, val_main_cst_apply]
  have e0 : (idx_main_v10 (idx_main_v11 (idx_main_v12 j)) 0).val = (j 0).val := by
    show 0 * 24 + (j 0).val % 24 = (j 0).val
    omega
  have e1 : val_main_v0 (F := Ideal) (idx_main_v10 (idx_main_v11 (idx_main_v12 j))) = ((((j 0).val : ℕ) : ℝ) : EReal) := by
    show ((((BitVec.ofNat 32 (idx_main_v10 (idx_main_v11 (idx_main_v12 j)) 0).val).toInt : ℤ) : ℝ) : EReal) = _
    rw [e0, WordArith.toInt_ofNat_small _ (by omega)]; norm_cast
  have w1 : Ideal.ofBits .f32 0x3F317218#32 = ((11629080 / 16777216 : ℝ) : EReal) := by
    simp [Ideal.ofBits, Ideal.ieee, -EReal.coe_mul]; norm_num
  have w2 : Ideal.ofBits .f32 0xC1000000#32 = ((-8 : ℝ) : EReal) := by
    simp [Ideal.ofBits, Ideal.ieee, -EReal.coe_mul, -EReal.coe_neg]; norm_num
  have w3 : Ideal.ofBits .f32 0x42900000#32 = ((72 : ℝ) : EReal) := by
    simp [Ideal.ofBits, Ideal.ieee, -EReal.coe_mul]; norm_num
  rw [e1]
  show Ideal.exp (Ideal.ofBits .f32 0x3F317218#32 * Ideal.div (Ideal.ofBits .f32 0xC1000000#32 * (Ideal.ofBits .f32 0x3F800000#32 + _)) (Ideal.ofBits .f32 0x42900000#32)) = _
  rw [w1, w2, w3, Ideal.ofBits_one_f32, ← EReal.coe_one, ← EReal.coe_add, ← EReal.coe_mul, Ideal.div_coe (by norm_num), ← EReal.coe_mul, ← EReal.coe_mul, Ideal.exp_coe]
  unfold slR
  congr 2
  push_cast
  ring

/-! ## The heads -/

section Reads

variable {x0 x1 x2 x3 x4 x5 x6 x7} {D} (H : D.Is x0 x1 x2 x3 x4 x5 x6 x7)
include H

theorem q_at (i : S8192x24x128.Idx) : val_main_v14 (F := Ideal) x0 i = ((D.q (i 0).val (128 * (i 1).val + (i 2).val) : ℝ) : EReal) := by
  have h1 : (i 1).val < 24 := (i 1).isLt
  have h2 : (i 2).val < 128 := (i 2).isLt
  rw [val_main_v14_apply, val_main_v13_apply]
  refine (H.q (idx_main_v14 i)).trans ?_
  have e0 : (idx_main_v14 i 0).val = (i 0).val := by show (((i 0).val * 24 + (i 1).val) * 128 + (i 2).val) / 3072 = _; omega
  have e1 : (idx_main_v14 i 1).val = 128 * (i 1).val + (i 2).val := by show (((i 0).val * 24 + (i 1).val) * 128 + (i 2).val) % 3072 = _; omega
  rw [e0, e1]

theorem k_at (i : S8192x24x128.Idx) : val_main_v16 (F := Ideal) x1 i = ((D.k (i 0).val (128 * (i 1).val + (i 2).val) : ℝ) : EReal) := by
  have h1 : (i 1).val < 24 := (i 1).isLt
  have h2 : (i 2).val < 128 := (i 2).isLt
  rw [val_main_v16_apply, val_main_v15_apply]
  refine (H.k (idx_main_v16 i)).trans ?_
  have e0 : (idx_main_v16 i 0).val = (i 0).val := by show (((i 0).val * 24 + (i 1).val) * 128 + (i 2).val) / 3072 = _; omega
  have e1 : (idx_main_v16 i 1).val = 128 * (i 1).val + (i 2).val := by show (((i 0).val * 24 + (i 1).val) * 128 + (i 2).val) % 3072 = _; omega
  rw [e0, e1]

theorem v_at (i : S8192x24x128.Idx) : val_main_v18 (F := Ideal) x2 i = ((D.v (i 0).val (128 * (i 1).val + (i 2).val) : ℝ) : EReal) := by
  have h1 : (i 1).val < 24 := (i 1).isLt
  have h2 : (i 2).val < 128 := (i 2).isLt
  rw [val_main_v18_apply, val_main_v17_apply]
  refine (H.v (idx_main_v18 i)).trans ?_
  have e0 : (idx_main_v18 i 0).val = (i 0).val := by show (((i 0).val * 24 + (i 1).val) * 128 + (i 2).val) / 3072 = _; omega
  have e1 : (idx_main_v18 i 1).val = 128 * (i 1).val + (i 2).val := by show (((i 0).val * 24 + (i 1).val) * 128 + (i 2).val) % 3072 = _; omega
  rw [e0, e1]

theorem dy_at (i : S8192x24x128.Idx) : val_main_v112 (F := Ideal) x7 i = ((D.dy (i 0).val (128 * (i 1).val + (i 2).val) : ℝ) : EReal) := by
  have h1 : (i 1).val < 24 := (i 1).isLt
  have h2 : (i 2).val < 128 := (i 2).isLt
  rw [val_main_v112_apply]
  refine (H.dy (idx_main_v112 i)).trans ?_
  have e0 : (idx_main_v112 i 0).val = (i 0).val := by show (((i 0).val * 24 + (i 1).val) * 128 + (i 2).val) / 3072 = _; omega
  have e1 : (idx_main_v112 i 1).val = 128 * (i 1).val + (i 2).val := by show (((i 0).val * 24 + (i 1).val) * 128 + (i 2).val) % 3072 = _; omega
  rw [e0, e1]

omit H in
theorem rel_at (i : S8192x8192.Idx) : (val_main_v25 (F := Ideal) i).toInt = ((i 0).val : ℤ) - ((i 1).val : ℤ) := by
  have h0 : (i 0).val < 8192 := (i 0).isLt
  have h1 : (i 1).val < 8192 := (i 1).isLt
  show (BitVec.ofNat 32 (i 0).val - BitVec.ofNat 32 (i 1).val).toInt = _
  have a0 := WordArith.toInt_ofNat_small (i 0).val (by omega)
  have a1 := WordArith.toInt_ofNat_small (i 1).val (by omega)
  have := WordArith.toInt_sub_of_bounds (BitVec.ofNat 32 (i 0).val) (BitVec.ofNat 32 (i 1).val) (by omega) (by omega)
  omega

omit H in
theorem ok_at (i : S8192x8192.Idx) : val_main_v30 (F := Ideal) i = 1#1 ↔ ok (i 0).val (i 1).val := by
  have e : val_main_v30 (F := Ideal) i = IntOp.andi (IntOp.cmpi .sge (val_main_v25 (F := Ideal) i) 0#32) (IntOp.cmpi .sle (val_main_v25 (F := Ideal) i) 128#32) := rfl
  have h3 : (128#32 : BitVec 32).toInt = 128 := by decide
  have h0 : (0#32 : BitVec 32).toInt = 0 := by decide
  rw [e, WordCmp.cmpi_sge_eq, WordCmp.cmpi_sle_eq, WordArith.andi_ofBool, WordArith.ofBool_eq_one_iff, rel_at, h3, h0]
  simp only [Bool.and_eq_true, decide_eq_true_eq]
  unfold ok
  omega

theorem sg_at (i : S24x8192x8192.Idx) : val_main_v41 (F := Ideal) x0 x1 i = ((D.sg (i 0).val (i 1).val (i 2).val : ℝ) : EReal) := by
  have hd : val_main_v38 (F := Ideal) x0 x1 i
      = ((∑ e : Fin 128, D.q (i 1).val (128 * (i 0).val + e.val) * D.k (i 2).val (128 * (i 0).val + e.val) : ℝ) : EReal) := by
    rw [val_main_v38_apply, ← coe_sum]
    refine Finset.sum_congr rfl fun e _ => ?_
    rw [EReal.coe_mul]
    exact congrArg₂ (· * ·) (q_at H (lidx_main_v38 i e)) (k_at H (ridx_main_v38 i e))
  rw [val_main_v41_apply, val_main_v40_apply, val_main_v39_apply, val_main_cst_4_apply, val_main_v37_apply, val_main_v35_apply, val_main_v32_apply,
    val_main_v31_apply, slope_at, val_main_v36_apply, val_main_v34_apply, val_main_v33_apply, hd]
  show _ * ks + -_ * ((((val_main_v25 (F := Ideal) (idx_main_v34 (idx_main_v36 i))).toInt : ℤ) : ℝ) : EReal) = _
  rw [rel_at, ks_coe, ← EReal.coe_neg, ← EReal.coe_mul, ← EReal.coe_mul, ← EReal.coe_add]
  unfold Dat.sg
  rw [neg_mul, ← sub_eq_add_neg]

theorem sc_at (i : S24x8192x8192.Idx) : val_main_v42_0 (F := Ideal) x0 x1 i
    = if ok (i 1).val (i 2).val then ((D.sg (i 0).val (i 1).val (i 2).val : ℝ) : EReal) else ⊥ := by
  rw [val_main_v42_0_apply, sg_at H, val_main_v42_1_apply]
  have hk := ok_at (idx_main_v42_1 i)
  have hb : val_main_call0_v2 (F := Ideal) i = (⊥ : EReal) := by
    rw [val_main_call0_v2_apply, val_main_call0_v0_apply, val_main_cst_5_apply]; exact ninf_word
  rw [hb]
  by_cases hv : ok (i 1).val (i 2).val
  · rw [if_pos hv, hk.mpr hv]; rfl
  · rw [if_neg hv]; exact if_neg (fun e => hv (hk.mp e))

omit H in
theorem red43 : S24x8192x8192.Reduces [2] S24x8192 := by decide

theorem mu_at (j : S24x8192.Idx) : val_main_v43 (F := Ideal) x0 x1 j = ((D.mu (j 0).val (j 1).val : ℝ) : EReal) := by
  obtain ⟨_, _, _, e⟩ := mu_spec D (j 0).val (j 1).val (j 1).isLt
  rw [← e]
  refine (Host.reduce_eq_fold_single (α := EReal) max (val_main_v42_0 (F := Ideal) x0 x1) (val_main_cst_6 (F := Ideal)) Gen.facts.reducesTo_S24x8192x8192_S24x8192_d2 red43 Gen.facts.h_S_ j).trans ?_
  have hi : val_main_cst_6 (F := Ideal) (Shape.Idx.first Gen.facts.h_S_) = (⊥ : EReal) := (val_main_cst_6_apply _).trans Dots.ofBits_ninf
  rw [hi]
  refine Finset.fold_congr fun k _ => ?_
  exact sc_at H (red43.lift j k)

theorem pi_at (i : S24x8192x8192.Idx) : val_main_v52 (F := Ideal) x0 x1 i = ((D.pi (i 0).val (i 1).val (i 2).val : ℝ) : EReal) := by
  rw [val_main_v52_apply, val_main_v51_apply, sc_at H, val_main_v50_apply, val_main_v49_apply, mu_at H]
  show Ideal.exp (_ - ((D.mu (i 0).val (i 1).val : ℝ) : EReal)) = _
  unfold Dat.pi
  split
  · rw [← EReal.coe_sub, Ideal.exp_coe]
  · rw [EReal.bot_sub, Ideal.exp_bot, EReal.coe_zero]

theorem de_at (j : S24x8192.Idx) : val_main_v53 (F := Ideal) x0 x1 j = ((D.de (j 0).val (j 1).val : ℝ) : EReal) := by
  rw [val_main_v53_apply, val_main_cst_8_apply, zero_word, zero_add]
  unfold Dat.de
  rw [← coe_sum]
  exact Finset.sum_congr rfl fun k _ => pi_at H (idx_main_v53 j k)

theorem nu_at (i : S8192x24x128.Idx) : val_main_v56 (F := Ideal) x0 x1 x2 i
    = ((nuR (D.P (i 1).val (i 0).val) (D.Vr (i 1).val) (i 2) : ℝ) : EReal) := by
  rw [val_main_v56_apply, val_main_v55_apply]
  unfold nuR
  rw [← coe_sum]
  refine Finset.sum_congr rfl fun u _ => ?_
  rw [EReal.coe_mul]
  exact congrArg₂ (· * ·) (v_at H (lidx_main_v55 (idx_main_v56 i) u)) (pi_at H (ridx_main_v55 (idx_main_v56 i) u))

theorem de3_at (i : S8192x24x1.Idx) : val_main_v57 (F := Ideal) x0 x1 i = ((D.de (i 1).val (i 0).val : ℝ) : EReal) := by
  rw [val_main_v57_apply, val_main_v54_apply]
  exact de_at H _

theorem o0_at (i : S8192x24x128.Idx) : val_main_v59 (F := Ideal) x0 x1 x2 i = ((D.og (i 1).val (i 0).val 0 (i 2) : ℝ) : EReal) := by
  rw [val_main_v59_apply, nu_at H, val_main_v58_apply, de3_at H]
  show Ideal.div _ ((D.de (i 1).val (i 0).val : ℝ) : EReal) = _
  rw [Ideal.div_coe (de_pos D _ _ (i 0).isLt).ne', ← EReal.coe_mul]
  rfl

theorem l0_at (i : S8192x24.Idx) : val_main_v66 (F := Ideal) x0 x1 i = ((D.lg (i 1).val (i 0).val 0 : ℝ) : EReal) := by
  have h0 : (i 0).val < 8192 := (i 0).isLt
  have h1 : (i 1).val < 24 := (i 1).isLt
  rw [val_main_v66_apply, val_main_v65_apply, val_main_v64_apply, val_main_v63_apply, val_main_v49_apply, mu_at H, val_main_v54_apply, de_at H]
  have e0 : (idx_main_v49 (idx_main_v63 (idx_main_v64 i)) 0).val = (i 1).val := by show ((i 1).val * 8192 + (i 0).val) / 8192 = _; omega
  have e1 : (idx_main_v49 (idx_main_v63 (idx_main_v64 i)) 1).val = (i 0).val := by show ((i 1).val * 8192 + (i 0).val) / 1 % 8192 = _; omega
  rw [e0, e1]
  show ((D.mu (i 1).val (i 0).val : ℝ) : EReal) + Ideal.log ((D.de (i 1).val (i 0).val : ℝ) : EReal) = _
  rw [Ideal.log_coe, if_neg (not_le.mpr (de_pos D _ _ (i 0).isLt)), ← EReal.coe_add]
  rfl

theorem lg_at (i : S3x8192x24.Idx) : val_main_v70 (F := Ideal) x0 x1 x4 x6 i = ((D.lg (i 2).val (i 1).val (i 0) : ℝ) : EReal) := by
  unfold val_main_v70
  refine (cat_lg _ _ _ i).trans ?_
  have key : ∀ g : Fin 3, pick (val_main_v67 (F := Ideal) x0 x1) (val_main_v68 (F := Ideal) x4) (val_main_v69 (F := Ideal) x6) g (ValueIdx.ix3 0 (i 1) (i 2))
      = ((D.lg (i 2).val (i 1).val g : ℝ) : EReal) := fun g => match g with
    | 0 => (val_main_v67_apply x0 x1 _).trans (l0_at H _)
    | 1 => (val_main_v68_apply x4 _).trans (H.l1 _)
    | 2 => (val_main_v69_apply x6 _).trans (H.l2 _)
  exact key (i 0)

theorem og_at (i : S3x8192x24x128.Idx) : val_main_v105 (F := Ideal) x0 x1 x2 x3 x5 i = ((D.og (i 2).val (i 1).val (i 0) (i 3) : ℝ) : EReal) := by
  unfold val_main_v105
  refine (cat_og _ _ _ i).trans ?_
  have key : ∀ g : Fin 3, pick (val_main_v102 (F := Ideal) x0 x1 x2) (val_main_v103 (F := Ideal) x3) (val_main_v104 (F := Ideal) x5) g (ValueIdx.ix4 0 (i 1) (i 2) (i 3))
      = ((D.og (i 2).val (i 1).val g (i 3) : ℝ) : EReal) := fun g => match g with
    | 0 => (val_main_v102_apply x0 x1 x2 _).trans (o0_at H _)
    | 1 => (val_main_v103_apply x3 _).trans (H.o1 _)
    | 2 => (val_main_v104_apply x5 _).trans (H.o2 _)
  exact key (i 0)

omit H in
theorem red73 : S3x8192x24.Reduces [0] S8192x24 := by decide

theorem max_at (j : S8192x24.Idx) : val_main_v73 (F := Ideal) x0 x1 x4 x6 j = ((D.top (j 1).val (j 0).val : ℝ) : EReal) := by
  obtain ⟨_, _, e⟩ := top_spec D (j 1).val (j 0).val
  rw [← e]
  refine (Host.reduce_eq_fold_single (α := EReal) max (val_main_v70 (F := Ideal) x0 x1 x4 x6) (val_main_cst_12 (F := Ideal)) Gen.facts.reducesTo_S3x8192x24_S8192x24_d0 red73 Gen.facts.h_S_ j).trans ?_
  have hi : val_main_cst_12 (F := Ideal) (Shape.Idx.first Gen.facts.h_S_) = (⊥ : EReal) := (val_main_cst_12_apply _).trans Dots.ofBits_ninf
  rw [hi]
  refine Finset.fold_congr fun k _ => ?_
  exact lg_at H (red73.lift j k)

theorem top_at (j : S8192x24.Idx) : val_main_v80 (F := Ideal) x0 x1 x4 x6 j = ((D.top (j 1).val (j 0).val : ℝ) : EReal) := by
  rw [val_main_v80_apply, max_at H, val_main_v79_apply, val_main_cst_14_apply, ninf_word]
  exact max_eq_right bot_le

theorem z_at (i : S3x8192x24.Idx) : val_main_v93 (F := Ideal) x0 x1 x4 x6 i = ((D.z (i 2).val (i 1).val (i 0) : ℝ) : EReal) := by
  rw [val_main_v93_apply, val_main_v92_apply, lg_at H, val_main_v91_apply, val_main_v90_apply, top_at H]
  show Ideal.exp (((D.lg (i 2).val (i 1).val (i 0) : ℝ) : EReal) - ((D.top (i 2).val (i 1).val : ℝ) : EReal)) = _
  rw [← EReal.coe_sub, Ideal.exp_coe]
  rfl

theorem Z_at (j : S8192x24.Idx) : val_main_v94 (F := Ideal) x0 x1 x4 x6 j = ((D.Z (j 1).val (j 0).val : ℝ) : EReal) := by
  rw [val_main_v94_apply, val_main_cst_20_apply, zero_word, zero_add]
  unfold Dat.Z
  rw [← coe_sum]
  exact Finset.sum_congr rfl fun g _ => z_at H (idx_main_v94 j g)

theorem Z3_at (i : S1x8192x24.Idx) : val_main_v95 (F := Ideal) x0 x1 x4 x6 i = ((D.Z (i 2).val (i 1).val : ℝ) : EReal) := by
  rw [val_main_v95_apply]
  exact Z_at H _

theorem w_at (i : S3x8192x24.Idx) : val_main_v97 (F := Ideal) x0 x1 x4 x6 i
    = ((D.z (i 2).val (i 1).val (i 0) * (1 / D.Z (i 2).val (i 1).val) : ℝ) : EReal) := by
  rw [val_main_v97_apply, z_at H, val_main_v96_apply, Z3_at H]
  show Ideal.div _ ((D.Z (i 2).val (i 1).val : ℝ) : EReal) = _
  rw [Ideal.div_coe (Z_pos D _ _).ne', ← EReal.coe_mul]

theorem w4_at (i : S3x8192x24x128.Idx) : val_main_v108 (F := Ideal) x0 x1 x4 x6 i
    = ((D.z (i 2).val (i 1).val (i 0) * (1 / D.Z (i 2).val (i 1).val) : ℝ) : EReal) := by
  rw [val_main_v108_apply, val_main_v101_apply]
  exact w_at H _

/-- The mixed output. -/
theorem y_at (i : S8192x24x128.Idx) : val_main_v110 (F := Ideal) x0 x1 x2 x3 x4 x5 x6 i
    = ((yR (D.og (i 1).val (i 0).val) (D.z (i 1).val (i 0).val) (D.Z (i 1).val (i 0).val) (i 2) : ℝ) : EReal) := by
  rw [val_main_v110_apply, val_main_cst_24_apply, zero_word, zero_add]
  unfold yR
  rw [← coe_sum]
  refine Finset.sum_congr rfl fun g _ => ?_
  rw [val_main_v109_apply, EReal.coe_mul]
  exact congrArg₂ (· * ·) (w4_at H (idx_main_v110 i g)) (og_at H (idx_main_v110 i g))

end Reads

end Cert.Mix

end
-- ==== Proof.AttnRefB.lean ====
/-
  THE REFERENCE OF THE DILATED ATTENTION'S GRADIENT where every input is a real number, backward: from the mixed output's
  cotangent to those of queries, keys and values.
-/
module

public import proofs.«01_k».proof.Proof.AttnRef

@[expose] public section

set_option maxRecDepth 16384

noncomputable section

namespace Cert.Mix

open Idealize.ShloMosaic Idealize.ShloMosaic.ValueIdx Idealize.SL.Sem
open Cert.AttnRefIdeal Cert.AttnRefIdeal.Read Cert.Row
open Cert.Dil (ks)
open scoped BigOperators

namespace Dat
variable (D : Dat)
/-- The cotangent of a mixing weight. -/
def dw (h t : ℕ) (g : Fin 3) : ℝ := dwR (D.Yc h t) (D.og h t) g
/-- The cotangent of the row's own log-sum. -/
def dl (h t : ℕ) : ℝ := dlR (D.Yc h t) (D.og h t) (D.z h t) (D.Z h t)
/-- The cotangent of the row's own output. -/
def dO (h t : ℕ) (e : Fin 128) : ℝ := doR (D.Yc h t) (D.z h t) (D.Z h t) e
/-- The cotangent of the row's sum of weights. -/
def dd (h t : ℕ) : ℝ := ddR (D.P h t) (D.Vr h) (D.Yc h t) (D.og h t) (D.z h t) (D.de h t) (D.Z h t)
/-- The cotangent of an exponent. -/
def G (h t : ℕ) (u : Fin 8192) : ℝ := gR (D.P h t) (D.Vr h) (D.Yc h t) (D.og h t) (D.z h t) (D.de h t) (D.Z h t) u
end Dat

/-- Indices of the shapes with a unit axis or a stack of three. -/
abbrev j3 (a : Fin 3) (b : Fin 8192) (c : Fin 24) : S3x8192x24.Idx := ValueIdx.ix3 a b c
@[inherit_doc j3] abbrev j1 (b : Fin 8192) (c : Fin 24) : S1x8192x24.Idx := ValueIdx.ix3 0 b c
@[inherit_doc j3] abbrev j14 (b : Fin 8192) (c : Fin 24) (e : Fin 128) : S1x8192x24x128.Idx := ValueIdx.ix4 0 b c e
@[inherit_doc j3] abbrev jt (b : Fin 8192) (c : Fin 24) : S8192x24.Idx := ValueIdx.ix2 b c
@[inherit_doc j3] abbrev jh (c : Fin 24) (b : Fin 8192) : S24x8192.Idx := ValueIdx.ix2 c b

/-! ## Reshapes that only add or drop a unit axis -/

theorem ix118 (i : S3x8192x24x1.Idx) : idx_main_v118 i = j3 (i 0) (i 1) (i 2) := by
  have h1 : (i 1).val < 8192 := (i 1).isLt
  have h2 : (i 2).val < 24 := (i 2).isLt
  have h3 : (i 3).val < 1 := (i 3).isLt
  funext a
  match a with
  | ⟨0, _⟩ => exact Fin.ext (by show ((((i 0).val * 8192 + (i 1).val) * 24 + (i 2).val) * 1 + (i 3).val) / 196608 = (i 0).val; omega)
  | ⟨1, _⟩ => exact Fin.ext (by show ((((i 0).val * 8192 + (i 1).val) * 24 + (i 2).val) * 1 + (i 3).val) / 24 % 8192 = (i 1).val; omega)
  | ⟨2, _⟩ => exact Fin.ext (by show ((((i 0).val * 8192 + (i 1).val) * 24 + (i 2).val) * 1 + (i 3).val) % 24 = (i 2).val; omega)

theorem ix120 (i : S8192x24x128.Idx) : idx_main_v120 i = j14 (i 0) (i 1) (i 2) := by
  have h0 : (i 0).val < 8192 := (i 0).isLt
  have h1 : (i 1).val < 24 := (i 1).isLt
  have h2 : (i 2).val < 128 := (i 2).isLt
  funext a
  match a with
  | ⟨0, _⟩ => rfl
  | ⟨1, _⟩ => exact Fin.ext (by show (((i 0).val * 24 + (i 1).val) * 128 + (i 2).val) / 3072 % 8192 = (i 0).val; omega)
  | ⟨2, _⟩ => exact Fin.ext (by show (((i 0).val * 24 + (i 1).val) * 128 + (i 2).val) / 128 % 24 = (i 1).val; omega)
  | ⟨3, _⟩ => exact Fin.ext (by show (((i 0).val * 24 + (i 1).val) * 128 + (i 2).val) % 128 = (i 2).val; omega)

theorem ix130 (i : S1x8192x24.Idx) : idx_main_v130 i = jt (i 1) (i 2) := by
  have h0 : (i 0).val < 1 := (i 0).isLt
  have h2 : (i 2).val < 24 := (i 2).isLt
  have h1 : (i 1).val < 8192 := (i 1).isLt
  funext a
  match a with
  | ⟨0, _⟩ => exact Fin.ext (by show (((i 0).val * 8192 + (i 1).val) * 24 + (i 2).val) / 24 = (i 1).val; omega)
  | ⟨1, _⟩ => exact Fin.ext (by show (((i 0).val * 8192 + (i 1).val) * 24 + (i 2).val) % 24 = (i 2).val; omega)

theorem ix139 (i : S8192x24.Idx) : idx_main_v139 i = j1 (i 0) (i 1) := by
  have h0 : (i 0).val < 8192 := (i 0).isLt
  have h1 : (i 1).val < 24 := (i 1).isLt
  funext a
  match a with
  | ⟨0, _⟩ => rfl
  | ⟨1, _⟩ => exact Fin.ext (by show ((i 0).val * 24 + (i 1).val) / 24 % 8192 = (i 0).val; omega)
  | ⟨2, _⟩ => exact Fin.ext (by show ((i 0).val * 24 + (i 1).val) % 24 = (i 1).val; omega)

theorem ix151 (i : S8192x24x1.Idx) : idx_main_v151 i = jt (i 0) (i 1) := by
  have h1 : (i 1).val < 24 := (i 1).isLt
  have h2 : (i 2).val < 1 := (i 2).isLt
  funext a
  match a with
  | ⟨0, _⟩ => exact Fin.ext (by show (((i 0).val * 24 + (i 1).val) * 1 + (i 2).val) / 24 = (i 0).val; omega)
  | ⟨1, _⟩ => exact Fin.ext (by show (((i 0).val * 24 + (i 1).val) * 1 + (i 2).val) % 24 = (i 1).val; omega)

theorem ix167 (i : S24x8192x1.Idx) : idx_main_v167 i = jh (i 0) (i 1) := by
  have h1 : (i 1).val < 8192 := (i 1).isLt
  have h2 : (i 2).val < 1 := (i 2).isLt
  funext a
  match a with
  | ⟨0, _⟩ => exact Fin.ext (by show (((i 0).val * 8192 + (i 1).val) * 1 + (i 2).val) / 8192 = (i 0).val; omega)
  | ⟨1, _⟩ => exact Fin.ext (by show (((i 0).val * 8192 + (i 1).val) * 1 + (i 2).val) % 8192 = (i 1).val; omega)

/-- A matrix of heads side by side, read by head. -/
theorem ixOut (i : S8192x3072.Idx) (j : S8192x24x128.Idx) (h0 : (j 0).val = ((i 0).val * 3072 + (i 1).val) / 3072)
    (h1 : (j 1).val = ((i 0).val * 3072 + (i 1).val) / 128 % 24) (h2 : (j 2).val = ((i 0).val * 3072 + (i 1).val) % 128) :
    (j 0).val = (i 0).val ∧ (j 1).val = (i 1).val / 128 ∧ 128 * ((i 1).val / 128) + (j 2).val = (i 1).val := by
  have h3 : (i 1).val < 3072 := (i 1).isLt
  omega

section Reads

variable {x0 x1 x2 : (⟨S8192x3072, .bf16⟩ : BufTy).Contents (Elt Ideal)} {x3 : (⟨S8192x24x128, .f32⟩ : BufTy).Contents (Elt Ideal)}
  {x4 : (⟨S8192x24, .f32⟩ : BufTy).Contents (Elt Ideal)} {x5 : (⟨S8192x24x128, .f32⟩ : BufTy).Contents (Elt Ideal)}
  {x6 : (⟨S8192x24, .f32⟩ : BufTy).Contents (Elt Ideal)} {x7 : (⟨S8192x3072, .f32⟩ : BufTy).Contents (Elt Ideal)}
  {D : Dat} (H : D.Is x0 x1 x2 x3 x4 x5 x6 x7)
include H

/-! ## The mixing, backward -/

theorem dy4_at (i : S3x8192x24x128.Idx) : val_main_v113 (F := Ideal) x7 i = ((D.Yc (i 2).val (i 1).val (i 3) : ℝ) : EReal) := by
  rw [val_main_v113_apply]
  exact dy_at H _

theorem do_at (i : S8192x24x128.Idx) : val_main_v120 (F := Ideal) x0 x1 x4 x6 x7 i = ((D.dO (i 1).val (i 0).val (i 2) : ℝ) : EReal) := by
  rw [val_main_v120_apply, ix120, val_main_v119_apply, val_main_v115_apply, val_main_v114_apply, val_main_v101_apply, w_at H, dy4_at H]
  refine (EReal.coe_mul _ _).symm.trans ?_
  rfl

theorem dw_at (i : S3x8192x24.Idx) : val_main_v117 (F := Ideal) x0 x1 x2 x3 x5 x7 i = ((D.dw (i 2).val (i 1).val (i 0) : ℝ) : EReal) := by
  rw [val_main_v117_apply, val_main_cst_25_apply, zero_word, zero_add]
  unfold Dat.dw dwR
  rw [← coe_sum]
  refine Finset.sum_congr rfl fun e _ => ?_
  rw [val_main_v116_apply, EReal.coe_mul]
  exact congrArg₂ (· * ·) (dy4_at H (idx_main_v117 i e)) (og_at H (idx_main_v117 i e))

theorem dw1_at (i : S3x8192x24.Idx) : val_main_v125 (F := Ideal) x0 x1 x2 x3 x5 x7 i = ((D.dw (i 2).val (i 1).val (i 0) : ℝ) : EReal) := by
  rw [val_main_v125_apply, val_main_cst_26_apply, zero_word, zero_add, Fin.sum_univ_one, val_main_v118_apply, ix118]
  exact dw_at H _

theorem zsq_at (i : S1x8192x24.Idx) : val_main_v100 (F := Ideal) x0 x1 x4 x6 i
    = ((1 / (D.Z (i 2).val (i 1).val * D.Z (i 2).val (i 1).val) : ℝ) : EReal) := by
  rw [val_main_v100_apply, val_main_v99_apply, val_main_cst_21_apply, one_word, val_main_v98_apply, Z3_at H]
  show Ideal.div 1 (((D.Z (i 2).val (i 1).val : ℝ) : EReal) * ((D.Z (i 2).val (i 1).val : ℝ) : EReal)) = _
  have hz := Z_pos D (i 2).val (i 1).val
  rw [← EReal.coe_mul, Ideal.div_coe (mul_pos hz hz).ne', one_mul]

theorem corr_at (j : S8192x24.Idx) : val_main_v129 (F := Ideal) x0 x1 x2 x3 x4 x5 x6 x7 j
    = ((∑ g, D.dw (j 1).val (j 0).val g * (1 / (D.Z (j 1).val (j 0).val * D.Z (j 1).val (j 0).val)) * D.z (j 1).val (j 0).val g : ℝ) : EReal) := by
  rw [val_main_v129_apply, val_main_cst_27_apply, zero_word, zero_add, ← coe_sum]
  refine Finset.sum_congr rfl fun g _ => ?_
  rw [val_main_v128_apply, val_main_v127_apply, val_main_v126_apply, dw1_at H, zsq_at H, z_at H, EReal.coe_mul, EReal.coe_mul]
  rfl

theorem neg_at (i : S1x8192x24.Idx) : val_main_v131 (F := Ideal) x0 x1 x2 x3 x4 x5 x6 x7 i
    = ((-(∑ g, D.dw (i 2).val (i 1).val g * (1 / (D.Z (i 2).val (i 1).val * D.Z (i 2).val (i 1).val)) * D.z (i 2).val (i 1).val g) : ℝ) : EReal) := by
  rw [val_main_v131_apply, val_main_v130_apply, ix130, corr_at H]
  exact (EReal.coe_neg _).symm

theorem dl_at (i : S8192x24.Idx) : val_main_v139 (F := Ideal) x0 x1 x2 x3 x4 x5 x6 x7 i = ((D.dl (i 1).val (i 0).val : ℝ) : EReal) := by
  rw [val_main_v139_apply, ix139, val_main_v138_apply, val_main_v137_apply, val_main_v136_apply, val_main_v133_apply, val_main_v132_apply, Z3_at H,
    dw1_at H, val_main_v135_apply, val_main_v134_apply, val_main_cst_28_apply, zero_word, zero_add, Fin.sum_univ_one, neg_at H, z_at H]
  show (Ideal.div ((D.dw (i 1).val (i 0).val 0 : ℝ) : EReal) ((D.Z (i 1).val (i 0).val : ℝ) : EReal) + _) * _ = _
  rw [Ideal.div_coe (Z_pos D _ _).ne', ← EReal.coe_mul, ← EReal.coe_add, ← EReal.coe_mul]
  rfl

/-! ## The row's own attention, backward -/

theorem desq_at (i : S8192x24x1.Idx) : val_main_v62 (F := Ideal) x0 x1 i
    = ((1 / (D.de (i 1).val (i 0).val * D.de (i 1).val (i 0).val) : ℝ) : EReal) := by
  rw [val_main_v62_apply, val_main_v61_apply, val_main_cst_9_apply, one_word, val_main_v60_apply, de3_at H]
  show Ideal.div 1 (((D.de (i 1).val (i 0).val : ℝ) : EReal) * ((D.de (i 1).val (i 0).val : ℝ) : EReal)) = _
  have hz := de_pos D (i 1).val (i 0).val (i 0).isLt
  rw [← EReal.coe_mul, Ideal.div_coe (mul_pos hz hz).ne', one_mul]

theorem cor2_at (j : S8192x24.Idx) : val_main_v150 (F := Ideal) x0 x1 x2 x4 x6 x7 j
    = ((∑ e, D.dO (j 1).val (j 0).val e * (1 / (D.de (j 1).val (j 0).val * D.de (j 1).val (j 0).val)) * nuR (D.P (j 1).val (j 0).val) (D.Vr (j 1).val) e : ℝ) : EReal) := by
  rw [val_main_v150_apply, val_main_cst_29_apply, zero_word, zero_add, ← coe_sum]
  refine Finset.sum_congr rfl fun e _ => ?_
  rw [val_main_v149_apply, val_main_v148_apply, val_main_v147_apply, do_at H, desq_at H, nu_at H, EReal.coe_mul, EReal.coe_mul]
  rfl

theorem dd_at (j : S8192x24.Idx) : val_main_v156 (F := Ideal) x0 x1 x2 x3 x4 x5 x6 x7 j = ((D.dd (j 1).val (j 0).val : ℝ) : EReal) := by
  rw [val_main_v156_apply, val_main_v144_apply, dl_at H, val_main_v54_apply, de_at H, val_main_v155_apply, val_main_cst_30_apply, zero_word, zero_add,
    Fin.sum_univ_one, val_main_v152_apply, val_main_v151_apply, ix151, cor2_at H]
  show Ideal.div _ ((D.de (j 1).val (j 0).val : ℝ) : EReal) + -(_ : EReal) = _
  rw [Ideal.div_coe (de_pos D _ _ (j 0).isLt).ne', ← EReal.coe_mul, ← EReal.coe_neg, ← EReal.coe_add]
  rfl

theorem dn_at (i : S24x128x8192.Idx) : val_main_v157 (F := Ideal) x0 x1 x4 x6 x7 i
    = ((D.dO (i 0).val (i 2).val (i 1) * (1 / D.de (i 0).val (i 2).val) : ℝ) : EReal) := by
  rw [val_main_v157_apply, val_main_v154_apply, do_at H, val_main_v153_apply, de3_at H]
  show Ideal.div _ ((D.de (i 0).val (i 2).val : ℝ) : EReal) = _
  rw [Ideal.div_coe (de_pos D _ _ (i 2).isLt).ne', ← EReal.coe_mul]
  rfl

theorem G_at (i : S24x8192x8192.Idx) : val_main_v164 (F := Ideal) x0 x1 x2 x3 x4 x5 x6 x7 i = ((D.G (i 0).val (i 1).val (i 2) : ℝ) : EReal) := by
  have hd : val_main_v158 (F := Ideal) x0 x1 x2 x4 x6 x7 i
      = ((∑ e, D.dO (i 0).val (i 1).val e * (1 / D.de (i 0).val (i 1).val) * D.Vr (i 0).val (i 2) e : ℝ) : EReal) := by
    rw [val_main_v158_apply, ← coe_sum]
    refine Finset.sum_congr rfl fun e _ => ?_
    rw [EReal.coe_mul]
    exact congrArg₂ (· * ·) (dn_at H (lidx_main_v158 i e)) (v_at H (ridx_main_v158 i e))
  rw [val_main_v164_apply, val_main_v163_apply, hd, val_main_v162_apply, val_main_v161_apply, dd_at H, pi_at H]
  refine (congrArg (· * _) (EReal.coe_add _ _).symm).trans ?_
  refine (EReal.coe_mul _ _).symm.trans ?_
  rfl

/-! ## What reaches the row's maximum: nothing -/

omit H in
theorem ix44 (i : S24x8192x1.Idx) : idx_main_v44 i = jh (i 0) (i 1) := by
  have h1 : (i 1).val < 8192 := (i 1).isLt
  have h2 : (i 2).val < 1 := (i 2).isLt
  funext a
  match a with
  | ⟨0, _⟩ => exact Fin.ext (by show (((i 0).val * 8192 + (i 1).val) * 1 + (i 2).val) / 8192 = (i 0).val; omega)
  | ⟨1, _⟩ => exact Fin.ext (by show (((i 0).val * 8192 + (i 1).val) * 1 + (i 2).val) % 8192 = (i 1).val; omega)

/-- How many keys share the row's maximum. -/
theorem count_at (j : S24x8192.Idx) : ∃ c : ℝ, 0 < c ∧ val_main_v48 (F := Ideal) x0 x1 j = (c : EReal) := by
  obtain ⟨u, hu, hm, _⟩ := mu_spec D (j 0).val (j 1).val (j 1).isLt
  refine ⟨∑ k : Fin 8192, ((val_main_v46 (F := Ideal) x0 x1 (idx_main_v48 j k)).toNat : ℝ), ?_, ?_⟩
  · refine Finset.sum_pos' (fun _ _ => Nat.cast_nonneg _) ⟨u, Finset.mem_univ _, ?_⟩
    have e : val_main_v46 (F := Ideal) x0 x1 (idx_main_v48 j u) = 1#1 := by
      rw [val_main_v46_apply, sc_at H, val_main_v45_apply, val_main_v44_apply, ix44, mu_at H]
      have h1 : (if ok (idx_main_v48 j u 1).val (idx_main_v48 j u 2).val then ((D.sg (idx_main_v48 j u 0).val (idx_main_v48 j u 1).val (idx_main_v48 j u 2).val : ℝ) : EReal) else ⊥)
          = ((D.mu (j 0).val (j 1).val : ℝ) : EReal) := by rw [hm]; exact if_pos hu
      rw [h1]
      show Ideal.cmp .oeq ((D.mu (j 0).val (j 1).val : ℝ) : EReal) ((D.mu (j 0).val (j 1).val : ℝ) : EReal) = 1#1
      simp [Ideal.cmp]
    rw [e]; norm_num
  · rw [val_main_v48_apply, val_main_cst_7_apply, zero_word, zero_add, ← coe_sum]
    refine Finset.sum_congr rfl fun k _ => ?_
    rw [val_main_v47_apply]
    rfl

theorem dmax_at (j : S24x8192.Idx) : val_main_v169 (F := Ideal) x0 x1 x2 x3 x4 x5 x6 x7 j = (0 : EReal) := by
  have hs : val_main_v166 (F := Ideal) x0 x1 x2 x3 x4 x5 x6 x7 j = ((∑ u, -D.G (j 0).val (j 1).val u : ℝ) : EReal) := by
    rw [val_main_v166_apply, val_main_cst_31_apply, zero_word, zero_add, ← coe_sum]
    refine Finset.sum_congr rfl fun u _ => ?_
    rw [val_main_v165_apply, G_at H, EReal.coe_neg]
    rfl
  have hj : jh (j 0) (j 1) = j := (ValueIdx.eq_ix2 j).symm
  rw [val_main_v169_apply, val_main_cst_32_apply, zero_word, zero_add, Fin.sum_univ_one, val_main_v168_apply, val_main_v146_apply, val_main_v145_apply,
    dl_at H, val_main_v167_apply, ix167]
  refine (congrArg (_ + ·) ((congrArg _ hj).trans hs)).trans ?_
  refine (EReal.coe_add _ _).symm.trans ?_
  have h0 : D.dl (j 0).val (j 1).val + ∑ u, -D.G (j 0).val (j 1).val u = 0 :=
    dmax_eq (de_pos D _ _ (j 1).isLt).ne' (Z_pos D _ _).ne' rfl (fun _ => rfl)
  exact (congrArg _ h0).trans EReal.coe_zero

theorem ds_at (i : S24x8192x8192.Idx) : val_main_v176 (F := Ideal) x0 x1 x2 x3 x4 x5 x6 x7 i = ((D.G (i 0).val (i 1).val (i 2) * ksR : ℝ) : EReal) := by
  have hm : val_main_v172 (F := Ideal) x0 x1 x2 x3 x4 x5 x6 x7 i = (0 : EReal) := by
    obtain ⟨c, hc, ec⟩ := count_at H (idx_main_v171 i)
    rw [val_main_v172_apply, val_main_v171_apply, val_main_v170_apply, dmax_at H, ec]
    show Ideal.div 0 (c : EReal) * _ = _
    rw [Ideal.div_coe hc.ne', zero_mul, zero_mul]
  have hs : val_main_v174 (F := Ideal) x0 x1 x2 x3 x4 x5 x6 x7 i = ((D.G (i 0).val (i 1).val (i 2) : ℝ) : EReal) := by
    rw [val_main_v174_apply, val_main_v42_1_apply, val_main_v173_apply, hm, G_at H]
    have hk := ok_at (idx_main_v42_1 i)
    by_cases hv : ok (i 1).val (i 2).val
    · rw [hk.mpr hv]; exact add_zero _
    · have hn : ¬ val_main_v30 (F := Ideal) (idx_main_v42_1 i) = 1#1 := fun e => hv (hk.mp e)
      refine (if_neg hn).trans ?_
      have hz : D.G (i 0).val (i 1).val (i 2) = 0 := by
        unfold Dat.G gR
        have hp : D.P (i 0).val (i 1).val (i 2) = 0 := if_neg hv
        rw [hp, mul_zero]
      rw [hz, val_main_call1_v0_apply, val_main_call1_cst_apply, EReal.coe_zero]
      exact zero_word
  rw [val_main_v176_apply, hs, val_main_v175_apply, val_main_cst_33_apply]
  show _ * ks = _
  rw [ks_coe, ← EReal.coe_mul]

/-! ## The three results -/

theorem dq_at (i : S8192x3072.Idx) : val_main_v186 (F := Ideal) x0 x1 x2 x3 x4 x5 x6 x7 i
    = ((∑ u : Fin 8192, D.G ((i 1).val / 128) (i 0).val u * ksR * D.k u.val (i 1).val : ℝ) : EReal) := by
  obtain ⟨e0, e1, e2⟩ := ixOut i (idx_main_v185 i) rfl rfl rfl
  rw [val_main_v186_apply, val_main_v185_apply, val_main_v180_apply]
  refine (val_main_v179_apply x0 x1 x2 x3 x4 x5 x6 x7 _).trans ?_
  rw [← coe_sum]
  refine Finset.sum_congr rfl fun u _ => ?_
  rw [EReal.coe_mul]
  refine congrArg₂ (· * ·) ((ds_at H _).trans ?_) ((k_at H _).trans ?_)
  · show ((D.G (idx_main_v185 i 1).val (idx_main_v185 i 0).val u * ksR : ℝ) : EReal) = _
    rw [e0, e1]
  · show ((D.k u.val (128 * (idx_main_v185 i 1).val + (idx_main_v185 i 2).val) : ℝ) : EReal) = _
    rw [e1, e2]

theorem dk_at (i : S8192x3072.Idx) : val_main_v184 (F := Ideal) x0 x1 x2 x3 x4 x5 x6 x7 i
    = ((∑ t : Fin 8192, D.G ((i 1).val / 128) t.val (i 0) * ksR * D.q t.val (i 1).val : ℝ) : EReal) := by
  obtain ⟨e0, e1, e2⟩ := ixOut i (idx_main_v183 i) rfl rfl rfl
  rw [val_main_v184_apply, val_main_v183_apply, val_main_v178_apply]
  refine (val_main_v177_apply x0 x1 x2 x3 x4 x5 x6 x7 _).trans ?_
  rw [← coe_sum]
  refine Finset.sum_congr rfl fun t _ => ?_
  rw [EReal.coe_mul]
  refine congrArg₂ (· * ·) ((ds_at H _).trans ?_) ((q_at H _).trans ?_)
  · show ((D.G (idx_main_v183 i 1).val t.val (idx_main_v183 i 0) * ksR : ℝ) : EReal) = _
    have e0' : (idx_main_v183 i 0 : Fin 8192) = i 0 := Fin.ext e0
    rw [e0', e1]
  · show ((D.q t.val (128 * (idx_main_v183 i 1).val + (idx_main_v183 i 2).val) : ℝ) : EReal) = _
    rw [e1, e2]

theorem dv_at (i : S8192x3072.Idx) : val_main_v182 (F := Ideal) x0 x1 x4 x6 x7 i
    = ((∑ t : Fin 8192, D.z ((i 1).val / 128) t.val 0 * (1 / D.Z ((i 1).val / 128) t.val) * D.dy t.val (i 1).val * (1 / D.de ((i 1).val / 128) t.val)
        * D.pi ((i 1).val / 128) t.val (i 0).val : ℝ) : EReal) := by
  obtain ⟨e0, e1, e2⟩ := ixOut i (idx_main_v181 i) rfl rfl rfl
  rw [val_main_v182_apply, val_main_v181_apply, val_main_v160_apply]
  refine (val_main_v159_apply x0 x1 x4 x6 x7 _).trans ?_
  rw [← coe_sum]
  refine Finset.sum_congr rfl fun t _ => ?_
  rw [EReal.coe_mul]
  refine congrArg₂ (· * ·) ((dn_at H _).trans ?_) ((pi_at H _).trans ?_)
  · show ((D.z (idx_main_v181 i 1).val t.val 0 * (1 / D.Z (idx_main_v181 i 1).val t.val) * D.dy t.val (128 * (idx_main_v181 i 1).val + (idx_main_v181 i 2).val)
      * (1 / D.de (idx_main_v181 i 1).val t.val) : ℝ) : EReal) = _
    rw [e1, e2]
  · show ((D.pi (idx_main_v181 i 1).val t.val (idx_main_v181 i 0).val : ℝ) : EReal) = _
    rw [e0, e1]

end Reads

end Cert.Mix

end
-- ==== Proof.AttnBlock.lean ====
/-
  WHAT ONE GRID POINT OF THE DILATED ATTENTION'S GRADIENT LEAVES in its three output blocks: the twelve heads' stores, side
  by side, as functions of the arrays its input blocks are cut from.
-/
module

public import proofs.«01_k».proof.Proof.AttnPay

@[expose] public section

set_option maxRecDepth 16384

noncomputable section

namespace Cert.Dil

open Cert.AttnIdeal Cert.AttnIdeal.Gen Idealize.ShloMosaic Idealize.ShloMosaic.TcCoe Idealize.SL.Sem
open Idealize.ShloMosaic.ValueIdx Cert.Row Cert.Dots
open scoped BigOperators

/-! ## The twelve stores of each output -/

section Outs

variable (i : grid0.Coords) (x0 x1 x2 x3 x4 x5 : Vec Ideal S128x1536 .bf16) (x6 x7 x8 x9 x10 x11 : Vec Ideal S128x1536 .f32)

theorem out_dq : out0_12 i x0 x1 x2 x3 x4 x5 x6 x7 x8 x9 x10 x11
    = View.canon [⟨r0_11, uDq i 11#32 (View.ld x0 r0_11) (View.ld x2 r0_11) (View.ld x3 r0_11) (View.ld x4 r0_11) (View.ld x5 r0_11) (View.ld x6 r0_11) (View.ld x8 r0_11) (View.ld x10 r0_11)⟩,
      ⟨r0_10, uDq i 10#32 (View.ld x0 r0_10) (View.ld x2 r0_10) (View.ld x3 r0_10) (View.ld x4 r0_10) (View.ld x5 r0_10) (View.ld x6 r0_10) (View.ld x8 r0_10) (View.ld x10 r0_10)⟩,
      ⟨r0_9, uDq i 9#32 (View.ld x0 r0_9) (View.ld x2 r0_9) (View.ld x3 r0_9) (View.ld x4 r0_9) (View.ld x5 r0_9) (View.ld x6 r0_9) (View.ld x8 r0_9) (View.ld x10 r0_9)⟩,
      ⟨r0_8, uDq i 8#32 (View.ld x0 r0_8) (View.ld x2 r0_8) (View.ld x3 r0_8) (View.ld x4 r0_8) (View.ld x5 r0_8) (View.ld x6 r0_8) (View.ld x8 r0_8) (View.ld x10 r0_8)⟩,
      ⟨r0_7, uDq i 7#32 (View.ld x0 r0_7) (View.ld x2 r0_7) (View.ld x3 r0_7) (View.ld x4 r0_7) (View.ld x5 r0_7) (View.ld x6 r0_7) (View.ld x8 r0_7) (View.ld x10 r0_7)⟩,
      ⟨r0_6, uDq i 6#32 (View.ld x0 r0_6) (View.ld x2 r0_6) (View.ld x3 r0_6) (View.ld x4 r0_6) (View.ld x5 r0_6) (View.ld x6 r0_6) (View.ld x8 r0_6) (View.ld x10 r0_6)⟩,
      ⟨r0_5, uDq i 5#32 (View.ld x0 r0_5) (View.ld x2 r0_5) (View.ld x3 r0_5) (View.ld x4 r0_5) (View.ld x5 r0_5) (View.ld x6 r0_5) (View.ld x8 r0_5) (View.ld x10 r0_5)⟩,
      ⟨r0_4, uDq i 4#32 (View.ld x0 r0_4) (View.ld x2 r0_4) (View.ld x3 r0_4) (View.ld x4 r0_4) (View.ld x5 r0_4) (View.ld x6 r0_4) (View.ld x8 r0_4) (View.ld x10 r0_4)⟩,
      ⟨r0_3, uDq i 3#32 (View.ld x0 r0_3) (View.ld x2 r0_3) (View.ld x3 r0_3) (View.ld x4 r0_3) (View.ld x5 r0_3) (View.ld x6 r0_3) (View.ld x8 r0_3) (View.ld x10 r0_3)⟩,
      ⟨r0_2, uDq i 2#32 (View.ld x0 r0_2) (View.ld x2 r0_2) (View.ld x3 r0_2) (View.ld x4 r0_2) (View.ld x5 r0_2) (View.ld x6 r0_2) (View.ld x8 r0_2) (View.ld x10 r0_2)⟩,
      ⟨r0_1, uDq i 1#32 (View.ld x0 r0_1) (View.ld x2 r0_1) (View.ld x3 r0_1) (View.ld x4 r0_1) (View.ld x5 r0_1) (View.ld x6 r0_1) (View.ld x8 r0_1) (View.ld x10 r0_1)⟩,
      ⟨r0_0, uDq i 0#32 (View.ld x0 r0_0) (View.ld x2 r0_0) (View.ld x3 r0_0) (View.ld x4 r0_0) (View.ld x5 r0_0) (View.ld x6 r0_0) (View.ld x8 r0_0) (View.ld x10 r0_0)⟩] := by
  rfl

theorem out_dk : out0_13 i x0 x1 x2 x3 x4 x5 x6 x7 x8 x9 x10 x11
    = View.canon [⟨r0_11, uDk i 11#32 (View.ld x0 r0_11) (View.ld x1 r0_11) (View.ld x2 r0_11) (View.ld x3 r0_11) (View.ld x4 r0_11) (View.ld x5 r0_11) (View.ld x6 r0_11) (View.ld x7 r0_11) (View.ld x8 r0_11) (View.ld x9 r0_11) (View.ld x10 r0_11) (View.ld x11 r0_11)⟩,
      ⟨r0_10, uDk i 10#32 (View.ld x0 r0_10) (View.ld x1 r0_10) (View.ld x2 r0_10) (View.ld x3 r0_10) (View.ld x4 r0_10) (View.ld x5 r0_10) (View.ld x6 r0_10) (View.ld x7 r0_10) (View.ld x8 r0_10) (View.ld x9 r0_10) (View.ld x10 r0_10) (View.ld x11 r0_10)⟩,
      ⟨r0_9, uDk i 9#32 (View.ld x0 r0_9) (View.ld x1 r0_9) (View.ld x2 r0_9) (View.ld x3 r0_9) (View.ld x4 r0_9) (View.ld x5 r0_9) (View.ld x6 r0_9) (View.ld x7 r0_9) (View.ld x8 r0_9) (View.ld x9 r0_9) (View.ld x10 r0_9) (View.ld x11 r0_9)⟩,
      ⟨r0_8, uDk i 8#32 (View.ld x0 r0_8) (View.ld x1 r0_8) (View.ld x2 r0_8) (View.ld x3 r0_8) (View.ld x4 r0_8) (View.ld x5 r0_8) (View.ld x6 r0_8) (View.ld x7 r0_8) (View.ld x8 r0_8) (View.ld x9 r0_8) (View.ld x10 r0_8) (View.ld x11 r0_8)⟩,
      ⟨r0_7, uDk i 7#32 (View.ld x0 r0_7) (View.ld x1 r0_7) (View.ld x2 r0_7) (View.ld x3 r0_7) (View.ld x4 r0_7) (View.ld x5 r0_7) (View.ld x6 r0_7) (View.ld x7 r0_7) (View.ld x8 r0_7) (View.ld x9 r0_7) (View.ld x10 r0_7) (View.ld x11 r0_7)⟩,
      ⟨r0_6, uDk i 6#32 (View.ld x0 r0_6) (View.ld x1 r0_6) (View.ld x2 r0_6) (View.ld x3 r0_6) (View.ld x4 r0_6) (View.ld x5 r0_6) (View.ld x6 r0_6) (View.ld x7 r0_6) (View.ld x8 r0_6) (View.ld x9 r0_6) (View.ld x10 r0_6) (View.ld x11 r0_6)⟩,
      ⟨r0_5, uDk i 5#32 (View.ld x0 r0_5) (View.ld x1 r0_5) (View.ld x2 r0_5) (View.ld x3 r0_5) (View.ld x4 r0_5) (View.ld x5 r0_5) (View.ld x6 r0_5) (View.ld x7 r0_5) (View.ld x8 r0_5) (View.ld x9 r0_5) (View.ld x10 r0_5) (View.ld x11 r0_5)⟩,
      ⟨r0_4, uDk i 4#32 (View.ld x0 r0_4) (View.ld x1 r0_4) (View.ld x2 r0_4) (View.ld x3 r0_4) (View.ld x4 r0_4) (View.ld x5 r0_4) (View.ld x6 r0_4) (View.ld x7 r0_4) (View.ld x8 r0_4) (View.ld x9 r0_4) (View.ld x10 r0_4) (View.ld x11 r0_4)⟩,
      ⟨r0_3, uDk i 3#32 (View.ld x0 r0_3) (View.ld x1 r0_3) (View.ld x2 r0_3) (View.ld x3 r0_3) (View.ld x4 r0_3) (View.ld x5 r0_3) (View.ld x6 r0_3) (View.ld x7 r0_3) (View.ld x8 r0_3) (View.ld x9 r0_3) (View.ld x10 r0_3) (View.ld x11 r0_3)⟩,
      ⟨r0_2, uDk i 2#32 (View.ld x0 r0_2) (View.ld x1 r0_2) (View.ld x2 r0_2) (View.ld x3 r0_2) (View.ld x4 r0_2) (View.ld x5 r0_2) (View.ld x6 r0_2) (View.ld x7 r0_2) (View.ld x8 r0_2) (View.ld x9 r0_2) (View.ld x10 r0_2) (View.ld x11 r0_2)⟩,
      ⟨r0_1, uDk i 1#32 (View.ld x0 r0_1) (View.ld x1 r0_1) (View.ld x2 r0_1) (View.ld x3 r0_1) (View.ld x4 r0_1) (View.ld x5 r0_1) (View.ld x6 r0_1) (View.ld x7 r0_1) (View.ld x8 r0_1) (View.ld x9 r0_1) (View.ld x10 r0_1) (View.ld x11 r0_1)⟩,
      ⟨r0_0, uDk i 0#32 (View.ld x0 r0_0) (View.ld x1 r0_0) (View.ld x2 r0_0) (View.ld x3 r0_0) (View.ld x4 r0_0) (View.ld x5 r0_0) (View.ld x6 r0_0) (View.ld x7 r0_0) (View.ld x8 r0_0) (View.ld x9 r0_0) (View.ld x10 r0_0) (View.ld x11 r0_0)⟩] := by
  rfl

theorem out_dv : out0_14 i x0 x1 x2 x3 x4 x5 x6 x7 x8 x9 x10 x11
    = View.canon [⟨r0_11, uDv i 11#32 (View.ld x0 r0_11) (View.ld x1 r0_11) (View.ld x2 r0_11) (View.ld x3 r0_11) (View.ld x6 r0_11) (View.ld x7 r0_11) (View.ld x10 r0_11) (View.ld x11 r0_11)⟩,
      ⟨r0_10, uDv i 10#32 (View.ld x0 r0_10) (View.ld x1 r0_10) (View.ld x2 r0_10) (View.ld x3 r0_10) (View.ld x6 r0_10) (View.ld x7 r0_10) (View.ld x10 r0_10) (View.ld x11 r0_10)⟩,
      ⟨r0_9, uDv i 9#32 (View.ld x0 r0_9) (View.ld x1 r0_9) (View.ld x2 r0_9) (View.ld x3 r0_9) (View.ld x6 r0_9) (View.ld x7 r0_9) (View.ld x10 r0_9) (View.ld x11 r0_9)⟩,
      ⟨r0_8, uDv i 8#32 (View.ld x0 r0_8) (View.ld x1 r0_8) (View.ld x2 r0_8) (View.ld x3 r0_8) (View.ld x6 r0_8) (View.ld x7 r0_8) (View.ld x10 r0_8) (View.ld x11 r0_8)⟩,
      ⟨r0_7, uDv i 7#32 (View.ld x0 r0_7) (View.ld x1 r0_7) (View.ld x2 r0_7) (View.ld x3 r0_7) (View.ld x6 r0_7) (View.ld x7 r0_7) (View.ld x10 r0_7) (View.ld x11 r0_7)⟩,
      ⟨r0_6, uDv i 6#32 (View.ld x0 r0_6) (View.ld x1 r0_6) (View.ld x2 r0_6) (View.ld x3 r0_6) (View.ld x6 r0_6) (View.ld x7 r0_6) (View.ld x10 r0_6) (View.ld x11 r0_6)⟩,
      ⟨r0_5, uDv i 5#32 (View.ld x0 r0_5) (View.ld x1 r0_5) (View.ld x2 r0_5) (View.ld x3 r0_5) (View.ld x6 r0_5) (View.ld x7 r0_5) (View.ld x10 r0_5) (View.ld x11 r0_5)⟩,
      ⟨r0_4, uDv i 4#32 (View.ld x0 r0_4) (View.ld x1 r0_4) (View.ld x2 r0_4) (View.ld x3 r0_4) (View.ld x6 r0_4) (View.ld x7 r0_4) (View.ld x10 r0_4) (View.ld x11 r0_4)⟩,
      ⟨r0_3, uDv i 3#32 (View.ld x0 r0_3) (View.ld x1 r0_3) (View.ld x2 r0_3) (View.ld x3 r0_3) (View.ld x6 r0_3) (View.ld x7 r0_3) (View.ld x10 r0_3) (View.ld x11 r0_3)⟩,
      ⟨r0_2, uDv i 2#32 (View.ld x0 r0_2) (View.ld x1 r0_2) (View.ld x2 r0_2) (View.ld x3 r0_2) (View.ld x6 r0_2) (View.ld x7 r0_2) (View.ld x10 r0_2) (View.ld x11 r0_2)⟩,
      ⟨r0_1, uDv i 1#32 (View.ld x0 r0_1) (View.ld x1 r0_1) (View.ld x2 r0_1) (View.ld x3 r0_1) (View.ld x6 r0_1) (View.ld x7 r0_1) (View.ld x10 r0_1) (View.ld x11 r0_1)⟩,
      ⟨r0_0, uDv i 0#32 (View.ld x0 r0_0) (View.ld x1 r0_0) (View.ld x2 r0_0) (View.ld x3 r0_0) (View.ld x6 r0_0) (View.ld x7 r0_0) (View.ld x10 r0_0) (View.ld x11 r0_0)⟩] := by
  rfl

end Outs

/-- The three results, at row `t` or key `u` and column `col`. -/
def dqN (Q K V D Y L : ℕ → ℕ → EReal) (t col : ℕ) : EReal := ks * ∑ u : Fin 8192, DS Q K V D Y L (col / 128) t u.val * K u.val col
@[inherit_doc dqN]
def dkN (Q K V D Y L : ℕ → ℕ → EReal) (u col : ℕ) : EReal := ks * ∑ t : Fin 8192, DS Q K V D Y L (col / 128) t.val u * Q t.val col
@[inherit_doc dqN]
def dvN (Q K D L : ℕ → ℕ → EReal) (u col : ℕ) : EReal := ∑ t : Fin 8192, PP Q K L (col / 128) t.val u * D t.val col

/-- A block's columns of one head. -/
theorem ld_at {φ : EltTy} (x : Vec Ideal S128x1536 φ) (j o : ℕ) (hj : j < 12) (ho : 128 * j = o) (inb) (X : ℕ → ℕ → Elt Ideal φ) (ρ : Fin 128 → ℕ) (g h : ℕ)
    (hh : 12 * g + j = h) (hx : ∀ (r : Fin 128) (k : Fin 1536), x (ix2 r k) = X (ρ r) (1536 * g + k.val)) (r e : Fin 128) :
    View.ld x (Rect.unit (s := S128x1536) ![0, o] S128x128.size inb) (ix2 r e) = X (ρ r) (128 * h + e.val) := by
  have hr := r.isLt
  have he := e.isLt
  have e1 : (Rect.unit (s := S128x1536) ![0, o] S128x128.size inb).idx (ix2 r e) = ix2 r ⟨o + e.val, by omega⟩ := funext fun a => Fin.ext (by
    match a with
    | ⟨0, _⟩ => show 0 + 1 * r.val = r.val; omega
    | ⟨1, _⟩ => show o + 1 * e.val = o + e.val; omega)
  show x ((Rect.unit (s := S128x1536) ![0, o] S128x128.size inb).idx (ix2 r e)) = _
  rw [e1, hx]
  congr 1
  dsimp only; omega

/-- A 128 × 1536 block of an array. -/
def blockOf (X : ℕ → ℕ → EReal) (b g : ℕ) : Vec Ideal S128x1536 .bf16 := fun y => X (128 * b + (y 0).val) (1536 * g + (y 1).val)

section Pieces

variable (i : grid0.Coords) (x0 x1 x2 x3 x4 x5 : Vec Ideal S128x1536 .bf16) (x6 x7 x8 x9 x10 x11 : Vec Ideal S128x1536 .f32)
  (Q K V D Y L : ℕ → ℕ → EReal) (b g : ℕ) (hb : (i 2).val = b) (hg : (i 1).val = g)
  (h0 : ∀ (r : Fin 128) (k : Fin 1536), x0 (ix2 r k) = Q (128 * b + r.val) (1536 * g + k.val))
  (h1 : b < 63 → ∀ (r : Fin 128) (k : Fin 1536), x1 (ix2 r k) = Q (128 * b + r.val + 128) (1536 * g + k.val))
  (h2 : 0 < b → ∀ (r : Fin 128) (k : Fin 1536), x2 (ix2 r k) = K (128 * b + r.val - 128) (1536 * g + k.val))
  (h3 : ∀ (r : Fin 128) (k : Fin 1536), x3 (ix2 r k) = K (128 * b + r.val) (1536 * g + k.val))
  (h4 : 0 < b → ∀ (r : Fin 128) (k : Fin 1536), x4 (ix2 r k) = V (128 * b + r.val - 128) (1536 * g + k.val))
  (h5 : ∀ (r : Fin 128) (k : Fin 1536), x5 (ix2 r k) = V (128 * b + r.val) (1536 * g + k.val))
  (h6 : ∀ (r : Fin 128) (k : Fin 1536), x6 (ix2 r k) = D (128 * b + r.val) (1536 * g + k.val))
  (h7 : b < 63 → ∀ (r : Fin 128) (k : Fin 1536), x7 (ix2 r k) = D (128 * b + r.val + 128) (1536 * g + k.val))
  (h8 : ∀ (r : Fin 128) (k : Fin 1536), x8 (ix2 r k) = Y (128 * b + r.val) (1536 * g + k.val))
  (h9 : b < 63 → ∀ (r : Fin 128) (k : Fin 1536), x9 (ix2 r k) = Y (128 * b + r.val + 128) (1536 * g + k.val))
  (h10 : ∀ (r : Fin 128) (k : Fin 1536), x10 (ix2 r k) = L (128 * b + r.val) (1536 * g + k.val))
  (h11 : b < 63 → ∀ (r : Fin 128) (k : Fin 1536), x11 (ix2 r k) = L (128 * b + r.val + 128) (1536 * g + k.val))

section One

variable (j o : ℕ) (hj : j < 12) (ho : 128 * j = o) (inb : ∀ a, (![0, o] : Fin 2 → ℕ) a + S128x128.size a ≤ S128x1536.size a)

include hb hg h0 h2 h3 h4 h5 h6 h8 h10 hj ho in
theorem piece_dq (x : (Rect.unit (s := S128x1536) ![0, o] S128x128.size inb).shape.Idx) :
    uDq i (BitVec.ofNat 32 j) (View.ld x0 (Rect.unit (s := S128x1536) ![0, o] S128x128.size inb)) (View.ld x2 (Rect.unit (s := S128x1536) ![0, o] S128x128.size inb)) (View.ld x3 (Rect.unit (s := S128x1536) ![0, o] S128x128.size inb)) (View.ld x4 (Rect.unit (s := S128x1536) ![0, o] S128x128.size inb)) (View.ld x5 (Rect.unit (s := S128x1536) ![0, o] S128x128.size inb)) (View.ld x6 (Rect.unit (s := S128x1536) ![0, o] S128x128.size inb)) (View.ld x8 (Rect.unit (s := S128x1536) ![0, o] S128x128.size inb)) (View.ld x10 (Rect.unit (s := S128x1536) ![0, o] S128x128.size inb)) x
      = dqN Q K V D Y L (128 * b + ((Rect.unit (s := S128x1536) ![0, o] S128x128.size inb).emb x 0).val) (1536 * g + ((Rect.unit (s := S128x1536) ![0, o] S128x128.size inb).emb x 1).val) := by
  obtain ⟨r, e, rfl⟩ : ∃ (r e : Fin 128), x = ix2 r e := ⟨x 0, x 1, eq_ix2 x⟩
  have he := e.isLt
  have e0 : ((Rect.unit (s := S128x1536) ![0, o] S128x128.size inb).emb (ix2 r e) 0).val = r.val := by show 0 + 1 * r.val = r.val; omega
  have e1 : ((Rect.unit (s := S128x1536) ![0, o] S128x128.size inb).emb (ix2 r e) 1).val = o + e.val := by show o + 1 * e.val = _; omega
  rw [e0, e1]
  refine (uDq_at i j _ _ _ _ _ _ _ _ Q K V D Y L b (12 * g + j) hb hj (by rw [hg])
    (ld_at x0 j o hj ho inb Q _ g _ rfl h0) (ld_at x3 j o hj ho inb K _ g _ rfl h3) (ld_at x5 j o hj ho inb V _ g _ rfl h5)
    (ld_at x6 j o hj ho inb D _ g _ rfl h6) (ld_at x8 j o hj ho inb Y _ g _ rfl h8) (ld_at x10 j o hj ho inb L _ g _ rfl h10)
    (fun hn => ld_at x2 j o hj ho inb K _ g _ rfl (h2 hn)) (fun hn => ld_at x4 j o hj ho inb V _ g _ rfl (h4 hn)) r e).trans ?_
  unfold dqN
  have c1 : (1536 * g + (o + e.val)) / 128 = 12 * g + j := by omega
  have c2 : 1536 * g + (o + e.val) = 128 * (12 * g + j) + e.val := by omega
  rw [c1, c2]

include hb hg h0 h1 h2 h3 h4 h5 h6 h7 h8 h9 h10 h11 hj ho in
theorem piece_dk (x : (Rect.unit (s := S128x1536) ![0, o] S128x128.size inb).shape.Idx) :
    uDk i (BitVec.ofNat 32 j) (View.ld x0 (Rect.unit (s := S128x1536) ![0, o] S128x128.size inb)) (View.ld x1 (Rect.unit (s := S128x1536) ![0, o] S128x128.size inb)) (View.ld x2 (Rect.unit (s := S128x1536) ![0, o] S128x128.size inb)) (View.ld x3 (Rect.unit (s := S128x1536) ![0, o] S128x128.size inb)) (View.ld x4 (Rect.unit (s := S128x1536) ![0, o] S128x128.size inb)) (View.ld x5 (Rect.unit (s := S128x1536) ![0, o] S128x128.size inb)) (View.ld x6 (Rect.unit (s := S128x1536) ![0, o] S128x128.size inb)) (View.ld x7 (Rect.unit (s := S128x1536) ![0, o] S128x128.size inb)) (View.ld x8 (Rect.unit (s := S128x1536) ![0, o] S128x128.size inb))
        (View.ld x9 (Rect.unit (s := S128x1536) ![0, o] S128x128.size inb)) (View.ld x10 (Rect.unit (s := S128x1536) ![0, o] S128x128.size inb)) (View.ld x11 (Rect.unit (s := S128x1536) ![0, o] S128x128.size inb)) x
      = dkN Q K V D Y L (128 * b + ((Rect.unit (s := S128x1536) ![0, o] S128x128.size inb).emb x 0).val) (1536 * g + ((Rect.unit (s := S128x1536) ![0, o] S128x128.size inb).emb x 1).val) := by
  obtain ⟨r, e, rfl⟩ : ∃ (r e : Fin 128), x = ix2 r e := ⟨x 0, x 1, eq_ix2 x⟩
  have he := e.isLt
  have e0 : ((Rect.unit (s := S128x1536) ![0, o] S128x128.size inb).emb (ix2 r e) 0).val = r.val := by show 0 + 1 * r.val = r.val; omega
  have e1 : ((Rect.unit (s := S128x1536) ![0, o] S128x128.size inb).emb (ix2 r e) 1).val = o + e.val := by show o + 1 * e.val = _; omega
  rw [e0, e1]
  refine (uDk_at i j _ _ _ _ _ _ _ _ _ _ _ _ Q K V D Y L b (12 * g + j) hb hj (by rw [hg])
    (ld_at x0 j o hj ho inb Q _ g _ rfl h0) (ld_at x3 j o hj ho inb K _ g _ rfl h3) (ld_at x5 j o hj ho inb V _ g _ rfl h5)
    (ld_at x6 j o hj ho inb D _ g _ rfl h6) (ld_at x8 j o hj ho inb Y _ g _ rfl h8) (ld_at x10 j o hj ho inb L _ g _ rfl h10)
    (fun hn => ld_at x2 j o hj ho inb K _ g _ rfl (h2 hn)) (fun hn => ld_at x4 j o hj ho inb V _ g _ rfl (h4 hn))
    (fun hn => ld_at x1 j o hj ho inb Q _ g _ rfl (h1 hn)) (fun hn => ld_at x7 j o hj ho inb D _ g _ rfl (h7 hn))
    (fun hn => ld_at x9 j o hj ho inb Y _ g _ rfl (h9 hn)) (fun hn => ld_at x11 j o hj ho inb L _ g _ rfl (h11 hn)) r e).trans ?_
  unfold dkN
  have c1 : (1536 * g + (o + e.val)) / 128 = 12 * g + j := by omega
  have c2 : 1536 * g + (o + e.val) = 128 * (12 * g + j) + e.val := by omega
  rw [c1, c2]

include hb hg h0 h1 h2 h3 h6 h7 h10 h11 hj ho in
theorem piece_dv (x : (Rect.unit (s := S128x1536) ![0, o] S128x128.size inb).shape.Idx) :
    uDv i (BitVec.ofNat 32 j) (View.ld x0 (Rect.unit (s := S128x1536) ![0, o] S128x128.size inb)) (View.ld x1 (Rect.unit (s := S128x1536) ![0, o] S128x128.size inb)) (View.ld x2 (Rect.unit (s := S128x1536) ![0, o] S128x128.size inb)) (View.ld x3 (Rect.unit (s := S128x1536) ![0, o] S128x128.size inb)) (View.ld x6 (Rect.unit (s := S128x1536) ![0, o] S128x128.size inb)) (View.ld x7 (Rect.unit (s := S128x1536) ![0, o] S128x128.size inb)) (View.ld x10 (Rect.unit (s := S128x1536) ![0, o] S128x128.size inb)) (View.ld x11 (Rect.unit (s := S128x1536) ![0, o] S128x128.size inb)) x
      = dvN Q K D L (128 * b + ((Rect.unit (s := S128x1536) ![0, o] S128x128.size inb).emb x 0).val) (1536 * g + ((Rect.unit (s := S128x1536) ![0, o] S128x128.size inb).emb x 1).val) := by
  obtain ⟨r, e, rfl⟩ : ∃ (r e : Fin 128), x = ix2 r e := ⟨x 0, x 1, eq_ix2 x⟩
  have he := e.isLt
  have e0 : ((Rect.unit (s := S128x1536) ![0, o] S128x128.size inb).emb (ix2 r e) 0).val = r.val := by show 0 + 1 * r.val = r.val; omega
  have e1 : ((Rect.unit (s := S128x1536) ![0, o] S128x128.size inb).emb (ix2 r e) 1).val = o + e.val := by show o + 1 * e.val = _; omega
  rw [e0, e1]
  refine (uDv_at i j _ _ _ _ _ _ _ _ Q K D L b (12 * g + j) hb hj (by rw [hg])
    (ld_at x0 j o hj ho inb Q _ g _ rfl h0) (ld_at x3 j o hj ho inb K _ g _ rfl h3)
    (ld_at x6 j o hj ho inb D _ g _ rfl h6) (ld_at x10 j o hj ho inb L _ g _ rfl h10)
    (fun hn => ld_at x2 j o hj ho inb K _ g _ rfl (h2 hn))
    (fun hn => ld_at x1 j o hj ho inb Q _ g _ rfl (h1 hn)) (fun hn => ld_at x7 j o hj ho inb D _ g _ rfl (h7 hn))
    (fun hn => ld_at x11 j o hj ho inb L _ g _ rfl (h11 hn)) r e).trans ?_
  unfold dvN
  have c1 : (1536 * g + (o + e.val)) / 128 = 12 * g + j := by omega
  have c2 : 1536 * g + (o + e.val) = 128 * (12 * g + j) + e.val := by omega
  rw [c1, c2]

end One

include hb hg h0 h2 h3 h4 h5 h6 h8 h10 in
theorem out_dq_at (y : S128x1536.Idx) :
    out0_12 i x0 x1 x2 x3 x4 x5 x6 x7 x8 x9 x10 x11 y = dqN Q K V D Y L (128 * b + (y 0).val) (1536 * g + (y 1).val) := by
  rw [out_dq]
  refine View.canon_apply_of_pieces (blockOf (dqN Q K V D Y L) b g) _ (View.PiecesOf.mem (G := blockOf (dqN Q K V D Y L) b g) ?_) y
    (cover0_12 _ _ _ _ _ _ _ _ _ _ _ _ y)
  exact ⟨fun x => piece_dq i x0 x2 x3 x4 x5 x6 x8 x10 Q K V D Y L b g hb hg h0 h2 h3 h4 h5 h6 h8 h10 11 1408 (by decide) rfl _ x,
    fun x => piece_dq i x0 x2 x3 x4 x5 x6 x8 x10 Q K V D Y L b g hb hg h0 h2 h3 h4 h5 h6 h8 h10 10 1280 (by decide) rfl _ x,
    fun x => piece_dq i x0 x2 x3 x4 x5 x6 x8 x10 Q K V D Y L b g hb hg h0 h2 h3 h4 h5 h6 h8 h10 9 1152 (by decide) rfl _ x,
    fun x => piece_dq i x0 x2 x3 x4 x5 x6 x8 x10 Q K V D Y L b g hb hg h0 h2 h3 h4 h5 h6 h8 h10 8 1024 (by decide) rfl _ x,
    fun x => piece_dq i x0 x2 x3 x4 x5 x6 x8 x10 Q K V D Y L b g hb hg h0 h2 h3 h4 h5 h6 h8 h10 7 896 (by decide) rfl _ x,
    fun x => piece_dq i x0 x2 x3 x4 x5 x6 x8 x10 Q K V D Y L b g hb hg h0 h2 h3 h4 h5 h6 h8 h10 6 768 (by decide) rfl _ x,
    fun x => piece_dq i x0 x2 x3 x4 x5 x6 x8 x10 Q K V D Y L b g hb hg h0 h2 h3 h4 h5 h6 h8 h10 5 640 (by decide) rfl _ x,
    fun x => piece_dq i x0 x2 x3 x4 x5 x6 x8 x10 Q K V D Y L b g hb hg h0 h2 h3 h4 h5 h6 h8 h10 4 512 (by decide) rfl _ x,
    fun x => piece_dq i x0 x2 x3 x4 x5 x6 x8 x10 Q K V D Y L b g hb hg h0 h2 h3 h4 h5 h6 h8 h10 3 384 (by decide) rfl _ x,
    fun x => piece_dq i x0 x2 x3 x4 x5 x6 x8 x10 Q K V D Y L b g hb hg h0 h2 h3 h4 h5 h6 h8 h10 2 256 (by decide) rfl _ x,
    fun x => piece_dq i x0 x2 x3 x4 x5 x6 x8 x10 Q K V D Y L b g hb hg h0 h2 h3 h4 h5 h6 h8 h10 1 128 (by decide) rfl _ x,
    fun x => piece_dq i x0 x2 x3 x4 x5 x6 x8 x10 Q K V D Y L b g hb hg h0 h2 h3 h4 h5 h6 h8 h10 0 0 (by decide) rfl _ x, trivial⟩

include hb hg h0 h1 h2 h3 h4 h5 h6 h7 h8 h9 h10 h11 in
theorem out_dk_at (y : S128x1536.Idx) :
    out0_13 i x0 x1 x2 x3 x4 x5 x6 x7 x8 x9 x10 x11 y = dkN Q K V D Y L (128 * b + (y 0).val) (1536 * g + (y 1).val) := by
  rw [out_dk]
  refine View.canon_apply_of_pieces (blockOf (dkN Q K V D Y L) b g) _ (View.PiecesOf.mem (G := blockOf (dkN Q K V D Y L) b g) ?_) y
    (cover0_13 _ _ _ _ _ _ _ _ _ _ _ _ y)
  exact ⟨fun x => piece_dk i x0 x1 x2 x3 x4 x5 x6 x7 x8 x9 x10 x11 Q K V D Y L b g hb hg h0 h1 h2 h3 h4 h5 h6 h7 h8 h9 h10 h11 11 1408 (by decide) rfl _ x,
    fun x => piece_dk i x0 x1 x2 x3 x4 x5 x6 x7 x8 x9 x10 x11 Q K V D Y L b g hb hg h0 h1 h2 h3 h4 h5 h6 h7 h8 h9 h10 h11 10 1280 (by decide) rfl _ x,
    fun x => piece_dk i x0 x1 x2 x3 x4 x5 x6 x7 x8 x9 x10 x11 Q K V D Y L b g hb hg h0 h1 h2 h3 h4 h5 h6 h7 h8 h9 h10 h11 9 1152 (by decide) rfl _ x,
    fun x => piece_dk i x0 x1 x2 x3 x4 x5 x6 x7 x8 x9 x10 x11 Q K V D Y L b g hb hg h0 h1 h2 h3 h4 h5 h6 h7 h8 h9 h10 h11 8 1024 (by decide) rfl _ x,
    fun x => piece_dk i x0 x1 x2 x3 x4 x5 x6 x7 x8 x9 x10 x11 Q K V D Y L b g hb hg h0 h1 h2 h3 h4 h5 h6 h7 h8 h9 h10 h11 7 896 (by decide) rfl _ x,
    fun x => piece_dk i x0 x1 x2 x3 x4 x5 x6 x7 x8 x9 x10 x11 Q K V D Y L b g hb hg h0 h1 h2 h3 h4 h5 h6 h7 h8 h9 h10 h11 6 768 (by decide) rfl _ x,
    fun x => piece_dk i x0 x1 x2 x3 x4 x5 x6 x7 x8 x9 x10 x11 Q K V D Y L b g hb hg h0 h1 h2 h3 h4 h5 h6 h7 h8 h9 h10 h11 5 640 (by decide) rfl _ x,
    fun x => piece_dk i x0 x1 x2 x3 x4 x5 x6 x7 x8 x9 x10 x11 Q K V D Y L b g hb hg h0 h1 h2 h3 h4 h5 h6 h7 h8 h9 h10 h11 4 512 (by decide) rfl _ x,
    fun x => piece_dk i x0 x1 x2 x3 x4 x5 x6 x7 x8 x9 x10 x11 Q K V D Y L b g hb hg h0 h1 h2 h3 h4 h5 h6 h7 h8 h9 h10 h11 3 384 (by decide) rfl _ x,
    fun x => piece_dk i x0 x1 x2 x3 x4 x5 x6 x7 x8 x9 x10 x11 Q K V D Y L b g hb hg h0 h1 h2 h3 h4 h5 h6 h7 h8 h9 h10 h11 2 256 (by decide) rfl _ x,
    fun x => piece_dk i x0 x1 x2 x3 x4 x5 x6 x7 x8 x9 x10 x11 Q K V D Y L b g hb hg h0 h1 h2 h3 h4 h5 h6 h7 h8 h9 h10 h11 1 128 (by decide) rfl _ x,
    fun x => piece_dk i x0 x1 x2 x3 x4 x5 x6 x7 x8 x9 x10 x11 Q K V D Y L b g hb hg h0 h1 h2 h3 h4 h5 h6 h7 h8 h9 h10 h11 0 0 (by decide) rfl _ x, trivial⟩

include hb hg h0 h1 h2 h3 h6 h7 h10 h11 in
theorem out_dv_at (y : S128x1536.Idx) :
    out0_14 i x0 x1 x2 x3 x4 x5 x6 x7 x8 x9 x10 x11 y = dvN Q K D L (128 * b + (y 0).val) (1536 * g + (y 1).val) := by
  rw [out_dv]
  refine View.canon_apply_of_pieces (blockOf (dvN Q K D L) b g) _ (View.PiecesOf.mem (G := blockOf (dvN Q K D L) b g) ?_) y
    (cover0_14 _ _ _ _ _ _ _ _ _ _ _ _ y)
  exact ⟨fun x => piece_dv i x0 x1 x2 x3 x6 x7 x10 x11 Q K D L b g hb hg h0 h1 h2 h3 h6 h7 h10 h11 11 1408 (by decide) rfl _ x,
    fun x => piece_dv i x0 x1 x2 x3 x6 x7 x10 x11 Q K D L b g hb hg h0 h1 h2 h3 h6 h7 h10 h11 10 1280 (by decide) rfl _ x,
    fun x => piece_dv i x0 x1 x2 x3 x6 x7 x10 x11 Q K D L b g hb hg h0 h1 h2 h3 h6 h7 h10 h11 9 1152 (by decide) rfl _ x,
    fun x => piece_dv i x0 x1 x2 x3 x6 x7 x10 x11 Q K D L b g hb hg h0 h1 h2 h3 h6 h7 h10 h11 8 1024 (by decide) rfl _ x,
    fun x => piece_dv i x0 x1 x2 x3 x6 x7 x10 x11 Q K D L b g hb hg h0 h1 h2 h3 h6 h7 h10 h11 7 896 (by decide) rfl _ x,
    fun x => piece_dv i x0 x1 x2 x3 x6 x7 x10 x11 Q K D L b g hb hg h0 h1 h2 h3 h6 h7 h10 h11 6 768 (by decide) rfl _ x,
    fun x => piece_dv i x0 x1 x2 x3 x6 x7 x10 x11 Q K D L b g hb hg h0 h1 h2 h3 h6 h7 h10 h11 5 640 (by decide) rfl _ x,
    fun x => piece_dv i x0 x1 x2 x3 x6 x7 x10 x11 Q K D L b g hb hg h0 h1 h2 h3 h6 h7 h10 h11 4 512 (by decide) rfl _ x,
    fun x => piece_dv i x0 x1 x2 x3 x6 x7 x10 x11 Q K D L b g hb hg h0 h1 h2 h3 h6 h7 h10 h11 3 384 (by decide) rfl _ x,
    fun x => piece_dv i x0 x1 x2 x3 x6 x7 x10 x11 Q K D L b g hb hg h0 h1 h2 h3 h6 h7 h10 h11 2 256 (by decide) rfl _ x,
    fun x => piece_dv i x0 x1 x2 x3 x6 x7 x10 x11 Q K D L b g hb hg h0 h1 h2 h3 h6 h7 h10 h11 1 128 (by decide) rfl _ x,
    fun x => piece_dv i x0 x1 x2 x3 x6 x7 x10 x11 Q K D L b g hb hg h0 h1 h2 h3 h6 h7 h10 h11 0 0 (by decide) rfl _ x, trivial⟩

end Pieces

end Cert.Dil

end
-- ==== Proof.AttnArr.lean ====
/-
  THE DILATED ATTENTION'S GRADIENT, ARRAY BY ARRAY: the grid's point (head block g, row block b) reads rows b of every
  operand, the row block before of the keys and values and the row block after of the queries' side, and writes rows b
  of the three results; together the points write each result once.
-/
module

public import proofs.«01_k».proof.Proof.AttnBlock
public import proofs.«01_k».proof.Proof.At2
public import proofs.«01_k».proof.Proof.Gen.AttnIdeal.Value

@[expose] public section

set_option maxRecDepth 16384

noncomputable section

namespace Cert.Dil

open Cert.AttnIdeal Cert.AttnIdeal.Gen Idealize.ShloMosaic Idealize.ShloMosaic.TcCoe Idealize.SL.Sem
open Idealize.ShloMosaic.ValueIdx Cert.Row Cert.Dots
open Idealize.ShloMosaic.Pipeline (Dat)
open scoped BigOperators

variable (m : (ℓ : Loc nD τ sig) → Buf (Elt Ideal) ℓ) (c : Dev nD)

/-- The six operands, at natural-number indices. -/
abbrev aQ : ℕ → ℕ → EReal := at2 (a := 8192) (b := 3072) (V m c main_arg0)
@[inherit_doc aQ]
abbrev aK : ℕ → ℕ → EReal := at2 (a := 8192) (b := 3072) (V m c main_arg1)
@[inherit_doc aQ]
abbrev aV : ℕ → ℕ → EReal := at2 (a := 8192) (b := 3072) (V m c main_arg2)
@[inherit_doc aQ]
abbrev aD : ℕ → ℕ → EReal := at2 (a := 8192) (b := 3072) (V m c main_arg7)
@[inherit_doc aQ]
abbrev aY : ℕ → ℕ → EReal := at2 (a := 8192) (b := 3072) (V m c main_v82)
@[inherit_doc aQ]
abbrev aL : ℕ → ℕ → EReal := at2 (a := 8192) (b := 3072) (V m c main_v99)

/-- The grid's points in order: row block `t % 64` of head block `t / 64`. -/
theorem coords : ∀ t : Fin cfg0.N, ((grid0.coords t) 2).val = t.val % 64 ∧ ((grid0.coords t) 1).val = t.val / 64 := by decide +kernel

theorem index_0 : ∀ t : Fin cfg0.N, win0_0.index t 0 = t.val % 64 ∧ win0_0.index t 1 = t.val / 64 := by decide +kernel
theorem index_1 : ∀ t : Fin cfg0.N, win0_1.index t 0 = min (t.val % 64 + 1) 63 ∧ win0_1.index t 1 = t.val / 64 := by decide +kernel
theorem index_2 : ∀ t : Fin cfg0.N, win0_2.index t 0 = t.val % 64 - 1 ∧ win0_2.index t 1 = t.val / 64 := by decide +kernel
theorem index_3 : ∀ t : Fin cfg0.N, win0_3.index t 0 = t.val % 64 ∧ win0_3.index t 1 = t.val / 64 := by decide +kernel
theorem index_4 : ∀ t : Fin cfg0.N, win0_4.index t 0 = t.val % 64 - 1 ∧ win0_4.index t 1 = t.val / 64 := by decide +kernel
theorem index_5 : ∀ t : Fin cfg0.N, win0_5.index t 0 = t.val % 64 ∧ win0_5.index t 1 = t.val / 64 := by decide +kernel
theorem index_6 : ∀ t : Fin cfg0.N, win0_6.index t 0 = t.val % 64 ∧ win0_6.index t 1 = t.val / 64 := by decide +kernel
theorem index_7 : ∀ t : Fin cfg0.N, win0_7.index t 0 = min (t.val % 64 + 1) 63 ∧ win0_7.index t 1 = t.val / 64 := by decide +kernel
theorem index_8 : ∀ t : Fin cfg0.N, win0_8.index t 0 = t.val % 64 ∧ win0_8.index t 1 = t.val / 64 := by decide +kernel
theorem index_9 : ∀ t : Fin cfg0.N, win0_9.index t 0 = min (t.val % 64 + 1) 63 ∧ win0_9.index t 1 = t.val / 64 := by decide +kernel
theorem index_10 : ∀ t : Fin cfg0.N, win0_10.index t 0 = t.val % 64 ∧ win0_10.index t 1 = t.val / 64 := by decide +kernel
theorem index_11 : ∀ t : Fin cfg0.N, win0_11.index t 0 = min (t.val % 64 + 1) 63 ∧ win0_11.index t 1 = t.val / 64 := by decide +kernel
theorem index_12 : ∀ t : Fin cfg0.N, win0_12.index t 0 = t.val % 64 ∧ win0_12.index t 1 = t.val / 64 := by decide +kernel
theorem index_13 : ∀ t : Fin cfg0.N, win0_13.index t 0 = t.val % 64 ∧ win0_13.index t 1 = t.val / 64 := by decide +kernel
theorem index_14 : ∀ t : Fin cfg0.N, win0_14.index t 0 = t.val % 64 ∧ win0_14.index t 1 = t.val / 64 := by decide +kernel

/-! ## The blocks -/

theorem blk_0 (t : Fin cfg0.N) (r : Fin 128) (k : Fin 1536) : (iblk m c 0 t : Vec Ideal S128x1536 .bf16) (ix2 r k) = aQ m c (128 * (t.val % 64) + r.val) (1536 * (t.val / 64) + k.val) :=
  at2_eq (a := 8192) (b := 3072) (V m c main_arg0) ((win0_0.rect t).emb (ix2 r k)) _ _
    (by rw [win0_0.rect_emb_val t _ 0, (index_0 t).1]; show t.val % 64 * 128 + r.val = _; omega)
    (by rw [win0_0.rect_emb_val t _ 1, (index_0 t).2]; show t.val / 64 * 1536 + k.val = _; omega)
theorem blk_1 (t : Fin cfg0.N) (hn : t.val % 64 < 63) (r : Fin 128) (k : Fin 1536) : (iblk m c 1 t : Vec Ideal S128x1536 .bf16) (ix2 r k) = aQ m c (128 * (t.val % 64) + r.val + 128) (1536 * (t.val / 64) + k.val) :=
  at2_eq (a := 8192) (b := 3072) (V m c main_arg0) ((win0_1.rect t).emb (ix2 r k)) _ _
    (by rw [win0_1.rect_emb_val t _ 0, (index_1 t).1]; show min (t.val % 64 + 1) 63 * 128 + r.val = _; omega)
    (by rw [win0_1.rect_emb_val t _ 1, (index_1 t).2]; show t.val / 64 * 1536 + k.val = _; omega)
theorem blk_2 (t : Fin cfg0.N) (hn : 0 < t.val % 64) (r : Fin 128) (k : Fin 1536) : (iblk m c 2 t : Vec Ideal S128x1536 .bf16) (ix2 r k) = aK m c (128 * (t.val % 64) + r.val - 128) (1536 * (t.val / 64) + k.val) :=
  at2_eq (a := 8192) (b := 3072) (V m c main_arg1) ((win0_2.rect t).emb (ix2 r k)) _ _
    (by rw [win0_2.rect_emb_val t _ 0, (index_2 t).1]; show (t.val % 64 - 1) * 128 + r.val = _; omega)
    (by rw [win0_2.rect_emb_val t _ 1, (index_2 t).2]; show t.val / 64 * 1536 + k.val = _; omega)
theorem blk_3 (t : Fin cfg0.N) (r : Fin 128) (k : Fin 1536) : (iblk m c 3 t : Vec Ideal S128x1536 .bf16) (ix2 r k) = aK m c (128 * (t.val % 64) + r.val) (1536 * (t.val / 64) + k.val) :=
  at2_eq (a := 8192) (b := 3072) (V m c main_arg1) ((win0_3.rect t).emb (ix2 r k)) _ _
    (by rw [win0_3.rect_emb_val t _ 0, (index_3 t).1]; show t.val % 64 * 128 + r.val = _; omega)
    (by rw [win0_3.rect_emb_val t _ 1, (index_3 t).2]; show t.val / 64 * 1536 + k.val = _; omega)
theorem blk_4 (t : Fin cfg0.N) (hn : 0 < t.val % 64) (r : Fin 128) (k : Fin 1536) : (iblk m c 4 t : Vec Ideal S128x1536 .bf16) (ix2 r k) = aV m c (128 * (t.val % 64) + r.val - 128) (1536 * (t.val / 64) + k.val) :=
  at2_eq (a := 8192) (b := 3072) (V m c main_arg2) ((win0_4.rect t).emb (ix2 r k)) _ _
    (by rw [win0_4.rect_emb_val t _ 0, (index_4 t).1]; show (t.val % 64 - 1) * 128 + r.val = _; omega)
    (by rw [win0_4.rect_emb_val t _ 1, (index_4 t).2]; show t.val / 64 * 1536 + k.val = _; omega)
theorem blk_5 (t : Fin cfg0.N) (r : Fin 128) (k : Fin 1536) : (iblk m c 5 t : Vec Ideal S128x1536 .bf16) (ix2 r k) = aV m c (128 * (t.val % 64) + r.val) (1536 * (t.val / 64) + k.val) :=
  at2_eq (a := 8192) (b := 3072) (V m c main_arg2) ((win0_5.rect t).emb (ix2 r k)) _ _
    (by rw [win0_5.rect_emb_val t _ 0, (index_5 t).1]; show t.val % 64 * 128 + r.val = _; omega)
    (by rw [win0_5.rect_emb_val t _ 1, (index_5 t).2]; show t.val / 64 * 1536 + k.val = _; omega)
theorem blk_6 (t : Fin cfg0.N) (r : Fin 128) (k : Fin 1536) : (iblk m c 6 t : Vec Ideal S128x1536 .f32) (ix2 r k) = aD m c (128 * (t.val % 64) + r.val) (1536 * (t.val / 64) + k.val) :=
  at2_eq (a := 8192) (b := 3072) (V m c main_arg7) ((win0_6.rect t).emb (ix2 r k)) _ _
    (by rw [win0_6.rect_emb_val t _ 0, (index_6 t).1]; show t.val % 64 * 128 + r.val = _; omega)
    (by rw [win0_6.rect_emb_val t _ 1, (index_6 t).2]; show t.val / 64 * 1536 + k.val = _; omega)
theorem blk_7 (t : Fin cfg0.N) (hn : t.val % 64 < 63) (r : Fin 128) (k : Fin 1536) : (iblk m c 7 t : Vec Ideal S128x1536 .f32) (ix2 r k) = aD m c (128 * (t.val % 64) + r.val + 128) (1536 * (t.val / 64) + k.val) :=
  at2_eq (a := 8192) (b := 3072) (V m c main_arg7) ((win0_7.rect t).emb (ix2 r k)) _ _
    (by rw [win0_7.rect_emb_val t _ 0, (index_7 t).1]; show min (t.val % 64 + 1) 63 * 128 + r.val = _; omega)
    (by rw [win0_7.rect_emb_val t _ 1, (index_7 t).2]; show t.val / 64 * 1536 + k.val = _; omega)
theorem blk_8 (t : Fin cfg0.N) (r : Fin 128) (k : Fin 1536) : (iblk m c 8 t : Vec Ideal S128x1536 .f32) (ix2 r k) = aY m c (128 * (t.val % 64) + r.val) (1536 * (t.val / 64) + k.val) :=
  at2_eq (a := 8192) (b := 3072) (V m c main_v82) ((win0_8.rect t).emb (ix2 r k)) _ _
    (by rw [win0_8.rect_emb_val t _ 0, (index_8 t).1]; show t.val % 64 * 128 + r.val = _; omega)
    (by rw [win0_8.rect_emb_val t _ 1, (index_8 t).2]; show t.val / 64 * 1536 + k.val = _; omega)
theorem blk_9 (t : Fin cfg0.N) (hn : t.val % 64 < 63) (r : Fin 128) (k : Fin 1536) : (iblk m c 9 t : Vec Ideal S128x1536 .f32) (ix2 r k) = aY m c (128 * (t.val % 64) + r.val + 128) (1536 * (t.val / 64) + k.val) :=
  at2_eq (a := 8192) (b := 3072) (V m c main_v82) ((win0_9.rect t).emb (ix2 r k)) _ _
    (by rw [win0_9.rect_emb_val t _ 0, (index_9 t).1]; show min (t.val % 64 + 1) 63 * 128 + r.val = _; omega)
    (by rw [win0_9.rect_emb_val t _ 1, (index_9 t).2]; show t.val / 64 * 1536 + k.val = _; omega)
theorem blk_10 (t : Fin cfg0.N) (r : Fin 128) (k : Fin 1536) : (iblk m c 10 t : Vec Ideal S128x1536 .f32) (ix2 r k) = aL m c (128 * (t.val % 64) + r.val) (1536 * (t.val / 64) + k.val) :=
  at2_eq (a := 8192) (b := 3072) (V m c main_v99) ((win0_10.rect t).emb (ix2 r k)) _ _
    (by rw [win0_10.rect_emb_val t _ 0, (index_10 t).1]; show t.val % 64 * 128 + r.val = _; omega)
    (by rw [win0_10.rect_emb_val t _ 1, (index_10 t).2]; show t.val / 64 * 1536 + k.val = _; omega)
theorem blk_11 (t : Fin cfg0.N) (hn : t.val % 64 < 63) (r : Fin 128) (k : Fin 1536) : (iblk m c 11 t : Vec Ideal S128x1536 .f32) (ix2 r k) = aL m c (128 * (t.val % 64) + r.val + 128) (1536 * (t.val / 64) + k.val) :=
  at2_eq (a := 8192) (b := 3072) (V m c main_v99) ((win0_11.rect t).emb (ix2 r k)) _ _
    (by rw [win0_11.rect_emb_val t _ 0, (index_11 t).1]; show min (t.val % 64 + 1) 63 * 128 + r.val = _; omega)
    (by rw [win0_11.rect_emb_val t _ 1, (index_11 t).2]; show t.val / 64 * 1536 + k.val = _; omega)

/-! ## The results -/

def resDq : S8192x3072.Idx → EReal := fun i => dqN (aQ m c) (aK m c) (aV m c) (aD m c) (aY m c) (aL m c) (i 0).val (i 1).val

theorem cut_12 : ∀ t : Fin cfg0.N, win0_12.xsize (grid0.coords t) 0 = 128 ∧ win0_12.xsize (grid0.coords t) 1 = 1536 := by decide +kernel

theorem arr_cover_12 (i : S8192x3072.Idx) : ∃ t : Fin cfg0.N, (cfg0.win 12).flush t = true ∧ i ∈ ((cfg0.win 12).blk t).view.set := by
  have hN : cfg0.N = 128 := N_0
  have h0 : (i 0 : Nat) < 8192 := (i 0).isLt
  have h1 : (i 1 : Nat) < 3072 := (i 1).isLt
  have ht : 64 * ((i 1 : Nat) / 1536) + (i 0 : Nat) / 128 < cfg0.N := by omega
  refine ⟨⟨64 * ((i 1 : Nat) / 1536) + (i 0 : Nat) / 128, ht⟩, flush0_12 _, ?_⟩
  refine (Finset.ext_iff.mp (View.set_slice_whole main_v100_0 (win0_12.rect ⟨64 * ((i 1 : Nat) / 1536) + (i 0 : Nat) / 128, ht⟩)) i).mpr ?_
  rw [Rect.mem_set_unit]
  intro a
  match a with
  | ⟨0, _⟩ =>
      show win0_12.index _ 0 * 128 ≤ (i 0 : Nat) ∧ (i 0 : Nat) < win0_12.index _ 0 * 128 + win0_12.xsize _ 0
      rw [(index_12 _).1, (cut_12 _).1]; dsimp only; omega
  | ⟨1, _⟩ =>
      show win0_12.index _ 1 * 1536 ≤ (i 1 : Nat) ∧ (i 1 : Nat) < win0_12.index _ 1 * 1536 + win0_12.xsize _ 1
      rw [(index_12 _).2, (cut_12 _).2]; dsimp only; omega

theorem finalDq : (dats m 0 c).arrAt 12 cfg0.N = resDq m c := by
  refine (dats m 0 c).arrAt_eq_of_cover 12 (resDq m c) (fun t _ => ?_) fun i => arr_cover_12 i
  rw [Value.flushed12]
  funext y
  refine (out_dq_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (aQ m c) (aK m c) (aV m c) (aD m c) (aY m c) (aL m c) (t.val % 64) (t.val / 64) (coords t).1 (coords t).2 (blk_0 m c t) (blk_2 m c t) (blk_3 m c t) (blk_4 m c t) (blk_5 m c t) (blk_6 m c t) (blk_8 m c t) (blk_10 m c t) y).trans ?_
  have e0 : ((win0_12.rect t).emb y 0 : Nat) = 128 * (t.val % 64) + (y 0).val := by
    rw [win0_12.rect_emb_val t y 0, (index_12 t).1]; show t.val % 64 * 128 + _ = _; omega
  have e1 : ((win0_12.rect t).emb y 1 : Nat) = 1536 * (t.val / 64) + (y 1).val := by
    rw [win0_12.rect_emb_val t y 1, (index_12 t).2]; show t.val / 64 * 1536 + _ = _; omega
  show _ = dqN (aQ m c) (aK m c) (aV m c) (aD m c) (aY m c) (aL m c) ((win0_12.rect t).emb y 0).val ((win0_12.rect t).emb y 1).val
  rw [e0, e1]

def resDk : S8192x3072.Idx → EReal := fun i => dkN (aQ m c) (aK m c) (aV m c) (aD m c) (aY m c) (aL m c) (i 0).val (i 1).val

theorem cut_13 : ∀ t : Fin cfg0.N, win0_13.xsize (grid0.coords t) 0 = 128 ∧ win0_13.xsize (grid0.coords t) 1 = 1536 := by decide +kernel

theorem arr_cover_13 (i : S8192x3072.Idx) : ∃ t : Fin cfg0.N, (cfg0.win 13).flush t = true ∧ i ∈ ((cfg0.win 13).blk t).view.set := by
  have hN : cfg0.N = 128 := N_0
  have h0 : (i 0 : Nat) < 8192 := (i 0).isLt
  have h1 : (i 1 : Nat) < 3072 := (i 1).isLt
  have ht : 64 * ((i 1 : Nat) / 1536) + (i 0 : Nat) / 128 < cfg0.N := by omega
  refine ⟨⟨64 * ((i 1 : Nat) / 1536) + (i 0 : Nat) / 128, ht⟩, flush0_13 _, ?_⟩
  refine (Finset.ext_iff.mp (View.set_slice_whole main_v100_1 (win0_13.rect ⟨64 * ((i 1 : Nat) / 1536) + (i 0 : Nat) / 128, ht⟩)) i).mpr ?_
  rw [Rect.mem_set_unit]
  intro a
  match a with
  | ⟨0, _⟩ =>
      show win0_13.index _ 0 * 128 ≤ (i 0 : Nat) ∧ (i 0 : Nat) < win0_13.index _ 0 * 128 + win0_13.xsize _ 0
      rw [(index_13 _).1, (cut_13 _).1]; dsimp only; omega
  | ⟨1, _⟩ =>
      show win0_13.index _ 1 * 1536 ≤ (i 1 : Nat) ∧ (i 1 : Nat) < win0_13.index _ 1 * 1536 + win0_13.xsize _ 1
      rw [(index_13 _).2, (cut_13 _).2]; dsimp only; omega

theorem finalDk : (dats m 0 c).arrAt 13 cfg0.N = resDk m c := by
  refine (dats m 0 c).arrAt_eq_of_cover 13 (resDk m c) (fun t _ => ?_) fun i => arr_cover_13 i
  rw [Value.flushed13]
  funext y
  refine (out_dk_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (aQ m c) (aK m c) (aV m c) (aD m c) (aY m c) (aL m c) (t.val % 64) (t.val / 64) (coords t).1 (coords t).2 (blk_0 m c t) (blk_1 m c t) (blk_2 m c t) (blk_3 m c t) (blk_4 m c t) (blk_5 m c t) (blk_6 m c t) (blk_7 m c t) (blk_8 m c t) (blk_9 m c t) (blk_10 m c t) (blk_11 m c t) y).trans ?_
  have e0 : ((win0_13.rect t).emb y 0 : Nat) = 128 * (t.val % 64) + (y 0).val := by
    rw [win0_13.rect_emb_val t y 0, (index_13 t).1]; show t.val % 64 * 128 + _ = _; omega
  have e1 : ((win0_13.rect t).emb y 1 : Nat) = 1536 * (t.val / 64) + (y 1).val := by
    rw [win0_13.rect_emb_val t y 1, (index_13 t).2]; show t.val / 64 * 1536 + _ = _; omega
  show _ = dkN (aQ m c) (aK m c) (aV m c) (aD m c) (aY m c) (aL m c) ((win0_13.rect t).emb y 0).val ((win0_13.rect t).emb y 1).val
  rw [e0, e1]

def resDv : S8192x3072.Idx → EReal := fun i => dvN (aQ m c) (aK m c) (aD m c) (aL m c) (i 0).val (i 1).val

theorem cut_14 : ∀ t : Fin cfg0.N, win0_14.xsize (grid0.coords t) 0 = 128 ∧ win0_14.xsize (grid0.coords t) 1 = 1536 := by decide +kernel

theorem arr_cover_14 (i : S8192x3072.Idx) : ∃ t : Fin cfg0.N, (cfg0.win 14).flush t = true ∧ i ∈ ((cfg0.win 14).blk t).view.set := by
  have hN : cfg0.N = 128 := N_0
  have h0 : (i 0 : Nat) < 8192 := (i 0).isLt
  have h1 : (i 1 : Nat) < 3072 := (i 1).isLt
  have ht : 64 * ((i 1 : Nat) / 1536) + (i 0 : Nat) / 128 < cfg0.N := by omega
  refine ⟨⟨64 * ((i 1 : Nat) / 1536) + (i 0 : Nat) / 128, ht⟩, flush0_14 _, ?_⟩
  refine (Finset.ext_iff.mp (View.set_slice_whole main_v100_2 (win0_14.rect ⟨64 * ((i 1 : Nat) / 1536) + (i 0 : Nat) / 128, ht⟩)) i).mpr ?_
  rw [Rect.mem_set_unit]
  intro a
  match a with
  | ⟨0, _⟩ =>
      show win0_14.index _ 0 * 128 ≤ (i 0 : Nat) ∧ (i 0 : Nat) < win0_14.index _ 0 * 128 + win0_14.xsize _ 0
      rw [(index_14 _).1, (cut_14 _).1]; dsimp only; omega
  | ⟨1, _⟩ =>
      show win0_14.index _ 1 * 1536 ≤ (i 1 : Nat) ∧ (i 1 : Nat) < win0_14.index _ 1 * 1536 + win0_14.xsize _ 1
      rw [(index_14 _).2, (cut_14 _).2]; dsimp only; omega

theorem finalDv : (dats m 0 c).arrAt 14 cfg0.N = resDv m c := by
  refine (dats m 0 c).arrAt_eq_of_cover 14 (resDv m c) (fun t _ => ?_) fun i => arr_cover_14 i
  rw [Value.flushed14]
  funext y
  refine (out_dv_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (aQ m c) (aK m c) (aD m c) (aL m c) (t.val % 64) (t.val / 64) (coords t).1 (coords t).2 (blk_0 m c t) (blk_1 m c t) (blk_2 m c t) (blk_3 m c t) (blk_6 m c t) (blk_7 m c t) (blk_10 m c t) (blk_11 m c t) y).trans ?_
  have e0 : ((win0_14.rect t).emb y 0 : Nat) = 128 * (t.val % 64) + (y 0).val := by
    rw [win0_14.rect_emb_val t y 0, (index_14 t).1]; show t.val % 64 * 128 + _ = _; omega
  have e1 : ((win0_14.rect t).emb y 1 : Nat) = 1536 * (t.val / 64) + (y 1).val := by
    rw [win0_14.rect_emb_val t y 1, (index_14 t).2]; show t.val / 64 * 1536 + _ = _; omega
  show _ = dvN (aQ m c) (aK m c) (aD m c) (aL m c) ((win0_14.rect t).emb y 0).val ((win0_14.rect t).emb y 1).val
  rw [e0, e1]

end Cert.Dil

end
-- ==== Proof.AttnHost.lean ====
/-
  WHAT THE HOST HANDS THE KERNEL: the combined output and the log of the combined denominator, each the reference's own
  value of the same lines.
-/
module

public import proofs.«01_k».proof.Proof.AttnBlock
public import proofs.«01_k».proof.Proof.Gen.AttnIdeal.Value
public import proofs.«01_k».proof.Proof.Gen.AttnRefIdeal.Read
public import Idealize.ShloMosaic.Lib.StableHlo.RunRead

@[expose] public section

set_option maxRecDepth 65536
set_option maxHeartbeats 4000000

noncomputable section

namespace Cert.Dil

open Cert.AttnIdeal Cert.AttnIdeal.Gen Idealize.ShloMosaic Idealize.ShloMosaic.TcCoe Idealize.SL.Sem Idealize.ShloMosaic.StableHlo

variable (m : (ℓ : Loc nD τ sig) → Buf (Elt Ideal) ℓ) (c : Dev nD)

open Cert.AttnRefIdeal.Read

theorem after_split (ops : List (HloOp τ sig (Elt Ideal))) (W : Valuation τ sig (Elt Ideal)) (n : ℕ) :
    after ops W = after (ops.drop n) (after (ops.take n) W) := by
  rw [← after_append, List.take_append_drop]

section

variable (W : Valuation τ sig (Elt Ideal)) (x0 x1 x2 : (⟨S8192x3072, .bf16⟩ : BufTy).Contents (Elt Ideal))
  (x3 x5 : (⟨S8192x24x128, .f32⟩ : BufTy).Contents (Elt Ideal)) (x4 x6 : (⟨S8192x24, .f32⟩ : BufTy).Contents (Elt Ideal))

/-- Seven stretches of the host's lines, cut at the three concatenations. -/
abbrev seg0 : List (HloOp τ sig (Elt Ideal)) := (hostOps0_2.drop 0).take 21
abbrev seg1 : List (HloOp τ sig (Elt Ideal)) := (hostOps0_2.drop 21).take 1
abbrev seg2 : List (HloOp τ sig (Elt Ideal)) := (hostOps0_2.drop 22).take 18
abbrev seg3 : List (HloOp τ sig (Elt Ideal)) := (hostOps0_2.drop 40).take 1
abbrev seg4 : List (HloOp τ sig (Elt Ideal)) := (hostOps0_2.drop 41).take 8
abbrev seg5 : List (HloOp τ sig (Elt Ideal)) := (hostOps0_2.drop 49).take 1
abbrev seg6 : List (HloOp τ sig (Elt Ideal)) := (hostOps0_2.drop 50).take 16

theorem seg0_v54 (h_v42 : W (Proc.devRef .tc main_v42) = val_main_v42_0 (F := Ideal) x0 x1) (h_v18 : W (Proc.devRef .tc main_v18) = val_main_v18 (F := Ideal) x2) (h_arg3 : W (Proc.devRef .tc main_arg3) = x3) (h_arg4 : W (Proc.devRef .tc main_arg4) = x4) (h_arg5 : W (Proc.devRef .tc main_arg5) = x5) (h_arg6 : W (Proc.devRef .tc main_arg6) = x6) :
    after seg0 W (Proc.devRef .tc main_v54) = val_main_v59 (F := Ideal) x0 x1 x2 := by
  after_reads_simp
  simp only [h_v42, h_v18, h_arg3, h_arg4, h_arg5, h_arg6]
  simp only [val_main_v43, val_main_v49, val_main_v50, val_main_v51, val_main_v52, val_main_v53, val_main_v54, val_main_v55, val_main_v56, val_main_v57, val_main_v58, val_main_v59, val_main_v63, val_main_v64, val_main_v65, val_main_v66, val_main_v67, val_main_v68, val_main_v69, val_main_cst_6, val_main_cst_8]
  try generalize val_main_v42_0 (F := Ideal) x0 x1 = s
  try generalize val_main_v18 (F := Ideal) x2 = v
  try rfl

theorem seg0_v58 (h_v42 : W (Proc.devRef .tc main_v42) = val_main_v42_0 (F := Ideal) x0 x1) (h_v18 : W (Proc.devRef .tc main_v18) = val_main_v18 (F := Ideal) x2) (h_arg3 : W (Proc.devRef .tc main_arg3) = x3) (h_arg4 : W (Proc.devRef .tc main_arg4) = x4) (h_arg5 : W (Proc.devRef .tc main_arg5) = x5) (h_arg6 : W (Proc.devRef .tc main_arg6) = x6) :
    after seg0 W (Proc.devRef .tc main_v58) = val_main_v66 (F := Ideal) x0 x1 := by
  after_reads_simp
  simp only [h_v42, h_v18, h_arg3, h_arg4, h_arg5, h_arg6]
  simp only [val_main_v43, val_main_v49, val_main_v50, val_main_v51, val_main_v52, val_main_v53, val_main_v54, val_main_v55, val_main_v56, val_main_v57, val_main_v58, val_main_v59, val_main_v63, val_main_v64, val_main_v65, val_main_v66, val_main_v67, val_main_v68, val_main_v69, val_main_cst_6, val_main_cst_8]
  try generalize val_main_v42_0 (F := Ideal) x0 x1 = s
  try generalize val_main_v18 (F := Ideal) x2 = v
  try rfl

theorem seg0_v59 (h_v42 : W (Proc.devRef .tc main_v42) = val_main_v42_0 (F := Ideal) x0 x1) (h_v18 : W (Proc.devRef .tc main_v18) = val_main_v18 (F := Ideal) x2) (h_arg3 : W (Proc.devRef .tc main_arg3) = x3) (h_arg4 : W (Proc.devRef .tc main_arg4) = x4) (h_arg5 : W (Proc.devRef .tc main_arg5) = x5) (h_arg6 : W (Proc.devRef .tc main_arg6) = x6) :
    after seg0 W (Proc.devRef .tc main_v59) = val_main_v67 (F := Ideal) x0 x1 := by
  after_reads_simp
  simp only [h_v42, h_v18, h_arg3, h_arg4, h_arg5, h_arg6]
  simp only [val_main_v43, val_main_v49, val_main_v50, val_main_v51, val_main_v52, val_main_v53, val_main_v54, val_main_v55, val_main_v56, val_main_v57, val_main_v58, val_main_v59, val_main_v63, val_main_v64, val_main_v65, val_main_v66, val_main_v67, val_main_v68, val_main_v69, val_main_cst_6, val_main_cst_8]
  try generalize val_main_v42_0 (F := Ideal) x0 x1 = s
  try generalize val_main_v18 (F := Ideal) x2 = v
  try rfl

theorem seg0_v60 (h_v42 : W (Proc.devRef .tc main_v42) = val_main_v42_0 (F := Ideal) x0 x1) (h_v18 : W (Proc.devRef .tc main_v18) = val_main_v18 (F := Ideal) x2) (h_arg3 : W (Proc.devRef .tc main_arg3) = x3) (h_arg4 : W (Proc.devRef .tc main_arg4) = x4) (h_arg5 : W (Proc.devRef .tc main_arg5) = x5) (h_arg6 : W (Proc.devRef .tc main_arg6) = x6) :
    after seg0 W (Proc.devRef .tc main_v60) = val_main_v68 (F := Ideal) x4 := by
  after_reads_simp
  simp only [h_v42, h_v18, h_arg3, h_arg4, h_arg5, h_arg6]
  simp only [val_main_v43, val_main_v49, val_main_v50, val_main_v51, val_main_v52, val_main_v53, val_main_v54, val_main_v55, val_main_v56, val_main_v57, val_main_v58, val_main_v59, val_main_v63, val_main_v64, val_main_v65, val_main_v66, val_main_v67, val_main_v68, val_main_v69, val_main_cst_6, val_main_cst_8]
  try generalize val_main_v42_0 (F := Ideal) x0 x1 = s
  try generalize val_main_v18 (F := Ideal) x2 = v
  try rfl

theorem seg0_v61 (h_v42 : W (Proc.devRef .tc main_v42) = val_main_v42_0 (F := Ideal) x0 x1) (h_v18 : W (Proc.devRef .tc main_v18) = val_main_v18 (F := Ideal) x2) (h_arg3 : W (Proc.devRef .tc main_arg3) = x3) (h_arg4 : W (Proc.devRef .tc main_arg4) = x4) (h_arg5 : W (Proc.devRef .tc main_arg5) = x5) (h_arg6 : W (Proc.devRef .tc main_arg6) = x6) :
    after seg0 W (Proc.devRef .tc main_v61) = val_main_v69 (F := Ideal) x6 := by
  after_reads_simp
  simp only [h_v42, h_v18, h_arg3, h_arg4, h_arg5, h_arg6]
  simp only [val_main_v43, val_main_v49, val_main_v50, val_main_v51, val_main_v52, val_main_v53, val_main_v54, val_main_v55, val_main_v56, val_main_v57, val_main_v58, val_main_v59, val_main_v63, val_main_v64, val_main_v65, val_main_v66, val_main_v67, val_main_v68, val_main_v69, val_main_cst_6, val_main_cst_8]
  try generalize val_main_v42_0 (F := Ideal) x0 x1 = s
  try generalize val_main_v18 (F := Ideal) x2 = v
  try rfl

theorem seg1_v62 (h_v59 : W (Proc.devRef .tc main_v59) = val_main_v67 (F := Ideal) x0 x1) (h_v60 : W (Proc.devRef .tc main_v60) = val_main_v68 (F := Ideal) x4) (h_v61 : W (Proc.devRef .tc main_v61) = val_main_v69 (F := Ideal) x6) :
    after seg1 W (Proc.devRef .tc main_v62) = val_main_v70 (F := Ideal) x0 x1 x4 x6 := by
  have e : after seg1 W (Proc.devRef .tc main_v62) = Cert.AttnRefIdeal.Value.fn_main_v70 (F := Ideal) (W (Proc.devRef .tc main_v59)) (W (Proc.devRef .tc main_v60)) (W (Proc.devRef .tc main_v61)) := by after_reads_simp; rfl
  rw [e, h_v59, h_v60, h_v61]
  rfl

theorem seg2_v74 (h_v62 : W (Proc.devRef .tc main_v62) = val_main_v70 (F := Ideal) x0 x1 x4 x6) (h_v54 : W (Proc.devRef .tc main_v54) = val_main_v59 (F := Ideal) x0 x1 x2) (h_arg3 : W (Proc.devRef .tc main_arg3) = x3) (h_arg5 : W (Proc.devRef .tc main_arg5) = x5) :
    after seg2 W (Proc.devRef .tc main_v74) = val_main_v101 (F := Ideal) x0 x1 x4 x6 := by
  after_reads_simp
  simp only [h_v62, h_v54, h_arg3, h_arg5]
  simp only [val_main_v73, val_main_v79, val_main_v80, val_main_v90, val_main_v91, val_main_v92, val_main_v93, val_main_v94, val_main_v95, val_main_v96, val_main_v97, val_main_v101, val_main_v102, val_main_v103, val_main_v104, val_main_cst_12, val_main_cst_14, val_main_cst_20]
  try rfl

theorem seg2_v75 (h_v62 : W (Proc.devRef .tc main_v62) = val_main_v70 (F := Ideal) x0 x1 x4 x6) (h_v54 : W (Proc.devRef .tc main_v54) = val_main_v59 (F := Ideal) x0 x1 x2) (h_arg3 : W (Proc.devRef .tc main_arg3) = x3) (h_arg5 : W (Proc.devRef .tc main_arg5) = x5) :
    after seg2 W (Proc.devRef .tc main_v75) = val_main_v102 (F := Ideal) x0 x1 x2 := by
  after_reads_simp
  simp only [h_v62, h_v54, h_arg3, h_arg5]
  simp only [val_main_v73, val_main_v79, val_main_v80, val_main_v90, val_main_v91, val_main_v92, val_main_v93, val_main_v94, val_main_v95, val_main_v96, val_main_v97, val_main_v101, val_main_v102, val_main_v103, val_main_v104, val_main_cst_12, val_main_cst_14, val_main_cst_20]
  try rfl

theorem seg2_v76 (h_v62 : W (Proc.devRef .tc main_v62) = val_main_v70 (F := Ideal) x0 x1 x4 x6) (h_v54 : W (Proc.devRef .tc main_v54) = val_main_v59 (F := Ideal) x0 x1 x2) (h_arg3 : W (Proc.devRef .tc main_arg3) = x3) (h_arg5 : W (Proc.devRef .tc main_arg5) = x5) :
    after seg2 W (Proc.devRef .tc main_v76) = val_main_v103 (F := Ideal) x3 := by
  after_reads_simp
  simp only [h_v62, h_v54, h_arg3, h_arg5]
  simp only [val_main_v73, val_main_v79, val_main_v80, val_main_v90, val_main_v91, val_main_v92, val_main_v93, val_main_v94, val_main_v95, val_main_v96, val_main_v97, val_main_v101, val_main_v102, val_main_v103, val_main_v104, val_main_cst_12, val_main_cst_14, val_main_cst_20]
  try rfl

theorem seg2_v77 (h_v62 : W (Proc.devRef .tc main_v62) = val_main_v70 (F := Ideal) x0 x1 x4 x6) (h_v54 : W (Proc.devRef .tc main_v54) = val_main_v59 (F := Ideal) x0 x1 x2) (h_arg3 : W (Proc.devRef .tc main_arg3) = x3) (h_arg5 : W (Proc.devRef .tc main_arg5) = x5) :
    after seg2 W (Proc.devRef .tc main_v77) = val_main_v104 (F := Ideal) x5 := by
  after_reads_simp
  simp only [h_v62, h_v54, h_arg3, h_arg5]
  simp only [val_main_v73, val_main_v79, val_main_v80, val_main_v90, val_main_v91, val_main_v92, val_main_v93, val_main_v94, val_main_v95, val_main_v96, val_main_v97, val_main_v101, val_main_v102, val_main_v103, val_main_v104, val_main_cst_12, val_main_cst_14, val_main_cst_20]
  try rfl

theorem seg3_v78 (h_v75 : W (Proc.devRef .tc main_v75) = val_main_v102 (F := Ideal) x0 x1 x2) (h_v76 : W (Proc.devRef .tc main_v76) = val_main_v103 (F := Ideal) x3) (h_v77 : W (Proc.devRef .tc main_v77) = val_main_v104 (F := Ideal) x5) :
    after seg3 W (Proc.devRef .tc main_v78) = val_main_v105 (F := Ideal) x0 x1 x2 x3 x5 := by
  have e : after seg3 W (Proc.devRef .tc main_v78) = Cert.AttnRefIdeal.Value.fn_main_v105 (F := Ideal) (W (Proc.devRef .tc main_v75)) (W (Proc.devRef .tc main_v76)) (W (Proc.devRef .tc main_v77)) := by after_reads_simp; rfl
  rw [e, h_v75, h_v76, h_v77]
  rfl

theorem seg4_v82 (h_v74 : W (Proc.devRef .tc main_v74) = val_main_v101 (F := Ideal) x0 x1 x4 x6) (h_v78 : W (Proc.devRef .tc main_v78) = val_main_v105 (F := Ideal) x0 x1 x2 x3 x5) (h_v58 : W (Proc.devRef .tc main_v58) = val_main_v66 (F := Ideal) x0 x1) (h_arg4 : W (Proc.devRef .tc main_arg4) = x4) (h_arg6 : W (Proc.devRef .tc main_arg6) = x6) :
    after seg4 W (Proc.devRef .tc main_v82) = val_main_v111 (F := Ideal) x0 x1 x2 x3 x4 x5 x6 := by
  after_reads_simp
  simp only [h_v74, h_v78, h_v58, h_arg4, h_arg6]
  simp only [val_main_v108, val_main_v109, val_main_v110, val_main_v111, val_main_v67, val_main_v68, val_main_v69, val_main_cst_24]
  try rfl

theorem seg4_v83 (h_v74 : W (Proc.devRef .tc main_v74) = val_main_v101 (F := Ideal) x0 x1 x4 x6) (h_v78 : W (Proc.devRef .tc main_v78) = val_main_v105 (F := Ideal) x0 x1 x2 x3 x5) (h_v58 : W (Proc.devRef .tc main_v58) = val_main_v66 (F := Ideal) x0 x1) (h_arg4 : W (Proc.devRef .tc main_arg4) = x4) (h_arg6 : W (Proc.devRef .tc main_arg6) = x6) :
    after seg4 W (Proc.devRef .tc main_v83) = val_main_v67 (F := Ideal) x0 x1 := by
  after_reads_simp
  simp only [h_v74, h_v78, h_v58, h_arg4, h_arg6]
  simp only [val_main_v108, val_main_v109, val_main_v110, val_main_v111, val_main_v67, val_main_v68, val_main_v69, val_main_cst_24]
  try rfl

theorem seg4_v84 (h_v74 : W (Proc.devRef .tc main_v74) = val_main_v101 (F := Ideal) x0 x1 x4 x6) (h_v78 : W (Proc.devRef .tc main_v78) = val_main_v105 (F := Ideal) x0 x1 x2 x3 x5) (h_v58 : W (Proc.devRef .tc main_v58) = val_main_v66 (F := Ideal) x0 x1) (h_arg4 : W (Proc.devRef .tc main_arg4) = x4) (h_arg6 : W (Proc.devRef .tc main_arg6) = x6) :
    after seg4 W (Proc.devRef .tc main_v84) = val_main_v68 (F := Ideal) x4 := by
  after_reads_simp
  simp only [h_v74, h_v78, h_v58, h_arg4, h_arg6]
  simp only [val_main_v108, val_main_v109, val_main_v110, val_main_v111, val_main_v67, val_main_v68, val_main_v69, val_main_cst_24]
  try rfl

theorem seg4_v85 (h_v74 : W (Proc.devRef .tc main_v74) = val_main_v101 (F := Ideal) x0 x1 x4 x6) (h_v78 : W (Proc.devRef .tc main_v78) = val_main_v105 (F := Ideal) x0 x1 x2 x3 x5) (h_v58 : W (Proc.devRef .tc main_v58) = val_main_v66 (F := Ideal) x0 x1) (h_arg4 : W (Proc.devRef .tc main_arg4) = x4) (h_arg6 : W (Proc.devRef .tc main_arg6) = x6) :
    after seg4 W (Proc.devRef .tc main_v85) = val_main_v69 (F := Ideal) x6 := by
  after_reads_simp
  simp only [h_v74, h_v78, h_v58, h_arg4, h_arg6]
  simp only [val_main_v108, val_main_v109, val_main_v110, val_main_v111, val_main_v67, val_main_v68, val_main_v69, val_main_cst_24]
  try rfl

theorem seg5_v86 (h_v83 : W (Proc.devRef .tc main_v83) = val_main_v67 (F := Ideal) x0 x1) (h_v84 : W (Proc.devRef .tc main_v84) = val_main_v68 (F := Ideal) x4) (h_v85 : W (Proc.devRef .tc main_v85) = val_main_v69 (F := Ideal) x6) :
    after seg5 W (Proc.devRef .tc main_v86) = val_main_v70 (F := Ideal) x0 x1 x4 x6 := by
  have e : after seg5 W (Proc.devRef .tc main_v86) = Cert.AttnRefIdeal.Value.fn_main_v70 (F := Ideal) (W (Proc.devRef .tc main_v83)) (W (Proc.devRef .tc main_v84)) (W (Proc.devRef .tc main_v85)) := by after_reads_simp; rfl
  rw [e, h_v83, h_v84, h_v85]
  rfl

/-- The log of the combined denominator, one number per row and head. -/
def lseT : (⟨S8192x24, .f32⟩ : BufTy).Contents (Elt Ideal) :=
  addf (F := Ideal) (φ := .f32) (val_main_v80 (F := Ideal) x0 x1 x4 x6) (Host.log (F := Ideal) (φ := .f32) (val_main_v94 (F := Ideal) x0 x1 x4 x6))

/-- The same number for each of a head's columns. -/
def lseB : (⟨S8192x3072, .f32⟩ : BufTy).Contents (Elt Ideal) :=
  shapeCast S8192x3072 (broadcastInDim S8192x24x128 ![0, 1, 2] bcast_S8192x24x1_S8192x24x128_0_1_2
    (broadcastInDim S8192x24x1 ![0, 1] bcast_S8192x24_S8192x24x1_0_1 (lseT x0 x1 x4 x6))) shapeCasts_S8192x24x128_S8192x3072

theorem seg6_v99 (h_v86 : W (Proc.devRef .tc main_v86) = val_main_v70 (F := Ideal) x0 x1 x4 x6) :
    after seg6 W (Proc.devRef .tc main_v99) = lseB x0 x1 x4 x6 := by
  after_reads_simp
  simp only [h_v86]
  unfold lseB lseT
  simp only [val_main_v80, val_main_v79, val_main_v73, val_main_v90, val_main_v91, val_main_v92, val_main_v93, val_main_v94, val_main_cst_12, val_main_cst_14, val_main_cst_20]
  try rfl

end

/-! ## The two arrays -/

section

variable (M : Valuation τ sig (Elt Ideal))

abbrev W0 : Valuation τ sig (Elt Ideal) := after hostOps0_1 (after hostOps0 M)

theorem W0_v42 : W0 M (Proc.devRef .tc main_v42) = val_main_v42_0 (F := Ideal) (M (Proc.devRef .tc main_arg0)) (M (Proc.devRef .tc main_arg1)) := by
  after_reads_simp
  rfl
theorem W0_v18 : W0 M (Proc.devRef .tc main_v18) = val_main_v18 (F := Ideal) (M (Proc.devRef .tc main_arg2)) := by
  after_reads_simp
  rfl

theorem after_all (W : Valuation τ sig (Elt Ideal)) :
    after hostOps0_2 W = after seg6 (after seg5 (after seg4 (after seg3 (after seg2 (after seg1 (after seg0 W)))))) := by
  simp only [← after_append]
  rfl

theorem lseB_at (x0 x1 : (⟨S8192x3072, .bf16⟩ : BufTy).Contents (Elt Ideal)) (x4 x6 : (⟨S8192x24, .f32⟩ : BufTy).Contents (Elt Ideal)) (i : S8192x3072.Idx) (j : S8192x24.Idx)
    (h0 : (i 0).val = (j 0).val) (h1 : (i 1).val / 128 = (j 1).val) : lseB x0 x1 x4 x6 i = lseT x0 x1 x4 x6 j := by
  unfold lseB
  generalize lseT x0 x1 x4 x6 = z
  have b1 : (i 1).val < 3072 := (i 1).isLt
  rw [shapeCast_apply _ shapeCasts_S8192x24x128_S8192x3072 i (fun a => match a with
      | ⟨0, _⟩ => ⟨(j 0).val, (j 0).isLt⟩
      | ⟨1, _⟩ => ⟨(j 1).val, (j 1).isLt⟩
      | ⟨2, _⟩ => ⟨(i 1).val % 128, Nat.mod_lt _ (by decide)⟩ : S8192x24x128.Idx)
    (by rewrite [Shape.rowMajor_val_three, Shape.rowMajor_val_two]; show ((j 0).val * 24 + (j 1).val) * 128 + (i 1).val % 128 = (i 0).val * 3072 + (i 1).val; omega)]
  rw [broadcastInDim_apply _ bcast_S8192x24x1_S8192x24x128_0_1_2 _ _ (fun a => match a with
      | ⟨0, _⟩ => ⟨(j 0).val, (j 0).isLt⟩
      | ⟨1, _⟩ => ⟨(j 1).val, (j 1).isLt⟩
      | ⟨2, _⟩ => ⟨0, Nat.one_pos⟩ : S8192x24x1.Idx) (fun a => match a with
    | ⟨0, _⟩ => by show (j 0).val = if (8192 : Nat) = 1 then 0 else (j 0).val; rw [if_neg (by decide)]
    | ⟨1, _⟩ => by show (j 1).val = if (24 : Nat) = 1 then 0 else (j 1).val; rw [if_neg (by decide)]
    | ⟨2, _⟩ => by show 0 = if (1 : Nat) = 1 then 0 else (i 1).val % 128; rw [if_pos rfl])]
  rw [broadcastInDim_apply _ bcast_S8192x24_S8192x24x1_0_1 z _ j (fun a => match a with
    | ⟨0, _⟩ => by show (j 0).val = if (8192 : Nat) = 1 then 0 else (j 0).val; rw [if_neg (by decide)]
    | ⟨1, _⟩ => by show (j 1).val = if (24 : Nat) = 1 then 0 else (j 1).val; rw [if_neg (by decide)])]

theorem both : after hostOps0_2 (W0 M) (Proc.devRef .tc main_v82) = val_main_v111 (F := Ideal) (M (Proc.devRef .tc main_arg0)) (M (Proc.devRef .tc main_arg1)) (M (Proc.devRef .tc main_arg2)) (M (Proc.devRef .tc main_arg3)) (M (Proc.devRef .tc main_arg4)) (M (Proc.devRef .tc main_arg5)) (M (Proc.devRef .tc main_arg6))
    ∧ after hostOps0_2 (W0 M) (Proc.devRef .tc main_v99) = lseB (M (Proc.devRef .tc main_arg0)) (M (Proc.devRef .tc main_arg1)) (M (Proc.devRef .tc main_arg4)) (M (Proc.devRef .tc main_arg6)) := by
  have a3 : W0 M (Proc.devRef .tc main_arg3) = M (Proc.devRef .tc main_arg3) := by after_reads_simp
  have a4 : W0 M (Proc.devRef .tc main_arg4) = M (Proc.devRef .tc main_arg4) := by after_reads_simp
  have a5 : W0 M (Proc.devRef .tc main_arg5) = M (Proc.devRef .tc main_arg5) := by after_reads_simp
  have a6 : W0 M (Proc.devRef .tc main_arg6) = M (Proc.devRef .tc main_arg6) := by after_reads_simp
  have a42 := W0_v42 M
  have a18 := W0_v18 M
  rw [after_all]
  generalize W0 M = V0 at *
  have k0_v54 := seg0_v54 V0 _ _ _ _ _ _ _ a42 a18 a3 a4 a5 a6
  have k0_v58 := seg0_v58 V0 _ _ _ _ _ _ _ a42 a18 a3 a4 a5 a6
  have k0_v59 := seg0_v59 V0 _ _ _ _ _ _ _ a42 a18 a3 a4 a5 a6
  have k0_v60 := seg0_v60 V0 _ _ _ _ _ _ _ a42 a18 a3 a4 a5 a6
  have k0_v61 := seg0_v61 V0 _ _ _ _ _ _ _ a42 a18 a3 a4 a5 a6
  have k0_arg3 := (show after seg0 V0 (Proc.devRef .tc main_arg3) = V0 (Proc.devRef .tc main_arg3) from by after_reads_simp).trans a3
  have k0_arg4 := (show after seg0 V0 (Proc.devRef .tc main_arg4) = V0 (Proc.devRef .tc main_arg4) from by after_reads_simp).trans a4
  have k0_arg5 := (show after seg0 V0 (Proc.devRef .tc main_arg5) = V0 (Proc.devRef .tc main_arg5) from by after_reads_simp).trans a5
  have k0_arg6 := (show after seg0 V0 (Proc.devRef .tc main_arg6) = V0 (Proc.devRef .tc main_arg6) from by after_reads_simp).trans a6
  generalize after seg0 V0 = V1 at *
  have k1_v62 := seg1_v62 V1 _ _ _ _ k0_v59 k0_v60 k0_v61
  have k1_v54 := (show after seg1 V1 (Proc.devRef .tc main_v54) = V1 (Proc.devRef .tc main_v54) from by after_reads_simp).trans k0_v54
  have k1_v58 := (show after seg1 V1 (Proc.devRef .tc main_v58) = V1 (Proc.devRef .tc main_v58) from by after_reads_simp).trans k0_v58
  have k1_arg3 := (show after seg1 V1 (Proc.devRef .tc main_arg3) = V1 (Proc.devRef .tc main_arg3) from by after_reads_simp).trans k0_arg3
  have k1_arg4 := (show after seg1 V1 (Proc.devRef .tc main_arg4) = V1 (Proc.devRef .tc main_arg4) from by after_reads_simp).trans k0_arg4
  have k1_arg5 := (show after seg1 V1 (Proc.devRef .tc main_arg5) = V1 (Proc.devRef .tc main_arg5) from by after_reads_simp).trans k0_arg5
  have k1_arg6 := (show after seg1 V1 (Proc.devRef .tc main_arg6) = V1 (Proc.devRef .tc main_arg6) from by after_reads_simp).trans k0_arg6
  generalize after seg1 V1 = V2 at *
  have k2_v74 := seg2_v74 V2 _ _ _ _ _ _ _ k1_v62 k1_v54 k1_arg3 k1_arg5
  have k2_v75 := seg2_v75 V2 _ _ _ _ _ _ _ k1_v62 k1_v54 k1_arg3 k1_arg5
  have k2_v76 := seg2_v76 V2 _ _ _ _ _ _ _ k1_v62 k1_v54 k1_arg3 k1_arg5
  have k2_v77 := seg2_v77 V2 _ _ _ _ _ _ _ k1_v62 k1_v54 k1_arg3 k1_arg5
  have k2_v58 := (show after seg2 V2 (Proc.devRef .tc main_v58) = V2 (Proc.devRef .tc main_v58) from by after_reads_simp).trans k1_v58
  have k2_arg4 := (show after seg2 V2 (Proc.devRef .tc main_arg4) = V2 (Proc.devRef .tc main_arg4) from by after_reads_simp).trans k1_arg4
  have k2_arg6 := (show after seg2 V2 (Proc.devRef .tc main_arg6) = V2 (Proc.devRef .tc main_arg6) from by after_reads_simp).trans k1_arg6
  generalize after seg2 V2 = V3 at *
  have k3_v78 := seg3_v78 V3 _ _ _ _ _ k2_v75 k2_v76 k2_v77
  have k3_v74 := (show after seg3 V3 (Proc.devRef .tc main_v74) = V3 (Proc.devRef .tc main_v74) from by after_reads_simp).trans k2_v74
  have k3_v58 := (show after seg3 V3 (Proc.devRef .tc main_v58) = V3 (Proc.devRef .tc main_v58) from by after_reads_simp).trans k2_v58
  have k3_arg4 := (show after seg3 V3 (Proc.devRef .tc main_arg4) = V3 (Proc.devRef .tc main_arg4) from by after_reads_simp).trans k2_arg4
  have k3_arg6 := (show after seg3 V3 (Proc.devRef .tc main_arg6) = V3 (Proc.devRef .tc main_arg6) from by after_reads_simp).trans k2_arg6
  generalize after seg3 V3 = V4 at *
  have k4_v82 := seg4_v82 V4 _ _ _ _ _ _ _ k3_v74 k3_v78 k3_v58 k3_arg4 k3_arg6
  have k4_v83 := seg4_v83 V4 _ _ _ _ _ _ _ k3_v74 k3_v78 k3_v58 k3_arg4 k3_arg6
  have k4_v84 := seg4_v84 V4 _ _ _ _ _ _ _ k3_v74 k3_v78 k3_v58 k3_arg4 k3_arg6
  have k4_v85 := seg4_v85 V4 _ _ _ _ _ _ _ k3_v74 k3_v78 k3_v58 k3_arg4 k3_arg6
  generalize after seg4 V4 = V5 at *
  have k5_v86 := seg5_v86 V5 _ _ _ _ k4_v83 k4_v84 k4_v85
  have k5_v82 := (show after seg5 V5 (Proc.devRef .tc main_v82) = V5 (Proc.devRef .tc main_v82) from by after_reads_simp).trans k4_v82
  generalize after seg5 V5 = V6 at *
  have k6_v99 := seg6_v99 V6 _ _ _ _ k5_v86
  have k6_v82 := (show after seg6 V6 (Proc.devRef .tc main_v82) = V6 (Proc.devRef .tc main_v82) from by after_reads_simp).trans k5_v82
  exact ⟨k6_v82, k6_v99⟩

end

theorem V_split (b : Ref sig .tc) : V m c b = after hostOps0_2 (W0 (fun b => m (c, b))) (Proc.devRef .tc b) := by
  show after (List.flatten [hostOps0, hostOps0_1, hostOps0_2]) (fun b => m (c, b)) (Proc.devRef .tc b) = _
  rw [show List.flatten [hostOps0, hostOps0_1, hostOps0_2] = hostOps0 (F := Ideal) ++ (hostOps0_1 ++ hostOps0_2) from by
    rw [List.flatten_cons, List.flatten_cons, List.flatten_cons, List.flatten_nil, List.append_nil], after_append, after_append]

theorem host_y : V m c main_v82 = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (V_split m c _).trans (both _).1
theorem host_l : V m c main_v99 = lseB (m ((c : Thread nD τ).loc main_arg0)) (m ((c : Thread nD τ).loc main_arg1)) (m ((c : Thread nD τ).loc main_arg4)) (m ((c : Thread nD τ).loc main_arg6)) :=
  (V_split m c _).trans (both _).2

end Cert.Dil

end
-- ==== Proof.AttnEq.lean ====
/-
  THE TWO SIDES MEET: under finite inputs the flash form of each of the three gradients, computed from the mixed output and
  its log-sum, is what differentiating the reference gives.
-/
module

public import proofs.«01_k».proof.Proof.AttnRefB
public import proofs.«01_k».proof.Proof.AttnArr
public import proofs.«01_k».proof.Proof.AttnHost
public import proofs.«01_k».proof.Proof.Gen.Pre_inputs_finite
public import Idealize.ShloMosaic.Lib.ReduceAll

@[expose] public section

set_option maxRecDepth 16384

noncomputable section

namespace Cert.Mix

open Idealize.ShloMosaic Idealize.ShloMosaic.ValueIdx Idealize.SL.Sem
open Cert.Row
open Cert.Dil (ks SC LM PP DP DS dqN dkN dvN)
open scoped BigOperators

/-! ## The kernel's functions of real arrays -/

section Real

variable (D : Dat) (Q K V Y L C : ℕ → ℕ → EReal)

/-- What the kernel reads. -/
structure Reads : Prop where
  q : ∀ r c, r < 8192 → c < 3072 → Q r c = ((D.q r c : ℝ) : EReal)
  k : ∀ r c, r < 8192 → c < 3072 → K r c = ((D.k r c : ℝ) : EReal)
  v : ∀ r c, r < 8192 → c < 3072 → V r c = ((D.v r c : ℝ) : EReal)
  c : ∀ r c, r < 8192 → c < 3072 → C r c = ((D.dy r c : ℝ) : EReal)
  y : ∀ (t h : ℕ) (e : Fin 128), t < 8192 → h < 24 → Y t (128 * h + e.val) = ((yR (D.og h t) (D.z h t) (D.Z h t) e : ℝ) : EReal)
  l : ∀ (t h : ℕ) (e : Fin 128), t < 8192 → h < 24 → L t (128 * h + e.val) = ((D.top h t + Real.log (D.Z h t) : ℝ) : EReal)

variable {D Q K V Y L C} (R : Reads D Q K V Y L C)
include R

theorem sc_eq (h t u : ℕ) (hh : h < 24) (ht : t < 8192) (hu : u < 8192) : SC Q K h t u = ((D.sg h t u : ℝ) : EReal) := by
  unfold SC Dat.sg
  rw [ks_coe, slope_coe, EReal.coe_sub, EReal.coe_mul, EReal.coe_mul, ← coe_sum]
  refine congrArg (· * _ - _) (Finset.sum_congr rfl fun e _ => ?_)
  have he := e.isLt
  rw [R.q _ _ ht (by omega), R.k _ _ hu (by omega), EReal.coe_mul]

theorem lm_eq (h t : ℕ) (hh : h < 24) (ht : t < 8192) : LM L h t = ((D.top h t + Real.log (D.Z h t) : ℝ) : EReal) := by
  obtain ⟨_, _, e⟩ := fold_max_mask (n := 128) (fun _ => True) (fun _ => D.top h t + Real.log (D.Z h t)) 0 trivial
  simp only [if_true] at e
  unfold LM
  rw [← e, Dots.ofBits_ninf]
  exact Finset.fold_congr fun k _ => R.l t h k ht hh

/-- The share of a row's own attention in the mix, over its sum. -/
def share (D : Dat) (h t : ℕ) : ℝ := D.z h t 0 * (1 / D.Z h t) * (1 / D.de h t)

theorem pp_eq (h t u : ℕ) (hh : h < 24) (ht : t < 8192) (hu : u < 8192) : PP Q K L h t u = ((D.pi h t u * share D h t : ℝ) : EReal) := by
  unfold PP
  rw [sc_eq R h t u hh ht hu, lm_eq R h t hh ht]
  unfold Dat.pi
  change Ideal.exp ((if ok t u then _ else _) - _) = _
  by_cases hv : ok t u
  · rw [if_pos hv, if_pos hv, ← EReal.coe_sub, Ideal.exp_coe]
    exact congrArg _ (exp_lse (de_pos D h t ht) (Z_pos D h t) rfl).symm
  · rw [if_neg hv, if_neg hv, EReal.bot_sub, Ideal.exp_bot, zero_mul, EReal.coe_zero]

theorem ds_eq (h t u : ℕ) (hh : h < 24) (ht : t < 8192) (hu : u < 8192) :
    DS Q K V C Y L h t u = ((D.G h t ⟨u, hu⟩ : ℝ) : EReal) := by
  have hv : DP C V h t u = ((∑ e, D.Yc h t e * D.Vr h ⟨u, hu⟩ e : ℝ) : EReal) := by
    unfold DP; rw [← coe_sum]
    refine Finset.sum_congr rfl fun e _ => ?_
    have he := e.isLt
    rw [R.c _ _ ht (by omega), R.v _ _ hu (by omega), EReal.coe_mul]; rfl
  have hy : DP C Y h t t = ((∑ e, D.Yc h t e * yR (D.og h t) (D.z h t) (D.Z h t) e : ℝ) : EReal) := by
    unfold DP; rw [← coe_sum]
    refine Finset.sum_congr rfl fun e _ => ?_
    have he := e.isLt
    rw [R.c _ _ ht (by omega), R.y t h e ht hh, EReal.coe_mul]; rfl
  unfold DS
  rw [pp_eq R h t u hh ht hu, hv, hy, ← EReal.coe_sub, ← EReal.coe_mul]
  exact congrArg _ (gR_eq (p := D.P h t) (v := D.Vr h) (dy := D.Yc h t) (og := D.og h t) (z := D.z h t) (de_pos D h t ht).ne' (Z_pos D h t).ne' (fun _ => rfl) ⟨u, hu⟩).symm

theorem dqN_eq (t col : ℕ) (ht : t < 8192) (hc : col < 3072) : dqN Q K V C Y L t col
    = ((∑ u : Fin 8192, D.G (col / 128) t u * ksR * D.k u.val col : ℝ) : EReal) := by
  unfold dqN
  rw [ks_coe, mul_sum _ _ ks_nonneg, ← coe_sum]
  refine Finset.sum_congr rfl fun u _ => ?_
  rw [ds_eq R _ t u.val (by omega) ht u.isLt, R.k _ _ u.isLt hc, ← EReal.coe_mul, ← EReal.coe_mul]
  congr 1
  ring

theorem dkN_eq (u col : ℕ) (hu : u < 8192) (hc : col < 3072) : dkN Q K V C Y L u col
    = ((∑ t : Fin 8192, D.G (col / 128) t.val ⟨u, hu⟩ * ksR * D.q t.val col : ℝ) : EReal) := by
  unfold dkN
  rw [ks_coe, mul_sum _ _ ks_nonneg, ← coe_sum]
  refine Finset.sum_congr rfl fun t _ => ?_
  rw [ds_eq R _ t.val u (by omega) t.isLt hu, R.q _ _ t.isLt hc, ← EReal.coe_mul, ← EReal.coe_mul]
  congr 1
  ring

theorem dvN_eq (u col : ℕ) (hu : u < 8192) (hc : col < 3072) : dvN Q K C L u col
    = ((∑ t : Fin 8192, D.z (col / 128) t.val 0 * (1 / D.Z (col / 128) t.val) * D.dy t.val col * (1 / D.de (col / 128) t.val)
        * D.pi (col / 128) t.val u : ℝ) : EReal) := by
  unfold dvN
  rw [← coe_sum]
  refine Finset.sum_congr rfl fun t _ => ?_
  rw [pp_eq R _ t.val u (by omega) t.isLt hu, R.c _ _ t.isLt hc, ← EReal.coe_mul]
  unfold share
  congr 1
  ring

end Real

/-! ## The precondition, read -/

theorem real_of_abs {x : EReal} (h : Ideal.cmp .olt (max x (-x)) (Ideal.ofBits .f32 0x7F800000#32) = 1#1) : IsReal x := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

instance : Subsingleton Cert.Pre_inputs_finite.S_.Idx := ⟨fun a b => funext fun i => i.elim0⟩

theorem and_one {a b : BitVec 1} (h : a &&& b = 1#1) : a = 1#1 ∧ b = 1#1 := by
  revert a b; decide

/-- A matrix of reals as a function of natural numbers. -/
theorem real2 {a b : ℕ} (x : (⟨2, ![a, b]⟩ : Shape).Idx → EReal) (h : ∀ i, IsReal (x i)) :
    ∃ f : ℕ → ℕ → ℝ, ∀ i, x i = ((f (i 0).val (i 1).val : ℝ) : EReal) := by
  choose r hr using h
  refine ⟨fun p q => if h : p < a ∧ q < b then r (ValueIdx.ix2 ⟨p, h.1⟩ ⟨q, h.2⟩) else 0, fun i => ?_⟩
  dsimp only
  rw [dif_pos ⟨(i 0).isLt, (i 1).isLt⟩, hr]
  exact congrArg (fun j => ((r j : ℝ) : EReal)) (ValueIdx.eq_ix2 i)

/-- A stack of matrices of reals as a function of natural numbers. -/
theorem real3 {a b c : ℕ} (x : (⟨3, ![a, b, c]⟩ : Shape).Idx → EReal) (h : ∀ i, IsReal (x i)) :
    ∃ f : ℕ → ℕ → ℕ → ℝ, ∀ i, x i = ((f (i 0).val (i 1).val (i 2).val : ℝ) : EReal) := by
  choose r hr using h
  refine ⟨fun p q s => if h : p < a ∧ q < b ∧ s < c then r (ValueIdx.ix3 ⟨p, h.1⟩ ⟨q, h.2.1⟩ ⟨s, h.2.2⟩) else 0, fun i => ?_⟩
  dsimp only
  rw [dif_pos ⟨(i 0).isLt, (i 1).isLt, (i 2).isLt⟩, hr]
  exact congrArg (fun j => ((r j : ℝ) : EReal)) (ValueIdx.eq_ix3 i)

theorem pre_read (x0 x1 x2 : FVec Ideal ⟨2, ![8192, 3072]⟩ .bf16) (x3 : FVec Ideal ⟨3, ![8192, 24, 128]⟩ .f32)
    (x4 : FVec Ideal ⟨2, ![8192, 24]⟩ .f32) (x5 : FVec Ideal ⟨3, ![8192, 24, 128]⟩ .f32) (x6 : FVec Ideal ⟨2, ![8192, 24]⟩ .f32)
    (x7 : FVec Ideal ⟨2, ![8192, 3072]⟩ .f32)
    (h : Cert.Pre_inputs_finite.fn (F := Ideal) x0 x1 x2 x3 x4 x5 x6 x7 = fun _ => 1#1) : ∃ D : Dat, D.Is x0 x1 x2 x3 x4 x5 x6 x7 := by
  have hj := congrFun h (Shape.Idx.first Cert.Pre_inputs_finite.Gen.h_S_)
  obtain ⟨hj, h7⟩ := and_one hj
  obtain ⟨hj, h6⟩ := and_one hj
  obtain ⟨hj, h5⟩ := and_one hj
  obtain ⟨hj, h4⟩ := and_one hj
  obtain ⟨hj, h3⟩ := and_one hj
  obtain ⟨hj, h2⟩ := and_one hj
  obtain ⟨h0, h1⟩ := and_one hj
  obtain ⟨q, hq⟩ := real2 x0 fun i => real_of_abs (Host.reduce_andi_all _ _ _ _ _ h0 i)
  obtain ⟨k, hk⟩ := real2 x1 fun i => real_of_abs (Host.reduce_andi_all _ _ _ _ _ h1 i)
  obtain ⟨v, hv⟩ := real2 x2 fun i => real_of_abs (Host.reduce_andi_all _ _ _ _ _ h2 i)
  obtain ⟨o1, ho1⟩ := real3 x3 fun i => real_of_abs (Host.reduce_andi_all _ _ _ _ _ h3 i)
  obtain ⟨l1, hl1⟩ := real2 x4 fun i => real_of_abs (Host.reduce_andi_all _ _ _ _ _ h4 i)
  obtain ⟨o2, ho2⟩ := real3 x5 fun i => real_of_abs (Host.reduce_andi_all _ _ _ _ _ h5 i)
  obtain ⟨l2, hl2⟩ := real2 x6 fun i => real_of_abs (Host.reduce_andi_all _ _ _ _ _ h6 i)
  obtain ⟨dy, hdy⟩ := real2 x7 fun i => real_of_abs (Host.reduce_andi_all _ _ _ _ _ h7 i)
  exact ⟨⟨q, k, v, o1, l1, o2, l2, dy⟩, ⟨hq, hk, hv, ho1, hl1, ho2, hl2, hdy⟩⟩

/-! ## What the kernel reads -/

section Kernel

open Cert.AttnIdeal Cert.AttnIdeal.Gen Idealize.ShloMosaic.TcCoe
open Cert.Dil (aQ aK aV aD aY aL lseB lseT lseB_at host_y host_l resDq resDk resDv)

variable (m : (ℓ : Loc nD τ sig) → Buf (Elt Ideal) ℓ) (c : Dev nD) {D : Dat}
  (H : D.Is (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
include H

omit H in
theorem at2_of {X : S8192x3072.Idx → EReal} {r k : ℕ} (hr : r < 8192) (hk : k < 3072) : at2 X r k = X (ValueIdx.ix2 ⟨r, hr⟩ ⟨k, hk⟩) :=
  (at2_eq X (ValueIdx.ix2 ⟨r, hr⟩ ⟨k, hk⟩) r k rfl rfl).symm

/-- One element's place in the stacked head layout. -/
abbrev jy (t : Fin 8192) (h : Fin 24) (e : Fin 128) : Cert.AttnRefIdeal.S8192x24x128.Idx := ValueIdx.ix3 t h e
/-- One row's place in the layout of the log-sums. -/
abbrev jl (h : Fin 24) (t : Fin 8192) : Cert.AttnRefIdeal.S8192x24.Idx := ValueIdx.ix2 t h

theorem reads : Reads D (aQ m c) (aK m c) (aV m c) (aY m c) (aL m c) (aD m c) where
  q r k hr hk := by unfold aQ; rw [at2_of hr hk, V_main_arg0]; exact H.q _
  k r k hr hk := by unfold aK; rw [at2_of hr hk, V_main_arg1]; exact H.k _
  v r k hr hk := by unfold aV; rw [at2_of hr hk, V_main_arg2]; exact H.v _
  c r k hr hk := by unfold aD; rw [at2_of hr hk, V_main_arg7]; exact H.dy _
  y t h e ht hh := by
    have he := e.isLt
    unfold aY; rw [at2_of ht (show 128 * h + e.val < 3072 by omega), host_y, Cert.AttnRefIdeal.Read.val_main_v111_apply]
    refine (congrArg _ (show Cert.AttnRefIdeal.Read.idx_main_v111 (ValueIdx.ix2 ⟨t, ht⟩ ⟨128 * h + e.val, by omega⟩) = jy ⟨t, ht⟩ ⟨h, hh⟩ e from ?_)).trans (y_at H _)
    funext a; refine Fin.ext ?_
    fin_cases a
    · show (t * 3072 + (128 * h + e.val)) / 3072 = t; omega
    · show (t * 3072 + (128 * h + e.val)) / 128 % 24 = h; omega
    · show (t * 3072 + (128 * h + e.val)) % 128 = e.val; omega
  l t h e ht hh := by
    have he := e.isLt
    unfold aL; rw [at2_of ht (show 128 * h + e.val < 3072 by omega), host_l, lseB_at _ _ _ _ _ (jl ⟨h, hh⟩ ⟨t, ht⟩) rfl (show (128 * h + e.val) / 128 = h by omega)]
    show Cert.AttnRefIdeal.Read.val_main_v80 (F := Ideal) _ _ _ _ _ + Ideal.log (Cert.AttnRefIdeal.Read.val_main_v94 (F := Ideal) _ _ _ _ _) = _
    rw [top_at H, Z_at H, Ideal.log_coe, if_neg (Z_pos D _ _).not_ge, ← EReal.coe_add]

theorem resDq_of : resDq m c = Cert.AttnRefIdeal.Read.val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  funext fun i => (dqN_eq (reads m c H) (i 0).val (i 1).val (i 0).isLt (i 1).isLt).trans (dq_at H i).symm

theorem resDk_of : resDk m c = Cert.AttnRefIdeal.Read.val_main_v184 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  funext fun i => (dkN_eq (reads m c H) (i 0).val (i 1).val (i 0).isLt (i 1).isLt).trans (dk_at H i).symm

theorem resDv_of : resDv m c = Cert.AttnRefIdeal.Read.val_main_v182 (F := Ideal) (m ((c : Thread nD τ).loc main_arg0)) (m ((c : Thread nD τ).loc main_arg1)) (m ((c : Thread nD τ).loc main_arg4)) (m ((c : Thread nD τ).loc main_arg6)) (m ((c : Thread nD τ).loc main_arg7)) :=
  funext fun i => (dvN_eq (reads m c H) (i 0).val (i 1).val (i 0).isLt (i 1).isLt).trans (dv_at H i).symm

end Kernel

end Cert.Mix

end
-- ==== Proof.ProdRow.lean ====
/-
  THE LAYERS' PRODUCTS OF MATRICES, as functions of their operands: the sums both sides of each claim come to. `at2` reads a
  matrix at natural numbers, so that a sum over rows can be cut into the blocks a kernel takes them in.
-/
module

public import proofs.«01_k».proof.Proof.Dots
public import proofs.«01_k».proof.Proof.MemBlock

@[expose] public section

noncomputable section

namespace Cert.Prod

open Idealize.ShloMosaic Idealize.ShloMosaic.ValueIdx
open Cert.Mem (at2 at2_eq)
open scoped BigOperators

variable {M K N : ℕ}

/-- Rows by columns. -/
def nn (A : (⟨2, ![M, K]⟩ : Shape).Idx → EReal) (B : (⟨2, ![K, N]⟩ : Shape).Idx → EReal) : (⟨2, ![M, N]⟩ : Shape).Idx → EReal :=
  fun i => ∑ k : Fin K, A (ix2 (i 0) k) * B (ix2 k (i 1))
/-- Rows by rows. -/
def nt (A : (⟨2, ![M, K]⟩ : Shape).Idx → EReal) (B : (⟨2, ![N, K]⟩ : Shape).Idx → EReal) : (⟨2, ![M, N]⟩ : Shape).Idx → EReal :=
  fun i => ∑ k : Fin K, A (ix2 (i 0) k) * B (ix2 (i 1) k)
/-- Columns by columns. -/
def tn (A : (⟨2, ![K, M]⟩ : Shape).Idx → EReal) (B : (⟨2, ![K, N]⟩ : Shape).Idx → EReal) : (⟨2, ![M, N]⟩ : Shape).Idx → EReal :=
  fun i => ∑ k : Fin K, A (ix2 k (i 0)) * B (ix2 k (i 1))

/-- The part of `tn` that the first `n` rows give. -/
def tnTo (A : (⟨2, ![K, M]⟩ : Shape).Idx → EReal) (B : (⟨2, ![K, N]⟩ : Shape).Idx → EReal) (n i j : ℕ) : EReal :=
  ∑ k ∈ Finset.range n, at2 A k i * at2 B k j

theorem tnTo_all (A : (⟨2, ![K, M]⟩ : Shape).Idx → EReal) (B : (⟨2, ![K, N]⟩ : Shape).Idx → EReal) (i : (⟨2, ![M, N]⟩ : Shape).Idx) :
    tnTo A B K (i 0).val (i 1).val = tn A B i := by
  unfold tnTo tn
  rw [Finset.sum_range]
  exact Finset.sum_congr rfl fun k _ => congrArg₂ (· * ·) (at2_eq A (ix2 k (i 0)) _ _ rfl rfl).symm (at2_eq B (ix2 k (i 1)) _ _ rfl rfl).symm

/-- The rows `o`, …, `o + b - 1`, given as blocks of `b` rows, added to the part before them. -/
theorem tnTo_add {b m n : ℕ} (A : (⟨2, ![K, M]⟩ : Shape).Idx → EReal) (B : (⟨2, ![K, N]⟩ : Shape).Idx → EReal)
    (x : (⟨2, ![b, m]⟩ : Shape).Idx → EReal) (y : (⟨2, ![b, n]⟩ : Shape).Idx → EReal) (o : ℕ) (r : Fin m) (s : Fin n) (i j : ℕ)
    (hx : ∀ k : Fin b, x (ix2 k r) = at2 A (o + k.val) i) (hy : ∀ k : Fin b, y (ix2 k s) = at2 B (o + k.val) j) :
    tnTo A B o i j + ∑ k : Fin b, x (ix2 k r) * y (ix2 k s) = tnTo A B (o + b) i j := by
  unfold tnTo
  rw [Finset.sum_range_add]
  refine congrArg (_ + ·) ?_
  rw [← Fin.sum_univ_eq_sum_range (fun k => at2 A (o + k) i * at2 B (o + k) j) b]
  exact Finset.sum_congr rfl fun k _ => congrArg₂ (· * ·) (hx k) (hy k)

theorem tnTo_zero (A : (⟨2, ![K, M]⟩ : Shape).Idx → EReal) (B : (⟨2, ![K, N]⟩ : Shape).Idx → EReal) (i j : ℕ) : tnTo A B 0 i j = 0 := by
  unfold tnTo; simp

end Cert.Prod

end
-- ==== Proof.ProdIn.lean ====
/-
  A LAYER'S INPUT PRODUCT: the tokens' rows times a weight, tile by tile. Each point of the grid leaves the product of a block of
  rows with a block of columns; the blocks tile the result.
-/
module

public import proofs.«01_k».proof.Proof.ProdRow
public import proofs.«01_k».proof.Proof.Gen.InIdeal.Value
public import proofs.«01_k».proof.Proof.Gen.InRefIdeal.Read

@[expose] public section

set_option maxRecDepth 16384

noncomputable section

namespace Cert.ProdIn

open Cert.InIdeal Cert.InIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (c : Dev nD)

/-- The tokens' rows, and the weight. -/
abbrev A : (⟨2, ![8192, 2048]⟩ : Shape).Idx → EReal := m ((c : Thread nD τ).loc main_arg0)
@[inherit_doc A]
abbrev B : (⟨2, ![2048, 3072]⟩ : Shape).Idx → EReal := m ((c : Thread nD τ).loc main_arg1)

theorem out_at (x0 : Vec Ideal S1024x2048 .bf16) (x1 : Vec Ideal S2048x1024 .bf16) (y : S1024x1024.Idx) :
    out0_2 x0 x1 y = ∑ k : Fin 2048, x0 (ix2 (y 0) k) * x1 (ix2 k (y 1)) := by
  have hz : (![0, 0] : Fin 2 → Nat) = fun _ => 0 := funext fun a => by fin_cases a <;> rfl
  unfold out0_2 r0_0 r0_1 r0_2
  rw [View.canon_unit_zero hz, View.ld_unit_zero hz, View.ld_unit_zero hz]
  exact (congrArg (k0_pay1 x0 x1) (eq_ix2 y)).trans (Dots.mm_nn _ x0 x1 (y 0) (y 1))

theorem index_0 : ∀ t : Fin cfg0.N, win0_0.index t 0 = t.val % 8 ∧ win0_0.index t 1 = 0 := by decide +kernel
theorem index_1 : ∀ t : Fin cfg0.N, win0_1.index t 0 = 0 ∧ win0_1.index t 1 = t.val / 8 := by decide +kernel
theorem index_2 : ∀ t : Fin cfg0.N, win0_2.index t 0 = t.val % 8 ∧ win0_2.index t 1 = t.val / 8 := by decide +kernel

theorem blk_0 (t : Fin cfg0.N) (r : Fin 1024) (k : Fin 2048) (R : Fin 8192) (hR : R.val = t.val % 8 * 1024 + r.val) :
    iblk m c 0 t (ix2 r k) = A m c (ix2 R k) :=
  congrArg (A m c) (funext fun a => Fin.ext (show ((win0_0.rect t).emb (ix2 r k) a).val = (ix2 R k a).val by
    rw [win0_0.rect_emb_val t (ix2 r k) a]
    match a with
    | ⟨0, _⟩ => exact (congrArg (· * 1024 + r.val) (index_0 t).1).trans hR.symm
    | ⟨1, _⟩ => exact (congrArg (· * 2048 + k.val) (index_0 t).2).trans (by show 0 * 2048 + k.val = k.val; omega)))

theorem blk_1 (t : Fin cfg0.N) (k : Fin 2048) (s : Fin 1024) (S : Fin 3072) (hS : S.val = t.val / 8 * 1024 + s.val) :
    iblk m c 1 t (ix2 k s) = B m c (ix2 k S) :=
  congrArg (B m c) (funext fun a => Fin.ext (show ((win0_1.rect t).emb (ix2 k s) a).val = (ix2 k S a).val by
    rw [win0_1.rect_emb_val t (ix2 k s) a]
    match a with
    | ⟨0, _⟩ => exact (congrArg (· * 2048 + k.val) (index_1 t).1).trans (by show 0 * 2048 + k.val = k.val; omega)
    | ⟨1, _⟩ => exact (congrArg (· * 1024 + s.val) (index_1 t).2).trans hS.symm))

theorem cut_2 : ∀ t : Fin cfg0.N, win0_2.xsize (grid0.coords t) 0 = 1024 ∧ win0_2.xsize (grid0.coords t) 1 = 1024 := by decide +kernel

theorem cover (i : S8192x3072.Idx) : ∃ t : Fin cfg0.N, (cfg0.win 2).flush t = true ∧ i ∈ ((cfg0.win 2).blk t).view.set := by
  have hN : cfg0.N = 24 := N_0
  have h0 : (i 0 : Nat) < 8192 := (i 0).isLt
  have h1 : (i 1 : Nat) < 3072 := (i 1).isLt
  have ht : 8 * ((i 1 : Nat) / 1024) + (i 0 : Nat) / 1024 < cfg0.N := by omega
  refine ⟨⟨8 * ((i 1 : Nat) / 1024) + (i 0 : Nat) / 1024, ht⟩, flush0_2 _, ?_⟩
  refine (Finset.ext_iff.mp (View.set_slice_whole main_v0 (win0_2.rect ⟨8 * ((i 1 : Nat) / 1024) + (i 0 : Nat) / 1024, ht⟩)) i).mpr ?_
  rw [Rect.mem_set_unit]
  intro a
  match a with
  | ⟨0, _⟩ =>
      show win0_2.index _ 0 * 1024 ≤ (i 0 : Nat) ∧ (i 0 : Nat) < win0_2.index _ 0 * 1024 + win0_2.xsize _ 0
      rw [(index_2 _).1, (cut_2 _).1]; dsimp only; omega
  | ⟨1, _⟩ =>
      show win0_2.index _ 1 * 1024 ≤ (i 1 : Nat) ∧ (i 1 : Nat) < win0_2.index _ 1 * 1024 + win0_2.xsize _ 1
      rw [(index_2 _).2, (cut_2 _).2]; dsimp only; omega

/-- The result is the product of the rows with the weight. -/
theorem final : (dats m 0 c).arrAt 2 cfg0.N = Prod.nn (A m c) (B m c) := by
  refine (dats m 0 c).arrAt_eq_of_cover 2 (Prod.nn (A m c) (B m c)) (fun t _ => ?_) fun i => cover i
  rw [Value.flushed2]
  funext y
  refine (out_at _ _ y).trans ?_
  have e0 : ((win0_2.rect t).emb y 0 : Nat) = t.val % 8 * 1024 + (y 0).val := by
    rw [win0_2.rect_emb_val t y 0, (index_2 t).1]; rfl
  have e1 : ((win0_2.rect t).emb y 1 : Nat) = t.val / 8 * 1024 + (y 1).val := by
    rw [win0_2.rect_emb_val t y 1, (index_2 t).2]; rfl
  exact Finset.sum_congr rfl fun k _ => congrArg₂ (fun a b : EReal => a * b) (blk_0 m c t (y 0) k ((win0_2.rect t).emb y 0) e0) (blk_1 m c t k (y 1) ((win0_2.rect t).emb y 1) e1)

/-- The reference's result is that product. -/
theorem ref (x0 : S8192x2048.Idx → EReal) (x1 : S2048x3072.Idx → EReal) : Cert.InRefIdeal.Read.val_main_v2 (F := Ideal) x0 x1 = Prod.nn x0 x1 := by
  funext i
  rw [Cert.InRefIdeal.Read.val_main_v2_apply]
  exact Finset.sum_congr rfl fun k _ => congrArg₂ (fun a b => x0 a * x1 b)
    (funext fun a => by match a with | ⟨0, _⟩ => rfl | ⟨1, _⟩ => rfl) (funext fun a => by match a with | ⟨0, _⟩ => rfl | ⟨1, _⟩ => rfl)

end Cert.ProdIn

end
-- ==== Proof.ProdInB.lean ====
/-
  A LAYER'S INPUT PRODUCT, kept in sixteen bits: the tokens' rows times a weight, tile by tile. Each point of the grid leaves the product of a block of
  rows with a block of columns; the blocks tile the result.
-/
module

public import proofs.«01_k».proof.Proof.ProdRow
public import proofs.«01_k».proof.Proof.Gen.InBIdeal.Value
public import proofs.«01_k».proof.Proof.Gen.InBRefIdeal.Read

@[expose] public section

set_option maxRecDepth 16384

noncomputable section

namespace Cert.ProdInB

open Cert.InBIdeal Cert.InBIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (c : Dev nD)

/-- The tokens' rows, and the weight. -/
abbrev A : (⟨2, ![8192, 2048]⟩ : Shape).Idx → EReal := m ((c : Thread nD τ).loc main_arg0)
@[inherit_doc A]
abbrev B : (⟨2, ![2048, 3072]⟩ : Shape).Idx → EReal := m ((c : Thread nD τ).loc main_arg1)

theorem out_at (x0 : Vec Ideal S1024x2048 .bf16) (x1 : Vec Ideal S2048x1024 .bf16) (y : S1024x1024.Idx) :
    out0_2 x0 x1 y = ∑ k : Fin 2048, x0 (ix2 (y 0) k) * x1 (ix2 k (y 1)) := by
  have hz : (![0, 0] : Fin 2 → Nat) = fun _ => 0 := funext fun a => by fin_cases a <;> rfl
  unfold out0_2 r0_0 r0_1 r0_2
  rw [View.canon_unit_zero hz, View.ld_unit_zero hz, View.ld_unit_zero hz]
  exact (congrArg (k0_pay1 x0 x1) (eq_ix2 y)).trans (Dots.mm_nn (φ₁ := .bf16) (φ₂ := .bf16) _ x0 x1 (y 0) (y 1))

theorem index_0 : ∀ t : Fin cfg0.N, win0_0.index t 0 = t.val % 8 ∧ win0_0.index t 1 = 0 := by decide +kernel
theorem index_1 : ∀ t : Fin cfg0.N, win0_1.index t 0 = 0 ∧ win0_1.index t 1 = t.val / 8 := by decide +kernel
theorem index_2 : ∀ t : Fin cfg0.N, win0_2.index t 0 = t.val % 8 ∧ win0_2.index t 1 = t.val / 8 := by decide +kernel

theorem blk_0 (t : Fin cfg0.N) (r : Fin 1024) (k : Fin 2048) (R : Fin 8192) (hR : R.val = t.val % 8 * 1024 + r.val) :
    iblk m c 0 t (ix2 r k) = A m c (ix2 R k) :=
  congrArg (A m c) (funext fun a => Fin.ext (show ((win0_0.rect t).emb (ix2 r k) a).val = (ix2 R k a).val by
    rw [win0_0.rect_emb_val t (ix2 r k) a]
    match a with
    | ⟨0, _⟩ => exact (congrArg (· * 1024 + r.val) (index_0 t).1).trans hR.symm
    | ⟨1, _⟩ => exact (congrArg (· * 2048 + k.val) (index_0 t).2).trans (by show 0 * 2048 + k.val = k.val; omega)))

theorem blk_1 (t : Fin cfg0.N) (k : Fin 2048) (s : Fin 1024) (S : Fin 3072) (hS : S.val = t.val / 8 * 1024 + s.val) :
    iblk m c 1 t (ix2 k s) = B m c (ix2 k S) :=
  congrArg (B m c) (funext fun a => Fin.ext (show ((win0_1.rect t).emb (ix2 k s) a).val = (ix2 k S a).val by
    rw [win0_1.rect_emb_val t (ix2 k s) a]
    match a with
    | ⟨0, _⟩ => exact (congrArg (· * 2048 + k.val) (index_1 t).1).trans (by show 0 * 2048 + k.val = k.val; omega)
    | ⟨1, _⟩ => exact (congrArg (· * 1024 + s.val) (index_1 t).2).trans hS.symm))

theorem cut_2 : ∀ t : Fin cfg0.N, win0_2.xsize (grid0.coords t) 0 = 1024 ∧ win0_2.xsize (grid0.coords t) 1 = 1024 := by decide +kernel

theorem cover (i : S8192x3072.Idx) : ∃ t : Fin cfg0.N, (cfg0.win 2).flush t = true ∧ i ∈ ((cfg0.win 2).blk t).view.set := by
  have hN : cfg0.N = 24 := N_0
  have h0 : (i 0 : Nat) < 8192 := (i 0).isLt
  have h1 : (i 1 : Nat) < 3072 := (i 1).isLt
  have ht : 8 * ((i 1 : Nat) / 1024) + (i 0 : Nat) / 1024 < cfg0.N := by omega
  refine ⟨⟨8 * ((i 1 : Nat) / 1024) + (i 0 : Nat) / 1024, ht⟩, flush0_2 _, ?_⟩
  refine (Finset.ext_iff.mp (View.set_slice_whole main_v0 (win0_2.rect ⟨8 * ((i 1 : Nat) / 1024) + (i 0 : Nat) / 1024, ht⟩)) i).mpr ?_
  rw [Rect.mem_set_unit]
  intro a
  match a with
  | ⟨0, _⟩ =>
      show win0_2.index _ 0 * 1024 ≤ (i 0 : Nat) ∧ (i 0 : Nat) < win0_2.index _ 0 * 1024 + win0_2.xsize _ 0
      rw [(index_2 _).1, (cut_2 _).1]; dsimp only; omega
  | ⟨1, _⟩ =>
      show win0_2.index _ 1 * 1024 ≤ (i 1 : Nat) ∧ (i 1 : Nat) < win0_2.index _ 1 * 1024 + win0_2.xsize _ 1
      rw [(index_2 _).2, (cut_2 _).2]; dsimp only; omega

/-- The result is the product of the rows with the weight. -/
theorem final : (dats m 0 c).arrAt 2 cfg0.N = Prod.nn (A m c) (B m c) := by
  refine (dats m 0 c).arrAt_eq_of_cover 2 (Prod.nn (A m c) (B m c)) (fun t _ => ?_) fun i => cover i
  rw [Value.flushed2]
  funext y
  refine (out_at _ _ y).trans ?_
  have e0 : ((win0_2.rect t).emb y 0 : Nat) = t.val % 8 * 1024 + (y 0).val := by
    rw [win0_2.rect_emb_val t y 0, (index_2 t).1]; rfl
  have e1 : ((win0_2.rect t).emb y 1 : Nat) = t.val / 8 * 1024 + (y 1).val := by
    rw [win0_2.rect_emb_val t y 1, (index_2 t).2]; rfl
  exact Finset.sum_congr rfl fun k _ => congrArg₂ (fun a b : EReal => a * b) (blk_0 m c t (y 0) k ((win0_2.rect t).emb y 0) e0) (blk_1 m c t k (y 1) ((win0_2.rect t).emb y 1) e1)

/-- The reference's result is that product. -/
theorem ref (x0 : S8192x2048.Idx → EReal) (x1 : S2048x3072.Idx → EReal) : Cert.InBRefIdeal.Read.val_main_v3 (F := Ideal) x0 x1 = Prod.nn x0 x1 := by
  funext i
  refine (Cert.InBRefIdeal.Read.val_main_v2_apply x0 x1 i).trans ?_
  exact Finset.sum_congr rfl fun k _ => congrArg₂ (fun a b => x0 a * x1 b)
    (funext fun a => by match a with | ⟨0, _⟩ => rfl | ⟨1, _⟩ => rfl) (funext fun a => by match a with | ⟨0, _⟩ => rfl | ⟨1, _⟩ => rfl)

end Cert.ProdInB

end
-- ==== Proof.ProdDh.lean ====
/-
  THE GRADIENT OF A LAYER'S PRODUCT IN THE TOKENS' ROWS, added to what the layer's other products gave: the cotangent's rows
  times the weight's rows, tile by tile, plus the tile of what was there.
-/
module

public import proofs.«01_k».proof.Proof.ProdRow
public import proofs.«01_k».proof.Proof.Gen.DhIdeal.Value
public import proofs.«01_k».proof.Proof.Gen.DhRefIdeal.Read

@[expose] public section

set_option maxRecDepth 16384

noncomputable section

namespace Cert.ProdDh

open Cert.DhIdeal Cert.DhIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (c : Dev nD)

/-- The cotangent, the weight, and what was there. -/
abbrev A : (⟨2, ![8192, 3072]⟩ : Shape).Idx → EReal := m ((c : Thread nD τ).loc main_arg0)
@[inherit_doc A]
abbrev B : (⟨2, ![2048, 3072]⟩ : Shape).Idx → EReal := m ((c : Thread nD τ).loc main_arg1)
@[inherit_doc A]
abbrev Z : (⟨2, ![8192, 2048]⟩ : Shape).Idx → EReal := m ((c : Thread nD τ).loc main_arg2)

theorem out_at (x0 : Vec Ideal S512x3072 .f32) (x1 : Vec Ideal S1024x3072 .bf16) (x2 : Vec Ideal S512x1024 .f32) (y : S512x1024.Idx) :
    out0_3 x0 x1 x2 y = (∑ k : Fin 3072, x0 (ix2 (y 0) k) * x1 (ix2 (y 1) k)) + x2 y := by
  have hz : (![0, 0] : Fin 2 → Nat) = fun _ => 0 := funext fun a => by fin_cases a <;> rfl
  unfold out0_3 r0_0 r0_1 r0_2
  rw [View.canon_unit_zero hz, View.ld_unit_zero hz, View.ld_unit_zero hz, View.ld_unit_zero hz]
  refine (congrArg (k0_pay1 x0 x1 x2) (eq_ix2 y)).trans ?_
  show _ + x2 _ = _
  rw [← eq_ix2 y]
  refine congrArg (· + x2 y) ?_
  exact (congrArg _ (eq_ix2 y)).trans (Dots.mm_nt _ x0 x1 (y 0) (y 1))

theorem index_0 : ∀ t : Fin cfg0.N, win0_0.index t 0 = t.val % 16 ∧ win0_0.index t 1 = 0 := by decide +kernel
theorem index_1 : ∀ t : Fin cfg0.N, win0_1.index t 0 = t.val / 16 ∧ win0_1.index t 1 = 0 := by decide +kernel
theorem index_2 : ∀ t : Fin cfg0.N, win0_2.index t 0 = t.val % 16 ∧ win0_2.index t 1 = t.val / 16 := by decide +kernel
theorem index_3 : ∀ t : Fin cfg0.N, win0_3.index t 0 = t.val % 16 ∧ win0_3.index t 1 = t.val / 16 := by decide +kernel

theorem blk_0 (t : Fin cfg0.N) (r : Fin 512) (k : Fin 3072) (R : Fin 8192) (hR : R.val = t.val % 16 * 512 + r.val) :
    iblk m c 0 t (ix2 r k) = A m c (ix2 R k) :=
  congrArg (A m c) (funext fun a => Fin.ext (show ((win0_0.rect t).emb (ix2 r k) a).val = (ix2 R k a).val by
    rw [win0_0.rect_emb_val t (ix2 r k) a]
    match a with
    | ⟨0, _⟩ => exact (congrArg (· * 512 + r.val) (index_0 t).1).trans hR.symm
    | ⟨1, _⟩ => exact (congrArg (· * 3072 + k.val) (index_0 t).2).trans (by show 0 * 3072 + k.val = k.val; omega)))

theorem blk_1 (t : Fin cfg0.N) (s : Fin 1024) (k : Fin 3072) (S : Fin 2048) (hS : S.val = t.val / 16 * 1024 + s.val) :
    iblk m c 1 t (ix2 s k) = B m c (ix2 S k) :=
  congrArg (B m c) (funext fun a => Fin.ext (show ((win0_1.rect t).emb (ix2 s k) a).val = (ix2 S k a).val by
    rw [win0_1.rect_emb_val t (ix2 s k) a]
    match a with
    | ⟨0, _⟩ => exact (congrArg (· * 1024 + s.val) (index_1 t).1).trans hS.symm
    | ⟨1, _⟩ => exact (congrArg (· * 3072 + k.val) (index_1 t).2).trans (by show 0 * 3072 + k.val = k.val; omega)))

theorem blk_2 (t : Fin cfg0.N) (y : S512x1024.Idx) : iblk m c 2 t y = Z m c ((win0_3.rect t).emb y) :=
  congrArg (Z m c) (funext fun a => Fin.ext (show ((win0_2.rect t).emb y a).val = ((win0_3.rect t).emb y a).val by
    rw [win0_2.rect_emb_val t y a, win0_3.rect_emb_val t y a]
    match a with
    | ⟨0, _⟩ => exact congrArg (· * 512 + (y 0).val) ((index_2 t).1.trans (index_3 t).1.symm)
    | ⟨1, _⟩ => exact congrArg (· * 1024 + (y 1).val) ((index_2 t).2.trans (index_3 t).2.symm)))

theorem cut_3 : ∀ t : Fin cfg0.N, win0_3.xsize (grid0.coords t) 0 = 512 ∧ win0_3.xsize (grid0.coords t) 1 = 1024 := by decide +kernel

theorem cover (i : S8192x2048.Idx) : ∃ t : Fin cfg0.N, (cfg0.win 3).flush t = true ∧ i ∈ ((cfg0.win 3).blk t).view.set := by
  have hN : cfg0.N = 32 := N_0
  have h0 : (i 0 : Nat) < 8192 := (i 0).isLt
  have h1 : (i 1 : Nat) < 2048 := (i 1).isLt
  have ht : 16 * ((i 1 : Nat) / 1024) + (i 0 : Nat) / 512 < cfg0.N := by omega
  refine ⟨⟨16 * ((i 1 : Nat) / 1024) + (i 0 : Nat) / 512, ht⟩, flush0_3 _, ?_⟩
  refine (Finset.ext_iff.mp (View.set_slice_whole main_v0 (win0_3.rect ⟨16 * ((i 1 : Nat) / 1024) + (i 0 : Nat) / 512, ht⟩)) i).mpr ?_
  rw [Rect.mem_set_unit]
  intro a
  match a with
  | ⟨0, _⟩ =>
      show win0_3.index _ 0 * 512 ≤ (i 0 : Nat) ∧ (i 0 : Nat) < win0_3.index _ 0 * 512 + win0_3.xsize _ 0
      rw [(index_3 _).1, (cut_3 _).1]; dsimp only; omega
  | ⟨1, _⟩ =>
      show win0_3.index _ 1 * 1024 ≤ (i 1 : Nat) ∧ (i 1 : Nat) < win0_3.index _ 1 * 1024 + win0_3.xsize _ 1
      rw [(index_3 _).2, (cut_3 _).2]; dsimp only; omega

/-- The result: what was there plus the cotangent's rows times the weight's. -/
def res (A : (⟨2, ![8192, 3072]⟩ : Shape).Idx → EReal) (B : (⟨2, ![2048, 3072]⟩ : Shape).Idx → EReal) (Z : (⟨2, ![8192, 2048]⟩ : Shape).Idx → EReal) :
    S8192x2048.Idx → EReal := fun i => Z i + Prod.nt A B i

theorem final : (dats m 0 c).arrAt 3 cfg0.N = res (A m c) (B m c) (Z m c) := by
  refine (dats m 0 c).arrAt_eq_of_cover 3 (res (A m c) (B m c) (Z m c)) (fun t _ => ?_) fun i => cover i
  rw [Value.flushed3]
  funext y
  refine (out_at _ _ _ y).trans ((add_comm _ _).trans ?_)
  have e0 : ((win0_3.rect t).emb y 0 : Nat) = t.val % 16 * 512 + (y 0).val := by
    rw [win0_3.rect_emb_val t y 0, (index_3 t).1]; rfl
  have e1 : ((win0_3.rect t).emb y 1 : Nat) = t.val / 16 * 1024 + (y 1).val := by
    rw [win0_3.rect_emb_val t y 1, (index_3 t).2]; rfl
  exact congrArg₂ (fun a b : EReal => a + b) (blk_2 m c t y) (Finset.sum_congr rfl fun k _ => congrArg₂ (fun a b : EReal => a * b)
    (blk_0 m c t (y 0) k ((win0_3.rect t).emb y 0) e0) (blk_1 m c t (y 1) k ((win0_3.rect t).emb y 1) e1))

/-- The reference's result is that sum. -/
theorem ref (x0 : S8192x3072.Idx → EReal) (x1 : S2048x3072.Idx → EReal) (x2 : S8192x2048.Idx → EReal) :
    Cert.DhRefIdeal.Read.val_main_v4 (F := Ideal) x0 x1 x2 = res x0 x1 x2 := by
  funext i
  refine congrArg (x2 i + ·) ((Cert.DhRefIdeal.Read.val_main_v3_apply x0 x1 i).trans ?_)
  exact Finset.sum_congr rfl fun k _ => congrArg₂ (fun a b => x0 a * x1 b)
    (funext fun a => by match a with | ⟨0, _⟩ => rfl | ⟨1, _⟩ => rfl) (funext fun a => by match a with | ⟨0, _⟩ => rfl | ⟨1, _⟩ => rfl)

end Cert.ProdDh

end
-- ==== Proof.ProdDhB.lean ====
/-
  THE GRADIENT OF A LAYER'S PRODUCT IN THE TOKENS' ROWS, of a cotangent kept in sixteen bits, added to what the layer's other products gave: the cotangent's rows
  times the weight's rows, tile by tile, plus the tile of what was there.
-/
module

public import proofs.«01_k».proof.Proof.ProdRow
public import proofs.«01_k».proof.Proof.Gen.DhBIdeal.Value
public import proofs.«01_k».proof.Proof.Gen.DhBRefIdeal.Read

@[expose] public section

set_option maxRecDepth 16384

noncomputable section

namespace Cert.ProdDhB

open Cert.DhBIdeal Cert.DhBIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (c : Dev nD)

/-- The cotangent, the weight, and what was there. -/
abbrev A : (⟨2, ![8192, 3072]⟩ : Shape).Idx → EReal := m ((c : Thread nD τ).loc main_arg0)
@[inherit_doc A]
abbrev B : (⟨2, ![2048, 3072]⟩ : Shape).Idx → EReal := m ((c : Thread nD τ).loc main_arg1)
@[inherit_doc A]
abbrev Z : (⟨2, ![8192, 2048]⟩ : Shape).Idx → EReal := m ((c : Thread nD τ).loc main_arg2)

theorem out_at (x0 : Vec Ideal S512x3072 .bf16) (x1 : Vec Ideal S1024x3072 .bf16) (x2 : Vec Ideal S512x1024 .f32) (y : S512x1024.Idx) :
    out0_3 x0 x1 x2 y = (∑ k : Fin 3072, x0 (ix2 (y 0) k) * x1 (ix2 (y 1) k)) + x2 y := by
  have hz : (![0, 0] : Fin 2 → Nat) = fun _ => 0 := funext fun a => by fin_cases a <;> rfl
  unfold out0_3 r0_0 r0_1 r0_2
  rw [View.canon_unit_zero hz, View.ld_unit_zero hz, View.ld_unit_zero hz, View.ld_unit_zero hz]
  refine (congrArg (k0_pay1 x0 x1 x2) (eq_ix2 y)).trans ?_
  show _ + x2 _ = _
  rw [← eq_ix2 y]
  refine congrArg (· + x2 y) ?_
  exact (congrArg _ (eq_ix2 y)).trans (Dots.mm_nt _ x0 x1 (y 0) (y 1))

theorem index_0 : ∀ t : Fin cfg0.N, win0_0.index t 0 = t.val % 16 ∧ win0_0.index t 1 = 0 := by decide +kernel
theorem index_1 : ∀ t : Fin cfg0.N, win0_1.index t 0 = t.val / 16 ∧ win0_1.index t 1 = 0 := by decide +kernel
theorem index_2 : ∀ t : Fin cfg0.N, win0_2.index t 0 = t.val % 16 ∧ win0_2.index t 1 = t.val / 16 := by decide +kernel
theorem index_3 : ∀ t : Fin cfg0.N, win0_3.index t 0 = t.val % 16 ∧ win0_3.index t 1 = t.val / 16 := by decide +kernel

theorem blk_0 (t : Fin cfg0.N) (r : Fin 512) (k : Fin 3072) (R : Fin 8192) (hR : R.val = t.val % 16 * 512 + r.val) :
    iblk m c 0 t (ix2 r k) = A m c (ix2 R k) :=
  congrArg (A m c) (funext fun a => Fin.ext (show ((win0_0.rect t).emb (ix2 r k) a).val = (ix2 R k a).val by
    rw [win0_0.rect_emb_val t (ix2 r k) a]
    match a with
    | ⟨0, _⟩ => exact (congrArg (· * 512 + r.val) (index_0 t).1).trans hR.symm
    | ⟨1, _⟩ => exact (congrArg (· * 3072 + k.val) (index_0 t).2).trans (by show 0 * 3072 + k.val = k.val; omega)))

theorem blk_1 (t : Fin cfg0.N) (s : Fin 1024) (k : Fin 3072) (S : Fin 2048) (hS : S.val = t.val / 16 * 1024 + s.val) :
    iblk m c 1 t (ix2 s k) = B m c (ix2 S k) :=
  congrArg (B m c) (funext fun a => Fin.ext (show ((win0_1.rect t).emb (ix2 s k) a).val = (ix2 S k a).val by
    rw [win0_1.rect_emb_val t (ix2 s k) a]
    match a with
    | ⟨0, _⟩ => exact (congrArg (· * 1024 + s.val) (index_1 t).1).trans hS.symm
    | ⟨1, _⟩ => exact (congrArg (· * 3072 + k.val) (index_1 t).2).trans (by show 0 * 3072 + k.val = k.val; omega)))

theorem blk_2 (t : Fin cfg0.N) (y : S512x1024.Idx) : iblk m c 2 t y = Z m c ((win0_3.rect t).emb y) :=
  congrArg (Z m c) (funext fun a => Fin.ext (show ((win0_2.rect t).emb y a).val = ((win0_3.rect t).emb y a).val by
    rw [win0_2.rect_emb_val t y a, win0_3.rect_emb_val t y a]
    match a with
    | ⟨0, _⟩ => exact congrArg (· * 512 + (y 0).val) ((index_2 t).1.trans (index_3 t).1.symm)
    | ⟨1, _⟩ => exact congrArg (· * 1024 + (y 1).val) ((index_2 t).2.trans (index_3 t).2.symm)))

theorem cut_3 : ∀ t : Fin cfg0.N, win0_3.xsize (grid0.coords t) 0 = 512 ∧ win0_3.xsize (grid0.coords t) 1 = 1024 := by decide +kernel

theorem cover (i : S8192x2048.Idx) : ∃ t : Fin cfg0.N, (cfg0.win 3).flush t = true ∧ i ∈ ((cfg0.win 3).blk t).view.set := by
  have hN : cfg0.N = 32 := N_0
  have h0 : (i 0 : Nat) < 8192 := (i 0).isLt
  have h1 : (i 1 : Nat) < 2048 := (i 1).isLt
  have ht : 16 * ((i 1 : Nat) / 1024) + (i 0 : Nat) / 512 < cfg0.N := by omega
  refine ⟨⟨16 * ((i 1 : Nat) / 1024) + (i 0 : Nat) / 512, ht⟩, flush0_3 _, ?_⟩
  refine (Finset.ext_iff.mp (View.set_slice_whole main_v0 (win0_3.rect ⟨16 * ((i 1 : Nat) / 1024) + (i 0 : Nat) / 512, ht⟩)) i).mpr ?_
  rw [Rect.mem_set_unit]
  intro a
  match a with
  | ⟨0, _⟩ =>
      show win0_3.index _ 0 * 512 ≤ (i 0 : Nat) ∧ (i 0 : Nat) < win0_3.index _ 0 * 512 + win0_3.xsize _ 0
      rw [(index_3 _).1, (cut_3 _).1]; dsimp only; omega
  | ⟨1, _⟩ =>
      show win0_3.index _ 1 * 1024 ≤ (i 1 : Nat) ∧ (i 1 : Nat) < win0_3.index _ 1 * 1024 + win0_3.xsize _ 1
      rw [(index_3 _).2, (cut_3 _).2]; dsimp only; omega

/-- The result: what was there plus the cotangent's rows times the weight's. -/
def res (A : (⟨2, ![8192, 3072]⟩ : Shape).Idx → EReal) (B : (⟨2, ![2048, 3072]⟩ : Shape).Idx → EReal) (Z : (⟨2, ![8192, 2048]⟩ : Shape).Idx → EReal) :
    S8192x2048.Idx → EReal := fun i => Z i + Prod.nt A B i

theorem final : (dats m 0 c).arrAt 3 cfg0.N = res (A m c) (B m c) (Z m c) := by
  refine (dats m 0 c).arrAt_eq_of_cover 3 (res (A m c) (B m c) (Z m c)) (fun t _ => ?_) fun i => cover i
  rw [Value.flushed3]
  funext y
  refine (out_at _ _ _ y).trans ((add_comm _ _).trans ?_)
  have e0 : ((win0_3.rect t).emb y 0 : Nat) = t.val % 16 * 512 + (y 0).val := by
    rw [win0_3.rect_emb_val t y 0, (index_3 t).1]; rfl
  have e1 : ((win0_3.rect t).emb y 1 : Nat) = t.val / 16 * 1024 + (y 1).val := by
    rw [win0_3.rect_emb_val t y 1, (index_3 t).2]; rfl
  exact congrArg₂ (fun a b : EReal => a + b) (blk_2 m c t y) (Finset.sum_congr rfl fun k _ => congrArg₂ (fun a b : EReal => a * b)
    (blk_0 m c t (y 0) k ((win0_3.rect t).emb y 0) e0) (blk_1 m c t (y 1) k ((win0_3.rect t).emb y 1) e1))

/-- The reference's result is that sum. -/
theorem ref (x0 : S8192x3072.Idx → EReal) (x1 : S2048x3072.Idx → EReal) (x2 : S8192x2048.Idx → EReal) :
    Cert.DhBRefIdeal.Read.val_main_v5 (F := Ideal) x0 x1 x2 = res x0 x1 x2 := by
  funext i
  refine congrArg (x2 i + ·) ((Cert.DhBRefIdeal.Read.val_main_v4_apply x0 x1 i).trans ?_)
  exact Finset.sum_congr rfl fun k _ => congrArg₂ (fun a b => x0 a * x1 b)
    (funext fun a => by match a with | ⟨0, _⟩ => rfl | ⟨1, _⟩ => rfl) (funext fun a => by match a with | ⟨0, _⟩ => rfl | ⟨1, _⟩ => rfl)

end Cert.ProdDhB

end
-- ==== Proof.ProdDw.lean ====
/-
  THE GRADIENT OF A LAYER'S PRODUCT IN THE WEIGHT: the rows' columns times the cotangent's columns, summed over all the tokens.
  A block of the result takes eight points of the grid, one per block of tokens: the scratch carries the sum so far, and the last
  of the eight adds its part and writes the block.
-/
module

public import proofs.«01_k».proof.Proof.ProdRow
public import proofs.«01_k».proof.Proof.Gen.DwIdeal.Value
public import proofs.«01_k».proof.Proof.Gen.DwRefIdeal.Read

@[expose] public section

set_option maxRecDepth 16384

noncomputable section

namespace Cert.ProdDw

open Cert.DwIdeal Cert.DwIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

section Cases

variable (c : Dev nD) (i : grid0.Coords)
  (arg3 : Memref sig .tc .vmem S1024x2048 .bf16) (harg3 : arg3.IsWhole) (arg4 : Memref sig .tc .vmem S1024x1024 EltTy.f32) (harg4 : arg4.IsWhole)
  (arg5 : Memref sig .tc .vmem S2048x1024 .bf16) (harg5 : arg5.IsWhole) (arg6 : Memref sig .tc .vmem S2048x1024 .f32) (harg6 : arg6.IsWhole)
  (x0 : Vec Ideal S1024x2048 .bf16) (x1 : Vec Ideal S1024x1024 EltTy.f32) (xs : Vec Ideal S2048x1024 .f32)

/-- One point's part: the block's columns times the cotangent block's. -/
def part (x0 : (⟨2, ![1024, 2048]⟩ : Shape).Idx → EReal) (x1 : (⟨2, ![1024, 1024]⟩ : Shape).Idx → EReal) : S2048x1024.Idx → EReal :=
  fun y => ∑ k : Fin 1024, x0 (ix2 k (y 0)) * x1 (ix2 k (y 1))

theorem pay1_at (y : S2048x1024.Idx) : k0_pay1 x0 x1 y = part x0 x1 y := by
  unfold k0_pay1
  rw [shapeCast_self]
  exact (congrArg _ (eq_ix2 y)).trans (Dots.mm_tn _ x0 x1 (y 0) (y 1))

theorem pay2_at (y : S2048x1024.Idx) : k0_pay2 xs x0 x1 y = xs y + part x0 x1 y := by
  unfold k0_pay2
  rw [shapeCast_self]
  exact congrArg (xs y + ·) ((congrArg _ (eq_ix2 y)).trans (Dots.mm_tn _ x0 x1 (y 0) (y 1)))

theorem pay3_at (y : S2048x1024.Idx) : k0_pay3 xs x0 x1 y = xs y + part x0 x1 y :=
  congrArg (xs y + ·) ((congrArg _ (eq_ix2 y)).trans (Dots.mm_tn _ x0 x1 (y 0) (y 1)))

theorem hz : (![0, 0] : Fin 2 → Nat) = fun _ => 0 := funext fun a => by fin_cases a <;> rfl

theorem sc_A (hc0 : cond0_0 i) (hc1 : ¬cond0_1 i) (hc2 : ¬cond0_2 i) (y : S2048x1024.Idx) :
    sout0_A_0 c i arg3 harg3 arg4 harg4 arg5 harg5 arg6 harg6 hc0 hc1 hc2 x0 x1 y = part x0 x1 y := by
  have hcov := scover0_A_0 c i arg3 harg3 arg4 harg4 arg5 harg5 arg6 harg6 hc0 hc1 hc2 x0 x1
  unfold sout0_A_0
  rw [View.read_writes_eq_canon _ _ _ hcov]
  unfold kernelRun0_A
  dsimp only
  sl_unfold_words
  simp only [View.readAt_eq_ld, harg3.read_unread, harg4.read_unread]
  rw [View.canon_unit_zero hz, View.ld_unit_zero hz, View.ld_unit_zero hz]
  exact pay1_at x0 x1 y

theorem sc_B (hc0 : ¬cond0_0 i) (hc1 : cond0_1 i) (hc2 : ¬cond0_2 i) (y : S2048x1024.Idx) :
    sout0_B_0 c i arg3 harg3 arg4 harg4 arg5 harg5 arg6 harg6 hc0 hc1 hc2 x0 x1 xs y = xs y + part x0 x1 y := by
  have hcov := scover0_B_0 c i arg3 harg3 arg4 harg4 arg5 harg5 arg6 harg6 hc0 hc1 hc2 x0 x1 xs
  unfold sout0_B_0
  rw [View.read_writes_eq_canon _ _ _ hcov]
  unfold kernelRun0_B
  dsimp only
  sl_unfold_words
  simp only [View.readAt_eq_ld, harg3.read_unread, harg4.read_unread, harg6.read_unread]
  rw [View.canon_unit_zero hz, View.ld_unit_zero hz, View.ld_unit_zero hz, View.ld_unit_zero hz]
  exact pay2_at x0 x1 xs y

theorem out_C (hc0 : ¬cond0_0 i) (hc1 : ¬cond0_1 i) (hc2 : cond0_2 i) (y : S2048x1024.Idx) :
    out0_C_2 c i arg3 harg3 arg4 harg4 arg5 harg5 arg6 harg6 hc0 hc1 hc2 x0 x1 xs y = xs y + part x0 x1 y := by
  have hcov := cover0_C_2 c i arg3 harg3 arg4 harg4 arg5 harg5 arg6 harg6 hc0 hc1 hc2 x0 x1 xs
  unfold out0_C_2
  rw [View.read_writes_eq_canon _ _ _ hcov]
  unfold kernelRun0_C
  dsimp only
  sl_unfold_words
  simp only [View.readAt_eq_ld, harg3.read_unread, harg4.read_unread, harg6.read_unread]
  rw [View.canon_unit_zero hz, View.ld_unit_zero hz, View.ld_unit_zero hz, View.ld_unit_zero hz]
  exact pay3_at x0 x1 xs y

end Cases

variable (m : (ℓ : Loc nD τ sig) → Buf (Elt Ideal) ℓ) (c : Dev nD)

/-- The tokens' rows, and the cotangent. -/
abbrev A : (⟨2, ![8192, 2048]⟩ : Shape).Idx → EReal := m ((c : Thread nD τ).loc main_arg0)
@[inherit_doc A]
abbrev B : (⟨2, ![8192, 3072]⟩ : Shape).Idx → EReal := m ((c : Thread nD τ).loc main_arg1)

theorem index_0 : ∀ t : Fin cfg0.N, win0_0.index t 0 = t.val % 8 ∧ win0_0.index t 1 = 0 := by decide +kernel
theorem index_1 : ∀ t : Fin cfg0.N, win0_1.index t 0 = t.val % 8 ∧ win0_1.index t 1 = t.val / 8 := by decide +kernel
theorem index_2 : ∀ t : Fin cfg0.N, win0_2.index t 0 = 0 ∧ win0_2.index t 1 = t.val / 8 := by decide +kernel

theorem blk_0 (t : Fin cfg0.N) (k : Fin 1024) (r : Fin 2048) : iblk m c 0 t (ix2 k r) = at2 (A m c) (1024 * (t.val % 8) + k.val) r.val :=
  at2_eq (A m c) ((win0_0.rect t).emb (ix2 k r)) _ _
    (by rw [win0_0.rect_emb_val t _ 0, (index_0 t).1]; show t.val % 8 * 1024 + k.val = _; omega)
    (by rw [win0_0.rect_emb_val t _ 1, (index_0 t).2]; show 0 * 2048 + r.val = _; omega)

theorem blk_1 (t : Fin cfg0.N) (k : Fin 1024) (s : Fin 1024) :
    iblk m c 1 t (ix2 k s) = at2 (B m c) (1024 * (t.val % 8) + k.val) (1024 * (t.val / 8) + s.val) :=
  at2_eq (B m c) ((win0_1.rect t).emb (ix2 k s)) _ _
    (by rw [win0_1.rect_emb_val t _ 0, (index_1 t).1]; show t.val % 8 * 1024 + k.val = _; omega)
    (by rw [win0_1.rect_emb_val t _ 1, (index_1 t).2]; show t.val / 8 * 1024 + s.val = _; omega)

/-- The part of one point, added to the parts before it. -/
theorem part_add (t : Fin cfg0.N) (y : S2048x1024.Idx) (n : ℕ) (hn : n = 1024 * (t.val % 8)) :
    Prod.tnTo (A m c) (B m c) n (y 0).val (1024 * (t.val / 8) + (y 1).val) + part (iblk m c 0 t) (iblk m c 1 t) y
      = Prod.tnTo (A m c) (B m c) (1024 * (t.val % 8 + 1)) (y 0).val (1024 * (t.val / 8) + (y 1).val) := by
  subst hn
  exact Prod.tnTo_add (b := 1024) (m := 2048) (n := 1024) (A m c) (B m c) (iblk m c 0 t) (iblk m c 1 t) (1024 * (t.val % 8)) (y 0) (y 1)
    (y 0).val (1024 * (t.val / 8) + (y 1).val) (fun k => blk_0 m c t k (y 0)) (fun k => blk_1 m c t k (y 1))

/-- What the scratch holds after a point that is not the last of its eight. -/
theorem sc_at : ∀ (n : ℕ) (hn : n < cfg0.N) (y : S2048x1024.Idx), n % 8 ≠ 7 →
    (outsAt0 m c n hn).2 y = Prod.tnTo (A m c) (B m c) (1024 * (n % 8 + 1)) (y 0).val (1024 * (n / 8) + (y 1).val) := by
  intro n
  induction n with
  | zero =>
    intro hn y _
    have e := outsAt0_A m c ⟨0, hn⟩ rfl (by dsimp only; omega) (by dsimp only; omega)
    dsimp only at e
    rw [e]
    dsimp only
    rw [sc_A]
    refine Eq.trans ?_ (part_add m c ⟨0, hn⟩ y 0 rfl)
    rw [Prod.tnTo_zero, zero_add]
  | succ n ih =>
    intro hn y h7
    by_cases h0 : (n + 1) % 8 = 0
    · have e := outsAt0_A m c ⟨n + 1, hn⟩ h0 (by dsimp only; omega) (by dsimp only; omega)
      dsimp only at e
      rw [e]
      dsimp only
      rw [sc_A]
      refine Eq.trans ?_ (part_add m c ⟨n + 1, hn⟩ y 0 (by dsimp only; omega))
      rw [Prod.tnTo_zero, zero_add]
    · have e := outsAt0_B m c ⟨n + 1, hn⟩ h0 (by dsimp only; omega) (by dsimp only; omega)
      dsimp only at e
      rw [e]
      dsimp only
      rw [sc_B]
      refine Eq.trans (congrArg (· + _) ?_) (part_add m c ⟨n + 1, hn⟩ y (1024 * (n % 8 + 1)) (by dsimp only; omega))
      simp only [Nat.add_sub_cancel]
      rw [ih _ y (by omega), show n / 8 = (n + 1) / 8 from by omega]

/-- What the last of the eight points writes. -/
theorem out_last (t : Fin cfg0.N) (h7 : t.val % 8 = 7) (y : S2048x1024.Idx) :
    (outsAt0 m c t.val t.isLt).1 y = Prod.tnTo (A m c) (B m c) 8192 (y 0).val (1024 * (t.val / 8) + (y 1).val) := by
  rw [outsAt0_C m c t (by omega) (by omega) h7]
  dsimp only
  rw [out_C]
  refine Eq.trans (congrArg (· + _) ?_) ((part_add m c t y (1024 * 7) (by omega)).trans (by rw [h7]))
  rw [sc_at m c (t.val - 1) _ y (by omega), show (t.val - 1) % 8 = 6 from by omega, show (t.val - 1) / 8 = t.val / 8 from by omega]

theorem cut_2 : ∀ t : Fin cfg0.N, win0_2.xsize (grid0.coords t) 0 = 2048 ∧ win0_2.xsize (grid0.coords t) 1 = 1024 := by decide +kernel

theorem cover (i : S2048x3072.Idx) : ∃ t : Fin cfg0.N, (cfg0.win 2).flush t = true ∧ i ∈ ((cfg0.win 2).blk t).view.set := by
  have hN : cfg0.N = 24 := N_0
  have h0 : (i 0 : Nat) < 2048 := (i 0).isLt
  have h1 : (i 1 : Nat) < 3072 := (i 1).isLt
  have ht : 8 * ((i 1 : Nat) / 1024) + 7 < cfg0.N := by omega
  refine ⟨⟨8 * ((i 1 : Nat) / 1024) + 7, ht⟩, (flush0_2 _).mpr (by dsimp only; omega), ?_⟩
  refine (Finset.ext_iff.mp (View.set_slice_whole main_v0 (win0_2.rect ⟨8 * ((i 1 : Nat) / 1024) + 7, ht⟩)) i).mpr ?_
  rw [Rect.mem_set_unit]
  intro a
  match a with
  | ⟨0, _⟩ =>
      show win0_2.index _ 0 * 2048 ≤ (i 0 : Nat) ∧ (i 0 : Nat) < win0_2.index _ 0 * 2048 + win0_2.xsize _ 0
      rw [(index_2 _).1, (cut_2 _).1]; omega
  | ⟨1, _⟩ =>
      show win0_2.index _ 1 * 1024 ≤ (i 1 : Nat) ∧ (i 1 : Nat) < win0_2.index _ 1 * 1024 + win0_2.xsize _ 1
      rw [(index_2 _).2, (cut_2 _).2]; dsimp only; omega

/-- The result is the product of the columns. -/
theorem final : (dats m 0 c).arrAt 2 cfg0.N = Prod.tn (A m c) (B m c) := by
  refine (dats m 0 c).arrAt_eq_of_cover 2 (Prod.tn (A m c) (B m c)) (fun t hf => ?_) fun i => cover i
  rw [Value.flushed2]
  funext y
  refine (out_last m c t ((flush0_2 t).mp hf) y).trans ?_
  have e0 : ((win0_2.rect t).emb y 0 : Nat) = (y 0).val := by
    rw [win0_2.rect_emb_val t y 0, (index_2 t).1]; show 0 * 2048 + _ = _; omega
  have e1 : ((win0_2.rect t).emb y 1 : Nat) = 1024 * (t.val / 8) + (y 1).val := by
    rw [win0_2.rect_emb_val t y 1, (index_2 t).2]; show t.val / 8 * 1024 + _ = _; omega
  rw [← e0, ← e1]
  exact Prod.tnTo_all (A m c) (B m c) ((win0_2.rect t).emb y)

/-- The reference's result is that product. -/
theorem ref (x0 : S8192x2048.Idx → EReal) (x1 : S8192x3072.Idx → EReal) : Cert.DwRefIdeal.Read.val_main_v5 (F := Ideal) x0 x1 = Prod.tn x0 x1 := by
  funext i
  rw [Cert.DwRefIdeal.Read.val_main_v5_apply]
  refine (Cert.DwRefIdeal.Read.val_main_v4_apply (F := Ideal) x0 x1 i).trans ((Cert.DwRefIdeal.Read.val_main_v3_apply x0 x1 _).trans ?_)
  exact Finset.sum_congr rfl fun k _ => (mul_comm _ _).trans (congrArg₂ (fun a b => x0 a * x1 b)
    (funext fun a => by match a with | ⟨0, _⟩ => rfl | ⟨1, _⟩ => rfl) (funext fun a => by match a with | ⟨0, _⟩ => rfl | ⟨1, _⟩ => rfl))

end Cert.ProdDw

end
-- ==== Proof.ProdDwB.lean ====
/-
  THE GRADIENT OF A LAYER'S PRODUCT IN THE WEIGHT, of a cotangent kept in sixteen bits: the rows' columns times the cotangent's columns, summed over all the tokens.
  A block of the result takes eight points of the grid, one per block of tokens: the scratch carries the sum so far, and the last
  of the eight adds its part and writes the block.
-/
module

public import proofs.«01_k».proof.Proof.ProdRow
public import proofs.«01_k».proof.Proof.Gen.DwBIdeal.Value
public import proofs.«01_k».proof.Proof.Gen.DwBRefIdeal.Read

@[expose] public section

set_option maxRecDepth 16384

noncomputable section

namespace Cert.ProdDwB

open Cert.DwBIdeal Cert.DwBIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

section Cases

variable (c : Dev nD) (i : grid0.Coords)
  (arg3 : Memref sig .tc .vmem S1024x2048 .bf16) (harg3 : arg3.IsWhole) (arg4 : Memref sig .tc .vmem S1024x1024 EltTy.bf16) (harg4 : arg4.IsWhole)
  (arg5 : Memref sig .tc .vmem S2048x1024 .bf16) (harg5 : arg5.IsWhole) (arg6 : Memref sig .tc .vmem S2048x1024 .f32) (harg6 : arg6.IsWhole)
  (x0 : Vec Ideal S1024x2048 .bf16) (x1 : Vec Ideal S1024x1024 EltTy.bf16) (xs : Vec Ideal S2048x1024 .f32)

/-- One point's part: the block's columns times the cotangent block's. -/
def part (x0 : (⟨2, ![1024, 2048]⟩ : Shape).Idx → EReal) (x1 : (⟨2, ![1024, 1024]⟩ : Shape).Idx → EReal) : S2048x1024.Idx → EReal :=
  fun y => ∑ k : Fin 1024, x0 (ix2 k (y 0)) * x1 (ix2 k (y 1))

theorem pay1_at (y : S2048x1024.Idx) : k0_pay1 x0 x1 y = part x0 x1 y := by
  unfold k0_pay1
  rw [shapeCast_self]
  exact (congrArg _ (eq_ix2 y)).trans (Dots.mm_tn _ x0 x1 (y 0) (y 1))

theorem pay2_at (y : S2048x1024.Idx) : k0_pay2 xs x0 x1 y = xs y + part x0 x1 y := by
  unfold k0_pay2
  rw [shapeCast_self]
  exact congrArg (xs y + ·) ((congrArg _ (eq_ix2 y)).trans (Dots.mm_tn _ x0 x1 (y 0) (y 1)))

theorem pay3_at (y : S2048x1024.Idx) : k0_pay3 xs x0 x1 y = xs y + part x0 x1 y :=
  congrArg (xs y + ·) ((congrArg _ (eq_ix2 y)).trans (Dots.mm_tn _ x0 x1 (y 0) (y 1)))

theorem hz : (![0, 0] : Fin 2 → Nat) = fun _ => 0 := funext fun a => by fin_cases a <;> rfl

theorem sc_A (hc0 : cond0_0 i) (hc1 : ¬cond0_1 i) (hc2 : ¬cond0_2 i) (y : S2048x1024.Idx) :
    sout0_A_0 c i arg3 harg3 arg4 harg4 arg5 harg5 arg6 harg6 hc0 hc1 hc2 x0 x1 y = part x0 x1 y := by
  have hcov := scover0_A_0 c i arg3 harg3 arg4 harg4 arg5 harg5 arg6 harg6 hc0 hc1 hc2 x0 x1
  unfold sout0_A_0
  rw [View.read_writes_eq_canon _ _ _ hcov]
  unfold kernelRun0_A
  dsimp only
  sl_unfold_words
  simp only [View.readAt_eq_ld, harg3.read_unread, harg4.read_unread]
  rw [View.canon_unit_zero hz, View.ld_unit_zero hz, View.ld_unit_zero hz]
  exact pay1_at x0 x1 y

theorem sc_B (hc0 : ¬cond0_0 i) (hc1 : cond0_1 i) (hc2 : ¬cond0_2 i) (y : S2048x1024.Idx) :
    sout0_B_0 c i arg3 harg3 arg4 harg4 arg5 harg5 arg6 harg6 hc0 hc1 hc2 x0 x1 xs y = xs y + part x0 x1 y := by
  have hcov := scover0_B_0 c i arg3 harg3 arg4 harg4 arg5 harg5 arg6 harg6 hc0 hc1 hc2 x0 x1 xs
  unfold sout0_B_0
  rw [View.read_writes_eq_canon _ _ _ hcov]
  unfold kernelRun0_B
  dsimp only
  sl_unfold_words
  simp only [View.readAt_eq_ld, harg3.read_unread, harg4.read_unread, harg6.read_unread]
  rw [View.canon_unit_zero hz, View.ld_unit_zero hz, View.ld_unit_zero hz, View.ld_unit_zero hz]
  exact pay2_at x0 x1 xs y

theorem out_C (hc0 : ¬cond0_0 i) (hc1 : ¬cond0_1 i) (hc2 : cond0_2 i) (y : S2048x1024.Idx) :
    out0_C_2 c i arg3 harg3 arg4 harg4 arg5 harg5 arg6 harg6 hc0 hc1 hc2 x0 x1 xs y = xs y + part x0 x1 y := by
  have hcov := cover0_C_2 c i arg3 harg3 arg4 harg4 arg5 harg5 arg6 harg6 hc0 hc1 hc2 x0 x1 xs
  unfold out0_C_2
  rw [View.read_writes_eq_canon _ _ _ hcov]
  unfold kernelRun0_C
  dsimp only
  sl_unfold_words
  simp only [View.readAt_eq_ld, harg3.read_unread, harg4.read_unread, harg6.read_unread]
  rw [View.canon_unit_zero hz, View.ld_unit_zero hz, View.ld_unit_zero hz, View.ld_unit_zero hz]
  exact pay3_at x0 x1 xs y

end Cases

variable (m : (ℓ : Loc nD τ sig) → Buf (Elt Ideal) ℓ) (c : Dev nD)

/-- The tokens' rows, and the cotangent. -/
abbrev A : (⟨2, ![8192, 2048]⟩ : Shape).Idx → EReal := m ((c : Thread nD τ).loc main_arg0)
@[inherit_doc A]
abbrev B : (⟨2, ![8192, 3072]⟩ : Shape).Idx → EReal := m ((c : Thread nD τ).loc main_arg1)

theorem index_0 : ∀ t : Fin cfg0.N, win0_0.index t 0 = t.val % 8 ∧ win0_0.index t 1 = 0 := by decide +kernel
theorem index_1 : ∀ t : Fin cfg0.N, win0_1.index t 0 = t.val % 8 ∧ win0_1.index t 1 = t.val / 8 := by decide +kernel
theorem index_2 : ∀ t : Fin cfg0.N, win0_2.index t 0 = 0 ∧ win0_2.index t 1 = t.val / 8 := by decide +kernel

theorem blk_0 (t : Fin cfg0.N) (k : Fin 1024) (r : Fin 2048) : iblk m c 0 t (ix2 k r) = at2 (A m c) (1024 * (t.val % 8) + k.val) r.val :=
  at2_eq (A m c) ((win0_0.rect t).emb (ix2 k r)) _ _
    (by rw [win0_0.rect_emb_val t _ 0, (index_0 t).1]; show t.val % 8 * 1024 + k.val = _; omega)
    (by rw [win0_0.rect_emb_val t _ 1, (index_0 t).2]; show 0 * 2048 + r.val = _; omega)

theorem blk_1 (t : Fin cfg0.N) (k : Fin 1024) (s : Fin 1024) :
    iblk m c 1 t (ix2 k s) = at2 (B m c) (1024 * (t.val % 8) + k.val) (1024 * (t.val / 8) + s.val) :=
  at2_eq (B m c) ((win0_1.rect t).emb (ix2 k s)) _ _
    (by rw [win0_1.rect_emb_val t _ 0, (index_1 t).1]; show t.val % 8 * 1024 + k.val = _; omega)
    (by rw [win0_1.rect_emb_val t _ 1, (index_1 t).2]; show t.val / 8 * 1024 + s.val = _; omega)

/-- The part of one point, added to the parts before it. -/
theorem part_add (t : Fin cfg0.N) (y : S2048x1024.Idx) (n : ℕ) (hn : n = 1024 * (t.val % 8)) :
    Prod.tnTo (A m c) (B m c) n (y 0).val (1024 * (t.val / 8) + (y 1).val) + part (iblk m c 0 t) (iblk m c 1 t) y
      = Prod.tnTo (A m c) (B m c) (1024 * (t.val % 8 + 1)) (y 0).val (1024 * (t.val / 8) + (y 1).val) := by
  subst hn
  exact Prod.tnTo_add (b := 1024) (m := 2048) (n := 1024) (A m c) (B m c) (iblk m c 0 t) (iblk m c 1 t) (1024 * (t.val % 8)) (y 0) (y 1)
    (y 0).val (1024 * (t.val / 8) + (y 1).val) (fun k => blk_0 m c t k (y 0)) (fun k => blk_1 m c t k (y 1))

/-- What the scratch holds after a point that is not the last of its eight. -/
theorem sc_at : ∀ (n : ℕ) (hn : n < cfg0.N) (y : S2048x1024.Idx), n % 8 ≠ 7 →
    (outsAt0 m c n hn).2 y = Prod.tnTo (A m c) (B m c) (1024 * (n % 8 + 1)) (y 0).val (1024 * (n / 8) + (y 1).val) := by
  intro n
  induction n with
  | zero =>
    intro hn y _
    have e := outsAt0_A m c ⟨0, hn⟩ rfl (by dsimp only; omega) (by dsimp only; omega)
    dsimp only at e
    rw [e]
    dsimp only
    rw [sc_A]
    refine Eq.trans ?_ (part_add m c ⟨0, hn⟩ y 0 rfl)
    rw [Prod.tnTo_zero, zero_add]
  | succ n ih =>
    intro hn y h7
    by_cases h0 : (n + 1) % 8 = 0
    · have e := outsAt0_A m c ⟨n + 1, hn⟩ h0 (by dsimp only; omega) (by dsimp only; omega)
      dsimp only at e
      rw [e]
      dsimp only
      rw [sc_A]
      refine Eq.trans ?_ (part_add m c ⟨n + 1, hn⟩ y 0 (by dsimp only; omega))
      rw [Prod.tnTo_zero, zero_add]
    · have e := outsAt0_B m c ⟨n + 1, hn⟩ h0 (by dsimp only; omega) (by dsimp only; omega)
      dsimp only at e
      rw [e]
      dsimp only
      rw [sc_B]
      refine Eq.trans (congrArg (· + _) ?_) (part_add m c ⟨n + 1, hn⟩ y (1024 * (n % 8 + 1)) (by dsimp only; omega))
      simp only [Nat.add_sub_cancel]
      rw [ih _ y (by omega), show n / 8 = (n + 1) / 8 from by omega]

/-- What the last of the eight points writes. -/
theorem out_last (t : Fin cfg0.N) (h7 : t.val % 8 = 7) (y : S2048x1024.Idx) :
    (outsAt0 m c t.val t.isLt).1 y = Prod.tnTo (A m c) (B m c) 8192 (y 0).val (1024 * (t.val / 8) + (y 1).val) := by
  rw [outsAt0_C m c t (by omega) (by omega) h7]
  dsimp only
  rw [out_C]
  refine Eq.trans (congrArg (· + _) ?_) ((part_add m c t y (1024 * 7) (by omega)).trans (by rw [h7]))
  rw [sc_at m c (t.val - 1) _ y (by omega), show (t.val - 1) % 8 = 6 from by omega, show (t.val - 1) / 8 = t.val / 8 from by omega]

theorem cut_2 : ∀ t : Fin cfg0.N, win0_2.xsize (grid0.coords t) 0 = 2048 ∧ win0_2.xsize (grid0.coords t) 1 = 1024 := by decide +kernel

theorem cover (i : S2048x3072.Idx) : ∃ t : Fin cfg0.N, (cfg0.win 2).flush t = true ∧ i ∈ ((cfg0.win 2).blk t).view.set := by
  have hN : cfg0.N = 24 := N_0
  have h0 : (i 0 : Nat) < 2048 := (i 0).isLt
  have h1 : (i 1 : Nat) < 3072 := (i 1).isLt
  have ht : 8 * ((i 1 : Nat) / 1024) + 7 < cfg0.N := by omega
  refine ⟨⟨8 * ((i 1 : Nat) / 1024) + 7, ht⟩, (flush0_2 _).mpr (by dsimp only; omega), ?_⟩
  refine (Finset.ext_iff.mp (View.set_slice_whole main_v0 (win0_2.rect ⟨8 * ((i 1 : Nat) / 1024) + 7, ht⟩)) i).mpr ?_
  rw [Rect.mem_set_unit]
  intro a
  match a with
  | ⟨0, _⟩ =>
      show win0_2.index _ 0 * 2048 ≤ (i 0 : Nat) ∧ (i 0 : Nat) < win0_2.index _ 0 * 2048 + win0_2.xsize _ 0
      rw [(index_2 _).1, (cut_2 _).1]; omega
  | ⟨1, _⟩ =>
      show win0_2.index _ 1 * 1024 ≤ (i 1 : Nat) ∧ (i 1 : Nat) < win0_2.index _ 1 * 1024 + win0_2.xsize _ 1
      rw [(index_2 _).2, (cut_2 _).2]; dsimp only; omega

/-- The result is the product of the columns. -/
theorem final : (dats m 0 c).arrAt 2 cfg0.N = Prod.tn (A m c) (B m c) := by
  refine (dats m 0 c).arrAt_eq_of_cover 2 (Prod.tn (A m c) (B m c)) (fun t hf => ?_) fun i => cover i
  rw [Value.flushed2]
  funext y
  refine (out_last m c t ((flush0_2 t).mp hf) y).trans ?_
  have e0 : ((win0_2.rect t).emb y 0 : Nat) = (y 0).val := by
    rw [win0_2.rect_emb_val t y 0, (index_2 t).1]; show 0 * 2048 + _ = _; omega
  have e1 : ((win0_2.rect t).emb y 1 : Nat) = 1024 * (t.val / 8) + (y 1).val := by
    rw [win0_2.rect_emb_val t y 1, (index_2 t).2]; show t.val / 8 * 1024 + _ = _; omega
  rw [← e0, ← e1]
  exact Prod.tnTo_all (A m c) (B m c) ((win0_2.rect t).emb y)

/-- The reference's result is that product. -/
theorem ref (x0 : S8192x2048.Idx → EReal) (x1 : S8192x3072.Idx → EReal) : Cert.DwBRefIdeal.Read.val_main_v6 (F := Ideal) x0 x1 = Prod.tn x0 x1 := by
  funext i
  rw [Cert.DwBRefIdeal.Read.val_main_v6_apply]
  refine (Cert.DwBRefIdeal.Read.val_main_v5_apply (F := Ideal) x0 x1 i).trans ((Cert.DwBRefIdeal.Read.val_main_v4_apply x0 x1 _).trans ?_)
  exact Finset.sum_congr rfl fun k _ => (mul_comm _ _).trans (congrArg₂ (fun a b => x0 a * x1 b)
    (funext fun a => by match a with | ⟨0, _⟩ => rfl | ⟨1, _⟩ => rfl) (funext fun a => by match a with | ⟨0, _⟩ => rfl | ⟨1, _⟩ => rfl))

end Cert.ProdDwB

end
-- ==== Proof.ProdTile.lean ====
/-
  SUMS CUT INTO BLOCKS, for the products whose inner axis or whose grid is walked block by block: a part of the sum, the parts
  put together along a grid whose last axis carries the sum, and a block of a window placed in its array.
-/
module

public import proofs.«01_k».proof.Proof.ProdRow
public import Idealize.ShloMosaic.Lib.Pipeline.ValueKit.Geometry

@[expose] public section

noncomputable section

namespace Cert.Prod

open Idealize.ShloMosaic Idealize.ShloMosaic.ValueIdx
open Cert.Mem (at2 at2_eq)
open scoped BigOperators

variable {M K N : ℕ}

/-- The part of a sum of products that its first `n` terms give. -/
def upTo (f g : ℕ → EReal) (n : ℕ) : EReal := ∑ k ∈ Finset.range n, f k * g k

theorem upTo_zero (f g : ℕ → EReal) : upTo f g 0 = 0 := by unfold upTo; simp

/-- The next `b` terms added. -/
theorem upTo_add {b : ℕ} {x y : Fin b → EReal} {f g : ℕ → EReal} {o : ℕ} (hx : ∀ k, x k = f (o + k.val)) (hy : ∀ k, y k = g (o + k.val)) :
    upTo f g o + ∑ k, x k * y k = upTo f g (o + b) := by
  unfold upTo
  rw [Finset.sum_range_add]
  refine congrArg (_ + ·) ?_
  rw [← Fin.sum_univ_eq_sum_range (fun k => f (o + k) * g (o + k)) b]
  exact Finset.sum_congr rfl fun k _ => congrArg₂ (· * ·) (hx k) (hy k)

/-- All the terms in one block. -/
theorem upTo_of {b : ℕ} {x y : Fin b → EReal} {f g : ℕ → EReal} (hx : ∀ k, x k = f k.val) (hy : ∀ k, y k = g k.val) :
    ∑ k, x k * y k = upTo f g b := by
  unfold upTo
  rw [Finset.sum_range]
  exact Finset.sum_congr rfl fun k _ => congrArg₂ (· * ·) (hx k) (hy k)

theorem upTo_nn (A : (⟨2, ![M, K]⟩ : Shape).Idx → EReal) (B : (⟨2, ![K, N]⟩ : Shape).Idx → EReal) (i : (⟨2, ![M, N]⟩ : Shape).Idx) :
    upTo (fun k => at2 A (i 0).val k) (fun k => at2 B k (i 1).val) K = nn A B i :=
  (upTo_of (f := fun k => at2 A (i 0).val k) (g := fun k => at2 B k (i 1).val) (fun k => at2_eq A (ix2 (i 0) k) _ _ rfl rfl) (fun k => at2_eq B (ix2 k (i 1)) _ _ rfl rfl)).symm

theorem upTo_nt (A : (⟨2, ![M, K]⟩ : Shape).Idx → EReal) (B : (⟨2, ![N, K]⟩ : Shape).Idx → EReal) (i : (⟨2, ![M, N]⟩ : Shape).Idx) :
    upTo (fun k => at2 A (i 0).val k) (fun k => at2 B (i 1).val k) K = nt A B i :=
  (upTo_of (fun k => at2_eq A (ix2 (i 0) k) _ _ rfl rfl) (fun k => at2_eq B (ix2 (i 1) k) _ _ rfl rfl)).symm

theorem upTo_tn (A : (⟨2, ![K, M]⟩ : Shape).Idx → EReal) (B : (⟨2, ![K, N]⟩ : Shape).Idx → EReal) (i : (⟨2, ![M, N]⟩ : Shape).Idx) :
    upTo (fun k => at2 A k (i 0).val) (fun k => at2 B k (i 1).val) K = tn A B i :=
  (upTo_of (f := fun k => at2 A k (i 0).val) (g := fun k => at2 B k (i 1).val) (fun k => at2_eq A (ix2 k (i 0)) _ _ rfl rfl) (fun k => at2_eq B (ix2 k (i 1)) _ _ rfl rfl)).symm

/-- A grid walked in runs of `q` points: the scratch starts afresh at a run's first point and takes each later point's part, so after
    a point it holds the sum of the run so far. `S r k` is the sum of the first `k` parts of run `r`. -/
theorem run_sum {q T : ℕ} (hq : 0 < q) (sc : ∀ n, n < T → EReal) (part : ∀ n, n < T → EReal) (S : ℕ → ℕ → EReal)
    (h0 : ∀ n hn, n % q = 0 → sc n hn = part n hn)
    (h1 : ∀ n (hn : n < T) (hp : n - 1 < T), n % q ≠ 0 → n % q ≠ q - 1 → sc n hn = sc (n - 1) hp + part n hn)
    (hz : ∀ r, S r 0 = 0) (hs : ∀ n hn, S (n / q) (n % q) + part n hn = S (n / q) (n % q + 1)) :
    ∀ n hn, n % q ≠ q - 1 → sc n hn = S (n / q) (n % q + 1) := by
  intro n
  induction n using Nat.strong_induction_on with
  | _ n ih =>
    intro hn hl
    rw [← hs n hn]
    by_cases h : n % q = 0
    · rw [h0 n hn h, h, hz, zero_add]
    · have hpos : 0 < n := Nat.pos_of_ne_zero fun e => h (by rw [e]; exact Nat.zero_mod q)
      have hd : (n - 1) / q = n / q := by
        have e := Nat.div_add_mod n q
        have hlt := Nat.mod_lt n hq
        refine Nat.div_eq_of_lt_le ?_ ?_
        · rw [Nat.mul_comm]; omega
        · rw [Nat.add_mul, Nat.mul_comm, Nat.one_mul]; omega
      have hm : (n - 1) % q + 1 = n % q := by
        have e := Nat.div_add_mod n q
        have e' := Nat.div_add_mod (n - 1) q
        rw [hd] at e'
        omega
      have hlt := Nat.mod_lt n hq
      rw [h1 n hn (by omega) h hl, ih (n - 1) (by omega) (by omega) (by omega), hd, hm]

/-- An element of a window's block, placed in the window's array. -/
theorem emb_at {sig : RefSig} {G : Pipeline.Grid} (w : Pipeline.Window sig G) (t : Fin G.N) (y : (w.xblock (G.coords t)).Idx) (a : Fin w.shape.rank)
    {n : ℕ} (hk : w.kind = .blocked) (h : w.index t a * w.size a + (y a).val = n) : ((w.rect t).emb y a).val = n :=
  (w.rect_emb_val t y a (hk := hk)).trans h

/-- At the last point of a run, the sum of the run before it and its own part are the whole run's. -/
theorem run_last {q T : ℕ} (hq : 1 < q) (sc : ∀ n, n < T → EReal) (part : ∀ n, n < T → EReal) (S : ℕ → ℕ → EReal)
    (h0 : ∀ n hn, n % q = 0 → sc n hn = part n hn)
    (h1 : ∀ n (hn : n < T) (hp : n - 1 < T), n % q ≠ 0 → n % q ≠ q - 1 → sc n hn = sc (n - 1) hp + part n hn)
    (hz : ∀ r, S r 0 = 0) (hs : ∀ n hn, S (n / q) (n % q) + part n hn = S (n / q) (n % q + 1))
    (n : ℕ) (hn : n < T) (hp : n - 1 < T) (hl : n % q = q - 1) : sc (n - 1) hp + part n hn = S (n / q) q := by
  have e := Nat.div_add_mod n q
  have hd : (n - 1) / q = n / q := by
    refine Nat.div_eq_of_lt_le ?_ ?_
    · rw [Nat.mul_comm]; omega
    · rw [Nat.add_mul, Nat.mul_comm, Nat.one_mul]; omega
  have hm : (n - 1) % q + 1 = n % q := by
    have e' := Nat.div_add_mod (n - 1) q
    rw [hd] at e'
    omega
  have h := hs n hn
  rw [run_sum (by omega) sc part S h0 h1 hz hs (n - 1) hp (by omega), hd, hm, h, hl]
  congr 1
  omega

/-! ## A tile of a product, in its three modes -/

section Tile

variable {m k n : ℕ}

/-- A tile's part of the rows by columns, added to what the sum has so far. -/
theorem tile_nn (A : (⟨2, ![M, K]⟩ : Shape).Idx → EReal) (B : (⟨2, ![K, N]⟩ : Shape).Idx → EReal)
    (x : (⟨2, ![m, k]⟩ : Shape).Idx → EReal) (y : (⟨2, ![k, n]⟩ : Shape).Idx → EReal) (p q o : ℕ)
    (hx : ∀ r c, x (ix2 r c) = at2 A (p + r.val) (o + c.val)) (hy : ∀ r c, y (ix2 r c) = at2 B (o + r.val) (q + c.val))
    (i : (⟨2, ![m, n]⟩ : Shape).Idx) :
    upTo (fun k => at2 A (p + (i 0).val) k) (fun k => at2 B k (q + (i 1).val)) o + nn x y i
      = upTo (fun k => at2 A (p + (i 0).val) k) (fun k => at2 B k (q + (i 1).val)) (o + k) :=
  upTo_add (f := fun k => at2 A (p + (i 0).val) k) (g := fun k => at2 B k (q + (i 1).val)) (fun c => hx (i 0) c) fun c => hy c (i 1)

/-- The same for rows by rows. -/
theorem tile_nt (A : (⟨2, ![M, K]⟩ : Shape).Idx → EReal) (B : (⟨2, ![N, K]⟩ : Shape).Idx → EReal)
    (x : (⟨2, ![m, k]⟩ : Shape).Idx → EReal) (y : (⟨2, ![n, k]⟩ : Shape).Idx → EReal) (p q o : ℕ)
    (hx : ∀ r c, x (ix2 r c) = at2 A (p + r.val) (o + c.val)) (hy : ∀ r c, y (ix2 r c) = at2 B (q + r.val) (o + c.val))
    (i : (⟨2, ![m, n]⟩ : Shape).Idx) :
    upTo (fun k => at2 A (p + (i 0).val) k) (fun k => at2 B (q + (i 1).val) k) o + nt x y i
      = upTo (fun k => at2 A (p + (i 0).val) k) (fun k => at2 B (q + (i 1).val) k) (o + k) :=
  upTo_add (f := fun k => at2 A (p + (i 0).val) k) (g := fun k => at2 B (q + (i 1).val) k) (fun c => hx (i 0) c) fun c => hy (i 1) c

/-- The same for columns by columns. -/
theorem tile_tn (A : (⟨2, ![K, M]⟩ : Shape).Idx → EReal) (B : (⟨2, ![K, N]⟩ : Shape).Idx → EReal)
    (x : (⟨2, ![k, m]⟩ : Shape).Idx → EReal) (y : (⟨2, ![k, n]⟩ : Shape).Idx → EReal) (p q o : ℕ)
    (hx : ∀ r c, x (ix2 r c) = at2 A (o + r.val) (p + c.val)) (hy : ∀ r c, y (ix2 r c) = at2 B (o + r.val) (q + c.val))
    (i : (⟨2, ![m, n]⟩ : Shape).Idx) :
    upTo (fun k => at2 A k (p + (i 0).val)) (fun k => at2 B k (q + (i 1).val)) o + tn x y i
      = upTo (fun k => at2 A k (p + (i 0).val)) (fun k => at2 B k (q + (i 1).val)) (o + k) :=
  upTo_add (f := fun k => at2 A k (p + (i 0).val)) (g := fun k => at2 B k (q + (i 1).val)) (fun c => hx c (i 0)) fun c => hy c (i 1)

/-- A tile whose inner axis is whole is the product's tile. -/
theorem whole_nn (A : (⟨2, ![M, K]⟩ : Shape).Idx → EReal) (B : (⟨2, ![K, N]⟩ : Shape).Idx → EReal)
    (x : (⟨2, ![m, K]⟩ : Shape).Idx → EReal) (y : (⟨2, ![K, n]⟩ : Shape).Idx → EReal) (p q : ℕ)
    (hx : ∀ r c, x (ix2 r c) = at2 A (p + r.val) (0 + c.val)) (hy : ∀ r c, y (ix2 r c) = at2 B (0 + r.val) (q + c.val))
    (i : (⟨2, ![m, n]⟩ : Shape).Idx) (e : (⟨2, ![M, N]⟩ : Shape).Idx) (h0 : (e 0).val = p + (i 0).val) (h1 : (e 1).val = q + (i 1).val) :
    nn x y i = nn A B e := by
  have h := tile_nn A B x y p q 0 hx hy i
  rw [upTo_zero, zero_add, Nat.zero_add, ← h0, ← h1, upTo_nn] at h
  exact h

@[inherit_doc whole_nn]
theorem whole_nt (A : (⟨2, ![M, K]⟩ : Shape).Idx → EReal) (B : (⟨2, ![N, K]⟩ : Shape).Idx → EReal)
    (x : (⟨2, ![m, K]⟩ : Shape).Idx → EReal) (y : (⟨2, ![n, K]⟩ : Shape).Idx → EReal) (p q : ℕ)
    (hx : ∀ r c, x (ix2 r c) = at2 A (p + r.val) (0 + c.val)) (hy : ∀ r c, y (ix2 r c) = at2 B (q + r.val) (0 + c.val))
    (i : (⟨2, ![m, n]⟩ : Shape).Idx) (e : (⟨2, ![M, N]⟩ : Shape).Idx) (h0 : (e 0).val = p + (i 0).val) (h1 : (e 1).val = q + (i 1).val) :
    nt x y i = nt A B e := by
  have h := tile_nt A B x y p q 0 hx hy i
  rw [upTo_zero, zero_add, Nat.zero_add, ← h0, ← h1, upTo_nt] at h
  exact h

end Tile

/-! ## The products of the kernels and of the host, as these -/

section Printed

variable {φ₁ φ₂ : FTy}

theorem mm_nn (wf) (l : FVec Ideal ⟨2, ![M, K]⟩ φ₁) (r : FVec Ideal ⟨2, ![K, N]⟩ φ₂) :
    FloatOps.matmul (Dots.nn wf) none l r (constant ⟨2, ![M, N]⟩ .f32 0x00000000#32) = nn l r :=
  funext fun i => (congrArg _ (eq_ix2 i)).trans (Dots.mm_nn wf l r (i 0) (i 1))

theorem mm_nt (wf) (l : FVec Ideal ⟨2, ![M, K]⟩ φ₁) (r : FVec Ideal ⟨2, ![N, K]⟩ φ₂) :
    FloatOps.matmul (Dots.nt wf) none l r (constant ⟨2, ![M, N]⟩ .f32 0x00000000#32) = nt l r :=
  funext fun i => (congrArg _ (eq_ix2 i)).trans (Dots.mm_nt wf l r (i 0) (i 1))

theorem mm_tn (wf) (l : FVec Ideal ⟨2, ![K, M]⟩ φ₁) (r : FVec Ideal ⟨2, ![K, N]⟩ φ₂) :
    FloatOps.matmul (Dots.tn wf) none l r (constant ⟨2, ![M, N]⟩ .f32 0x00000000#32) = tn l r :=
  funext fun i => (congrArg _ (eq_ix2 i)).trans (Dots.mm_tn wf l r (i 0) (i 1))

theorem host_nn (wf) (l : FVec Ideal ⟨2, ![M, K]⟩ φ₁) (r : FVec Ideal ⟨2, ![K, N]⟩ φ₁) (p) :
    Host.dotGeneral (Dots.nn wf) p l r = nn l r :=
  funext fun i => (congrArg _ (eq_ix2 i)).trans ((Ideal.dotGeneral_apply _ _ _ l r _).trans (Dots.sum_nn wf l r (i 0) (i 1)))

theorem host_nt (wf) (l : FVec Ideal ⟨2, ![M, K]⟩ φ₁) (r : FVec Ideal ⟨2, ![N, K]⟩ φ₁) (p) :
    Host.dotGeneral (Dots.nt wf) p l r = nt l r :=
  funext fun i => (congrArg _ (eq_ix2 i)).trans ((Ideal.dotGeneral_apply _ _ _ l r _).trans (Dots.sum_nt wf l r (i 0) (i 1)))

theorem host_tn (wf) (l : FVec Ideal ⟨2, ![K, M]⟩ φ₁) (r : FVec Ideal ⟨2, ![K, N]⟩ φ₁) (p) :
    Host.dotGeneral (Dots.tn wf) p l r = tn l r :=
  funext fun i => (congrArg _ (eq_ix2 i)).trans ((Ideal.dotGeneral_apply _ _ _ l r _).trans (Dots.sum_tn wf l r (i 0) (i 1)))

/-- The product with its two sides exchanged, transposed. -/
theorem tn_swap (A : (⟨2, ![K, M]⟩ : Shape).Idx → EReal) (B : (⟨2, ![K, N]⟩ : Shape).Idx → EReal) (i : Fin M) (j : Fin N) :
    tn B A (ix2 j i) = tn A B (ix2 i j) :=
  Finset.sum_congr rfl fun _ _ => mul_comm _ _

end Printed

end Cert.Prod

end
-- ==== Proof.ProdOutTok.lean ====
/-
  A LAYER'S OUTPUT PRODUCT: the gated rows of the tokens' mixer times the output weight, added to the residual. The inner axis is cut in
  two: the first point of a pair leaves its part in the scratch, the second adds its own and the residual and writes the block.
-/
module

public import proofs.«01_k».proof.Proof.ProdTile
public import proofs.«01_k».proof.Proof.Gen.OutTokIdeal.Value
public import proofs.«01_k».proof.Proof.Gen.OutTokRefIdeal.Read

@[expose] public section

set_option maxRecDepth 16384

noncomputable section

namespace Cert.ProdOutTok

open Cert.OutTokIdeal Cert.OutTokIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem hz : (![0, 0] : Fin 2 → Nat) = fun _ => 0 := funext fun a => by fin_cases a <;> rfl

section Cases

variable (c : Dev nD) (i : grid0.Coords)
  (arg3 : Memref sig .tc .vmem S1024x1536 .bf16) (harg3 : arg3.IsWhole)
  (arg4 : Memref sig .tc .vmem S1536x1024 .bf16) (harg4 : arg4.IsWhole)
  (arg5 : Memref sig .tc .vmem S1024x1024 .f32) (harg5 : arg5.IsWhole)
  (arg6 : Memref sig .tc .vmem S1024x1024 .f32) (harg6 : arg6.IsWhole)
  (arg7 : Memref sig .tc .vmem S1024x1024 .f32) (harg7 : arg7.IsWhole)
  (x0 : Vec Ideal S1024x1536 .bf16) (x1 : Vec Ideal S1536x1024 .bf16) (x2 xs : Vec Ideal S1024x1024 .f32)

theorem sc_A (hc0 : cond0_0 i) (hc1 : ¬cond0_1 i) (hc2 : ¬cond0_2 i) :
    sout0_A_0 c i arg3 harg3 arg4 harg4 arg5 harg5 arg6 harg6 arg7 harg7 hc0 hc1 hc2 x0 x1 x2 = Prod.nn x0 x1 := by
  have hcov := scover0_A_0 c i arg3 harg3 arg4 harg4 arg5 harg5 arg6 harg6 arg7 harg7 hc0 hc1 hc2 x0 x1 x2
  unfold sout0_A_0
  rw [View.read_writes_eq_canon _ _ _ hcov]
  unfold kernelRun0_A
  dsimp only
  sl_unfold_words
  simp only [View.readAt_eq_ld, harg3.read_unread, harg4.read_unread]
  rw [View.canon_unit_zero hz, View.ld_unit_zero hz, View.ld_unit_zero hz]
  exact (shapeCast_self _ _).trans (Prod.mm_nn _ x0 x1)

theorem out_B (hc0 : ¬cond0_0 i) (hc1 : ¬cond0_1 i) (hc2 : cond0_2 i) (y : S1024x1024.Idx) :
    out0_B_3 c i arg3 harg3 arg4 harg4 arg5 harg5 arg6 harg6 arg7 harg7 hc0 hc1 hc2 x0 x1 x2 xs y = (xs y + Prod.nn x0 x1 y) + x2 y := by
  have hcov := cover0_B_3 c i arg3 harg3 arg4 harg4 arg5 harg5 arg6 harg6 arg7 harg7 hc0 hc1 hc2 x0 x1 x2 xs
  unfold out0_B_3
  rw [View.read_writes_eq_canon _ _ _ hcov]
  unfold kernelRun0_B
  dsimp only
  sl_unfold_words
  simp only [View.readAt_eq_ld, harg3.read_unread, harg4.read_unread, harg5.read_unread, harg7.read_unread]
  rw [View.canon_unit_zero hz, View.ld_unit_zero hz, View.ld_unit_zero hz, View.ld_unit_zero hz, View.ld_unit_zero hz]
  exact congrArg (fun p => (xs y + p) + x2 y) (congrFun (Prod.mm_nn _ x0 x1) y)

end Cases

variable (m : (ℓ : Loc nD τ sig) → Buf (Elt Ideal) ℓ) (c : Dev nD)

/-- The arguments. -/
abbrev A : (⟨2, ![8192, 3072]⟩ : Shape).Idx → EReal := m ((c : Thread nD τ).loc main_arg0)
@[inherit_doc A]
abbrev B : (⟨2, ![3072, 2048]⟩ : Shape).Idx → EReal := m ((c : Thread nD τ).loc main_arg1)
@[inherit_doc A]
abbrev Z : (⟨2, ![8192, 2048]⟩ : Shape).Idx → EReal := m ((c : Thread nD τ).loc main_arg2)

/-- Where a point's blocks lie. -/
theorem idx : ∀ t : Fin cfg0.N, (win0_0.index t 0 = t.val / 2 % 8 ∧ win0_0.index t 1 = t.val % 2)
    ∧ (win0_1.index t 0 = t.val % 2 ∧ win0_1.index t 1 = t.val / 2 / 8) ∧ (∀ a, win0_2.index t a = win0_3.index t a)
    ∧ (win0_3.index t 0 = t.val / 2 % 8 ∧ win0_3.index t 1 = t.val / 2 / 8) := by decide +kernel

theorem blk_0 (t : Fin cfg0.N) (r : Fin 1024) (s : Fin 1536) : iblk m c 0 t (ix2 r s) = at2 (A m c) (t.val / 2 % 8 * 1024 + r.val) (1536 * (t.val % 2) + s.val) :=
  at2_eq (A m c) ((win0_0.rect t).emb (ix2 r s)) _ _ (Prod.emb_at win0_0 t _ 0 rfl (by rw [(idx t).1.1]; rfl))
    (Prod.emb_at win0_0 t _ 1 rfl (by rw [(idx t).1.2, Nat.mul_comm]; rfl))

theorem blk_1 (t : Fin cfg0.N) (r : Fin 1536) (s : Fin 1024) : iblk m c 1 t (ix2 r s) = at2 (B m c) (1536 * (t.val % 2) + r.val) (t.val / 2 / 8 * 1024 + s.val) :=
  at2_eq (B m c) ((win0_1.rect t).emb (ix2 r s)) _ _ (Prod.emb_at win0_1 t _ 0 rfl (by rw [(idx t).2.1.1, Nat.mul_comm]; rfl))
    (Prod.emb_at win0_1 t _ 1 rfl (by rw [(idx t).2.1.2]; rfl))

theorem blk_2 (t : Fin cfg0.N) (y : S1024x1024.Idx) : iblk m c 2 t y = Z m c ((win0_3.rect t).emb y) :=
  congrArg (Z m c) (funext fun a => Fin.ext ((Prod.emb_at win0_2 t y a rfl (by rw [(idx t).2.2.1 a])).trans
    (Prod.emb_at win0_3 t y a rfl rfl).symm))

/-- The sum a run of the grid has after `k` of its points. -/
abbrev run (y : S1024x1024.Idx) (r k : ℕ) : EReal :=
  Prod.upTo (fun k => at2 (A m c) (r % 8 * 1024 + (y 0).val) k) (fun k => at2 (B m c) k (r / 8 * 1024 + (y 1).val)) (1536 * k)

/-- What the last of a run's points writes. -/
theorem last (t : Fin cfg0.N) (h : t.val % 2 = 1) (y : S1024x1024.Idx) :
    (outsAt0 m c t.val t.isLt).1 y = run m c y (t.val / 2) 2 + iblk m c 2 t y := by
  rw [outsAt0_B m c t (by omega) h]
  dsimp only
  rw [out_B]
  refine congrArg (· + _) (Prod.run_last (q := 2) (by decide) (fun n hn => (outsAt0 m c n hn).2 y)
    (fun n hn => Prod.nn (iblk m c 0 ⟨n, hn⟩) (iblk m c 1 ⟨n, hn⟩) y) (run m c y) (fun n hn h => ?_) (fun n hn hp h h' => by omega)
    (fun r => Prod.upTo_zero _ _) (fun n hn => ?_) t.val t.isLt _ h)
  · have e := outsAt0_A m c ⟨n, hn⟩ h (by dsimp only; omega)
    dsimp only at e
    rw [e]
    dsimp only
    rw [sc_A]
  · exact Prod.tile_nn (A m c) (B m c) (iblk m c 0 ⟨n, hn⟩) (iblk m c 1 ⟨n, hn⟩) _ _ _ (blk_0 m c ⟨n, hn⟩) (blk_1 m c ⟨n, hn⟩) y

/-- The result is the product and the last argument. -/
theorem final : (dats m 0 c).arrAt 3 cfg0.N = fun i => Z m c i + Prod.nn (A m c) (B m c) i := by
  refine (dats m 0 c).arrAt_eq_of_cover 3 (fun i => Z m c i + Prod.nn (A m c) (B m c) i) (fun t hf => ?_)
    ((by decide +kernel : (cfg0.win 3).Covers).cover _ (Memref.isWhole_whole _))
  rw [Value.flushed3]
  funext y
  refine (last m c t ((flush0_3 t).mp hf) y).trans ((add_comm _ _).trans (congrArg₂ (· + ·) (blk_2 m c t y) ?_))
  have e0 := Prod.emb_at win0_3 t y 0 rfl (congrArg (· * 1024 + (y 0).val) (idx t).2.2.2.1)
  have e1 := Prod.emb_at win0_3 t y 1 rfl (congrArg (· * 1024 + (y 1).val) (idx t).2.2.2.2)
  exact (congrArg₂ (fun a b => Prod.upTo (fun k => at2 (A m c) (a) k) (fun k => at2 (B m c) k (b)) 3072) e0.symm e1.symm).trans
    (Prod.upTo_nn (A m c) (B m c) ((win0_3.rect t).emb y))

/-- The reference's result is the same. -/
theorem ref (x0 : S8192x3072.Idx → EReal) (x1 : S3072x2048.Idx → EReal) (x2 : S8192x2048.Idx → EReal) :
    Cert.OutTokRefIdeal.Read.val_main_v3 (F := Ideal) x0 x1 x2 = fun i => x2 i + Prod.nn x0 x1 i :=
  funext fun i => congrArg (x2 i + ·) (congrFun (Prod.host_nn _ x0 x1 none) i)

end Cert.ProdOutTok

end
-- ==== Proof.ProdGateTok.lean ====
/-
  THE GRADIENT OF THE OUTPUT PRODUCT IN THE GATED ROWS of the tokens' mixer: the cotangent's rows times the weight's rows.
-/
module

public import proofs.«01_k».proof.Proof.ProdTile
public import proofs.«01_k».proof.Proof.Gen.GateTokIdeal.Value
public import proofs.«01_k».proof.Proof.Gen.GateTokRefIdeal.Read

@[expose] public section

set_option maxRecDepth 16384

noncomputable section

namespace Cert.ProdGateTok

open Cert.GateTokIdeal Cert.GateTokIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem out_at (x0 : Vec Ideal S512x2048 .bf16) (x1 : Vec Ideal S1024x2048 .bf16) : out0_2 x0 x1 = Prod.nt x0 x1 := by
  have hz : (![0, 0] : Fin 2 → Nat) = fun _ => 0 := funext fun a => by fin_cases a <;> rfl
  unfold out0_2
  rw [View.canon_unit_zero hz, View.ld_unit_zero hz, View.ld_unit_zero hz]
  exact Prod.mm_nt _ x0 x1

variable (m : (ℓ : Loc nD τ sig) → Buf (Elt Ideal) ℓ) (c : Dev nD)

/-- The arguments. -/
abbrev A : (⟨2, ![8192, 2048]⟩ : Shape).Idx → EReal := m ((c : Thread nD τ).loc main_arg0)
@[inherit_doc A]
abbrev B : (⟨2, ![3072, 2048]⟩ : Shape).Idx → EReal := m ((c : Thread nD τ).loc main_arg1)

/-- Where a point's blocks lie. -/
theorem idx : ∀ t : Fin cfg0.N, (win0_0.index t 0 = t.val % 16 ∧ win0_0.index t 1 = 0)
    ∧ (win0_1.index t 0 = t.val / 16 ∧ win0_1.index t 1 = 0)
    ∧ (win0_2.index t 0 = t.val % 16 ∧ win0_2.index t 1 = t.val / 16) := by decide +kernel

theorem blk_0 (t : Fin cfg0.N) (r : Fin 512) (s : Fin 2048) : iblk m c 0 t (ix2 r s) = at2 (A m c) (t.val % 16 * 512 + r.val) (0 + s.val) :=
  at2_eq (A m c) ((win0_0.rect t).emb (ix2 r s)) _ _ (Prod.emb_at win0_0 t _ 0 rfl (by rw [(idx t).1.1]; rfl))
    (Prod.emb_at win0_0 t _ 1 rfl (by rw [(idx t).1.2, Nat.zero_mul]; rfl))

theorem blk_1 (t : Fin cfg0.N) (r : Fin 1024) (s : Fin 2048) : iblk m c 1 t (ix2 r s) = at2 (B m c) (t.val / 16 * 1024 + r.val) (0 + s.val) :=
  at2_eq (B m c) ((win0_1.rect t).emb (ix2 r s)) _ _ (Prod.emb_at win0_1 t _ 0 rfl (by rw [(idx t).2.1.1]; rfl))
    (Prod.emb_at win0_1 t _ 1 rfl (by rw [(idx t).2.1.2, Nat.zero_mul]; rfl))

/-- The result is the product. -/
theorem final : (dats m 0 c).arrAt 2 cfg0.N = Prod.nt (A m c) (B m c) := by
  refine (dats m 0 c).arrAt_eq_of_cover 2 (Prod.nt (A m c) (B m c)) (fun t hf => ?_)
    ((by decide +kernel : (cfg0.win 2).Covers).cover _ (Memref.isWhole_whole _))
  rw [Value.flushed2]
  funext y
  have e0 := Prod.emb_at win0_2 t y 0 rfl (congrArg (· * 512 + (y 0).val) (idx t).2.2.1)
  have e1 := Prod.emb_at win0_2 t y 1 rfl (congrArg (· * 1024 + (y 1).val) (idx t).2.2.2)
  exact (congrFun (out_at _ _) y).trans (Prod.whole_nt (A m c) (B m c) (iblk m c 0 t) (iblk m c 1 t) _ _ (blk_0 m c t) (blk_1 m c t) y ((win0_2.rect t).emb y) e0 e1)

/-- The reference's result is the same. -/
theorem ref (x0 : S8192x2048.Idx → EReal) (x1 : S3072x2048.Idx → EReal) :
    Cert.GateTokRefIdeal.Read.val_main_v4 (F := Ideal) x0 x1 = Prod.nt x0 x1 :=
  Prod.host_nt _ x0 x1 none

end Cert.ProdGateTok

end
-- ==== Proof.ProdDwOut.lean ====
/-
  THE GRADIENT OF THE OUTPUT PRODUCT IN ITS WEIGHT: the gated rows' columns times the cotangent's, summed over the tokens in eight
  parts.
-/
module

public import proofs.«01_k».proof.Proof.ProdTile
public import proofs.«01_k».proof.Proof.Gen.DwOutIdeal.Value
public import proofs.«01_k».proof.Proof.Gen.DwOutRefIdeal.Read

@[expose] public section

set_option maxRecDepth 16384

noncomputable section

namespace Cert.ProdDwOut

open Cert.DwOutIdeal Cert.DwOutIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem hz : (![0, 0] : Fin 2 → Nat) = fun _ => 0 := funext fun a => by fin_cases a <;> rfl

section Cases

variable (c : Dev nD) (i : grid0.Coords)
  (arg3 : Memref sig .tc .vmem S1024x1536 .bf16) (harg3 : arg3.IsWhole)
  (arg4 : Memref sig .tc .vmem S1024x1024 .bf16) (harg4 : arg4.IsWhole)
  (arg5 : Memref sig .tc .vmem S1536x1024 .bf16) (harg5 : arg5.IsWhole)
  (arg6 : Memref sig .tc .vmem S1536x1024 .f32) (harg6 : arg6.IsWhole)
  (x0 : Vec Ideal S1024x1536 .bf16) (x1 : Vec Ideal S1024x1024 .bf16) (xs : Vec Ideal S1536x1024 .f32)

theorem sc_A (hc0 : cond0_0 i) (hc1 : ¬cond0_1 i) (hc2 : ¬cond0_2 i) :
    sout0_A_0 c i arg3 harg3 arg4 harg4 arg5 harg5 arg6 harg6 hc0 hc1 hc2 x0 x1 = Prod.tn x0 x1 := by
  have hcov := scover0_A_0 c i arg3 harg3 arg4 harg4 arg5 harg5 arg6 harg6 hc0 hc1 hc2 x0 x1
  unfold sout0_A_0
  rw [View.read_writes_eq_canon _ _ _ hcov]
  unfold kernelRun0_A
  dsimp only
  sl_unfold_words
  simp only [View.readAt_eq_ld, harg3.read_unread, harg4.read_unread]
  rw [View.canon_unit_zero hz, View.ld_unit_zero hz, View.ld_unit_zero hz]
  exact (shapeCast_self _ _).trans (Prod.mm_tn _ x0 x1)

theorem sc_B (hc0 : ¬cond0_0 i) (hc1 : cond0_1 i) (hc2 : ¬cond0_2 i) (y : S1536x1024.Idx) :
    sout0_B_0 c i arg3 harg3 arg4 harg4 arg5 harg5 arg6 harg6 hc0 hc1 hc2 x0 x1 xs y = xs y + Prod.tn x0 x1 y := by
  have hcov := scover0_B_0 c i arg3 harg3 arg4 harg4 arg5 harg5 arg6 harg6 hc0 hc1 hc2 x0 x1 xs
  unfold sout0_B_0
  rw [View.read_writes_eq_canon _ _ _ hcov]
  unfold kernelRun0_B
  dsimp only
  sl_unfold_words
  simp only [View.readAt_eq_ld, harg3.read_unread, harg4.read_unread, harg6.read_unread]
  rw [View.canon_unit_zero hz, View.ld_unit_zero hz, View.ld_unit_zero hz, View.ld_unit_zero hz]
  unfold k0_pay2
  rw [shapeCast_self]
  exact congrArg (xs y + ·) (congrFun (Prod.mm_tn _ x0 x1) y)

theorem out_C (hc0 : ¬cond0_0 i) (hc1 : ¬cond0_1 i) (hc2 : cond0_2 i) (y : S1536x1024.Idx) :
    out0_C_2 c i arg3 harg3 arg4 harg4 arg5 harg5 arg6 harg6 hc0 hc1 hc2 x0 x1 xs y = xs y + Prod.tn x0 x1 y := by
  have hcov := cover0_C_2 c i arg3 harg3 arg4 harg4 arg5 harg5 arg6 harg6 hc0 hc1 hc2 x0 x1 xs
  unfold out0_C_2
  rw [View.read_writes_eq_canon _ _ _ hcov]
  unfold kernelRun0_C
  dsimp only
  sl_unfold_words
  simp only [View.readAt_eq_ld, harg3.read_unread, harg4.read_unread, harg6.read_unread]
  rw [View.canon_unit_zero hz, View.ld_unit_zero hz, View.ld_unit_zero hz, View.ld_unit_zero hz]
  exact congrArg (xs y + ·) (congrFun (Prod.mm_tn _ x0 x1) y)

end Cases

variable (m : (ℓ : Loc nD τ sig) → Buf (Elt Ideal) ℓ) (c : Dev nD)

/-- The arguments. -/
abbrev A : (⟨2, ![8192, 3072]⟩ : Shape).Idx → EReal := m ((c : Thread nD τ).loc main_arg0)
@[inherit_doc A]
abbrev B : (⟨2, ![8192, 2048]⟩ : Shape).Idx → EReal := m ((c : Thread nD τ).loc main_arg1)

/-- Where a point's blocks lie. -/
theorem idx : ∀ t : Fin cfg0.N, (win0_0.index t 0 = t.val % 8 ∧ win0_0.index t 1 = t.val / 8 % 2)
    ∧ (win0_1.index t 0 = t.val % 8 ∧ win0_1.index t 1 = t.val / 8 / 2)
    ∧ (win0_2.index t 0 = t.val / 8 % 2 ∧ win0_2.index t 1 = t.val / 8 / 2) := by decide +kernel

theorem blk_0 (t : Fin cfg0.N) (r : Fin 1024) (s : Fin 1536) : iblk m c 0 t (ix2 r s) = at2 (A m c) (1024 * (t.val % 8) + r.val) (t.val / 8 % 2 * 1536 + s.val) :=
  at2_eq (A m c) ((win0_0.rect t).emb (ix2 r s)) _ _ (Prod.emb_at win0_0 t _ 0 rfl (by rw [(idx t).1.1, Nat.mul_comm]; rfl))
    (Prod.emb_at win0_0 t _ 1 rfl (by rw [(idx t).1.2]; rfl))

theorem blk_1 (t : Fin cfg0.N) (r : Fin 1024) (s : Fin 1024) : iblk m c 1 t (ix2 r s) = at2 (B m c) (1024 * (t.val % 8) + r.val) (t.val / 8 / 2 * 1024 + s.val) :=
  at2_eq (B m c) ((win0_1.rect t).emb (ix2 r s)) _ _ (Prod.emb_at win0_1 t _ 0 rfl (by rw [(idx t).2.1.1, Nat.mul_comm]; rfl))
    (Prod.emb_at win0_1 t _ 1 rfl (by rw [(idx t).2.1.2]; rfl))

/-- The sum a run of the grid has after `k` of its points. -/
abbrev run (y : S1536x1024.Idx) (r k : ℕ) : EReal :=
  Prod.upTo (fun k => at2 (A m c) k (r % 2 * 1536 + (y 0).val)) (fun k => at2 (B m c) k (r / 2 * 1024 + (y 1).val)) (1024 * k)

/-- What the last of a run's points writes. -/
theorem last (t : Fin cfg0.N) (h : t.val % 8 = 7) (y : S1536x1024.Idx) :
    (outsAt0 m c t.val t.isLt).1 y = run m c y (t.val / 8) 8 := by
  rw [outsAt0_C m c t (by omega) (by omega) h]
  dsimp only
  rw [out_C]
  refine (Prod.run_last (q := 8) (by decide) (fun n hn => (outsAt0 m c n hn).2 y)
    (fun n hn => Prod.tn (iblk m c 0 ⟨n, hn⟩) (iblk m c 1 ⟨n, hn⟩) y) (run m c y) (fun n hn h => ?_) (fun n hn hp h h' => ?_)
    (fun r => Prod.upTo_zero _ _) (fun n hn => ?_) t.val t.isLt _ h)
  · have e := outsAt0_A m c ⟨n, hn⟩ h (by dsimp only; omega) (by dsimp only; omega)
    dsimp only at e
    rw [e]
    dsimp only
    rw [sc_A]
  · have e := outsAt0_B m c ⟨n, hn⟩ h (by dsimp only; omega) (by dsimp only; omega)
    dsimp only at e
    rw [e]
    dsimp only
    rw [sc_B]
  · exact Prod.tile_tn (A m c) (B m c) (iblk m c 0 ⟨n, hn⟩) (iblk m c 1 ⟨n, hn⟩) _ _ _ (blk_0 m c ⟨n, hn⟩) (blk_1 m c ⟨n, hn⟩) y

/-- The result is the product. -/
theorem final : (dats m 0 c).arrAt 2 cfg0.N = Prod.tn (A m c) (B m c) := by
  refine (dats m 0 c).arrAt_eq_of_cover 2 (Prod.tn (A m c) (B m c)) (fun t hf => ?_)
    ((by decide +kernel : (cfg0.win 2).Covers).cover _ (Memref.isWhole_whole _))
  rw [Value.flushed2]
  funext y
  refine (last m c t ((flush0_2 t).mp hf) y).trans ?_
  have e0 := Prod.emb_at win0_2 t y 0 rfl (congrArg (· * 1536 + (y 0).val) (idx t).2.2.1)
  have e1 := Prod.emb_at win0_2 t y 1 rfl (congrArg (· * 1024 + (y 1).val) (idx t).2.2.2)
  exact (congrArg₂ (fun a b => Prod.upTo (fun k => at2 (A m c) k (a)) (fun k => at2 (B m c) k (b)) 8192) e0.symm e1.symm).trans
    (Prod.upTo_tn (A m c) (B m c) ((win0_2.rect t).emb y))

/-- The reference's result is the same. -/
theorem ref (x0 : S8192x3072.Idx → EReal) (x1 : S8192x2048.Idx → EReal) :
    Cert.DwOutRefIdeal.Read.val_main_v6 (F := Ideal) x0 x1 = Prod.tn x0 x1 :=
  funext fun i => by
    rw [Cert.DwOutRefIdeal.Read.val_main_v6_apply]
    refine (Cert.DwOutRefIdeal.Read.val_main_v5_apply (F := Ideal) x0 x1 i).trans ?_
    exact (congrFun (Prod.host_tn _ x1 x0 none) _).trans ((congrArg _ (eq_ix2 _)).trans
      ((Prod.tn_swap x0 x1 (i 0) (i 1)).trans (congrArg (Prod.tn x0 x1) (eq_ix2 i).symm)))

end Cert.ProdDwOut

end
-- ==== Proof.ProdInXbc.lean ====
/-
  THE INPUT PRODUCT OF THE STATE-SPACE LAYER'S CONVOLVED PART.
-/
module

public import proofs.«01_k».proof.Proof.ProdTile
public import proofs.«01_k».proof.Proof.Gen.InXbcIdeal.Value
public import proofs.«01_k».proof.Proof.Gen.InXbcRefIdeal.Read

@[expose] public section

set_option maxRecDepth 16384

noncomputable section

namespace Cert.ProdInXbc

open Cert.InXbcIdeal Cert.InXbcIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem out_at (x0 : Vec Ideal S1024x2048 .bf16) (x1 : Vec Ideal S2048x1024 .bf16) : out0_2 x0 x1 = Prod.nn x0 x1 := by
  have hz : (![0, 0] : Fin 2 → Nat) = fun _ => 0 := funext fun a => by fin_cases a <;> rfl
  unfold out0_2
  rw [View.canon_unit_zero hz, View.ld_unit_zero hz, View.ld_unit_zero hz]
  exact Prod.mm_nn _ x0 x1

variable (m : (ℓ : Loc nD τ sig) → Buf (Elt Ideal) ℓ) (c : Dev nD)

/-- The arguments. -/
abbrev A : (⟨2, ![8192, 2048]⟩ : Shape).Idx → EReal := m ((c : Thread nD τ).loc main_arg0)
@[inherit_doc A]
abbrev B : (⟨2, ![2048, 5120]⟩ : Shape).Idx → EReal := m ((c : Thread nD τ).loc main_arg1)

/-- Where a point's blocks lie. -/
theorem idx : ∀ t : Fin cfg0.N, (win0_0.index t 0 = t.val % 8 ∧ win0_0.index t 1 = 0)
    ∧ (win0_1.index t 0 = 0 ∧ win0_1.index t 1 = t.val / 8)
    ∧ (win0_2.index t 0 = t.val % 8 ∧ win0_2.index t 1 = t.val / 8) := by decide +kernel

theorem blk_0 (t : Fin cfg0.N) (r : Fin 1024) (s : Fin 2048) : iblk m c 0 t (ix2 r s) = at2 (A m c) (t.val % 8 * 1024 + r.val) (0 + s.val) :=
  at2_eq (A m c) ((win0_0.rect t).emb (ix2 r s)) _ _ (Prod.emb_at win0_0 t _ 0 rfl (by rw [(idx t).1.1]; rfl))
    (Prod.emb_at win0_0 t _ 1 rfl (by rw [(idx t).1.2, Nat.zero_mul]; rfl))

theorem blk_1 (t : Fin cfg0.N) (r : Fin 2048) (s : Fin 1024) : iblk m c 1 t (ix2 r s) = at2 (B m c) (0 + r.val) (t.val / 8 * 1024 + s.val) :=
  at2_eq (B m c) ((win0_1.rect t).emb (ix2 r s)) _ _ (Prod.emb_at win0_1 t _ 0 rfl (by rw [(idx t).2.1.1, Nat.zero_mul]; rfl))
    (Prod.emb_at win0_1 t _ 1 rfl (by rw [(idx t).2.1.2]; rfl))

/-- The result is the product. -/
theorem final : (dats m 0 c).arrAt 2 cfg0.N = Prod.nn (A m c) (B m c) := by
  refine (dats m 0 c).arrAt_eq_of_cover 2 (Prod.nn (A m c) (B m c)) (fun t hf => ?_)
    ((by decide +kernel : (cfg0.win 2).Covers).cover _ (Memref.isWhole_whole _))
  rw [Value.flushed2]
  funext y
  have e0 := Prod.emb_at win0_2 t y 0 rfl (congrArg (· * 1024 + (y 0).val) (idx t).2.2.1)
  have e1 := Prod.emb_at win0_2 t y 1 rfl (congrArg (· * 1024 + (y 1).val) (idx t).2.2.2)
  exact (congrFun (out_at _ _) y).trans (Prod.whole_nn (A m c) (B m c) (iblk m c 0 t) (iblk m c 1 t) _ _ (blk_0 m c t) (blk_1 m c t) y ((win0_2.rect t).emb y) e0 e1)

/-- The reference's result is the same. -/
theorem ref (x0 : S8192x2048.Idx → EReal) (x1 : S2048x5120.Idx → EReal) :
    Cert.InXbcRefIdeal.Read.val_main_v2 (F := Ideal) x0 x1 = Prod.nn x0 x1 :=
  Prod.host_nn _ x0 x1 none

end Cert.ProdInXbc

end
-- ==== Proof.ProdDhXbc.lean ====
/-
  ITS GRADIENT IN THE ROWS: the inner axis is cut in two, the first point of a pair leaving its part in the scratch.
-/
module

public import proofs.«01_k».proof.Proof.ProdTile
public import proofs.«01_k».proof.Proof.Gen.DhXbcIdeal.Value
public import proofs.«01_k».proof.Proof.Gen.DhXbcRefIdeal.Read

@[expose] public section

set_option maxRecDepth 16384

noncomputable section

namespace Cert.ProdDhXbc

open Cert.DhXbcIdeal Cert.DhXbcIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem hz : (![0, 0] : Fin 2 → Nat) = fun _ => 0 := funext fun a => by fin_cases a <;> rfl

section Cases

variable (c : Dev nD) (i : grid0.Coords)
  (arg3 : Memref sig .tc .vmem S512x2560 .bf16) (harg3 : arg3.IsWhole)
  (arg4 : Memref sig .tc .vmem S1024x2560 .bf16) (harg4 : arg4.IsWhole)
  (arg5 : Memref sig .tc .vmem S512x1024 .f32) (harg5 : arg5.IsWhole)
  (arg6 : Memref sig .tc .vmem S512x1024 .f32) (harg6 : arg6.IsWhole)
  (x0 : Vec Ideal S512x2560 .bf16) (x1 : Vec Ideal S1024x2560 .bf16) (xs : Vec Ideal S512x1024 .f32)

theorem sc_A (hc0 : cond0_0 i) (hc1 : ¬cond0_1 i) (hc2 : ¬cond0_2 i) :
    sout0_A_0 c i arg3 harg3 arg4 harg4 arg5 harg5 arg6 harg6 hc0 hc1 hc2 x0 x1 = Prod.nt x0 x1 := by
  have hcov := scover0_A_0 c i arg3 harg3 arg4 harg4 arg5 harg5 arg6 harg6 hc0 hc1 hc2 x0 x1
  unfold sout0_A_0
  rw [View.read_writes_eq_canon _ _ _ hcov]
  unfold kernelRun0_A
  dsimp only
  sl_unfold_words
  simp only [View.readAt_eq_ld, harg3.read_unread, harg4.read_unread]
  rw [View.canon_unit_zero hz, View.ld_unit_zero hz, View.ld_unit_zero hz]
  exact (shapeCast_self _ _).trans (Prod.mm_nt _ x0 x1)

theorem out_B (hc0 : ¬cond0_0 i) (hc1 : ¬cond0_1 i) (hc2 : cond0_2 i) (y : S512x1024.Idx) :
    out0_B_2 c i arg3 harg3 arg4 harg4 arg5 harg5 arg6 harg6 hc0 hc1 hc2 x0 x1 xs y = xs y + Prod.nt x0 x1 y := by
  have hcov := cover0_B_2 c i arg3 harg3 arg4 harg4 arg5 harg5 arg6 harg6 hc0 hc1 hc2 x0 x1 xs
  unfold out0_B_2
  rw [View.read_writes_eq_canon _ _ _ hcov]
  unfold kernelRun0_B
  dsimp only
  sl_unfold_words
  simp only [View.readAt_eq_ld, harg3.read_unread, harg4.read_unread, harg6.read_unread]
  rw [View.canon_unit_zero hz, View.ld_unit_zero hz, View.ld_unit_zero hz, View.ld_unit_zero hz]
  exact congrArg (xs y + ·) (congrFun (Prod.mm_nt _ x0 x1) y)

end Cases

variable (m : (ℓ : Loc nD τ sig) → Buf (Elt Ideal) ℓ) (c : Dev nD)

/-- The arguments. -/
abbrev A : (⟨2, ![8192, 5120]⟩ : Shape).Idx → EReal := m ((c : Thread nD τ).loc main_arg0)
@[inherit_doc A]
abbrev B : (⟨2, ![2048, 5120]⟩ : Shape).Idx → EReal := m ((c : Thread nD τ).loc main_arg1)

/-- Where a point's blocks lie. -/
theorem idx : ∀ t : Fin cfg0.N, (win0_0.index t 0 = t.val / 2 % 16 ∧ win0_0.index t 1 = t.val % 2)
    ∧ (win0_1.index t 0 = t.val / 2 / 16 ∧ win0_1.index t 1 = t.val % 2)
    ∧ (win0_2.index t 0 = t.val / 2 % 16 ∧ win0_2.index t 1 = t.val / 2 / 16) := by decide +kernel

theorem blk_0 (t : Fin cfg0.N) (r : Fin 512) (s : Fin 2560) : iblk m c 0 t (ix2 r s) = at2 (A m c) (t.val / 2 % 16 * 512 + r.val) (2560 * (t.val % 2) + s.val) :=
  at2_eq (A m c) ((win0_0.rect t).emb (ix2 r s)) _ _ (Prod.emb_at win0_0 t _ 0 rfl (by rw [(idx t).1.1]; rfl))
    (Prod.emb_at win0_0 t _ 1 rfl (by rw [(idx t).1.2, Nat.mul_comm]; rfl))

theorem blk_1 (t : Fin cfg0.N) (r : Fin 1024) (s : Fin 2560) : iblk m c 1 t (ix2 r s) = at2 (B m c) (t.val / 2 / 16 * 1024 + r.val) (2560 * (t.val % 2) + s.val) :=
  at2_eq (B m c) ((win0_1.rect t).emb (ix2 r s)) _ _ (Prod.emb_at win0_1 t _ 0 rfl (by rw [(idx t).2.1.1]; rfl))
    (Prod.emb_at win0_1 t _ 1 rfl (by rw [(idx t).2.1.2, Nat.mul_comm]; rfl))

/-- The sum a run of the grid has after `k` of its points. -/
abbrev run (y : S512x1024.Idx) (r k : ℕ) : EReal :=
  Prod.upTo (fun k => at2 (A m c) (r % 16 * 512 + (y 0).val) k) (fun k => at2 (B m c) (r / 16 * 1024 + (y 1).val) k) (2560 * k)

/-- What the last of a run's points writes. -/
theorem last (t : Fin cfg0.N) (h : t.val % 2 = 1) (y : S512x1024.Idx) :
    (outsAt0 m c t.val t.isLt).1 y = run m c y (t.val / 2) 2 := by
  rw [outsAt0_B m c t (by omega) h]
  dsimp only
  rw [out_B]
  refine (Prod.run_last (q := 2) (by decide) (fun n hn => (outsAt0 m c n hn).2 y)
    (fun n hn => Prod.nt (iblk m c 0 ⟨n, hn⟩) (iblk m c 1 ⟨n, hn⟩) y) (run m c y) (fun n hn h => ?_) (fun n hn hp h h' => by omega)
    (fun r => Prod.upTo_zero _ _) (fun n hn => ?_) t.val t.isLt _ h)
  · have e := outsAt0_A m c ⟨n, hn⟩ h (by dsimp only; omega)
    dsimp only at e
    rw [e]
    dsimp only
    rw [sc_A]
  · exact Prod.tile_nt (A m c) (B m c) (iblk m c 0 ⟨n, hn⟩) (iblk m c 1 ⟨n, hn⟩) _ _ _ (blk_0 m c ⟨n, hn⟩) (blk_1 m c ⟨n, hn⟩) y

/-- The result is the product. -/
theorem final : (dats m 0 c).arrAt 2 cfg0.N = Prod.nt (A m c) (B m c) := by
  refine (dats m 0 c).arrAt_eq_of_cover 2 (Prod.nt (A m c) (B m c)) (fun t hf => ?_)
    ((by decide +kernel : (cfg0.win 2).Covers).cover _ (Memref.isWhole_whole _))
  rw [Value.flushed2]
  funext y
  refine (last m c t ((flush0_2 t).mp hf) y).trans ?_
  have e0 := Prod.emb_at win0_2 t y 0 rfl (congrArg (· * 512 + (y 0).val) (idx t).2.2.1)
  have e1 := Prod.emb_at win0_2 t y 1 rfl (congrArg (· * 1024 + (y 1).val) (idx t).2.2.2)
  exact (congrArg₂ (fun a b => Prod.upTo (fun k => at2 (A m c) (a) k) (fun k => at2 (B m c) (b) k) 5120) e0.symm e1.symm).trans
    (Prod.upTo_nt (A m c) (B m c) ((win0_2.rect t).emb y))

/-- The reference's result is the same. -/
theorem ref (x0 : S8192x5120.Idx → EReal) (x1 : S2048x5120.Idx → EReal) :
    Cert.DhXbcRefIdeal.Read.val_main_v4 (F := Ideal) x0 x1 = Prod.nt x0 x1 :=
  Prod.host_nt _ x0 x1 none

end Cert.ProdDhXbc

end
-- ==== Proof.ProdDwXbc.lean ====
/-
  ITS GRADIENT IN THE WEIGHT, summed over the tokens in eight parts.
-/
module

public import proofs.«01_k».proof.Proof.ProdTile
public import proofs.«01_k».proof.Proof.Gen.DwXbcIdeal.Value
public import proofs.«01_k».proof.Proof.Gen.DwXbcRefIdeal.Read

@[expose] public section

set_option maxRecDepth 16384

noncomputable section

namespace Cert.ProdDwXbc

open Cert.DwXbcIdeal Cert.DwXbcIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem hz : (![0, 0] : Fin 2 → Nat) = fun _ => 0 := funext fun a => by fin_cases a <;> rfl

section Cases

variable (c : Dev nD) (i : grid0.Coords)
  (arg3 : Memref sig .tc .vmem S1024x2048 .bf16) (harg3 : arg3.IsWhole)
  (arg4 : Memref sig .tc .vmem S1024x1024 .bf16) (harg4 : arg4.IsWhole)
  (arg5 : Memref sig .tc .vmem S2048x1024 .bf16) (harg5 : arg5.IsWhole)
  (arg6 : Memref sig .tc .vmem S2048x1024 .f32) (harg6 : arg6.IsWhole)
  (x0 : Vec Ideal S1024x2048 .bf16) (x1 : Vec Ideal S1024x1024 .bf16) (xs : Vec Ideal S2048x1024 .f32)

theorem sc_A (hc0 : cond0_0 i) (hc1 : ¬cond0_1 i) (hc2 : ¬cond0_2 i) :
    sout0_A_0 c i arg3 harg3 arg4 harg4 arg5 harg5 arg6 harg6 hc0 hc1 hc2 x0 x1 = Prod.tn x0 x1 := by
  have hcov := scover0_A_0 c i arg3 harg3 arg4 harg4 arg5 harg5 arg6 harg6 hc0 hc1 hc2 x0 x1
  unfold sout0_A_0
  rw [View.read_writes_eq_canon _ _ _ hcov]
  unfold kernelRun0_A
  dsimp only
  sl_unfold_words
  simp only [View.readAt_eq_ld, harg3.read_unread, harg4.read_unread]
  rw [View.canon_unit_zero hz, View.ld_unit_zero hz, View.ld_unit_zero hz]
  exact (shapeCast_self _ _).trans (Prod.mm_tn _ x0 x1)

theorem sc_B (hc0 : ¬cond0_0 i) (hc1 : cond0_1 i) (hc2 : ¬cond0_2 i) (y : S2048x1024.Idx) :
    sout0_B_0 c i arg3 harg3 arg4 harg4 arg5 harg5 arg6 harg6 hc0 hc1 hc2 x0 x1 xs y = xs y + Prod.tn x0 x1 y := by
  have hcov := scover0_B_0 c i arg3 harg3 arg4 harg4 arg5 harg5 arg6 harg6 hc0 hc1 hc2 x0 x1 xs
  unfold sout0_B_0
  rw [View.read_writes_eq_canon _ _ _ hcov]
  unfold kernelRun0_B
  dsimp only
  sl_unfold_words
  simp only [View.readAt_eq_ld, harg3.read_unread, harg4.read_unread, harg6.read_unread]
  rw [View.canon_unit_zero hz, View.ld_unit_zero hz, View.ld_unit_zero hz, View.ld_unit_zero hz]
  unfold k0_pay2
  rw [shapeCast_self]
  exact congrArg (xs y + ·) (congrFun (Prod.mm_tn _ x0 x1) y)

theorem out_C (hc0 : ¬cond0_0 i) (hc1 : ¬cond0_1 i) (hc2 : cond0_2 i) (y : S2048x1024.Idx) :
    out0_C_2 c i arg3 harg3 arg4 harg4 arg5 harg5 arg6 harg6 hc0 hc1 hc2 x0 x1 xs y = xs y + Prod.tn x0 x1 y := by
  have hcov := cover0_C_2 c i arg3 harg3 arg4 harg4 arg5 harg5 arg6 harg6 hc0 hc1 hc2 x0 x1 xs
  unfold out0_C_2
  rw [View.read_writes_eq_canon _ _ _ hcov]
  unfold kernelRun0_C
  dsimp only
  sl_unfold_words
  simp only [View.readAt_eq_ld, harg3.read_unread, harg4.read_unread, harg6.read_unread]
  rw [View.canon_unit_zero hz, View.ld_unit_zero hz, View.ld_unit_zero hz, View.ld_unit_zero hz]
  exact congrArg (xs y + ·) (congrFun (Prod.mm_tn _ x0 x1) y)

end Cases

variable (m : (ℓ : Loc nD τ sig) → Buf (Elt Ideal) ℓ) (c : Dev nD)

/-- The arguments. -/
abbrev A : (⟨2, ![8192, 2048]⟩ : Shape).Idx → EReal := m ((c : Thread nD τ).loc main_arg0)
@[inherit_doc A]
abbrev B : (⟨2, ![8192, 5120]⟩ : Shape).Idx → EReal := m ((c : Thread nD τ).loc main_arg1)

/-- Where a point's blocks lie. -/
theorem idx : ∀ t : Fin cfg0.N, (win0_0.index t 0 = t.val % 8 ∧ win0_0.index t 1 = t.val / 8 % 1)
    ∧ (win0_1.index t 0 = t.val % 8 ∧ win0_1.index t 1 = t.val / 8 / 1)
    ∧ (win0_2.index t 0 = t.val / 8 % 1 ∧ win0_2.index t 1 = t.val / 8 / 1) := by decide +kernel

theorem blk_0 (t : Fin cfg0.N) (r : Fin 1024) (s : Fin 2048) : iblk m c 0 t (ix2 r s) = at2 (A m c) (1024 * (t.val % 8) + r.val) (t.val / 8 % 1 * 2048 + s.val) :=
  at2_eq (A m c) ((win0_0.rect t).emb (ix2 r s)) _ _ (Prod.emb_at win0_0 t _ 0 rfl (by rw [(idx t).1.1, Nat.mul_comm]; rfl))
    (Prod.emb_at win0_0 t _ 1 rfl (by rw [(idx t).1.2]; rfl))

theorem blk_1 (t : Fin cfg0.N) (r : Fin 1024) (s : Fin 1024) : iblk m c 1 t (ix2 r s) = at2 (B m c) (1024 * (t.val % 8) + r.val) (t.val / 8 / 1 * 1024 + s.val) :=
  at2_eq (B m c) ((win0_1.rect t).emb (ix2 r s)) _ _ (Prod.emb_at win0_1 t _ 0 rfl (by rw [(idx t).2.1.1, Nat.mul_comm]; rfl))
    (Prod.emb_at win0_1 t _ 1 rfl (by rw [(idx t).2.1.2]; rfl))

/-- The sum a run of the grid has after `k` of its points. -/
abbrev run (y : S2048x1024.Idx) (r k : ℕ) : EReal :=
  Prod.upTo (fun k => at2 (A m c) k (r % 1 * 2048 + (y 0).val)) (fun k => at2 (B m c) k (r / 1 * 1024 + (y 1).val)) (1024 * k)

/-- What the last of a run's points writes. -/
theorem last (t : Fin cfg0.N) (h : t.val % 8 = 7) (y : S2048x1024.Idx) :
    (outsAt0 m c t.val t.isLt).1 y = run m c y (t.val / 8) 8 := by
  rw [outsAt0_C m c t (by omega) (by omega) h]
  dsimp only
  rw [out_C]
  refine (Prod.run_last (q := 8) (by decide) (fun n hn => (outsAt0 m c n hn).2 y)
    (fun n hn => Prod.tn (iblk m c 0 ⟨n, hn⟩) (iblk m c 1 ⟨n, hn⟩) y) (run m c y) (fun n hn h => ?_) (fun n hn hp h h' => ?_)
    (fun r => Prod.upTo_zero _ _) (fun n hn => ?_) t.val t.isLt _ h)
  · have e := outsAt0_A m c ⟨n, hn⟩ h (by dsimp only; omega) (by dsimp only; omega)
    dsimp only at e
    rw [e]
    dsimp only
    rw [sc_A]
  · have e := outsAt0_B m c ⟨n, hn⟩ h (by dsimp only; omega) (by dsimp only; omega)
    dsimp only at e
    rw [e]
    dsimp only
    rw [sc_B]
  · exact Prod.tile_tn (A m c) (B m c) (iblk m c 0 ⟨n, hn⟩) (iblk m c 1 ⟨n, hn⟩) _ _ _ (blk_0 m c ⟨n, hn⟩) (blk_1 m c ⟨n, hn⟩) y

/-- The result is the product. -/
theorem final : (dats m 0 c).arrAt 2 cfg0.N = Prod.tn (A m c) (B m c) := by
  refine (dats m 0 c).arrAt_eq_of_cover 2 (Prod.tn (A m c) (B m c)) (fun t hf => ?_)
    ((by decide +kernel : (cfg0.win 2).Covers).cover _ (Memref.isWhole_whole _))
  rw [Value.flushed2]
  funext y
  refine (last m c t ((flush0_2 t).mp hf) y).trans ?_
  have e0 := Prod.emb_at win0_2 t y 0 rfl (congrArg (· * 2048 + (y 0).val) (idx t).2.2.1)
  have e1 := Prod.emb_at win0_2 t y 1 rfl (congrArg (· * 1024 + (y 1).val) (idx t).2.2.2)
  exact (congrArg₂ (fun a b => Prod.upTo (fun k => at2 (A m c) k (a)) (fun k => at2 (B m c) k (b)) 8192) e0.symm e1.symm).trans
    (Prod.upTo_tn (A m c) (B m c) ((win0_2.rect t).emb y))

/-- The reference's result is the same. -/
theorem ref (x0 : S8192x2048.Idx → EReal) (x1 : S8192x5120.Idx → EReal) :
    Cert.DwXbcRefIdeal.Read.val_main_v6 (F := Ideal) x0 x1 = Prod.tn x0 x1 :=
  funext fun i => by
    rw [Cert.DwXbcRefIdeal.Read.val_main_v6_apply]
    refine (Cert.DwXbcRefIdeal.Read.val_main_v5_apply (F := Ideal) x0 x1 i).trans ?_
    exact (congrFun (Prod.host_tn _ x1 x0 none) _).trans ((congrArg _ (eq_ix2 _)).trans
      ((Prod.tn_swap x0 x1 (i 0) (i 1)).trans (congrArg (Prod.tn x0 x1) (eq_ix2 i).symm)))

end Cert.ProdDwXbc

end
-- ==== Proof.ProdDhFirst.lean ====
/-
  THE FIRST OF A LAYER'S GRADIENTS IN THE ROWS, with nothing yet to add to.
-/
module

public import proofs.«01_k».proof.Proof.ProdTile
public import proofs.«01_k».proof.Proof.Gen.DhFirstIdeal.Value
public import proofs.«01_k».proof.Proof.Gen.DhFirstRefIdeal.Read

@[expose] public section

set_option maxRecDepth 16384

noncomputable section

namespace Cert.ProdDhFirst

open Cert.DhFirstIdeal Cert.DhFirstIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem out_at (x0 : Vec Ideal S512x3072 .bf16) (x1 : Vec Ideal S1024x3072 .bf16) : out0_2 x0 x1 = Prod.nt x0 x1 := by
  have hz : (![0, 0] : Fin 2 → Nat) = fun _ => 0 := funext fun a => by fin_cases a <;> rfl
  unfold out0_2
  rw [View.canon_unit_zero hz, View.ld_unit_zero hz, View.ld_unit_zero hz]
  exact Prod.mm_nt _ x0 x1

variable (m : (ℓ : Loc nD τ sig) → Buf (Elt Ideal) ℓ) (c : Dev nD)

/-- The arguments. -/
abbrev A : (⟨2, ![8192, 3072]⟩ : Shape).Idx → EReal := m ((c : Thread nD τ).loc main_arg0)
@[inherit_doc A]
abbrev B : (⟨2, ![2048, 3072]⟩ : Shape).Idx → EReal := m ((c : Thread nD τ).loc main_arg1)

/-- Where a point's blocks lie. -/
theorem idx : ∀ t : Fin cfg0.N, (win0_0.index t 0 = t.val % 16 ∧ win0_0.index t 1 = 0)
    ∧ (win0_1.index t 0 = t.val / 16 ∧ win0_1.index t 1 = 0)
    ∧ (win0_2.index t 0 = t.val % 16 ∧ win0_2.index t 1 = t.val / 16) := by decide +kernel

theorem blk_0 (t : Fin cfg0.N) (r : Fin 512) (s : Fin 3072) : iblk m c 0 t (ix2 r s) = at2 (A m c) (t.val % 16 * 512 + r.val) (0 + s.val) :=
  at2_eq (A m c) ((win0_0.rect t).emb (ix2 r s)) _ _ (Prod.emb_at win0_0 t _ 0 rfl (by rw [(idx t).1.1]; rfl))
    (Prod.emb_at win0_0 t _ 1 rfl (by rw [(idx t).1.2, Nat.zero_mul]; rfl))

theorem blk_1 (t : Fin cfg0.N) (r : Fin 1024) (s : Fin 3072) : iblk m c 1 t (ix2 r s) = at2 (B m c) (t.val / 16 * 1024 + r.val) (0 + s.val) :=
  at2_eq (B m c) ((win0_1.rect t).emb (ix2 r s)) _ _ (Prod.emb_at win0_1 t _ 0 rfl (by rw [(idx t).2.1.1]; rfl))
    (Prod.emb_at win0_1 t _ 1 rfl (by rw [(idx t).2.1.2, Nat.zero_mul]; rfl))

/-- The result is the product. -/
theorem final : (dats m 0 c).arrAt 2 cfg0.N = Prod.nt (A m c) (B m c) := by
  refine (dats m 0 c).arrAt_eq_of_cover 2 (Prod.nt (A m c) (B m c)) (fun t hf => ?_)
    ((by decide +kernel : (cfg0.win 2).Covers).cover _ (Memref.isWhole_whole _))
  rw [Value.flushed2]
  funext y
  have e0 := Prod.emb_at win0_2 t y 0 rfl (congrArg (· * 512 + (y 0).val) (idx t).2.2.1)
  have e1 := Prod.emb_at win0_2 t y 1 rfl (congrArg (· * 1024 + (y 1).val) (idx t).2.2.2)
  exact (congrFun (out_at _ _) y).trans (Prod.whole_nt (A m c) (B m c) (iblk m c 0 t) (iblk m c 1 t) _ _ (blk_0 m c t) (blk_1 m c t) y ((win0_2.rect t).emb y) e0 e1)

/-- The reference's result is the same. -/
theorem ref (x0 : S8192x3072.Idx → EReal) (x1 : S2048x3072.Idx → EReal) :
    Cert.DhFirstRefIdeal.Read.val_main_v4 (F := Ideal) x0 x1 = Prod.nt x0 x1 :=
  Prod.host_nt _ x0 x1 none

end Cert.ProdDhFirst

end
-- ==== Proof.ProdInMem.lean ====
/-
  THE INPUT PRODUCT OF THE MEMORY'S GATE.
-/
module

public import proofs.«01_k».proof.Proof.ProdTile
public import proofs.«01_k».proof.Proof.Gen.InMemIdeal.Value
public import proofs.«01_k».proof.Proof.Gen.InMemRefIdeal.Read

@[expose] public section

set_option maxRecDepth 16384

noncomputable section

namespace Cert.ProdInMem

open Cert.InMemIdeal Cert.InMemIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem out_at (x0 : Vec Ideal S1024x2048 .bf16) (x1 : Vec Ideal S2048x1024 .bf16) : out0_2 x0 x1 = Prod.nn x0 x1 := by
  have hz : (![0, 0] : Fin 2 → Nat) = fun _ => 0 := funext fun a => by fin_cases a <;> rfl
  unfold out0_2
  rw [View.canon_unit_zero hz, View.ld_unit_zero hz, View.ld_unit_zero hz]
  exact Prod.mm_nn _ x0 x1

variable (m : (ℓ : Loc nD τ sig) → Buf (Elt Ideal) ℓ) (c : Dev nD)

/-- The arguments. -/
abbrev A : (⟨2, ![8192, 2048]⟩ : Shape).Idx → EReal := m ((c : Thread nD τ).loc main_arg0)
@[inherit_doc A]
abbrev B : (⟨2, ![2048, 1024]⟩ : Shape).Idx → EReal := m ((c : Thread nD τ).loc main_arg1)

/-- Where a point's blocks lie. -/
theorem idx : ∀ t : Fin cfg0.N, (win0_0.index t 0 = t.val % 8 ∧ win0_0.index t 1 = 0)
    ∧ (win0_1.index t 0 = 0 ∧ win0_1.index t 1 = t.val / 8)
    ∧ (win0_2.index t 0 = t.val % 8 ∧ win0_2.index t 1 = t.val / 8) := by decide +kernel

theorem blk_0 (t : Fin cfg0.N) (r : Fin 1024) (s : Fin 2048) : iblk m c 0 t (ix2 r s) = at2 (A m c) (t.val % 8 * 1024 + r.val) (0 + s.val) :=
  at2_eq (A m c) ((win0_0.rect t).emb (ix2 r s)) _ _ (Prod.emb_at win0_0 t _ 0 rfl (by rw [(idx t).1.1]; rfl))
    (Prod.emb_at win0_0 t _ 1 rfl (by rw [(idx t).1.2, Nat.zero_mul]; rfl))

theorem blk_1 (t : Fin cfg0.N) (r : Fin 2048) (s : Fin 1024) : iblk m c 1 t (ix2 r s) = at2 (B m c) (0 + r.val) (t.val / 8 * 1024 + s.val) :=
  at2_eq (B m c) ((win0_1.rect t).emb (ix2 r s)) _ _ (Prod.emb_at win0_1 t _ 0 rfl (by rw [(idx t).2.1.1, Nat.zero_mul]; rfl))
    (Prod.emb_at win0_1 t _ 1 rfl (by rw [(idx t).2.1.2]; rfl))

/-- The result is the product. -/
theorem final : (dats m 0 c).arrAt 2 cfg0.N = Prod.nn (A m c) (B m c) := by
  refine (dats m 0 c).arrAt_eq_of_cover 2 (Prod.nn (A m c) (B m c)) (fun t hf => ?_)
    ((by decide +kernel : (cfg0.win 2).Covers).cover _ (Memref.isWhole_whole _))
  rw [Value.flushed2]
  funext y
  have e0 := Prod.emb_at win0_2 t y 0 rfl (congrArg (· * 1024 + (y 0).val) (idx t).2.2.1)
  have e1 := Prod.emb_at win0_2 t y 1 rfl (congrArg (· * 1024 + (y 1).val) (idx t).2.2.2)
  exact (congrFun (out_at _ _) y).trans (Prod.whole_nn (A m c) (B m c) (iblk m c 0 t) (iblk m c 1 t) _ _ (blk_0 m c t) (blk_1 m c t) y ((win0_2.rect t).emb y) e0 e1)

/-- The reference's result is the same. -/
theorem ref (x0 : S8192x2048.Idx → EReal) (x1 : S2048x1024.Idx → EReal) :
    Cert.InMemRefIdeal.Read.val_main_v2 (F := Ideal) x0 x1 = Prod.nn x0 x1 :=
  Prod.host_nn _ x0 x1 none

end Cert.ProdInMem

end
-- ==== Proof.ProdInMemB.lean ====
/-
  THE INPUT PRODUCT OF THE MEMORY'S QUERIES, kept in sixteen bits.
-/
module

public import proofs.«01_k».proof.Proof.ProdTile
public import proofs.«01_k».proof.Proof.Gen.InMemBIdeal.Value
public import proofs.«01_k».proof.Proof.Gen.InMemBRefIdeal.Read

@[expose] public section

set_option maxRecDepth 16384

noncomputable section

namespace Cert.ProdInMemB

open Cert.InMemBIdeal Cert.InMemBIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem out_at (x0 : Vec Ideal S1024x2048 .bf16) (x1 : Vec Ideal S2048x1024 .bf16) : out0_2 x0 x1 = Prod.nn x0 x1 := by
  have hz : (![0, 0] : Fin 2 → Nat) = fun _ => 0 := funext fun a => by fin_cases a <;> rfl
  unfold out0_2
  rw [View.canon_unit_zero hz, View.ld_unit_zero hz, View.ld_unit_zero hz]
  exact Prod.mm_nn (φ₁ := .bf16) (φ₂ := .bf16) _ x0 x1

variable (m : (ℓ : Loc nD τ sig) → Buf (Elt Ideal) ℓ) (c : Dev nD)

/-- The arguments. -/
abbrev A : (⟨2, ![8192, 2048]⟩ : Shape).Idx → EReal := m ((c : Thread nD τ).loc main_arg0)
@[inherit_doc A]
abbrev B : (⟨2, ![2048, 1024]⟩ : Shape).Idx → EReal := m ((c : Thread nD τ).loc main_arg1)

/-- Where a point's blocks lie. -/
theorem idx : ∀ t : Fin cfg0.N, (win0_0.index t 0 = t.val % 8 ∧ win0_0.index t 1 = 0)
    ∧ (win0_1.index t 0 = 0 ∧ win0_1.index t 1 = t.val / 8)
    ∧ (win0_2.index t 0 = t.val % 8 ∧ win0_2.index t 1 = t.val / 8) := by decide +kernel

theorem blk_0 (t : Fin cfg0.N) (r : Fin 1024) (s : Fin 2048) : iblk m c 0 t (ix2 r s) = at2 (A m c) (t.val % 8 * 1024 + r.val) (0 + s.val) :=
  at2_eq (A m c) ((win0_0.rect t).emb (ix2 r s)) _ _ (Prod.emb_at win0_0 t _ 0 rfl (by rw [(idx t).1.1]; rfl))
    (Prod.emb_at win0_0 t _ 1 rfl (by rw [(idx t).1.2, Nat.zero_mul]; rfl))

theorem blk_1 (t : Fin cfg0.N) (r : Fin 2048) (s : Fin 1024) : iblk m c 1 t (ix2 r s) = at2 (B m c) (0 + r.val) (t.val / 8 * 1024 + s.val) :=
  at2_eq (B m c) ((win0_1.rect t).emb (ix2 r s)) _ _ (Prod.emb_at win0_1 t _ 0 rfl (by rw [(idx t).2.1.1, Nat.zero_mul]; rfl))
    (Prod.emb_at win0_1 t _ 1 rfl (by rw [(idx t).2.1.2]; rfl))

/-- The result is the product. -/
theorem final : (dats m 0 c).arrAt 2 cfg0.N = Prod.nn (A m c) (B m c) := by
  refine (dats m 0 c).arrAt_eq_of_cover 2 (Prod.nn (A m c) (B m c)) (fun t hf => ?_)
    ((by decide +kernel : (cfg0.win 2).Covers).cover _ (Memref.isWhole_whole _))
  rw [Value.flushed2]
  funext y
  have e0 := Prod.emb_at win0_2 t y 0 rfl (congrArg (· * 1024 + (y 0).val) (idx t).2.2.1)
  have e1 := Prod.emb_at win0_2 t y 1 rfl (congrArg (· * 1024 + (y 1).val) (idx t).2.2.2)
  exact (congrFun (out_at _ _) y).trans (Prod.whole_nn (A m c) (B m c) (iblk m c 0 t) (iblk m c 1 t) _ _ (blk_0 m c t) (blk_1 m c t) y ((win0_2.rect t).emb y) e0 e1)

/-- The reference's result is the same. -/
theorem ref (x0 : S8192x2048.Idx → EReal) (x1 : S2048x1024.Idx → EReal) :
    Cert.InMemBRefIdeal.Read.val_main_v3 (F := Ideal) x0 x1 = Prod.nn x0 x1 :=
  Prod.host_nn (φ₁ := .f32) _ x0 x1 none

end Cert.ProdInMemB

end
-- ==== Proof.ProdDhMem.lean ====
/-
  THE GRADIENT OF EITHER IN THE ROWS, added to what was there.
-/
module

public import proofs.«01_k».proof.Proof.ProdTile
public import proofs.«01_k».proof.Proof.Gen.DhMemIdeal.Value
public import proofs.«01_k».proof.Proof.Gen.DhMemRefIdeal.Read

@[expose] public section

set_option maxRecDepth 16384

noncomputable section

namespace Cert.ProdDhMem

open Cert.DhMemIdeal Cert.DhMemIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem out_at (x0 : Vec Ideal S512x1024 .bf16) (x1 : Vec Ideal S1024x1024 .bf16) (x2 : Vec Ideal S512x1024 .f32) (y : S512x1024.Idx) : out0_3 x0 x1 x2 y = Prod.nt x0 x1 y + x2 y := by
  have hz : (![0, 0] : Fin 2 → Nat) = fun _ => 0 := funext fun a => by fin_cases a <;> rfl
  unfold out0_3
  rw [View.canon_unit_zero hz, View.ld_unit_zero hz, View.ld_unit_zero hz, View.ld_unit_zero hz]
  exact congrArg (· + x2 y) (congrFun (Prod.mm_nt _ x0 x1) y)

variable (m : (ℓ : Loc nD τ sig) → Buf (Elt Ideal) ℓ) (c : Dev nD)

/-- The arguments. -/
abbrev A : (⟨2, ![8192, 1024]⟩ : Shape).Idx → EReal := m ((c : Thread nD τ).loc main_arg0)
@[inherit_doc A]
abbrev B : (⟨2, ![2048, 1024]⟩ : Shape).Idx → EReal := m ((c : Thread nD τ).loc main_arg1)
@[inherit_doc A]
abbrev Z : (⟨2, ![8192, 2048]⟩ : Shape).Idx → EReal := m ((c : Thread nD τ).loc main_arg2)

/-- Where a point's blocks lie. -/
theorem idx : ∀ t : Fin cfg0.N, (win0_0.index t 0 = t.val % 16 ∧ win0_0.index t 1 = 0)
    ∧ (win0_1.index t 0 = t.val / 16 ∧ win0_1.index t 1 = 0) ∧ (∀ a, win0_2.index t a = win0_3.index t a)
    ∧ (win0_3.index t 0 = t.val % 16 ∧ win0_3.index t 1 = t.val / 16) := by decide +kernel

theorem blk_0 (t : Fin cfg0.N) (r : Fin 512) (s : Fin 1024) : iblk m c 0 t (ix2 r s) = at2 (A m c) (t.val % 16 * 512 + r.val) (0 + s.val) :=
  at2_eq (A m c) ((win0_0.rect t).emb (ix2 r s)) _ _ (Prod.emb_at win0_0 t _ 0 rfl (by rw [(idx t).1.1]; rfl))
    (Prod.emb_at win0_0 t _ 1 rfl (by rw [(idx t).1.2, Nat.zero_mul]; rfl))

theorem blk_1 (t : Fin cfg0.N) (r : Fin 1024) (s : Fin 1024) : iblk m c 1 t (ix2 r s) = at2 (B m c) (t.val / 16 * 1024 + r.val) (0 + s.val) :=
  at2_eq (B m c) ((win0_1.rect t).emb (ix2 r s)) _ _ (Prod.emb_at win0_1 t _ 0 rfl (by rw [(idx t).2.1.1]; rfl))
    (Prod.emb_at win0_1 t _ 1 rfl (by rw [(idx t).2.1.2, Nat.zero_mul]; rfl))

theorem blk_2 (t : Fin cfg0.N) (y : S512x1024.Idx) : iblk m c 2 t y = Z m c ((win0_3.rect t).emb y) :=
  congrArg (Z m c) (funext fun a => Fin.ext ((Prod.emb_at win0_2 t y a rfl (by rw [(idx t).2.2.1 a])).trans
    (Prod.emb_at win0_3 t y a rfl rfl).symm))

/-- The result is the product and the last argument. -/
theorem final : (dats m 0 c).arrAt 3 cfg0.N = fun i => Z m c i + Prod.nt (A m c) (B m c) i := by
  refine (dats m 0 c).arrAt_eq_of_cover 3 (fun i => Z m c i + Prod.nt (A m c) (B m c) i) (fun t hf => ?_)
    ((by decide +kernel : (cfg0.win 3).Covers).cover _ (Memref.isWhole_whole _))
  rw [Value.flushed3]
  funext y
  have e0 := Prod.emb_at win0_3 t y 0 rfl (congrArg (· * 512 + (y 0).val) (idx t).2.2.2.1)
  have e1 := Prod.emb_at win0_3 t y 1 rfl (congrArg (· * 1024 + (y 1).val) (idx t).2.2.2.2)
  exact (out_at _ _ _ y).trans ((add_comm _ _).trans (congrArg₂ (· + ·) (blk_2 m c t y)
    (Prod.whole_nt (A m c) (B m c) (iblk m c 0 t) (iblk m c 1 t) _ _ (blk_0 m c t) (blk_1 m c t) y ((win0_3.rect t).emb y) e0 e1)))

/-- The reference's result is the same. -/
theorem ref (x0 : S8192x1024.Idx → EReal) (x1 : S2048x1024.Idx → EReal) (x2 : S8192x2048.Idx → EReal) :
    Cert.DhMemRefIdeal.Read.val_main_v5 (F := Ideal) x0 x1 x2 = fun i => x2 i + Prod.nt x0 x1 i :=
  funext fun i => congrArg (x2 i + ·) (congrFun (Prod.host_nt _ x0 x1 none) i)

end Cert.ProdDhMem

end
-- ==== Proof.ProdDwMem.lean ====
/-
  THE GRADIENT OF EITHER IN THE WEIGHT, summed over the tokens in eight parts.
-/
module

public import proofs.«01_k».proof.Proof.ProdTile
public import proofs.«01_k».proof.Proof.Gen.DwMemIdeal.Value
public import proofs.«01_k».proof.Proof.Gen.DwMemRefIdeal.Read

@[expose] public section

set_option maxRecDepth 16384

noncomputable section

namespace Cert.ProdDwMem

open Cert.DwMemIdeal Cert.DwMemIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem hz : (![0, 0] : Fin 2 → Nat) = fun _ => 0 := funext fun a => by fin_cases a <;> rfl

section Cases

variable (c : Dev nD) (i : grid0.Coords)
  (arg3 : Memref sig .tc .vmem S1024x2048 .bf16) (harg3 : arg3.IsWhole)
  (arg4 : Memref sig .tc .vmem S1024x1024 .bf16) (harg4 : arg4.IsWhole)
  (arg5 : Memref sig .tc .vmem S2048x1024 .bf16) (harg5 : arg5.IsWhole)
  (arg6 : Memref sig .tc .vmem S2048x1024 .f32) (harg6 : arg6.IsWhole)
  (x0 : Vec Ideal S1024x2048 .bf16) (x1 : Vec Ideal S1024x1024 .bf16) (xs : Vec Ideal S2048x1024 .f32)

theorem sc_A (hc0 : cond0_0 i) (hc1 : ¬cond0_1 i) (hc2 : ¬cond0_2 i) :
    sout0_A_0 c i arg3 harg3 arg4 harg4 arg5 harg5 arg6 harg6 hc0 hc1 hc2 x0 x1 = Prod.tn x0 x1 := by
  have hcov := scover0_A_0 c i arg3 harg3 arg4 harg4 arg5 harg5 arg6 harg6 hc0 hc1 hc2 x0 x1
  unfold sout0_A_0
  rw [View.read_writes_eq_canon _ _ _ hcov]
  unfold kernelRun0_A
  dsimp only
  sl_unfold_words
  simp only [View.readAt_eq_ld, harg3.read_unread, harg4.read_unread]
  rw [View.canon_unit_zero hz, View.ld_unit_zero hz, View.ld_unit_zero hz]
  exact (shapeCast_self _ _).trans (Prod.mm_tn _ x0 x1)

theorem sc_B (hc0 : ¬cond0_0 i) (hc1 : cond0_1 i) (hc2 : ¬cond0_2 i) (y : S2048x1024.Idx) :
    sout0_B_0 c i arg3 harg3 arg4 harg4 arg5 harg5 arg6 harg6 hc0 hc1 hc2 x0 x1 xs y = xs y + Prod.tn x0 x1 y := by
  have hcov := scover0_B_0 c i arg3 harg3 arg4 harg4 arg5 harg5 arg6 harg6 hc0 hc1 hc2 x0 x1 xs
  unfold sout0_B_0
  rw [View.read_writes_eq_canon _ _ _ hcov]
  unfold kernelRun0_B
  dsimp only
  sl_unfold_words
  simp only [View.readAt_eq_ld, harg3.read_unread, harg4.read_unread, harg6.read_unread]
  rw [View.canon_unit_zero hz, View.ld_unit_zero hz, View.ld_unit_zero hz, View.ld_unit_zero hz]
  unfold k0_pay2
  rw [shapeCast_self]
  exact congrArg (xs y + ·) (congrFun (Prod.mm_tn _ x0 x1) y)

theorem out_C (hc0 : ¬cond0_0 i) (hc1 : ¬cond0_1 i) (hc2 : cond0_2 i) (y : S2048x1024.Idx) :
    out0_C_2 c i arg3 harg3 arg4 harg4 arg5 harg5 arg6 harg6 hc0 hc1 hc2 x0 x1 xs y = xs y + Prod.tn x0 x1 y := by
  have hcov := cover0_C_2 c i arg3 harg3 arg4 harg4 arg5 harg5 arg6 harg6 hc0 hc1 hc2 x0 x1 xs
  unfold out0_C_2
  rw [View.read_writes_eq_canon _ _ _ hcov]
  unfold kernelRun0_C
  dsimp only
  sl_unfold_words
  simp only [View.readAt_eq_ld, harg3.read_unread, harg4.read_unread, harg6.read_unread]
  rw [View.canon_unit_zero hz, View.ld_unit_zero hz, View.ld_unit_zero hz, View.ld_unit_zero hz]
  exact congrArg (xs y + ·) (congrFun (Prod.mm_tn _ x0 x1) y)

end Cases

variable (m : (ℓ : Loc nD τ sig) → Buf (Elt Ideal) ℓ) (c : Dev nD)

/-- The arguments. -/
abbrev A : (⟨2, ![8192, 2048]⟩ : Shape).Idx → EReal := m ((c : Thread nD τ).loc main_arg0)
@[inherit_doc A]
abbrev B : (⟨2, ![8192, 1024]⟩ : Shape).Idx → EReal := m ((c : Thread nD τ).loc main_arg1)

/-- Where a point's blocks lie. -/
theorem idx : ∀ t : Fin cfg0.N, (win0_0.index t 0 = t.val % 8 ∧ win0_0.index t 1 = t.val / 8 % 1)
    ∧ (win0_1.index t 0 = t.val % 8 ∧ win0_1.index t 1 = t.val / 8 / 1)
    ∧ (win0_2.index t 0 = t.val / 8 % 1 ∧ win0_2.index t 1 = t.val / 8 / 1) := by decide +kernel

theorem blk_0 (t : Fin cfg0.N) (r : Fin 1024) (s : Fin 2048) : iblk m c 0 t (ix2 r s) = at2 (A m c) (1024 * (t.val % 8) + r.val) (t.val / 8 % 1 * 2048 + s.val) :=
  at2_eq (A m c) ((win0_0.rect t).emb (ix2 r s)) _ _ (Prod.emb_at win0_0 t _ 0 rfl (by rw [(idx t).1.1, Nat.mul_comm]; rfl))
    (Prod.emb_at win0_0 t _ 1 rfl (by rw [(idx t).1.2]; rfl))

theorem blk_1 (t : Fin cfg0.N) (r : Fin 1024) (s : Fin 1024) : iblk m c 1 t (ix2 r s) = at2 (B m c) (1024 * (t.val % 8) + r.val) (t.val / 8 / 1 * 1024 + s.val) :=
  at2_eq (B m c) ((win0_1.rect t).emb (ix2 r s)) _ _ (Prod.emb_at win0_1 t _ 0 rfl (by rw [(idx t).2.1.1, Nat.mul_comm]; rfl))
    (Prod.emb_at win0_1 t _ 1 rfl (by rw [(idx t).2.1.2]; rfl))

/-- The sum a run of the grid has after `k` of its points. -/
abbrev run (y : S2048x1024.Idx) (r k : ℕ) : EReal :=
  Prod.upTo (fun k => at2 (A m c) k (r % 1 * 2048 + (y 0).val)) (fun k => at2 (B m c) k (r / 1 * 1024 + (y 1).val)) (1024 * k)

/-- What the last of a run's points writes. -/
theorem last (t : Fin cfg0.N) (h : t.val % 8 = 7) (y : S2048x1024.Idx) :
    (outsAt0 m c t.val t.isLt).1 y = run m c y (t.val / 8) 8 := by
  rw [outsAt0_C m c t (by omega) (by omega) h]
  dsimp only
  rw [out_C]
  refine (Prod.run_last (q := 8) (by decide) (fun n hn => (outsAt0 m c n hn).2 y)
    (fun n hn => Prod.tn (iblk m c 0 ⟨n, hn⟩) (iblk m c 1 ⟨n, hn⟩) y) (run m c y) (fun n hn h => ?_) (fun n hn hp h h' => ?_)
    (fun r => Prod.upTo_zero _ _) (fun n hn => ?_) t.val t.isLt _ h)
  · have e := outsAt0_A m c ⟨n, hn⟩ h (by dsimp only; omega) (by dsimp only; omega)
    dsimp only at e
    rw [e]
    dsimp only
    rw [sc_A]
  · have e := outsAt0_B m c ⟨n, hn⟩ h (by dsimp only; omega) (by dsimp only; omega)
    dsimp only at e
    rw [e]
    dsimp only
    rw [sc_B]
  · exact Prod.tile_tn (A m c) (B m c) (iblk m c 0 ⟨n, hn⟩) (iblk m c 1 ⟨n, hn⟩) _ _ _ (blk_0 m c ⟨n, hn⟩) (blk_1 m c ⟨n, hn⟩) y

/-- The result is the product. -/
theorem final : (dats m 0 c).arrAt 2 cfg0.N = Prod.tn (A m c) (B m c) := by
  refine (dats m 0 c).arrAt_eq_of_cover 2 (Prod.tn (A m c) (B m c)) (fun t hf => ?_)
    ((by decide +kernel : (cfg0.win 2).Covers).cover _ (Memref.isWhole_whole _))
  rw [Value.flushed2]
  funext y
  refine (last m c t ((flush0_2 t).mp hf) y).trans ?_
  have e0 := Prod.emb_at win0_2 t y 0 rfl (congrArg (· * 2048 + (y 0).val) (idx t).2.2.1)
  have e1 := Prod.emb_at win0_2 t y 1 rfl (congrArg (· * 1024 + (y 1).val) (idx t).2.2.2)
  exact (congrArg₂ (fun a b => Prod.upTo (fun k => at2 (A m c) k (a)) (fun k => at2 (B m c) k (b)) 8192) e0.symm e1.symm).trans
    (Prod.upTo_tn (A m c) (B m c) ((win0_2.rect t).emb y))

/-- The reference's result is the same. -/
theorem ref (x0 : S8192x2048.Idx → EReal) (x1 : S8192x1024.Idx → EReal) :
    Cert.DwMemRefIdeal.Read.val_main_v6 (F := Ideal) x0 x1 = Prod.tn x0 x1 :=
  funext fun i => by
    rw [Cert.DwMemRefIdeal.Read.val_main_v6_apply]
    refine (Cert.DwMemRefIdeal.Read.val_main_v5_apply (F := Ideal) x0 x1 i).trans ?_
    exact (congrFun (Prod.host_tn _ x1 x0 none) _).trans ((congrArg _ (eq_ix2 _)).trans
      ((Prod.tn_swap x0 x1 (i 0) (i 1)).trans (congrArg (Prod.tn x0 x1) (eq_ix2 i).symm)))

end Cert.ProdDwMem

end
-- ==== Proof.ProdOutMem.lean ====
/-
  THE OUTPUT PRODUCT OF THE MEMORY'S GATED ROWS, added to what the tokens' gave.
-/
module

public import proofs.«01_k».proof.Proof.ProdTile
public import proofs.«01_k».proof.Proof.Gen.OutMemIdeal.Value
public import proofs.«01_k».proof.Proof.Gen.OutMemRefIdeal.Read

@[expose] public section

set_option maxRecDepth 16384

noncomputable section

namespace Cert.ProdOutMem

open Cert.OutMemIdeal Cert.OutMemIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem out_at (x0 : Vec Ideal S1024x1024 .bf16) (x1 : Vec Ideal S1024x1024 .bf16) (x2 : Vec Ideal S1024x1024 .f32) (y : S1024x1024.Idx) : out0_3 x0 x1 x2 y = Prod.nn x0 x1 y + x2 y := by
  have hz : (![0, 0] : Fin 2 → Nat) = fun _ => 0 := funext fun a => by fin_cases a <;> rfl
  unfold out0_3
  rw [View.canon_unit_zero hz, View.ld_unit_zero hz, View.ld_unit_zero hz, View.ld_unit_zero hz]
  exact congrArg (· + x2 y) (congrFun (Prod.mm_nn _ x0 x1) y)

variable (m : (ℓ : Loc nD τ sig) → Buf (Elt Ideal) ℓ) (c : Dev nD)

/-- The arguments. -/
abbrev A : (⟨2, ![8192, 1024]⟩ : Shape).Idx → EReal := m ((c : Thread nD τ).loc main_arg0)
@[inherit_doc A]
abbrev B : (⟨2, ![1024, 2048]⟩ : Shape).Idx → EReal := m ((c : Thread nD τ).loc main_arg1)
@[inherit_doc A]
abbrev Z : (⟨2, ![8192, 2048]⟩ : Shape).Idx → EReal := m ((c : Thread nD τ).loc main_arg2)

/-- Where a point's blocks lie. -/
theorem idx : ∀ t : Fin cfg0.N, (win0_0.index t 0 = t.val % 8 ∧ win0_0.index t 1 = 0)
    ∧ (win0_1.index t 0 = 0 ∧ win0_1.index t 1 = t.val / 8) ∧ (∀ a, win0_2.index t a = win0_3.index t a)
    ∧ (win0_3.index t 0 = t.val % 8 ∧ win0_3.index t 1 = t.val / 8) := by decide +kernel

theorem blk_0 (t : Fin cfg0.N) (r : Fin 1024) (s : Fin 1024) : iblk m c 0 t (ix2 r s) = at2 (A m c) (t.val % 8 * 1024 + r.val) (0 + s.val) :=
  at2_eq (A m c) ((win0_0.rect t).emb (ix2 r s)) _ _ (Prod.emb_at win0_0 t _ 0 rfl (by rw [(idx t).1.1]; rfl))
    (Prod.emb_at win0_0 t _ 1 rfl (by rw [(idx t).1.2, Nat.zero_mul]; rfl))

theorem blk_1 (t : Fin cfg0.N) (r : Fin 1024) (s : Fin 1024) : iblk m c 1 t (ix2 r s) = at2 (B m c) (0 + r.val) (t.val / 8 * 1024 + s.val) :=
  at2_eq (B m c) ((win0_1.rect t).emb (ix2 r s)) _ _ (Prod.emb_at win0_1 t _ 0 rfl (by rw [(idx t).2.1.1, Nat.zero_mul]; rfl))
    (Prod.emb_at win0_1 t _ 1 rfl (by rw [(idx t).2.1.2]; rfl))

theorem blk_2 (t : Fin cfg0.N) (y : S1024x1024.Idx) : iblk m c 2 t y = Z m c ((win0_3.rect t).emb y) :=
  congrArg (Z m c) (funext fun a => Fin.ext ((Prod.emb_at win0_2 t y a rfl (by rw [(idx t).2.2.1 a])).trans
    (Prod.emb_at win0_3 t y a rfl rfl).symm))

/-- The result is the product and the last argument. -/
theorem final : (dats m 0 c).arrAt 3 cfg0.N = fun i => Z m c i + Prod.nn (A m c) (B m c) i := by
  refine (dats m 0 c).arrAt_eq_of_cover 3 (fun i => Z m c i + Prod.nn (A m c) (B m c) i) (fun t hf => ?_)
    ((by decide +kernel : (cfg0.win 3).Covers).cover _ (Memref.isWhole_whole _))
  rw [Value.flushed3]
  funext y
  have e0 := Prod.emb_at win0_3 t y 0 rfl (congrArg (· * 1024 + (y 0).val) (idx t).2.2.2.1)
  have e1 := Prod.emb_at win0_3 t y 1 rfl (congrArg (· * 1024 + (y 1).val) (idx t).2.2.2.2)
  exact (out_at _ _ _ y).trans ((add_comm _ _).trans (congrArg₂ (· + ·) (blk_2 m c t y)
    (Prod.whole_nn (A m c) (B m c) (iblk m c 0 t) (iblk m c 1 t) _ _ (blk_0 m c t) (blk_1 m c t) y ((win0_3.rect t).emb y) e0 e1)))

/-- The reference's result is the same. -/
theorem ref (x0 : S8192x1024.Idx → EReal) (x1 : S1024x2048.Idx → EReal) (x2 : S8192x2048.Idx → EReal) :
    Cert.OutMemRefIdeal.Read.val_main_v3 (F := Ideal) x0 x1 x2 = fun i => x2 i + Prod.nn x0 x1 i :=
  funext fun i => congrArg (x2 i + ·) (congrFun (Prod.host_nn _ x0 x1 none) i)

end Cert.ProdOutMem

end
-- ==== Proof.ProdGateMem.lean ====
/-
  THE GRADIENT OF THE OUTPUT PRODUCT IN THE GATED ROWS of the memory's attention.
-/
module

public import proofs.«01_k».proof.Proof.ProdTile
public import proofs.«01_k».proof.Proof.Gen.GateMemIdeal.Value
public import proofs.«01_k».proof.Proof.Gen.GateMemRefIdeal.Read

@[expose] public section

set_option maxRecDepth 16384

noncomputable section

namespace Cert.ProdGateMem

open Cert.GateMemIdeal Cert.GateMemIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem out_at (x0 : Vec Ideal S512x2048 .bf16) (x1 : Vec Ideal S1024x2048 .bf16) : out0_2 x0 x1 = Prod.nt x0 x1 := by
  have hz : (![0, 0] : Fin 2 → Nat) = fun _ => 0 := funext fun a => by fin_cases a <;> rfl
  unfold out0_2
  rw [View.canon_unit_zero hz, View.ld_unit_zero hz, View.ld_unit_zero hz]
  exact Prod.mm_nt _ x0 x1

variable (m : (ℓ : Loc nD τ sig) → Buf (Elt Ideal) ℓ) (c : Dev nD)

/-- The arguments. -/
abbrev A : (⟨2, ![8192, 2048]⟩ : Shape).Idx → EReal := m ((c : Thread nD τ).loc main_arg0)
@[inherit_doc A]
abbrev B : (⟨2, ![1024, 2048]⟩ : Shape).Idx → EReal := m ((c : Thread nD τ).loc main_arg1)

/-- Where a point's blocks lie. -/
theorem idx : ∀ t : Fin cfg0.N, (win0_0.index t 0 = t.val % 16 ∧ win0_0.index t 1 = 0)
    ∧ (win0_1.index t 0 = t.val / 16 ∧ win0_1.index t 1 = 0)
    ∧ (win0_2.index t 0 = t.val % 16 ∧ win0_2.index t 1 = t.val / 16) := by decide +kernel

theorem blk_0 (t : Fin cfg0.N) (r : Fin 512) (s : Fin 2048) : iblk m c 0 t (ix2 r s) = at2 (A m c) (t.val % 16 * 512 + r.val) (0 + s.val) :=
  at2_eq (A m c) ((win0_0.rect t).emb (ix2 r s)) _ _ (Prod.emb_at win0_0 t _ 0 rfl (by rw [(idx t).1.1]; rfl))
    (Prod.emb_at win0_0 t _ 1 rfl (by rw [(idx t).1.2, Nat.zero_mul]; rfl))

theorem blk_1 (t : Fin cfg0.N) (r : Fin 1024) (s : Fin 2048) : iblk m c 1 t (ix2 r s) = at2 (B m c) (t.val / 16 * 1024 + r.val) (0 + s.val) :=
  at2_eq (B m c) ((win0_1.rect t).emb (ix2 r s)) _ _ (Prod.emb_at win0_1 t _ 0 rfl (by rw [(idx t).2.1.1]; rfl))
    (Prod.emb_at win0_1 t _ 1 rfl (by rw [(idx t).2.1.2, Nat.zero_mul]; rfl))

/-- The result is the product. -/
theorem final : (dats m 0 c).arrAt 2 cfg0.N = Prod.nt (A m c) (B m c) := by
  refine (dats m 0 c).arrAt_eq_of_cover 2 (Prod.nt (A m c) (B m c)) (fun t hf => ?_)
    ((by decide +kernel : (cfg0.win 2).Covers).cover _ (Memref.isWhole_whole _))
  rw [Value.flushed2]
  funext y
  have e0 := Prod.emb_at win0_2 t y 0 rfl (congrArg (· * 512 + (y 0).val) (idx t).2.2.1)
  have e1 := Prod.emb_at win0_2 t y 1 rfl (congrArg (· * 1024 + (y 1).val) (idx t).2.2.2)
  exact (congrFun (out_at _ _) y).trans (Prod.whole_nt (A m c) (B m c) (iblk m c 0 t) (iblk m c 1 t) _ _ (blk_0 m c t) (blk_1 m c t) y ((win0_2.rect t).emb y) e0 e1)

/-- The reference's result is the same. -/
theorem ref (x0 : S8192x2048.Idx → EReal) (x1 : S1024x2048.Idx → EReal) :
    Cert.GateMemRefIdeal.Read.val_main_v4 (F := Ideal) x0 x1 = Prod.nt x0 x1 :=
  Prod.host_nt _ x0 x1 none

end Cert.ProdGateMem

end
-- ==== Proof.ProdDwOutMem.lean ====
/-
  THE GRADIENT OF THE OUTPUT PRODUCT IN THE MEMORY'S PART OF ITS WEIGHT, summed over the tokens in eight parts.
-/
module

public import proofs.«01_k».proof.Proof.ProdTile
public import proofs.«01_k».proof.Proof.Gen.DwOutMemIdeal.Value
public import proofs.«01_k».proof.Proof.Gen.DwOutMemRefIdeal.Read

@[expose] public section

set_option maxRecDepth 16384

noncomputable section

namespace Cert.ProdDwOutMem

open Cert.DwOutMemIdeal Cert.DwOutMemIdeal.Gen Idealize.ShloMosaic Idealize.ShloMosaic.TcCoe Idealize.SL.Sem
open Idealize.ShloMosaic.ValueIdx
open Idealize.ShloMosaic.Pipeline (Dat)
open Cert.Mem (at2 at2_eq)
open scoped BigOperators

theorem hz : (![0, 0] : Fin 2 → Nat) = fun _ => 0 := funext fun a => by fin_cases a <;> rfl

section Cases

variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .bf16) (harg5 : arg5.IsWhole)
  (arg6 : Memref sig .tc .vmem S1024x1024 .f32) (harg6 : arg6.IsWhole)
  (x0 : Vec Ideal S1024x1024 .bf16) (x1 : Vec Ideal S1024x1024 .bf16) (xs : Vec Ideal S1024x1024 .f32)

theorem sc_A (hc0 : cond0_0 i) (hc1 : ¬cond0_1 i) (hc2 : ¬cond0_2 i) :
    sout0_A_0 c i arg3 harg3 arg4 harg4 arg5 harg5 arg6 harg6 hc0 hc1 hc2 x0 x1 = Prod.tn x0 x1 := by
  have hcov := scover0_A_0 c i arg3 harg3 arg4 harg4 arg5 harg5 arg6 harg6 hc0 hc1 hc2 x0 x1
  unfold sout0_A_0
  rw [View.read_writes_eq_canon _ _ _ hcov]
  unfold kernelRun0_A
  dsimp only
  sl_unfold_words
  simp only [View.readAt_eq_ld, harg3.read_unread, harg4.read_unread]
  rw [View.canon_unit_zero hz, View.ld_unit_zero hz, View.ld_unit_zero hz]
  exact (shapeCast_self _ _).trans (Prod.mm_tn _ x0 x1)

theorem sc_B (hc0 : ¬cond0_0 i) (hc1 : cond0_1 i) (hc2 : ¬cond0_2 i) (y : S1024x1024.Idx) :
    sout0_B_0 c i arg3 harg3 arg4 harg4 arg5 harg5 arg6 harg6 hc0 hc1 hc2 x0 x1 xs y = xs y + Prod.tn x0 x1 y := by
  have hcov := scover0_B_0 c i arg3 harg3 arg4 harg4 arg5 harg5 arg6 harg6 hc0 hc1 hc2 x0 x1 xs
  unfold sout0_B_0
  rw [View.read_writes_eq_canon _ _ _ hcov]
  unfold kernelRun0_B
  dsimp only
  sl_unfold_words
  simp only [View.readAt_eq_ld, harg3.read_unread, harg4.read_unread, harg6.read_unread]
  rw [View.canon_unit_zero hz, View.ld_unit_zero hz, View.ld_unit_zero hz, View.ld_unit_zero hz]
  unfold k0_pay2
  rw [shapeCast_self]
  exact congrArg (xs y + ·) (congrFun (Prod.mm_tn _ x0 x1) y)

theorem out_C (hc0 : ¬cond0_0 i) (hc1 : ¬cond0_1 i) (hc2 : cond0_2 i) (y : S1024x1024.Idx) :
    out0_C_2 c i arg3 harg3 arg4 harg4 arg5 harg5 arg6 harg6 hc0 hc1 hc2 x0 x1 xs y = xs y + Prod.tn x0 x1 y := by
  have hcov := cover0_C_2 c i arg3 harg3 arg4 harg4 arg5 harg5 arg6 harg6 hc0 hc1 hc2 x0 x1 xs
  unfold out0_C_2
  rw [View.read_writes_eq_canon _ _ _ hcov]
  unfold kernelRun0_C
  dsimp only
  sl_unfold_words
  simp only [View.readAt_eq_ld, harg3.read_unread, harg4.read_unread, harg6.read_unread]
  rw [View.canon_unit_zero hz, View.ld_unit_zero hz, View.ld_unit_zero hz, View.ld_unit_zero hz]
  exact congrArg (xs y + ·) (congrFun (Prod.mm_tn _ x0 x1) y)

end Cases

variable (m : (ℓ : Loc nD τ sig) → Buf (Elt Ideal) ℓ) (c : Dev nD)

/-- The arguments. -/
abbrev A : (⟨2, ![8192, 1024]⟩ : Shape).Idx → EReal := m ((c : Thread nD τ).loc main_arg0)
@[inherit_doc A]
abbrev B : (⟨2, ![8192, 2048]⟩ : Shape).Idx → EReal := m ((c : Thread nD τ).loc main_arg1)

/-- Where a point's blocks lie. -/
theorem idx : ∀ t : Fin cfg0.N, (win0_0.index t 0 = t.val % 8 ∧ win0_0.index t 1 = t.val / 8 % 1)
    ∧ (win0_1.index t 0 = t.val % 8 ∧ win0_1.index t 1 = t.val / 8 / 1)
    ∧ (win0_2.index t 0 = t.val / 8 % 1 ∧ win0_2.index t 1 = t.val / 8 / 1) := by decide +kernel

theorem blk_0 (t : Fin cfg0.N) (r : Fin 1024) (s : Fin 1024) : iblk m c 0 t (ix2 r s) = at2 (A m c) (1024 * (t.val % 8) + r.val) (t.val / 8 % 1 * 1024 + s.val) :=
  at2_eq (A m c) ((win0_0.rect t).emb (ix2 r s)) _ _ (Prod.emb_at win0_0 t _ 0 rfl (by rw [(idx t).1.1, Nat.mul_comm]; rfl))
    (Prod.emb_at win0_0 t _ 1 rfl (by rw [(idx t).1.2]; rfl))

theorem blk_1 (t : Fin cfg0.N) (r : Fin 1024) (s : Fin 1024) : iblk m c 1 t (ix2 r s) = at2 (B m c) (1024 * (t.val % 8) + r.val) (t.val / 8 / 1 * 1024 + s.val) :=
  at2_eq (B m c) ((win0_1.rect t).emb (ix2 r s)) _ _ (Prod.emb_at win0_1 t _ 0 rfl (by rw [(idx t).2.1.1, Nat.mul_comm]; rfl))
    (Prod.emb_at win0_1 t _ 1 rfl (by rw [(idx t).2.1.2]; rfl))

/-- The sum a run of the grid has after `k` of its points. -/
abbrev run (y : S1024x1024.Idx) (r k : ℕ) : EReal :=
  Prod.upTo (fun k => at2 (A m c) k (r % 1 * 1024 + (y 0).val)) (fun k => at2 (B m c) k (r / 1 * 1024 + (y 1).val)) (1024 * k)

/-- What the last of a run's points writes. -/
theorem last (t : Fin cfg0.N) (h : t.val % 8 = 7) (y : S1024x1024.Idx) :
    (outsAt0 m c t.val t.isLt).1 y = run m c y (t.val / 8) 8 := by
  rw [outsAt0_C m c t (by omega) (by omega) h]
  dsimp only
  rw [out_C]
  refine (Prod.run_last (q := 8) (by decide) (fun n hn => (outsAt0 m c n hn).2 y)
    (fun n hn => Prod.tn (iblk m c 0 ⟨n, hn⟩) (iblk m c 1 ⟨n, hn⟩) y) (run m c y) (fun n hn h => ?_) (fun n hn hp h h' => ?_)
    (fun r => Prod.upTo_zero _ _) (fun n hn => ?_) t.val t.isLt _ h)
  · have e := outsAt0_A m c ⟨n, hn⟩ h (by dsimp only; omega) (by dsimp only; omega)
    dsimp only at e
    rw [e]
    dsimp only
    rw [sc_A]
  · have e := outsAt0_B m c ⟨n, hn⟩ h (by dsimp only; omega) (by dsimp only; omega)
    dsimp only at e
    rw [e]
    dsimp only
    rw [sc_B]
  · exact Prod.tile_tn (A m c) (B m c) (iblk m c 0 ⟨n, hn⟩) (iblk m c 1 ⟨n, hn⟩) _ _ _ (blk_0 m c ⟨n, hn⟩) (blk_1 m c ⟨n, hn⟩) y

/-- The result is the product. -/
theorem final : (dats m 0 c).arrAt 2 cfg0.N = Prod.tn (A m c) (B m c) := by
  refine (dats m 0 c).arrAt_eq_of_cover 2 (Prod.tn (A m c) (B m c)) (fun t hf => ?_)
    ((by decide +kernel : (cfg0.win 2).Covers).cover _ (Memref.isWhole_whole _))
  rw [Value.flushed2]
  funext y
  refine (last m c t ((flush0_2 t).mp hf) y).trans ?_
  have e0 := Prod.emb_at win0_2 t y 0 rfl (congrArg (· * 1024 + (y 0).val) (idx t).2.2.1)
  have e1 := Prod.emb_at win0_2 t y 1 rfl (congrArg (· * 1024 + (y 1).val) (idx t).2.2.2)
  exact (congrArg₂ (fun a b => Prod.upTo (fun k => at2 (A m c) k (a)) (fun k => at2 (B m c) k (b)) 8192) e0.symm e1.symm).trans
    (Prod.upTo_tn (A m c) (B m c) ((win0_2.rect t).emb y))

/-- The reference's result is the same. -/
theorem ref (x0 : S8192x1024.Idx → EReal) (x1 : S8192x2048.Idx → EReal) :
    Cert.DwOutMemRefIdeal.Read.val_main_v6 (F := Ideal) x0 x1 = Prod.tn x0 x1 :=
  funext fun i => by
    rw [Cert.DwOutMemRefIdeal.Read.val_main_v6_apply]
    refine (Cert.DwOutMemRefIdeal.Read.val_main_v5_apply (F := Ideal) x0 x1 i).trans ?_
    exact (congrFun (Prod.host_tn _ x1 x0 none) _).trans ((congrArg _ (eq_ix2 _)).trans
      ((Prod.tn_swap x0 x1 (i 0) (i 1)).trans (congrArg (Prod.tn x0 x1) (eq_ix2 i).symm)))

end Cert.ProdDwOutMem

end
-- ==== Proof.Silu.lean ====
/-
  THE GATE'S SLOPE over the extended reals: `x·sigmoid x` differentiated and contracted with a finite cotangent, written as one
  product, is the two-term sum differentiation writes. At the two infinite inputs the sigmoid is 0 or 1 and both forms agree.
-/
module

public import proofs.«01_k».proof.Proof.MemRow
public import Idealize.ShloMosaic.Lib.IdealHost

@[expose] public section

noncomputable section

namespace Cert.Silu

open Idealize.ShloMosaic
open Cert.Row (IsReal)

theorem ofBits_zero : Ideal.ofBits .f32 0x00000000#32 = 0 := by simp [Ideal.ofBits, Ideal.ieee]
theorem ofBits_one : Ideal.ofBits .f32 0x3F800000#32 = 1 := Ideal.ofBits_one_f32

/-- The sigmoid as both programs compute it. -/
def sg (z : EReal) : EReal := Ideal.div 1 (1 + Ideal.exp (-z))

theorem sg_top : sg ⊤ = 1 := by
  show Ideal.div 1 (1 + 0) = 1
  rw [add_zero, Ideal.div, if_neg one_ne_zero, one_mul]
  rw [show (1 : EReal) = ((1 : ℝ) : EReal) from rfl, ← EReal.coe_inv, inv_one]

theorem sg_bot : sg ⊥ = 0 := by
  show Ideal.div 1 (1 + ⊤) = 0
  rw [show (1 : EReal) + ⊤ = ⊤ from rfl, Ideal.div, if_neg (by decide), EReal.inv_top, mul_zero]

theorem sg_coe (x : ℝ) : sg x = (((1 + Real.exp (-x))⁻¹ : ℝ) : EReal) := by
  have h : (0 : ℝ) < 1 + Real.exp (-x) := by positivity
  show Ideal.div 1 (((1 : ℝ) : EReal) + ((Real.exp (-x) : ℝ) : EReal)) = _
  rw [← EReal.coe_add, Ideal.div, if_neg (by exact_mod_cast h.ne'), one_mul, ← EReal.coe_inv]

/-- The two forms of the slope. -/
theorem slope {p : EReal} (hp : IsReal p) (z : EReal) :
    p * (sg z * (1 + z * (1 - sg z))) = p * sg z + z * p * (sg z * (1 - sg z)) := by
  obtain ⟨r, rfl⟩ := hp
  have e : (1 : EReal) - 1 = 0 := EReal.sub_self (EReal.coe_ne_top 1) (EReal.coe_ne_bot 1)
  induction z using EReal.rec with
  | bot => simp only [sg_bot, zero_mul, mul_zero, add_zero]
  | top => simp only [sg_top, e, mul_zero, add_zero, mul_one]
  | coe x => rw [sg_coe, show (1 : EReal) = ((1 : ℝ) : EReal) from rfl]; norm_cast; ring

end Cert.Silu

end
-- ==== Proof.GateTokBEq.lean ====
/-
  THE GATE'S GRADIENT (the token block of the attention layers): both arrays the kernel leaves are what differentiating the gate gives,
  for a finite product of gated value and cotangent.
-/
module

public import proofs.«01_k».proof.Proof.Silu
public import proofs.«01_k».proof.Proof.AttnEq
public import proofs.«01_k».proof.Proof.Gen.Pre_gate_finite
public import proofs.«01_k».proof.Proof.Gen.GateTokBIdeal.Value
public import proofs.«01_k».proof.Proof.Gen.GateTokBRefIdeal.Read

@[expose] public section

noncomputable section

namespace Cert.GateTokBEq

open Idealize.ShloMosaic Idealize.ShloMosaic.ValueIdx
open Cert.Row (IsReal)
open Cert.Silu (sg)

abbrev A := FVec Ideal ⟨2, ![8192, 3072]⟩ .f32

instance : Subsingleton Cert.Pre_gate_finite.S_.Idx := ⟨fun a b => funext fun i => i.elim0⟩

theorem pre_read (a z d : A) (h : Cert.Pre_gate_finite.fn (F := Ideal) a z d = fun _ => 1#1) (i) : IsReal (a i * d i) :=
  Cert.Mix.real_of_abs (Host.reduce_andi_all _ _ _ _ _ (congrFun h (Shape.Idx.first Cert.Pre_gate_finite.Gen.h_S_)) i)

theorem gated (z d : A) : Cert.GateTokBIdeal.Value.G3 (F := Ideal) z d = Cert.GateTokBRefIdeal.Read.val_main_v3 (F := Ideal) z d := by
  funext i
  show d i * (z i * Ideal.div (Ideal.ofBits .f32 0x3F800000#32) (Ideal.ofBits .f32 0x3F800000#32 + Ideal.exp (Ideal.ofBits .f32 0x00000000#32 - z i)))
    = d i * (z i * Ideal.div (Ideal.ofBits .f32 0x3F800000#32) (Ideal.ofBits .f32 0x3F800000#32 + Ideal.exp (-z i)))
  rw [Cert.Silu.ofBits_zero, zero_sub]

theorem sloped (a z d : A) (h : Cert.Pre_gate_finite.fn (F := Ideal) a z d = fun _ => 1#1) :
    Cert.GateTokBIdeal.Value.G4 (F := Ideal) a z d = Cert.GateTokBRefIdeal.Read.val_main_v5 (F := Ideal) a z d := by
  funext i
  have e := Cert.Silu.slope (pre_read a z d h i) (z i)
  show d i * a i * (Ideal.div (Ideal.ofBits .f32 0x3F800000#32) (Ideal.ofBits .f32 0x3F800000#32 + Ideal.exp (Ideal.ofBits .f32 0x00000000#32 - z i))
      * (Ideal.ofBits .f32 0x3F800000#32 + z i * (Ideal.ofBits .f32 0x3F800000#32 - Ideal.div (Ideal.ofBits .f32 0x3F800000#32) (Ideal.ofBits .f32 0x3F800000#32 + Ideal.exp (Ideal.ofBits .f32 0x00000000#32 - z i)))))
    = a i * d i * Ideal.div (Ideal.ofBits .f32 0x3F800000#32) (Ideal.ofBits .f32 0x3F800000#32 + Ideal.exp (-z i))
      + z i * (a i * d i) * (Ideal.div (Ideal.ofBits .f32 0x3F800000#32) (Ideal.ofBits .f32 0x3F800000#32 + Ideal.exp (-z i))
        * (Ideal.ofBits .f32 0x3F800000#32 - Ideal.div (Ideal.ofBits .f32 0x3F800000#32) (Ideal.ofBits .f32 0x3F800000#32 + Ideal.exp (-z i))))
  rw [Cert.Silu.ofBits_zero, zero_sub, Cert.Silu.ofBits_one, mul_comm (d i)]
  exact e

end Cert.GateTokBEq

end
-- ==== Proof.GateMemBEq.lean ====
/-
  THE GATE'S GRADIENT (the memory block of every layer): both arrays the kernel leaves are what differentiating the gate gives,
  for a finite product of gated value and cotangent.
-/
module

public import proofs.«01_k».proof.Proof.Silu
public import proofs.«01_k».proof.Proof.AttnEq
public import proofs.«01_k».proof.Proof.Gen.Pre_gate_mem_finite
public import proofs.«01_k».proof.Proof.Gen.GateMemBIdeal.Value
public import proofs.«01_k».proof.Proof.Gen.GateMemBRefIdeal.Read

@[expose] public section

noncomputable section

namespace Cert.GateMemBEq

open Idealize.ShloMosaic Idealize.ShloMosaic.ValueIdx
open Cert.Row (IsReal)
open Cert.Silu (sg)

abbrev A := FVec Ideal ⟨2, ![8192, 1024]⟩ .f32

instance : Subsingleton Cert.Pre_gate_mem_finite.S_.Idx := ⟨fun a b => funext fun i => i.elim0⟩

theorem pre_read (a z d : A) (h : Cert.Pre_gate_mem_finite.fn (F := Ideal) a z d = fun _ => 1#1) (i) : IsReal (a i * d i) :=
  Cert.Mix.real_of_abs (Host.reduce_andi_all _ _ _ _ _ (congrFun h (Shape.Idx.first Cert.Pre_gate_mem_finite.Gen.h_S_)) i)

theorem gated (z d : A) : Cert.GateMemBIdeal.Value.G3 (F := Ideal) z d = Cert.GateMemBRefIdeal.Read.val_main_v3 (F := Ideal) z d := by
  funext i
  show d i * (z i * Ideal.div (Ideal.ofBits .f32 0x3F800000#32) (Ideal.ofBits .f32 0x3F800000#32 + Ideal.exp (Ideal.ofBits .f32 0x00000000#32 - z i)))
    = d i * (z i * Ideal.div (Ideal.ofBits .f32 0x3F800000#32) (Ideal.ofBits .f32 0x3F800000#32 + Ideal.exp (-z i)))
  rw [Cert.Silu.ofBits_zero, zero_sub]

theorem sloped (a z d : A) (h : Cert.Pre_gate_mem_finite.fn (F := Ideal) a z d = fun _ => 1#1) :
    Cert.GateMemBIdeal.Value.G4 (F := Ideal) a z d = Cert.GateMemBRefIdeal.Read.val_main_v5 (F := Ideal) a z d := by
  funext i
  have e := Cert.Silu.slope (pre_read a z d h i) (z i)
  show d i * a i * (Ideal.div (Ideal.ofBits .f32 0x3F800000#32) (Ideal.ofBits .f32 0x3F800000#32 + Ideal.exp (Ideal.ofBits .f32 0x00000000#32 - z i))
      * (Ideal.ofBits .f32 0x3F800000#32 + z i * (Ideal.ofBits .f32 0x3F800000#32 - Ideal.div (Ideal.ofBits .f32 0x3F800000#32) (Ideal.ofBits .f32 0x3F800000#32 + Ideal.exp (Ideal.ofBits .f32 0x00000000#32 - z i)))))
    = a i * d i * Ideal.div (Ideal.ofBits .f32 0x3F800000#32) (Ideal.ofBits .f32 0x3F800000#32 + Ideal.exp (-z i))
      + z i * (a i * d i) * (Ideal.div (Ideal.ofBits .f32 0x3F800000#32) (Ideal.ofBits .f32 0x3F800000#32 + Ideal.exp (-z i))
        * (Ideal.ofBits .f32 0x3F800000#32 - Ideal.div (Ideal.ofBits .f32 0x3F800000#32) (Ideal.ofBits .f32 0x3F800000#32 + Ideal.exp (-z i))))
  rw [Cert.Silu.ofBits_zero, zero_sub, Cert.Silu.ofBits_one, mul_comm (d i)]
  exact e

end Cert.GateMemBEq

end
-- ==== Proof.Shift.lean ====
/-
  ROWS SHIFTED WITHIN A TILE: rolling a tile's rows and patching the rows that wrapped with a rolled halo of eight rows.
-/
module

public import proofs.«01_k».proof.Proof.ProdTile
public import proofs.«01_k».proof.Proof.Silu
public import Idealize.ShloMosaic.Lib.KernelVsHost
public import Idealize.ShloMosaic.Lib.ValueLayout
public import Idealize.ShloMosaic.Lib.Pipeline.ValueKit.Tiles

@[expose] public section

noncomputable section

namespace Cert.Shift

open Idealize.ShloMosaic Idealize.ShloMosaic.ValueIdx

variable {α : Type} {n C : ℕ}

/-- A roll of the rows, read at an index. -/
theorem roll_at (sb : BitVec 32) (x : (⟨2, ![n, C]⟩ : Shape).Idx → α) (h) (p : Fin n) (q : Fin C) (p' : Fin n)
    (hp : p'.val = (p.val + n - sb.toNat % n) % n) :
    dynamicRotate (s := ⟨2, ![n, C]⟩) 0 sb none x h (ix2 p q) = x (ix2 p' q) :=
  dynamicRotate_apply 0 sb x h _ _ fun b => by
    fin_cases b
    · exact hp
    · rfl

/-- Eight rows repeated down a tile, read at an index. -/
theorem tile_at (x : (⟨2, ![8, C]⟩ : Shape).Idx → α) (h) (p : Fin 256) (q : Fin C) (p' : Fin 8) (hp : p'.val = p.val % 8) :
    concatenate ⟨2, ![256, C]⟩ 0 (List.replicate 32 ⟨⟨2, ![8, C]⟩, x⟩) h (ix2 p q) = x (ix2 p' q) :=
  concatenate_replicate_apply _ 32 x h rfl _ _ hp fun b hb => by
    fin_cases b
    · exact absurd rfl hb
    · rfl

/-- One row of the four taps, spread over a tile. -/
theorem tap_at {Q : ℕ} (x : FVec Ideal ⟨2, ![4, C]⟩ .f32) (k : Fin 4) (inb) (hb) (p : Fin Q) (q : Fin C) :
    broadcastTo ⟨2, ![Q, C]⟩ (View.ld (Val := Elt Ideal) (e' := .f32) (S := ⟨2, ![4, C]⟩) x (Rect.unit (s := ⟨2, ![4, C]⟩) ![k.val, 0] (⟨2, ![1, C]⟩ : Shape).size inb)) hb (ix2 p q) = x (ix2 k q) :=
  (broadcastTo_1b_ab_apply _ hb p q).trans (View.ld_unit_apply_of (Val := Elt Ideal) (e := .f32) x _ _ _ _ (ix2 k q) fun a => by fin_cases a <;> simp [ix2])

/-- The mask of the last `j` rows. -/
theorem last_at (j : Fin 4) (hi) (p : Fin 256) (q : Fin C) :
    (cmpi .sge (iota .tc ⟨2, ![256, C]⟩ 32 [0] hi) (broadcast ⟨2, ![256, C]⟩ (BitVec.ofNat 32 (256 - j.val))) (ix2 p q) = 1) ↔ 256 ≤ p.val + j.val := by
  have e : ∀ (j : Fin 4) (p : Fin 256), IntOp.cmpi .sge (BitVec.ofNat 32 (0 * 256 + p.val)) (BitVec.ofNat 32 (256 - j.val)) = 1 ↔ 256 ≤ p.val + j.val := by
    decide +kernel
  exact e j p

/-- A tile moved up by `j` rows, its last rows from the eight rows that follow: the rows of the whole array. -/
theorem up_at {T D : ℕ} (X : (⟨2, ![T, D]⟩ : Shape).Idx → EReal) (R S : ℕ) (j : Fin 4) (a b : BitVec 32)
    (ha : a.toNat = 256 - j.val) (hb : b.toNat = 8 - j.val)
    (x : FVec Ideal ⟨2, ![256, C]⟩ .f32) (h : FVec Ideal ⟨2, ![8, C]⟩ .f32) (hi hr hr' hc)
    (hx : ∀ p q, x (ix2 p q) = Cert.Mem.at2 X (R + p.val) (S + q.val)) (hh : ∀ p q, h (ix2 p q) = Cert.Mem.at2 X (R + 256 + p.val) (S + q.val))
    (p : Fin 256) (q : Fin C) :
    select (cmpi .sge (iota .tc ⟨2, ![256, C]⟩ 32 [0] hi) (broadcast ⟨2, ![256, C]⟩ (BitVec.ofNat 32 (256 - j.val))))
      (concatenate ⟨2, ![256, C]⟩ 0 (List.replicate 32 ⟨⟨2, ![8, C]⟩, dynamicRotate (s := ⟨2, ![8, C]⟩) 0 b none h hr'⟩) hc)
      (dynamicRotate (s := ⟨2, ![256, C]⟩) 0 a none x hr) (ix2 p q) = Cert.Mem.at2 X (R + p.val + j.val) (S + q.val) := by
  have hp := p.isLt
  have hj := j.isLt
  rw [select_apply]
  unfold Scalar.select
  by_cases e : 256 ≤ p.val + j.val
  · rw [if_pos ((last_at j hi p q).2 e), tile_at _ hc p q ⟨p.val % 8, by omega⟩ rfl,
      roll_at b h hr' _ q ⟨p.val + j.val - 256, by omega⟩ (by rw [hb]; show _ = (p.val % 8 + 8 - (8 - j.val) % 8) % 8; simp only; omega), hh]
    congr 1
    show R + 256 + (p.val + j.val - 256) = R + p.val + j.val
    omega
  · rw [if_neg fun h => e ((last_at j hi p q).1 h), roll_at a x hr p q ⟨p.val + j.val, by omega⟩ (by rw [ha]; show p.val + j.val = _; omega), hx]
    congr 1
    show R + (p.val + j.val) = R + p.val + j.val
    omega

/-- A product with one row of taps, padded by zeros above and below and read three rows on. -/
theorem slid_at {T : ℕ} (X W : (ℕ → ℕ → EReal)) (hX : ∀ r q, T ≤ r → X r q = 0) (k : Fin 4) (Z : (⟨2, ![T, C]⟩ : Shape).Idx → EReal)
    (hZ : ∀ i, Z i = W k.val (i 1).val * X (i 0).val (i 1).val) {u : Shape} (v : u.Idx → EReal) (hv : ∀ i, v i = 0)
    (lo hi : Fin 2 → ℕ) (hlo : lo 0 = k.val) (hlo' : lo 1 = 0) (h : (⟨2, ![T, C]⟩ : Shape).Pads lo hi ![0, 0] ⟨2, ![T + 3, C]⟩) (hu : 0 < u.numel)
    (i : (⟨2, ![T + 3, C]⟩ : Shape).Idx) (r q : ℕ) (hr : (i 0).val = 3 + r) (hq : (i 1).val = q) :
    pad (s := ⟨2, ![T, C]⟩) ⟨2, ![T + 3, C]⟩ lo hi ![0, 0] Z v h hu i = W k.val q * X (r + (3 - k.val)) q := by
  have hk := k.isLt
  have hi1 : (i 1).val < C := (i 1).isLt
  by_cases e : r + (3 - k.val) < T
  · have hin : pad (s := ⟨2, ![T, C]⟩) ⟨2, ![T + 3, C]⟩ lo hi ![0, 0] Z v h hu i = Z (ix2 ⟨r + (3 - k.val), e⟩ ⟨q, by omega⟩) :=
      pad_apply_of_inside lo hi ![0, 0] Z v h hu i _ fun a => by
        fin_cases a
        · show (i 0).val = lo 0 + (r + (3 - k.val)) * (0 + 1); omega
        · show (i 1).val = lo 1 + q * (0 + 1); omega
    exact hin.trans (hZ _)
  · rw [hX _ _ (by omega), mul_zero]
    exact (pad_apply_of_not_inside lo hi ![0, 0] Z v h hu i 0 (fun hh => e (by
      have h3 : ((i 0).val - lo 0) / (0 + 1) < T := hh.2.2
      rw [Nat.zero_add, Nat.div_one] at h3
      omega))).trans (hv _)

theorem at2_past {T D : ℕ} (X : (⟨2, ![T, D]⟩ : Shape).Idx → EReal) (r q : ℕ) (h : T ≤ r) : Cert.Mem.at2 X r q = 0 := by
  unfold Cert.Mem.at2
  rw [dif_neg (by omega)]

end Cert.Shift

end
-- ==== Proof.ConvBEq.lean ====
/-
  THE CONVOLUTION'S GRADIENT WITH RESPECT TO ITS INPUT: each row is the four taps against the four rows from it on, zero past the end.
-/
module

public import proofs.«01_k».proof.Proof.Shift
public import proofs.«01_k».proof.Proof.Gen.ConvBIdeal.Value
public import proofs.«01_k».proof.Proof.Gen.ConvBRefIdeal.Read

@[expose] public section

set_option maxRecDepth 16384

noncomputable section

namespace Cert.ConvBEq

open Cert.ConvBIdeal Cert.ConvBIdeal.Gen Idealize.ShloMosaic Idealize.ShloMosaic.TcCoe Idealize.SL.Sem
open Idealize.ShloMosaic.ValueIdx
open Idealize.ShloMosaic.Pipeline (Dat)
open Cert.Mem (at2 at2_eq)

/-- The gradient at a place. -/
def taps (D W : ℕ → ℕ → EReal) (r c : ℕ) : EReal := W 3 c * D r c + W 2 c * D (r + 1) c + W 1 c * D (r + 2) c + W 0 c * D (r + 3) c

/-- The last tile takes zeros for the rows that follow it. -/
theorem keep_at (i : grid0.Coords) (x : Vec Ideal S8x1024 .f32) (y : S8x1024.Idx) : k0_pay2 i x y = x y * (if (i 0).val = 31 then 0 else 1) := by
  have e : ∀ p : Fin 32, (Scalar.extui (Scalar.cmpi .eq (BitVec.ofNat 32 p.val) 31#32) : BitVec 32).toInt = if p.val = 31 then 1 else 0 := by decide +kernel
  show x y * (Ideal.ofBits .f32 0x3F800000#32 - (((Scalar.extui (Scalar.cmpi .eq (BitVec.ofNat 32 (i 0).val) 31#32) : BitVec 32).toInt : ℝ) : EReal)) = _
  rw [e (i 0), Cert.Silu.ofBits_one]
  split <;> norm_num
  exact Or.inr (EReal.sub_self (EReal.coe_ne_top 1) (EReal.coe_ne_bot 1))

theorem out_at (i : grid0.Coords) (X : (⟨2, ![8192, 5120]⟩ : Shape).Idx → EReal) (W : (⟨2, ![4, 5120]⟩ : Shape).Idx → EReal) (R S : ℕ)
    (x0 : Vec Ideal S256x1024 .f32) (x1 : Vec Ideal S8x1024 .f32) (x2 : Vec Ideal S4x1024 .f32)
    (h0 : ∀ p q, x0 (ix2 p q) = at2 X (R + p.val) (S + q.val)) (h1 : ∀ p q, k0_pay2 i x1 (ix2 p q) = at2 X (R + 256 + p.val) (S + q.val))
    (h2 : ∀ p q, x2 (ix2 p q) = at2 W p.val (S + q.val)) (p : Fin 256) (q : Fin 1024) :
    out0_3 i x0 x1 x2 (ix2 p q) = taps (at2 X) (at2 W) (R + p.val) (S + q.val) := by
  have hz : (![0, 0] : Fin 2 → Nat) = fun _ => 0 := funext fun a => by fin_cases a <;> rfl
  unfold out0_3
  rw [View.canon_unit_zero hz, View.ld_unit_zero hz, View.ld_unit_zero hz]
  unfold k0_pay1 k0_pay3 k0_pay4 k0_pay5
  have up := fun j a b ha hb hc => Cert.Shift.up_at X R S j a b ha hb x0 (k0_pay2 i x1) iota_S256x1024_d0_w32 rotates_S256x1024_d0 rotates_S8x1024_d0 hc h0 h1 p q
  have tp := fun k inb => (Cert.Shift.tap_at x2 k inb broadcasts_S1x1024_S256x1024 p q).trans (h2 k q)
  have e3 := tp 3 inb_S4x1024_S1x1024_3_0
  have e2 := tp 2 inb_S4x1024_S1x1024_2_0
  have e1 := tp 1 inb_S4x1024_S1x1024_1_0
  have e0 := tp 0 inb_S4x1024_S1x1024_0_0
  have u1 := up 1 255#32 7#32 rfl rfl (concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0)
  have u2 := up 2 254#32 6#32 rfl rfl (concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0)
  have u3 := up 3 253#32 5#32 rfl rfl (concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0)
  exact congrArg₂ (· + ·) (congrArg₂ (· + ·) (congrArg₂ (· + ·) (congrArg₂ (· * ·) e3 (h0 p q)) (congrArg₂ (· * ·) e2 u1)) (congrArg₂ (· * ·) e1 u2)) (congrArg₂ (· * ·) e0 u3)

variable (m : (ℓ : Loc nD τ sig) → Buf (Elt Ideal) ℓ) (c : Dev nD)

/-- The arguments. -/
abbrev A : (⟨2, ![8192, 5120]⟩ : Shape).Idx → EReal := m ((c : Thread nD τ).loc main_arg0)
@[inherit_doc A]
abbrev B : (⟨2, ![4, 5120]⟩ : Shape).Idx → EReal := m ((c : Thread nD τ).loc main_arg1)

/-- Where a point's blocks lie. -/
theorem idx : ∀ t : Fin cfg0.N, (win0_0.index t 0 = t.val / 5 ∧ win0_0.index t 1 = t.val % 5)
    ∧ (win0_1.index t 0 = min ((t.val / 5 + 1) * 32) 1023 ∧ win0_1.index t 1 = t.val % 5)
    ∧ (win0_2.index t 0 = 0 ∧ win0_2.index t 1 = t.val % 5)
    ∧ (win0_3.index t 0 = t.val / 5 ∧ win0_3.index t 1 = t.val % 5) ∧ (grid0.coords t 0).val = t.val / 5 := by decide +kernel

theorem blk_0 (t : Fin cfg0.N) (r : Fin 256) (s : Fin 1024) : iblk m c 0 t (ix2 r s) = at2 (A m c) (t.val / 5 * 256 + r.val) (t.val % 5 * 1024 + s.val) :=
  at2_eq (A m c) ((win0_0.rect t).emb (ix2 r s)) _ _ (Prod.emb_at win0_0 t _ 0 rfl (by rw [(idx t).1.1]; rfl))
    (Prod.emb_at win0_0 t _ 1 rfl (by rw [(idx t).1.2]; rfl))

theorem blk_1 (t : Fin cfg0.N) (r : Fin 8) (s : Fin 1024) : iblk m c 1 t (ix2 r s) = at2 (A m c) (min ((t.val / 5 + 1) * 32) 1023 * 8 + r.val) (t.val % 5 * 1024 + s.val) :=
  at2_eq (A m c) ((win0_1.rect t).emb (ix2 r s)) _ _ (Prod.emb_at win0_1 t _ 0 rfl (by rw [(idx t).2.1.1]; rfl))
    (Prod.emb_at win0_1 t _ 1 rfl (by rw [(idx t).2.1.2]; rfl))

theorem blk_2 (t : Fin cfg0.N) (r : Fin 4) (s : Fin 1024) : iblk m c 2 t (ix2 r s) = at2 (B m c) r.val (t.val % 5 * 1024 + s.val) :=
  at2_eq (B m c) ((win0_2.rect t).emb (ix2 r s)) _ _ (Prod.emb_at win0_2 t _ 0 rfl (by rw [(idx t).2.2.1.1, Nat.zero_mul, Nat.zero_add]; rfl))
    (Prod.emb_at win0_2 t _ 1 rfl (by rw [(idx t).2.2.1.2]; rfl))

/-- The rows that follow a tile: the next tile's first eight, or zeros. -/
theorem next_at (t : Fin cfg0.N) (r : Fin 8) (s : Fin 1024) :
    k0_pay2 (grid0.coords t) (iblk m c 1 t) (ix2 r s) = at2 (A m c) (t.val / 5 * 256 + 256 + r.val) (t.val % 5 * 1024 + s.val) := by
  have hr := r.isLt
  have ht : t.val < 160 := t.isLt
  rw [keep_at, (idx t).2.2.2.2, blk_1]
  split
  · rename_i h
    rw [mul_zero, h]
    unfold Cert.Mem.at2
    rw [dif_neg (by omega)]
  · rw [mul_one]
    congr 1
    omega

/-- The kernel's array. -/
theorem final : (dats m 0 c).arrAt 3 cfg0.N = fun i => taps (at2 (A m c)) (at2 (B m c)) (i 0).val (i 1).val := by
  refine (dats m 0 c).arrAt_eq_of_cover 3 _ (fun t hf => ?_)
    ((by decide +kernel : (cfg0.win 3).Covers).cover _ (Memref.isWhole_whole _))
  rw [Value.flushed3]
  funext y
  have e0 := Prod.emb_at win0_3 t y 0 rfl (congrArg (· * 256 + (y 0).val) (idx t).2.2.2.1.1)
  have e1 := Prod.emb_at win0_3 t y 1 rfl (congrArg (· * 1024 + (y 1).val) (idx t).2.2.2.1.2)
  refine ((congrArg (out0_3 (grid0.coords t) (iblk m c 0 t) (iblk m c 1 t) (iblk m c 2 t)) (eq_ix2 y)).trans
    (out_at (grid0.coords t) (A m c) (B m c) _ _ _ _ _ (blk_0 m c t) (next_at m c t) (blk_2 m c t) (y 0) (y 1))).trans ?_
  exact congrArg₂ (taps (at2 (A m c)) (at2 (B m c))) e0.symm e1.symm

/-! ## The reference -/

section Ref

open Cert.ConvBRefIdeal.Read

variable (x0 : (⟨2, ![8192, 5120]⟩ : Shape).Idx → EReal) (x1 : (⟨2, ![4, 5120]⟩ : Shape).Idx → EReal)

theorem prod_3 (i) : val_main_v36 (F := Ideal) x0 x1 i = at2 x1 3 (i 1).val * at2 x0 (i 0).val (i 1).val := by
  rw [val_main_v36_apply, val_main_v35_apply, val_main_v29_apply, val_main_v27_apply, val_main_v26_apply, val_main_v34, shapeCast_self]
  exact congrArg₂ (· * ·) (at2_eq x1 _ _ _ rfl (Nat.mod_eq_of_lt (i 1).isLt)) (at2_eq x0 i _ _ rfl rfl)
theorem prod_2 (i) : val_main_v39 (F := Ideal) x0 x1 i = at2 x1 2 (i 1).val * at2 x0 (i 0).val (i 1).val := by
  rw [val_main_v39_apply, val_main_v38_apply, val_main_v22_apply, val_main_v20_apply, val_main_v19_apply, val_main_v33, shapeCast_self]
  exact congrArg₂ (· * ·) (at2_eq x1 _ _ _ rfl (Nat.mod_eq_of_lt (i 1).isLt)) (at2_eq x0 i _ _ rfl rfl)
theorem prod_1 (i) : val_main_v43 (F := Ideal) x0 x1 i = at2 x1 1 (i 1).val * at2 x0 (i 0).val (i 1).val := by
  rw [val_main_v43_apply, val_main_v42_apply, val_main_v15_apply, val_main_v13_apply, val_main_v12_apply, val_main_v33, shapeCast_self]
  exact congrArg₂ (· * ·) (at2_eq x1 _ _ _ rfl (Nat.mod_eq_of_lt (i 1).isLt)) (at2_eq x0 i _ _ rfl rfl)
theorem prod_0 (i) : val_main_v47 (F := Ideal) x0 x1 i = at2 x1 0 (i 1).val * at2 x0 (i 0).val (i 1).val := by
  rw [val_main_v47_apply, val_main_v46_apply, val_main_v7_apply, val_main_v5_apply, val_main_v4_apply, val_main_v33, shapeCast_self]
  exact congrArg₂ (· * ·) (at2_eq x1 _ _ _ rfl (Nat.mod_eq_of_lt (i 1).isLt)) (at2_eq x0 i _ _ rfl rfl)

theorem zero_word (i) : (val_main_cst_3 (F := Ideal) i : EReal) = 0 := Cert.Silu.ofBits_zero

/-- The reference's array is the same. -/
theorem ref : val_main_v52 (F := Ideal) x0 x1 = fun i => taps (at2 x0) (at2 x1) (i 0).val (i 1).val := by
  funext i
  have sl := fun k Z hZ lo hi hlo hlo' h => Cert.Shift.slid_at (at2 x0) (at2 x1) (fun r q => Cert.Shift.at2_past x0 r q) k Z hZ
    (val_main_cst_3 (F := Ideal)) zero_word lo hi hlo hlo' h Cert.ConvBRefIdeal.Gen.h_S_ (idx_main_v51 i) (i 0).val (i 1).val rfl rfl
  rw [val_main_v52_apply]
  show val_main_v51 (F := Ideal) x0 x1 i = _
  rw [val_main_v51_apply]
  exact congrArg₂ (· + ·) (congrArg₂ (· + ·) (congrArg₂ (· + ·)
    (sl 3 _ (prod_3 x0 x1) _ _ rfl rfl Cert.ConvBRefIdeal.Gen.pads_S8192x5120_S8195x5120_300_000)
    (sl 2 _ (prod_2 x0 x1) _ _ rfl rfl Cert.ConvBRefIdeal.Gen.pads_S8192x5120_S8195x5120_210_000))
    (sl 1 _ (prod_1 x0 x1) _ _ rfl rfl Cert.ConvBRefIdeal.Gen.pads_S8192x5120_S8195x5120_120_000))
    (sl 0 _ (prod_0 x0 x1) _ _ rfl rfl Cert.ConvBRefIdeal.Gen.pads_S8192x5120_S8195x5120_030_000)

end Ref

end Cert.ConvBEq

end
-- ==== Proof.NormRow.lean ====
/-
  ONE ROW OF A NORM'S GRADIENT, over the extended reals. The row `x` is scaled by `r = 1 / sqrt m`, with `m` its mean square plus a
  positive constant. Given the cotangents `a` of the scaled row, the row's is written in two ways: a kernel's
  `r · (a − (x · r) · mean (a · x · r))`, and what differentiating the mean and the inverse root gives, `a · r + x · k + k · x`
  with `k = (Σ x · a) · (−1/2 · (r / m)) / n`. They are equal for any extended reals (`dx_eq`): when `m` is infinite both are zero, and
  otherwise `r` is a positive real number, which goes into sums of extended reals.
-/
module

public import proofs.«01_k».proof.Proof.MemRow
public import proofs.«01_k».proof.Proof.Silu

@[expose] public section

noncomputable section

namespace Cert.NormRow

open Idealize.ShloMosaic Cert.Row
open scoped BigOperators

theorem ofBits_2048 : Ideal.ofBits .f32 0x45000000#32 = ((2048 : ℝ) : EReal) := by
  simp [Ideal.ofBits, Ideal.ieee, -EReal.coe_mul]; norm_num
theorem ofBits_half : Ideal.ofBits .f32 0xBF000000#32 = ((-(1 / 2) : ℝ) : EReal) := by
  simp [Ideal.ofBits, Ideal.ieee, -EReal.coe_mul, -EReal.coe_neg]; norm_num
theorem ofBits_eps : 0 < Ideal.ofBits .f32 0x358637BD#32 := by
  have e : Ideal.ofBits .f32 0x358637BD#32 = ((8796093 / 8796093022208 : ℝ) : EReal) := by
    simp [Ideal.ofBits, Ideal.ieee, -EReal.coe_mul]; norm_num
  rw [e]; exact EReal.coe_pos.mpr (by norm_num)

theorem div_real (x : EReal) (n : ℝ) (hn : n ≠ 0) : Ideal.div x (n : EReal) = x * ((n⁻¹ : ℝ) : EReal) := by
  unfold Ideal.div
  rw [if_neg (by exact_mod_cast hn), EReal.coe_inv]

theorem sq_nonneg' (x : EReal) : 0 ≤ x * x := by
  induction x with
  | bot => simp
  | top => simp
  | coe a => rw [← EReal.coe_mul]; exact_mod_cast mul_self_nonneg a

/-- The mean square plus a positive number is positive. -/
theorem mean_pos {n : ℕ} (x : Fin n → EReal) (N : ℝ) (hN : 0 < N) (e : EReal) (he : 0 < e) :
    0 < Ideal.div (∑ j, x j * x j) (N : EReal) + e := by
  rw [div_real _ _ hN.ne']
  rw [add_comm]
  exact EReal.add_pos_of_pos_of_nonneg he (mul_nonneg (Finset.sum_nonneg fun j _ => sq_nonneg' _) (by exact_mod_cast (inv_pos.mpr hN).le))

theorem twice (u : EReal) : u + u = ((2 : ℝ) : EReal) * u := by
  induction u with
  | bot => rw [EReal.coe_mul_bot_of_pos (by norm_num)]; rfl
  | top => rw [EReal.coe_mul_top_of_pos (by norm_num)]; rfl
  | coe a => rw [← EReal.coe_mul, ← EReal.coe_add, two_mul]

theorem dx_eq {n : ℕ} (x a : Fin n → EReal) (q : Fin n) (m : EReal) (hm : 0 < m) (N : ℝ) (hN : 0 < N) :
    Ideal.rsqrt m * (a q - (x q * Ideal.rsqrt m) * Ideal.div (∑ j, a j * (x j * Ideal.rsqrt m)) (N : EReal))
      = a q * Ideal.rsqrt m + x q * Ideal.div ((∑ j, x j * a j) * (((-(1 / 2) : ℝ) : EReal) * Ideal.div (Ideal.rsqrt m) m)) (N : EReal)
        + Ideal.div ((∑ j, x j * a j) * (((-(1 / 2) : ℝ) : EReal) * Ideal.div (Ideal.rsqrt m) m)) (N : EReal) * x q := by
  rw [div_real _ _ hN.ne', div_real _ _ hN.ne']
  induction m with
  | bot => exact absurd hm (by simp)
  | top =>
      rw [Ideal.rsqrt_top]
      unfold Ideal.div
      simp
  | coe μ =>
      have hμ : 0 < μ := by exact_mod_cast hm
      rw [div_real _ _ hμ.ne', Ideal.rsqrt_coe, if_neg hμ.not_gt, if_neg hμ.ne']
      set ρ : ℝ := (Real.sqrt μ)⁻¹ with hρ
      have hρ0 : 0 ≤ ρ := inv_nonneg.mpr (Real.sqrt_nonneg μ)
      have hsq : ρ * ρ = μ⁻¹ := by rw [hρ, ← mul_inv, Real.mul_self_sqrt hμ.le]
      have hS : ∑ j, a j * (x j * (ρ : EReal)) = (ρ : EReal) * ∑ j, x j * a j := by
        rw [mul_sum _ ρ hρ0]
        exact Finset.sum_congr rfl fun j _ => by rw [← mul_assoc, mul_comm, mul_comm (a j)]
      rw [hS]
      generalize (∑ j, x j * a j) = S
      have hK : S * (((-(1 / 2) : ℝ) : EReal) * ((ρ : EReal) * ((μ⁻¹ : ℝ) : EReal))) * ((N⁻¹ : ℝ) : EReal)
          = S * ((-(1 / 2) * (ρ * μ⁻¹) * N⁻¹ : ℝ) : EReal) := by
        rw [mul_assoc, ← EReal.coe_mul, ← EReal.coe_mul, ← EReal.coe_mul]
      rw [hK, sub_eq_add_neg, EReal.left_distrib_of_nonneg_of_ne_top (by exact_mod_cast hρ0) (EReal.coe_ne_top ρ), add_assoc, mul_comm (S * _) (x q), twice,
        mul_comm (ρ : EReal) (a q)]
      congr 1
      have e1 : (x q * (ρ : EReal)) * ((ρ : EReal) * S * ((N⁻¹ : ℝ) : EReal)) = (x q * S) * ((ρ * ρ * N⁻¹ : ℝ) : EReal) := by
        rw [EReal.coe_mul, EReal.coe_mul]; ac_rfl
      have e2 : ((2 : ℝ) : EReal) * (x q * (S * ((-(1 / 2) * (ρ * μ⁻¹) * N⁻¹ : ℝ) : EReal)))
          = (x q * S) * ((2 * (-(1 / 2) * (ρ * μ⁻¹) * N⁻¹) : ℝ) : EReal) := by
        rw [EReal.coe_mul 2]; ac_rfl
      rw [e1, e2, ← mul_neg, mul_left_comm, ← EReal.coe_neg, ← EReal.coe_mul, hsq]
      congr 2
      ring

end Cert.NormRow

end
-- ==== Proof.NormEq.lean ====
/-
  THE NORM'S GRADIENT: a block of 256 rows at a time, the scales' cotangents added up over the blocks in one row that
  stays in place.
-/
module

public import proofs.«01_k».proof.Proof.ProdTile
public import proofs.«01_k».proof.Proof.NormRow
public import proofs.«01_k».proof.Proof.Silu
public import proofs.«01_k».proof.Proof.MemArr
public import Idealize.ShloMosaic.Lib.Pipeline.ReadBack
public import Idealize.ShloMosaic.Lib.StableHlo.RunRead
public import Idealize.ShloMosaic.Lib.ValueLayout
public import proofs.«01_k».proof.Proof.Gen.NormIdeal.Value
public import proofs.«01_k».proof.Proof.Gen.NormRefIdeal.Read

@[expose] public section

set_option maxRecDepth 16384

noncomputable section

namespace Cert.NormEq

open Cert.NormIdeal Cert.NormIdeal.Gen Idealize.ShloMosaic Idealize.ShloMosaic.TcCoe Idealize.SL.Sem
open Idealize.ShloMosaic.ValueIdx Idealize.ShloMosaic.StableHlo
open Idealize.ShloMosaic.Pipeline (Dat)
open Cert.Mem (at2 at2_eq at2_rows)
open scoped BigOperators

theorem hz : (![0, 0] : Fin 2 → Nat) = fun _ => 0 := funext fun a => by fin_cases a <;> rfl

/-! ## Layout -/

section Layout

variable {M N : ℕ}

/-- A column, spread along the rows. -/
theorem col_spread {α : Type} (v : (⟨2, ![M, 1]⟩ : Shape).Idx → α) (hb : (⟨2, ![M, 1]⟩ : Shape).Broadcasts ⟨2, ![M, N]⟩) (i : Fin M) (j : Fin N) :
    broadcastTo ⟨2, ![M, N]⟩ v hb (ix2 i j) = v (ix2 i 0) :=
  broadcastTo_apply _ hb (ix2 i j) (ix2 i 0) fun a => by
    match a with
    | ⟨0, _⟩ =>
        show i.val = if M = 1 then 0 else i.val
        split
        · have := i.isLt; omega
        · rfl
    | ⟨1, _⟩ => rfl

/-- A list written as a column. -/
theorem col_cast {α : Type} (v : (⟨1, ![M]⟩ : Shape).Idx → α) (hc : (⟨1, ![M]⟩ : Shape).ShapeCasts ⟨2, ![M, 1]⟩) (i : Fin M) :
    shapeCast ⟨2, ![M, 1]⟩ v hc (ix2 i 0) = v (ix1 i) :=
  shapeCast_apply _ hc (ix2 i 0) (ix1 i) (by
    rw [Shape.rowMajor_val_two, Shape.rowMajor_val_one]
    show i.val = i.val * 1 + 0
    omega)

/-- A sum down the columns. -/
theorem down_sum (v : FVec Ideal ⟨2, ![M, N]⟩ .f32) (h : (⟨2, ![M, N]⟩ : Shape).Reduces [0] ⟨1, ![N]⟩) (hφ) (hacc) (j : Fin N) :
    multiReduction .add [0] ⟨1, ![N]⟩ v 0x00000000#32 h hφ hacc (ix1 j) = ∑ i : Fin M, v (ix2 i j) := by
  rw [Ideal.multiReduction_add_single]
  refine Finset.sum_congr rfl fun i _ => congrArg v (funext fun a => Fin.ext ?_)
  match a with
  | ⟨0, _⟩ => rfl
  | ⟨1, _⟩ => rfl

theorem at2_ix {a b : ℕ} (x : (⟨2, ![a, b]⟩ : Shape).Idx → EReal) (i : Fin a) (j : Fin b) : x (ix2 i j) = at2 x i.val j.val :=
  at2_eq x (ix2 i j) _ _ rfl rfl

end Layout

/-! ## The functions of one row -/

/-- The mean square of a row, and the small number added to it. -/
def mn (x : ℕ → EReal) : EReal :=
  Ideal.div (∑ j : Fin 2048, x j.val * x j.val) (Ideal.ofBits .f32 0x45000000#32) + Ideal.ofBits .f32 0x358637BD#32
/-- The row's cotangent: of `x`, scaled by `g`, with cotangent `d`, and what the residual adds. -/
def dx (x g d e : ℕ → EReal) (q : ℕ) : EReal :=
  Ideal.rsqrt (mn x) * (d q * g q - (x q * Ideal.rsqrt (mn x))
    * Ideal.div (∑ j : Fin 2048, d j.val * g j.val * (x j.val * Ideal.rsqrt (mn x))) (Ideal.ofBits .f32 0x45000000#32)) + e q
/-- The row's part in the scales' cotangents. -/
def dg (x d : ℕ → EReal) (q : ℕ) : EReal := d q * (x q * Ideal.rsqrt (mn x))

/-! ## One block -/

section Pay

variable (x0 : Vec Ideal S256x2048 .f32) (x1 : Vec Ideal S1x2048 .f32) (x2 x3 : Vec Ideal S256x2048 .f32) (xa : Vec Ideal S1x2048 .f32)

theorem pay2_at (r : Fin 256) : k0_pay2 x0 (ix2 r 0) = Ideal.rsqrt (mn (at2 x0 r.val)) := by
  refine congrArg Ideal.rsqrt (congrArg (fun s => Ideal.div s _ + _) ?_)
  refine ((col_cast _ shapeCasts_S256_S256x1 r).trans (Cert.Dots.row_sum (mulf x0 x0) reduces_S256x2048_S256 _ _ r)).trans ?_
  exact Finset.sum_congr rfl fun j _ => congrArg₂ (· * ·) (at2_ix x0 r j) (at2_ix x0 r j)

theorem pay3_at (r : Fin 256) (s : Fin 2048) : k0_pay3 x0 (ix2 r s) = at2 x0 r.val s.val * Ideal.rsqrt (mn (at2 x0 r.val)) :=
  congrArg₂ (· * ·) (at2_ix x0 r s) ((col_spread _ broadcasts_S256x1_S256x2048 r s).trans (pay2_at x0 r))

theorem scaled (r : Fin 256) (s : Fin 2048) :
    (mulf x2 (broadcastTo S256x2048 (shapeCast S1x2048 x1 shapeCasts_S1x2048_S1x2048) broadcasts_S1x2048_S256x2048) : FVec Ideal S256x2048 .f32) (ix2 r s)
      = at2 x2 r.val s.val * at2 x1 0 s.val :=
  congrArg₂ (· * ·) (at2_ix x2 r s) (((broadcastTo_1b_ab_apply _ broadcasts_S1x2048_S256x2048 r s).trans
    (congrFun (shapeCast_self x1 _) _)).trans (at2_ix x1 0 s))

theorem pay4_at (r : Fin 256) (s : Fin 2048) :
    k0_pay4 x0 x2 x1 x3 (ix2 r s) = dx (at2 x0 r.val) (at2 x1 0) (at2 x2 r.val) (at2 x3 r.val) s.val := by
  refine congrArg₂ (· + ·) (congrArg₂ (· * ·) ((col_spread _ broadcasts_S256x1_S256x2048 r s).trans (pay2_at x0 r))
    (congrArg₂ (· - ·) (scaled x1 x2 r s) (congrArg₂ (· * ·) (pay3_at x0 r s) ?_))) (at2_ix x3 r s)
  refine (col_spread _ broadcasts_S256x1_S256x2048 r s).trans (congrArg (fun s => Ideal.div s _) ?_)
  refine ((col_cast _ shapeCasts_S256_S256x1 r).trans (Cert.Dots.row_sum _ reduces_S256x2048_S256 _ _ r)).trans ?_
  exact Finset.sum_congr rfl fun j _ => congrArg₂ (· * ·) (scaled x1 x2 r j) (pay3_at x0 r j)

theorem pay1_at (s : Fin 2048) :
    k0_pay1 (k0_pay3 x0) x2 xa (ix2 0 s) = at2 xa 0 s.val + ∑ r : Fin 256, dg (at2 x0 r.val) (at2 x2 r.val) s.val := by
  refine congrArg₂ (· + ·) ((congrFun (shapeCast_self xa _) _).trans (at2_ix xa 0 s)) ?_
  refine ((shapeCast_a_1a_apply _ shapeCasts_S2048_S1x2048 0 s).trans (down_sum _ reduces_S256x2048_S2048 _ _ s)).trans ?_
  exact Finset.sum_congr rfl fun r _ => congrArg₂ (· * ·) (at2_ix x2 r s) (pay3_at x0 r s)

end Pay

section Cases

variable (c : Dev nD) (i : grid0.Coords)
  (arg1 : Memref sig .tc .vmem S256x2048 .f32) (harg1 : arg1.IsWhole) (arg2 : Memref sig .tc .vmem S1x2048 .f32) (harg2 : arg2.IsWhole)
  (arg3 : Memref sig .tc .vmem S256x2048 .f32) (harg3 : arg3.IsWhole) (arg4 : Memref sig .tc .vmem S256x2048 .f32) (harg4 : arg4.IsWhole)
  (arg5 : Memref sig .tc .vmem S256x2048 .f32) (harg5 : arg5.IsWhole) (arg6 : Memref sig .tc .vmem S256x2048 .bf16) (harg6 : arg6.IsWhole)
  (arg7 : Memref sig .tc .vmem S1x2048 .f32) (harg7 : arg7.IsWhole)
  (x0 : Vec Ideal S256x2048 .f32) (x1 : Vec Ideal S1x2048 .f32) (x2 x3 : Vec Ideal S256x2048 .f32) (xa : Vec Ideal S1x2048 .f32)

theorem out4_A (hc0 : cond0_0 i) :
    out0_A_4 c i arg1 harg1 arg2 harg2 arg3 harg3 arg4 harg4 arg5 harg5 arg6 harg6 arg7 harg7 hc0 x0 x1 x2 x3 = k0_pay4 x0 x2 x1 x3 := by
  have hcov := cover0_A_4 c i arg1 harg1 arg2 harg2 arg3 harg3 arg4 harg4 arg5 harg5 arg6 harg6 arg7 harg7 hc0 x0 x1 x2 x3
  unfold out0_A_4
  rw [View.read_writes_eq_canon _ _ _ hcov]
  unfold kernelRun0_A
  dsimp only
  sl_unfold_words
  simp only [View.readAt_eq_ld, harg1.read_unread, harg2.read_unread, harg3.read_unread, harg4.read_unread]
  rw [View.canon_unit_zero hz, View.ld_unit_zero hz, View.ld_unit_zero hz, View.ld_unit_zero hz, View.ld_unit_zero hz]

theorem out4_B (hc0 : ¬cond0_0 i) :
    out0_B_4 c i arg1 harg1 arg2 harg2 arg3 harg3 arg4 harg4 arg5 harg5 arg6 harg6 arg7 harg7 hc0 x0 x1 x2 x3 xa = k0_pay4 x0 x2 x1 x3 := by
  have hcov := cover0_B_4 c i arg1 harg1 arg2 harg2 arg3 harg3 arg4 harg4 arg5 harg5 arg6 harg6 arg7 harg7 hc0 x0 x1 x2 x3 xa
  unfold out0_B_4
  rw [View.read_writes_eq_canon _ _ _ hcov]
  unfold kernelRun0_B
  dsimp only
  sl_unfold_words
  simp only [View.readAt_eq_ld, harg1.read_unread, harg2.read_unread, harg3.read_unread, harg4.read_unread]
  rw [View.canon_unit_zero hz, View.ld_unit_zero hz, View.ld_unit_zero hz, View.ld_unit_zero hz, View.ld_unit_zero hz]

theorem out5_A (hc0 : cond0_0 i) :
    out0_A_5 c i arg1 harg1 arg2 harg2 arg3 harg3 arg4 harg4 arg5 harg5 arg6 harg6 arg7 harg7 hc0 x0 x1 x2 x3 = k0_pay5 x0 x2 x1 x3 := by
  have hcov := cover0_A_5 c i arg1 harg1 arg2 harg2 arg3 harg3 arg4 harg4 arg5 harg5 arg6 harg6 arg7 harg7 hc0 x0 x1 x2 x3
  unfold out0_A_5
  rw [View.read_writes_eq_canon _ _ _ hcov]
  unfold kernelRun0_A
  dsimp only
  sl_unfold_words
  simp only [View.readAt_eq_ld, harg1.read_unread, harg2.read_unread, harg3.read_unread, harg4.read_unread]
  rw [View.canon_unit_zero hz, View.ld_unit_zero hz, View.ld_unit_zero hz, View.ld_unit_zero hz, View.ld_unit_zero hz]

theorem out5_B (hc0 : ¬cond0_0 i) :
    out0_B_5 c i arg1 harg1 arg2 harg2 arg3 harg3 arg4 harg4 arg5 harg5 arg6 harg6 arg7 harg7 hc0 x0 x1 x2 x3 xa = k0_pay5 x0 x2 x1 x3 := by
  have hcov := cover0_B_5 c i arg1 harg1 arg2 harg2 arg3 harg3 arg4 harg4 arg5 harg5 arg6 harg6 arg7 harg7 hc0 x0 x1 x2 x3 xa
  unfold out0_B_5
  rw [View.read_writes_eq_canon _ _ _ hcov]
  unfold kernelRun0_B
  dsimp only
  sl_unfold_words
  simp only [View.readAt_eq_ld, harg1.read_unread, harg2.read_unread, harg3.read_unread, harg4.read_unread]
  rw [View.canon_unit_zero hz, View.ld_unit_zero hz, View.ld_unit_zero hz, View.ld_unit_zero hz, View.ld_unit_zero hz]

theorem out6_B (hc0 : ¬cond0_0 i) :
    out0_B_6 c i arg1 harg1 arg2 harg2 arg3 harg3 arg4 harg4 arg5 harg5 arg6 harg6 arg7 harg7 hc0 x0 x1 x2 x3 xa = k0_pay1 (k0_pay3 x0) x2 xa := by
  have hcov := cover0_B_6 c i arg1 harg1 arg2 harg2 arg3 harg3 arg4 harg4 arg5 harg5 arg6 harg6 arg7 harg7 hc0 x0 x1 x2 x3 xa
  unfold out0_B_6
  rw [View.read_writes_eq_canon _ _ _ hcov]
  unfold kernelRun0_B
  dsimp only
  sl_unfold_words
  simp only [View.readAt_eq_ld, harg1.read_unread, harg2.read_unread, harg3.read_unread, harg4.read_unread, harg7.read_unread]
  rw [View.canon_unit_zero hz, View.ld_unit_zero hz, View.ld_unit_zero hz, View.ld_unit_zero hz]

theorem out6_A (hc0 : cond0_0 i) :
    out0_A_6 c i arg1 harg1 arg2 harg2 arg3 harg3 arg4 harg4 arg5 harg5 arg6 harg6 arg7 harg7 hc0 x0 x1 x2 x3
      = k0_pay1 (k0_pay3 x0) x2 (k0_pay6 (F := Ideal)) := by
  have hcov := cover0_A_6 c i arg1 harg1 arg2 harg2 arg3 harg3 arg4 harg4 arg5 harg5 arg6 harg6 arg7 harg7 hc0 x0 x1 x2 x3
  unfold out0_A_6
  rw [View.read_writes_eq_canon _ _ _ hcov]
  unfold kernelRun0_A
  dsimp only
  sl_unfold_words
  simp (disch := decide) only [View.readAt_eq_ld, harg1.read_unread, harg2.read_unread, harg3.read_unread, harg4.read_unread, ↓View.readCov_skip, ↓View.readCov_fill]
  refine (View.canon_cons_unit_zero hz _ _ _).trans ?_
  rw [View.ld_unit_zero hz, View.ld_unit_zero hz]
  try rw [View.ld_unit_zero hz]

end Cases

variable (m : (ℓ : Loc nD τ sig) → Buf (Elt Ideal) ℓ) (c : Dev nD)

/-- The arguments: the rows, the scales as one row, the rows' cotangents, and what the residual adds. -/
abbrev X : (⟨2, ![8192, 2048]⟩ : Shape).Idx → EReal := m ((c : Thread nD τ).loc main_arg0)
@[inherit_doc X]
abbrev G : (⟨2, ![1, 2048]⟩ : Shape).Idx → EReal :=
  shapeCast S1x2048 (m ((c : Thread nD τ).loc main_arg1) : (⟨1, ![2048]⟩ : Shape).Idx → EReal) shapeCasts_S2048_S1x2048
@[inherit_doc X]
abbrev D : (⟨2, ![8192, 2048]⟩ : Shape).Idx → EReal := m ((c : Thread nD τ).loc main_arg2)
@[inherit_doc X]
abbrev E : (⟨2, ![8192, 2048]⟩ : Shape).Idx → EReal := m ((c : Thread nD τ).loc main_arg3)

theorem V_scales : V m c main_v0 = G m c := by
  show after hostOps0 _ (Proc.devRef .tc main_v0) = _
  after_reads_simp
  rfl

/-- Where a point's blocks lie. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) := by decide +kernel

theorem room (t : Fin cfg0.N) : t.val * 256 + 256 ≤ 8192 := by
  have hN : cfg0.N = 32 := N_0
  have := t.isLt; omega

theorem blk_0 (t : Fin cfg0.N) (r : Fin 256) : at2 (a := 256) (b := 2048) (iblk m c 0 t) r.val = at2 (X m c) (t.val * 256 + r.val) :=
  at2_rows _ _ (room t) (fun r s => at2_eq (X m c) ((win0_0.rect t).emb (ix2 r s)) _ _
    (Prod.emb_at win0_0 t _ 0 rfl (by rw [(idx t).1.1]; rfl)) (Prod.emb_at win0_0 t _ 1 rfl (by rw [(idx t).1.2, Nat.zero_mul, Nat.zero_add]; rfl))) _ r.isLt

theorem blk_1 (t : Fin cfg0.N) : at2 (a := 1) (b := 2048) (iblk m c 1 t) 0 = at2 (G m c) 0 :=
  at2_rows (o := 0) _ _ (le_refl 1) (fun r s => (congrFun (V_scales m c) ((win0_1.rect t).emb (ix2 r s))).trans
    (at2_eq (G m c) ((win0_1.rect t).emb (ix2 r s)) _ _
      (Prod.emb_at win0_1 t _ 0 rfl (by rw [(idx t).2.1.1, Nat.zero_mul]; rfl))
      (Prod.emb_at win0_1 t _ 1 rfl (by rw [(idx t).2.1.2, Nat.zero_mul, Nat.zero_add]; rfl)))) 0 Nat.one_pos

theorem blk_2 (t : Fin cfg0.N) (r : Fin 256) : at2 (a := 256) (b := 2048) (iblk m c 2 t) r.val = at2 (D m c) (t.val * 256 + r.val) :=
  at2_rows _ _ (room t) (fun r s => at2_eq (D m c) ((win0_2.rect t).emb (ix2 r s)) _ _
    (Prod.emb_at win0_2 t _ 0 rfl (by rw [(idx t).2.2.1.1]; rfl)) (Prod.emb_at win0_2 t _ 1 rfl (by rw [(idx t).2.2.1.2, Nat.zero_mul, Nat.zero_add]; rfl))) _ r.isLt

theorem blk_3 (t : Fin cfg0.N) (r : Fin 256) : at2 (a := 256) (b := 2048) (iblk m c 3 t) r.val = at2 (E m c) (t.val * 256 + r.val) :=
  at2_rows _ _ (room t) (fun r s => at2_eq (E m c) ((win0_3.rect t).emb (ix2 r s)) _ _
    (Prod.emb_at win0_3 t _ 0 rfl (by rw [(idx t).2.2.2.1.1]; rfl)) (Prod.emb_at win0_3 t _ 1 rfl (by rw [(idx t).2.2.2.1.2, Nat.zero_mul, Nat.zero_add]; rfl))) _ r.isLt

/-! ## The points' contents -/

/-- The rows' cotangents. -/
abbrev resX (i : S8192x2048.Idx) : EReal := dx (at2 (X m c) (i 0).val) (at2 (G m c) 0) (at2 (D m c) (i 0).val) (at2 (E m c) (i 0).val) (i 1).val
/-- The scales' cotangents. -/
abbrev resG (i : S1x2048.Idx) : EReal := ∑ r ∈ Finset.range 8192, dg (at2 (X m c) r) (at2 (D m c) r) (i 1).val

theorem pay4_blk (t : Fin cfg0.N) (y : S256x2048.Idx) :
    k0_pay4 (iblk m c 0 t) (iblk m c 2 t) (iblk m c 1 t) (iblk m c 3 t) y
      = dx (at2 (X m c) (t.val * 256 + (y 0).val)) (at2 (G m c) 0) (at2 (D m c) (t.val * 256 + (y 0).val)) (at2 (E m c) (t.val * 256 + (y 0).val)) (y 1).val := by
  obtain ⟨r, s, rfl⟩ : ∃ (r : Fin 256) (s : Fin 2048), y = ix2 r s := ⟨y 0, y 1, eq_ix2 y⟩
  refine (pay4_at _ _ _ _ r s).trans ?_
  rw [blk_0 m c t r, blk_1 m c t, blk_2 m c t r, blk_3 m c t r]

theorem outs_x (t : Fin cfg0.N) : (outsAt0 m c t.val t.isLt).1 = k0_pay4 (iblk m c 0 t) (iblk m c 2 t) (iblk m c 1 t) (iblk m c 3 t) := by
  by_cases h0 : t.val % 32 = 0
  · rw [outsAt0_A m c t h0]; dsimp only; rw [out4_A]
  · rw [outsAt0_B m c t h0]; dsimp only; rw [out4_B]

theorem outs_xb (t : Fin cfg0.N) : (outsAt0 m c t.val t.isLt).2.1 = k0_pay5 (iblk m c 0 t) (iblk m c 2 t) (iblk m c 1 t) (iblk m c 3 t) := by
  by_cases h0 : t.val % 32 = 0
  · rw [outsAt0_A m c t h0]; dsimp only; rw [out5_A]
  · rw [outsAt0_B m c t h0]; dsimp only; rw [out5_B]

/-- One point's part in the scales' cotangents. -/
theorem part (t : Fin cfg0.N) (q : ℕ) :
    ∑ r : Fin 256, dg (at2 (a := 256) (b := 2048) (iblk m c 0 t) r.val) (at2 (a := 256) (b := 2048) (iblk m c 2 t) r.val) q
      = ∑ r ∈ Finset.range 256, dg (at2 (X m c) (256 * t.val + r)) (at2 (D m c) (256 * t.val + r)) q := by
  rw [← Fin.sum_univ_eq_sum_range (fun r => dg (at2 (X m c) (256 * t.val + r)) (at2 (D m c) (256 * t.val + r)) q) 256]
  refine Finset.sum_congr rfl fun r _ => ?_
  rw [blk_0 m c t r, blk_2 m c t r, Nat.mul_comm]

theorem outs_g : ∀ (n : ℕ) (hn : n < cfg0.N) (s : Fin 2048),
    (outsAt0 m c n hn).2.2 (ix2 0 s) = ∑ r ∈ Finset.range (256 * (n + 1)), dg (at2 (X m c) r) (at2 (D m c) r) s.val
  | 0, hn, s => by
    have e := outsAt0_A m c ⟨0, hn⟩ rfl
    dsimp only at e
    rw [e]
    dsimp only
    rw [out6_A, pay1_at, part m c ⟨0, hn⟩]
    have h0 : at2 (a := 1) (b := 2048) (k0_pay6 (F := Ideal)) 0 s.val = 0 :=
      (at2_ix (a := 1) (b := 2048) (k0_pay6 (F := Ideal)) 0 s).symm.trans Cert.Silu.ofBits_zero
    rw [h0, zero_add]
    simp only [Nat.mul_zero, Nat.zero_add, Nat.mul_one]
  | n + 1, hn, s => by
    have hN : cfg0.N = 32 := N_0
    have h0 : ¬(⟨n + 1, hn⟩ : Fin cfg0.N).val % 32 = 0 := by dsimp only; omega
    have e := outsAt0_B m c ⟨n + 1, hn⟩ h0
    dsimp only at e
    rw [e]
    dsimp only
    rw [out6_B, pay1_at, part m c ⟨n + 1, hn⟩]
    simp only [Nat.add_sub_cancel]
    have ih := outs_g n (by omega) s
    refine (congrArg (· + _) ((at2_ix (a := 1) (b := 2048) (outsAt0 m c n (by omega)).2.2 0 s).symm.trans ih)).trans ?_
    rw [show 256 * (n + 1 + 1) = 256 * (n + 1) + 256 from by ring, Finset.sum_range_add]

/-! ## The arrays -/

theorem final_x : (dats m 0 c).arrAt 4 cfg0.N = resX m c := by
  refine (dats m 0 c).arrAt_eq_of_cover 4 (resX m c) (fun t _ => ?_)
    ((by decide +kernel : (cfg0.win 4).Covers).cover _ (Memref.isWhole_whole _))
  rw [Value.flushed4]
  funext y
  refine ((congrFun (outs_x m c t) y).trans (pay4_blk m c t y)).trans ?_
  have e0 := Prod.emb_at win0_4 t y 0 rfl (congrArg (· * 256 + (y 0).val) (idx t).2.2.2.2.1.1)
  have e1 := Prod.emb_at win0_4 t y 1 rfl ((congrArg (· * 2048 + (y 1).val) (idx t).2.2.2.2.1.2).trans (by omega : 0 * 2048 + (y 1).val = (y 1).val))
  exact congrArg₂ (fun a b => dx (at2 (X m c) a) (at2 (G m c) 0) (at2 (D m c) a) (at2 (E m c) a) b) e0.symm e1.symm

theorem final_xb : (dats m 0 c).arrAt 5 cfg0.N = resX m c := by
  refine (dats m 0 c).arrAt_eq_of_cover 5 (resX m c) (fun t _ => ?_)
    ((by decide +kernel : (cfg0.win 5).Covers).cover _ (Memref.isWhole_whole _))
  rw [Value.flushed5]
  funext y
  refine ((congrFun (outs_xb m c t) y).trans (pay4_blk m c t y)).trans ?_
  have e0 := Prod.emb_at win0_5 t y 0 rfl (congrArg (· * 256 + (y 0).val) (idx t).2.2.2.2.2.1.1)
  have e1 := Prod.emb_at win0_5 t y 1 rfl ((congrArg (· * 2048 + (y 1).val) (idx t).2.2.2.2.2.1.2).trans (by omega : 0 * 2048 + (y 1).val = (y 1).val))
  exact congrArg₂ (fun a b => dx (at2 (X m c) a) (at2 (G m c) 0) (at2 (D m c) a) (at2 (E m c) a) b) e0.symm e1.symm

theorem final_g : (dats m 0 c).arrAt 6 cfg0.N = resG m c := by
  have hN : cfg0.N = 32 := N_0
  refine (dats m 0 c).arrAt_eq_of_cover 6 (resG m c) (fun t hf => ?_)
    ((by decide +kernel : (cfg0.win 6).Covers).cover _ (Memref.isWhole_whole _))
  have h31 : t.val = 31 := by have := (flush0_6 t).mp hf; have := t.isLt; omega
  rw [Value.flushed6]
  funext y
  obtain ⟨u, s, rfl⟩ : ∃ (u : Fin 1) (s : Fin 2048), y = ix2 u s := ⟨y 0, y 1, eq_ix2 y⟩
  obtain rfl : u = 0 := Subsingleton.elim _ _
  refine (outs_g m c t.val t.isLt s).trans ?_
  have e1 := Prod.emb_at win0_6 t (ix2 (0 : Fin 1) s) 1 rfl ((congrArg (· * 2048 + s.val) (idx t).2.2.2.2.2.2.2).trans (by omega : 0 * 2048 + s.val = s.val))
  rw [h31]
  exact congrArg (fun q => ∑ r ∈ Finset.range 8192, dg (at2 (X m c) r) (at2 (D m c) r) q) e1.symm

/-! ## The reference's results are the same -/

section Ref

open Cert.NormRefIdeal.Read

variable (x0 : S8192x2048.Idx → EReal) (x1 : S2048.Idx → EReal) (x2 x3 : S8192x2048.Idx → EReal)

theorem ref_mn (i : Cert.NormRefIdeal.S8192x1.Idx) : val_main_v7 (F := Ideal) x0 i = mn (at2 x0 (i 0).val) := by
  rw [val_main_v7_apply, val_main_v5_apply, val_main_v3_apply, val_main_v2_apply, val_main_v4_apply, val_main_v6_apply, val_main_cst_apply,
    val_main_cst_0_apply, val_main_cst_1_apply]
  refine congrArg (fun s => Ideal.div s _ + _) ?_
  refine (congrArg (· + _) Cert.Silu.ofBits_zero).trans ((zero_add _).trans ?_)
  exact Finset.sum_congr rfl fun j _ => congrArg₂ (· * ·) (at2_eq x0 _ _ _ rfl rfl) (at2_eq x0 _ _ _ rfl rfl)

theorem ref_r (i : Cert.NormRefIdeal.S8192x1.Idx) : val_main_v8 (F := Ideal) x0 i = Ideal.rsqrt (mn (at2 x0 (i 0).val)) :=
  (val_main_v8_apply (F := Ideal) x0 i).trans (congrArg Ideal.rsqrt (ref_mn x0 i))

theorem ref_g (i : S8192x2048.Idx) : val_main_v19 (F := Ideal) x1 i = at2 (a := 1) (b := 2048) (shapeCast S1x2048 x1 shapeCasts_S2048_S1x2048) 0 (i 1).val :=
  (val_main_v19_apply (F := Ideal) x1 i).trans (at2_eq (a := 1) (b := 2048) (shapeCast S1x2048 x1 shapeCasts_S2048_S1x2048) _ _ _ rfl rfl)

theorem ref_s (i : S8192x2048.Idx) : val_main_v20 (F := Ideal) x1 x2 i
    = at2 x2 (i 0).val (i 1).val * at2 (a := 1) (b := 2048) (shapeCast S1x2048 x1 shapeCasts_S2048_S1x2048) 0 (i 1).val :=
  congrArg₂ (· * ·) (at2_eq x2 i _ _ rfl rfl) (ref_g x1 i)

/-- What the mean square's cotangent adds to each element, over the element. -/
theorem ref_u (i : S8192x2048.Idx) : val_main_v30 (F := Ideal) x0 x1 x2 i
    = Ideal.div ((∑ j : Fin 2048, at2 x0 (i 0).val j.val * (at2 x2 (i 0).val j.val * at2 (a := 1) (b := 2048) (shapeCast S1x2048 x1 shapeCasts_S2048_S1x2048) 0 j.val))
        * (((-(1 / 2) : ℝ) : EReal) * Ideal.div (Ideal.rsqrt (mn (at2 x0 (i 0).val))) (mn (at2 x0 (i 0).val)))) ((2048 : ℝ) : EReal) := by
  rw [val_main_v30_apply, val_main_v29_apply, val_main_cst_6_apply, Fin.sum_univ_one]
  refine (congrArg (· + _) Cert.Silu.ofBits_zero).trans ((zero_add _).trans ?_)
  rw [val_main_v28_apply, val_main_v26_apply, val_main_v23_apply, val_main_v22_apply, val_main_v11_apply, val_main_v9_apply, ref_r, ref_mn,
    val_main_v10_apply, val_main_cst_2_apply, val_main_v27_apply, val_main_cst_5_apply, val_main_cst_4_apply]
  refine congrArg₂ Ideal.div (congrArg₂ (· * ·) ?_ (congrArg (· * _) Cert.NormRow.ofBits_half)) Cert.NormRow.ofBits_2048
  refine (congrArg (· + _) Cert.Silu.ofBits_zero).trans ((zero_add _).trans ?_)
  refine Finset.sum_congr rfl fun j _ => ?_
  have e0 : (idx_main_v22 (idx_main_v23 (idx_main_v29 (idx_main_v30 i) 0)) j 0).val = (i 0).val := by
    show (i 0).val * 1 + 0 = (i 0).val
    omega
  exact congrArg₂ (· * ·) (at2_eq x0 _ _ _ e0 rfl) ((ref_s x1 x2 _).trans (congrArg (fun r => at2 x2 r j.val * _) e0))

theorem ref_x (i : S8192x2048.Idx) : val_main_v35 (F := Ideal) x0 x1 x2 x3 i
    = dx (at2 x0 (i 0).val) (at2 (a := 1) (b := 2048) (shapeCast S1x2048 x1 shapeCasts_S2048_S1x2048) 0) (at2 x2 (i 0).val) (at2 x3 (i 0).val) (i 1).val := by
  have hm : 0 < mn (at2 x0 (i 0).val) := by
    unfold mn; rw [Cert.NormRow.ofBits_2048]
    exact Cert.NormRow.mean_pos (fun j : Fin 2048 => at2 x0 (i 0).val j.val) 2048 (by norm_num) _ Cert.NormRow.ofBits_eps
  have key := Cert.NormRow.dx_eq (fun j : Fin 2048 => at2 x0 (i 0).val j.val)
    (fun j : Fin 2048 => at2 x2 (i 0).val j.val * at2 (a := 1) (b := 2048) (shapeCast S1x2048 x1 shapeCasts_S2048_S1x2048) 0 j.val) (i 1)
    (mn (at2 x0 (i 0).val)) hm 2048 (by norm_num)
  rw [val_main_v35_apply, val_main_v34_apply, val_main_v33_apply, val_main_v32_apply, val_main_v31_apply, val_main_v25_apply, val_main_v24_apply,
    ref_u, ref_r, ref_s]
  refine congrArg₂ (· + ·) ?_ (at2_eq x3 i _ _ rfl rfl)
  rw [Cert.NormRow.ofBits_2048]
  refine Eq.trans ?_ key.symm
  exact congrArg (fun e => _ * _ + e * _ + _ * e) (at2_eq x0 i _ _ rfl rfl)

theorem ref_xb (i : S8192x2048.Idx) : val_main_v36 (F := Ideal) x0 x1 x2 x3 i = val_main_v35 (F := Ideal) x0 x1 x2 x3 i := rfl

theorem ref_dg (i : S1x2048.Idx) : val_main_v18 (F := Ideal) x0 x2 i = ∑ r ∈ Finset.range 8192, dg (at2 x0 r) (at2 x2 r) (i 1).val := by
  rw [val_main_v18_apply, val_main_v17_apply, val_main_cst_3_apply]
  refine (congrArg (· + _) Cert.Silu.ofBits_zero).trans ((zero_add _).trans ?_)
  rw [← Fin.sum_univ_eq_sum_range (fun r => dg (at2 x0 r) (at2 x2 r) (i 1).val) 8192]
  refine Finset.sum_congr rfl fun r _ => ?_
  rw [val_main_v16_apply, val_main_v13_apply, val_main_v12_apply, ref_r]
  have e1 : (idx_main_v17 (idx_main_v18 i) r 1).val = (i 1).val := by
    have h0 : (i 0).val < 1 := (i 0).isLt
    show (i 0).val * 2048 + (i 1).val = (i 1).val
    omega
  exact (mul_comm _ _).trans (congrArg₂ (· * ·) (at2_eq x2 _ _ _ rfl e1) (congrArg (· * _) (at2_eq x0 _ _ _ rfl e1)))

end Ref

end Cert.NormEq

end
-- ==== Proof.GateFEq.lean ====
/-
  THE GATE: a value times the sigmoid-weighted gate, at both sizes the layers take.
-/
module

public import proofs.«01_k».proof.Proof.Silu
public import proofs.«01_k».proof.Proof.Gen.GateTokFIdeal.Value
public import proofs.«01_k».proof.Proof.Gen.GateTokFRefIdeal.Read
public import proofs.«01_k».proof.Proof.Gen.GateMemFIdeal.Value
public import proofs.«01_k».proof.Proof.Gen.GateMemFRefIdeal.Read

@[expose] public section

noncomputable section

namespace Cert.GateFEq

open Idealize.ShloMosaic

/-- One element: the kernel negates by subtracting from zero. -/
theorem one (a z : EReal) :
    a * (z * Ideal.div (Ideal.ofBits .f32 0x3F800000#32) (Ideal.ofBits .f32 0x3F800000#32 + Ideal.exp (Ideal.ofBits .f32 0x00000000#32 - z)))
      = a * (z * Ideal.div (Ideal.ofBits .f32 0x3F800000#32) (Ideal.ofBits .f32 0x3F800000#32 + Ideal.exp (-z))) := by
  rw [Cert.Silu.ofBits_zero, zero_sub]

theorem tok (a z : FVec Ideal ⟨2, ![8192, 3072]⟩ .f32) :
    Cert.GateTokFIdeal.Value.G2 (F := Ideal) a z = Cert.GateTokFRefIdeal.Read.val_main_v2 (F := Ideal) a z :=
  funext fun i => one (a i) (z i)

theorem mem (a z : FVec Ideal ⟨2, ![8192, 1024]⟩ .f32) :
    Cert.GateMemFIdeal.Value.G2 (F := Ideal) a z = Cert.GateMemFRefIdeal.Read.val_main_v2 (F := Ideal) a z :=
  funext fun i => one (a i) (z i)

end Cert.GateFEq

end
-- ==== Proof.Lag.lean ====
/-
  ROWS THAT LIE BACK: row `r` of an array moved down by `j`, zero before the start. A tile gets there by a roll, its first rows from the
  eight rows before it; plain code gets there by writing zero rows in front.
-/
module

public import proofs.«01_k».proof.Proof.Shift

@[expose] public section

noncomputable section

namespace Cert.Lag

open Idealize.ShloMosaic Idealize.ShloMosaic.ValueIdx
open Cert.Mem (at2 at2_eq)

variable {C : ℕ}

/-- The row `j` back, zero before the start. -/
def lag (U : ℕ → ℕ → EReal) (j r c : ℕ) : EReal := if r < j then 0 else U (r - j) c

theorem lag_zero (U : ℕ → ℕ → EReal) (r c : ℕ) : lag U 0 r c = U r c := by
  unfold lag
  rw [if_neg (Nat.not_lt_zero r), Nat.sub_zero]

/-- The mask of the first `j` rows. -/
theorem first_at (j : Fin 4) (hi) (p : Fin 256) (q : Fin C) :
    (cmpi .slt (iota .tc ⟨2, ![256, C]⟩ 32 [0] hi) (broadcast ⟨2, ![256, C]⟩ (BitVec.ofNat 32 j.val)) (ix2 p q) = 1) ↔ p.val < j.val := by
  have e : ∀ (j : Fin 4) (p : Fin 256), IntOp.cmpi .slt (BitVec.ofNat 32 (0 * 256 + p.val)) (BitVec.ofNat 32 j.val) = 1 ↔ p.val < j.val := by
    decide +kernel
  exact e j p

/-- A tile moved down by `j` rows, its first rows from the eight rows before, which a factor makes zero at the start. -/
theorem down_at {T D : ℕ} (X : (⟨2, ![T, D]⟩ : Shape).Idx → EReal) (R S : ℕ) (j : Fin 4)
    (x : FVec Ideal ⟨2, ![256, C]⟩ .f32) (h : FVec Ideal ⟨2, ![8, C]⟩ .f32) (k : Ideal .f32) (hi hr hr' hc)
    (hx : ∀ p q, x (ix2 p q) = at2 X (R + p.val) (S + q.val)) (hh : ∀ p q, (h (ix2 p q) : EReal) * k = lag (at2 X) (8 - p.val) R (S + q.val))
    (p : Fin 256) (q : Fin C) :
    select (cmpi .slt (iota .tc ⟨2, ![256, C]⟩ 32 [0] hi) (broadcast ⟨2, ![256, C]⟩ (BitVec.ofNat 32 j.val)))
      (concatenate ⟨2, ![256, C]⟩ 0 (List.replicate 32 ⟨⟨2, ![8, C]⟩, mulf (dynamicRotate (s := ⟨2, ![8, C]⟩) 0 (BitVec.ofNat 32 j.val) none h hr') (broadcast ⟨2, ![8, C]⟩ k)⟩) hc)
      (dynamicRotate (s := ⟨2, ![256, C]⟩) 0 (BitVec.ofNat 32 j.val) none x hr) (ix2 p q) = lag (at2 X) j.val (R + p.val) (S + q.val) := by
  have hp := p.isLt
  have hj := j.isLt
  have hb : (BitVec.ofNat 32 j.val).toNat = j.val := by rw [BitVec.toNat_ofNat]; omega
  rw [select_apply]
  unfold Scalar.select
  by_cases e : p.val < j.val
  · rw [if_pos ((first_at j hi p q).2 e), tile_at' hc]
    have hpq : p.val % 8 < 8 := Nat.mod_lt _ (by norm_num)
    refine (congrArg (· * (k : EReal)) (Cert.Shift.roll_at _ h hr' ⟨p.val % 8, hpq⟩ q ⟨p.val + 8 - j.val, by omega⟩
      (by rw [hb]; show _ = (p.val % 8 + 8 - j.val % 8) % 8; simp only; omega))).trans ((hh _ q).trans ?_)
    show lag (at2 X) (8 - (p.val + 8 - j.val)) R (S + q.val) = _
    unfold lag
    by_cases e' : R + p.val < j.val
    · rw [if_pos e', if_pos (by omega)]
    · rw [if_neg e', if_neg (by omega)]
      congr 1
      omega
  · rw [if_neg fun h => e ((first_at j hi p q).1 h), Cert.Shift.roll_at _ x hr p q ⟨p.val - j.val, by omega⟩
      (by rw [hb]; show p.val - j.val = _; omega), hx]
    unfold lag
    rw [if_neg (by omega)]
    congr 1
    show R + (p.val - j.val) = R + p.val - j.val
    omega
where
  tile_at' {x : (⟨2, ![8, C]⟩ : Shape).Idx → EReal} (h) {p : Fin 256} {q : Fin C} :
      concatenate ⟨2, ![256, C]⟩ 0 (List.replicate 32 ⟨⟨2, ![8, C]⟩, x⟩) h (ix2 p q) = x (ix2 ⟨p.val % 8, Nat.mod_lt _ (by norm_num)⟩ q) :=
    Cert.Shift.tile_at x h p q _ rfl

/-- The rows before a tile, under the factor that is zero at the first tile. -/
theorem before {T D : ℕ} (X : (⟨2, ![T, D]⟩ : Shape).Idx → EReal) (n p q : ℕ) (hp : p < 8) :
    at2 X ((n * 32 - 1) * 8 + p) q * (if n = 0 then 0 else 1) = lag (at2 X) (8 - p) (n * 256) q := by
  unfold lag
  split
  · rename_i h
    rw [mul_zero, if_pos (by omega)]
  · rename_i h
    rw [mul_one, if_neg (by omega)]
    congr 1
    omega

/-- Three zero rows in front of an array, read at an index. -/
theorem front_at {T : ℕ} (Z : (⟨2, ![3, C]⟩ : Shape).Idx → EReal) (hZ : ∀ i, Z i = 0) (x : (⟨2, ![T, C]⟩ : Shape).Idx → EReal) (h)
    (i : (⟨2, ![3 + T, C]⟩ : Shape).Idx) (j r : ℕ) (hj : j ≤ 3) (hr : (i 0).val = r + (3 - j)) (hr' : r < T) :
    concatenate ⟨2, ![3 + T, C]⟩ 0 [⟨⟨2, ![3, C]⟩, Z⟩, ⟨⟨2, ![T, C]⟩, x⟩] h i = lag (at2 x) j r (i 1).val := by
  unfold lag
  by_cases e : r < j
  · rw [if_pos e]
    exact (concatenate_pair_apply_left 0 Z x h i rfl (ix2 ⟨(i 0).val, by omega⟩ (i 1)) fun b => by
      match b with
      | ⟨0, _⟩ => rfl
      | ⟨1, _⟩ => rfl).trans (hZ _)
  · rw [if_neg e]
    refine (concatenate_pair_apply_right 0 Z x h i rfl rfl (ix2 ⟨r - j, by omega⟩ (i 1)) (fun b hb => ?_) ?_).trans (at2_eq x _ _ _ rfl rfl)
    · match b with
      | ⟨0, _⟩ => exact absurd rfl hb
      | ⟨1, _⟩ => rfl
    · show r - j + 3 = (i 0).val
      omega

/-- The four taps against the row and the three rows back, and the offset. -/
def act (U W : ℕ → ℕ → EReal) (B : ℕ → EReal) (r c : ℕ) : EReal :=
  B c + W 3 c * lag U 0 r c + W 2 c * lag U 1 r c + W 1 c * lag U 2 r c + W 0 c * lag U 3 r c

/-- In the other order. -/
theorem act_comm (U W : ℕ → ℕ → EReal) (B : ℕ → EReal) (r c : ℕ) :
    0 + W 0 c * lag U 3 r c + W 1 c * lag U 2 r c + W 2 c * lag U 1 r c + W 3 c * lag U 0 r c + B c = act U W B r c := by
  unfold act
  rw [zero_add]
  ac_rfl

/-- A list's element is its one row's. -/
theorem row_of_list {N : ℕ} (x : (⟨1, ![N]⟩ : Shape).Idx → EReal) (hc : (⟨1, ![N]⟩ : Shape).ShapeCasts ⟨2, ![1, N]⟩) (k : (⟨1, ![N]⟩ : Shape).Idx) (q : Fin N)
    (hk : (k 0).val = q.val) : x k = at2 (a := 1) (b := N) (shapeCast ⟨2, ![1, N]⟩ x hc) 0 q.val := by
  have e : k = ix1 q := funext fun a => match a with | ⟨0, _⟩ => Fin.ext hk
  rw [e]
  exact (shapeCast_a_1a_apply x hc 0 q).symm.trans (at2_eq (a := 1) (b := N) (shapeCast ⟨2, ![1, N]⟩ x hc) _ _ _ rfl rfl)

/-- A factor that is zero at a first tile and one elsewhere. -/
theorem keep_at (p : Fin 32) : (Ideal.ofBits .f32 0x3F800000#32 - (((Scalar.extui (Scalar.cmpi .eq (BitVec.ofNat 32 p.val) 0#32) : BitVec 32).toInt : ℝ) : EReal) : EReal)
    = if p.val = 0 then 0 else 1 := by
  have e : ∀ p : Fin 32, (Scalar.extui (Scalar.cmpi .eq (BitVec.ofNat 32 p.val) 0#32) : BitVec 32).toInt = if p.val = 0 then 1 else 0 := by decide +kernel
  rw [e p, Cert.Silu.ofBits_one]
  split <;> norm_num
  exact EReal.sub_self (EReal.coe_ne_top 1) (EReal.coe_ne_bot 1)

end Cert.Lag

end
-- ==== Proof.NormFEq.lean ====
/-
  THE NORM: each row over the root of its mean square, scaled; a block of 256 rows at a time.
-/
module

public import proofs.«01_k».proof.Proof.NormEq
public import proofs.«01_k».proof.Proof.Lag
public import proofs.«01_k».proof.Proof.Gen.NormFIdeal.Value
public import proofs.«01_k».proof.Proof.Gen.NormFRefIdeal.Read

@[expose] public section

set_option maxRecDepth 16384

noncomputable section

namespace Cert.NormFEq

open Cert.NormFIdeal Cert.NormFIdeal.Gen Idealize.ShloMosaic Idealize.ShloMosaic.TcCoe Idealize.SL.Sem
open Idealize.ShloMosaic.ValueIdx Idealize.ShloMosaic.StableHlo
open Idealize.ShloMosaic.Pipeline (Dat)
open Cert.Mem (at2 at2_eq at2_rows)
open Cert.NormEq (mn at2_ix col_spread col_cast hz)
open scoped BigOperators

/-- A row's norm. -/
def nrm (x g : ℕ → EReal) (q : ℕ) : EReal := x q * Ideal.rsqrt (mn x) * g q

theorem pay_at (x0 : Vec Ideal S256x2048 .f32) (x1 : Vec Ideal S1x2048 .f32) (r : Fin 256) (s : Fin 2048) :
    k0_pay1 x0 x1 (ix2 r s) = nrm (at2 x0 r.val) (at2 x1 0) s.val := by
  exact congrArg₂ (· * ·) (congrArg₂ (· * ·) (at2_ix x0 r s)
      ((col_spread (Cert.NormIdeal.Gen.k0_pay2 x0) broadcasts_S256x1_S256x2048 r s).trans (Cert.NormEq.pay2_at x0 r)))
    (((broadcastTo_1b_ab_apply _ broadcasts_S1x2048_S256x2048 r s).trans (congrFun (shapeCast_self x1 _) _)).trans (at2_ix x1 0 s))

theorem out_eq (x0 : Vec Ideal S256x2048 .f32) (x1 : Vec Ideal S1x2048 .f32) : out0_2 x0 x1 = k0_pay1 x0 x1 := by
  unfold out0_2
  rw [View.canon_unit_zero hz, View.ld_unit_zero hz, View.ld_unit_zero hz]

variable (m : (ℓ : Loc nD τ sig) → Buf (Elt Ideal) ℓ) (c : Dev nD)

/-- The arguments: the rows, and the scales as one row. -/
abbrev X : (⟨2, ![8192, 2048]⟩ : Shape).Idx → EReal := m ((c : Thread nD τ).loc main_arg0)
@[inherit_doc X]
abbrev G : (⟨2, ![1, 2048]⟩ : Shape).Idx → EReal :=
  shapeCast S1x2048 (m ((c : Thread nD τ).loc main_arg1) : (⟨1, ![2048]⟩ : Shape).Idx → EReal) shapeCasts_S2048_S1x2048

theorem V_scales : V m c main_v0 = G m c := by
  show after hostOps0 _ (Proc.devRef .tc main_v0) = _
  after_reads_simp
  rfl

/-- Where a point's blocks lie. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) := by decide +kernel

theorem blk_0 (t : Fin cfg0.N) (r : Fin 256) : at2 (a := 256) (b := 2048) (iblk m c 0 t) r.val = at2 (X m c) (t.val * 256 + r.val) :=
  at2_rows _ _ (by have hN : cfg0.N = 32 := N_0; have := t.isLt; omega) (fun r s => at2_eq (X m c) ((win0_0.rect t).emb (ix2 r s)) _ _
    (Prod.emb_at win0_0 t _ 0 rfl (by rw [(idx t).1.1]; rfl)) (Prod.emb_at win0_0 t _ 1 rfl (by rw [(idx t).1.2, Nat.zero_mul, Nat.zero_add]; rfl))) _ r.isLt

theorem blk_1 (t : Fin cfg0.N) : at2 (a := 1) (b := 2048) (iblk m c 1 t) 0 = at2 (G m c) 0 :=
  at2_rows (o := 0) _ _ (le_refl 1) (fun r s => (congrFun (V_scales m c) ((win0_1.rect t).emb (ix2 r s))).trans
    (at2_eq (G m c) ((win0_1.rect t).emb (ix2 r s)) _ _
      (Prod.emb_at win0_1 t _ 0 rfl (by rw [(idx t).2.1.1, Nat.zero_mul]; rfl))
      (Prod.emb_at win0_1 t _ 1 rfl (by rw [(idx t).2.1.2, Nat.zero_mul, Nat.zero_add]; rfl)))) 0 Nat.one_pos

/-- The normed rows. -/
abbrev res (i : S8192x2048.Idx) : EReal := nrm (at2 (X m c) (i 0).val) (at2 (G m c) 0) (i 1).val

theorem final : (dats m 0 c).arrAt 2 cfg0.N = res m c := by
  refine (dats m 0 c).arrAt_eq_of_cover 2 (res m c) (fun t _ => ?_)
    ((by decide +kernel : (cfg0.win 2).Covers).cover _ (Memref.isWhole_whole _))
  rw [Value.flushed2]
  funext y
  have e0 := Prod.emb_at win0_2 t y 0 rfl (congrArg (· * 256 + (y 0).val) (idx t).2.2.1)
  have e1 := Prod.emb_at win0_2 t y 1 rfl ((congrArg (· * 2048 + (y 1).val) (idx t).2.2.2).trans (by omega : 0 * 2048 + (y 1).val = (y 1).val))
  refine ((congrFun (out_eq (iblk m c 0 t) (iblk m c 1 t)) y).trans
    ((congrArg (k0_pay1 (iblk m c 0 t) (iblk m c 1 t)) (eq_ix2 y)).trans (pay_at (iblk m c 0 t) (iblk m c 1 t) (y 0) (y 1)))).trans ?_
  refine (congrArg₂ (fun a b => nrm a b (y 1).val) (blk_0 m c t (y 0)) (blk_1 m c t)).trans ?_
  exact congrArg₂ (fun a b => nrm (at2 (X m c) a) (at2 (G m c) 0) b) e0.symm e1.symm

/-! ## The reference -/

section Ref

open Cert.NormFRefIdeal.Read

variable (x0 : S8192x2048.Idx → EReal) (x1 : S2048.Idx → EReal)

theorem ref_mn (i : Cert.NormFRefIdeal.S8192x1.Idx) : val_main_v6 (F := Ideal) x0 i = mn (at2 x0 (i 0).val) := by
  rw [val_main_v6_apply, val_main_v4_apply, val_main_v2_apply, val_main_v1_apply, val_main_v3_apply, val_main_v5_apply, val_main_cst_apply,
    val_main_cst_0_apply, val_main_cst_1_apply]
  refine congrArg (fun s => Ideal.div s _ + _) ?_
  refine (congrArg (· + _) Cert.Silu.ofBits_zero).trans ((zero_add _).trans ?_)
  exact Finset.sum_congr rfl fun j _ => congrArg₂ (· * ·) (at2_eq x0 _ _ _ rfl rfl) (at2_eq x0 _ _ _ rfl rfl)

theorem ref (i : S8192x2048.Idx) : val_main_v13 (F := Ideal) x0 x1 i
    = nrm (at2 x0 (i 0).val) (at2 (a := 1) (b := 2048) (shapeCast S1x2048 x1 shapeCasts_S2048_S1x2048) 0) (i 1).val := by
  show val_main_v12 (F := Ideal) x0 x1 i = _
  rw [val_main_v12_apply, val_main_v9_apply, val_main_v8_apply, val_main_v7_apply, ref_mn]
  exact congrArg₂ (· * ·) (congrArg (· * _) (at2_eq x0 i _ _ rfl rfl))
    ((val_main_v11_apply (F := Ideal) x1 i).trans ((val_main_v10_apply (F := Ideal) x1 _).trans
      (Cert.Lag.row_of_list x1 shapeCasts_S2048_S1x2048 _ (i 1) rfl)))

end Ref

end Cert.NormFEq

end
-- ==== Proof.ConvFEq.lean ====
/-
  THE CONVOLUTION AND ITS ACTIVATION: each row is the four taps against the row and the three rows back, with the offset, times its sigmoid.
-/
module

public import proofs.«01_k».proof.Proof.Lag
public import Idealize.ShloMosaic.Lib.StableHlo.RunRead
public import proofs.«01_k».proof.Proof.Gen.ConvFIdeal.Value
public import proofs.«01_k».proof.Proof.Gen.ConvFRefIdeal.Read

@[expose] public section

set_option maxRecDepth 16384

noncomputable section

namespace Cert.ConvFEq

open Cert.ConvFIdeal Cert.ConvFIdeal.Gen Idealize.ShloMosaic Idealize.ShloMosaic.TcCoe Idealize.SL.Sem
open Idealize.ShloMosaic.ValueIdx Idealize.ShloMosaic.StableHlo
open Idealize.ShloMosaic.Pipeline (Dat)
open Cert.Mem (at2 at2_eq)
open Cert.Lag (lag act down_at)
open Cert.Silu (sg)

theorem hz : (![0, 0] : Fin 2 → Nat) = fun _ => 0 := funext fun a => by fin_cases a <;> rfl

/-- The result at a place. -/
def conv (U W : ℕ → ℕ → EReal) (B : ℕ → EReal) (r c : ℕ) : EReal := act U W B r c * sg (act U W B r c)

/-- The kernel's sigmoid. -/
theorem sg_at (z : EReal) :
    Ideal.div (Ideal.ofBits .f32 0x3F800000#32) (Ideal.ofBits .f32 0x3F800000#32 + Ideal.exp (Ideal.ofBits .f32 0x00000000#32 - z)) = sg z := by
  rw [Cert.Silu.ofBits_zero, zero_sub, Cert.Silu.ofBits_one]
  rfl

theorem out_at (i : grid0.Coords) (X : (⟨2, ![8192, 5120]⟩ : Shape).Idx → EReal) (W : (⟨2, ![4, 5120]⟩ : Shape).Idx → EReal)
    (B : (⟨2, ![1, 5120]⟩ : Shape).Idx → EReal) (R S : ℕ)
    (x0 : Vec Ideal S256x1024 .f32) (x1 : Vec Ideal S8x1024 .f32) (x2 : Vec Ideal S4x1024 .f32) (x3 : Vec Ideal S1x1024 .f32)
    (h0 : ∀ p q, x0 (ix2 p q) = at2 X (R + p.val) (S + q.val)) (h1 : ∀ p q, (x1 (ix2 p q) : EReal) * k0_pay2 (F := Ideal) i = lag (at2 X) (8 - p.val) R (S + q.val))
    (h2 : ∀ p q, x2 (ix2 p q) = at2 W p.val (S + q.val)) (h3 : ∀ q, x3 (ix2 0 q) = at2 B 0 (S + q.val)) (p : Fin 256) (q : Fin 1024) :
    out0_4 i x0 x1 x2 x3 (ix2 p q) = conv (at2 X) (at2 W) (at2 B 0) (R + p.val) (S + q.val) := by
  unfold out0_4
  rw [View.canon_unit_zero hz, View.ld_unit_zero hz, View.ld_unit_zero hz, View.ld_unit_zero hz]
  unfold k0_pay1 k0_pay3
  have hc := concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0
  have dn := fun j => down_at X R S j x0 x1 (k0_pay2 (F := Ideal) i) iota_S256x1024_d0_w32 rotates_S256x1024_d0 rotates_S8x1024_d0 hc h0 h1 p q
  have tp := fun k inb => (Cert.Shift.tap_at x2 k inb broadcasts_S1x1024_S256x1024 p q).trans (h2 k q)
  have e3 := tp 3 inb_S4x1024_S1x1024_3_0
  have e2 := tp 2 inb_S4x1024_S1x1024_2_0
  have e1 := tp 1 inb_S4x1024_S1x1024_1_0
  have e0 := tp 0 inb_S4x1024_S1x1024_0_0
  have eb := ((broadcastTo_1b_ab_apply _ broadcasts_S1x1024_S256x1024 p q).trans (congrFun (shapeCast_self x3 shapeCasts_S1x1024_S1x1024) _)).trans (h3 q)
  have eu := (h0 p q).trans (Cert.Lag.lag_zero (at2 X) _ _).symm
  have e := congrArg₂ (· + ·) (congrArg₂ (· + ·) (congrArg₂ (· + ·) (congrArg₂ (· + ·) eb (congrArg₂ (· * ·) e3 eu))
    (congrArg₂ (· * ·) e2 (dn 1))) (congrArg₂ (· * ·) e1 (dn 2))) (congrArg₂ (· * ·) e0 (dn 3))
  exact congrArg₂ (· * ·) e ((sg_at _).trans (congrArg sg e))

variable (m : (ℓ : Loc nD τ sig) → Buf (Elt Ideal) ℓ) (c : Dev nD)

/-- The arguments: the rows, the taps, and the offsets as one row. -/
abbrev A : (⟨2, ![8192, 5120]⟩ : Shape).Idx → EReal := m ((c : Thread nD τ).loc main_arg0)
@[inherit_doc A]
abbrev W : (⟨2, ![4, 5120]⟩ : Shape).Idx → EReal := m ((c : Thread nD τ).loc main_arg1)
@[inherit_doc A]
abbrev B : (⟨2, ![1, 5120]⟩ : Shape).Idx → EReal :=
  shapeCast S1x5120 (m ((c : Thread nD τ).loc main_arg2) : (⟨1, ![5120]⟩ : Shape).Idx → EReal) shapeCasts_S5120_S1x5120

theorem V_offsets : V m c main_v0 = B m c := by
  show after hostOps0 _ (Proc.devRef .tc main_v0) = _
  after_reads_simp
  rfl

/-- Where a point's blocks lie. -/
theorem idx : ∀ t : Fin cfg0.N, (win0_0.index t 0 = t.val / 5 ∧ win0_0.index t 1 = t.val % 5)
    ∧ (win0_1.index t 0 = t.val / 5 * 32 - 1 ∧ win0_1.index t 1 = t.val % 5)
    ∧ (win0_2.index t 0 = 0 ∧ win0_2.index t 1 = t.val % 5) ∧ (win0_3.index t 0 = 0 ∧ win0_3.index t 1 = t.val % 5)
    ∧ (win0_4.index t 0 = t.val / 5 ∧ win0_4.index t 1 = t.val % 5) ∧ (grid0.coords t 0).val = t.val / 5 := by decide +kernel

theorem blk_0 (t : Fin cfg0.N) (r : Fin 256) (s : Fin 1024) : iblk m c 0 t (ix2 r s) = at2 (A m c) (t.val / 5 * 256 + r.val) (t.val % 5 * 1024 + s.val) :=
  at2_eq (A m c) ((win0_0.rect t).emb (ix2 r s)) _ _ (Prod.emb_at win0_0 t _ 0 rfl (by rw [(idx t).1.1]; rfl))
    (Prod.emb_at win0_0 t _ 1 rfl (by rw [(idx t).1.2]; rfl))

theorem blk_1 (t : Fin cfg0.N) (r : Fin 8) (s : Fin 1024) : iblk m c 1 t (ix2 r s) = at2 (A m c) ((t.val / 5 * 32 - 1) * 8 + r.val) (t.val % 5 * 1024 + s.val) :=
  at2_eq (A m c) ((win0_1.rect t).emb (ix2 r s)) _ _ (Prod.emb_at win0_1 t _ 0 rfl (by rw [(idx t).2.1.1]; rfl))
    (Prod.emb_at win0_1 t _ 1 rfl (by rw [(idx t).2.1.2]; rfl))

theorem blk_2 (t : Fin cfg0.N) (r : Fin 4) (s : Fin 1024) : iblk m c 2 t (ix2 r s) = at2 (W m c) r.val (t.val % 5 * 1024 + s.val) :=
  at2_eq (W m c) ((win0_2.rect t).emb (ix2 r s)) _ _ (Prod.emb_at win0_2 t _ 0 rfl (by rw [(idx t).2.2.1.1, Nat.zero_mul, Nat.zero_add]; rfl))
    (Prod.emb_at win0_2 t _ 1 rfl (by rw [(idx t).2.2.1.2]; rfl))

theorem blk_3 (t : Fin cfg0.N) (s : Fin 1024) : iblk m c 3 t (ix2 0 s) = at2 (B m c) 0 (t.val % 5 * 1024 + s.val) :=
  (congrFun (V_offsets m c) ((win0_3.rect t).emb (ix2 0 s))).trans (at2_eq (B m c) ((win0_3.rect t).emb (ix2 0 s)) _ _
    (Prod.emb_at win0_3 t _ 0 rfl (by rw [(idx t).2.2.2.1.1, Nat.zero_mul, Nat.zero_add]; rfl))
    (Prod.emb_at win0_3 t _ 1 rfl (by rw [(idx t).2.2.2.1.2]; rfl)))

/-- The rows that come before a tile: the tile before's last eight, or zeros. -/
theorem before_at (t : Fin cfg0.N) (r : Fin 8) (s : Fin 1024) :
    @HMul.hMul EReal EReal EReal _ (iblk m c 1 t (ix2 r s)) (k0_pay2 (F := Ideal) (grid0.coords t)) = lag (at2 (A m c)) (8 - r.val) (t.val / 5 * 256) (t.val % 5 * 1024 + s.val) :=
  (congrArg₂ (fun a b : EReal => a * b) (blk_1 m c t r s) ((Cert.Lag.keep_at (grid0.coords t 0)).trans (by rw [(idx t).2.2.2.2.2]))).trans
    (Cert.Lag.before (A m c) (t.val / 5) r.val _ r.isLt)

/-- The kernel's array. -/
theorem final : (dats m 0 c).arrAt 4 cfg0.N = fun i => conv (at2 (A m c)) (at2 (W m c)) (at2 (B m c) 0) (i 0).val (i 1).val := by
  refine (dats m 0 c).arrAt_eq_of_cover 4 _ (fun t hf => ?_)
    ((by decide +kernel : (cfg0.win 4).Covers).cover _ (Memref.isWhole_whole _))
  rw [Value.flushed4]
  funext y
  have e0 := Prod.emb_at win0_4 t y 0 rfl (congrArg (· * 256 + (y 0).val) (idx t).2.2.2.2.1.1)
  have e1 := Prod.emb_at win0_4 t y 1 rfl (congrArg (· * 1024 + (y 1).val) (idx t).2.2.2.2.1.2)
  refine ((congrArg (out0_4 (grid0.coords t) (iblk m c 0 t) (iblk m c 1 t) (iblk m c 2 t) (iblk m c 3 t)) (eq_ix2 y)).trans
    (out_at (grid0.coords t) (A m c) (W m c) (B m c) _ _ _ _ _ _ (blk_0 m c t) (before_at m c t) (blk_2 m c t) (blk_3 m c t) (y 0) (y 1))).trans ?_
  exact congrArg₂ (conv (at2 (A m c)) (at2 (W m c)) (at2 (B m c) 0)) e0.symm e1.symm

/-! ## The reference -/

section Ref

open Cert.ConvFRefIdeal.Read

variable (x0 : (⟨2, ![8192, 5120]⟩ : Shape).Idx → EReal) (x1 : (⟨2, ![4, 5120]⟩ : Shape).Idx → EReal) (x2 : (⟨1, ![5120]⟩ : Shape).Idx → EReal)

theorem zeros (i) : (val_main_v0 (F := Ideal) i : EReal) = 0 := (val_main_v0_apply (F := Ideal) i).trans Cert.Silu.ofBits_zero

theorem back (j r : ℕ) (i) (hj : j ≤ 3) (hr : (i 0).val = r + (3 - j)) (hr' : r < 8192) :
    val_main_v1 (F := Ideal) x0 i = lag (at2 x0) j r (i 1).val :=
  Cert.Lag.front_at (val_main_v0 (F := Ideal)) zeros x0 _ i j r hj hr hr'

theorem ref_act (i : S8192x5120.Idx) : val_main_v33 (F := Ideal) x0 x1 x2 i
    = act (at2 x0) (at2 x1) (at2 (a := 1) (b := 5120) (shapeCast S1x5120 x2 shapeCasts_S5120_S1x5120) 0) (i 0).val (i 1).val := by
  have h0 : (i 0).val < 8192 := (i 0).isLt
  have h1 := Nat.mod_eq_of_lt (i 1).isLt
  rw [← Cert.Lag.act_comm, val_main_v33_apply, val_main_v30_apply, val_main_v23_apply, val_main_v16_apply, val_main_v9_apply,
    val_main_v8_apply, val_main_cst_0_apply,
    val_main_v7_apply, val_main_v6_apply, val_main_v5_apply, val_main_v3_apply, val_main_v2_apply, val_main_v4_apply,
    val_main_v15_apply, val_main_v14_apply, val_main_v13_apply, val_main_v11_apply, val_main_v10_apply, val_main_v12_apply,
    val_main_v22_apply, val_main_v21_apply, val_main_v20_apply, val_main_v18_apply, val_main_v17_apply, val_main_v19_apply,
    val_main_v29_apply, val_main_v28_apply, val_main_v27_apply, val_main_v25_apply, val_main_v24_apply, val_main_v26_apply,
    val_main_v32_apply, val_main_v31_apply]
  exact congrArg₂ (· + ·) (congrArg₂ (· + ·) (congrArg₂ (· + ·) (congrArg₂ (· + ·) (congrArg₂ (· + ·) Cert.Silu.ofBits_zero
    (congrArg₂ (· * ·) (at2_eq x1 _ _ _ rfl h1) (back x0 3 _ _ (by omega) rfl h0)))
    (congrArg₂ (· * ·) (at2_eq x1 _ _ _ rfl h1) (back x0 2 _ _ (by omega) (Nat.add_comm _ _) h0)))
    (congrArg₂ (· * ·) (at2_eq x1 _ _ _ rfl h1) (back x0 1 _ _ (by omega) (Nat.add_comm _ _) h0)))
    (congrArg₂ (· * ·) (at2_eq x1 _ _ _ rfl h1) (back x0 0 _ _ (by omega) (Nat.add_comm _ _) h0)))
    (Cert.Lag.row_of_list x2 shapeCasts_S5120_S1x5120 _ (i 1) rfl)

/-- The reference's array is the same. -/
theorem ref : val_main_v34 (F := Ideal) x0 x1 x2
    = fun i => conv (at2 x0) (at2 x1) (at2 (a := 1) (b := 5120) (shapeCast S1x5120 x2 shapeCasts_S5120_S1x5120) 0) (i 0).val (i 1).val := by
  funext i
  have e := ref_act x0 x1 x2 i
  refine Eq.trans (b := val_main_v33 (F := Ideal) x0 x1 x2 i * sg (val_main_v33 (F := Ideal) x0 x1 x2 i)) ?_ (congrArg (fun z => z * sg z) e)
  show val_main_v33 (F := Ideal) x0 x1 x2 i * Ideal.div (Ideal.ofBits .f32 0x3F800000#32)
    (Ideal.ofBits .f32 0x3F800000#32 + Ideal.exp (-val_main_v33 (F := Ideal) x0 x1 x2 i)) = _
  rw [Cert.Silu.ofBits_one]
  rfl

end Ref

end Cert.ConvFEq

end
-- ==== Proof.ConvPreEq.lean ====
/-
  THE CONVOLUTION'S GRADIENT BEFORE THE ACTIVATION, and what it gives the taps and the offsets: a tile of 256 rows at a time, the sums over
  the rows kept in place over a column block's tiles.
-/
module

public import proofs.«01_k».proof.Proof.Lag
public import proofs.«01_k».proof.Proof.NormEq
public import proofs.«01_k».proof.Proof.ConvFEq
public import Idealize.ShloMosaic.Lib.Pipeline.ReadBack
public import Idealize.ShloMosaic.Lib.StableHlo.RunRead
public import proofs.«01_k».proof.Proof.Gen.ConvPreIdeal.Value
public import proofs.«01_k».proof.Proof.Gen.ConvPreRefIdeal.Read

@[expose] public section

set_option maxRecDepth 16384

noncomputable section

namespace Cert.ConvPreEq

open Cert.ConvPreIdeal Cert.ConvPreIdeal.Gen Idealize.ShloMosaic Idealize.ShloMosaic.TcCoe Idealize.SL.Sem
open Idealize.ShloMosaic.ValueIdx Idealize.ShloMosaic.StableHlo
open Idealize.ShloMosaic.Pipeline (Dat)
open Cert.Mem (at2 at2_eq)
open Cert.Lag (lag act down_at)
open Cert.Silu (sg)
open Cert.Row (IsReal)
open Cert.NormEq (hz down_sum)
open scoped BigOperators

/-- The cotangent before the activation, at a place. -/
def dp (U W : ℕ → ℕ → EReal) (B : ℕ → EReal) (D : ℕ → ℕ → EReal) (r c : ℕ) : EReal :=
  D r c * (sg (act U W B r c) * (1 + act U W B r c * (1 - sg (act U W B r c))))

/-! ## One point's tiles -/

section Tile

variable (i : grid0.Coords) (x0 : Vec Ideal S256x1024 .f32) (x1 : Vec Ideal S8x1024 .f32) (x2 : Vec Ideal S4x1024 .f32) (x3 : Vec Ideal S1x1024 .f32)
  (x4 : Vec Ideal S256x1024 .f32)

/-- The tile moved down by `j` rows. -/
abbrev sh : ℕ → FVec Ideal S256x1024 .f32
  | 0 => x0
  | 1 => k0_pay6 i x0 x1
  | 2 => k0_pay7 i x0 x1
  | _ => k0_pay9 x0 x1 (iota .tc S256x1024 32 [0] iota_S256x1024_d0_w32) (k0_pay5 i)

/-- A tap's row. -/
abbrev row (k : Fin 4) (inb : ∀ a, (![k.val, 0] : Fin 2 → ℕ) a + S1x1024.size a ≤ S4x1024.size a) : Vec Ideal S1x1024 .f32 :=
  View.ld (Val := Elt Ideal) (e' := .f32) (S := S4x1024) x2 (Rect.unit (s := S4x1024) ![k.val, 0] S1x1024.size inb)

/-- The cotangent's tile. -/
abbrev tile : FVec Ideal S256x1024 .f32 :=
  k0_pay10 x0 x1 (iota .tc S256x1024 32 [0] iota_S256x1024_d0_w32) (k0_pay5 i)
    (k0_pay8 i x0 x1 x3 (row x2 3 inb_S4x1024_S1x1024_3_0) (row x2 2 inb_S4x1024_S1x1024_2_0) (row x2 1 inb_S4x1024_S1x1024_1_0))
    (row x2 0 inb_S4x1024_S1x1024_0_0) x4

variable (X D : (⟨2, ![8192, 5120]⟩ : Shape).Idx → EReal) (W : (⟨2, ![4, 5120]⟩ : Shape).Idx → EReal)
    (B : (⟨2, ![1, 5120]⟩ : Shape).Idx → EReal) (R S : ℕ)
    (h0 : ∀ p q, x0 (ix2 p q) = at2 X (R + p.val) (S + q.val)) (h1 : ∀ p q, (x1 (ix2 p q) : EReal) * k0_pay5 (F := Ideal) i = lag (at2 X) (8 - p.val) R (S + q.val))
    (h2 : ∀ p q, x2 (ix2 p q) = at2 W p.val (S + q.val)) (h3 : ∀ q, x3 (ix2 0 q) = at2 B 0 (S + q.val))
    (h4 : ∀ p q, x4 (ix2 p q) = at2 D (R + p.val) (S + q.val)) (p : Fin 256) (q : Fin 1024)

include h0 h1 in
theorem sh_at (j : Fin 4) : sh i x0 x1 j.val (ix2 p q) = lag (at2 X) j.val (R + p.val) (S + q.val) := by
  have hc := concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0
  have dn := fun j => down_at X R S j x0 x1 (k0_pay5 (F := Ideal) i) iota_S256x1024_d0_w32 rotates_S256x1024_d0 rotates_S8x1024_d0 hc h0 h1 p q
  match j with
  | 0 => exact (h0 p q).trans (Cert.Lag.lag_zero (at2 X) _ _).symm
  | 1 => exact dn 1
  | 2 => exact dn 2
  | 3 => exact dn 3

theorem fac {z a : EReal} (e : z = a) :
    Ideal.div (Ideal.ofBits .f32 0x3F800000#32) (Ideal.ofBits .f32 0x3F800000#32 + Ideal.exp (Ideal.ofBits .f32 0x00000000#32 - z))
      * (Ideal.ofBits .f32 0x3F800000#32 + z * (Ideal.ofBits .f32 0x3F800000#32
        - Ideal.div (Ideal.ofBits .f32 0x3F800000#32) (Ideal.ofBits .f32 0x3F800000#32 + Ideal.exp (Ideal.ofBits .f32 0x00000000#32 - z))))
      = sg a * (1 + a * (1 - sg a)) := by
  subst e
  rw [Cert.ConvFEq.sg_at, Cert.Silu.ofBits_one]

include h0 h1 h2 h3 h4 in
theorem tile_at : tile i x0 x1 x2 x3 x4 (ix2 p q) = dp (at2 X) (at2 W) (at2 B 0) (at2 D) (R + p.val) (S + q.val) := by
  have sa := sh_at i x0 x1 X R S h0 h1 p q
  have tp := fun k inb => (Cert.Shift.tap_at x2 k inb broadcasts_S1x1024_S256x1024 p q).trans (h2 k q)
  have e3 := tp 3 inb_S4x1024_S1x1024_3_0
  have e2 := tp 2 inb_S4x1024_S1x1024_2_0
  have e1 := tp 1 inb_S4x1024_S1x1024_1_0
  have e0 := tp 0 inb_S4x1024_S1x1024_0_0
  have eb := ((broadcastTo_1b_ab_apply _ broadcasts_S1x1024_S256x1024 p q).trans (congrFun (shapeCast_self x3 shapeCasts_S1x1024_S1x1024) _)).trans (h3 q)
  have e := congrArg₂ (· + ·) (congrArg₂ (· + ·) (congrArg₂ (· + ·) (congrArg₂ (· + ·) eb (congrArg₂ (· * ·) e3 (sa 0)))
    (congrArg₂ (· * ·) e2 (sa 1))) (congrArg₂ (· * ·) e1 (sa 2))) (congrArg₂ (· * ·) e0 (sa 3))
  exact congrArg₂ (· * ·) (h4 p q) (fac e)

/-- A row with a tile's column sums added to it. -/
theorem add_at (x d : FVec Ideal S256x1024 .f32) (v : Vec Ideal S1x1024 .f32) :
    k0_pay1 x d v (ix2 0 q) = v (ix2 0 q) + ∑ p : Fin 256, @HMul.hMul EReal EReal EReal _ (d (ix2 p q)) (x (ix2 p q)) := by
  refine congrArg₂ (· + ·) (congrFun (shapeCast_self v shapeCasts_S1x1024_S1x1024) _) ?_
  exact (shapeCast_a_1a_apply _ shapeCasts_S1024_S1x1024 0 q).trans (down_sum _ reduces_S256x1024_S1024 _ _ q)

theorem sum_at (v : Vec Ideal S1x1024 .f32) :
    k0_pay13 x0 x1 (iota .tc S256x1024 32 [0] iota_S256x1024_d0_w32) (k0_pay5 i)
      (k0_pay8 i x0 x1 x3 (row x2 3 inb_S4x1024_S1x1024_3_0) (row x2 2 inb_S4x1024_S1x1024_2_0) (row x2 1 inb_S4x1024_S1x1024_1_0))
      (row x2 0 inb_S4x1024_S1x1024_0_0) x4 v (ix2 0 q) = v (ix2 0 q) + ∑ p : Fin 256, (tile i x0 x1 x2 x3 x4 (ix2 p q) : EReal) := by
  refine congrArg₂ (· + ·) (congrFun (shapeCast_self v shapeCasts_S1x1024_S1x1024) _) ?_
  exact (shapeCast_a_1a_apply _ shapeCasts_S1024_S1x1024 0 q).trans (down_sum _ reduces_S256x1024_S1024 _ _ q)

/-- The taps' rows after a point, from the rows before it. -/
def taps (xa : Vec Ideal S4x1024 .f32) : Vec Ideal S4x1024 .f32 := fun y =>
  @HAdd.hAdd EReal EReal EReal _ (xa y) (∑ p : Fin 256, @HMul.hMul EReal EReal EReal _ (tile i x0 x1 x2 x3 x4 (ix2 p (y 1))) (sh i x0 x1 (3 - (y 0).val) (ix2 p (y 1))))

theorem piece_at (xa : Vec Ideal S4x1024 .f32) (k : Fin 4) (inb) (y : (Rect.unit (s := S4x1024) ![k.val, 0] S1x1024.size inb).shape.Idx) :
    k0_pay1 (sh i x0 x1 (3 - k.val)) (tile i x0 x1 x2 x3 x4) (row xa k inb) y
      = taps i x0 x1 x2 x3 x4 xa ((Rect.unit (s := S4x1024) ![k.val, 0] S1x1024.size inb).emb y) := by
  obtain ⟨u, q, rfl⟩ : ∃ (u : Fin 1) (q : Fin 1024), y = ix2 u q := ⟨y 0, y 1, eq_ix2 y⟩
  obtain rfl : u = 0 := Subsingleton.elim _ _
  have hm : (Rect.unit (s := S4x1024) ![k.val, 0] S1x1024.size inb).emb (ix2 (0 : Fin 1) q) = (ix2 k q : S4x1024.Idx) :=
    funext fun a => Fin.ext (by
      rw [Rect.emb_apply]
      fin_cases a <;> simp [ix2])
  rw [hm]
  refine (add_at q _ _ _).trans (congrArg (· + _) ?_)
  exact View.ld_unit_apply_of (Val := Elt Ideal) (e := .f32) xa _ _ _ _ (ix2 k q) fun a => by fin_cases a <;> simp [ix2]

/-- The four rows a point stores. -/
abbrev rows (xa : Vec Ideal S4x1024 .f32) : List (View.Piece (Elt Ideal) S4x1024 .f32) :=
  [⟨Rect.unit (s := S4x1024) ![0, 0] S1x1024.size inb_S4x1024_S1x1024_0_0, k0_pay4 (sh i x0 x1 3) (tile i x0 x1 x2 x3 x4) (row xa 0 inb_S4x1024_S1x1024_0_0)⟩,
   ⟨Rect.unit (s := S4x1024) ![1, 0] S1x1024.size inb_S4x1024_S1x1024_1_0, k0_pay3 (sh i x0 x1 2) (tile i x0 x1 x2 x3 x4) (row xa 1 inb_S4x1024_S1x1024_1_0)⟩,
   ⟨Rect.unit (s := S4x1024) ![2, 0] S1x1024.size inb_S4x1024_S1x1024_2_0, k0_pay2 (sh i x0 x1 1) (tile i x0 x1 x2 x3 x4) (row xa 2 inb_S4x1024_S1x1024_2_0)⟩,
   ⟨Rect.unit (s := S4x1024) ![3, 0] S1x1024.size inb_S4x1024_S1x1024_3_0, k0_pay1 (sh i x0 x1 0) (tile i x0 x1 x2 x3 x4) (row xa 3 inb_S4x1024_S1x1024_3_0)⟩]

theorem rows_canon (xa : Vec Ideal S4x1024 .f32) (L : List (View.Piece (Elt Ideal) S4x1024 .f32)) :
    View.canon (rows i x0 x1 x2 x3 x4 xa ++ L) = taps i x0 x1 x2 x3 x4 xa :=
  funext fun y => View.canon_append_of_piecesOf (taps i x0 x1 x2 x3 x4 xa) L (rows i x0 x1 x2 x3 x4 xa)
    ⟨piece_at i x0 x1 x2 x3 x4 xa 0 inb_S4x1024_S1x1024_0_0, piece_at i x0 x1 x2 x3 x4 xa 1 inb_S4x1024_S1x1024_1_0,
      piece_at i x0 x1 x2 x3 x4 xa 2 inb_S4x1024_S1x1024_2_0, piece_at i x0 x1 x2 x3 x4 xa 3 inb_S4x1024_S1x1024_3_0, trivial⟩ y
    (View.cover_of_tiled (s := S4x1024) (rows i x0 x1 x2 x3 x4 xa) ![1, 1024] (by rfl) y)

end Tile

section Cases

variable (c : Dev nD) (i : grid0.Coords)
  (arg2 : Memref sig .tc .vmem S256x1024 .f32) (harg2 : arg2.IsWhole) (arg3 : Memref sig .tc .vmem S8x1024 .f32) (harg3 : arg3.IsWhole)
  (arg4 : Memref sig .tc .vmem S4x1024 .f32) (harg4 : arg4.IsWhole) (arg5 : Memref sig .tc .vmem S1x1024 .f32) (harg5 : arg5.IsWhole)
  (arg6 : Memref sig .tc .vmem S256x1024 .f32) (harg6 : arg6.IsWhole) (arg7 : Memref sig .tc .vmem S256x1024 .f32) (harg7 : arg7.IsWhole)
  (arg8 : Memref sig .tc .vmem S4x1024 .f32) (harg8 : arg8.IsWhole) (arg9 : Memref sig .tc .vmem S1x1024 .f32) (harg9 : arg9.IsWhole)
  (x0 : Vec Ideal S256x1024 .f32) (x1 : Vec Ideal S8x1024 .f32) (x2 : Vec Ideal S4x1024 .f32) (x3 : Vec Ideal S1x1024 .f32) (x4 : Vec Ideal S256x1024 .f32)
  (xa : Vec Ideal S4x1024 .f32) (xb : Vec Ideal S1x1024 .f32)

theorem out5_A (hc0 : cond0_0 i) :
    out0_A_5 c i arg2 harg2 arg3 harg3 arg4 harg4 arg5 harg5 arg6 harg6 arg7 harg7 arg8 harg8 arg9 harg9 hc0 x0 x1 x2 x3 x4 = tile i x0 x1 x2 x3 x4 := by
  have hcov := cover0_A_5 c i arg2 harg2 arg3 harg3 arg4 harg4 arg5 harg5 arg6 harg6 arg7 harg7 arg8 harg8 arg9 harg9 hc0 x0 x1 x2 x3 x4
  unfold out0_A_5
  rw [View.read_writes_eq_canon _ _ _ hcov]
  unfold kernelRun0_A
  dsimp only
  sl_unfold_words
  simp only [View.readAt_eq_ld, harg2.read_unread, harg3.read_unread, harg4.read_unread, harg5.read_unread, harg6.read_unread]
  rw [View.canon_unit_zero hz, View.ld_unit_zero hz, View.ld_unit_zero hz, View.ld_unit_zero hz, View.ld_unit_zero hz]
  rfl

theorem out5_B (hc0 : ¬cond0_0 i) :
    out0_B_5 c i arg2 harg2 arg3 harg3 arg4 harg4 arg5 harg5 arg6 harg6 arg7 harg7 arg8 harg8 arg9 harg9 hc0 x0 x1 x2 x3 x4 xa xb = tile i x0 x1 x2 x3 x4 := by
  have hcov := cover0_B_5 c i arg2 harg2 arg3 harg3 arg4 harg4 arg5 harg5 arg6 harg6 arg7 harg7 arg8 harg8 arg9 harg9 hc0 x0 x1 x2 x3 x4 xa xb
  unfold out0_B_5
  rw [View.read_writes_eq_canon _ _ _ hcov]
  unfold kernelRun0_B
  dsimp only
  sl_unfold_words
  simp only [View.readAt_eq_ld, harg2.read_unread, harg3.read_unread, harg4.read_unread, harg5.read_unread, harg6.read_unread]
  rw [View.canon_unit_zero hz, View.ld_unit_zero hz, View.ld_unit_zero hz, View.ld_unit_zero hz, View.ld_unit_zero hz]
  rfl

theorem out6_B (hc0 : ¬cond0_0 i) :
    out0_B_6 c i arg2 harg2 arg3 harg3 arg4 harg4 arg5 harg5 arg6 harg6 arg7 harg7 arg8 harg8 arg9 harg9 hc0 x0 x1 x2 x3 x4 xa xb = taps i x0 x1 x2 x3 x4 xa := by
  have hcov := cover0_B_6 c i arg2 harg2 arg3 harg3 arg4 harg4 arg5 harg5 arg6 harg6 arg7 harg7 arg8 harg8 arg9 harg9 hc0 x0 x1 x2 x3 x4 xa xb
  unfold out0_B_6
  rw [View.read_writes_eq_canon _ _ _ hcov]
  unfold kernelRun0_B
  dsimp only
  sl_unfold_words
  simp only [View.readAt_eq_ld, harg2.read_unread, harg3.read_unread, harg4.read_unread, harg5.read_unread, harg6.read_unread, harg8.read_unread, harg9.read_unread]
  rw [View.ld_unit_zero hz, View.ld_unit_zero hz, View.ld_unit_zero hz, View.ld_unit_zero hz]
  exact rows_canon i x0 x1 x2 x3 x4 xa []

theorem out6_A (hc0 : cond0_0 i) :
    out0_A_6 c i arg2 harg2 arg3 harg3 arg4 harg4 arg5 harg5 arg6 harg6 arg7 harg7 arg8 harg8 arg9 harg9 hc0 x0 x1 x2 x3 x4
      = taps i x0 x1 x2 x3 x4 (k0_pay11 (F := Ideal)) := by
  have hcov := cover0_A_6 c i arg2 harg2 arg3 harg3 arg4 harg4 arg5 harg5 arg6 harg6 arg7 harg7 arg8 harg8 arg9 harg9 hc0 x0 x1 x2 x3 x4
  unfold out0_A_6
  rw [View.read_writes_eq_canon _ _ _ hcov]
  unfold kernelRun0_A
  dsimp only
  sl_unfold_words
  simp (disch := decide) only [View.readAt_eq_ld, harg2.read_unread, harg3.read_unread, harg4.read_unread, harg5.read_unread, harg6.read_unread, ↓View.readCov_skip, ↓View.readCov_fill]
  rw [View.ld_unit_zero hz, View.ld_unit_zero hz, View.ld_unit_zero hz, View.ld_unit_zero hz]
  exact rows_canon i x0 x1 x2 x3 x4 (k0_pay11 (F := Ideal)) [_]

theorem out7_B (hc0 : ¬cond0_0 i) (q : Fin 1024) :
    out0_B_7 c i arg2 harg2 arg3 harg3 arg4 harg4 arg5 harg5 arg6 harg6 arg7 harg7 arg8 harg8 arg9 harg9 hc0 x0 x1 x2 x3 x4 xa xb (ix2 0 q)
      = xb (ix2 0 q) + ∑ p : Fin 256, (tile i x0 x1 x2 x3 x4 (ix2 p q) : EReal) := by
  have hcov := cover0_B_7 c i arg2 harg2 arg3 harg3 arg4 harg4 arg5 harg5 arg6 harg6 arg7 harg7 arg8 harg8 arg9 harg9 hc0 x0 x1 x2 x3 x4 xa xb
  refine Eq.trans (congrFun ?_ _) (sum_at i x0 x1 x2 x3 x4 q xb)
  unfold out0_B_7
  rw [View.read_writes_eq_canon _ _ _ hcov]
  unfold kernelRun0_B
  dsimp only
  sl_unfold_words
  simp only [View.readAt_eq_ld, harg2.read_unread, harg3.read_unread, harg4.read_unread, harg5.read_unread, harg6.read_unread, harg9.read_unread]
  rw [View.canon_unit_zero hz, View.ld_unit_zero hz, View.ld_unit_zero hz, View.ld_unit_zero hz, View.ld_unit_zero hz]
  try rw [View.ld_unit_zero hz]
  rfl

theorem out7_A (hc0 : cond0_0 i) (q : Fin 1024) :
    out0_A_7 c i arg2 harg2 arg3 harg3 arg4 harg4 arg5 harg5 arg6 harg6 arg7 harg7 arg8 harg8 arg9 harg9 hc0 x0 x1 x2 x3 x4 (ix2 0 q)
      = k0_pay12 (F := Ideal) (ix2 0 q) + ∑ p : Fin 256, (tile i x0 x1 x2 x3 x4 (ix2 p q) : EReal) := by
  have hcov := cover0_A_7 c i arg2 harg2 arg3 harg3 arg4 harg4 arg5 harg5 arg6 harg6 arg7 harg7 arg8 harg8 arg9 harg9 hc0 x0 x1 x2 x3 x4
  refine Eq.trans (congrFun ?_ _) (sum_at i x0 x1 x2 x3 x4 q (k0_pay12 (F := Ideal)))
  unfold out0_A_7
  rw [View.read_writes_eq_canon _ _ _ hcov]
  unfold kernelRun0_A
  dsimp only
  sl_unfold_words
  simp (disch := decide) only [View.readAt_eq_ld, harg2.read_unread, harg3.read_unread, harg4.read_unread, harg5.read_unread, harg6.read_unread, ↓View.readCov_skip, ↓View.readCov_fill]
  refine (View.canon_cons_unit_zero hz _ _ _).trans ?_
  rw [View.ld_unit_zero hz, View.ld_unit_zero hz, View.ld_unit_zero hz, View.ld_unit_zero hz]
  try rw [View.ld_unit_zero hz]
  rfl

end Cases

/-! ## The arguments and the points' blocks -/

variable (m : (ℓ : Loc nD τ sig) → Buf (Elt Ideal) ℓ) (c : Dev nD)

/-- The arguments: the rows, the taps, the offsets as one row, and the result's cotangent. -/
abbrev A : (⟨2, ![8192, 5120]⟩ : Shape).Idx → EReal := m ((c : Thread nD τ).loc main_arg0)
@[inherit_doc A]
abbrev W : (⟨2, ![4, 5120]⟩ : Shape).Idx → EReal := m ((c : Thread nD τ).loc main_arg1)
@[inherit_doc A]
abbrev B : (⟨2, ![1, 5120]⟩ : Shape).Idx → EReal :=
  shapeCast S1x5120 (m ((c : Thread nD τ).loc main_arg2) : (⟨1, ![5120]⟩ : Shape).Idx → EReal) shapeCasts_S5120_S1x5120
@[inherit_doc A]
abbrev D : (⟨2, ![8192, 5120]⟩ : Shape).Idx → EReal := m ((c : Thread nD τ).loc main_arg3)

/-- The cotangent before the activation. -/
abbrev dq : ℕ → ℕ → EReal := dp (at2 (A m c)) (at2 (W m c)) (at2 (B m c) 0) (at2 (D m c))

theorem V_offsets : V m c main_v0 = B m c := by
  show after hostOps0 _ (Proc.devRef .tc main_v0) = _
  after_reads_simp
  rfl

/-- Where a point's blocks lie. -/
theorem idx : ∀ t : Fin cfg0.N, (win0_0.index t 0 = t.val % 32 ∧ win0_0.index t 1 = t.val / 32)
    ∧ (win0_1.index t 0 = t.val % 32 * 32 - 1 ∧ win0_1.index t 1 = t.val / 32)
    ∧ (win0_2.index t 0 = 0 ∧ win0_2.index t 1 = t.val / 32) ∧ (win0_3.index t 0 = 0 ∧ win0_3.index t 1 = t.val / 32)
    ∧ (win0_4.index t 0 = t.val % 32 ∧ win0_4.index t 1 = t.val / 32) ∧ (win0_5.index t 0 = t.val % 32 ∧ win0_5.index t 1 = t.val / 32)
    ∧ (win0_6.index t 0 = 0 ∧ win0_6.index t 1 = t.val / 32) ∧ (win0_7.index t 0 = 0 ∧ win0_7.index t 1 = t.val / 32)
    ∧ (grid0.coords t 1).val = t.val % 32 := by decide +kernel

theorem blk_0 (t : Fin cfg0.N) (r : Fin 256) (s : Fin 1024) : iblk m c 0 t (ix2 r s) = at2 (A m c) (t.val % 32 * 256 + r.val) (t.val / 32 * 1024 + s.val) :=
  at2_eq (A m c) ((win0_0.rect t).emb (ix2 r s)) _ _ (Prod.emb_at win0_0 t _ 0 rfl (by rw [(idx t).1.1]; rfl))
    (Prod.emb_at win0_0 t _ 1 rfl (by rw [(idx t).1.2]; rfl))

theorem blk_1 (t : Fin cfg0.N) (r : Fin 8) (s : Fin 1024) : iblk m c 1 t (ix2 r s) = at2 (A m c) ((t.val % 32 * 32 - 1) * 8 + r.val) (t.val / 32 * 1024 + s.val) :=
  at2_eq (A m c) ((win0_1.rect t).emb (ix2 r s)) _ _ (Prod.emb_at win0_1 t _ 0 rfl (by rw [(idx t).2.1.1]; rfl))
    (Prod.emb_at win0_1 t _ 1 rfl (by rw [(idx t).2.1.2]; rfl))

theorem blk_2 (t : Fin cfg0.N) (r : Fin 4) (s : Fin 1024) : iblk m c 2 t (ix2 r s) = at2 (W m c) r.val (t.val / 32 * 1024 + s.val) :=
  at2_eq (W m c) ((win0_2.rect t).emb (ix2 r s)) _ _ (Prod.emb_at win0_2 t _ 0 rfl (by rw [(idx t).2.2.1.1, Nat.zero_mul, Nat.zero_add]; rfl))
    (Prod.emb_at win0_2 t _ 1 rfl (by rw [(idx t).2.2.1.2]; rfl))

theorem blk_3 (t : Fin cfg0.N) (s : Fin 1024) : iblk m c 3 t (ix2 0 s) = at2 (B m c) 0 (t.val / 32 * 1024 + s.val) :=
  (congrFun (V_offsets m c) ((win0_3.rect t).emb (ix2 0 s))).trans (at2_eq (B m c) ((win0_3.rect t).emb (ix2 0 s)) _ _
    (Prod.emb_at win0_3 t _ 0 rfl (by rw [(idx t).2.2.2.1.1, Nat.zero_mul, Nat.zero_add]; rfl))
    (Prod.emb_at win0_3 t _ 1 rfl (by rw [(idx t).2.2.2.1.2]; rfl)))

theorem blk_4 (t : Fin cfg0.N) (r : Fin 256) (s : Fin 1024) : iblk m c 4 t (ix2 r s) = at2 (D m c) (t.val % 32 * 256 + r.val) (t.val / 32 * 1024 + s.val) :=
  at2_eq (D m c) ((win0_4.rect t).emb (ix2 r s)) _ _ (Prod.emb_at win0_4 t _ 0 rfl (by rw [(idx t).2.2.2.2.1.1]; rfl))
    (Prod.emb_at win0_4 t _ 1 rfl (by rw [(idx t).2.2.2.2.1.2]; rfl))

/-- The rows that come before a tile: the tile before's last eight, or zeros. -/
theorem before_at (t : Fin cfg0.N) (r : Fin 8) (s : Fin 1024) :
    @HMul.hMul EReal EReal EReal _ (iblk m c 1 t (ix2 r s)) (k0_pay5 (F := Ideal) (grid0.coords t)) = lag (at2 (A m c)) (8 - r.val) (t.val % 32 * 256) (t.val / 32 * 1024 + s.val) :=
  (congrArg₂ (fun a b : EReal => a * b) (blk_1 m c t r s) ((Cert.Lag.keep_at (grid0.coords t 1)).trans (by rw [(idx t).2.2.2.2.2.2.2.2]))).trans
    (Cert.Lag.before (A m c) (t.val % 32) r.val _ r.isLt)

/-- A point's tile of the cotangent. -/
abbrev tl (t : Fin cfg0.N) : FVec Ideal S256x1024 .f32 :=
  tile (grid0.coords t) (iblk m c 0 t) (iblk m c 1 t) (iblk m c 2 t) (iblk m c 3 t) (iblk m c 4 t)

theorem tl_at (t : Fin cfg0.N) (p : Fin 256) (q : Fin 1024) : tl m c t (ix2 p q) = dq m c (t.val % 32 * 256 + p.val) (t.val / 32 * 1024 + q.val) :=
  tile_at (grid0.coords t) _ _ _ _ _ (A m c) (D m c) (W m c) (B m c) _ _ (blk_0 m c t) (before_at m c t) (blk_2 m c t) (blk_3 m c t) (blk_4 m c t) p q

/-- A point's column sums, of the cotangent and of it against the rows back. -/
theorem part_b (t : Fin cfg0.N) (q : Fin 1024) :
    ∑ p : Fin 256, (tl m c t (ix2 p q) : EReal) = ∑ r ∈ Finset.range 256, dq m c (256 * (t.val % 32) + r) (t.val / 32 * 1024 + q.val) := by
  rw [← Fin.sum_univ_eq_sum_range (fun r => dq m c (256 * (t.val % 32) + r) (t.val / 32 * 1024 + q.val)) 256]
  refine Finset.sum_congr rfl fun p _ => (tl_at m c t p q).trans ?_
  rw [Nat.mul_comm 256]

@[inherit_doc part_b]
theorem part_w (t : Fin cfg0.N) (j : Fin 4) (q : Fin 1024) :
    ∑ p : Fin 256, @HMul.hMul EReal EReal EReal _ (tl m c t (ix2 p q)) (sh (grid0.coords t) (iblk m c 0 t) (iblk m c 1 t) j.val (ix2 p q))
      = ∑ r ∈ Finset.range 256, dq m c (256 * (t.val % 32) + r) (t.val / 32 * 1024 + q.val)
          * lag (at2 (A m c)) j.val (256 * (t.val % 32) + r) (t.val / 32 * 1024 + q.val) := by
  rw [← Fin.sum_univ_eq_sum_range (fun r => dq m c (256 * (t.val % 32) + r) (t.val / 32 * 1024 + q.val)
          * lag (at2 (A m c)) j.val (256 * (t.val % 32) + r) (t.val / 32 * 1024 + q.val)) 256]
  refine Finset.sum_congr rfl fun p _ => (congrArg₂ (fun a b : EReal => a * b) (tl_at m c t p q)
    (sh_at (grid0.coords t) _ _ (A m c) _ _ (blk_0 m c t) (before_at m c t) p q j)).trans ?_
  rw [Nat.mul_comm 256]

/-- A value that starts over at every 32nd point and gains a run of 256 terms at each. -/
theorem grows {N : ℕ} (v : (n : ℕ) → n < N → EReal) (f : ℕ → ℕ → EReal)
    (hA : ∀ n hn, n % 32 = 0 → v n hn = 0 + ∑ r ∈ Finset.range 256, f (n / 32) (256 * (n % 32) + r))
    (hB : ∀ n hn, ¬n % 32 = 0 → v n hn = v (n - 1) (Nat.lt_of_le_of_lt (Nat.sub_le _ _) hn) + ∑ r ∈ Finset.range 256, f (n / 32) (256 * (n % 32) + r)) :
    ∀ n hn, v n hn = ∑ r ∈ Finset.range (256 * (n % 32 + 1)), f (n / 32) r := by
  intro n
  induction n with
  | zero =>
    intro hn
    rw [hA 0 hn rfl, zero_add]
    simp
  | succ n ih =>
    intro hn
    by_cases e : (n + 1) % 32 = 0
    · rw [hA _ hn e, e, zero_add]
      simp
    · have e1 : (n + 1) % 32 = n % 32 + 1 := by omega
      have e2 : (n + 1) / 32 = n / 32 := by omega
      rw [hB _ hn e, e1, e2, Nat.mul_add 256 (n % 32 + 1) 1, Nat.mul_one, Finset.sum_range_add]
      exact congrArg (· + _) (ih (by omega))

theorem outs_d (t : Fin cfg0.N) : (outsAt0 m c t.val t.isLt).1 = tl m c t := by
  by_cases h0 : t.val % 32 = 0
  · rw [outsAt0_A m c t h0]; dsimp only; rw [out5_A]
  · rw [outsAt0_B m c t h0]; dsimp only; rw [out5_B]

theorem outs_b (q : Fin 1024) : ∀ n hn, (outsAt0 m c n hn).2.2 (ix2 0 q)
    = ∑ r ∈ Finset.range (256 * (n % 32 + 1)), dq m c r (n / 32 * 1024 + q.val) := by
  refine grows (fun n hn => (outsAt0 m c n hn).2.2 (ix2 0 q)) (fun k r => dq m c r (k * 1024 + q.val)) (fun n hn h0 => ?_) (fun n hn h0 => ?_)
  · have e := outsAt0_A m c ⟨n, hn⟩ h0
    dsimp only at e ⊢
    rw [e]
    dsimp only
    rw [out7_A]
    exact congrArg₂ (fun a b : EReal => a + b) Cert.Silu.ofBits_zero (part_b m c ⟨n, hn⟩ q)
  · have e := outsAt0_B m c ⟨n, hn⟩ h0
    dsimp only at e ⊢
    rw [e]
    dsimp only
    rw [out7_B]
    exact congrArg (fun b : EReal => _ + b) (part_b m c ⟨n, hn⟩ q)

theorem outs_w (k : Fin 4) (q : Fin 1024) : ∀ n hn, (outsAt0 m c n hn).2.1 (ix2 k q)
    = ∑ r ∈ Finset.range (256 * (n % 32 + 1)), dq m c r (n / 32 * 1024 + q.val) * lag (at2 (A m c)) (3 - k.val) r (n / 32 * 1024 + q.val) := by
  have hk := k.isLt
  refine grows (fun n hn => (outsAt0 m c n hn).2.1 (ix2 k q))
    (fun b r => dq m c r (b * 1024 + q.val) * lag (at2 (A m c)) (3 - k.val) r (b * 1024 + q.val)) (fun n hn h0 => ?_) (fun n hn h0 => ?_)
  · have e := outsAt0_A m c ⟨n, hn⟩ h0
    dsimp only at e ⊢
    rw [e]
    dsimp only
    rw [out6_A]
    exact congrArg₂ (fun a b : EReal => a + b) Cert.Silu.ofBits_zero (part_w m c ⟨n, hn⟩ ⟨3 - k.val, by omega⟩ q)
  · have e := outsAt0_B m c ⟨n, hn⟩ h0
    dsimp only at e ⊢
    rw [e]
    dsimp only
    rw [out6_B]
    exact congrArg (fun b : EReal => _ + b) (part_w m c ⟨n, hn⟩ ⟨3 - k.val, by omega⟩ q)

/-! ## The arrays -/

/-- The three results. -/
abbrev resD : S8192x5120.Idx → EReal := fun i => dq m c (i 0).val (i 1).val
@[inherit_doc resD]
abbrev resW : S4x5120.Idx → EReal := fun i => ∑ r ∈ Finset.range 8192, dq m c r (i 1).val * lag (at2 (A m c)) (3 - (i 0).val) r (i 1).val
@[inherit_doc resD]
abbrev resB : S1x5120.Idx → EReal := fun i => ∑ r ∈ Finset.range 8192, dq m c r (i 1).val

theorem final_d : (dats m 0 c).arrAt 5 cfg0.N = resD m c := by
  refine (dats m 0 c).arrAt_eq_of_cover 5 (resD m c) (fun t _ => ?_)
    ((by decide +kernel : (cfg0.win 5).Covers).cover _ (Memref.isWhole_whole _))
  rw [Value.flushed5]
  funext y
  have e0 := Prod.emb_at win0_5 t y 0 rfl (congrArg (· * 256 + (y 0).val) (idx t).2.2.2.2.2.1.1)
  have e1 := Prod.emb_at win0_5 t y 1 rfl (congrArg (· * 1024 + (y 1).val) (idx t).2.2.2.2.2.1.2)
  refine ((congrFun (outs_d m c t) y).trans ((congrArg (tl m c t) (eq_ix2 y)).trans (tl_at m c t (y 0) (y 1)))).trans ?_
  exact congrArg₂ (dq m c) e0.symm e1.symm

theorem final_w : (dats m 0 c).arrAt 6 cfg0.N = resW m c := by
  refine (dats m 0 c).arrAt_eq_of_cover 6 (resW m c) (fun t hf => ?_)
    ((by decide +kernel : (cfg0.win 6).Covers).cover _ (Memref.isWhole_whole _))
  have h31 := (flush0_6 t).mp hf
  rw [Value.flushed6]
  funext y
  obtain ⟨k, s, rfl⟩ : ∃ (k : Fin 4) (s : Fin 1024), y = ix2 k s := ⟨y 0, y 1, eq_ix2 y⟩
  have e0 := Prod.emb_at win0_6 t (ix2 k s) 0 rfl ((congrArg (· * 4 + k.val) (idx t).2.2.2.2.2.2.1.1).trans (by omega : 0 * 4 + k.val = k.val))
  have e1 := Prod.emb_at win0_6 t (ix2 k s) 1 rfl (congrArg (· * 1024 + s.val) (idx t).2.2.2.2.2.2.1.2)
  refine (outs_w m c k s t.val t.isLt).trans ?_
  rw [h31]
  exact congrArg₂ (fun a b => ∑ r ∈ Finset.range 8192, dq m c r b * lag (at2 (A m c)) (3 - a) r b) e0.symm e1.symm

theorem final_b : (dats m 0 c).arrAt 7 cfg0.N = resB m c := by
  refine (dats m 0 c).arrAt_eq_of_cover 7 (resB m c) (fun t hf => ?_)
    ((by decide +kernel : (cfg0.win 7).Covers).cover _ (Memref.isWhole_whole _))
  have h31 := (flush0_7 t).mp hf
  rw [Value.flushed7]
  funext y
  obtain ⟨u, s, rfl⟩ : ∃ (u : Fin 1) (s : Fin 1024), y = ix2 u s := ⟨y 0, y 1, eq_ix2 y⟩
  obtain rfl : u = 0 := Subsingleton.elim _ _
  have e1 := Prod.emb_at win0_7 t (ix2 (0 : Fin 1) s) 1 rfl (congrArg (· * 1024 + s.val) (idx t).2.2.2.2.2.2.2.1.2)
  refine (outs_b m c s t.val t.isLt).trans ?_
  rw [h31]
  exact congrArg (fun b => ∑ r ∈ Finset.range 8192, dq m c r b) e1.symm

/-! ## The reference's results are the same -/

/-- One row put among four rows of zeros. -/
theorem among (k : Fin 4) (Z : S1x5120.Idx → EReal) {u : Shape} (v : u.Idx → EReal) (hv : ∀ i, v i = 0)
    (lo hi : Fin 2 → ℕ) (hlo : lo 0 = k.val) (hlo' : lo 1 = 0) (h : (⟨2, ![1, 5120]⟩ : Shape).Pads lo hi ![0, 0] ⟨2, ![4, 5120]⟩) (hu : 0 < u.numel)
    (i : (⟨2, ![4, 5120]⟩ : Shape).Idx) (s : ℕ → EReal) (hZ : ∀ i, Z i = s (i 1).val) :
    pad (s := ⟨2, ![1, 5120]⟩) ⟨2, ![4, 5120]⟩ lo hi ![0, 0] Z v h hu i = if (i 0).val = k.val then s (i 1).val else 0 := by
  by_cases e : (i 0).val = k.val
  · rw [if_pos e]
    have hin : pad (s := ⟨2, ![1, 5120]⟩) ⟨2, ![4, 5120]⟩ lo hi ![0, 0] Z v h hu i = Z (ix2 (0 : Fin 1) (i 1)) :=
      pad_apply_of_inside lo hi ![0, 0] Z v h hu i _ fun a => by
        fin_cases a
        · show (i 0).val = lo 0 + 0 * (0 + 1); omega
        · show (i 1).val = lo 1 + (i 1).val * (0 + 1); omega
    exact hin.trans (hZ _)
  · rw [if_neg e]
    exact (pad_apply_of_not_inside lo hi ![0, 0] Z v h hu i 0 (fun hh => e (by
      have h3 : ((i 0).val - lo 0) / (0 + 1) < 1 := hh.2.2
      have h1 : lo 0 ≤ (i 0).val := hh.1
      rw [Nat.zero_add, Nat.div_one] at h3
      omega))).trans (hv _)

theorem nil_add {a : Fin 8192 → EReal} (g : ℕ → ℕ → EReal) (c' c : ℕ) (e : c' = c) (h : ∀ k, a k = g k.val c') :
    Ideal.ofBits .f32 0x00000000#32 + (Ideal.ofBits .f32 0x00000000#32 + ∑ k, a k) = ∑ r ∈ Finset.range 8192, g r c := by
  subst e
  rw [Cert.Silu.ofBits_zero, zero_add, zero_add, ← Fin.sum_univ_eq_sum_range (fun r => g r c') 8192]
  exact Finset.sum_congr rfl fun k _ => h k

theorem four (s : ℕ → EReal) : ∀ n : ℕ, n < 4 →
    (if n = 3 then s 0 else 0) + (if n = 2 then s 1 else 0) + (if n = 1 then s 2 else 0) + (if n = 0 then s 3 else 0) = s (3 - n) := by
  intro n hn
  interval_cases n <;> simp

section Ref

open Cert.ConvPreRefIdeal.Read

variable (x0 : (⟨2, ![8192, 5120]⟩ : Shape).Idx → EReal) (x1 : (⟨2, ![4, 5120]⟩ : Shape).Idx → EReal) (x2 : (⟨1, ![5120]⟩ : Shape).Idx → EReal)
  (x3 : (⟨2, ![8192, 5120]⟩ : Shape).Idx → EReal)

/-- The cotangent before the activation, and its sums against the rows back. -/
abbrev dr : ℕ → ℕ → EReal :=
  dp (at2 x0) (at2 x1) (at2 (a := 1) (b := 5120) (shapeCast S1x5120 x2 shapeCasts_S5120_S1x5120) 0) (at2 x3)
@[inherit_doc dr]
abbrev ws (j c : ℕ) : EReal := ∑ r ∈ Finset.range 8192, dr x0 x1 x2 x3 r c * lag (at2 x0) j r c

theorem back (j r : ℕ) (i) (hj : j ≤ 3) (hr : (i 0).val = r + (3 - j)) (hr' : r < 8192) :
    val_main_v38 (F := Ideal) x0 i = lag (at2 x0) j r (i 1).val :=
  Cert.ConvFEq.back x0 j r i hj hr hr'

theorem ref_act (i : S8192x5120.Idx) : val_main_v33 (F := Ideal) x0 x1 x2 i
    = act (at2 x0) (at2 x1) (at2 (a := 1) (b := 5120) (shapeCast S1x5120 x2 shapeCasts_S5120_S1x5120) 0) (i 0).val (i 1).val :=
  Cert.ConvFEq.ref_act x0 x1 x2 i

variable (h : ∀ i, IsReal (x3 i))

include h

theorem ref_d (i : S8192x5120.Idx) : val_main_v35 (F := Ideal) x0 x1 x2 x3 i = dr x0 x1 x2 x3 (i 0).val (i 1).val := by
  have e := Cert.Silu.slope (h i) (val_main_v33 (F := Ideal) x0 x1 x2 i)
  have ea := ref_act x0 x1 x2 i
  have ed : x3 i = at2 x3 (i 0).val (i 1).val := at2_eq x3 i _ _ rfl rfl
  refine Eq.trans ?_ (e.symm.trans (congrArg₂ (fun d z : EReal => d * (sg z * (1 + z * (1 - sg z)))) ed ea))
  show x3 i * Ideal.div (Ideal.ofBits .f32 0x3F800000#32) (Ideal.ofBits .f32 0x3F800000#32 + Ideal.exp (-val_main_v33 (F := Ideal) x0 x1 x2 i))
      + val_main_v33 (F := Ideal) x0 x1 x2 i * x3 i
        * (Ideal.div (Ideal.ofBits .f32 0x3F800000#32) (Ideal.ofBits .f32 0x3F800000#32 + Ideal.exp (-val_main_v33 (F := Ideal) x0 x1 x2 i))
          * (Ideal.ofBits .f32 0x3F800000#32 - Ideal.div (Ideal.ofBits .f32 0x3F800000#32) (Ideal.ofBits .f32 0x3F800000#32 + Ideal.exp (-val_main_v33 (F := Ideal) x0 x1 x2 i)))) = _
  rw [Cert.Silu.ofBits_one]
  rfl

theorem ref_b (i : S1x5120.Idx) : val_main_v71 (F := Ideal) x0 x1 x2 x3 i = ∑ r ∈ Finset.range 8192, dr x0 x1 x2 x3 r (i 1).val := by
  rw [val_main_v71_apply, val_main_v70_apply]
  refine (zero_add _).symm.trans ((congrArg (· + _) Cert.Silu.ofBits_zero.symm).trans ?_)
  have hi : (i 0).val < 1 := (i 0).isLt
  exact nil_add (fun r q => dr x0 x1 x2 x3 r q) _ _ (by show (i 0).val * 5120 + (i 1).val = (i 1).val; omega) fun k => ref_d x0 x1 x2 x3 h _

theorem m72 (i : S8192x5120.Idx) : val_main_v72 (F := Ideal) x0 x1 x2 x3 i = dr x0 x1 x2 x3 (i 0).val (i 1).val * lag (at2 x0) 0 (i 0).val (i 1).val :=
  congrArg₂ (· * ·) (ref_d x0 x1 x2 x3 h i) ((val_main_v63_apply (F := Ideal) x0 i).trans (back x0 0 _ _ (by omega) (Nat.add_comm _ _) (i 0).isLt))

theorem m78 (i : S8192x5120.Idx) : val_main_v78 (F := Ideal) x0 x1 x2 x3 i = dr x0 x1 x2 x3 (i 0).val (i 1).val * lag (at2 x0) 1 (i 0).val (i 1).val :=
  congrArg₂ (· * ·) (ref_d x0 x1 x2 x3 h i) ((val_main_v56_apply (F := Ideal) x0 i).trans (back x0 1 _ _ (by omega) (Nat.add_comm _ _) (i 0).isLt))

theorem m85 (i : S8192x5120.Idx) : val_main_v85 (F := Ideal) x0 x1 x2 x3 i = dr x0 x1 x2 x3 (i 0).val (i 1).val * lag (at2 x0) 2 (i 0).val (i 1).val :=
  congrArg₂ (· * ·) (ref_d x0 x1 x2 x3 h i) ((val_main_v49_apply (F := Ideal) x0 i).trans (back x0 2 _ _ (by omega) (Nat.add_comm _ _) (i 0).isLt))

theorem m92 (i : S8192x5120.Idx) : val_main_v92 (F := Ideal) x0 x1 x2 x3 i = dr x0 x1 x2 x3 (i 0).val (i 1).val * lag (at2 x0) 3 (i 0).val (i 1).val :=
  congrArg₂ (· * ·) (ref_d x0 x1 x2 x3 h i) ((val_main_v41_apply (F := Ideal) x0 i).trans (back x0 3 _ _ (by omega) rfl (i 0).isLt))

theorem w76 (i : S1x5120.Idx) : val_main_v76 (F := Ideal) x0 x1 x2 x3 i = ws x0 x1 x2 x3 0 (i 1).val := by
  rw [val_main_v76_apply, val_main_v75_apply, Fin.sum_univ_one, val_main_v74_apply, val_main_v73_apply]
  exact nil_add (fun r q => dr x0 x1 x2 x3 r q * lag (at2 x0) 0 r q) _ _ (by show 0 * 5120 + (i 1).val = (i 1).val; omega) fun k => m72 x0 x1 x2 x3 h _

theorem w82 (i : S1x5120.Idx) : val_main_v82 (F := Ideal) x0 x1 x2 x3 i = ws x0 x1 x2 x3 1 (i 1).val := by
  rw [val_main_v82_apply, val_main_v81_apply, Fin.sum_univ_one, val_main_v80_apply, val_main_v79_apply]
  exact nil_add (fun r q => dr x0 x1 x2 x3 r q * lag (at2 x0) 1 r q) _ _ (by show 0 * 5120 + (i 1).val = (i 1).val; omega) fun k => m78 x0 x1 x2 x3 h _

theorem w89 (i : S1x5120.Idx) : val_main_v89 (F := Ideal) x0 x1 x2 x3 i = ws x0 x1 x2 x3 2 (i 1).val := by
  rw [val_main_v89_apply, val_main_v88_apply, Fin.sum_univ_one, val_main_v87_apply, val_main_v86_apply]
  exact nil_add (fun r q => dr x0 x1 x2 x3 r q * lag (at2 x0) 2 r q) _ _ (by show 0 * 5120 + (i 1).val = (i 1).val; omega) fun k => m85 x0 x1 x2 x3 h _

theorem w96 (i : S1x5120.Idx) : val_main_v96 (F := Ideal) x0 x1 x2 x3 i = ws x0 x1 x2 x3 3 (i 1).val := by
  rw [val_main_v96_apply, val_main_v95_apply, Fin.sum_univ_one, val_main_v94_apply, val_main_v93_apply]
  exact nil_add (fun r q => dr x0 x1 x2 x3 r q * lag (at2 x0) 3 r q) _ _ (by show 0 * 5120 + (i 1).val = (i 1).val; omega) fun k => m92 x0 x1 x2 x3 h _

theorem ref_w (i : S4x5120.Idx) : val_main_v98 (F := Ideal) x0 x1 x2 x3 i = ws x0 x1 x2 x3 (3 - (i 0).val) (i 1).val := by
  rw [val_main_v98_apply, val_main_v91_apply, val_main_v84_apply]
  refine Eq.trans ?_ (four (fun j => ws x0 x1 x2 x3 j (i 1).val) (i 0).val (i 0).isLt)
  exact congrArg₂ (· + ·) (congrArg₂ (· + ·) (congrArg₂ (· + ·)
    (among 3 _ _ (fun _ => Cert.Silu.ofBits_zero) _ _ rfl rfl _ _ i (ws x0 x1 x2 x3 0) (w76 x0 x1 x2 x3 h))
    (among 2 _ _ (fun _ => Cert.Silu.ofBits_zero) _ _ rfl rfl _ _ i (ws x0 x1 x2 x3 1) (w82 x0 x1 x2 x3 h)))
    (among 1 _ _ (fun _ => Cert.Silu.ofBits_zero) _ _ rfl rfl _ _ i (ws x0 x1 x2 x3 2) (w89 x0 x1 x2 x3 h)))
    (among 0 _ _ (fun _ => Cert.Silu.ofBits_zero) _ _ rfl rfl _ _ i (ws x0 x1 x2 x3 3) (w96 x0 x1 x2 x3 h))

end Ref

end Cert.ConvPreEq

end
-- ==== Proof.ActFinite.lean ====
/-
  WHAT THE CONDITION SAYS: every element of the activation's cotangent is a real number.
-/
module

public import proofs.«01_k».proof.Proof.AttnEq
public import proofs.«01_k».proof.Proof.Gen.Pre_act_finite

@[expose] public section

noncomputable section

namespace Cert.ActFinite

open Idealize.ShloMosaic Idealize.ShloMosaic.ValueIdx
open Cert.Row (IsReal)

theorem read (u : FVec Ideal ⟨2, ![8192, 5120]⟩ .f32) (w : FVec Ideal ⟨2, ![4, 5120]⟩ .f32) (b : FVec Ideal ⟨1, ![5120]⟩ .f32)
    (d : FVec Ideal ⟨2, ![8192, 5120]⟩ .f32) (h : Cert.Pre_act_finite.fn (F := Ideal) u w b d = fun _ => 1#1) (i) : IsReal (d i) :=
  Cert.Mix.real_of_abs (Host.reduce_andi_all _ _ _ _ _ (congrFun h (Shape.Idx.first Cert.Pre_act_finite.Gen.h_S_)) i)

end Cert.ActFinite

end
-- ==== Proof.lean ====
/-
  THE CLAIMS OF THE CERTIFICATE, each from its own module: the gradient of the memory attention (MemRow … MemEq), and the layers'
  products with their gradients in the rows and in the weight (ProdRow, ProdIn … ProdDwB). Here every run is put together with its
  value, and the claims are collected in the order of `Cert.Claim`.
-/
module

public import proofs.«01_k».proof.Defs
public import proofs.«01_k».proof.Proof.Gen.KernelIdeal.Value
public import proofs.«01_k».proof.Proof.Gen.InIdeal.Value
public import proofs.«01_k».proof.Proof.Gen.InRefIdeal.Run
public import proofs.«01_k».proof.Proof.Gen.InRefIdeal.Read
public import proofs.«01_k».proof.Proof.Gen.InBIdeal.Value
public import proofs.«01_k».proof.Proof.Gen.InBRefIdeal.Run
public import proofs.«01_k».proof.Proof.Gen.InBRefIdeal.Read
public import proofs.«01_k».proof.Proof.Gen.DhIdeal.Value
public import proofs.«01_k».proof.Proof.Gen.DhRefIdeal.Run
public import proofs.«01_k».proof.Proof.Gen.DhRefIdeal.Read
public import proofs.«01_k».proof.Proof.Gen.DhBIdeal.Value
public import proofs.«01_k».proof.Proof.Gen.DhBRefIdeal.Run
public import proofs.«01_k».proof.Proof.Gen.DhBRefIdeal.Read
public import proofs.«01_k».proof.Proof.Gen.DwIdeal.Value
public import proofs.«01_k».proof.Proof.Gen.DwRefIdeal.Run
public import proofs.«01_k».proof.Proof.Gen.DwRefIdeal.Read
public import proofs.«01_k».proof.Proof.Gen.DwBIdeal.Value
public import proofs.«01_k».proof.Proof.Gen.DwBRefIdeal.Run
public import proofs.«01_k».proof.Proof.Gen.DwBRefIdeal.Read
public import proofs.«01_k».proof.Proof.Gen.ReferenceIdeal.Run
public import proofs.«01_k».proof.Proof.Gen.ReferenceIdeal.Read
public import proofs.«01_k».proof.Proof.Gen.Pre_scores_finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.In
public import proofs.«01_k».proof.Proof.Gen.In.Frame
public import proofs.«01_k».proof.Proof.Gen.InB
public import proofs.«01_k».proof.Proof.Gen.InB.Frame
public import proofs.«01_k».proof.Proof.Gen.Dh
public import proofs.«01_k».proof.Proof.Gen.Dh.Frame
public import proofs.«01_k».proof.Proof.Gen.DhB
public import proofs.«01_k».proof.Proof.Gen.DhB.Frame
public import proofs.«01_k».proof.Proof.Gen.Dw
public import proofs.«01_k».proof.Proof.Gen.Dw.Frame
public import proofs.«01_k».proof.Proof.Gen.DwB
public import proofs.«01_k».proof.Proof.Gen.DwB.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Attn.Frame
public import proofs.«01_k».proof.Proof.Gen.Pre_inputs_finite
public import proofs.«01_k».proof.Proof.Gen.Pre_gate_finite
public import proofs.«01_k».proof.Proof.Gen.Pre_gate_mem_finite
public import proofs.«01_k».proof.Proof.Gen.OutTok.Frame
public import proofs.«01_k».proof.Proof.Gen.OutTokIdeal.Value
public import proofs.«01_k».proof.Proof.Gen.OutTokRefIdeal.Run
public import proofs.«01_k».proof.Proof.Gen.OutTokRefIdeal.Read
public import proofs.«01_k».proof.Proof.Gen.GateTok.Frame
public import proofs.«01_k».proof.Proof.Gen.GateTokIdeal.Value
public import proofs.«01_k».proof.Proof.Gen.GateTokRefIdeal.Run
public import proofs.«01_k».proof.Proof.Gen.GateTokRefIdeal.Read
public import proofs.«01_k».proof.Proof.Gen.DwOut.Frame
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.InXbc.Frame
public import proofs.«01_k».proof.Proof.Gen.InXbcIdeal.Value
public import proofs.«01_k».proof.Proof.Gen.InXbcRefIdeal.Run
public import proofs.«01_k».proof.Proof.Gen.InXbcRefIdeal.Read
public import proofs.«01_k».proof.Proof.Gen.DhXbc.Frame
public import proofs.«01_k».proof.Proof.Gen.DhXbcIdeal.Value
public import proofs.«01_k».proof.Proof.Gen.DhXbcRefIdeal.Run
public import proofs.«01_k».proof.Proof.Gen.DhXbcRefIdeal.Read
public import proofs.«01_k».proof.Proof.Gen.DwXbc.Frame
public import proofs.«01_k».proof.Proof.Gen.DwXbcIdeal.Value
public import proofs.«01_k».proof.Proof.Gen.DwXbcRefIdeal.Run
public import proofs.«01_k».proof.Proof.Gen.DwXbcRefIdeal.Read
public import proofs.«01_k».proof.Proof.Gen.DhFirst.Frame
public import proofs.«01_k».proof.Proof.Gen.DhFirstIdeal.Value
public import proofs.«01_k».proof.Proof.Gen.DhFirstRefIdeal.Run
public import proofs.«01_k».proof.Proof.Gen.DhFirstRefIdeal.Read
public import proofs.«01_k».proof.Proof.Gen.InMem.Frame
public import proofs.«01_k».proof.Proof.Gen.InMemIdeal.Value
public import proofs.«01_k».proof.Proof.Gen.InMemRefIdeal.Run
public import proofs.«01_k».proof.Proof.Gen.InMemRefIdeal.Read
public import proofs.«01_k».proof.Proof.Gen.InMemB.Frame
public import proofs.«01_k».proof.Proof.Gen.InMemBIdeal.Value
public import proofs.«01_k».proof.Proof.Gen.InMemBRefIdeal.Run
public import proofs.«01_k».proof.Proof.Gen.InMemBRefIdeal.Read
public import proofs.«01_k».proof.Proof.Gen.DhMem.Frame
public import proofs.«01_k».proof.Proof.Gen.DhMemIdeal.Value
public import proofs.«01_k».proof.Proof.Gen.DhMemRefIdeal.Run
public import proofs.«01_k».proof.Proof.Gen.DhMemRefIdeal.Read
public import proofs.«01_k».proof.Proof.Gen.DwMem.Frame
public import proofs.«01_k».proof.Proof.Gen.DwMemIdeal.Value
public import proofs.«01_k».proof.Proof.Gen.DwMemRefIdeal.Run
public import proofs.«01_k».proof.Proof.Gen.DwMemRefIdeal.Read
public import proofs.«01_k».proof.Proof.Gen.OutMem.Frame
public import proofs.«01_k».proof.Proof.Gen.OutMemIdeal.Value
public import proofs.«01_k».proof.Proof.Gen.OutMemRefIdeal.Run
public import proofs.«01_k».proof.Proof.Gen.OutMemRefIdeal.Read
public import proofs.«01_k».proof.Proof.Gen.GateMem.Frame
public import proofs.«01_k».proof.Proof.Gen.GateMemIdeal.Value
public import proofs.«01_k».proof.Proof.Gen.GateMemRefIdeal.Run
public import proofs.«01_k».proof.Proof.Gen.GateMemRefIdeal.Read
public import proofs.«01_k».proof.Proof.Gen.GateTokBIdeal.Value
public import proofs.«01_k».proof.Proof.Gen.GateTokB.Frame
public import proofs.«01_k».proof.Proof.Gen.GateTokBRefIdeal.Run
public import proofs.«01_k».proof.Proof.Gen.GateTokBRefIdeal.Read
public import proofs.«01_k».proof.Proof.Gen.GateMemBIdeal.Value
public import proofs.«01_k».proof.Proof.Gen.GateMemB.Frame
public import proofs.«01_k».proof.Proof.Gen.GateMemBRefIdeal.Run
public import proofs.«01_k».proof.Proof.Gen.GateMemBRefIdeal.Read
public import proofs.«01_k».proof.Proof.Gen.ConvBIdeal.Value
public import proofs.«01_k».proof.Proof.Gen.ConvB.Frame
public import proofs.«01_k».proof.Proof.Gen.ConvBRefIdeal.Run
public import proofs.«01_k».proof.Proof.Gen.ConvBRefIdeal.Read
public import proofs.«01_k».proof.Proof.Gen.NormIdeal.Value
public import proofs.«01_k».proof.Proof.Gen.Norm.Frame
public import proofs.«01_k».proof.Proof.Gen.NormRefIdeal.Run
public import proofs.«01_k».proof.Proof.Gen.NormRefIdeal.Read
public import proofs.«01_k».proof.Proof.Gen.ConvPreIdeal.Value
public import proofs.«01_k».proof.Proof.Gen.ConvPre.Frame
public import proofs.«01_k».proof.Proof.Gen.ConvPreRefIdeal.Run
public import proofs.«01_k».proof.Proof.Gen.ConvPreRefIdeal.Read
public import proofs.«01_k».proof.Proof.Gen.ConvFIdeal.Value
public import proofs.«01_k».proof.Proof.Gen.ConvF.Frame
public import proofs.«01_k».proof.Proof.Gen.ConvFRefIdeal.Run
public import proofs.«01_k».proof.Proof.Gen.ConvFRefIdeal.Read
public import proofs.«01_k».proof.Proof.Gen.GateTokFIdeal.Value
public import proofs.«01_k».proof.Proof.Gen.GateTokF.Frame
public import proofs.«01_k».proof.Proof.Gen.GateTokFRefIdeal.Run
public import proofs.«01_k».proof.Proof.Gen.GateTokFRefIdeal.Read
public import proofs.«01_k».proof.Proof.Gen.GateMemFIdeal.Value
public import proofs.«01_k».proof.Proof.Gen.GateMemF.Frame
public import proofs.«01_k».proof.Proof.Gen.GateMemFRefIdeal.Run
public import proofs.«01_k».proof.Proof.Gen.GateMemFRefIdeal.Read
public import proofs.«01_k».proof.Proof.Gen.NormFIdeal.Value
public import proofs.«01_k».proof.Proof.Gen.NormF.Frame
public import proofs.«01_k».proof.Proof.Gen.NormFRefIdeal.Run
public import proofs.«01_k».proof.Proof.Gen.NormFRefIdeal.Read
public import proofs.«01_k».proof.Proof.Gen.Pre_act_finite
public import proofs.«01_k».proof.Proof.Gen.DwOutMem.Frame
public import proofs.«01_k».proof.Proof.Gen.DwOutMemIdeal.Value
public import proofs.«01_k».proof.Proof.Gen.DwOutMemRefIdeal.Run
public import proofs.«01_k».proof.Proof.Gen.DwOutMemRefIdeal.Read
public import proofs.«01_k».proof.Proof.MemEq
public import proofs.«01_k».proof.Proof.AttnEq
public import proofs.«01_k».proof.Proof.ProdIn
public import proofs.«01_k».proof.Proof.ProdInB
public import proofs.«01_k».proof.Proof.ProdDh
public import proofs.«01_k».proof.Proof.ProdDhB
public import proofs.«01_k».proof.Proof.ProdDw
public import proofs.«01_k».proof.Proof.ProdDwB
public import proofs.«01_k».proof.Proof.ProdOutTok
public import proofs.«01_k».proof.Proof.ProdGateTok
public import proofs.«01_k».proof.Proof.ProdDwOut
public import proofs.«01_k».proof.Proof.ProdInXbc
public import proofs.«01_k».proof.Proof.ProdDhXbc
public import proofs.«01_k».proof.Proof.ProdDwXbc
public import proofs.«01_k».proof.Proof.ProdDhFirst
public import proofs.«01_k».proof.Proof.ProdInMem
public import proofs.«01_k».proof.Proof.ProdInMemB
public import proofs.«01_k».proof.Proof.ProdDhMem
public import proofs.«01_k».proof.Proof.ProdDwMem
public import proofs.«01_k».proof.Proof.ProdOutMem
public import proofs.«01_k».proof.Proof.ProdGateMem
public import proofs.«01_k».proof.Proof.ProdDwOutMem
public import proofs.«01_k».proof.Proof.GateTokBEq
public import proofs.«01_k».proof.Proof.GateMemBEq
public import proofs.«01_k».proof.Proof.ConvBEq
public import proofs.«01_k».proof.Proof.NormEq
public import proofs.«01_k».proof.Proof.GateFEq
public import proofs.«01_k».proof.Proof.NormFEq
public import proofs.«01_k».proof.Proof.ConvFEq
public import proofs.«01_k».proof.Proof.ConvPreEq
public import proofs.«01_k».proof.Proof.ActFinite
public import Idealize.ShloMosaic.Adequacy
public import Idealize.ShloMosaic.Init

@[expose] public section

noncomputable section

namespace Cert.Proof

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

/-- The reference is host operations alone: it declares no semaphore. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The shared values are the kernel's two arrays, `resQ` and `resKV`; under the precondition the reference's are the same. -/
theorem algebraic : Cert.algebraic_KernelIdeal_ReferenceIdeal_pre_scores_finite := by
  intro m ρ m' ρ' hpre hagree
  refine ⟨fun c => Cert.Mem.resQ m c, fun c => Cert.Mem.resKV m c, ?_, ?_⟩
  · exact (θ_run Cert.KernelIdeal.defs _ _).mono
      (fun _ h c => ⟨(h c).1.trans (Cert.Mem.final_q m c), (h c).2.1.trans (Cert.Mem.final_kv m c), (h c).2.2⟩)
      (Cert.KernelIdeal.Value.run_blocks (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨hq, hk⟩ := Cert.MemEq.pre_read _ _ _ (hpre c)
      rw [Cert.ReferenceIdeal.Read.val_main_v66_eq, (hagree c).1, (hagree c).2.1, (hagree c).2.2]
      exact Cert.MemEq.dq_eq _ _ _ hq hk
    · obtain ⟨hq, hk⟩ := Cert.MemEq.pre_read _ _ _ (hpre c)
      rw [Cert.ReferenceIdeal.Read.val_main_v67_eq, (hagree c).1, (hagree c).2.1, (hagree c).2.2]
      exact Cert.MemEq.dkv_eq _ _ _ hq hk

/-! ## A layer's input product. -/

theorem frame_InI : Cert.quiescent_InIdeal := fun m ρ _ => Cert.InIdeal.Gen.frame m ρ
theorem frame_In : Cert.quiescent_In := fun m ρ _ => Cert.In.Gen.frame m ρ
theorem frame_InR : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)
theorem algebraic_In : Cert.algebraic_InIdeal_InRefIdeal := by
  intro m ρ m' ρ' _ hagree
  refine ⟨fun c => Prod.nn (ProdIn.A m c) (ProdIn.B m c), ?_, ?_⟩
  · exact (θ_run Cert.InIdeal.defs _ _).mono (fun _ h c => ⟨(h c).1.trans (ProdIn.final m c), (h c).2⟩)
      (Cert.InIdeal.Value.run_blocks (F := Ideal) m ρ)
  · refine (θ_run Cert.InRefIdeal.defs _ _).mono (fun _ h c => ⟨(h c).1.trans ?_, (h c).2⟩)
      (Cert.InRefIdeal.Value.run (F := Ideal) m' ρ')
    refine Eq.trans ?_ (ProdIn.ref _ _)
    rw [Cert.InRefIdeal.Read.val_main_v2_eq, (hagree c).1, (hagree c).2]

/-! ## A layer's input product kept in sixteen bits. -/

theorem frame_InBI : Cert.quiescent_InBIdeal := fun m ρ _ => Cert.InBIdeal.Gen.frame m ρ
theorem frame_InB : Cert.quiescent_InB := fun m ρ _ => Cert.InB.Gen.frame m ρ
theorem frame_InBR : Cert.quiescent_InBRefIdeal := fun m ρ _ =>
  (θ_run Cert.InBRefIdeal.defs _ _).mono (fun r h => ⟨fun c => (h c).2, sem_eq_zero_of_no_sems (by decide) r.2⟩)
    (Cert.InBRefIdeal.Value.run (F := Ideal) m ρ)
theorem algebraic_InB : Cert.algebraic_InBIdeal_InBRefIdeal := by
  intro m ρ m' ρ' _ hagree
  refine ⟨fun c => Prod.nn (ProdInB.A m c) (ProdInB.B m c), ?_, ?_⟩
  · exact (θ_run Cert.InBIdeal.defs _ _).mono (fun _ h c => ⟨(h c).1.trans (ProdInB.final m c), (h c).2⟩)
      (Cert.InBIdeal.Value.run_blocks (F := Ideal) m ρ)
  · refine (θ_run Cert.InBRefIdeal.defs _ _).mono (fun _ h c => ⟨(h c).1.trans ?_, (h c).2⟩)
      (Cert.InBRefIdeal.Value.run (F := Ideal) m' ρ')
    refine Eq.trans ?_ (ProdInB.ref _ _)
    rw [Cert.InBRefIdeal.Read.val_main_v3_eq, (hagree c).1, (hagree c).2]

/-! ## Its gradient in the rows, added to what was there. -/

theorem frame_DhI : Cert.quiescent_DhIdeal := fun m ρ _ => Cert.DhIdeal.Gen.frame m ρ
theorem frame_Dh : Cert.quiescent_Dh := fun m ρ _ => Cert.Dh.Gen.frame m ρ
theorem frame_DhR : Cert.quiescent_DhRefIdeal := fun m ρ _ =>
  (θ_run Cert.DhRefIdeal.defs _ _).mono (fun r h => ⟨fun c => (h c).2, sem_eq_zero_of_no_sems (by decide) r.2⟩)
    (Cert.DhRefIdeal.Value.run (F := Ideal) m ρ)
theorem algebraic_Dh : Cert.algebraic_DhIdeal_DhRefIdeal := by
  intro m ρ m' ρ' _ hagree
  refine ⟨fun c => ProdDh.res (ProdDh.A m c) (ProdDh.B m c) (ProdDh.Z m c), ?_, ?_⟩
  · exact (θ_run Cert.DhIdeal.defs _ _).mono (fun _ h c => ⟨(h c).1.trans (ProdDh.final m c), (h c).2⟩)
      (Cert.DhIdeal.Value.run_blocks (F := Ideal) m ρ)
  · refine (θ_run Cert.DhRefIdeal.defs _ _).mono (fun _ h c => ⟨(h c).1.trans ?_, (h c).2⟩)
      (Cert.DhRefIdeal.Value.run (F := Ideal) m' ρ')
    refine Eq.trans ?_ (ProdDh.ref _ _ _)
    rw [Cert.DhRefIdeal.Read.val_main_v4_eq, (hagree c).1, (hagree c).2.1, (hagree c).2.2]

/-! ## The same of a cotangent kept in sixteen bits. -/

theorem frame_DhBI : Cert.quiescent_DhBIdeal := fun m ρ _ => Cert.DhBIdeal.Gen.frame m ρ
theorem frame_DhB : Cert.quiescent_DhB := fun m ρ _ => Cert.DhB.Gen.frame m ρ
theorem frame_DhBR : Cert.quiescent_DhBRefIdeal := fun m ρ _ =>
  (θ_run Cert.DhBRefIdeal.defs _ _).mono (fun r h => ⟨fun c => (h c).2, sem_eq_zero_of_no_sems (by decide) r.2⟩)
    (Cert.DhBRefIdeal.Value.run (F := Ideal) m ρ)
theorem algebraic_DhB : Cert.algebraic_DhBIdeal_DhBRefIdeal := by
  intro m ρ m' ρ' _ hagree
  refine ⟨fun c => ProdDhB.res (ProdDhB.A m c) (ProdDhB.B m c) (ProdDhB.Z m c), ?_, ?_⟩
  · exact (θ_run Cert.DhBIdeal.defs _ _).mono (fun _ h c => ⟨(h c).1.trans (ProdDhB.final m c), (h c).2⟩)
      (Cert.DhBIdeal.Value.run_blocks (F := Ideal) m ρ)
  · refine (θ_run Cert.DhBRefIdeal.defs _ _).mono (fun _ h c => ⟨(h c).1.trans ?_, (h c).2⟩)
      (Cert.DhBRefIdeal.Value.run (F := Ideal) m' ρ')
    refine Eq.trans ?_ (ProdDhB.ref _ _ _)
    rw [Cert.DhBRefIdeal.Read.val_main_v5_eq, (hagree c).1, (hagree c).2.1, (hagree c).2.2]

/-! ## Its gradient in the weight. -/

theorem frame_DwI : Cert.quiescent_DwIdeal := fun m ρ _ => Cert.DwIdeal.Gen.frame m ρ
theorem frame_Dw : Cert.quiescent_Dw := fun m ρ _ => Cert.Dw.Gen.frame m ρ
theorem frame_DwR : Cert.quiescent_DwRefIdeal := fun m ρ _ =>
  (θ_run Cert.DwRefIdeal.defs _ _).mono (fun r h => ⟨fun c => (h c).2, sem_eq_zero_of_no_sems (by decide) r.2⟩)
    (Cert.DwRefIdeal.Value.run (F := Ideal) m ρ)
theorem algebraic_Dw : Cert.algebraic_DwIdeal_DwRefIdeal := by
  intro m ρ m' ρ' _ hagree
  refine ⟨fun c => Prod.tn (ProdDw.A m c) (ProdDw.B m c), ?_, ?_⟩
  · exact (θ_run Cert.DwIdeal.defs _ _).mono (fun _ h c => ⟨(h c).1.trans (ProdDw.final m c), (h c).2⟩)
      (Cert.DwIdeal.Value.run_blocks (F := Ideal) m ρ)
  · refine (θ_run Cert.DwRefIdeal.defs _ _).mono (fun _ h c => ⟨(h c).1.trans ?_, (h c).2⟩)
      (Cert.DwRefIdeal.Value.run (F := Ideal) m' ρ')
    refine Eq.trans ?_ (ProdDw.ref _ _)
    rw [Cert.DwRefIdeal.Read.val_main_v5_eq, (hagree c).1, (hagree c).2]

/-! ## The same of a cotangent kept in sixteen bits. -/

theorem frame_DwBI : Cert.quiescent_DwBIdeal := fun m ρ _ => Cert.DwBIdeal.Gen.frame m ρ
theorem frame_DwB : Cert.quiescent_DwB := fun m ρ _ => Cert.DwB.Gen.frame m ρ
theorem frame_DwBR : Cert.quiescent_DwBRefIdeal := fun m ρ _ =>
  (θ_run Cert.DwBRefIdeal.defs _ _).mono (fun r h => ⟨fun c => (h c).2, sem_eq_zero_of_no_sems (by decide) r.2⟩)
    (Cert.DwBRefIdeal.Value.run (F := Ideal) m ρ)
theorem algebraic_DwB : Cert.algebraic_DwBIdeal_DwBRefIdeal := by
  intro m ρ m' ρ' _ hagree
  refine ⟨fun c => Prod.tn (ProdDwB.A m c) (ProdDwB.B m c), ?_, ?_⟩
  · exact (θ_run Cert.DwBIdeal.defs _ _).mono (fun _ h c => ⟨(h c).1.trans (ProdDwB.final m c), (h c).2⟩)
      (Cert.DwBIdeal.Value.run_blocks (F := Ideal) m ρ)
  · refine (θ_run Cert.DwBRefIdeal.defs _ _).mono (fun _ h c => ⟨(h c).1.trans ?_, (h c).2⟩)
      (Cert.DwBRefIdeal.Value.run (F := Ideal) m' ρ')
    refine Eq.trans ?_ (ProdDwB.ref _ _)
    rw [Cert.DwBRefIdeal.Read.val_main_v6_eq, (hagree c).1, (hagree c).2]

/-! ## The gradient of the windowed attention. -/

theorem frame_AttnI : Cert.quiescent_AttnIdeal := fun m ρ _ => Cert.AttnIdeal.Gen.frame m ρ
theorem frame_Attn : Cert.quiescent_Attn := fun m ρ _ => Cert.Attn.Gen.frame m ρ
theorem frame_AttnR : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)
theorem preserves_Attn : Cert.preserves_Attn_AttnIdeal :=
  IdealRules.named_const.statement Cert.AttnIdeal.κ "mask" .f32 0xF149F2CA#32 ⊥ rfl

/-- The shared values are the kernel's three arrays, its flash form of the gradients; under the precondition the reference's are the same. -/
theorem algebraic_Attn : Cert.algebraic_AttnIdeal_AttnRefIdeal_pre_inputs_finite := by
  intro m ρ m' ρ' hpre hagree
  refine ⟨fun c => Cert.Dil.resDq m c, fun c => Cert.Dil.resDk m c, fun c => Cert.Dil.resDv m c, ?_, ?_⟩
  · exact (θ_run Cert.AttnIdeal.defs _ _).mono
      (fun _ h c => ⟨(h c).1.trans (Cert.Dil.finalDq m c), (h c).2.1.trans (Cert.Dil.finalDk m c), (h c).2.2.1.trans (Cert.Dil.finalDv m c), (h c).2.2.2⟩)
      (Cert.AttnIdeal.Value.run_blocks (F := Ideal) m ρ)
  · refine (θ_run Cert.AttnRefIdeal.defs _ _).mono (fun _ h c => ?_) (Cert.AttnRefIdeal.Value.run (F := Ideal) m' ρ')
    obtain ⟨D, H⟩ := Cert.Mix.pre_read _ _ _ _ _ _ _ _ (hpre c)
    obtain ⟨a0, a1, a2, a3, a4, a5, a6, a7⟩ := hagree c
    refine ⟨(h c).1.trans ?_, (h c).2.1.trans ?_, (h c).2.2.1.trans ?_, (h c).2.2.2⟩
    · rw [Cert.AttnRefIdeal.Read.val_main_v186_eq]
      exact (congr (congr (congr (congr (congr (congr (congr (congrArg Cert.AttnRefIdeal.Read.val_main_v186 a0) a1) a2) a3) a4) a5) a6) a7).trans (Cert.Mix.resDq_of m c H).symm
    · rw [Cert.AttnRefIdeal.Read.val_main_v184_eq]
      exact (congr (congr (congr (congr (congr (congr (congr (congrArg Cert.AttnRefIdeal.Read.val_main_v184 a0) a1) a2) a3) a4) a5) a6) a7).trans (Cert.Mix.resDk_of m c H).symm
    · rw [Cert.AttnRefIdeal.Read.val_main_v182_eq]
      exact (congr (congr (congr (congr (congrArg Cert.AttnRefIdeal.Read.val_main_v182 a0) a1) a4) a6) a7).trans (Cert.Mix.resDv_of m c H).symm

/-! ## The output product, added to the residual. -/

theorem frame_OutTokI : Cert.quiescent_OutTokIdeal := fun m ρ _ => Cert.OutTokIdeal.Gen.frame m ρ
theorem frame_OutTok : Cert.quiescent_OutTok := fun m ρ _ => Cert.OutTok.Gen.frame m ρ
theorem frame_OutTokR : Cert.quiescent_OutTokRefIdeal := fun m ρ _ =>
  (θ_run Cert.OutTokRefIdeal.defs _ _).mono (fun r h => ⟨fun c => (h c).2, sem_eq_zero_of_no_sems (by decide) r.2⟩)
    (Cert.OutTokRefIdeal.Value.run (F := Ideal) m ρ)
theorem algebraic_OutTok : Cert.algebraic_OutTokIdeal_OutTokRefIdeal := by
  intro m ρ m' ρ' _ hagree
  refine ⟨fun c i => ProdOutTok.Z m c i + Prod.nn (ProdOutTok.A m c) (ProdOutTok.B m c) i, ?_, ?_⟩
  · exact (θ_run Cert.OutTokIdeal.defs _ _).mono (fun _ h c => ⟨(h c).1.trans (ProdOutTok.final m c), (h c).2⟩)
      (Cert.OutTokIdeal.Value.run_blocks (F := Ideal) m ρ)
  · refine (θ_run Cert.OutTokRefIdeal.defs _ _).mono (fun _ h c => ⟨(h c).1.trans ?_, (h c).2⟩)
      (Cert.OutTokRefIdeal.Value.run (F := Ideal) m' ρ')
    refine Eq.trans ?_ (ProdOutTok.ref _ _ _)
    rw [Cert.OutTokRefIdeal.Read.val_main_v3_eq, (hagree c).1, (hagree c).2.1, (hagree c).2.2]

/-! ## Its gradient in the gated rows. -/

theorem frame_GateTokI : Cert.quiescent_GateTokIdeal := fun m ρ _ => Cert.GateTokIdeal.Gen.frame m ρ
theorem frame_GateTok : Cert.quiescent_GateTok := fun m ρ _ => Cert.GateTok.Gen.frame m ρ
theorem frame_GateTokR : Cert.quiescent_GateTokRefIdeal := fun m ρ _ =>
  (θ_run Cert.GateTokRefIdeal.defs _ _).mono (fun r h => ⟨fun c => (h c).2, sem_eq_zero_of_no_sems (by decide) r.2⟩)
    (Cert.GateTokRefIdeal.Value.run (F := Ideal) m ρ)
theorem algebraic_GateTok : Cert.algebraic_GateTokIdeal_GateTokRefIdeal := by
  intro m ρ m' ρ' _ hagree
  refine ⟨fun c => Prod.nt (ProdGateTok.A m c) (ProdGateTok.B m c), ?_, ?_⟩
  · exact (θ_run Cert.GateTokIdeal.defs _ _).mono (fun _ h c => ⟨(h c).1.trans (ProdGateTok.final m c), (h c).2⟩)
      (Cert.GateTokIdeal.Value.run_blocks (F := Ideal) m ρ)
  · refine (θ_run Cert.GateTokRefIdeal.defs _ _).mono (fun _ h c => ⟨(h c).1.trans ?_, (h c).2⟩)
      (Cert.GateTokRefIdeal.Value.run (F := Ideal) m' ρ')
    refine Eq.trans ?_ (ProdGateTok.ref _ _)
    rw [Cert.GateTokRefIdeal.Read.val_main_v4_eq, (hagree c).1, (hagree c).2]

/-! ## Its gradient in the weight. -/

theorem frame_DwOutI : Cert.quiescent_DwOutIdeal := fun m ρ _ => Cert.DwOutIdeal.Gen.frame m ρ
theorem frame_DwOut : Cert.quiescent_DwOut := fun m ρ _ => Cert.DwOut.Gen.frame m ρ
theorem frame_DwOutR : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)
theorem algebraic_DwOut : Cert.algebraic_DwOutIdeal_DwOutRefIdeal := by
  intro m ρ m' ρ' _ hagree
  refine ⟨fun c => Prod.tn (ProdDwOut.A m c) (ProdDwOut.B m c), ?_, ?_⟩
  · exact (θ_run Cert.DwOutIdeal.defs _ _).mono (fun _ h c => ⟨(h c).1.trans (ProdDwOut.final m c), (h c).2⟩)
      (Cert.DwOutIdeal.Value.run_blocks (F := Ideal) m ρ)
  · refine (θ_run Cert.DwOutRefIdeal.defs _ _).mono (fun _ h c => ⟨(h c).1.trans ?_, (h c).2⟩)
      (Cert.DwOutRefIdeal.Value.run (F := Ideal) m' ρ')
    refine Eq.trans ?_ (ProdDwOut.ref _ _)
    rw [Cert.DwOutRefIdeal.Read.val_main_v6_eq, (hagree c).1, (hagree c).2]

/-! ## The input product of the state-space layer's convolved part. -/

theorem frame_InXbcI : Cert.quiescent_InXbcIdeal := fun m ρ _ => Cert.InXbcIdeal.Gen.frame m ρ
theorem frame_InXbc : Cert.quiescent_InXbc := fun m ρ _ => Cert.InXbc.Gen.frame m ρ
theorem frame_InXbcR : Cert.quiescent_InXbcRefIdeal := fun m ρ _ =>
  (θ_run Cert.InXbcRefIdeal.defs _ _).mono (fun r h => ⟨fun c => (h c).2, sem_eq_zero_of_no_sems (by decide) r.2⟩)
    (Cert.InXbcRefIdeal.Value.run (F := Ideal) m ρ)
theorem algebraic_InXbc : Cert.algebraic_InXbcIdeal_InXbcRefIdeal := by
  intro m ρ m' ρ' _ hagree
  refine ⟨fun c => Prod.nn (ProdInXbc.A m c) (ProdInXbc.B m c), ?_, ?_⟩
  · exact (θ_run Cert.InXbcIdeal.defs _ _).mono (fun _ h c => ⟨(h c).1.trans (ProdInXbc.final m c), (h c).2⟩)
      (Cert.InXbcIdeal.Value.run_blocks (F := Ideal) m ρ)
  · refine (θ_run Cert.InXbcRefIdeal.defs _ _).mono (fun _ h c => ⟨(h c).1.trans ?_, (h c).2⟩)
      (Cert.InXbcRefIdeal.Value.run (F := Ideal) m' ρ')
    refine Eq.trans ?_ (ProdInXbc.ref _ _)
    rw [Cert.InXbcRefIdeal.Read.val_main_v2_eq, (hagree c).1, (hagree c).2]

/-! ## Its gradient in the rows. -/

theorem frame_DhXbcI : Cert.quiescent_DhXbcIdeal := fun m ρ _ => Cert.DhXbcIdeal.Gen.frame m ρ
theorem frame_DhXbc : Cert.quiescent_DhXbc := fun m ρ _ => Cert.DhXbc.Gen.frame m ρ
theorem frame_DhXbcR : Cert.quiescent_DhXbcRefIdeal := fun m ρ _ =>
  (θ_run Cert.DhXbcRefIdeal.defs _ _).mono (fun r h => ⟨fun c => (h c).2, sem_eq_zero_of_no_sems (by decide) r.2⟩)
    (Cert.DhXbcRefIdeal.Value.run (F := Ideal) m ρ)
theorem algebraic_DhXbc : Cert.algebraic_DhXbcIdeal_DhXbcRefIdeal := by
  intro m ρ m' ρ' _ hagree
  refine ⟨fun c => Prod.nt (ProdDhXbc.A m c) (ProdDhXbc.B m c), ?_, ?_⟩
  · exact (θ_run Cert.DhXbcIdeal.defs _ _).mono (fun _ h c => ⟨(h c).1.trans (ProdDhXbc.final m c), (h c).2⟩)
      (Cert.DhXbcIdeal.Value.run_blocks (F := Ideal) m ρ)
  · refine (θ_run Cert.DhXbcRefIdeal.defs _ _).mono (fun _ h c => ⟨(h c).1.trans ?_, (h c).2⟩)
      (Cert.DhXbcRefIdeal.Value.run (F := Ideal) m' ρ')
    refine Eq.trans ?_ (ProdDhXbc.ref _ _)
    rw [Cert.DhXbcRefIdeal.Read.val_main_v4_eq, (hagree c).1, (hagree c).2]

/-! ## Its gradient in the weight. -/

theorem frame_DwXbcI : Cert.quiescent_DwXbcIdeal := fun m ρ _ => Cert.DwXbcIdeal.Gen.frame m ρ
theorem frame_DwXbc : Cert.quiescent_DwXbc := fun m ρ _ => Cert.DwXbc.Gen.frame m ρ
theorem frame_DwXbcR : Cert.quiescent_DwXbcRefIdeal := fun m ρ _ =>
  (θ_run Cert.DwXbcRefIdeal.defs _ _).mono (fun r h => ⟨fun c => (h c).2, sem_eq_zero_of_no_sems (by decide) r.2⟩)
    (Cert.DwXbcRefIdeal.Value.run (F := Ideal) m ρ)
theorem algebraic_DwXbc : Cert.algebraic_DwXbcIdeal_DwXbcRefIdeal := by
  intro m ρ m' ρ' _ hagree
  refine ⟨fun c => Prod.tn (ProdDwXbc.A m c) (ProdDwXbc.B m c), ?_, ?_⟩
  · exact (θ_run Cert.DwXbcIdeal.defs _ _).mono (fun _ h c => ⟨(h c).1.trans (ProdDwXbc.final m c), (h c).2⟩)
      (Cert.DwXbcIdeal.Value.run_blocks (F := Ideal) m ρ)
  · refine (θ_run Cert.DwXbcRefIdeal.defs _ _).mono (fun _ h c => ⟨(h c).1.trans ?_, (h c).2⟩)
      (Cert.DwXbcRefIdeal.Value.run (F := Ideal) m' ρ')
    refine Eq.trans ?_ (ProdDwXbc.ref _ _)
    rw [Cert.DwXbcRefIdeal.Read.val_main_v6_eq, (hagree c).1, (hagree c).2]

/-! ## A layer's first gradient in the rows. -/

theorem frame_DhFirstI : Cert.quiescent_DhFirstIdeal := fun m ρ _ => Cert.DhFirstIdeal.Gen.frame m ρ
theorem frame_DhFirst : Cert.quiescent_DhFirst := fun m ρ _ => Cert.DhFirst.Gen.frame m ρ
theorem frame_DhFirstR : Cert.quiescent_DhFirstRefIdeal := fun m ρ _ =>
  (θ_run Cert.DhFirstRefIdeal.defs _ _).mono (fun r h => ⟨fun c => (h c).2, sem_eq_zero_of_no_sems (by decide) r.2⟩)
    (Cert.DhFirstRefIdeal.Value.run (F := Ideal) m ρ)
theorem algebraic_DhFirst : Cert.algebraic_DhFirstIdeal_DhFirstRefIdeal := by
  intro m ρ m' ρ' _ hagree
  refine ⟨fun c => Prod.nt (ProdDhFirst.A m c) (ProdDhFirst.B m c), ?_, ?_⟩
  · exact (θ_run Cert.DhFirstIdeal.defs _ _).mono (fun _ h c => ⟨(h c).1.trans (ProdDhFirst.final m c), (h c).2⟩)
      (Cert.DhFirstIdeal.Value.run_blocks (F := Ideal) m ρ)
  · refine (θ_run Cert.DhFirstRefIdeal.defs _ _).mono (fun _ h c => ⟨(h c).1.trans ?_, (h c).2⟩)
      (Cert.DhFirstRefIdeal.Value.run (F := Ideal) m' ρ')
    refine Eq.trans ?_ (ProdDhFirst.ref _ _)
    rw [Cert.DhFirstRefIdeal.Read.val_main_v4_eq, (hagree c).1, (hagree c).2]

/-! ## The input product of the memory's gate. -/

theorem frame_InMemI : Cert.quiescent_InMemIdeal := fun m ρ _ => Cert.InMemIdeal.Gen.frame m ρ
theorem frame_InMem : Cert.quiescent_InMem := fun m ρ _ => Cert.InMem.Gen.frame m ρ
theorem frame_InMemR : Cert.quiescent_InMemRefIdeal := fun m ρ _ =>
  (θ_run Cert.InMemRefIdeal.defs _ _).mono (fun r h => ⟨fun c => (h c).2, sem_eq_zero_of_no_sems (by decide) r.2⟩)
    (Cert.InMemRefIdeal.Value.run (F := Ideal) m ρ)
theorem algebraic_InMem : Cert.algebraic_InMemIdeal_InMemRefIdeal := by
  intro m ρ m' ρ' _ hagree
  refine ⟨fun c => Prod.nn (ProdInMem.A m c) (ProdInMem.B m c), ?_, ?_⟩
  · exact (θ_run Cert.InMemIdeal.defs _ _).mono (fun _ h c => ⟨(h c).1.trans (ProdInMem.final m c), (h c).2⟩)
      (Cert.InMemIdeal.Value.run_blocks (F := Ideal) m ρ)
  · refine (θ_run Cert.InMemRefIdeal.defs _ _).mono (fun _ h c => ⟨(h c).1.trans ?_, (h c).2⟩)
      (Cert.InMemRefIdeal.Value.run (F := Ideal) m' ρ')
    refine Eq.trans ?_ (ProdInMem.ref _ _)
    rw [Cert.InMemRefIdeal.Read.val_main_v2_eq, (hagree c).1, (hagree c).2]

/-! ## The input product of the memory's queries. -/

theorem frame_InMemBI : Cert.quiescent_InMemBIdeal := fun m ρ _ => Cert.InMemBIdeal.Gen.frame m ρ
theorem frame_InMemB : Cert.quiescent_InMemB := fun m ρ _ => Cert.InMemB.Gen.frame m ρ
theorem frame_InMemBR : Cert.quiescent_InMemBRefIdeal := fun m ρ _ =>
  (θ_run Cert.InMemBRefIdeal.defs _ _).mono (fun r h => ⟨fun c => (h c).2, sem_eq_zero_of_no_sems (by decide) r.2⟩)
    (Cert.InMemBRefIdeal.Value.run (F := Ideal) m ρ)
theorem algebraic_InMemB : Cert.algebraic_InMemBIdeal_InMemBRefIdeal := by
  intro m ρ m' ρ' _ hagree
  refine ⟨fun c => Prod.nn (ProdInMemB.A m c) (ProdInMemB.B m c), ?_, ?_⟩
  · exact (θ_run Cert.InMemBIdeal.defs _ _).mono (fun _ h c => ⟨(h c).1.trans (ProdInMemB.final m c), (h c).2⟩)
      (Cert.InMemBIdeal.Value.run_blocks (F := Ideal) m ρ)
  · refine (θ_run Cert.InMemBRefIdeal.defs _ _).mono (fun _ h c => ⟨(h c).1.trans ?_, (h c).2⟩)
      (Cert.InMemBRefIdeal.Value.run (F := Ideal) m' ρ')
    refine Eq.trans ?_ (ProdInMemB.ref _ _)
    rw [Cert.InMemBRefIdeal.Read.val_main_v3_eq, (hagree c).1, (hagree c).2]

/-! ## The gradient of either in the rows. -/

theorem frame_DhMemI : Cert.quiescent_DhMemIdeal := fun m ρ _ => Cert.DhMemIdeal.Gen.frame m ρ
theorem frame_DhMem : Cert.quiescent_DhMem := fun m ρ _ => Cert.DhMem.Gen.frame m ρ
theorem frame_DhMemR : Cert.quiescent_DhMemRefIdeal := fun m ρ _ =>
  (θ_run Cert.DhMemRefIdeal.defs _ _).mono (fun r h => ⟨fun c => (h c).2, sem_eq_zero_of_no_sems (by decide) r.2⟩)
    (Cert.DhMemRefIdeal.Value.run (F := Ideal) m ρ)
theorem algebraic_DhMem : Cert.algebraic_DhMemIdeal_DhMemRefIdeal := by
  intro m ρ m' ρ' _ hagree
  refine ⟨fun c i => ProdDhMem.Z m c i + Prod.nt (ProdDhMem.A m c) (ProdDhMem.B m c) i, ?_, ?_⟩
  · exact (θ_run Cert.DhMemIdeal.defs _ _).mono (fun _ h c => ⟨(h c).1.trans (ProdDhMem.final m c), (h c).2⟩)
      (Cert.DhMemIdeal.Value.run_blocks (F := Ideal) m ρ)
  · refine (θ_run Cert.DhMemRefIdeal.defs _ _).mono (fun _ h c => ⟨(h c).1.trans ?_, (h c).2⟩)
      (Cert.DhMemRefIdeal.Value.run (F := Ideal) m' ρ')
    refine Eq.trans ?_ (ProdDhMem.ref _ _ _)
    rw [Cert.DhMemRefIdeal.Read.val_main_v5_eq, (hagree c).1, (hagree c).2.1, (hagree c).2.2]

/-! ## The gradient of either in the weight. -/

theorem frame_DwMemI : Cert.quiescent_DwMemIdeal := fun m ρ _ => Cert.DwMemIdeal.Gen.frame m ρ
theorem frame_DwMem : Cert.quiescent_DwMem := fun m ρ _ => Cert.DwMem.Gen.frame m ρ
theorem frame_DwMemR : Cert.quiescent_DwMemRefIdeal := fun m ρ _ =>
  (θ_run Cert.DwMemRefIdeal.defs _ _).mono (fun r h => ⟨fun c => (h c).2, sem_eq_zero_of_no_sems (by decide) r.2⟩)
    (Cert.DwMemRefIdeal.Value.run (F := Ideal) m ρ)
theorem algebraic_DwMem : Cert.algebraic_DwMemIdeal_DwMemRefIdeal := by
  intro m ρ m' ρ' _ hagree
  refine ⟨fun c => Prod.tn (ProdDwMem.A m c) (ProdDwMem.B m c), ?_, ?_⟩
  · exact (θ_run Cert.DwMemIdeal.defs _ _).mono (fun _ h c => ⟨(h c).1.trans (ProdDwMem.final m c), (h c).2⟩)
      (Cert.DwMemIdeal.Value.run_blocks (F := Ideal) m ρ)
  · refine (θ_run Cert.DwMemRefIdeal.defs _ _).mono (fun _ h c => ⟨(h c).1.trans ?_, (h c).2⟩)
      (Cert.DwMemRefIdeal.Value.run (F := Ideal) m' ρ')
    refine Eq.trans ?_ (ProdDwMem.ref _ _)
    rw [Cert.DwMemRefIdeal.Read.val_main_v6_eq, (hagree c).1, (hagree c).2]

/-! ## The output product of the memory's gated rows. -/

theorem frame_OutMemI : Cert.quiescent_OutMemIdeal := fun m ρ _ => Cert.OutMemIdeal.Gen.frame m ρ
theorem frame_OutMem : Cert.quiescent_OutMem := fun m ρ _ => Cert.OutMem.Gen.frame m ρ
theorem frame_OutMemR : Cert.quiescent_OutMemRefIdeal := fun m ρ _ =>
  (θ_run Cert.OutMemRefIdeal.defs _ _).mono (fun r h => ⟨fun c => (h c).2, sem_eq_zero_of_no_sems (by decide) r.2⟩)
    (Cert.OutMemRefIdeal.Value.run (F := Ideal) m ρ)
theorem algebraic_OutMem : Cert.algebraic_OutMemIdeal_OutMemRefIdeal := by
  intro m ρ m' ρ' _ hagree
  refine ⟨fun c i => ProdOutMem.Z m c i + Prod.nn (ProdOutMem.A m c) (ProdOutMem.B m c) i, ?_, ?_⟩
  · exact (θ_run Cert.OutMemIdeal.defs _ _).mono (fun _ h c => ⟨(h c).1.trans (ProdOutMem.final m c), (h c).2⟩)
      (Cert.OutMemIdeal.Value.run_blocks (F := Ideal) m ρ)
  · refine (θ_run Cert.OutMemRefIdeal.defs _ _).mono (fun _ h c => ⟨(h c).1.trans ?_, (h c).2⟩)
      (Cert.OutMemRefIdeal.Value.run (F := Ideal) m' ρ')
    refine Eq.trans ?_ (ProdOutMem.ref _ _ _)
    rw [Cert.OutMemRefIdeal.Read.val_main_v3_eq, (hagree c).1, (hagree c).2.1, (hagree c).2.2]

/-! ## Its gradient in the gated rows. -/

theorem frame_GateMemI : Cert.quiescent_GateMemIdeal := fun m ρ _ => Cert.GateMemIdeal.Gen.frame m ρ
theorem frame_GateMem : Cert.quiescent_GateMem := fun m ρ _ => Cert.GateMem.Gen.frame m ρ
theorem frame_GateMemR : Cert.quiescent_GateMemRefIdeal := fun m ρ _ =>
  (θ_run Cert.GateMemRefIdeal.defs _ _).mono (fun r h => ⟨fun c => (h c).2, sem_eq_zero_of_no_sems (by decide) r.2⟩)
    (Cert.GateMemRefIdeal.Value.run (F := Ideal) m ρ)
theorem algebraic_GateMem : Cert.algebraic_GateMemIdeal_GateMemRefIdeal := by
  intro m ρ m' ρ' _ hagree
  refine ⟨fun c => Prod.nt (ProdGateMem.A m c) (ProdGateMem.B m c), ?_, ?_⟩
  · exact (θ_run Cert.GateMemIdeal.defs _ _).mono (fun _ h c => ⟨(h c).1.trans (ProdGateMem.final m c), (h c).2⟩)
      (Cert.GateMemIdeal.Value.run_blocks (F := Ideal) m ρ)
  · refine (θ_run Cert.GateMemRefIdeal.defs _ _).mono (fun _ h c => ⟨(h c).1.trans ?_, (h c).2⟩)
      (Cert.GateMemRefIdeal.Value.run (F := Ideal) m' ρ')
    refine Eq.trans ?_ (ProdGateMem.ref _ _)
    rw [Cert.GateMemRefIdeal.Read.val_main_v4_eq, (hagree c).1, (hagree c).2]

/-! ## Its gradient in the weight. -/

theorem frame_DwOutMemI : Cert.quiescent_DwOutMemIdeal := fun m ρ _ => Cert.DwOutMemIdeal.Gen.frame m ρ
theorem frame_DwOutMem : Cert.quiescent_DwOutMem := fun m ρ _ => Cert.DwOutMem.Gen.frame m ρ
theorem frame_DwOutMemR : Cert.quiescent_DwOutMemRefIdeal := fun m ρ _ =>
  (θ_run Cert.DwOutMemRefIdeal.defs _ _).mono (fun r h => ⟨fun c => (h c).2, sem_eq_zero_of_no_sems (by decide) r.2⟩)
    (Cert.DwOutMemRefIdeal.Value.run (F := Ideal) m ρ)
theorem algebraic_DwOutMem : Cert.algebraic_DwOutMemIdeal_DwOutMemRefIdeal := by
  intro m ρ m' ρ' _ hagree
  refine ⟨fun c => Prod.tn (ProdDwOutMem.A m c) (ProdDwOutMem.B m c), ?_, ?_⟩
  · exact (θ_run Cert.DwOutMemIdeal.defs _ _).mono (fun _ h c => ⟨(h c).1.trans (ProdDwOutMem.final m c), (h c).2⟩)
      (Cert.DwOutMemIdeal.Value.run_blocks (F := Ideal) m ρ)
  · refine (θ_run Cert.DwOutMemRefIdeal.defs _ _).mono (fun _ h c => ⟨(h c).1.trans ?_, (h c).2⟩)
      (Cert.DwOutMemRefIdeal.Value.run (F := Ideal) m' ρ')
    refine Eq.trans ?_ (ProdDwOutMem.ref _ _)
    rw [Cert.DwOutMemRefIdeal.Read.val_main_v6_eq, (hagree c).1, (hagree c).2]

/-! ## The gate's gradient, at the tokens' width. -/

theorem frame_GateTokBI : Cert.quiescent_GateTokBIdeal := fun m ρ _ => Cert.GateTokBIdeal.Gen.frame m ρ
theorem frame_GateTokB : Cert.quiescent_GateTokB := fun m ρ _ => Cert.GateTokB.Gen.frame m ρ
theorem frame_GateTokBR : Cert.quiescent_GateTokBRefIdeal := fun m ρ _ =>
  (θ_run Cert.GateTokBRefIdeal.defs _ _).mono (fun r h => ⟨fun c => (h c).2.2, sem_eq_zero_of_no_sems (by decide) r.2⟩)
    (Cert.GateTokBRefIdeal.Value.run (F := Ideal) m ρ)

/-- The shared values are the kernel's two arrays; the second is the reference's when the gradient of the gate's factor is finite. -/
theorem algebraic_GateTokB : Cert.algebraic_GateTokBIdeal_GateTokBRefIdeal_pre_gate_finite := by
  intro m ρ m' ρ' hpre hagree
  refine ⟨fun c => Cert.GateTokBIdeal.Value.G3 (m ((c : Thread Cert.GateTokBIdeal.nD Cert.GateTokBIdeal.τ).loc Cert.GateTokBIdeal.main_arg1)) (m ((c : Thread Cert.GateTokBIdeal.nD Cert.GateTokBIdeal.τ).loc Cert.GateTokBIdeal.main_arg2)),
    fun c => Cert.GateTokBIdeal.Value.G4 (m ((c : Thread Cert.GateTokBIdeal.nD Cert.GateTokBIdeal.τ).loc Cert.GateTokBIdeal.main_arg0)) (m ((c : Thread Cert.GateTokBIdeal.nD Cert.GateTokBIdeal.τ).loc Cert.GateTokBIdeal.main_arg1)) (m ((c : Thread Cert.GateTokBIdeal.nD Cert.GateTokBIdeal.τ).loc Cert.GateTokBIdeal.main_arg2)), ?_, ?_⟩
  · exact Cert.GateTokBIdeal.Value.run (F := Ideal) m ρ
  · refine (θ_run Cert.GateTokBRefIdeal.defs _ _).mono (fun _ h c => ?_) (Cert.GateTokBRefIdeal.Value.run (F := Ideal) m' ρ')
    obtain ⟨a0, a1, a2⟩ := hagree c
    refine ⟨(h c).1.trans ?_, (h c).2.1.trans ?_, (h c).2.2⟩
    · rw [Cert.GateTokBRefIdeal.Read.val_main_v3_eq]
      exact (congr (congrArg Cert.GateTokBRefIdeal.Read.val_main_v3 a1) a2).trans (Cert.GateTokBEq.gated _ _).symm
    · rw [Cert.GateTokBRefIdeal.Read.val_main_v5_eq]
      exact (congr (congr (congrArg Cert.GateTokBRefIdeal.Read.val_main_v5 a0) a1) a2).trans (Cert.GateTokBEq.sloped _ _ _ (hpre c)).symm

/-! ## The gate's gradient, at the memory's width. -/

theorem frame_GateMemBI : Cert.quiescent_GateMemBIdeal := fun m ρ _ => Cert.GateMemBIdeal.Gen.frame m ρ
theorem frame_GateMemB : Cert.quiescent_GateMemB := fun m ρ _ => Cert.GateMemB.Gen.frame m ρ
theorem frame_GateMemBR : Cert.quiescent_GateMemBRefIdeal := fun m ρ _ =>
  (θ_run Cert.GateMemBRefIdeal.defs _ _).mono (fun r h => ⟨fun c => (h c).2.2, sem_eq_zero_of_no_sems (by decide) r.2⟩)
    (Cert.GateMemBRefIdeal.Value.run (F := Ideal) m ρ)

/-- The shared values are the kernel's two arrays; the second is the reference's when the gradient of the gate's factor is finite. -/
theorem algebraic_GateMemB : Cert.algebraic_GateMemBIdeal_GateMemBRefIdeal_pre_gate_mem_finite := by
  intro m ρ m' ρ' hpre hagree
  refine ⟨fun c => Cert.GateMemBIdeal.Value.G3 (m ((c : Thread Cert.GateMemBIdeal.nD Cert.GateMemBIdeal.τ).loc Cert.GateMemBIdeal.main_arg1)) (m ((c : Thread Cert.GateMemBIdeal.nD Cert.GateMemBIdeal.τ).loc Cert.GateMemBIdeal.main_arg2)),
    fun c => Cert.GateMemBIdeal.Value.G4 (m ((c : Thread Cert.GateMemBIdeal.nD Cert.GateMemBIdeal.τ).loc Cert.GateMemBIdeal.main_arg0)) (m ((c : Thread Cert.GateMemBIdeal.nD Cert.GateMemBIdeal.τ).loc Cert.GateMemBIdeal.main_arg1)) (m ((c : Thread Cert.GateMemBIdeal.nD Cert.GateMemBIdeal.τ).loc Cert.GateMemBIdeal.main_arg2)), ?_, ?_⟩
  · exact Cert.GateMemBIdeal.Value.run (F := Ideal) m ρ
  · refine (θ_run Cert.GateMemBRefIdeal.defs _ _).mono (fun _ h c => ?_) (Cert.GateMemBRefIdeal.Value.run (F := Ideal) m' ρ')
    obtain ⟨a0, a1, a2⟩ := hagree c
    refine ⟨(h c).1.trans ?_, (h c).2.1.trans ?_, (h c).2.2⟩
    · rw [Cert.GateMemBRefIdeal.Read.val_main_v3_eq]
      exact (congr (congrArg Cert.GateMemBRefIdeal.Read.val_main_v3 a1) a2).trans (Cert.GateMemBEq.gated _ _).symm
    · rw [Cert.GateMemBRefIdeal.Read.val_main_v5_eq]
      exact (congr (congr (congrArg Cert.GateMemBRefIdeal.Read.val_main_v5 a0) a1) a2).trans (Cert.GateMemBEq.sloped _ _ _ (hpre c)).symm

/-! ## The gradient of the state-space layer's convolution in its input. -/

theorem frame_ConvBI : Cert.quiescent_ConvBIdeal := fun m ρ _ => Cert.ConvBIdeal.Gen.frame m ρ
theorem frame_ConvB : Cert.quiescent_ConvB := fun m ρ _ => Cert.ConvB.Gen.frame m ρ
theorem frame_ConvBR : Cert.quiescent_ConvBRefIdeal := fun m ρ _ =>
  (θ_run Cert.ConvBRefIdeal.defs _ _).mono (fun r h => ⟨fun c => (h c).2, sem_eq_zero_of_no_sems (by decide) r.2⟩)
    (Cert.ConvBRefIdeal.Value.run (F := Ideal) m ρ)

theorem algebraic_ConvB : Cert.algebraic_ConvBIdeal_ConvBRefIdeal := by
  intro m ρ m' ρ' _ hagree
  refine ⟨fun c i => Cert.ConvBEq.taps (Cert.Mem.at2 (Cert.ConvBEq.A m c)) (Cert.Mem.at2 (Cert.ConvBEq.B m c)) (i 0).val (i 1).val, ?_, ?_⟩
  · exact (θ_run Cert.ConvBIdeal.defs _ _).mono (fun _ h c => ⟨(h c).1.trans (Cert.ConvBEq.final m c), (h c).2⟩)
      (Cert.ConvBIdeal.Value.run_blocks (F := Ideal) m ρ)
  · refine (θ_run Cert.ConvBRefIdeal.defs _ _).mono (fun _ h c => ⟨(h c).1.trans ?_, (h c).2⟩)
      (Cert.ConvBRefIdeal.Value.run (F := Ideal) m' ρ')
    rw [Cert.ConvBRefIdeal.Read.val_main_v52_eq]
    exact (congr (congrArg Cert.ConvBRefIdeal.Read.val_main_v52 (hagree c).1) (hagree c).2).trans (Cert.ConvBEq.ref _ _)

/-! ## The gradient of a layer's norm. -/

theorem frame_NormI : Cert.quiescent_NormIdeal := fun m ρ _ => Cert.NormIdeal.Gen.frame m ρ
theorem frame_Norm : Cert.quiescent_Norm := fun m ρ _ => Cert.Norm.Gen.frame m ρ
theorem frame_NormR : Cert.quiescent_NormRefIdeal := fun m ρ _ =>
  (θ_run Cert.NormRefIdeal.defs _ _).mono (fun r h => ⟨fun c => (h c).2.2.2, sem_eq_zero_of_no_sems (by decide) r.2⟩)
    (Cert.NormRefIdeal.Value.run (F := Ideal) m ρ)

theorem algebraic_Norm : Cert.algebraic_NormIdeal_NormRefIdeal := by
  intro m ρ m' ρ' _ hagree
  refine ⟨fun c => Cert.NormEq.resX m c, fun c => Cert.NormEq.resX m c, fun c => Cert.NormEq.resG m c, ?_, ?_⟩
  · exact (θ_run Cert.NormIdeal.defs _ _).mono (fun _ h c => ⟨(h c).1.trans (Cert.NormEq.final_x m c),
      (h c).2.1.trans (Cert.NormEq.final_xb m c), (h c).2.2.1.trans (Cert.NormEq.final_g m c), (h c).2.2.2⟩)
      (Cert.NormIdeal.Value.run_blocks (F := Ideal) m ρ)
  · refine (θ_run Cert.NormRefIdeal.defs _ _).mono (fun _ h c => ?_) (Cert.NormRefIdeal.Value.run (F := Ideal) m' ρ')
    obtain ⟨a0, a1, a2, a3⟩ := hagree c
    have ex := (congr (congr (congr (congrArg Cert.NormRefIdeal.Read.val_main_v35 a0) a1) a2) a3).trans
      (funext fun i => Cert.NormEq.ref_x _ _ _ _ i)
    refine ⟨(h c).1.trans ?_, (h c).2.1.trans ?_, (h c).2.2.1.trans ?_, (h c).2.2.2⟩
    · rw [Cert.NormRefIdeal.Read.val_main_v35_eq]
      exact ex
    · rw [Cert.NormRefIdeal.Read.val_main_v36_eq]
      exact ex
    · rw [Cert.NormRefIdeal.Read.val_main_v18_eq]
      exact (congr (congrArg Cert.NormRefIdeal.Read.val_main_v18 a0) a2).trans (funext fun i => Cert.NormEq.ref_dg _ _ i)

/-! ## The gates. -/

theorem frame_GateTokFI : Cert.quiescent_GateTokFIdeal := fun m ρ _ => Cert.GateTokFIdeal.Gen.frame m ρ
theorem frame_GateTokF : Cert.quiescent_GateTokF := fun m ρ _ => Cert.GateTokF.Gen.frame m ρ
theorem frame_GateTokFR : Cert.quiescent_GateTokFRefIdeal := fun m ρ _ =>
  (θ_run Cert.GateTokFRefIdeal.defs _ _).mono (fun r h => ⟨fun c => (h c).2, sem_eq_zero_of_no_sems (by decide) r.2⟩)
    (Cert.GateTokFRefIdeal.Value.run (F := Ideal) m ρ)

theorem algebraic_GateTokF : Cert.algebraic_GateTokFIdeal_GateTokFRefIdeal := by
  intro m ρ m' ρ' _ hagree
  refine ⟨fun c => Cert.GateTokFIdeal.Value.G2 (m ((c : Thread Cert.GateTokFIdeal.nD Cert.GateTokFIdeal.τ).loc Cert.GateTokFIdeal.main_arg0)) (m ((c : Thread Cert.GateTokFIdeal.nD Cert.GateTokFIdeal.τ).loc Cert.GateTokFIdeal.main_arg1)), ?_, ?_⟩
  · exact Cert.GateTokFIdeal.Value.run (F := Ideal) m ρ
  · refine (θ_run Cert.GateTokFRefIdeal.defs _ _).mono (fun _ h c => ⟨(h c).1.trans ?_, (h c).2⟩) (Cert.GateTokFRefIdeal.Value.run (F := Ideal) m' ρ')
    rw [Cert.GateTokFRefIdeal.Read.val_main_v2_eq]
    exact (congr (congrArg Cert.GateTokFRefIdeal.Read.val_main_v2 (hagree c).1) (hagree c).2).trans (Cert.GateFEq.tok _ _).symm

theorem frame_GateMemFI : Cert.quiescent_GateMemFIdeal := fun m ρ _ => Cert.GateMemFIdeal.Gen.frame m ρ
theorem frame_GateMemF : Cert.quiescent_GateMemF := fun m ρ _ => Cert.GateMemF.Gen.frame m ρ
theorem frame_GateMemFR : Cert.quiescent_GateMemFRefIdeal := fun m ρ _ =>
  (θ_run Cert.GateMemFRefIdeal.defs _ _).mono (fun r h => ⟨fun c => (h c).2, sem_eq_zero_of_no_sems (by decide) r.2⟩)
    (Cert.GateMemFRefIdeal.Value.run (F := Ideal) m ρ)

theorem algebraic_GateMemF : Cert.algebraic_GateMemFIdeal_GateMemFRefIdeal := by
  intro m ρ m' ρ' _ hagree
  refine ⟨fun c => Cert.GateMemFIdeal.Value.G2 (m ((c : Thread Cert.GateMemFIdeal.nD Cert.GateMemFIdeal.τ).loc Cert.GateMemFIdeal.main_arg0)) (m ((c : Thread Cert.GateMemFIdeal.nD Cert.GateMemFIdeal.τ).loc Cert.GateMemFIdeal.main_arg1)), ?_, ?_⟩
  · exact Cert.GateMemFIdeal.Value.run (F := Ideal) m ρ
  · refine (θ_run Cert.GateMemFRefIdeal.defs _ _).mono (fun _ h c => ⟨(h c).1.trans ?_, (h c).2⟩) (Cert.GateMemFRefIdeal.Value.run (F := Ideal) m' ρ')
    rw [Cert.GateMemFRefIdeal.Read.val_main_v2_eq]
    exact (congr (congrArg Cert.GateMemFRefIdeal.Read.val_main_v2 (hagree c).1) (hagree c).2).trans (Cert.GateFEq.mem _ _).symm

/-! ## The norm. -/

theorem frame_NormFI : Cert.quiescent_NormFIdeal := fun m ρ _ => Cert.NormFIdeal.Gen.frame m ρ
theorem frame_NormF : Cert.quiescent_NormF := fun m ρ _ => Cert.NormF.Gen.frame m ρ
theorem frame_NormFR : Cert.quiescent_NormFRefIdeal := fun m ρ _ =>
  (θ_run Cert.NormFRefIdeal.defs _ _).mono (fun r h => ⟨fun c => (h c).2, sem_eq_zero_of_no_sems (by decide) r.2⟩)
    (Cert.NormFRefIdeal.Value.run (F := Ideal) m ρ)

theorem algebraic_NormF : Cert.algebraic_NormFIdeal_NormFRefIdeal := by
  intro m ρ m' ρ' _ hagree
  refine ⟨fun c => Cert.NormFEq.res m c, ?_, ?_⟩
  · exact (θ_run Cert.NormFIdeal.defs _ _).mono (fun _ h c => ⟨(h c).1.trans (Cert.NormFEq.final m c), (h c).2⟩)
      (Cert.NormFIdeal.Value.run_blocks (F := Ideal) m ρ)
  · refine (θ_run Cert.NormFRefIdeal.defs _ _).mono (fun _ h c => ⟨(h c).1.trans ?_, (h c).2⟩) (Cert.NormFRefIdeal.Value.run (F := Ideal) m' ρ')
    rw [Cert.NormFRefIdeal.Read.val_main_v13_eq]
    exact (congr (congrArg Cert.NormFRefIdeal.Read.val_main_v13 (hagree c).1) (hagree c).2).trans (funext fun i => Cert.NormFEq.ref _ _ i)

/-! ## The convolution with its activation. -/

theorem frame_ConvFI : Cert.quiescent_ConvFIdeal := fun m ρ _ => Cert.ConvFIdeal.Gen.frame m ρ
theorem frame_ConvF : Cert.quiescent_ConvF := fun m ρ _ => Cert.ConvF.Gen.frame m ρ
theorem frame_ConvFR : Cert.quiescent_ConvFRefIdeal := fun m ρ _ =>
  (θ_run Cert.ConvFRefIdeal.defs _ _).mono (fun r h => ⟨fun c => (h c).2, sem_eq_zero_of_no_sems (by decide) r.2⟩)
    (Cert.ConvFRefIdeal.Value.run (F := Ideal) m ρ)

theorem algebraic_ConvF : Cert.algebraic_ConvFIdeal_ConvFRefIdeal := by
  intro m ρ m' ρ' _ hagree
  refine ⟨fun c i => Cert.ConvFEq.conv (Cert.Mem.at2 (Cert.ConvFEq.A m c)) (Cert.Mem.at2 (Cert.ConvFEq.W m c)) (Cert.Mem.at2 (Cert.ConvFEq.B m c) 0) (i 0).val (i 1).val, ?_, ?_⟩
  · exact (θ_run Cert.ConvFIdeal.defs _ _).mono (fun _ h c => ⟨(h c).1.trans (Cert.ConvFEq.final m c), (h c).2⟩)
      (Cert.ConvFIdeal.Value.run_blocks (F := Ideal) m ρ)
  · refine (θ_run Cert.ConvFRefIdeal.defs _ _).mono (fun _ h c => ⟨(h c).1.trans ?_, (h c).2⟩) (Cert.ConvFRefIdeal.Value.run (F := Ideal) m' ρ')
    obtain ⟨a0, a1, a2⟩ := hagree c
    rw [Cert.ConvFRefIdeal.Read.val_main_v34_eq]
    exact (congr (congr (congrArg Cert.ConvFRefIdeal.Read.val_main_v34 a0) a1) a2).trans (Cert.ConvFEq.ref _ _ _)

/-! ## The gradient through the convolution's activation, in the taps and in the offsets. -/

theorem frame_ConvPreI : Cert.quiescent_ConvPreIdeal := fun m ρ _ => Cert.ConvPreIdeal.Gen.frame m ρ
theorem frame_ConvPre : Cert.quiescent_ConvPre := fun m ρ _ => Cert.ConvPre.Gen.frame m ρ
theorem frame_ConvPreR : Cert.quiescent_ConvPreRefIdeal := fun m ρ _ =>
  (θ_run Cert.ConvPreRefIdeal.defs _ _).mono (fun r h => ⟨fun c => (h c).2.2.2, sem_eq_zero_of_no_sems (by decide) r.2⟩)
    (Cert.ConvPreRefIdeal.Value.run (F := Ideal) m ρ)

theorem algebraic_ConvPre : Cert.algebraic_ConvPreIdeal_ConvPreRefIdeal_pre_act_finite := by
  intro m ρ m' ρ' hpre hagree
  refine ⟨fun c => Cert.ConvPreEq.resD m c, fun c => Cert.ConvPreEq.resW m c, fun c => Cert.ConvPreEq.resB m c, ?_, ?_⟩
  · exact (θ_run Cert.ConvPreIdeal.defs _ _).mono (fun _ h c => ⟨(h c).1.trans (Cert.ConvPreEq.final_d m c),
      (h c).2.1.trans (Cert.ConvPreEq.final_w m c), (h c).2.2.1.trans (Cert.ConvPreEq.final_b m c), (h c).2.2.2⟩)
      (Cert.ConvPreIdeal.Value.run_blocks (F := Ideal) m ρ)
  · refine (θ_run Cert.ConvPreRefIdeal.defs _ _).mono (fun _ h c => ?_) (Cert.ConvPreRefIdeal.Value.run (F := Ideal) m' ρ')
    obtain ⟨a0, a1, a2, a3⟩ := hagree c
    have hr := Cert.ActFinite.read _ _ _ _ (hpre c)
    refine ⟨(h c).1.trans ?_, (h c).2.1.trans ?_, (h c).2.2.1.trans ?_, (h c).2.2.2⟩
    · rw [Cert.ConvPreRefIdeal.Read.val_main_v35_eq]
      exact (congr (congr (congr (congrArg Cert.ConvPreRefIdeal.Read.val_main_v35 a0) a1) a2) a3).trans (funext fun i => Cert.ConvPreEq.ref_d _ _ _ _ hr i)
    · rw [Cert.ConvPreRefIdeal.Read.val_main_v98_eq]
      exact (congr (congr (congr (congrArg Cert.ConvPreRefIdeal.Read.val_main_v98 a0) a1) a2) a3).trans (funext fun i => Cert.ConvPreEq.ref_w _ _ _ _ hr i)
    · rw [Cert.ConvPreRefIdeal.Read.val_main_v71_eq]
      exact (congr (congr (congr (congrArg Cert.ConvPreRefIdeal.Read.val_main_v71 a0) a1) a2) a3).trans (funext fun i => Cert.ConvPreEq.ref_b _ _ _ _ hr i)

theorem claim : Cert.Claim :=
  ⟨Cert.Kernel.Gen.facts, Cert.KernelIdeal.Gen.facts, Cert.ReferenceIdeal.Gen.facts,
    Cert.In.Gen.facts, Cert.InIdeal.Gen.facts, Cert.InRefIdeal.Gen.facts,
    Cert.InB.Gen.facts, Cert.InBIdeal.Gen.facts, Cert.InBRefIdeal.Gen.facts,
    Cert.Dh.Gen.facts, Cert.DhIdeal.Gen.facts, Cert.DhRefIdeal.Gen.facts,
    Cert.DhB.Gen.facts, Cert.DhBIdeal.Gen.facts, Cert.DhBRefIdeal.Gen.facts,
    Cert.Dw.Gen.facts, Cert.DwIdeal.Gen.facts, Cert.DwRefIdeal.Gen.facts,
    Cert.DwB.Gen.facts, Cert.DwBIdeal.Gen.facts, Cert.DwBRefIdeal.Gen.facts,
    Cert.Attn.Gen.facts, Cert.AttnIdeal.Gen.facts, Cert.AttnRefIdeal.Gen.facts,
    Cert.OutTok.Gen.facts, Cert.OutTokIdeal.Gen.facts, Cert.OutTokRefIdeal.Gen.facts,
    Cert.GateTok.Gen.facts, Cert.GateTokIdeal.Gen.facts, Cert.GateTokRefIdeal.Gen.facts,
    Cert.DwOut.Gen.facts, Cert.DwOutIdeal.Gen.facts, Cert.DwOutRefIdeal.Gen.facts,
    Cert.InXbc.Gen.facts, Cert.InXbcIdeal.Gen.facts, Cert.InXbcRefIdeal.Gen.facts,
    Cert.DhXbc.Gen.facts, Cert.DhXbcIdeal.Gen.facts, Cert.DhXbcRefIdeal.Gen.facts,
    Cert.DwXbc.Gen.facts, Cert.DwXbcIdeal.Gen.facts, Cert.DwXbcRefIdeal.Gen.facts,
    Cert.DhFirst.Gen.facts, Cert.DhFirstIdeal.Gen.facts, Cert.DhFirstRefIdeal.Gen.facts,
    Cert.InMem.Gen.facts, Cert.InMemIdeal.Gen.facts, Cert.InMemRefIdeal.Gen.facts,
    Cert.InMemB.Gen.facts, Cert.InMemBIdeal.Gen.facts, Cert.InMemBRefIdeal.Gen.facts,
    Cert.DhMem.Gen.facts, Cert.DhMemIdeal.Gen.facts, Cert.DhMemRefIdeal.Gen.facts,
    Cert.DwMem.Gen.facts, Cert.DwMemIdeal.Gen.facts, Cert.DwMemRefIdeal.Gen.facts,
    Cert.OutMem.Gen.facts, Cert.OutMemIdeal.Gen.facts, Cert.OutMemRefIdeal.Gen.facts,
    Cert.GateMem.Gen.facts, Cert.GateMemIdeal.Gen.facts, Cert.GateMemRefIdeal.Gen.facts,
    Cert.DwOutMem.Gen.facts, Cert.DwOutMemIdeal.Gen.facts, Cert.DwOutMemRefIdeal.Gen.facts,
    Cert.GateTokB.Gen.facts, Cert.GateTokBIdeal.Gen.facts, Cert.GateTokBRefIdeal.Gen.facts,
    Cert.GateMemB.Gen.facts, Cert.GateMemBIdeal.Gen.facts, Cert.GateMemBRefIdeal.Gen.facts,
    Cert.ConvB.Gen.facts, Cert.ConvBIdeal.Gen.facts, Cert.ConvBRefIdeal.Gen.facts,
    Cert.Norm.Gen.facts, Cert.NormIdeal.Gen.facts, Cert.NormRefIdeal.Gen.facts,
    Cert.ConvPre.Gen.facts, Cert.ConvPreIdeal.Gen.facts, Cert.ConvPreRefIdeal.Gen.facts,
    Cert.ConvF.Gen.facts, Cert.ConvFIdeal.Gen.facts, Cert.ConvFRefIdeal.Gen.facts,
    Cert.GateTokF.Gen.facts, Cert.GateTokFIdeal.Gen.facts, Cert.GateTokFRefIdeal.Gen.facts,
    Cert.GateMemF.Gen.facts, Cert.GateMemFIdeal.Gen.facts, Cert.GateMemFRefIdeal.Gen.facts,
    Cert.NormF.Gen.facts, Cert.NormFIdeal.Gen.facts, Cert.NormFRefIdeal.Gen.facts,
    Cert.Pre_scores_finite.Gen.facts, Cert.Pre_inputs_finite.Gen.facts, Cert.Pre_gate_finite.Gen.facts, Cert.Pre_gate_mem_finite.Gen.facts, Cert.Pre_act_finite.Gen.facts,
    frame_kernel, frame_ideal, fun m ρ _ => frame_ideal m ρ trivial, frame_ref, fun m ρ _ => frame_ref m ρ trivial,
    frame_In, frame_InI, frame_InR,
    frame_InB, frame_InBI, frame_InBR,
    frame_Dh, frame_DhI, frame_DhR,
    frame_DhB, frame_DhBI, frame_DhBR,
    frame_Dw, frame_DwI, frame_DwR,
    frame_DwB, frame_DwBI, frame_DwBR,
    frame_Attn, frame_AttnI, fun m ρ _ => frame_AttnI m ρ trivial, frame_AttnR, fun m ρ _ => frame_AttnR m ρ trivial,
    frame_OutTok, frame_OutTokI, frame_OutTokR,
    frame_GateTok, frame_GateTokI, frame_GateTokR,
    frame_DwOut, frame_DwOutI, frame_DwOutR,
    frame_InXbc, frame_InXbcI, frame_InXbcR,
    frame_DhXbc, frame_DhXbcI, frame_DhXbcR,
    frame_DwXbc, frame_DwXbcI, frame_DwXbcR,
    frame_DhFirst, frame_DhFirstI, frame_DhFirstR,
    frame_InMem, frame_InMemI, frame_InMemR,
    frame_InMemB, frame_InMemBI, frame_InMemBR,
    frame_DhMem, frame_DhMemI, frame_DhMemR,
    frame_DwMem, frame_DwMemI, frame_DwMemR,
    frame_OutMem, frame_OutMemI, frame_OutMemR,
    frame_GateMem, frame_GateMemI, frame_GateMemR,
    frame_DwOutMem, frame_DwOutMemI, frame_DwOutMemR,
    frame_GateTokB, frame_GateTokBI, fun m ρ _ => frame_GateTokBI m ρ trivial, frame_GateTokBR, fun m ρ _ => frame_GateTokBR m ρ trivial,
    frame_GateMemB, frame_GateMemBI, fun m ρ _ => frame_GateMemBI m ρ trivial, frame_GateMemBR, fun m ρ _ => frame_GateMemBR m ρ trivial,
    frame_ConvB, frame_ConvBI, frame_ConvBR,
    frame_Norm, frame_NormI, frame_NormR,
    frame_ConvPre, frame_ConvPreI, fun m ρ _ => frame_ConvPreI m ρ trivial, frame_ConvPreR, fun m ρ _ => frame_ConvPreR m ρ trivial,
    frame_ConvF, frame_ConvFI, frame_ConvFR,
    frame_GateTokF, frame_GateTokFI, frame_GateTokFR,
    frame_GateMemF, frame_GateMemFI, frame_GateMemFR,
    frame_NormF, frame_NormFI, frame_NormFR,
    trivial, algebraic,
    trivial, algebraic_In,
    trivial, algebraic_InB,
    trivial, algebraic_Dh,
    trivial, algebraic_DhB,
    trivial, algebraic_Dw,
    trivial, algebraic_DwB,
    preserves_Attn, algebraic_Attn,
    trivial, algebraic_OutTok,
    trivial, algebraic_GateTok,
    trivial, algebraic_DwOut,
    trivial, algebraic_InXbc,
    trivial, algebraic_DhXbc,
    trivial, algebraic_DwXbc,
    trivial, algebraic_DhFirst,
    trivial, algebraic_InMem,
    trivial, algebraic_InMemB,
    trivial, algebraic_DhMem,
    trivial, algebraic_DwMem,
    trivial, algebraic_OutMem,
    trivial, algebraic_GateMem,
    trivial, algebraic_DwOutMem,
    trivial, algebraic_GateTokB,
    trivial, algebraic_GateMemB,
    trivial, algebraic_ConvB,
    trivial, algebraic_Norm,
    trivial, algebraic_ConvPre,
    trivial, algebraic_ConvF,
    trivial, algebraic_GateTokF,
    trivial, algebraic_GateMemF,
    trivial, algebraic_NormF⟩

end Cert.Proof

end
